-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3)
      ∧ r.2.mem ((c.tc : Thread Cert.Wgrad.nD Cert.Wgrad.τ).loc Cert.Wgrad.main_arg4) = m ((c.tc : Thread Cert.Wgrad.nD Cert.Wgrad.τ).loc Cert.Wgrad.main_arg4)
      ∧ r.2.mem ((c.tc : Thread Cert.Wgrad.nD Cert.Wgrad.τ).loc Cert.Wgrad.main_arg5) = m ((c.tc : Thread Cert.Wgrad.nD Cert.Wgrad.τ).loc Cert.Wgrad.main_arg5))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4)
      ∧ r.2.mem ((c.tc : Thread Cert.WgradIdeal.nD Cert.WgradIdeal.τ).loc Cert.WgradIdeal.main_arg5) = m ((c.tc : Thread Cert.WgradIdeal.nD Cert.WgradIdeal.τ).loc Cert.WgradIdeal.main_arg5))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3)
      ∧ r.2.mem ((c.tc : Thread Cert.WgradRefIdeal.nD Cert.WgradRefIdeal.τ).loc Cert.WgradRefIdeal.main_arg4) = m ((c.tc : Thread Cert.WgradRefIdeal.nD Cert.WgradRefIdeal.τ).loc Cert.WgradRefIdeal.main_arg4)
      ∧ r.2.mem ((c.tc : Thread Cert.WgradRefIdeal.nD Cert.WgradRefIdeal.τ).loc Cert.WgradRefIdeal.main_arg5) = m ((c.tc : Thread Cert.WgradRefIdeal.nD Cert.WgradRefIdeal.τ).loc Cert.WgradRefIdeal.main_arg5))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v305_0)) (v1 : (c : Dev Cert.KernelIdeal.nD) → Buf (Elt Ideal) ((c.tc : Thread Cert.KernelIdeal.nD Cert.KernelIdeal.τ).loc Cert.KernelIdeal.main_v305_1)) (v2 : (c : Dev Cert.KernelIdeal.nD) → Buf (Elt Ideal) ((c.tc : Thread Cert.KernelIdeal.nD Cert.KernelIdeal.τ).loc Cert.KernelIdeal.main_v305_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v305_0) = v0 c
          ∧ r.2.mem ((c.tc : Thread Cert.KernelIdeal.nD Cert.KernelIdeal.τ).loc Cert.KernelIdeal.main_v305_1) = v1 c
          ∧ r.2.mem ((c.tc : Thread Cert.KernelIdeal.nD Cert.KernelIdeal.τ).loc Cert.KernelIdeal.main_v305_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_v232) = v1 c
          ∧ r.2.mem ((c.tc : Thread Cert.ReferenceIdeal.nD Cert.ReferenceIdeal.τ).loc Cert.ReferenceIdeal.main_v236) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v195_0)) (v1 : (c : Dev Cert.FwdIdeal.nD) → Buf (Elt Ideal) ((c.tc : Thread Cert.FwdIdeal.nD Cert.FwdIdeal.τ).loc Cert.FwdIdeal.main_v195_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v195_0) = v0 c
          ∧ r.2.mem ((c.tc : Thread Cert.FwdIdeal.nD Cert.FwdIdeal.τ).loc Cert.FwdIdeal.main_v195_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v143) = v0 c
          ∧ r.2.mem ((c.tc : Thread Cert.FwdRefIdeal.nD Cert.FwdRefIdeal.τ).loc Cert.FwdRefIdeal.main_v146) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)
      ∧ m' ((c.tc : Thread Cert.WgradRefIdeal.nD Cert.WgradRefIdeal.τ).loc Cert.WgradRefIdeal.main_arg4) = m ((c.tc : Thread Cert.WgradIdeal.nD Cert.WgradIdeal.τ).loc Cert.WgradIdeal.main_arg4)
      ∧ m' ((c.tc : Thread Cert.WgradRefIdeal.nD Cert.WgradRefIdeal.τ).loc Cert.WgradRefIdeal.main_arg5) = m ((c.tc : Thread Cert.WgradIdeal.nD Cert.WgradIdeal.τ).loc Cert.WgradIdeal.main_arg5)) →
    ∃ (v0 : (c : Dev Cert.WgradIdeal.nD) → Buf (Elt Ideal) ((c.tc : Thread Cert.WgradIdeal.nD Cert.WgradIdeal.τ).loc Cert.WgradIdeal.main_v39)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v39) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
          ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4)
          ∧ r.2.mem ((c.tc : Thread Cert.WgradIdeal.nD Cert.WgradIdeal.τ).loc Cert.WgradIdeal.main_arg5) = m ((c.tc : Thread Cert.WgradIdeal.nD Cert.WgradIdeal.τ).loc Cert.WgradIdeal.main_arg5))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v39) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3)
          ∧ r.2.mem ((c.tc : Thread Cert.WgradRefIdeal.nD Cert.WgradRefIdeal.τ).loc Cert.WgradRefIdeal.main_arg4) = m' ((c.tc : Thread Cert.WgradRefIdeal.nD Cert.WgradRefIdeal.τ).loc Cert.WgradRefIdeal.main_arg4)
          ∧ r.2.mem ((c.tc : Thread Cert.WgradRefIdeal.nD Cert.WgradRefIdeal.τ).loc Cert.WgradRefIdeal.main_arg5) = m' ((c.tc : Thread Cert.WgradRefIdeal.nD Cert.WgradRefIdeal.τ).loc Cert.WgradRefIdeal.main_arg5))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)) →
    ∃ (v0 : (c : Dev Cert.WinIdeal.nD) → Buf (Elt Ideal) ((c.tc : Thread Cert.WinIdeal.nD Cert.WinIdeal.τ).loc Cert.WinIdeal.main_v17)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v17) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v18) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)) (v2 : (c : Dev Cert.FfnIdeal.nD) → Buf (Elt Ideal) ((c.tc : Thread Cert.FfnIdeal.nD Cert.FfnIdeal.τ).loc Cert.FfnIdeal.main_v6_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_v6_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_v22) = v1 c
          ∧ r.2.mem ((c.tc : Thread Cert.FfnRefIdeal.nD Cert.FfnRefIdeal.τ).loc Cert.FfnRefIdeal.main_v24) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdRefIdeal : Cert.FwdRefIdeal.Facts) (hWgrad : Cert.Wgrad.Facts) (hWgradIdeal : Cert.WgradIdeal.Facts) (hWgradRefIdeal : Cert.WgradRefIdeal.Facts) (hWin : Cert.Win.Facts) (hWinIdeal : Cert.WinIdeal.Facts) (hWinRefIdeal : Cert.WinRefIdeal.Facts) (hFfn : Cert.Ffn.Facts) (hFfnIdeal : Cert.FfnIdeal.Facts) (hFfnRefIdeal : Cert.FfnRefIdeal.Facts),
    quiescent_Kernel (hKernel := hKernel)
    ∧ quiescent_KernelIdeal (hKernelIdeal := hKernelIdeal)
    ∧ quiescent_ReferenceIdeal (hReferenceIdeal := hReferenceIdeal)
    ∧ quiescent_Fwd (hFwd := hFwd)
    ∧ quiescent_FwdIdeal (hFwdIdeal := hFwdIdeal)
    ∧ quiescent_FwdRefIdeal (hFwdRefIdeal := hFwdRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Win (hWin := hWin)
    ∧ quiescent_WinIdeal (hWinIdeal := hWinIdeal)
    ∧ quiescent_WinRefIdeal (hWinRefIdeal := hWinRefIdeal)
    ∧ quiescent_Ffn (hFfn := hFfn)
    ∧ quiescent_FfnIdeal (hFfnIdeal := hFfnIdeal)
    ∧ quiescent_FfnRefIdeal (hFfnRefIdeal := hFfnRefIdeal)
    ∧ preserves_Kernel_KernelIdeal
    ∧ algebraic_KernelIdeal_ReferenceIdeal (hKernelIdeal := hKernelIdeal) (hReferenceIdeal := hReferenceIdeal)
    ∧ preserves_Fwd_FwdIdeal
    ∧ algebraic_FwdIdeal_FwdRefIdeal (hFwdIdeal := hFwdIdeal) (hFwdRefIdeal := hFwdRefIdeal)
    ∧ preserves_Wgrad_WgradIdeal
    ∧ algebraic_WgradIdeal_WgradRefIdeal (hWgradIdeal := hWgradIdeal) (hWgradRefIdeal := hWgradRefIdeal)
    ∧ preserves_Win_WinIdeal
    ∧ algebraic_WinIdeal_WinRefIdeal (hWinIdeal := hWinIdeal) (hWinRefIdeal := hWinRefIdeal)
    ∧ preserves_Ffn_FfnIdeal
    ∧ algebraic_FfnIdeal_FfnRefIdeal (hFfnIdeal := hFfnIdeal) (hFfnRefIdeal := hFfnRefIdeal)
-- ==== Kernel.lean ====
abbrev S1x4112x512 : Shape := ⟨3, ![1, 4112, 512]⟩
abbrev S128 : Shape := ⟨1, ![128]⟩
abbrev S_ : Shape := ⟨0, ![]⟩
abbrev S4224 : Shape := ⟨1, ![4224]⟩
abbrev S4224x1 : Shape := ⟨2, ![4224, 1]⟩
abbrev S1x128 : Shape := ⟨2, ![1, 128]⟩
abbrev S4224x128 : Shape := ⟨2, ![4224, 128]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128x128 : Shape := ⟨4, ![4, 1, 128, 128]⟩
abbrev S4x4x128x128 : Shape := ⟨4, ![4, 4, 128, 128]⟩
abbrev S1x4112x4x128 : Shape := ⟨4, ![1, 4112, 4, 128]⟩
abbrev S1x4x4112x128 : Shape := ⟨4, ![1, 4, 4112, 128]⟩
abbrev S1x4x112x128 : Shape := ⟨4, ![1, 4, 112, 128]⟩
abbrev S1x4x4224x128 : Shape := ⟨4, ![1, 4, 4224, 128]⟩
abbrev S64 : Shape := ⟨1, ![64]⟩
abbrev S1x64 : Shape := ⟨2, ![1, 64]⟩
abbrev S4224x64 : Shape := ⟨2, ![4224, 64]⟩
abbrev S1x4x4224x64 : Shape := ⟨4, ![1, 4, 4224, 64]⟩
abbrev S1x1x4224x64 : Shape := ⟨4, ![1, 1, 4224, 64]⟩
abbrev S1x4x33x128x128 : Shape := ⟨5, ![1, 4, 33, 128, 128]⟩
abbrev S1x4x1x128x1 : Shape := ⟨5, ![1, 4, 1, 128, 1]⟩
abbrev S33x1x4x128x128 : Shape := ⟨5, ![33, 1, 4, 128, 128]⟩
abbrev S1x4x1x1 : Shape := ⟨4, ![1, 4, 1, 1]⟩
abbrev S1x1x4x1x1 : Shape := ⟨5, ![1, 1, 4, 1, 1]⟩
abbrev S1x1x4x128x128 : Shape := ⟨5, ![1, 1, 4, 128, 128]⟩
abbrev S11x1x4x128x128 : Shape := ⟨5, ![11, 1, 4, 128, 128]⟩
abbrev S33x4x128x128 : Shape := ⟨4, ![33, 4, 128, 128]⟩
abbrev S4x33x128x128 : Shape := ⟨4, ![4, 33, 128, 128]⟩
abbrev S112x512 : Shape := ⟨2, ![112, 512]⟩
abbrev S4112x512 : Shape := ⟨2, ![4112, 512]⟩
abbrev S4224x512 : Shape := ⟨2, ![4224, 512]⟩
abbrev S4x4224x128 : Shape := ⟨3, ![4, 4224, 128]⟩
abbrev S4224x4x128 : Shape := ⟨3, ![4224, 4, 128]⟩
abbrev S4224x1536 : Shape := ⟨2, ![4224, 1536]⟩
abbrev S384x512 : Shape := ⟨2, ![384, 512]⟩
abbrev S384x128 : Shape := ⟨2, ![384, 128]⟩
abbrev S4x3x128x128 : Shape := ⟨4, ![4, 3, 128, 128]⟩
abbrev S1x1x128x128 : Shape := ⟨4, ![1, 1, 128, 128]⟩

abbrev nBuf : Space → Nat
  | .hbm => 367
  | .vmem => 22
  | .smem => 0
  | _ => 0

abbrev hbmTy0_0 (i : Nat) : BufTy := match i % 128 with
  | 0 => ⟨S1x4112x512, .f32⟩
  | 1 => ⟨S1x4112x512, .f32⟩
  | 2 => ⟨S1x4112x512, .f32⟩
  | 3 => ⟨S1x4112x512, .f32⟩
  | 4 => ⟨S128, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S128, .i32⟩
  | 12 => ⟨S128, .i32⟩
  | 13 => ⟨S_, .i32⟩
  | 14 => ⟨S128, .i32⟩
  | 15 => ⟨S128, .i1⟩
  | 16 => ⟨S_, .i32⟩
  | 17 => ⟨S128, .i32⟩
  | 18 => ⟨S128, .i1⟩
  | 19 => ⟨S_, .i32⟩
  | 20 => ⟨S_, .i1⟩
  | 21 => ⟨S128, .i1⟩
  | 22 => ⟨S128, .i1⟩
  | 23 => ⟨S128, .i1⟩
  | 24 => ⟨S128, .i32⟩
  | 25 => ⟨S128, .i32⟩
  | 26 => ⟨S128, .i32⟩
  | 27 => ⟨S128, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S4224, .f32⟩
  | 36 => ⟨S_, .f32⟩
  | 37 => ⟨S4224, .f32⟩
  | 38 => ⟨S4224, .f32⟩
  | 39 => ⟨S_, .f32⟩
  | 40 => ⟨S4224, .f32⟩
  | 41 => ⟨S4224, .f32⟩
  | 42 => ⟨S4224x1, .f32⟩
  | 43 => ⟨S1x128, .f32⟩
  | 44 => ⟨S4224x128, .f32⟩
  | 45 => ⟨S4224x128, .f32⟩
  | 46 => ⟨S4224x128, .f32⟩
  | 47 => ⟨S4224x128, .f32⟩
  | 48 => ⟨S1x128, .i32⟩
  | 49 => ⟨S_, .i32⟩
  | 50 => ⟨S1x128, .i32⟩
  | 51 => ⟨S1x128, .i1⟩
  | 52 => ⟨S_, .f32⟩
  | 53 => ⟨S_, .f32⟩
  | 54 => ⟨S1x128, .f32⟩
  | 55 => ⟨S1x128, .f32⟩
  | 56 => ⟨S1x128, .f32⟩
  | 57 => ⟨S4224x128, .f32⟩
  | 58 => ⟨S1x128, .f32⟩
  | 59 => ⟨S4224x128, .f32⟩
  | 60 => ⟨S4224x128, .f32⟩
  | 61 => ⟨S4, .f32⟩
  | 62 => ⟨S_, .f32⟩
  | 63 => ⟨S4, .f32⟩
  | 64 => ⟨S4, .f32⟩
  | 65 => ⟨S_, .f32⟩
  | 66 => ⟨S4, .f32⟩
  | 67 => ⟨S4, .f32⟩
  | 68 => ⟨S4, .f32⟩
  | 69 => ⟨S4, .f32⟩
  | 70 => ⟨S128, .f32⟩
  | 71 => ⟨S128x1, .f32⟩
  | 72 => ⟨S1x128, .f32⟩
  | 73 => ⟨S128x128, .f32⟩
  | 74 => ⟨S128x128, .f32⟩
  | 75 => ⟨S128x128, .f32⟩
  | 76 => ⟨S1x128x128, .f32⟩
  | 77 => ⟨S_, .f32⟩
  | 78 => ⟨S1x128x128, .f32⟩
  | 79 => ⟨S1x128x128, .i1⟩
  | 80 => ⟨S1x128x128, .f32⟩
  | 81 => ⟨S4x1x1, .f32⟩
  | 82 => ⟨S4x128x128, .f32⟩
  | 83 => ⟨S4x128x128, .f32⟩
  | 84 => ⟨S4x128x128, .f32⟩
  | 85 => ⟨S4x128x128, .f32⟩
  | 86 => ⟨S_, .f32⟩
  | 87 => ⟨S_, .f32⟩
  | 88 => ⟨S4x128x128, .i1⟩
  | 89 => ⟨S4x128x128, .f32⟩
  | 90 => ⟨S4x128x128, .f32⟩
  | 91 => ⟨S_, .f32⟩
  | 92 => ⟨S128, .f32⟩
  | 93 => ⟨S128, .f32⟩
  | 94 => ⟨S1x128, .f32⟩
  | 95 => ⟨S4x1, .f32⟩
  | 96 => ⟨S4x128, .f32⟩
  | 97 => ⟨S4x128, .f32⟩
  | 98 => ⟨S4x128, .f32⟩
  | 99 => ⟨S4x128, .f32⟩
  | 100 => ⟨S_, .f32⟩
  | 101 => ⟨S128, .f32⟩
  | 102 => ⟨S128, .f32⟩
  | 103 => ⟨S1x128, .f32⟩
  | 104 => ⟨S4x1, .f32⟩
  | 105 => ⟨S4x128, .f32⟩
  | 106 => ⟨S4x128, .f32⟩
  | 107 => ⟨S4x128, .f32⟩
  | 108 => ⟨S4x128, .f32⟩
  | 109 => ⟨S_, .f32⟩
  | 110 => ⟨S4, .f32⟩
  | 111 => ⟨S4, .f32⟩
  | 112 => ⟨S4, .f32⟩
  | 113 => ⟨S4x128x1, .f32⟩
  | 114 => ⟨S4x128x128, .f32⟩
  | 115 => ⟨S4x128x1, .f32⟩
  | 116 => ⟨S4x128x128, .f32⟩
  | 117 => ⟨S4x1x1, .f32⟩
  | 118 => ⟨S4x128x128, .f32⟩
  | 119 => ⟨S4x1x128x128, .f32⟩
  | 120 => ⟨S4x1x128x128, .f32⟩
  | 121 => ⟨S4x1x128x128, .f32⟩
  | 122 => ⟨S4x1x128x128, .f32⟩
  | 123 => ⟨S4x4x128x128, .f32⟩
  | 124 => ⟨S1x4112x4x128, .f32⟩
  | 125 => ⟨S1x4x4112x128, .f32⟩
  | 126 => ⟨S_, .f32⟩
  | 127 => ⟨S1x4x112x128, .f32⟩
  | _ => ⟨S1x4112x512, .f32⟩

abbrev hbmTy0_1 (i : Nat) : BufTy := match i % 128 with
  | 0 => ⟨S1x4x4224x128, .f32⟩
  | 1 => ⟨S1x4112x4x128, .f32⟩
  | 2 => ⟨S1x4x4112x128, .f32⟩
  | 3 => ⟨S_, .f32⟩
  | 4 => ⟨S1x4x112x128, .f32⟩
  | 5 => ⟨S1x4x4224x128, .f32⟩
  | 6 => ⟨S1x4112x4x128, .f32⟩
  | 7 => ⟨S1x4x4112x128, .f32⟩
  | 8 => ⟨S_, .f32⟩
  | 9 => ⟨S1x4x112x128, .f32⟩
  | 10 => ⟨S1x4x4224x128, .f32⟩
  | 11 => ⟨S4224, .f32⟩
  | 12 => ⟨S_, .f32⟩
  | 13 => ⟨S4224, .f32⟩
  | 14 => ⟨S4224, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S4224x1, .f32⟩
  | 24 => ⟨S1x64, .f32⟩
  | 25 => ⟨S4224x64, .f32⟩
  | 26 => ⟨S4224x64, .f32⟩
  | 27 => ⟨S4224x64, .f32⟩
  | 28 => ⟨S4224x64, .f32⟩
  | 29 => ⟨S4224x64, .f32⟩
  | 30 => ⟨S1x4x4224x64, .f32⟩
  | 31 => ⟨S1x4x4224x64, .f32⟩
  | 32 => ⟨S1x1x4224x64, .f32⟩
  | 33 => ⟨S1x4x4224x64, .f32⟩
  | 34 => ⟨S1x4x4224x64, .f32⟩
  | 35 => ⟨S1x1x4224x64, .f32⟩
  | 36 => ⟨S1x4x4224x64, .f32⟩
  | 37 => ⟨S1x4x4224x64, .f32⟩
  | 38 => ⟨S1x4x4224x64, .f32⟩
  | 39 => ⟨S1x1x4224x64, .f32⟩
  | 40 => ⟨S1x4x4224x64, .f32⟩
  | 41 => ⟨S1x4x4224x64, .f32⟩
  | 42 => ⟨S1x1x4224x64, .f32⟩
  | 43 => ⟨S1x4x4224x64, .f32⟩
  | 44 => ⟨S1x4x4224x64, .f32⟩
  | 45 => ⟨S1x4x4224x64, .f32⟩
  | 46 => ⟨S1x4x4224x128, .f32⟩
  | 47 => ⟨S_, .f32⟩
  | 48 => ⟨S1x4x4224x128, .f32⟩
  | 49 => ⟨S1x4x4224x128, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S4224x1, .f32⟩
  | 59 => ⟨S1x64, .f32⟩
  | 60 => ⟨S4224x64, .f32⟩
  | 61 => ⟨S4224x64, .f32⟩
  | 62 => ⟨S4224x64, .f32⟩
  | 63 => ⟨S4224x64, .f32⟩
  | 64 => ⟨S4224x64, .f32⟩
  | 65 => ⟨S1x4x4224x64, .f32⟩
  | 66 => ⟨S1x4x4224x64, .f32⟩
  | 67 => ⟨S1x1x4224x64, .f32⟩
  | 68 => ⟨S1x4x4224x64, .f32⟩
  | 69 => ⟨S1x4x4224x64, .f32⟩
  | 70 => ⟨S1x1x4224x64, .f32⟩
  | 71 => ⟨S1x4x4224x64, .f32⟩
  | 72 => ⟨S1x4x4224x64, .f32⟩
  | 73 => ⟨S1x4x4224x64, .f32⟩
  | 74 => ⟨S1x1x4224x64, .f32⟩
  | 75 => ⟨S1x4x4224x64, .f32⟩
  | 76 => ⟨S1x4x4224x64, .f32⟩
  | 77 => ⟨S1x1x4224x64, .f32⟩
  | 78 => ⟨S1x4x4224x64, .f32⟩
  | 79 => ⟨S1x4x4224x64, .f32⟩
  | 80 => ⟨S1x4x4224x64, .f32⟩
  | 81 => ⟨S1x4x4224x128, .f32⟩
  | 82 => ⟨S1x4x33x128x128, .f32⟩
  | 83 => ⟨S1x4x33x128x128, .f32⟩
  | 84 => ⟨S1x4x33x128x128, .f32⟩
  | 85 => ⟨S4, .f32⟩
  | 86 => ⟨S_, .f32⟩
  | 87 => ⟨S4, .f32⟩
  | 88 => ⟨S4, .f32⟩
  | 89 => ⟨S_, .f32⟩
  | 90 => ⟨S4, .f32⟩
  | 91 => ⟨S4, .f32⟩
  | 92 => ⟨S4, .f32⟩
  | 93 => ⟨S4, .f32⟩
  | 94 => ⟨S128, .f32⟩
  | 95 => ⟨S_, .f32⟩
  | 96 => ⟨S128, .f32⟩
  | 97 => ⟨S128, .f32⟩
  | 98 => ⟨S1x128, .f32⟩
  | 99 => ⟨S4x1, .f32⟩
  | 100 => ⟨S4x128, .f32⟩
  | 101 => ⟨S4x128, .f32⟩
  | 102 => ⟨S4x128, .f32⟩
  | 103 => ⟨S4x128, .f32⟩
  | 104 => ⟨S_, .f32⟩
  | 105 => ⟨S4, .f32⟩
  | 106 => ⟨S4, .f32⟩
  | 107 => ⟨S4, .f32⟩
  | 108 => ⟨S1x4x1x128x1, .f32⟩
  | 109 => ⟨S1x4x33x128x128, .f32⟩
  | 110 => ⟨S1x4x33x128x128, .f32⟩
  | 111 => ⟨S33x1x4x128x128, .f32⟩
  | 112 => ⟨S1x4x1x1, .f32⟩
  | 113 => ⟨S1x1x4x1x1, .f32⟩
  | 114 => ⟨S1x1x4x128x128, .f32⟩
  | 115 => ⟨S_, .f32⟩
  | 116 => ⟨S1x1x4x128x128, .f32⟩
  | 117 => ⟨S1x1x4x128x128, .f32⟩
  | 118 => ⟨S1x1x4x128x128, .f32⟩
  | 119 => ⟨S1x1x4x128x128, .f32⟩
  | 120 => ⟨S1x1x4x128x128, .f32⟩
  | 121 => ⟨S1x1x4x128x128, .f32⟩
  | 122 => ⟨S1x1x4x128x128, .f32⟩
  | 123 => ⟨S1x1x4x128x128, .f32⟩
  | 124 => ⟨S1x1x4x128x128, .f32⟩
  | 125 => ⟨S1x1x4x128x128, .f32⟩
  | 126 => ⟨S1x1x4x128x128, .f32⟩
  | 127 => ⟨S1x1x4x128x128, .f32⟩
  | _ => ⟨S1x4112x512, .f32⟩

abbrev hbmTy0_2 (i : Nat) : BufTy := match i % 128 with
  | 0 => ⟨S1x1x4x128x128, .f32⟩
  | 1 => ⟨S1x1x4x128x128, .f32⟩
  | 2 => ⟨S1x1x4x128x128, .f32⟩
  | 3 => ⟨S1x1x4x128x128, .f32⟩
  | 4 => ⟨S1x1x4x128x128, .f32⟩
  | 5 => ⟨S1x1x4x128x128, .f32⟩
  | 6 => ⟨S1x1x4x128x128, .f32⟩
  | 7 => ⟨S1x1x4x128x128, .f32⟩
  | 8 => ⟨S1x1x4x128x128, .f32⟩
  | 9 => ⟨S1x1x4x128x128, .f32⟩
  | 10 => ⟨S1x1x4x128x128, .f32⟩
  | 11 => ⟨S1x1x4x128x128, .f32⟩
  | 12 => ⟨S1x1x4x128x128, .f32⟩
  | 13 => ⟨S1x1x4x128x128, .f32⟩
  | 14 => ⟨S1x1x4x128x128, .f32⟩
  | 15 => ⟨S1x1x4x128x128, .f32⟩
  | 16 => ⟨S1x1x4x128x128, .f32⟩
  | 17 => ⟨S1x1x4x128x128, .f32⟩
  | 18 => ⟨S1x1x4x128x128, .f32⟩
  | 19 => ⟨S1x1x4x128x128, .f32⟩
  | 20 => ⟨S1x1x4x128x128, .f32⟩
  | 21 => ⟨S1x1x4x128x128, .f32⟩
  | 22 => ⟨S1x1x4x128x128, .f32⟩
  | 23 => ⟨S1x1x4x128x128, .f32⟩
  | 24 => ⟨S1x1x4x128x128, .f32⟩
  | 25 => ⟨S1x1x4x128x128, .f32⟩
  | 26 => ⟨S1x1x4x128x128, .f32⟩
  | 27 => ⟨S1x1x4x128x128, .f32⟩
  | 28 => ⟨S1x1x4x128x128, .f32⟩
  | 29 => ⟨S1x1x4x128x128, .f32⟩
  | 30 => ⟨S1x1x4x128x128, .f32⟩
  | 31 => ⟨S1x1x4x128x128, .f32⟩
  | 32 => ⟨S1x1x4x128x128, .f32⟩
  | 33 => ⟨S1x1x4x128x128, .f32⟩
  | 34 => ⟨S1x1x4x128x128, .f32⟩
  | 35 => ⟨S1x1x4x128x128, .f32⟩
  | 36 => ⟨S1x1x4x128x128, .f32⟩
  | 37 => ⟨S1x1x4x128x128, .f32⟩
  | 38 => ⟨S1x1x4x128x128, .f32⟩
  | 39 => ⟨S1x1x4x128x128, .f32⟩
  | 40 => ⟨S1x1x4x128x128, .f32⟩
  | 41 => ⟨S1x1x4x128x128, .f32⟩
  | 42 => ⟨S1x1x4x128x128, .f32⟩
  | 43 => ⟨S1x1x4x128x128, .f32⟩
  | 44 => ⟨S1x1x4x128x128, .f32⟩
  | 45 => ⟨S1x1x4x128x128, .f32⟩
  | 46 => ⟨S1x1x4x128x128, .f32⟩
  | 47 => ⟨S1x1x4x128x128, .f32⟩
  | 48 => ⟨S1x1x4x128x128, .f32⟩
  | 49 => ⟨S1x1x4x128x128, .f32⟩
  | 50 => ⟨S1x1x4x128x128, .f32⟩
  | 51 => ⟨S1x1x4x128x128, .f32⟩
  | 52 => ⟨S1x1x4x128x128, .f32⟩
  | 53 => ⟨S1x1x4x128x128, .f32⟩
  | 54 => ⟨S1x1x4x128x128, .f32⟩
  | 55 => ⟨S1x1x4x128x128, .f32⟩
  | 56 => ⟨S1x1x4x128x128, .f32⟩
  | 57 => ⟨S1x1x4x128x128, .f32⟩
  | 58 => ⟨S1x1x4x128x128, .f32⟩
  | 59 => ⟨S1x1x4x128x128, .f32⟩
  | 60 => ⟨S1x1x4x128x128, .f32⟩
  | 61 => ⟨S1x1x4x128x128, .f32⟩
  | 62 => ⟨S1x1x4x128x128, .f32⟩
  | 63 => ⟨S1x1x4x128x128, .f32⟩
  | 64 => ⟨S1x1x4x128x128, .f32⟩
  | 65 => ⟨S1x1x4x128x128, .f32⟩
  | 66 => ⟨S1x1x4x128x128, .f32⟩
  | 67 => ⟨S1x1x4x128x128, .f32⟩
  | 68 => ⟨S1x1x4x128x128, .f32⟩
  | 69 => ⟨S1x1x4x128x128, .f32⟩
  | 70 => ⟨S1x1x4x128x128, .f32⟩
  | 71 => ⟨S1x1x4x128x128, .f32⟩
  | 72 => ⟨S1x1x4x128x128, .f32⟩
  | 73 => ⟨S1x1x4x128x128, .f32⟩
  | 74 => ⟨S1x1x4x128x128, .f32⟩
  | 75 => ⟨S1x1x4x128x128, .f32⟩
  | 76 => ⟨S1x1x4x128x128, .f32⟩
  | 77 => ⟨S1x1x4x128x128, .f32⟩
  | 78 => ⟨S1x1x4x128x128, .f32⟩
  | 79 => ⟨S1x1x4x128x128, .f32⟩
  | 80 => ⟨S1x1x4x128x128, .f32⟩
  | 81 => ⟨S1x1x4x128x128, .f32⟩
  | 82 => ⟨S1x1x4x128x128, .f32⟩
  | 83 => ⟨S1x1x4x128x128, .f32⟩
  | 84 => ⟨S1x1x4x128x128, .f32⟩
  | 85 => ⟨S11x1x4x128x128, .f32⟩
  | 86 => ⟨S11x1x4x128x128, .f32⟩
  | 87 => ⟨S11x1x4x128x128, .f32⟩
  | 88 => ⟨S33x1x4x128x128, .f32⟩
  | 89 => ⟨S33x4x128x128, .f32⟩
  | 90 => ⟨S4x33x128x128, .f32⟩
  | 91 => ⟨S4x33x128x128, .bf16⟩
  | 92 => ⟨S_, .f32⟩
  | 93 => ⟨S112x512, .f32⟩
  | 94 => ⟨S4112x512, .f32⟩
  | 95 => ⟨S4224x512, .f32⟩
  | 96 => ⟨S4224x512, .bf16⟩
  | 97 => ⟨S4x4224x128, .f32⟩
  | 98 => ⟨S4224x4x128, .f32⟩
  | 99 => ⟨S4224x512, .f32⟩
  | 100 => ⟨S4x4224x128, .f32⟩
  | 101 => ⟨S4224x4x128, .f32⟩
  | 102 => ⟨S4224x512, .f32⟩
  | 103 => ⟨S4x4224x128, .f32⟩
  | 104 => ⟨S4224x4x128, .f32⟩
  | 105 => ⟨S4224x512, .f32⟩
  | 106 => ⟨S4224x1536, .f32⟩
  | 107 => ⟨S4224x1536, .bf16⟩
  | 108 => ⟨S4224x512, .bf16⟩
  | 109 => ⟨S4224x512, .bf16⟩
  | 110 => ⟨S4224x512, .bf16⟩
  | _ => ⟨S1x4112x512, .f32⟩

abbrev hbmTy (i : Nat) : BufTy := match i / 128 with
  | 0 => hbmTy0_0 i
  | 1 => hbmTy0_1 i
  | 2 => hbmTy0_2 i
  | _ => ⟨S1x4112x512, .f32⟩

abbrev bufTy : (tb : Table) → Fin (tcTables nBuf tb) → BufTy
  | .hbm, ⟨i, _⟩ => hbmTy i
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S4x4x128x128, .f32⟩
  | .local _ .vmem, ⟨11, _⟩ => ⟨S4x3x128x128, .bf16⟩
  | .local _ .vmem, ⟨12, _⟩ => ⟨S4x3x128x128, .bf16⟩
  | .local _ .vmem, ⟨13, _⟩ => ⟨S384x512, .bf16⟩
  | .local _ .vmem, ⟨14, _⟩ => ⟨S384x512, .bf16⟩
  | .local _ .vmem, ⟨15, _⟩ => ⟨S384x512, .bf16⟩
  | .local _ .vmem, ⟨16, _⟩ => ⟨S384x512, .bf16⟩
  | .local _ .vmem, ⟨17, _⟩ => ⟨S384x512, .bf16⟩
  | .local _ .vmem, ⟨18, _⟩ => ⟨S384x512, .bf16⟩
  | .local _ .vmem, ⟨19, _⟩ => ⟨S384x512, .bf16⟩
  | .local _ .vmem, ⟨20, _⟩ => ⟨S384x512, .bf16⟩
  | .local _ .vmem, ⟨21, _⟩ => ⟨S4x128x128, .f32⟩
  | _, _ => ⟨S1x4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_cst_4 : Ref sig .tc := ⟨.hbm, 52, rfl⟩
abbrev main_cst_5 : Ref sig .tc := ⟨.hbm, 53, rfl⟩
abbrev main_call1_v0 : Ref sig .tc := ⟨.hbm, 54, rfl⟩
abbrev main_call1_v1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_6 : Ref sig .tc := ⟨.hbm, 62, rfl⟩
abbrev main_v28 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_8 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_9 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v49 : Ref sig .tc := ⟨.hbm, 90, rfl⟩
abbrev main_cst_10 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_11 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_12 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_13 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_14 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_15 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_16 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_17 : Ref sig .tc := ⟨.hbm, 145, rfl⟩
abbrev main_v97 : Ref sig .tc := ⟨.hbm, 146, rfl⟩
abbrev main_v98 : Ref sig .tc := ⟨.hbm, 147, rfl⟩
abbrev main_cst_18 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_19 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_20 : Ref sig .tc := ⟨.hbm, 180, rfl⟩
abbrev main_v129 : Ref sig .tc := ⟨.hbm, 181, rfl⟩
abbrev main_v130 : Ref sig .tc := ⟨.hbm, 182, rfl⟩
abbrev main_cst_21 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_22 : Ref sig .tc := ⟨.hbm, 214, rfl⟩
abbrev main_v161 : Ref sig .tc := ⟨.hbm, 215, rfl⟩
abbrev main_v162 : Ref sig .tc := ⟨.hbm, 216, rfl⟩
abbrev main_cst_23 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_24 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_25 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_26 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_cst_27 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305_0 : Ref sig .tc := ⟨.hbm, 364, rfl⟩
abbrev main_v305_1 : Ref sig .tc := ⟨.hbm, 365, rfl⟩
abbrev main_v305_2 : Ref sig .tc := ⟨.hbm, 366, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 32 := Scalar.subi c10_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c10_i32 : BitVec 32 := 10#32
  let v0 : BitVec 32 := Scalar.subi c10_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x3x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1x4112x512 : Shape := ⟨3, ![1, 4112, 512]⟩
abbrev S1x4112x4x128 : Shape := ⟨4, ![1, 4112, 4, 128]⟩
abbrev S1x4x4112x128 : Shape := ⟨4, ![1, 4, 4112, 128]⟩
abbrev S_ : Shape := ⟨0, ![]⟩
abbrev S1x4x112x128 : Shape := ⟨4, ![1, 4, 112, 128]⟩
abbrev S1x4x4224x128 : Shape := ⟨4, ![1, 4, 4224, 128]⟩
abbrev S4224 : Shape := ⟨1, ![4224]⟩
abbrev S64 : Shape := ⟨1, ![64]⟩
abbrev S4224x1 : Shape := ⟨2, ![4224, 1]⟩
abbrev S1x64 : Shape := ⟨2, ![1, 64]⟩
abbrev S4224x64 : Shape := ⟨2, ![4224, 64]⟩
abbrev S1x4x4224x64 : Shape := ⟨4, ![1, 4, 4224, 64]⟩
abbrev S1x1x4224x64 : Shape := ⟨4, ![1, 1, 4224, 64]⟩
abbrev S1x4x33x128x128 : Shape := ⟨5, ![1, 4, 33, 128, 128]⟩
abbrev S4 : Shape := ⟨1, ![4]⟩
abbrev S128 : Shape := ⟨1, ![128]⟩
abbrev S1x128 : Shape := ⟨2, ![1, 128]⟩
abbrev S4x1 : Shape := ⟨2, ![4, 1]⟩
abbrev S4x128 : Shape := ⟨2, ![4, 128]⟩
abbrev S1x4x1x128x1 : Shape := ⟨5, ![1, 4, 1, 128, 1]⟩
abbrev S33x1x4x128x128 : Shape := ⟨5, ![33, 1, 4, 128, 128]⟩
abbrev S1x4x1x1 : Shape := ⟨4, ![1, 4, 1, 1]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4x1x128x128 : Shape := ⟨5, ![1, 4, 1, 128, 128]⟩
abbrev S1x4x128x128 : Shape := ⟨4, ![1, 4, 128, 128]⟩
abbrev S1x1x4x128x128 : Shape := ⟨5, ![1, 1, 4, 128, 128]⟩
abbrev S112x512 : Shape := ⟨2, ![112, 512]⟩
abbrev S4112x512 : Shape := ⟨2, ![4112, 512]⟩
abbrev S4224x512 : Shape := ⟨2, ![4224, 512]⟩

abbrev nBuf : Space → Nat
  | .hbm => 329
  | .vmem => 0
  | .smem => 0
  | _ => 0

abbrev hbmTy0_0 (i : Nat) : BufTy := match i % 128 with
  | 0 => ⟨S1x4112x512, .f32⟩
  | 1 => ⟨S1x4112x512, .f32⟩
  | 2 => ⟨S1x4112x512, .f32⟩
  | 3 => ⟨S1x4112x512, .f32⟩
  | 4 => ⟨S1x4112x4x128, .f32⟩
  | 5 => ⟨S1x4x4112x128, .f32⟩
  | 6 => ⟨S_, .f32⟩
  | 7 => ⟨S1x4x112x128, .f32⟩
  | 8 => ⟨S1x4x4224x128, .f32⟩
  | 9 => ⟨S_, .f32⟩
  | 10 => ⟨S1x4x112x128, .f32⟩
  | 11 => ⟨S1x4112x4x128, .f32⟩
  | 12 => ⟨S1x4x4112x128, .f32⟩
  | 13 => ⟨S_, .f32⟩
  | 14 => ⟨S1x4x112x128, .f32⟩
  | 15 => ⟨S1x4x4224x128, .f32⟩
  | 16 => ⟨S_, .f32⟩
  | 17 => ⟨S1x4x112x128, .f32⟩
  | 18 => ⟨S1x4112x4x128, .f32⟩
  | 19 => ⟨S1x4x4112x128, .f32⟩
  | 20 => ⟨S_, .f32⟩
  | 21 => ⟨S1x4x112x128, .f32⟩
  | 22 => ⟨S1x4x4224x128, .f32⟩
  | 23 => ⟨S_, .f32⟩
  | 24 => ⟨S1x4x112x128, .f32⟩
  | 25 => ⟨S4224, .f32⟩
  | 26 => ⟨S_, .f32⟩
  | 27 => ⟨S4224, .f32⟩
  | 28 => ⟨S4224, .f32⟩
  | 29 => ⟨S64, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S4224x1, .f32⟩
  | 38 => ⟨S1x64, .f32⟩
  | 39 => ⟨S4224x64, .f32⟩
  | 40 => ⟨S4224x64, .f32⟩
  | 41 => ⟨S4224x64, .f32⟩
  | 42 => ⟨S4224x64, .f32⟩
  | 43 => ⟨S4224x64, .f32⟩
  | 44 => ⟨S1x4x4224x64, .f32⟩
  | 45 => ⟨S1x4x4224x64, .f32⟩
  | 46 => ⟨S1x1x4224x64, .f32⟩
  | 47 => ⟨S1x4x4224x64, .f32⟩
  | 48 => ⟨S1x4x4224x64, .f32⟩
  | 49 => ⟨S1x1x4224x64, .f32⟩
  | 50 => ⟨S1x4x4224x64, .f32⟩
  | 51 => ⟨S1x4x4224x64, .f32⟩
  | 52 => ⟨S1x4x4224x64, .f32⟩
  | 53 => ⟨S1x1x4224x64, .f32⟩
  | 54 => ⟨S1x4x4224x64, .f32⟩
  | 55 => ⟨S1x4x4224x64, .f32⟩
  | 56 => ⟨S1x1x4224x64, .f32⟩
  | 57 => ⟨S1x4x4224x64, .f32⟩
  | 58 => ⟨S1x4x4224x64, .f32⟩
  | 59 => ⟨S1x4x4224x64, .f32⟩
  | 60 => ⟨S1x4x4224x128, .f32⟩
  | 61 => ⟨S_, .f32⟩
  | 62 => ⟨S1x4x4224x128, .f32⟩
  | 63 => ⟨S1x4x4224x128, .f32⟩
  | 64 => ⟨S64, .f32⟩
  | 65 => ⟨S64, .f32⟩
  | 66 => ⟨S_, .f32⟩
  | 67 => ⟨S64, .f32⟩
  | 68 => ⟨S64, .f32⟩
  | 69 => ⟨S_, .f32⟩
  | 70 => ⟨S64, .f32⟩
  | 71 => ⟨S64, .f32⟩
  | 72 => ⟨S4224x1, .f32⟩
  | 73 => ⟨S1x64, .f32⟩
  | 74 => ⟨S4224x64, .f32⟩
  | 75 => ⟨S4224x64, .f32⟩
  | 76 => ⟨S4224x64, .f32⟩
  | 77 => ⟨S4224x64, .f32⟩
  | 78 => ⟨S4224x64, .f32⟩
  | 79 => ⟨S1x4x4224x64, .f32⟩
  | 80 => ⟨S1x4x4224x64, .f32⟩
  | 81 => ⟨S1x1x4224x64, .f32⟩
  | 82 => ⟨S1x4x4224x64, .f32⟩
  | 83 => ⟨S1x4x4224x64, .f32⟩
  | 84 => ⟨S1x1x4224x64, .f32⟩
  | 85 => ⟨S1x4x4224x64, .f32⟩
  | 86 => ⟨S1x4x4224x64, .f32⟩
  | 87 => ⟨S1x4x4224x64, .f32⟩
  | 88 => ⟨S1x1x4224x64, .f32⟩
  | 89 => ⟨S1x4x4224x64, .f32⟩
  | 90 => ⟨S1x4x4224x64, .f32⟩
  | 91 => ⟨S1x1x4224x64, .f32⟩
  | 92 => ⟨S1x4x4224x64, .f32⟩
  | 93 => ⟨S1x4x4224x64, .f32⟩
  | 94 => ⟨S1x4x4224x64, .f32⟩
  | 95 => ⟨S1x4x4224x128, .f32⟩
  | 96 => ⟨S1x4x33x128x128, .f32⟩
  | 97 => ⟨S1x4x33x128x128, .f32⟩
  | 98 => ⟨S1x4x33x128x128, .f32⟩
  | 99 => ⟨S4, .f32⟩
  | 100 => ⟨S_, .f32⟩
  | 101 => ⟨S4, .f32⟩
  | 102 => ⟨S4, .f32⟩
  | 103 => ⟨S_, .f32⟩
  | 104 => ⟨S4, .f32⟩
  | 105 => ⟨S4, .f32⟩
  | 106 => ⟨S4, .f32⟩
  | 107 => ⟨S4, .f32⟩
  | 108 => ⟨S128, .f32⟩
  | 109 => ⟨S_, .f32⟩
  | 110 => ⟨S128, .f32⟩
  | 111 => ⟨S128, .f32⟩
  | 112 => ⟨S1x128, .f32⟩
  | 113 => ⟨S4x1, .f32⟩
  | 114 => ⟨S4x128, .f32⟩
  | 115 => ⟨S4x128, .f32⟩
  | 116 => ⟨S4x128, .f32⟩
  | 117 => ⟨S4x128, .f32⟩
  | 118 => ⟨S_, .f32⟩
  | 119 => ⟨S4, .f32⟩
  | 120 => ⟨S4, .f32⟩
  | 121 => ⟨S4, .f32⟩
  | 122 => ⟨S1x4x1x128x1, .f32⟩
  | 123 => ⟨S1x4x33x128x128, .f32⟩
  | 124 => ⟨S1x4x33x128x128, .f32⟩
  | 125 => ⟨S33x1x4x128x128, .f32⟩
  | 126 => ⟨S1x4x1x1, .f32⟩
  | 127 => ⟨S128x1, .f32⟩
  | _ => ⟨S1x4112x512, .f32⟩

abbrev hbmTy0_1 (i : Nat) : BufTy := match i % 128 with
  | 0 => ⟨S1x128, .f32⟩
  | 1 => ⟨S128x128, .f32⟩
  | 2 => ⟨S128x128, .f32⟩
  | 3 => ⟨S128x128, .f32⟩
  | 4 => ⟨S1x128x128, .f32⟩
  | 5 => ⟨S_, .f32⟩
  | 6 => ⟨S1x128x128, .f32⟩
  | 7 => ⟨S1x128x128, .i1⟩
  | 8 => ⟨S1x128x128, .f32⟩
  | 9 => ⟨S4x1x1, .f32⟩
  | 10 => ⟨S4x128x128, .f32⟩
  | 11 => ⟨S4x128x128, .f32⟩
  | 12 => ⟨S4x128x128, .f32⟩
  | 13 => ⟨S4x128x128, .f32⟩
  | 14 => ⟨S_, .f32⟩
  | 15 => ⟨S_, .f32⟩
  | 16 => ⟨S4x128x128, .i1⟩
  | 17 => ⟨S4x128x128, .f32⟩
  | 18 => ⟨S4x128x128, .f32⟩
  | 19 => ⟨S_, .f32⟩
  | 20 => ⟨S128, .f32⟩
  | 21 => ⟨S128, .f32⟩
  | 22 => ⟨S1x128, .f32⟩
  | 23 => ⟨S4x1, .f32⟩
  | 24 => ⟨S4x128, .f32⟩
  | 25 => ⟨S4x128, .f32⟩
  | 26 => ⟨S4x128, .f32⟩
  | 27 => ⟨S4x128, .f32⟩
  | 28 => ⟨S1x4x33x128x128, .f32⟩
  | 29 => ⟨S1x4x1x128x128, .f32⟩
  | 30 => ⟨S1x4x33x128x128, .f32⟩
  | 31 => ⟨S1x4x33x128x128, .f32⟩
  | 32 => ⟨S1x4x33x128x128, .f32⟩
  | 33 => ⟨S_, .f32⟩
  | 34 => ⟨S1x4x128x128, .f32⟩
  | 35 => ⟨S_, .f32⟩
  | 36 => ⟨S33x1x4x128x128, .f32⟩
  | 37 => ⟨S_, .i32⟩
  | 38 => ⟨S33x1x4x128x128, .f32⟩
  | 39 => ⟨S1x4x1x1, .f32⟩
  | 40 => ⟨S_, .i32⟩
  | 41 => ⟨S1x4x128x128, .f32⟩
  | 42 => ⟨S33x1x4x128x128, .f32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S1x1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x1x4x128x128, .f32⟩
  | 55 => ⟨S_, .i32⟩
  | 56 => ⟨S_, .i32⟩
  | 57 => ⟨S_, .i32⟩
  | 58 => ⟨S_, .i32⟩
  | 59 => ⟨S33x1x4x128x128, .f32⟩
  | 60 => ⟨S_, .i32⟩
  | 61 => ⟨S_, .i32⟩
  | 62 => ⟨S1x4x1x128x1, .f32⟩
  | 63 => ⟨S1x4x33x128x128, .f32⟩
  | 64 => ⟨S1x4x33x128x128, .f32⟩
  | 65 => ⟨S1x4x33x128x128, .f32⟩
  | 66 => ⟨S1x4x33x128x128, .f32⟩
  | 67 => ⟨S1x4x4224x128, .f32⟩
  | 68 => ⟨S1x4x4112x128, .f32⟩
  | 69 => ⟨S1x4112x4x128, .f32⟩
  | 70 => ⟨S1x4112x512, .f32⟩
  | 71 => ⟨S_, .f32⟩
  | 72 => ⟨S1x4x128x128, .f32⟩
  | 73 => ⟨S1x4112x4x128, .f32⟩
  | 74 => ⟨S1x4x4112x128, .f32⟩
  | 75 => ⟨S_, .f32⟩
  | 76 => ⟨S1x4x4224x128, .f32⟩
  | 77 => ⟨S1x4x33x128x128, .f32⟩
  | 78 => ⟨S1x4x33x128x128, .f32⟩
  | 79 => ⟨S33x1x4x128x128, .f32⟩
  | 80 => ⟨S1x4x33x128x128, .f32⟩
  | 81 => ⟨S1x4x33x128x128, .f32⟩
  | 82 => ⟨S1x4x33x128x128, .f32⟩
  | 83 => ⟨S_, .f32⟩
  | 84 => ⟨S1x4x128x128, .f32⟩
  | 85 => ⟨S_, .f32⟩
  | 86 => ⟨S33x1x4x128x128, .f32⟩
  | 87 => ⟨S_, .i32⟩
  | 88 => ⟨S33x1x4x128x128, .f32⟩
  | 89 => ⟨S1x4x1x1, .f32⟩
  | 90 => ⟨S_, .i32⟩
  | 91 => ⟨S1x4x128x128, .f32⟩
  | 92 => ⟨S33x1x4x128x128, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S1x1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x1x4x128x128, .f32⟩
  | 109 => ⟨S_, .i32⟩
  | 110 => ⟨S_, .i32⟩
  | 111 => ⟨S_, .i32⟩
  | 112 => ⟨S_, .i32⟩
  | 113 => ⟨S33x1x4x128x128, .f32⟩
  | 114 => ⟨S_, .i32⟩
  | 115 => ⟨S_, .i32⟩
  | 116 => ⟨S1x4x33x128x128, .f32⟩
  | 117 => ⟨S1x4x33x128x128, .f32⟩
  | 118 => ⟨S1x4x33x128x128, .f32⟩
  | 119 => ⟨S1x4x33x128x128, .f32⟩
  | 120 => ⟨S1x4x33x128x128, .f32⟩
  | 121 => ⟨S1x4x33x128x128, .f32⟩
  | 122 => ⟨S1x4x33x128x128, .f32⟩
  | 123 => ⟨S1x4x33x128x128, .f32⟩
  | 124 => ⟨S33x1x4x128x128, .f32⟩
  | 125 => ⟨S1x4x33x128x128, .f32⟩
  | 126 => ⟨S1x4x33x128x128, .f32⟩
  | 127 => ⟨S33x1x4x128x128, .f32⟩
  | _ => ⟨S1x4112x512, .f32⟩

abbrev hbmTy0_2 (i : Nat) : BufTy := match i % 128 with
  | 0 => ⟨S1x4x33x128x128, .f32⟩
  | 1 => ⟨S1x4x33x128x128, .f32⟩
  | 2 => ⟨S1x4x33x128x128, .f32⟩
  | 3 => ⟨S1x4x33x128x128, .f32⟩
  | 4 => ⟨S1x4x4224x128, .f32⟩
  | 5 => ⟨S1x4x4224x128, .f32⟩
  | 6 => ⟨S1x4x4224x128, .f32⟩
  | 7 => ⟨S1x4x4224x64, .f32⟩
  | 8 => ⟨S1x4x4224x64, .f32⟩
  | 9 => ⟨S1x4x4224x64, .f32⟩
  | 10 => ⟨S1x4x4224x64, .f32⟩
  | 11 => ⟨S1x4x4224x64, .f32⟩
  | 12 => ⟨S1x4x4224x64, .f32⟩
  | 13 => ⟨S1x4x4224x64, .f32⟩
  | 14 => ⟨S1x4x4224x64, .f32⟩
  | 15 => ⟨S1x4x4224x64, .f32⟩
  | 16 => ⟨S1x4x4224x64, .f32⟩
  | 17 => ⟨S1x4x4224x64, .f32⟩
  | 18 => ⟨S1x4x4224x64, .f32⟩
  | 19 => ⟨S1x4x4224x64, .f32⟩
  | 20 => ⟨S_, .f32⟩
  | 21 => ⟨S1x4x4224x128, .f32⟩
  | 22 => ⟨S_, .f32⟩
  | 23 => ⟨S1x4x4224x128, .f32⟩
  | 24 => ⟨S1x4x4224x128, .f32⟩
  | 25 => ⟨S_, .f32⟩
  | 26 => ⟨S1x4x4224x128, .f32⟩
  | 27 => ⟨S1x4x4224x128, .f32⟩
  | 28 => ⟨S1x4x4224x64, .f32⟩
  | 29 => ⟨S1x4x4224x64, .f32⟩
  | 30 => ⟨S1x4x4224x64, .f32⟩
  | 31 => ⟨S1x4x4224x64, .f32⟩
  | 32 => ⟨S1x4x4224x64, .f32⟩
  | 33 => ⟨S1x4x4224x64, .f32⟩
  | 34 => ⟨S1x4x4224x64, .f32⟩
  | 35 => ⟨S1x4x4224x64, .f32⟩
  | 36 => ⟨S1x4x4224x64, .f32⟩
  | 37 => ⟨S1x4x4224x64, .f32⟩
  | 38 => ⟨S1x4x4224x64, .f32⟩
  | 39 => ⟨S1x4x4224x64, .f32⟩
  | 40 => ⟨S1x4x4224x64, .f32⟩
  | 41 => ⟨S_, .f32⟩
  | 42 => ⟨S1x4x4224x128, .f32⟩
  | 43 => ⟨S_, .f32⟩
  | 44 => ⟨S1x4x4224x128, .f32⟩
  | 45 => ⟨S1x4x4224x128, .f32⟩
  | 46 => ⟨S1x4x112x128, .f32⟩
  | 47 => ⟨S1x4x4112x128, .f32⟩
  | 48 => ⟨S1x4112x4x128, .f32⟩
  | 49 => ⟨S1x4112x512, .f32⟩
  | 50 => ⟨S1x4x112x128, .f32⟩
  | 51 => ⟨S1x4x4112x128, .f32⟩
  | 52 => ⟨S1x4112x4x128, .f32⟩
  | 53 => ⟨S1x4112x512, .f32⟩
  | 54 => ⟨S1x4x112x128, .f32⟩
  | 55 => ⟨S1x4x4112x128, .f32⟩
  | 56 => ⟨S1x4112x4x128, .f32⟩
  | 57 => ⟨S1x4112x512, .f32⟩
  | 58 => ⟨S_, .f32⟩
  | 59 => ⟨S112x512, .f32⟩
  | 60 => ⟨S4112x512, .f32⟩
  | 61 => ⟨S4224x512, .f32⟩
  | 62 => ⟨S4224x512, .bf16⟩
  | 63 => ⟨S_, .f32⟩
  | 64 => ⟨S112x512, .f32⟩
  | 65 => ⟨S4112x512, .f32⟩
  | 66 => ⟨S4224x512, .f32⟩
  | 67 => ⟨S4224x512, .bf16⟩
  | 68 => ⟨S_, .f32⟩
  | 69 => ⟨S112x512, .f32⟩
  | 70 => ⟨S4112x512, .f32⟩
  | 71 => ⟨S4224x512, .f32⟩
  | 72 => ⟨S4224x512, .bf16⟩
  | _ => ⟨S1x4112x512, .f32⟩

abbrev hbmTy (i : Nat) : BufTy := match i / 128 with
  | 0 => hbmTy0_0 i
  | 1 => hbmTy0_1 i
  | 2 => hbmTy0_2 i
  | _ => ⟨S1x4112x512, .f32⟩

abbrev bufTy : (tb : Table) → Fin (tcTables nBuf tb) → BufTy
  | .hbm, ⟨i, _⟩ => hbmTy i
  | _, _ => ⟨S1x4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_11 : Ref sig .tc := ⟨.hbm, 100, rfl⟩
abbrev main_v84 : Ref sig .tc := ⟨.hbm, 101, rfl⟩
abbrev main_v85 : Ref sig .tc := ⟨.hbm, 102, rfl⟩
abbrev main_cst_12 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_13 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_14 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_15 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_cst_16 : Ref sig .tc := ⟨.hbm, 142, rfl⟩
abbrev main_call0_v0 : Ref sig .tc := ⟨.hbm, 143, rfl⟩
abbrev main_call0_v1 : Ref sig .tc := ⟨.hbm, 144, rfl⟩
abbrev main_call0_v2 : Ref sig .tc := ⟨.hbm, 145, rfl⟩
abbrev main_v121 : Ref sig .tc := ⟨.hbm, 146, rfl⟩
abbrev main_cst_17 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_18 : Ref sig .tc := ⟨.hbm, 161, rfl⟩
abbrev main_v135 : Ref sig .tc := ⟨.hbm, 162, rfl⟩
abbrev main_cst_19 : Ref sig .tc := ⟨.hbm, 163, rfl⟩
abbrev main_v136 : Ref sig .tc := ⟨.hbm, 164, rfl⟩
abbrev main_c : Ref sig .tc := ⟨.hbm, 165, rfl⟩
abbrev main_v137_0 : Ref sig .tc := ⟨.hbm, 166, rfl⟩
abbrev main_v137_1 : Ref sig .tc := ⟨.hbm, 167, rfl⟩
abbrev main_v137_2 : Ref sig .tc := ⟨.hbm, 168, rfl⟩
abbrev main_v137_3 : Ref sig .tc := ⟨.hbm, 169, rfl⟩
abbrev main_v137_4 : Ref sig .tc := ⟨.hbm, 170, rfl⟩
abbrev main_while0c_c_37 : Ref sig .tc := ⟨.hbm, 171, rfl⟩
abbrev main_while0c_v237 : Ref sig .tc := ⟨.hbm, 172, rfl⟩
abbrev main_while0b_call1_c : Ref sig .tc := ⟨.hbm, 173, rfl⟩
abbrev main_while0b_call1_c_0 : Ref sig .tc := ⟨.hbm, 174, rfl⟩
abbrev main_while0b_call1_c_1 : Ref sig .tc := ⟨.hbm, 175, rfl⟩
abbrev main_while0b_call1_c_2 : Ref sig .tc := ⟨.hbm, 176, rfl⟩
abbrev main_while0b_call1_v0 : Ref sig .tc := ⟨.hbm, 177, rfl⟩
abbrev main_while0b_v237 : Ref sig .tc := ⟨.hbm, 178, rfl⟩
abbrev main_while0b_v238 : Ref sig .tc := ⟨.hbm, 179, rfl⟩
abbrev main_while0b_v239 : Ref sig .tc := ⟨.hbm, 180, rfl⟩
abbrev main_while0b_v240 : Ref sig .tc := ⟨.hbm, 181, rfl⟩
abbrev main_while0b_call2_v0 : Ref sig .tc := ⟨.hbm, 182, rfl⟩
abbrev main_while0b_call2_c : Ref sig .tc := ⟨.hbm, 183, rfl⟩
abbrev main_while0b_call2_c_0 : Ref sig .tc := ⟨.hbm, 184, rfl⟩
abbrev main_while0b_call2_c_1 : Ref sig .tc := ⟨.hbm, 185, rfl⟩
abbrev main_while0b_call2_c_2 : Ref sig .tc := ⟨.hbm, 186, rfl⟩
abbrev main_while0b_v241 : Ref sig .tc := ⟨.hbm, 187, rfl⟩
abbrev main_while0b_c_37 : Ref sig .tc := ⟨.hbm, 188, rfl⟩
abbrev main_while0b_v242 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_20 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_21 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_22 : Ref sig .tc := ⟨.hbm, 211, rfl⟩
abbrev main_v157 : Ref sig .tc := ⟨.hbm, 212, rfl⟩
abbrev main_cst_23 : Ref sig .tc := ⟨.hbm, 213, rfl⟩
abbrev main_v158 : Ref sig .tc := ⟨.hbm, 214, rfl⟩
abbrev main_c_24 : Ref sig .tc := ⟨.hbm, 215, rfl⟩
abbrev main_v159_0 : Ref sig .tc := ⟨.hbm, 216, rfl⟩
abbrev main_v159_1 : Ref sig .tc := ⟨.hbm, 217, rfl⟩
abbrev main_v159_2 : Ref sig .tc := ⟨.hbm, 218, rfl⟩
abbrev main_v159_3 : Ref sig .tc := ⟨.hbm, 219, rfl⟩
abbrev main_v159_4 : Ref sig .tc := ⟨.hbm, 220, rfl⟩
abbrev main_while1c_c_37 : Ref sig .tc := ⟨.hbm, 221, rfl⟩
abbrev main_while1c_v237 : Ref sig .tc := ⟨.hbm, 222, rfl⟩
abbrev main_while1b_c_37 : Ref sig .tc := ⟨.hbm, 223, rfl⟩
abbrev main_while1b_v237 : Ref sig .tc := ⟨.hbm, 224, rfl⟩
abbrev main_while1b_c_38 : Ref sig .tc := ⟨.hbm, 225, rfl⟩
abbrev main_while1b_v238 : Ref sig .tc := ⟨.hbm, 226, rfl⟩
abbrev main_while1b_call3_c : Ref sig .tc := ⟨.hbm, 227, rfl⟩
abbrev main_while1b_call3_c_0 : Ref sig .tc := ⟨.hbm, 228, rfl⟩
abbrev main_while1b_call3_c_1 : Ref sig .tc := ⟨.hbm, 229, rfl⟩
abbrev main_while1b_call3_c_2 : Ref sig .tc := ⟨.hbm, 230, rfl⟩
abbrev main_while1b_call3_v0 : Ref sig .tc := ⟨.hbm, 231, rfl⟩
abbrev main_while1b_v239 : Ref sig .tc := ⟨.hbm, 232, rfl⟩
abbrev main_while1b_v240 : Ref sig .tc := ⟨.hbm, 233, rfl⟩
abbrev main_while1b_v241 : Ref sig .tc := ⟨.hbm, 234, rfl⟩
abbrev main_while1b_v242 : Ref sig .tc := ⟨.hbm, 235, rfl⟩
abbrev main_while1b_call4_v0 : Ref sig .tc := ⟨.hbm, 236, rfl⟩
abbrev main_while1b_call4_c : Ref sig .tc := ⟨.hbm, 237, rfl⟩
abbrev main_while1b_call4_c_0 : Ref sig .tc := ⟨.hbm, 238, rfl⟩
abbrev main_while1b_call4_c_1 : Ref sig .tc := ⟨.hbm, 239, rfl⟩
abbrev main_while1b_call4_c_2 : Ref sig .tc := ⟨.hbm, 240, rfl⟩
abbrev main_while1b_v243 : Ref sig .tc := ⟨.hbm, 241, rfl⟩
abbrev main_while1b_c_39 : Ref sig .tc := ⟨.hbm, 242, rfl⟩
abbrev main_while1b_v244 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_cst_25 : Ref sig .tc := ⟨.hbm, 276, rfl⟩
abbrev main_v192 : Ref sig .tc := ⟨.hbm, 277, rfl⟩
abbrev main_cst_26 : Ref sig .tc := ⟨.hbm, 278, rfl⟩
abbrev main_v193 : Ref sig .tc := ⟨.hbm, 279, rfl⟩
abbrev main_v194 : Ref sig .tc := ⟨.hbm, 280, rfl⟩
abbrev main_cst_27 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_cst_28 : Ref sig .tc := ⟨.hbm, 297, rfl⟩
abbrev main_v210 : Ref sig .tc := ⟨.hbm, 298, rfl⟩
abbrev main_cst_29 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_cst_30 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_cst_31 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_cst_32 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩

abbrev nD : Nat := 1
abbrev τ : Topo := Topo.v7x

variable {F : FTy → Type} [FloatOps F]

abbrev main_while0_count : Scf.Loop 32 := ⟨0#32, 33#32, 1#32⟩

abbrev main_while1_count : Scf.Loop 32 := ⟨0#32, 33#32, 1#32⟩
-- ==== Fwd.lean ====
abbrev S1x4112x512 : Shape := ⟨3, ![1, 4112, 512]⟩
abbrev S128 : Shape := ⟨1, ![128]⟩
abbrev S_ : Shape := ⟨0, ![]⟩
abbrev S4224 : Shape := ⟨1, ![4224]⟩
abbrev S4224x1 : Shape := ⟨2, ![4224, 1]⟩
abbrev S1x128 : Shape := ⟨2, ![1, 128]⟩
abbrev S4224x128 : Shape := ⟨2, ![4224, 128]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128x128 : Shape := ⟨4, ![4, 1, 128, 128]⟩
abbrev S4x4x128x128 : Shape := ⟨4, ![4, 4, 128, 128]⟩
abbrev S1x4112x4x128 : Shape := ⟨4, ![1, 4112, 4, 128]⟩
abbrev S1x4x4112x128 : Shape := ⟨4, ![1, 4, 4112, 128]⟩
abbrev S1x4x112x128 : Shape := ⟨4, ![1, 4, 112, 128]⟩
abbrev S1x4x4224x128 : Shape := ⟨4, ![1, 4, 4224, 128]⟩
abbrev S64 : Shape := ⟨1, ![64]⟩
abbrev S1x64 : Shape := ⟨2, ![1, 64]⟩
abbrev S4224x64 : Shape := ⟨2, ![4224, 64]⟩
abbrev S1x4x4224x64 : Shape := ⟨4, ![1, 4, 4224, 64]⟩
abbrev S1x1x4224x64 : Shape := ⟨4, ![1, 1, 4224, 64]⟩
abbrev S1x4x33x128x128 : Shape := ⟨5, ![1, 4, 33, 128, 128]⟩
abbrev S1x4x1x128x1 : Shape := ⟨5, ![1, 4, 1, 128, 1]⟩
abbrev S33x1x4x128x128 : Shape := ⟨5, ![33, 1, 4, 128, 128]⟩
abbrev S1x4x1x1 : Shape := ⟨4, ![1, 4, 1, 1]⟩
abbrev S4x4224x128 : Shape := ⟨3, ![4, 4224, 128]⟩
abbrev S4224x4x128 : Shape := ⟨3, ![4224, 4, 128]⟩
abbrev S4224x512 : Shape := ⟨2, ![4224, 512]⟩
abbrev S4224x1536 : Shape := ⟨2, ![4224, 1536]⟩
abbrev S4x33x128x128 : Shape := ⟨4, ![4, 33, 128, 128]⟩
abbrev S384x512 : Shape := ⟨2, ![384, 512]⟩
abbrev S4x3x128x128 : Shape := ⟨4, ![4, 3, 128, 128]⟩
abbrev S1x1x128x128 : Shape := ⟨4, ![1, 1, 128, 128]⟩

abbrev nBuf : Space → Nat
  | .hbm => 253
  | .vmem => 12
  | .smem => 0
  | _ => 0

abbrev hbmTy0_0 (i : Nat) : BufTy := match i % 128 with
  | 0 => ⟨S1x4112x512, .f32⟩
  | 1 => ⟨S1x4112x512, .f32⟩
  | 2 => ⟨S1x4112x512, .f32⟩
  | 3 => ⟨S128, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S128, .i32⟩
  | 11 => ⟨S128, .i32⟩
  | 12 => ⟨S_, .i32⟩
  | 13 => ⟨S128, .i32⟩
  | 14 => ⟨S128, .i1⟩
  | 15 => ⟨S_, .i32⟩
  | 16 => ⟨S128, .i32⟩
  | 17 => ⟨S128, .i1⟩
  | 18 => ⟨S_, .i32⟩
  | 19 => ⟨S_, .i1⟩
  | 20 => ⟨S128, .i1⟩
  | 21 => ⟨S128, .i1⟩
  | 22 => ⟨S128, .i1⟩
  | 23 => ⟨S128, .i32⟩
  | 24 => ⟨S128, .i32⟩
  | 25 => ⟨S128, .i32⟩
  | 26 => ⟨S128, .f32⟩
  | 27 => ⟨S128, .f32⟩
  | 28 => ⟨S_, .f32⟩
  | 29 => ⟨S128, .f32⟩
  | 30 => ⟨S128, .f32⟩
  | 31 => ⟨S_, .f32⟩
  | 32 => ⟨S128, .f32⟩
  | 33 => ⟨S128, .f32⟩
  | 34 => ⟨S4224, .f32⟩
  | 35 => ⟨S_, .f32⟩
  | 36 => ⟨S4224, .f32⟩
  | 37 => ⟨S4224, .f32⟩
  | 38 => ⟨S_, .f32⟩
  | 39 => ⟨S4224, .f32⟩
  | 40 => ⟨S4224, .f32⟩
  | 41 => ⟨S4224x1, .f32⟩
  | 42 => ⟨S1x128, .f32⟩
  | 43 => ⟨S4224x128, .f32⟩
  | 44 => ⟨S4224x128, .f32⟩
  | 45 => ⟨S4224x128, .f32⟩
  | 46 => ⟨S4224x128, .f32⟩
  | 47 => ⟨S1x128, .i32⟩
  | 48 => ⟨S_, .i32⟩
  | 49 => ⟨S1x128, .i32⟩
  | 50 => ⟨S1x128, .i1⟩
  | 51 => ⟨S_, .f32⟩
  | 52 => ⟨S_, .f32⟩
  | 53 => ⟨S1x128, .f32⟩
  | 54 => ⟨S1x128, .f32⟩
  | 55 => ⟨S1x128, .f32⟩
  | 56 => ⟨S4224x128, .f32⟩
  | 57 => ⟨S1x128, .f32⟩
  | 58 => ⟨S4224x128, .f32⟩
  | 59 => ⟨S4224x128, .f32⟩
  | 60 => ⟨S4, .f32⟩
  | 61 => ⟨S_, .f32⟩
  | 62 => ⟨S4, .f32⟩
  | 63 => ⟨S4, .f32⟩
  | 64 => ⟨S_, .f32⟩
  | 65 => ⟨S4, .f32⟩
  | 66 => ⟨S4, .f32⟩
  | 67 => ⟨S4, .f32⟩
  | 68 => ⟨S4, .f32⟩
  | 69 => ⟨S128, .f32⟩
  | 70 => ⟨S128x1, .f32⟩
  | 71 => ⟨S1x128, .f32⟩
  | 72 => ⟨S128x128, .f32⟩
  | 73 => ⟨S128x128, .f32⟩
  | 74 => ⟨S128x128, .f32⟩
  | 75 => ⟨S1x128x128, .f32⟩
  | 76 => ⟨S_, .f32⟩
  | 77 => ⟨S1x128x128, .f32⟩
  | 78 => ⟨S1x128x128, .i1⟩
  | 79 => ⟨S1x128x128, .f32⟩
  | 80 => ⟨S4x1x1, .f32⟩
  | 81 => ⟨S4x128x128, .f32⟩
  | 82 => ⟨S4x128x128, .f32⟩
  | 83 => ⟨S4x128x128, .f32⟩
  | 84 => ⟨S4x128x128, .f32⟩
  | 85 => ⟨S_, .f32⟩
  | 86 => ⟨S_, .f32⟩
  | 87 => ⟨S4x128x128, .i1⟩
  | 88 => ⟨S4x128x128, .f32⟩
  | 89 => ⟨S4x128x128, .f32⟩
  | 90 => ⟨S_, .f32⟩
  | 91 => ⟨S128, .f32⟩
  | 92 => ⟨S128, .f32⟩
  | 93 => ⟨S1x128, .f32⟩
  | 94 => ⟨S4x1, .f32⟩
  | 95 => ⟨S4x128, .f32⟩
  | 96 => ⟨S4x128, .f32⟩
  | 97 => ⟨S4x128, .f32⟩
  | 98 => ⟨S4x128, .f32⟩
  | 99 => ⟨S_, .f32⟩
  | 100 => ⟨S128, .f32⟩
  | 101 => ⟨S128, .f32⟩
  | 102 => ⟨S1x128, .f32⟩
  | 103 => ⟨S4x1, .f32⟩
  | 104 => ⟨S4x128, .f32⟩
  | 105 => ⟨S4x128, .f32⟩
  | 106 => ⟨S4x128, .f32⟩
  | 107 => ⟨S4x128, .f32⟩
  | 108 => ⟨S_, .f32⟩
  | 109 => ⟨S4, .f32⟩
  | 110 => ⟨S4, .f32⟩
  | 111 => ⟨S4, .f32⟩
  | 112 => ⟨S4x128x1, .f32⟩
  | 113 => ⟨S4x128x128, .f32⟩
  | 114 => ⟨S4x128x1, .f32⟩
  | 115 => ⟨S4x128x128, .f32⟩
  | 116 => ⟨S4x1x1, .f32⟩
  | 117 => ⟨S4x128x128, .f32⟩
  | 118 => ⟨S4x1x128x128, .f32⟩
  | 119 => ⟨S4x1x128x128, .f32⟩
  | 120 => ⟨S4x1x128x128, .f32⟩
  | 121 => ⟨S4x1x128x128, .f32⟩
  | 122 => ⟨S4x4x128x128, .f32⟩
  | 123 => ⟨S1x4112x4x128, .f32⟩
  | 124 => ⟨S1x4x4112x128, .f32⟩
  | 125 => ⟨S_, .f32⟩
  | 126 => ⟨S1x4x112x128, .f32⟩
  | 127 => ⟨S1x4x4224x128, .f32⟩
  | _ => ⟨S1x4112x512, .f32⟩

abbrev hbmTy0_1 (i : Nat) : BufTy := match i % 128 with
  | 0 => ⟨S1x4112x4x128, .f32⟩
  | 1 => ⟨S1x4x4112x128, .f32⟩
  | 2 => ⟨S_, .f32⟩
  | 3 => ⟨S1x4x112x128, .f32⟩
  | 4 => ⟨S1x4x4224x128, .f32⟩
  | 5 => ⟨S1x4112x4x128, .f32⟩
  | 6 => ⟨S1x4x4112x128, .f32⟩
  | 7 => ⟨S_, .f32⟩
  | 8 => ⟨S1x4x112x128, .f32⟩
  | 9 => ⟨S1x4x4224x128, .f32⟩
  | 10 => ⟨S4224, .f32⟩
  | 11 => ⟨S_, .f32⟩
  | 12 => ⟨S4224, .f32⟩
  | 13 => ⟨S4224, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S4224x1, .f32⟩
  | 23 => ⟨S1x64, .f32⟩
  | 24 => ⟨S4224x64, .f32⟩
  | 25 => ⟨S4224x64, .f32⟩
  | 26 => ⟨S4224x64, .f32⟩
  | 27 => ⟨S4224x64, .f32⟩
  | 28 => ⟨S4224x64, .f32⟩
  | 29 => ⟨S1x4x4224x64, .f32⟩
  | 30 => ⟨S1x4x4224x64, .f32⟩
  | 31 => ⟨S1x1x4224x64, .f32⟩
  | 32 => ⟨S1x4x4224x64, .f32⟩
  | 33 => ⟨S1x4x4224x64, .f32⟩
  | 34 => ⟨S1x1x4224x64, .f32⟩
  | 35 => ⟨S1x4x4224x64, .f32⟩
  | 36 => ⟨S1x4x4224x64, .f32⟩
  | 37 => ⟨S1x4x4224x64, .f32⟩
  | 38 => ⟨S1x1x4224x64, .f32⟩
  | 39 => ⟨S1x4x4224x64, .f32⟩
  | 40 => ⟨S1x4x4224x64, .f32⟩
  | 41 => ⟨S1x1x4224x64, .f32⟩
  | 42 => ⟨S1x4x4224x64, .f32⟩
  | 43 => ⟨S1x4x4224x64, .f32⟩
  | 44 => ⟨S1x4x4224x64, .f32⟩
  | 45 => ⟨S1x4x4224x128, .f32⟩
  | 46 => ⟨S_, .f32⟩
  | 47 => ⟨S1x4x4224x128, .f32⟩
  | 48 => ⟨S1x4x4224x128, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S4224x1, .f32⟩
  | 58 => ⟨S1x64, .f32⟩
  | 59 => ⟨S4224x64, .f32⟩
  | 60 => ⟨S4224x64, .f32⟩
  | 61 => ⟨S4224x64, .f32⟩
  | 62 => ⟨S4224x64, .f32⟩
  | 63 => ⟨S4224x64, .f32⟩
  | 64 => ⟨S1x4x4224x64, .f32⟩
  | 65 => ⟨S1x4x4224x64, .f32⟩
  | 66 => ⟨S1x1x4224x64, .f32⟩
  | 67 => ⟨S1x4x4224x64, .f32⟩
  | 68 => ⟨S1x4x4224x64, .f32⟩
  | 69 => ⟨S1x1x4224x64, .f32⟩
  | 70 => ⟨S1x4x4224x64, .f32⟩
  | 71 => ⟨S1x4x4224x64, .f32⟩
  | 72 => ⟨S1x4x4224x64, .f32⟩
  | 73 => ⟨S1x1x4224x64, .f32⟩
  | 74 => ⟨S1x4x4224x64, .f32⟩
  | 75 => ⟨S1x4x4224x64, .f32⟩
  | 76 => ⟨S1x1x4224x64, .f32⟩
  | 77 => ⟨S1x4x4224x64, .f32⟩
  | 78 => ⟨S1x4x4224x64, .f32⟩
  | 79 => ⟨S1x4x4224x64, .f32⟩
  | 80 => ⟨S1x4x4224x128, .f32⟩
  | 81 => ⟨S1x4x33x128x128, .f32⟩
  | 82 => ⟨S1x4x33x128x128, .f32⟩
  | 83 => ⟨S1x4x33x128x128, .f32⟩
  | 84 => ⟨S4, .f32⟩
  | 85 => ⟨S_, .f32⟩
  | 86 => ⟨S4, .f32⟩
  | 87 => ⟨S4, .f32⟩
  | 88 => ⟨S_, .f32⟩
  | 89 => ⟨S4, .f32⟩
  | 90 => ⟨S4, .f32⟩
  | 91 => ⟨S4, .f32⟩
  | 92 => ⟨S4, .f32⟩
  | 93 => ⟨S128, .f32⟩
  | 94 => ⟨S_, .f32⟩
  | 95 => ⟨S128, .f32⟩
  | 96 => ⟨S128, .f32⟩
  | 97 => ⟨S1x128, .f32⟩
  | 98 => ⟨S4x1, .f32⟩
  | 99 => ⟨S4x128, .f32⟩
  | 100 => ⟨S4x128, .f32⟩
  | 101 => ⟨S4x128, .f32⟩
  | 102 => ⟨S4x128, .f32⟩
  | 103 => ⟨S_, .f32⟩
  | 104 => ⟨S4, .f32⟩
  | 105 => ⟨S4, .f32⟩
  | 106 => ⟨S4, .f32⟩
  | 107 => ⟨S1x4x1x128x1, .f32⟩
  | 108 => ⟨S1x4x33x128x128, .f32⟩
  | 109 => ⟨S1x4x33x128x128, .f32⟩
  | 110 => ⟨S33x1x4x128x128, .f32⟩
  | 111 => ⟨S1x4x1x1, .f32⟩
  | 112 => ⟨S4x4224x128, .f32⟩
  | 113 => ⟨S4224x4x128, .f32⟩
  | 114 => ⟨S4224x512, .f32⟩
  | 115 => ⟨S4x4224x128, .f32⟩
  | 116 => ⟨S4224x4x128, .f32⟩
  | 117 => ⟨S4224x512, .f32⟩
  | 118 => ⟨S4x4224x128, .f32⟩
  | 119 => ⟨S4224x4x128, .f32⟩
  | 120 => ⟨S4224x512, .f32⟩
  | 121 => ⟨S4224x1536, .f32⟩
  | 122 => ⟨S4224x1536, .bf16⟩
  | 123 => ⟨S4224x512, .bf16⟩
  | 124 => ⟨S4x33x128x128, .bf16⟩
  | _ => ⟨S1x4112x512, .f32⟩

abbrev hbmTy (i : Nat) : BufTy := match i / 128 with
  | 0 => hbmTy0_0 i
  | 1 => hbmTy0_1 i
  | _ => ⟨S1x4112x512, .f32⟩

abbrev bufTy : (tb : Table) → Fin (tcTables nBuf tb) → BufTy
  | .hbm, ⟨i, _⟩ => hbmTy i
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S4x4x128x128, .f32⟩
  | .local _ .vmem, ⟨7, _⟩ => ⟨S384x512, .bf16⟩
  | .local _ .vmem, ⟨8, _⟩ => ⟨S384x512, .bf16⟩
  | .local _ .vmem, ⟨9, _⟩ => ⟨S4x3x128x128, .bf16⟩
  | .local _ .vmem, ⟨10, _⟩ => ⟨S4x3x128x128, .bf16⟩
  | .local _ .vmem, ⟨11, _⟩ => ⟨S4x128x128, .f32⟩
  | _, _ => ⟨S1x4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_v20 : Ref sig .tc := ⟨.hbm, 49, rfl⟩
abbrev main_v21 : Ref sig .tc := ⟨.hbm, 50, rfl⟩
abbrev main_cst_4 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_8 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_9 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v49 : Ref sig .tc := ⟨.hbm, 89, rfl⟩
abbrev main_cst_10 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_11 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_12 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_13 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_14 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_15 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_16 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_17 : Ref sig .tc := ⟨.hbm, 144, rfl⟩
abbrev main_v97 : Ref sig .tc := ⟨.hbm, 145, rfl⟩
abbrev main_v98 : Ref sig .tc := ⟨.hbm, 146, rfl⟩
abbrev main_cst_18 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_19 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_20 : Ref sig .tc := ⟨.hbm, 179, rfl⟩
abbrev main_v129 : Ref sig .tc := ⟨.hbm, 180, rfl⟩
abbrev main_v130 : Ref sig .tc := ⟨.hbm, 181, rfl⟩
abbrev main_cst_21 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_22 : Ref sig .tc := ⟨.hbm, 213, rfl⟩
abbrev main_v161 : Ref sig .tc := ⟨.hbm, 214, rfl⟩
abbrev main_v162 : Ref sig .tc := ⟨.hbm, 215, rfl⟩
abbrev main_cst_23 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_24 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_cst_25 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195_0 : Ref sig .tc := ⟨.hbm, 251, rfl⟩
abbrev main_v195_1 : Ref sig .tc := ⟨.hbm, 252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x3x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdRefIdeal.lean ====
abbrev S1x4112x512 : Shape := ⟨3, ![1, 4112, 512]⟩
abbrev S1x4112x4x128 : Shape := ⟨4, ![1, 4112, 4, 128]⟩
abbrev S1x4x4112x128 : Shape := ⟨4, ![1, 4, 4112, 128]⟩
abbrev S_ : Shape := ⟨0, ![]⟩
abbrev S1x4x112x128 : Shape := ⟨4, ![1, 4, 112, 128]⟩
abbrev S1x4x4224x128 : Shape := ⟨4, ![1, 4, 4224, 128]⟩
abbrev S4224 : Shape := ⟨1, ![4224]⟩
abbrev S64 : Shape := ⟨1, ![64]⟩
abbrev S4224x1 : Shape := ⟨2, ![4224, 1]⟩
abbrev S1x64 : Shape := ⟨2, ![1, 64]⟩
abbrev S4224x64 : Shape := ⟨2, ![4224, 64]⟩
abbrev S1x4x4224x64 : Shape := ⟨4, ![1, 4, 4224, 64]⟩
abbrev S1x1x4224x64 : Shape := ⟨4, ![1, 1, 4224, 64]⟩
abbrev S1x4x33x128x128 : Shape := ⟨5, ![1, 4, 33, 128, 128]⟩
abbrev S4 : Shape := ⟨1, ![4]⟩
abbrev S128 : Shape := ⟨1, ![128]⟩
abbrev S1x128 : Shape := ⟨2, ![1, 128]⟩
abbrev S4x1 : Shape := ⟨2, ![4, 1]⟩
abbrev S4x128 : Shape := ⟨2, ![4, 128]⟩
abbrev S1x4x1x128x1 : Shape := ⟨5, ![1, 4, 1, 128, 1]⟩
abbrev S33x1x4x128x128 : Shape := ⟨5, ![33, 1, 4, 128, 128]⟩
abbrev S1x4x1x1 : Shape := ⟨4, ![1, 4, 1, 1]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4x1x128x128 : Shape := ⟨5, ![1, 4, 1, 128, 128]⟩
abbrev S1x4x128x128 : Shape := ⟨4, ![1, 4, 128, 128]⟩
abbrev S1x1x4x128x128 : Shape := ⟨5, ![1, 1, 4, 128, 128]⟩
abbrev S1x4224x4x128 : Shape := ⟨4, ![1, 4224, 4, 128]⟩
abbrev S4224x512 : Shape := ⟨2, ![4224, 512]⟩
abbrev S33x4x128x128 : Shape := ⟨4, ![33, 4, 128, 128]⟩
abbrev S4x33x128x128 : Shape := ⟨4, ![4, 33, 128, 128]⟩

abbrev nBuf : Space → Nat
  | .hbm => 195
  | .vmem => 0
  | .smem => 0
  | _ => 0

abbrev hbmTy0_0 (i : Nat) : BufTy := match i % 128 with
  | 0 => ⟨S1x4112x512, .f32⟩
  | 1 => ⟨S1x4112x512, .f32⟩
  | 2 => ⟨S1x4112x512, .f32⟩
  | 3 => ⟨S1x4112x4x128, .f32⟩
  | 4 => ⟨S1x4x4112x128, .f32⟩
  | 5 => ⟨S_, .f32⟩
  | 6 => ⟨S1x4x112x128, .f32⟩
  | 7 => ⟨S1x4x4224x128, .f32⟩
  | 8 => ⟨S1x4112x4x128, .f32⟩
  | 9 => ⟨S1x4x4112x128, .f32⟩
  | 10 => ⟨S_, .f32⟩
  | 11 => ⟨S1x4x112x128, .f32⟩
  | 12 => ⟨S1x4x4224x128, .f32⟩
  | 13 => ⟨S1x4112x4x128, .f32⟩
  | 14 => ⟨S1x4x4112x128, .f32⟩
  | 15 => ⟨S_, .f32⟩
  | 16 => ⟨S1x4x112x128, .f32⟩
  | 17 => ⟨S1x4x4224x128, .f32⟩
  | 18 => ⟨S4224, .f32⟩
  | 19 => ⟨S_, .f32⟩
  | 20 => ⟨S4224, .f32⟩
  | 21 => ⟨S4224, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S4224x1, .f32⟩
  | 31 => ⟨S1x64, .f32⟩
  | 32 => ⟨S4224x64, .f32⟩
  | 33 => ⟨S4224x64, .f32⟩
  | 34 => ⟨S4224x64, .f32⟩
  | 35 => ⟨S4224x64, .f32⟩
  | 36 => ⟨S4224x64, .f32⟩
  | 37 => ⟨S1x4x4224x64, .f32⟩
  | 38 => ⟨S1x4x4224x64, .f32⟩
  | 39 => ⟨S1x1x4224x64, .f32⟩
  | 40 => ⟨S1x4x4224x64, .f32⟩
  | 41 => ⟨S1x4x4224x64, .f32⟩
  | 42 => ⟨S1x1x4224x64, .f32⟩
  | 43 => ⟨S1x4x4224x64, .f32⟩
  | 44 => ⟨S1x4x4224x64, .f32⟩
  | 45 => ⟨S1x4x4224x64, .f32⟩
  | 46 => ⟨S1x1x4224x64, .f32⟩
  | 47 => ⟨S1x4x4224x64, .f32⟩
  | 48 => ⟨S1x4x4224x64, .f32⟩
  | 49 => ⟨S1x1x4224x64, .f32⟩
  | 50 => ⟨S1x4x4224x64, .f32⟩
  | 51 => ⟨S1x4x4224x64, .f32⟩
  | 52 => ⟨S1x4x4224x64, .f32⟩
  | 53 => ⟨S1x4x4224x128, .f32⟩
  | 54 => ⟨S_, .f32⟩
  | 55 => ⟨S1x4x4224x128, .f32⟩
  | 56 => ⟨S1x4x4224x128, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S4224x1, .f32⟩
  | 66 => ⟨S1x64, .f32⟩
  | 67 => ⟨S4224x64, .f32⟩
  | 68 => ⟨S4224x64, .f32⟩
  | 69 => ⟨S4224x64, .f32⟩
  | 70 => ⟨S4224x64, .f32⟩
  | 71 => ⟨S4224x64, .f32⟩
  | 72 => ⟨S1x4x4224x64, .f32⟩
  | 73 => ⟨S1x4x4224x64, .f32⟩
  | 74 => ⟨S1x1x4224x64, .f32⟩
  | 75 => ⟨S1x4x4224x64, .f32⟩
  | 76 => ⟨S1x4x4224x64, .f32⟩
  | 77 => ⟨S1x1x4224x64, .f32⟩
  | 78 => ⟨S1x4x4224x64, .f32⟩
  | 79 => ⟨S1x4x4224x64, .f32⟩
  | 80 => ⟨S1x4x4224x64, .f32⟩
  | 81 => ⟨S1x1x4224x64, .f32⟩
  | 82 => ⟨S1x4x4224x64, .f32⟩
  | 83 => ⟨S1x4x4224x64, .f32⟩
  | 84 => ⟨S1x1x4224x64, .f32⟩
  | 85 => ⟨S1x4x4224x64, .f32⟩
  | 86 => ⟨S1x4x4224x64, .f32⟩
  | 87 => ⟨S1x4x4224x64, .f32⟩
  | 88 => ⟨S1x4x4224x128, .f32⟩
  | 89 => ⟨S1x4x33x128x128, .f32⟩
  | 90 => ⟨S1x4x33x128x128, .f32⟩
  | 91 => ⟨S1x4x33x128x128, .f32⟩
  | 92 => ⟨S4, .f32⟩
  | 93 => ⟨S_, .f32⟩
  | 94 => ⟨S4, .f32⟩
  | 95 => ⟨S4, .f32⟩
  | 96 => ⟨S_, .f32⟩
  | 97 => ⟨S4, .f32⟩
  | 98 => ⟨S4, .f32⟩
  | 99 => ⟨S4, .f32⟩
  | 100 => ⟨S4, .f32⟩
  | 101 => ⟨S128, .f32⟩
  | 102 => ⟨S_, .f32⟩
  | 103 => ⟨S128, .f32⟩
  | 104 => ⟨S128, .f32⟩
  | 105 => ⟨S1x128, .f32⟩
  | 106 => ⟨S4x1, .f32⟩
  | 107 => ⟨S4x128, .f32⟩
  | 108 => ⟨S4x128, .f32⟩
  | 109 => ⟨S4x128, .f32⟩
  | 110 => ⟨S4x128, .f32⟩
  | 111 => ⟨S_, .f32⟩
  | 112 => ⟨S4, .f32⟩
  | 113 => ⟨S4, .f32⟩
  | 114 => ⟨S4, .f32⟩
  | 115 => ⟨S1x4x1x128x1, .f32⟩
  | 116 => ⟨S1x4x33x128x128, .f32⟩
  | 117 => ⟨S1x4x33x128x128, .f32⟩
  | 118 => ⟨S33x1x4x128x128, .f32⟩
  | 119 => ⟨S1x4x1x1, .f32⟩
  | 120 => ⟨S128x1, .f32⟩
  | 121 => ⟨S1x128, .f32⟩
  | 122 => ⟨S128x128, .f32⟩
  | 123 => ⟨S128x128, .f32⟩
  | 124 => ⟨S128x128, .f32⟩
  | 125 => ⟨S1x128x128, .f32⟩
  | 126 => ⟨S_, .f32⟩
  | 127 => ⟨S1x128x128, .f32⟩
  | _ => ⟨S1x4112x512, .f32⟩

abbrev hbmTy0_1 (i : Nat) : BufTy := match i % 128 with
  | 0 => ⟨S1x128x128, .i1⟩
  | 1 => ⟨S1x128x128, .f32⟩
  | 2 => ⟨S4x1x1, .f32⟩
  | 3 => ⟨S4x128x128, .f32⟩
  | 4 => ⟨S4x128x128, .f32⟩
  | 5 => ⟨S4x128x128, .f32⟩
  | 6 => ⟨S4x128x128, .f32⟩
  | 7 => ⟨S_, .f32⟩
  | 8 => ⟨S_, .f32⟩
  | 9 => ⟨S4x128x128, .i1⟩
  | 10 => ⟨S4x128x128, .f32⟩
  | 11 => ⟨S4x128x128, .f32⟩
  | 12 => ⟨S_, .f32⟩
  | 13 => ⟨S128, .f32⟩
  | 14 => ⟨S128, .f32⟩
  | 15 => ⟨S1x128, .f32⟩
  | 16 => ⟨S4x1, .f32⟩
  | 17 => ⟨S4x128, .f32⟩
  | 18 => ⟨S4x128, .f32⟩
  | 19 => ⟨S4x128, .f32⟩
  | 20 => ⟨S4x128, .f32⟩
  | 21 => ⟨S1x4x33x128x128, .f32⟩
  | 22 => ⟨S1x4x1x128x128, .f32⟩
  | 23 => ⟨S1x4x33x128x128, .f32⟩
  | 24 => ⟨S1x4x33x128x128, .f32⟩
  | 25 => ⟨S1x4x33x128x128, .f32⟩
  | 26 => ⟨S_, .f32⟩
  | 27 => ⟨S1x4x128x128, .f32⟩
  | 28 => ⟨S_, .f32⟩
  | 29 => ⟨S33x1x4x128x128, .f32⟩
  | 30 => ⟨S_, .i32⟩
  | 31 => ⟨S33x1x4x128x128, .f32⟩
  | 32 => ⟨S1x4x1x1, .f32⟩
  | 33 => ⟨S_, .i32⟩
  | 34 => ⟨S1x4x128x128, .f32⟩
  | 35 => ⟨S33x1x4x128x128, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1x1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x1x4x128x128, .f32⟩
  | 48 => ⟨S_, .i32⟩
  | 49 => ⟨S_, .i32⟩
  | 50 => ⟨S_, .i32⟩
  | 51 => ⟨S_, .i32⟩
  | 52 => ⟨S33x1x4x128x128, .f32⟩
  | 53 => ⟨S_, .i32⟩
  | 54 => ⟨S_, .i32⟩
  | 55 => ⟨S1x4x1x128x1, .f32⟩
  | 56 => ⟨S1x4x33x128x128, .f32⟩
  | 57 => ⟨S1x4x33x128x128, .f32⟩
  | 58 => ⟨S1x4x33x128x128, .f32⟩
  | 59 => ⟨S1x4x33x128x128, .f32⟩
  | 60 => ⟨S1x4x4224x128, .f32⟩
  | 61 => ⟨S1x4224x4x128, .f32⟩
  | 62 => ⟨S4224x512, .f32⟩
  | 63 => ⟨S4224x512, .bf16⟩
  | 64 => ⟨S33x4x128x128, .f32⟩
  | 65 => ⟨S4x33x128x128, .f32⟩
  | 66 => ⟨S4x33x128x128, .bf16⟩
  | _ => ⟨S1x4112x512, .f32⟩

abbrev hbmTy (i : Nat) : BufTy := match i / 128 with
  | 0 => hbmTy0_0 i
  | 1 => hbmTy0_1 i
  | _ => ⟨S1x4112x512, .f32⟩

abbrev bufTy : (tb : Table) → Fin (tcTables nBuf tb) → BufTy
  | .hbm, ⟨i, _⟩ => hbmTy i
  | _, _ => ⟨S1x4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_8 : Ref sig .tc := ⟨.hbm, 93, rfl⟩
abbrev main_v81 : Ref sig .tc := ⟨.hbm, 94, rfl⟩
abbrev main_v82 : Ref sig .tc := ⟨.hbm, 95, rfl⟩
abbrev main_cst_9 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_10 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_11 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_cst_12 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_cst_13 : Ref sig .tc := ⟨.hbm, 135, rfl⟩
abbrev main_call0_v0 : Ref sig .tc := ⟨.hbm, 136, rfl⟩
abbrev main_call0_v1 : Ref sig .tc := ⟨.hbm, 137, rfl⟩
abbrev main_call0_v2 : Ref sig .tc := ⟨.hbm, 138, rfl⟩
abbrev main_v118 : Ref sig .tc := ⟨.hbm, 139, rfl⟩
abbrev main_cst_14 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_15 : Ref sig .tc := ⟨.hbm, 154, rfl⟩
abbrev main_v132 : Ref sig .tc := ⟨.hbm, 155, rfl⟩
abbrev main_cst_16 : Ref sig .tc := ⟨.hbm, 156, rfl⟩
abbrev main_v133 : Ref sig .tc := ⟨.hbm, 157, rfl⟩
abbrev main_c : Ref sig .tc := ⟨.hbm, 158, rfl⟩
abbrev main_v134_0 : Ref sig .tc := ⟨.hbm, 159, rfl⟩
abbrev main_v134_1 : Ref sig .tc := ⟨.hbm, 160, rfl⟩
abbrev main_v134_2 : Ref sig .tc := ⟨.hbm, 161, rfl⟩
abbrev main_v134_3 : Ref sig .tc := ⟨.hbm, 162, rfl⟩
abbrev main_v134_4 : Ref sig .tc := ⟨.hbm, 163, rfl⟩
abbrev main_while0c_c_21 : Ref sig .tc := ⟨.hbm, 164, rfl⟩
abbrev main_while0c_v147 : Ref sig .tc := ⟨.hbm, 165, rfl⟩
abbrev main_while0b_call1_c : Ref sig .tc := ⟨.hbm, 166, rfl⟩
abbrev main_while0b_call1_c_0 : Ref sig .tc := ⟨.hbm, 167, rfl⟩
abbrev main_while0b_call1_c_1 : Ref sig .tc := ⟨.hbm, 168, rfl⟩
abbrev main_while0b_call1_c_2 : Ref sig .tc := ⟨.hbm, 169, rfl⟩
abbrev main_while0b_call1_v0 : Ref sig .tc := ⟨.hbm, 170, rfl⟩
abbrev main_while0b_v147 : Ref sig .tc := ⟨.hbm, 171, rfl⟩
abbrev main_while0b_v148 : Ref sig .tc := ⟨.hbm, 172, rfl⟩
abbrev main_while0b_v149 : Ref sig .tc := ⟨.hbm, 173, rfl⟩
abbrev main_while0b_v150 : Ref sig .tc := ⟨.hbm, 174, rfl⟩
abbrev main_while0b_call2_v0 : Ref sig .tc := ⟨.hbm, 175, rfl⟩
abbrev main_while0b_call2_c : Ref sig .tc := ⟨.hbm, 176, rfl⟩
abbrev main_while0b_call2_c_0 : Ref sig .tc := ⟨.hbm, 177, rfl⟩
abbrev main_while0b_call2_c_1 : Ref sig .tc := ⟨.hbm, 178, rfl⟩
abbrev main_while0b_call2_c_2 : Ref sig .tc := ⟨.hbm, 179, rfl⟩
abbrev main_while0b_v151 : Ref sig .tc := ⟨.hbm, 180, rfl⟩
abbrev main_while0b_c_21 : Ref sig .tc := ⟨.hbm, 181, rfl⟩
abbrev main_while0b_v152 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩

abbrev nD : Nat := 1
abbrev τ : Topo := Topo.v7x

variable {F : FTy → Type} [FloatOps F]

abbrev main_while0_count : Scf.Loop 32 := ⟨0#32, 33#32, 1#32⟩
-- ==== Wgrad.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩
abbrev S1x4224x2816 : Shape := ⟨3, ![1, 4224, 2816]⟩
abbrev S3x4224x2816 : Shape := ⟨3, ![3, 4224, 2816]⟩
abbrev S1x4224x1024 : Shape := ⟨3, ![1, 4224, 1024]⟩
abbrev S2x4224x1024 : Shape := ⟨3, ![2, 4224, 1024]⟩
abbrev S3x2816x1024 : Shape := ⟨3, ![3, 2816, 1024]⟩
abbrev S1x4224x1408 : Shape := ⟨3, ![1, 4224, 1408]⟩
abbrev S1x1408x1024 : Shape := ⟨3, ![1, 1408, 1024]⟩
abbrev S8x128 : Shape := ⟨2, ![8, 128]⟩
abbrev S4224x1408 : Shape := ⟨2, ![4224, 1408]⟩
abbrev S1408x1024 : Shape := ⟨2, ![1408, 1024]⟩

abbrev nBuf : Space → Nat
  | .hbm => 75
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S_, .f32⟩
  | .hbm, ⟨27, _⟩ => ⟨S4224x2816, .f32⟩
  | .hbm, ⟨28, _⟩ => ⟨S4224x2816, .f32⟩
  | .hbm, ⟨29, _⟩ => ⟨S_, .f32⟩
  | .hbm, ⟨30, _⟩ => ⟨S4224x2816, .f32⟩
  | .hbm, ⟨31, _⟩ => ⟨S4224x2816, .f32⟩
  | .hbm, ⟨32, _⟩ => ⟨S_, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S4224x2816, .f32⟩
  | .hbm, ⟨37, _⟩ => ⟨S4224x2816, .f32⟩
  | .hbm, ⟨38, _⟩ => ⟨S4224x1024, .f32⟩
  | .hbm, ⟨39, _⟩ => ⟨S_, .f32⟩
  | .hbm, ⟨40, _⟩ => ⟨S4224x1024, .f32⟩
  | .hbm, ⟨41, _⟩ => ⟨S4224x1024, .f32⟩
  | .hbm, ⟨42, _⟩ => ⟨S_, .f32⟩
  | .hbm, ⟨43, _⟩ => ⟨S4224x1024, .f32⟩
  | .hbm, ⟨44, _⟩ => ⟨S4224x1024, .f32⟩
  | .hbm, ⟨45, _⟩ => ⟨S4224x2816, .f32⟩
  | .hbm, ⟨46, _⟩ => ⟨S4224x2816, .f32⟩
  | .hbm, ⟨47, _⟩ => ⟨S4224x2816, .f32⟩
  | .hbm, ⟨48, _⟩ => ⟨S4224x2816, .f32⟩
  | .hbm, ⟨49, _⟩ => ⟨S4224x2816, .f32⟩
  | .hbm, ⟨50, _⟩ => ⟨S4224x2816, .f32⟩
  | .hbm, ⟨51, _⟩ => ⟨S4224x2816, .f32⟩
  | .hbm, ⟨52, _⟩ => ⟨S4224x2816, .f32⟩
  | .hbm, ⟨53, _⟩ => ⟨S4224x2816, .f32⟩
  | .hbm, ⟨54, _⟩ => ⟨S_, .f32⟩
  | .hbm, ⟨55, _⟩ => ⟨S4224x2816, .f32⟩
  | .hbm, ⟨56, _⟩ => ⟨S4224x2816, .f32⟩
  | .hbm, ⟨57, _⟩ => ⟨S_, .f32⟩
  | .hbm, ⟨58, _⟩ => ⟨S4224x2816, .f32⟩
  | .hbm, ⟨59, _⟩ => ⟨S4224x2816, .f32⟩
  | .hbm, ⟨60, _⟩ => ⟨S4224x2816, .f32⟩
  | .hbm, ⟨61, _⟩ => ⟨S4224x2816, .f32⟩
  | .hbm, ⟨62, _⟩ => ⟨S1x4224x2816, .f32⟩
  | .hbm, ⟨63, _⟩ => ⟨S1x4224x2816, .f32⟩
  | .hbm, ⟨64, _⟩ => ⟨S1x4224x2816, .f32⟩
  | .hbm, ⟨65, _⟩ => ⟨S3x4224x2816, .f32⟩
  | .hbm, ⟨66, _⟩ => ⟨S3x4224x2816, .bf16⟩
  | .hbm, ⟨67, _⟩ => ⟨S_, .f32⟩
  | .hbm, ⟨68, _⟩ => ⟨S4224x1024, .f32⟩
  | .hbm, ⟨69, _⟩ => ⟨S4224x1024, .f32⟩
  | .hbm, ⟨70, _⟩ => ⟨S1x4224x1024, .f32⟩
  | .hbm, ⟨71, _⟩ => ⟨S1x4224x1024, .f32⟩
  | .hbm, ⟨72, _⟩ => ⟨S2x4224x1024, .f32⟩
  | .hbm, ⟨73, _⟩ => ⟨S2x4224x1024, .bf16⟩
  | .hbm, ⟨74, _⟩ => ⟨S3x2816x1024, .bf16⟩
  | .local _ .vmem, ⟨0, _⟩ => ⟨S1x4224x1408, .bf16⟩
  | .local _ .vmem, ⟨1, _⟩ => ⟨S1x4224x1408, .bf16⟩
  | .local _ .vmem, ⟨2, _⟩ => ⟨S1x4224x1024, .bf16⟩
  | .local _ .vmem, ⟨3, _⟩ => ⟨S1x4224x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_4 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, arg2.toNat, c0_i32_5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x4224x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradRefIdeal.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩
abbrev S1x2816x1024 : Shape := ⟨3, ![1, 2816, 1024]⟩
abbrev S3x2816x1024 : Shape := ⟨3, ![3, 2816, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S_, .f32⟩
  | .hbm, ⟨26, _⟩ => ⟨S4224x2816, .f32⟩
  | .hbm, ⟨27, _⟩ => ⟨S4224x2816, .f32⟩
  | .hbm, ⟨28, _⟩ => ⟨S_, .f32⟩
  | .hbm, ⟨29, _⟩ => ⟨S4224x2816, .f32⟩
  | .hbm, ⟨30, _⟩ => ⟨S4224x2816, .f32⟩
  | .hbm, ⟨31, _⟩ => ⟨S_, .f32⟩
  | .hbm, ⟨32, _⟩ => ⟨S4224x2816, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S4224x2816, .f32⟩
  | .hbm, ⟨37, _⟩ => ⟨S4224x2816, .f32⟩
  | .hbm, ⟨38, _⟩ => ⟨S4224x1024, .f32⟩
  | .hbm, ⟨39, _⟩ => ⟨S_, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S_, .f32⟩
  | .hbm, ⟨44, _⟩ => ⟨S4224x1024, .f32⟩
  | .hbm, ⟨45, _⟩ => ⟨S4224x1024, .f32⟩
  | .hbm, ⟨46, _⟩ => ⟨S1024x2816, .f32⟩
  | .hbm, ⟨47, _⟩ => ⟨S2816x1024, .f32⟩
  | .hbm, ⟨48, _⟩ => ⟨S4224x2816, .f32⟩
  | .hbm, ⟨49, _⟩ => ⟨S4224x2816, .f32⟩
  | .hbm, ⟨50, _⟩ => ⟨S4224x2816, .f32⟩
  | .hbm, ⟨51, _⟩ => ⟨S2816x1024, .f32⟩
  | .hbm, ⟨52, _⟩ => ⟨S1024x2816, .f32⟩
  | .hbm, ⟨53, _⟩ => ⟨S4224x2816, .f32⟩
  | .hbm, ⟨54, _⟩ => ⟨S4224x2816, .f32⟩
  | .hbm, ⟨55, _⟩ => ⟨S4224x2816, .f32⟩
  | .hbm, ⟨56, _⟩ => ⟨S4224x2816, .f32⟩
  | .hbm, ⟨57, _⟩ => ⟨S2816x1024, .f32⟩
  | .hbm, ⟨58, _⟩ => ⟨S1024x2816, .f32⟩
  | .hbm, ⟨59, _⟩ => ⟨S2816x1024, .f32⟩
  | .hbm, ⟨60, _⟩ => ⟨S2816x1024, .f32⟩
  | .hbm, ⟨61, _⟩ => ⟨S1x2816x1024, .f32⟩
  | .hbm, ⟨62, _⟩ => ⟨S1x2816x1024, .f32⟩
  | .hbm, ⟨63, _⟩ => ⟨S1x2816x1024, .f32⟩
  | .hbm, ⟨64, _⟩ => ⟨S3x2816x1024, .f32⟩
  | .hbm, ⟨65, _⟩ => ⟨S3x2816x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Win.lean ====
abbrev S4224x1024 : Shape := ⟨2, ![4224, 1024]⟩
abbrev S1024 : Shape := ⟨1, ![1024]⟩
abbrev S1024x4608 : Shape := ⟨2, ![1024, 4608]⟩
abbrev S4224x4608 : Shape := ⟨2, ![4224, 4608]⟩
abbrev S1x4224x4608 : Shape := ⟨3, ![1, 4224, 4608]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S1x4224x1024 : Shape := ⟨3, ![1, 4224, 1024]⟩
abbrev S1x4608x1024 : Shape := ⟨3, ![1, 4608, 1024]⟩
abbrev S1x4224x1152 : Shape := ⟨3, ![1, 4224, 1152]⟩
abbrev S1x1152x1024 : Shape := ⟨3, ![1, 1152, 1024]⟩
abbrev S8x128 : Shape := ⟨2, ![8, 128]⟩
abbrev S4224x1152 : Shape := ⟨2, ![4224, 1152]⟩
abbrev S1152x1024 : Shape := ⟨2, ![1152, 1024]⟩

abbrev nBuf : Space → Nat
  | .hbm => 25
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x4608, .f32⟩
  | .hbm, ⟨3, _⟩ => ⟨S4224x4608, .f32⟩
  | .hbm, ⟨4, _⟩ => ⟨S1x4224x4608, .f32⟩
  | .hbm, ⟨5, _⟩ => ⟨S1x4224x4608, .bf16⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S1x4224x1024, .f32⟩
  | .hbm, ⟨23, _⟩ => ⟨S1x4224x1024, .bf16⟩
  | .hbm, ⟨24, _⟩ => ⟨S1x4608x1024, .bf16⟩
  | .local _ .vmem, ⟨0, _⟩ => ⟨S1x4224x1152, .bf16⟩
  | .local _ .vmem, ⟨1, _⟩ => ⟨S1x4224x1152, .bf16⟩
  | .local _ .vmem, ⟨2, _⟩ => ⟨S1x4224x1024, .bf16⟩
  | .local _ .vmem, ⟨3, _⟩ => ⟨S1x1152x1024, .bf16⟩
  | .local _ .vmem, ⟨4, _⟩ => ⟨S1x1152x1024, .bf16⟩
  | .local _ .vmem, ⟨5, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x4224x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S4224x1024 : Shape := ⟨2, ![4224, 1024]⟩
abbrev S1024 : Shape := ⟨1, ![1024]⟩
abbrev S1024x4608 : Shape := ⟨2, ![1024, 4608]⟩
abbrev S4224x4608 : Shape := ⟨2, ![4224, 4608]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4608x1024 : Shape := ⟨2, ![4608, 1024]⟩
abbrev S1x4608x1024 : Shape := ⟨3, ![1, 4608, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x4608, .f32⟩
  | .hbm, ⟨3, _⟩ => ⟨S4224x4608, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1024, .f32⟩
  | .hbm, ⟨16, _⟩ => ⟨S4224x1024, .f32⟩
  | .hbm, ⟨17, _⟩ => ⟨S1x1024, .f32⟩
  | .hbm, ⟨18, _⟩ => ⟨S4224x1024, .f32⟩
  | .hbm, ⟨19, _⟩ => ⟨S4224x1024, .f32⟩
  | .hbm, ⟨20, _⟩ => ⟨S4224x4608, .f32⟩
  | .hbm, ⟨21, _⟩ => ⟨S4608x1024, .f32⟩
  | .hbm, ⟨22, _⟩ => ⟨S1024x4608, .f32⟩
  | .hbm, ⟨23, _⟩ => ⟨S4608x1024, .f32⟩
  | .hbm, ⟨24, _⟩ => ⟨S1x4608x1024, .f32⟩
  | .hbm, ⟨25, _⟩ => ⟨S1x4608x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Ffn.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4224x2816 : Shape := ⟨2, ![4224, 2816]⟩
abbrev S704x1024 : Shape := ⟨2, ![704, 1024]⟩
abbrev S704x2816 : Shape := ⟨2, ![704, 2816]⟩
abbrev S704 : Shape := ⟨1, ![704]⟩
abbrev S704x1 : Shape := ⟨2, ![704, 1]⟩
abbrev S768x1024 : Shape := ⟨2, ![768, 1024]⟩
abbrev S704x768 : Shape := ⟨2, ![704, 768]⟩
abbrev S512x1024 : Shape := ⟨2, ![512, 1024]⟩
abbrev S704x512 : Shape := ⟨2, ![704, 512]⟩

abbrev nBuf : Space → Nat
  | .hbm => 14
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S4224x1024, .f32⟩
  | .hbm, ⟨12, _⟩ => ⟨S4224x2816, .bf16⟩
  | .hbm, ⟨13, _⟩ => ⟨S4224x2816, .bf16⟩
  | .local _ .vmem, ⟨0, _⟩ => ⟨S704x1024, .f32⟩
  | .local _ .vmem, ⟨1, _⟩ => ⟨S704x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S704x1024, .f32⟩
  | .local _ .vmem, ⟨7, _⟩ => ⟨S704x1024, .f32⟩
  | .local _ .vmem, ⟨8, _⟩ => ⟨S704x2816, .bf16⟩
  | .local _ .vmem, ⟨9, _⟩ => ⟨S704x2816, .bf16⟩
  | .local _ .vmem, ⟨10, _⟩ => ⟨S704x2816, .bf16⟩
  | .local _ .vmem, ⟨11, _⟩ => ⟨S704x2816, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩

abbrev nBuf : Space → Nat
  | .hbm => 42
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1024, .f32⟩
  | .hbm, ⟨17, _⟩ => ⟨S4224x1024, .f32⟩
  | .hbm, ⟨18, _⟩ => ⟨S1x1024, .f32⟩
  | .hbm, ⟨19, _⟩ => ⟨S4224x1024, .f32⟩
  | .hbm, ⟨20, _⟩ => ⟨S4224x1024, .f32⟩
  | .hbm, ⟨21, _⟩ => ⟨S4224x2816, .f32⟩
  | .hbm, ⟨22, _⟩ => ⟨S4224x2816, .f32⟩
  | .hbm, ⟨23, _⟩ => ⟨S4224x2816, .f32⟩
  | .hbm, ⟨24, _⟩ => ⟨S_, .f32⟩
  | .hbm, ⟨25, _⟩ => ⟨S4224x2816, .f32⟩
  | .hbm, ⟨26, _⟩ => ⟨S4224x2816, .f32⟩
  | .hbm, ⟨27, _⟩ => ⟨S_, .f32⟩
  | .hbm, ⟨28, _⟩ => ⟨S4224x2816, .f32⟩
  | .hbm, ⟨29, _⟩ => ⟨S4224x2816, .f32⟩
  | .hbm, ⟨30, _⟩ => ⟨S4224x2816, .f32⟩
  | .hbm, ⟨31, _⟩ => ⟨S4224x2816, .f32⟩
  | .hbm, ⟨32, _⟩ => ⟨S4224x2816, .f32⟩
  | .hbm, ⟨33, _⟩ => ⟨S4224x1024, .f32⟩
  | .hbm, ⟨34, _⟩ => ⟨S_, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x2816, .f32⟩
  | .hbm, ⟨39, _⟩ => ⟨S4224x2816, .bf16⟩
  | .hbm, ⟨40, _⟩ => ⟨S4224x2816, .f32⟩
  | .hbm, ⟨41, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Proof.RefOps.lean ====
/- The reference's lines of operations as lists, and its blocks as chains of them: the lines before, between and after its
   two loops, and each loop's body. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 2940

noncomputable section

namespace Cert.RefOps

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 60 host operations of @main, window 0 (statements 1 … 60), in order. -/
abbrev main_part0_ops0 : List (HloOp τ sig (Elt F)) :=
  ( StableHlo.reshape main_arg0 main_v0 (rfl : (.f32 : EltTy) = .f32) shapeCasts_S1x4112x512_S1x4112x4x128
  :: StableHlo.unary main_v0 main_v1 ((transpose S1x4x4112x128 [0, 2, 1, 3] · transposes_S1x4112x4x128_S1x4x4112x128_0_2_1_3) : (⟨S1x4112x4x128, .f32⟩ : BufTy).Contents (Elt F) → (⟨S1x4x4112x128, .f32⟩ : BufTy).Contents (Elt F))
  :: StableHlo.nullary main_cst (constant S_ .f32 0x00000000#32)
  :: StableHlo.unary main_cst main_v2 (broadcastInDim S1x4x112x128 ![] bcast_S_S1x4x112x128 : (⟨S_, .f32⟩ : BufTy).Contents (Elt F) → (⟨S1x4x112x128, .f32⟩ : BufTy).Contents (Elt F))
  :: StableHlo.binary main_v2 main_v1 main_v3 ((fun a b => concatenate S1x4x4224x128 2 [⟨S1x4x112x128, a⟩, ⟨S1x4x4112x128, b⟩] concatenates_S1x4x112x128_S1x4x4112x128_S1x4x4224x128_d2) : (⟨S1x4x112x128, .f32⟩ : BufTy).Contents (Elt F) → (⟨S1x4x4112x128, .f32⟩ : BufTy).Contents (Elt F) → (⟨S1x4x4224x128, .f32⟩ : BufTy).Contents (Elt F))
  :: StableHlo.nullary main_cst_0 (constant S_ .f32 0x00000000#32)
  :: StableHlo.unary main_cst_0 main_v4 (broadcastInDim S1x4x112x128 ![] bcast_S_S1x4x112x128 : (⟨S_, .f32⟩ : BufTy).Contents (Elt F) → (⟨S1x4x112x128, .f32⟩ : BufTy).Contents (Elt F))
  :: StableHlo.reshape main_arg1 main_v5 (rfl : (.f32 : EltTy) = .f32) shapeCasts_S1x4112x512_S1x4112x4x128
  :: StableHlo.unary main_v5 main_v6 ((transpose S1x4x4112x128 [0, 2, 1, 3] · transposes_S1x4112x4x128_S1x4x4112x128_0_2_1_3) : (⟨S1x4112x4x128, .f32⟩ : BufTy).Contents (Elt F) → (⟨S1x4x4112x128, .f32⟩ : BufTy).Contents (Elt F))
  :: StableHlo.nullary main_cst_1 (constant S_ .f32 0x00000000#32)
  :: StableHlo.unary main_cst_1 main_v7 (broadcastInDim S1x4x112x128 ![] bcast_S_S1x4x112x128 : (⟨S_, .f32⟩ : BufTy).Contents (Elt F) → (⟨S1x4x112x128, .f32⟩ : BufTy).Contents (Elt F))
  :: StableHlo.binary main_v7 main_v6 main_v8 ((fun a b => concatenate S1x4x4224x128 2 [⟨S1x4x112x128, a⟩, ⟨S1x4x4112x128, b⟩] concatenates_S1x4x112x128_S1x4x4112x128_S1x4x4224x128_d2) : (⟨S1x4x112x128, .f32⟩ : BufTy).Contents (Elt F) → (⟨S1x4x4112x128, .f32⟩ : BufTy).Contents (Elt F) → (⟨S1x4x4224x128, .f32⟩ : BufTy).Contents (Elt F))
  :: StableHlo.nullary main_cst_2 (constant S_ .f32 0x00000000#32)
  :: StableHlo.unary main_cst_2 main_v9 (broadcastInDim S1x4x112x128 ![] bcast_S_S1x4x112x128 : (⟨S_, .f32⟩ : BufTy).Contents (Elt F) → (⟨S1x4x112x128, .f32⟩ : BufTy).Contents (Elt F))
  :: StableHlo.reshape main_arg2 main_v10 (rfl : (.f32 : EltTy) = .f32) shapeCasts_S1x4112x512_S1x4112x4x128
  :: StableHlo.unary main_v10 main_v11 ((transpose S1x4x4112x128 [0, 2, 1, 3] · transposes_S1x4112x4x128_S1x4x4112x128_0_2_1_3) : (⟨S1x4112x4x128, .f32⟩ : BufTy).Contents (Elt F) → (⟨S1x4x4112x128, .f32⟩ : BufTy).Contents (Elt F))
  :: StableHlo.nullary main_cst_3 (constant S_ .f32 0x00000000#32)
  :: StableHlo.unary main_cst_3 main_v12 (broadcastInDim S1x4x112x128 ![] bcast_S_S1x4x112x128 : (⟨S_, .f32⟩ : BufTy).Contents (Elt F) → (⟨S1x4x112x128, .f32⟩ : BufTy).Contents (Elt F))
  :: StableHlo.binary main_v12 main_v11 main_v13 ((fun a b => concatenate S1x4x4224x128 2 [⟨S1x4x112x128, a⟩, ⟨S1x4x4112x128, b⟩] concatenates_S1x4x112x128_S1x4x4112x128_S1x4x4224x128_d2) : (⟨S1x4x112x128, .f32⟩ : BufTy).Contents (Elt F) → (⟨S1x4x4112x128, .f32⟩ : BufTy).Contents (Elt F) → (⟨S1x4x4224x128, .f32⟩ : BufTy).Contents (Elt F))
  :: StableHlo.nullary main_cst_4 (constant S_ .f32 0x00000000#32)
  :: StableHlo.unary main_cst_4 main_v14 (broadcastInDim S1x4x112x128 ![] bcast_S_S1x4x112x128 : (⟨S_, .f32⟩ : BufTy).Contents (Elt F) → (⟨S1x4x112x128, .f32⟩ : BufTy).Contents (Elt F))
  :: StableHlo.nullary main_v15 (sitofp .f32 (iotaInDim S4224 32 0))
  :: StableHlo.nullary main_cst_5 (constant S_ .f32 0x42E00000#32)
  :: StableHlo.unary main_cst_5 main_v16 (broadcastInDim S4224 ![] bcast_S_S4224 : (⟨S_, .f32⟩ : BufTy).Contents (Elt F) → (⟨S4224, .f32⟩ : BufTy).Contents (Elt F))
  :: StableHlo.binary main_v15 main_v16 main_v17 (subf : (⟨S4224, .f32⟩ : BufTy).Contents (Elt F) → (⟨S4224, .f32⟩ : BufTy).Contents (Elt F) → (⟨S4224, .f32⟩ : BufTy).Contents (Elt F))
  :: StableHlo.nullary main_v18 (sitofp .f32 (iotaInDim S64 32 0))
  :: StableHlo.unary main_v18 main_v19 (Host.negf : (⟨S64, .f32⟩ : BufTy).Contents (Elt F) → (⟨S64, .f32⟩ : BufTy).Contents (Elt F))
  :: StableHlo.nullary main_cst_6 (constant S_ .f32 0x42800000#32)
  :: StableHlo.unary main_cst_6 main_v20 (broadcastInDim S64 ![] bcast_S_S64 : (⟨S_, .f32⟩ : BufTy).Contents (Elt F) → (⟨S64, .f32⟩ : BufTy).Contents (Elt F))
  :: StableHlo.binary main_v19 main_v20 main_v21 (Host.divf : (⟨S64, .f32⟩ : BufTy).Contents (Elt F) → (⟨S64, .f32⟩ : BufTy).Contents (Elt F) → (⟨S64, .f32⟩ : BufTy).Contents (Elt F))
  :: StableHlo.nullary main_cst_7 (constant S_ .f32 0x461C4000#32)
  :: StableHlo.unary main_cst_7 main_v22 (broadcastInDim S64 ![] bcast_S_S64 : (⟨S_, .f32⟩ : BufTy).Contents (Elt F) → (⟨S64, .f32⟩ : BufTy).Contents (Elt F))
  :: StableHlo.binary main_v22 main_v21 main_v23 (Host.powf : (⟨S64, .f32⟩ : BufTy).Contents (Elt F) → (⟨S64, .f32⟩ : BufTy).Contents (Elt F) → (⟨S64, .f32⟩ : BufTy).Contents (Elt F))
  :: StableHlo.unary main_v17 main_v24 (broadcastInDim S4224x1 ![0] bcast_S4224_S4224x1_0 : (⟨S4224, .f32⟩ : BufTy).Contents (Elt F) → (⟨S4224x1, .f32⟩ : BufTy).Contents (Elt F))
  :: StableHlo.unary main_v23 main_v25 (broadcastInDim S1x64 ![1] bcast_S64_S1x64_1 : (⟨S64, .f32⟩ : BufTy).Contents (Elt F) → (⟨S1x64, .f32⟩ : BufTy).Contents (Elt F))
  :: StableHlo.unary main_v24 main_v26 (broadcastInDim S4224x64 ![0, 1] bcast_S4224x1_S4224x64_0_1 : (⟨S4224x1, .f32⟩ : BufTy).Contents (Elt F) → (⟨S4224x64, .f32⟩ : BufTy).Contents (Elt F))
  :: StableHlo.unary main_v25 main_v27 (broadcastInDim S4224x64 ![0, 1] bcast_S1x64_S4224x64_0_1 : (⟨S1x64, .f32⟩ : BufTy).Contents (Elt F) → (⟨S4224x64, .f32⟩ : BufTy).Contents (Elt F))
  :: StableHlo.binary main_v26 main_v27 main_v28 (mulf : (⟨S4224x64, .f32⟩ : BufTy).Contents (Elt F) → (⟨S4224x64, .f32⟩ : BufTy).Contents (Elt F) → (⟨S4224x64, .f32⟩ : BufTy).Contents (Elt F))
  :: StableHlo.unary main_v28 main_v29 (Host.cos : (⟨S4224x64, .f32⟩ : BufTy).Contents (Elt F) → (⟨S4224x64, .f32⟩ : BufTy).Contents (Elt F))
  :: StableHlo.unary main_v28 main_v30 (Host.sin : (⟨S4224x64, .f32⟩ : BufTy).Contents (Elt F) → (⟨S4224x64, .f32⟩ : BufTy).Contents (Elt F))
  :: StableHlo.unary main_v3 main_v31 ((extractStridedSlice S1x4x4224x64 ![0, 0, 0, 0] · slices_S1x4x4224x128_S1x4x4224x64_0_0_0_0) : (⟨S1x4x4224x128, .f32⟩ : BufTy).Contents (Elt F) → (⟨S1x4x4224x64, .f32⟩ : BufTy).Contents (Elt F))
  :: StableHlo.unary main_v3 main_v32 ((extractStridedSlice S1x4x4224x64 ![0, 0, 0, 64] · slices_S1x4x4224x128_S1x4x4224x64_0_0_0_64) : (⟨S1x4x4224x128, .f32⟩ : BufTy).Contents (Elt F) → (⟨S1x4x4224x64, .f32⟩ : BufTy).Contents (Elt F))
  :: StableHlo.unary main_v29 main_v33 (broadcastInDim S1x1x4224x64 ![2, 3] bcast_S4224x64_S1x1x4224x64_2_3 : (⟨S4224x64, .f32⟩ : BufTy).Contents (Elt F) → (⟨S1x1x4224x64, .f32⟩ : BufTy).Contents (Elt F))
  :: StableHlo.unary main_v33 main_v34 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v31 main_v34 main_v35 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v30 main_v36 (broadcastInDim S1x1x4224x64 ![2, 3] bcast_S4224x64_S1x1x4224x64_2_3 : (⟨S4224x64, .f32⟩ : BufTy).Contents (Elt F) → (⟨S1x1x4224x64, .f32⟩ : BufTy).Contents (Elt F))
  :: StableHlo.unary main_v36 main_v37 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v32 main_v37 main_v38 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.binary main_v35 main_v38 main_v39 (subf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v30 main_v40 (broadcastInDim S1x1x4224x64 ![2, 3] bcast_S4224x64_S1x1x4224x64_2_3 : (⟨S4224x64, .f32⟩ : BufTy).Contents (Elt F) → (⟨S1x1x4224x64, .f32⟩ : BufTy).Contents (Elt F))
  :: StableHlo.unary main_v40 main_v41 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v31 main_v41 main_v42 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v29 main_v43 (broadcastInDim S1x1x4224x64 ![2, 3] bcast_S4224x64_S1x1x4224x64_2_3 : (⟨S4224x64, .f32⟩ : BufTy).Contents (Elt F) → (⟨S1x1x4224x64, .f32⟩ : BufTy).Contents (Elt F))
  :: StableHlo.unary main_v43 main_v44 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v32 main_v44 main_v45 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.binary main_v42 main_v45 main_v46 (addf : (⟨S1x4x4224x64, .f32⟩ : BufTy).Contents (Elt F) → (⟨S1x4x4224x64, .f32⟩ : BufTy).Contents (Elt F) → (⟨S1x4x4224x64, .f32⟩ : BufTy).Contents (Elt F))
  :: StableHlo.binary main_v39 main_v46 main_v47 ((fun a b => concatenate S1x4x4224x128 3 [⟨S1x4x4224x64, a⟩, ⟨S1x4x4224x64, b⟩] concatenates_S1x4x4224x64_S1x4x4224x64_S1x4x4224x128_d3) : (⟨S1x4x4224x64, .f32⟩ : BufTy).Contents (Elt F) → (⟨S1x4x4224x64, .f32⟩ : BufTy).Contents (Elt F) → (⟨S1x4x4224x128, .f32⟩ : BufTy).Contents (Elt F))
  :: StableHlo.nullary main_cst_8 (constant S_ .f32 0x3DB504F3#32)
  :: StableHlo.unary main_cst_8 main_v48 (broadcastInDim S1x4x4224x128 ![] bcast_S_S1x4x4224x128 : (⟨S_, .f32⟩ : BufTy).Contents (Elt F) → (⟨S1x4x4224x128, .f32⟩ : BufTy).Contents (Elt F))
  :: StableHlo.binary main_v47 main_v48 main_v49 (mulf : (⟨S1x4x4224x128, .f32⟩ : BufTy).Contents (Elt F) → (⟨S1x4x4224x128, .f32⟩ : BufTy).Contents (Elt F) → (⟨S1x4x4224x128, .f32⟩ : BufTy).Contents (Elt F))
  :: [] )

/-- Each touches the TensorCore's references only. -/
theorem main_part0_ops0_sub : (main_part0_ops0 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub ..⟩

/-- The block is the chain of its stretches. -/
theorem main_part0_chain (c : Dev nD) : main_part0 (F := F) c = (Pipeline.chainK
  [  ]
  (StableHlo.seq main_part0_ops0) : Prog (TpuEff nD τ sig (Elt F) (HostLoop.Sig (Pipeline.Sig Λ₀ (Fin 0) fun p => (pcfgs (F := F) p).Adm) 2) .tc) PUnit) := by
  chain_rfl

/-- 60 host operations of @main, window 1 (statements 61 … 120), in order. -/
abbrev main_part1_ops0 : List (HloOp τ sig (Elt F)) :=
  ( StableHlo.nullary main_v50 (sitofp .f32 (iotaInDim S64 32 0))
  :: StableHlo.unary main_v50 main_v51 (Host.negf : (⟨S64, .f32⟩ : BufTy).Contents (Elt F) → (⟨S64, .f32⟩ : BufTy).Contents (Elt F))
  :: StableHlo.nullary main_cst_9 (constant S_ .f32 0x42800000#32)
  :: StableHlo.unary main_cst_9 main_v52 (broadcastInDim S64 ![] bcast_S_S64 : (⟨S_, .f32⟩ : BufTy).Contents (Elt F) → (⟨S64, .f32⟩ : BufTy).Contents (Elt F))
  :: StableHlo.binary main_v51 main_v52 main_v53 (Host.divf : (⟨S64, .f32⟩ : BufTy).Contents (Elt F) → (⟨S64, .f32⟩ : BufTy).Contents (Elt F) → (⟨S64, .f32⟩ : BufTy).Contents (Elt F))
  :: StableHlo.nullary main_cst_10 (constant S_ .f32 0x461C4000#32)
  :: StableHlo.unary main_cst_10 main_v54 (broadcastInDim S64 ![] bcast_S_S64 : (⟨S_, .f32⟩ : BufTy).Contents (Elt F) → (⟨S64, .f32⟩ : BufTy).Contents (Elt F))
  :: StableHlo.binary main_v54 main_v53 main_v55 (Host.powf : (⟨S64, .f32⟩ : BufTy).Contents (Elt F) → (⟨S64, .f32⟩ : BufTy).Contents (Elt F) → (⟨S64, .f32⟩ : BufTy).Contents (Elt F))
  :: StableHlo.unary main_v17 main_v56 (broadcastInDim S4224x1 ![0] bcast_S4224_S4224x1_0 : (⟨S4224, .f32⟩ : BufTy).Contents (Elt F) → (⟨S4224x1, .f32⟩ : BufTy).Contents (Elt F))
  :: StableHlo.unary main_v55 main_v57 (broadcastInDim S1x64 ![1] bcast_S64_S1x64_1 : (⟨S64, .f32⟩ : BufTy).Contents (Elt F) → (⟨S1x64, .f32⟩ : BufTy).Contents (Elt F))
  :: StableHlo.unary main_v56 main_v58 (broadcastInDim S4224x64 ![0, 1] bcast_S4224x1_S4224x64_0_1 : (⟨S4224x1, .f32⟩ : BufTy).Contents (Elt F) → (⟨S4224x64, .f32⟩ : BufTy).Contents (Elt F))
  :: StableHlo.unary main_v57 main_v59 (broadcastInDim S4224x64 ![0, 1] bcast_S1x64_S4224x64_0_1 : (⟨S1x64, .f32⟩ : BufTy).Contents (Elt F) → (⟨S4224x64, .f32⟩ : BufTy).Contents (Elt F))
  :: StableHlo.binary main_v58 main_v59 main_v60 (mulf : (⟨S4224x64, .f32⟩ : BufTy).Contents (Elt F) → (⟨S4224x64, .f32⟩ : BufTy).Contents (Elt F) → (⟨S4224x64, .f32⟩ : BufTy).Contents (Elt F))
  :: StableHlo.unary main_v60 main_v61 (Host.cos : (⟨S4224x64, .f32⟩ : BufTy).Contents (Elt F) → (⟨S4224x64, .f32⟩ : BufTy).Contents (Elt F))
  :: StableHlo.unary main_v60 main_v62 (Host.sin : (⟨S4224x64, .f32⟩ : BufTy).Contents (Elt F) → (⟨S4224x64, .f32⟩ : BufTy).Contents (Elt F))
  :: StableHlo.unary main_v8 main_v63 ((extractStridedSlice S1x4x4224x64 ![0, 0, 0, 0] · slices_S1x4x4224x128_S1x4x4224x64_0_0_0_0) : (⟨S1x4x4224x128, .f32⟩ : BufTy).Contents (Elt F) → (⟨S1x4x4224x64, .f32⟩ : BufTy).Contents (Elt F))
  :: StableHlo.unary main_v8 main_v64 ((extractStridedSlice S1x4x4224x64 ![0, 0, 0, 64] · slices_S1x4x4224x128_S1x4x4224x64_0_0_0_64) : (⟨S1x4x4224x128, .f32⟩ : BufTy).Contents (Elt F) → (⟨S1x4x4224x64, .f32⟩ : BufTy).Contents (Elt F))
  :: StableHlo.unary main_v61 main_v65 (broadcastInDim S1x1x4224x64 ![2, 3] bcast_S4224x64_S1x1x4224x64_2_3 : (⟨S4224x64, .f32⟩ : BufTy).Contents (Elt F) → (⟨S1x1x4224x64, .f32⟩ : BufTy).Contents (Elt F))
  :: StableHlo.unary main_v65 main_v66 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v63 main_v66 main_v67 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v62 main_v68 (broadcastInDim S1x1x4224x64 ![2, 3] bcast_S4224x64_S1x1x4224x64_2_3 : (⟨S4224x64, .f32⟩ : BufTy).Contents (Elt F) → (⟨S1x1x4224x64, .f32⟩ : BufTy).Contents (Elt F))
  :: StableHlo.unary main_v68 main_v69 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v64 main_v69 main_v70 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.binary main_v67 main_v70 main_v71 (subf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v62 main_v72 (broadcastInDim S1x1x4224x64 ![2, 3] bcast_S4224x64_S1x1x4224x64_2_3 : (⟨S4224x64, .f32⟩ : BufTy).Contents (Elt F) → (⟨S1x1x4224x64, .f32⟩ : BufTy).Contents (Elt F))
  :: StableHlo.unary main_v72 main_v73 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v63 main_v73 main_v74 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v61 main_v75 (broadcastInDim S1x1x4224x64 ![2, 3] bcast_S4224x64_S1x1x4224x64_2_3 : (⟨S4224x64, .f32⟩ : BufTy).Contents (Elt F) → (⟨S1x1x4224x64, .f32⟩ : BufTy).Contents (Elt F))
  :: StableHlo.unary main_v75 main_v76 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v64 main_v76 main_v77 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.binary main_v74 main_v77 main_v78 (addf : (⟨S1x4x4224x64, .f32⟩ : BufTy).Contents (Elt F) → (⟨S1x4x4224x64, .f32⟩ : BufTy).Contents (Elt F) → (⟨S1x4x4224x64, .f32⟩ : BufTy).Contents (Elt F))
  :: StableHlo.binary main_v71 main_v78 main_v79 ((fun a b => concatenate S1x4x4224x128 3 [⟨S1x4x4224x64, a⟩, ⟨S1x4x4224x64, b⟩] concatenates_S1x4x4224x64_S1x4x4224x64_S1x4x4224x128_d3) : (⟨S1x4x4224x64, .f32⟩ : BufTy).Contents (Elt F) → (⟨S1x4x4224x64, .f32⟩ : BufTy).Contents (Elt F) → (⟨S1x4x4224x128, .f32⟩ : BufTy).Contents (Elt F))
  :: StableHlo.reshape main_v49 main_v80 (rfl : (.f32 : EltTy) = .f32) shapeCasts_S1x4x4224x128_S1x4x33x128x128
  :: StableHlo.reshape main_v79 main_v81 (rfl : (.f32 : EltTy) = .f32) shapeCasts_S1x4x4224x128_S1x4x33x128x128
  :: StableHlo.reshape main_v13 main_v82 (rfl : (.f32 : EltTy) = .f32) shapeCasts_S1x4x4224x128_S1x4x33x128x128
  :: StableHlo.nullary main_v83 (sitofp .f32 (iotaInDim S4 32 0))
  :: StableHlo.nullary main_cst_11 (constant S_ .f32 0xC0A00000#32)
  :: StableHlo.unary main_cst_11 main_v84 (broadcastInDim S4 ![] bcast_S_S4 : (⟨S_, .f32⟩ : BufTy).Contents (Elt F) → (⟨S4, .f32⟩ : BufTy).Contents (Elt F))
  :: StableHlo.binary main_v84 main_v83 main_v85 (subf : (⟨S4, .f32⟩ : BufTy).Contents (Elt F) → (⟨S4, .f32⟩ : BufTy).Contents (Elt F) → (⟨S4, .f32⟩ : BufTy).Contents (Elt F))
  :: StableHlo.nullary main_cst_12 (constant S_ .f32 0x40000000#32)
  :: StableHlo.unary main_cst_12 main_v86 (broadcastInDim S4 ![] bcast_S_S4 : (⟨S_, .f32⟩ : BufTy).Contents (Elt F) → (⟨S4, .f32⟩ : BufTy).Contents (Elt F))
  :: StableHlo.binary main_v86 main_v85 main_v87 (Host.powf : (⟨S4, .f32⟩ : BufTy).Contents (Elt F) → (⟨S4, .f32⟩ : BufTy).Contents (Elt F) → (⟨S4, .f32⟩ : BufTy).Contents (Elt F))
  :: StableHlo.unary main_v87 main_v88 (Host.negf : (⟨S4, .f32⟩ : BufTy).Contents (Elt F) → (⟨S4, .f32⟩ : BufTy).Contents (Elt F))
  :: StableHlo.unary main_v88 main_v89 (Host.log1p : (⟨S4, .f32⟩ : BufTy).Contents (Elt F) → (⟨S4, .f32⟩ : BufTy).Contents (Elt F))
  :: StableHlo.nullary main_v90 (sitofp .f32 (iotaInDim S128 32 0))
  :: StableHlo.nullary main_cst_13 (constant S_ .f32 0x42FE0000#32)
  :: StableHlo.unary main_cst_13 main_v91 (broadcastInDim S128 ![] bcast_S_S128 : (⟨S_, .f32⟩ : BufTy).Contents (Elt F) → (⟨S128, .f32⟩ : BufTy).Contents (Elt F))
  :: StableHlo.binary main_v91 main_v90 main_v92 (subf : (⟨S128, .f32⟩ : BufTy).Contents (Elt F) → (⟨S128, .f32⟩ : BufTy).Contents (Elt F) → (⟨S128, .f32⟩ : BufTy).Contents (Elt F))
  :: StableHlo.unary main_v92 main_v93 (broadcastInDim S1x128 ![1] bcast_S128_S1x128_1 : (⟨S128, .f32⟩ : BufTy).Contents (Elt F) → (⟨S1x128, .f32⟩ : BufTy).Contents (Elt F))
  :: StableHlo.unary main_v89 main_v94 (broadcastInDim S4x1 ![0] bcast_S4_S4x1_0 : (⟨S4, .f32⟩ : BufTy).Contents (Elt F) → (⟨S4x1, .f32⟩ : BufTy).Contents (Elt F))
  :: StableHlo.unary main_v93 main_v95 (broadcastInDim S4x128 ![0, 1] bcast_S1x128_S4x128_0_1 : (⟨S1x128, .f32⟩ : BufTy).Contents (Elt F) → (⟨S4x128, .f32⟩ : BufTy).Contents (Elt F))
  :: StableHlo.unary main_v94 main_v96 (broadcastInDim S4x128 ![0, 1] bcast_S4x1_S4x128_0_1 : (⟨S4x1, .f32⟩ : BufTy).Contents (Elt F) → (⟨S4x128, .f32⟩ : BufTy).Contents (Elt F))
  :: StableHlo.binary main_v95 main_v96 main_v97 (mulf : (⟨S4x128, .f32⟩ : BufTy).Contents (Elt F) → (⟨S4x128, .f32⟩ : BufTy).Contents (Elt F) → (⟨S4x128, .f32⟩ : BufTy).Contents (Elt F))
  :: StableHlo.unary main_v97 main_v98 (Host.exp : (⟨S4x128, .f32⟩ : BufTy).Contents (Elt F) → (⟨S4x128, .f32⟩ : BufTy).Contents (Elt F))
  :: StableHlo.nullary main_cst_14 (constant S_ .f32 0x43000000#32)
  :: StableHlo.unary main_cst_14 main_v99 (broadcastInDim S4 ![] bcast_S_S4 : (⟨S_, .f32⟩ : BufTy).Contents (Elt F) → (⟨S4, .f32⟩ : BufTy).Contents (Elt F))
  :: StableHlo.binary main_v99 main_v89 main_v100 (mulf : (⟨S4, .f32⟩ : BufTy).Contents (Elt F) → (⟨S4, .f32⟩ : BufTy).Contents (Elt F) → (⟨S4, .f32⟩ : BufTy).Contents (Elt F))
  :: StableHlo.unary main_v100 main_v101 (Host.exp : (⟨S4, .f32⟩ : BufTy).Contents (Elt F) → (⟨S4, .f32⟩ : BufTy).Contents (Elt F))
  :: StableHlo.unary main_v98 main_v102 (broadcastInDim S1x4x1x128x1 ![1, 3] bcast_S4x128_S1x4x1x128x1_1_3 : (⟨S4x128, .f32⟩ : BufTy).Contents (Elt F) → (⟨S1x4x1x128x1, .f32⟩ : BufTy).Contents (Elt F))
  :: StableHlo.unary main_v102 main_v103 (broadcastInDim S1x4x33x128x128 ![0, 1, 2, 3, 4] bcast_S1x4x1x128x1_S1x4x33x128x128_0_1_2_3_4 : (⟨S1x4x1x128x1, .f32⟩ : BufTy).Contents (Elt F) → (⟨S1x4x33x128x128, .f32⟩ : BufTy).Contents (Elt F))
  :: [] )

/-- Each touches the TensorCore's references only. -/
theorem main_part1_ops0_sub : (main_part1_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.reshape_bufs_sub .., StableHlo.reshape_bufs_sub .., StableHlo.reshape_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub ..⟩

/-- The block is the chain of its stretches. -/
theorem main_part1_chain (c : Dev nD) : main_part1 (F := F) c = (Pipeline.chainK
  [  ]
  (StableHlo.seq main_part1_ops0) : Prog (TpuEff nD τ sig (Elt F) (HostLoop.Sig (Pipeline.Sig Λ₀ (Fin 0) fun p => (pcfgs (F := F) p).Adm) 2) .tc) PUnit) := by
  chain_rfl

/-- 19 host operations of @main, window 2 (statements 121 … 180), in order. -/
abbrev main_part2_ops0 : List (HloOp τ sig (Elt F)) :=
  [ StableHlo.binary main_v81 main_v103 main_v104 (mulf : (⟨S1x4x33x128x128, .f32⟩ : BufTy).Contents (Elt F) → (⟨S1x4x33x128x128, .f32⟩ : BufTy).Contents (Elt F) → (⟨S1x4x33x128x128, .f32⟩ : BufTy).Contents (Elt F)),
    StableHlo.binary main_v104 main_v82 main_v105 ((fun l r => Host.dotGeneral dot_S1x4x33x128x128_S1x4x33x128x128_S33x1x4x128x128_3_3_4_4_201_201 none l r) : (⟨S1x4x33x128x128, .f32⟩ : BufTy).Contents (Elt F) → (⟨S1x4x33x128x128, .f32⟩ : BufTy).Contents (Elt F) → (⟨S33x1x4x128x128, .f32⟩ : BufTy).Contents (Elt F)),
    StableHlo.unary main_v101 main_v106 (broadcastInDim S1x4x1x1 ![1] bcast_S4_S1x4x1x1_1 : (⟨S4, .f32⟩ : BufTy).Contents (Elt F) → (⟨S1x4x1x1, .f32⟩ : BufTy).Contents (Elt F)),
    StableHlo.unary main_v90 main_v107 (broadcastInDim S128x1 ![0] bcast_S128_S128x1_0 : (⟨S128, .f32⟩ : BufTy).Contents (Elt F) → (⟨S128x1, .f32⟩ : BufTy).Contents (Elt F)),
    StableHlo.unary main_v90 main_v108 (broadcastInDim S1x128 ![1] bcast_S128_S1x128_1 : (⟨S128, .f32⟩ : BufTy).Contents (Elt F) → (⟨S1x128, .f32⟩ : BufTy).Contents (Elt F)),
    StableHlo.unary main_v107 main_v109 (broadcastInDim S128x128 ![0, 1] bcast_S128x1_S128x128_0_1 : (⟨S128x1, .f32⟩ : BufTy).Contents (Elt F) → (⟨S128x128, .f32⟩ : BufTy).Contents (Elt F)),
    StableHlo.unary main_v108 main_v110 (broadcastInDim S128x128 ![0, 1] bcast_S1x128_S128x128_0_1 : (⟨S1x128, .f32⟩ : BufTy).Contents (Elt F) → (⟨S128x128, .f32⟩ : BufTy).Contents (Elt F)),
    StableHlo.binary main_v109 main_v110 main_v111 (subf : (⟨S128x128, .f32⟩ : BufTy).Contents (Elt F) → (⟨S128x128, .f32⟩ : BufTy).Contents (Elt F) → (⟨S128x128, .f32⟩ : BufTy).Contents (Elt F)),
    StableHlo.unary main_v111 main_v112 (broadcastInDim S1x128x128 ![1, 2] bcast_S128x128_S1x128x128_1_2 : (⟨S128x128, .f32⟩ : BufTy).Contents (Elt F) → (⟨S1x128x128, .f32⟩ : BufTy).Contents (Elt F)),
    StableHlo.nullary main_cst_15 (constant S_ .f32 0x00000000#32),
    StableHlo.unary main_cst_15 main_v113 (broadcastInDim S1x128x128 ![] bcast_S_S1x128x128 : (⟨S_, .f32⟩ : BufTy).Contents (Elt F) → (⟨S1x128x128, .f32⟩ : BufTy).Contents (Elt F)),
    StableHlo.binary main_v112 main_v113 main_v114 (cmpf .oge : (⟨S1x128x128, .f32⟩ : BufTy).Contents (Elt F) → (⟨S1x128x128, .f32⟩ : BufTy).Contents (Elt F) → (⟨S1x128x128, .i1⟩ : BufTy).Contents (Elt F)),
    StableHlo.unary main_v111 main_v115 (broadcastInDim S1x128x128 ![1, 2] bcast_S128x128_S1x128x128_1_2 : (⟨S128x128, .f32⟩ : BufTy).Contents (Elt F) → (⟨S1x128x128, .f32⟩ : BufTy).Contents (Elt F)),
    StableHlo.unary main_v89 main_v116 (broadcastInDim S4x1x1 ![0] bcast_S4_S4x1x1_0 : (⟨S4, .f32⟩ : BufTy).Contents (Elt F) → (⟨S4x1x1, .f32⟩ : BufTy).Contents (Elt F)),
    StableHlo.unary main_v115 main_v117 (broadcastInDim S4x128x128 ![0, 1, 2] bcast_S1x128x128_S4x128x128_0_1_2 : (⟨S1x128x128, .f32⟩ : BufTy).Contents (Elt F) → (⟨S4x128x128, .f32⟩ : BufTy).Contents (Elt F)),
    StableHlo.unary main_v116 main_v118 (broadcastInDim S4x128x128 ![0, 1, 2] bcast_S4x1x1_S4x128x128_0_1_2 : (⟨S4x1x1, .f32⟩ : BufTy).Contents (Elt F) → (⟨S4x128x128, .f32⟩ : BufTy).Contents (Elt F)),
    StableHlo.binary main_v117 main_v118 main_v119 (mulf : (⟨S4x128x128, .f32⟩ : BufTy).Contents (Elt F) → (⟨S4x128x128, .f32⟩ : BufTy).Contents (Elt F) → (⟨S4x128x128, .f32⟩ : BufTy).Contents (Elt F)),
    StableHlo.unary main_v119 main_v120 (Host.exp : (⟨S4x128x128, .f32⟩ : BufTy).Contents (Elt F) → (⟨S4x128x128, .f32⟩ : BufTy).Contents (Elt F)),
    StableHlo.nullary main_cst_16 (constant S_ .f32 0x00000000#32) ]

/-- Each touches the TensorCore's references only. -/
theorem main_part2_ops0_sub : (main_part2_ops0 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub ..⟩

/-- 4 host operations of @_where (main_call0), window 2 (statements 121 … 180), in order. -/
abbrev main_part2_ops1 : List (HloOp τ sig (Elt F)) :=
  [ StableHlo.TRef.unary (.of main_cst_16 : StableHlo.TRef sig ⟨S_, .f32⟩) (.of main_call0_v0 : StableHlo.TRef sig ⟨S_, .f32⟩) id,
    StableHlo.TRef.unary (.of main_v114 : StableHlo.TRef sig ⟨S1x128x128, .i1⟩) (.of main_call0_v1 : StableHlo.TRef sig ⟨S4x128x128, .i1⟩) (broadcastInDim S4x128x128 ![0, 1, 2] bcast_S1x128x128_S4x128x128_0_1_2),
    StableHlo.TRef.unary (.of main_call0_v0 : StableHlo.TRef sig ⟨S_, .f32⟩) (.of main_call0_v2 : StableHlo.TRef sig ⟨S4x128x128, .f32⟩) (broadcastInDim S4x128x128 ![] bcast_S_S4x128x128),
    StableHlo.TRef.ternary (.of main_call0_v1 : StableHlo.TRef sig ⟨S4x128x128, .i1⟩) (.of main_v120 : StableHlo.TRef sig ⟨S4x128x128, .f32⟩) (.of main_call0_v2 : StableHlo.TRef sig ⟨S4x128x128, .f32⟩) (.of main_v121 : StableHlo.TRef sig ⟨S4x128x128, .f32⟩) select ]

/-- Each touches the TensorCore's references only. -/
theorem main_part2_ops1_sub : (main_part2_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- 24 host operations of @main, window 2 (statements 121 … 180), in order. -/
abbrev main_part2_ops2 : List (HloOp τ sig (Elt F)) :=
  [ StableHlo.nullary main_cst_17 (constant S_ .f32 0x3F800000#32),
    StableHlo.unary main_cst_17 main_v122 (broadcastInDim S128 ![] bcast_S_S128 : (⟨S_, .f32⟩ : BufTy).Contents (Elt F) → (⟨S128, .f32⟩ : BufTy).Contents (Elt F)),
    StableHlo.binary main_v90 main_v122 main_v123 (addf : (⟨S128, .f32⟩ : BufTy).Contents (Elt F) → (⟨S128, .f32⟩ : BufTy).Contents (Elt F) → (⟨S128, .f32⟩ : BufTy).Contents (Elt F)),
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v89 main_v125 (broadcastInDim S4x1 ![0] bcast_S4_S4x1_0 : (⟨S4, .f32⟩ : BufTy).Contents (Elt F) → (⟨S4x1, .f32⟩ : BufTy).Contents (Elt F)),
    StableHlo.unary main_v124 main_v126 (broadcastInDim S4x128 ![0, 1] bcast_S1x128_S4x128_0_1 : (⟨S1x128, .f32⟩ : BufTy).Contents (Elt F) → (⟨S4x128, .f32⟩ : BufTy).Contents (Elt F)),
    StableHlo.unary main_v125 main_v127 (broadcastInDim S4x128 ![0, 1] bcast_S4x1_S4x128_0_1 : (⟨S4x1, .f32⟩ : BufTy).Contents (Elt F) → (⟨S4x128, .f32⟩ : BufTy).Contents (Elt F)),
    StableHlo.binary main_v126 main_v127 main_v128 (mulf : (⟨S4x128, .f32⟩ : BufTy).Contents (Elt F) → (⟨S4x128, .f32⟩ : BufTy).Contents (Elt F) → (⟨S4x128, .f32⟩ : BufTy).Contents (Elt F)),
    StableHlo.unary main_v128 main_v129 (Host.exp : (⟨S4x128, .f32⟩ : BufTy).Contents (Elt F) → (⟨S4x128, .f32⟩ : BufTy).Contents (Elt F)),
    StableHlo.binary main_v80 main_v81 main_v130 ((fun l r => Host.dotGeneral dot_S1x4x33x128x128_S1x4x33x128x128_S1x4x33x128x128_4_4_3_3_012_012 none l r) : (⟨S1x4x33x128x128, .f32⟩ : BufTy).Contents (Elt F) → (⟨S1x4x33x128x128, .f32⟩ : BufTy).Contents (Elt F) → (⟨S1x4x33x128x128, .f32⟩ : BufTy).Contents (Elt F)),
    StableHlo.unary main_v121 main_v131 (broadcastInDim S1x4x1x128x128 ![1, 3, 4] bcast_S4x128x128_S1x4x1x128x128_1_3_4 : (⟨S4x128x128, .f32⟩ : BufTy).Contents (Elt F) → (⟨S1x4x1x128x128, .f32⟩ : BufTy).Contents (Elt F)),
    StableHlo.unary main_v131 main_v132 (broadcastInDim S1x4x33x128x128 ![0, 1, 2, 3, 4] bcast_S1x4x1x128x128_S1x4x33x128x128_0_1_2_3_4 : (⟨S1x4x1x128x128, .f32⟩ : BufTy).Contents (Elt F) → (⟨S1x4x33x128x128, .f32⟩ : BufTy).Contents (Elt F)),
    StableHlo.binary main_v130 main_v132 main_v133 (mulf : (⟨S1x4x33x128x128, .f32⟩ : BufTy).Contents (Elt F) → (⟨S1x4x33x128x128, .f32⟩ : BufTy).Contents (Elt F) → (⟨S1x4x33x128x128, .f32⟩ : BufTy).Contents (Elt F)),
    StableHlo.binary main_v133 main_v82 main_v134 ((fun l r => Host.dotGeneral dot_S1x4x33x128x128_S1x4x33x128x128_S1x4x33x128x128_4_3_3_4_012_012 none l r) : (⟨S1x4x33x128x128, .f32⟩ : BufTy).Contents (Elt F) → (⟨S1x4x33x128x128, .f32⟩ : BufTy).Contents (Elt F) → (⟨S1x4x33x128x128, .f32⟩ : BufTy).Contents (Elt F)),
    StableHlo.nullary main_cst_18 (constant S_ .f32 0x00000000#32),
    StableHlo.unary main_cst_18 main_v135 (broadcastInDim S1x4x128x128 ![] bcast_S_S1x4x128x128 : (⟨S_, .f32⟩ : BufTy).Contents (Elt F) → (⟨S1x4x128x128, .f32⟩ : BufTy).Contents (Elt F)),
    StableHlo.nullary main_cst_19 (constant S_ .f32 0x00000000#32),
    StableHlo.unary main_cst_19 main_v136 (broadcastInDim S33x1x4x128x128 ![] bcast_S_S33x1x4x128x128 : (⟨S_, .f32⟩ : BufTy).Contents (Elt F) → (⟨S33x1x4x128x128, .f32⟩ : BufTy).Contents (Elt F)),
    StableHlo.nullary main_c (constantI S_ 32 0#32),
    StableHlo.unary main_v105 main_v137_0 id,
    StableHlo.unary main_v106 main_v137_1 id,
    StableHlo.unary main_c main_v137_2 id,
    StableHlo.unary main_v135 main_v137_3 id,
    StableHlo.unary main_v136 main_v137_4 id ]

/-- Each touches the TensorCore's references only. -/
theorem main_part2_ops2_sub : (main_part2_ops2 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩

/-- 15 host operations of @main, window 2 (statements 121 … 180), in order. -/
abbrev main_part2_ops3 : List (HloOp τ sig (Elt F)) :=
  [ StableHlo.unary main_v129 main_v138 (broadcastInDim S1x4x1x128x1 ![1, 3] bcast_S4x128_S1x4x1x128x1_1_3 : (⟨S4x128, .f32⟩ : BufTy).Contents (Elt F) → (⟨S1x4x1x128x1, .f32⟩ : BufTy).Contents (Elt F)),
    StableHlo.unary main_v138 main_v139 (broadcastInDim S1x4x33x128x128 ![0, 1, 2, 3, 4] bcast_S1x4x1x128x1_S1x4x33x128x128_0_1_2_3_4 : (⟨S1x4x1x128x1, .f32⟩ : BufTy).Contents (Elt F) → (⟨S1x4x33x128x128, .f32⟩ : BufTy).Contents (Elt F)),
    StableHlo.binary main_v80 main_v139 main_v140 (mulf : (⟨S1x4x33x128x128, .f32⟩ : BufTy).Contents (Elt F) → (⟨S1x4x33x128x128, .f32⟩ : BufTy).Contents (Elt F) → (⟨S1x4x33x128x128, .f32⟩ : BufTy).Contents (Elt F)),
    StableHlo.binary main_v140 main_v137_4 main_v141 ((fun l r => Host.dotGeneral dot_S1x4x33x128x128_S33x1x4x128x128_S1x4x33x128x128_4_3_3_4_012_120 none l r) : (⟨S1x4x33x128x128, .f32⟩ : BufTy).Contents (Elt F) → (⟨S33x1x4x128x128, .f32⟩ : BufTy).Contents (Elt F) → (⟨S1x4x33x128x128, .f32⟩ : BufTy).Contents (Elt F)),
    StableHlo.binary main_v134 main_v141 main_v142 (addf : (⟨S1x4x33x128x128, .f32⟩ : BufTy).Contents (Elt F) → (⟨S1x4x33x128x128, .f32⟩ : BufTy).Contents (Elt F) → (⟨S1x4x33x128x128, .f32⟩ : BufTy).Contents (Elt F)),
    StableHlo.reshape main_v142 main_v143 (rfl : (.f32 : EltTy) = .f32) shapeCasts_S1x4x33x128x128_S1x4x4224x128,
    StableHlo.unary main_v143 main_v144 ((extractStridedSlice S1x4x4112x128 ![0, 0, 112, 0] · slices_S1x4x4224x128_S1x4x4112x128_0_0_112_0) : (⟨S1x4x4224x128, .f32⟩ : BufTy).Contents (Elt F) → (⟨S1x4x4112x128, .f32⟩ : BufTy).Contents (Elt F)),
    StableHlo.unary main_v144 main_v145 ((transpose S1x4112x4x128 [0, 2, 1, 3] · transposes_S1x4x4112x128_S1x4112x4x128_0_2_1_3) : (⟨S1x4x4112x128, .f32⟩ : BufTy).Contents (Elt F) → (⟨S1x4112x4x128, .f32⟩ : BufTy).Contents (Elt F)),
    StableHlo.reshape main_v145 main_v146 (rfl : (.f32 : EltTy) = .f32) shapeCasts_S1x4112x4x128_S1x4112x512,
    StableHlo.nullary main_cst_20 (constant S_ .f32 0x00000000#32),
    StableHlo.unary main_cst_20 main_v147 (broadcastInDim S1x4x128x128 ![] bcast_S_S1x4x128x128 : (⟨S_, .f32⟩ : BufTy).Contents (Elt F) → (⟨S1x4x128x128, .f32⟩ : BufTy).Contents (Elt F)),
    StableHlo.reshape main_arg3 main_v148 (rfl : (.f32 : EltTy) = .f32) shapeCasts_S1x4112x512_S1x4112x4x128,
    StableHlo.unary main_v148 main_v149 ((transpose S1x4x4112x128 [0, 2, 1, 3] · transposes_S1x4112x4x128_S1x4x4112x128_0_2_1_3) : (⟨S1x4112x4x128, .f32⟩ : BufTy).Contents (Elt F) → (⟨S1x4x4112x128, .f32⟩ : BufTy).Contents (Elt F)),
    StableHlo.nullary main_cst_21 (constant S_ .f32 0x00000000#32),
    StableHlo.binary main_v149 main_cst_21 main_v150 ((fun x v => pad S1x4x4224x128 ![0, 0, 112, 0] ![0, 0, 0, 0] ![0, 0, 0, 0] x v pads_S1x4x4112x128_S1x4x4224x128_000_000_11200_000 h_S_) : (⟨S1x4x4112x128, .f32⟩ : BufTy).Contents (Elt F) → (⟨S_, .f32⟩ : BufTy).Contents (Elt F) → (⟨S1x4x4224x128, .f32⟩ : BufTy).Contents (Elt F)) ]

/-- Each touches the TensorCore's references only. -/
theorem main_part2_ops3_sub : (main_part2_ops3 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.binary_bufs_sub .., StableHlo.reshape_bufs_sub .., StableHlo.unary_bufs_sub .., StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.binary_bufs_sub ..⟩

/-- The block is the chain of its stretches. -/
theorem main_part2_chain (c : Dev nD) : main_part2 (F := F) c = (Pipeline.chainK
  [ StableHlo.seq main_part2_ops0,
    StableHlo.seq main_part2_ops1,
    StableHlo.seq main_part2_ops2,
    HostLoop.enter 0 ]
  (StableHlo.seq main_part2_ops3) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

/-- 16 host operations of @main, window 3 (statements 181 … 240), in order. -/
abbrev main_part3_ops0 : List (HloOp τ sig (Elt F)) :=
  [ StableHlo.reshape main_v150 main_v151 (rfl : (.f32 : EltTy) = .f32) shapeCasts_S1x4x4224x128_S1x4x33x128x128,
    StableHlo.binary main_v151 main_v140 main_v152 ((fun l r => Host.dotGeneral dot_S1x4x33x128x128_S1x4x33x128x128_S1x4x33x128x128_3_3_4_4_012_012 none l r) : (⟨S1x4x33x128x128, .f32⟩ : BufTy).Contents (Elt F) → (⟨S1x4x33x128x128, .f32⟩ : BufTy).Contents (Elt F) → (⟨S1x4x33x128x128, .f32⟩ : BufTy).Contents (Elt F)),
    StableHlo.unary main_v152 main_v153 ((transpose S33x1x4x128x128 [2, 0, 1, 4, 3] · transposes_S1x4x33x128x128_S33x1x4x128x128_2_0_1_4_3) : (⟨S1x4x33x128x128, .f32⟩ : BufTy).Contents (Elt F) → (⟨S33x1x4x128x128, .f32⟩ : BufTy).Contents (Elt F)),
    StableHlo.binary main_v151 main_v137_4 main_v154 ((fun l r => Host.dotGeneral dot_S1x4x33x128x128_S33x1x4x128x128_S1x4x33x128x128_4_4_3_3_012_120 none l r) : (⟨S1x4x33x128x128, .f32⟩ : BufTy).Contents (Elt F) → (⟨S33x1x4x128x128, .f32⟩ : BufTy).Contents (Elt F) → (⟨S1x4x33x128x128, .f32⟩ : BufTy).Contents (Elt F)),
    StableHlo.unary main_v138 main_v155 (broadcastInDim S1x4x33x128x128 ![0, 1, 2, 3, 4] bcast_S1x4x1x128x1_S1x4x33x128x128_0_1_2_3_4 : (⟨S1x4x1x128x1, .f32⟩ : BufTy).Contents (Elt F) → (⟨S1x4x33x128x128, .f32⟩ : BufTy).Contents (Elt F)),
    StableHlo.binary main_v154 main_v155 main_v156 (mulf : (⟨S1x4x33x128x128, .f32⟩ : BufTy).Contents (Elt F) → (⟨S1x4x33x128x128, .f32⟩ : BufTy).Contents (Elt F) → (⟨S1x4x33x128x128, .f32⟩ : BufTy).Contents (Elt F)),
    StableHlo.nullary main_cst_22 (constant S_ .f32 0x00000000#32),
    StableHlo.unary main_cst_22 main_v157 (broadcastInDim S1x4x128x128 ![] bcast_S_S1x4x128x128 : (⟨S_, .f32⟩ : BufTy).Contents (Elt F) → (⟨S1x4x128x128, .f32⟩ : BufTy).Contents (Elt F)),
    StableHlo.nullary main_cst_23 (constant S_ .f32 0x00000000#32),
    StableHlo.unary main_cst_23 main_v158 (broadcastInDim S33x1x4x128x128 ![] bcast_S_S33x1x4x128x128 : (⟨S_, .f32⟩ : BufTy).Contents (Elt F) → (⟨S33x1x4x128x128, .f32⟩ : BufTy).Contents (Elt F)),
    StableHlo.nullary main_c_24 (constantI S_ 32 0#32),
    StableHlo.unary main_v153 main_v159_0 id,
    StableHlo.unary main_v106 main_v159_1 id,
    StableHlo.unary main_c_24 main_v159_2 id,
    StableHlo.unary main_v157 main_v159_3 id,
    StableHlo.unary main_v158 main_v159_4 id ]

/-- Each touches the TensorCore's references only. -/
theorem main_part3_ops0_sub : (main_part3_ops0 : List (HloOp τ sig (Elt F))).Forall fun op => op.bufs ⊆ StableHlo.tcRefs τ sig :=
  ⟨StableHlo.reshape_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩

/-- 43 host operations of @main, window 3 (statements 181 … 240), in order. -/
abbrev main_part3_ops1 : List (HloOp τ sig (Elt F)) :=
  ( StableHlo.binary main_v151 main_v133 main_v160 ((fun l r => Host.dotGeneral dot_S1x4x33x128x128_S1x4x33x128x128_S1x4x33x128x128_3_3_4_4_012_012 none l r) : (⟨S1x4x33x128x128, .f32⟩ : BufTy).Contents (Elt F) → (⟨S1x4x33x128x128, .f32⟩ : BufTy).Contents (Elt F) → (⟨S1x4x33x128x128, .f32⟩ : BufTy).Contents (Elt F))
  :: StableHlo.unary main_v160 main_v161 ((transpose S1x4x33x128x128 [0, 1, 2, 4, 3] · transposes_S1x4x33x128x128_S1x4x33x128x128_0_1_2_4_3) : (⟨S1x4x33x128x128, .f32⟩ : BufTy).Contents (Elt F) → (⟨S1x4x33x128x128, .f32⟩ : BufTy).Contents (Elt F))
  :: StableHlo.binary main_v151 main_v82 main_v162 ((fun l r => Host.dotGeneral dot_S1x4x33x128x128_S1x4x33x128x128_S1x4x33x128x128_4_4_3_3_012_012 none l r) : (⟨S1x4x33x128x128, .f32⟩ : BufTy).Contents (Elt F) → (⟨S1x4x33x128x128, .f32⟩ : BufTy).Contents (Elt F) → (⟨S1x4x33x128x128, .f32⟩ : BufTy).Contents (Elt F))
  :: StableHlo.unary main_v131 main_v163 (broadcastInDim S1x4x33x128x128 ![0, 1, 2, 3, 4] bcast_S1x4x1x128x128_S1x4x33x128x128_0_1_2_3_4 : (⟨S1x4x1x128x128, .f32⟩ : BufTy).Contents (Elt F) → (⟨S1x4x33x128x128, .f32⟩ : BufTy).Contents (Elt F))
  :: StableHlo.binary main_v162 main_v163 main_v164 (mulf : (⟨S1x4x33x128x128, .f32⟩ : BufTy).Contents (Elt F) → (⟨S1x4x33x128x128, .f32⟩ : BufTy).Contents (Elt F) → (⟨S1x4x33x128x128, .f32⟩ : BufTy).Contents (Elt F))
  :: StableHlo.binary main_v164 main_v80 main_v165 ((fun l r => Host.dotGeneral dot_S1x4x33x128x128_S1x4x33x128x128_S1x4x33x128x128_3_3_4_4_012_012 none l r) : (⟨S1x4x33x128x128, .f32⟩ : BufTy).Contents (Elt F) → (⟨S1x4x33x128x128, .f32⟩ : BufTy).Contents (Elt F) → (⟨S1x4x33x128x128, .f32⟩ : BufTy).Contents (Elt F))
  :: StableHlo.binary main_v164 main_v81 main_v166 ((fun l r => Host.dotGeneral dot_S1x4x33x128x128_S1x4x33x128x128_S1x4x33x128x128_4_3_3_4_012_012 none l r) : (⟨S1x4x33x128x128, .f32⟩ : BufTy).Contents (Elt F) → (⟨S1x4x33x128x128, .f32⟩ : BufTy).Contents (Elt F) → (⟨S1x4x33x128x128, .f32⟩ : BufTy).Contents (Elt F))
  :: StableHlo.binary main_v156 main_v166 main_v167 (addf : (⟨S1x4x33x128x128, .f32⟩ : BufTy).Contents (Elt F) → (⟨S1x4x33x128x128, .f32⟩ : BufTy).Contents (Elt F) → (⟨S1x4x33x128x128, .f32⟩ : BufTy).Contents (Elt F))
  :: StableHlo.binary main_v159_4 main_v104 main_v168 ((fun l r => Host.dotGeneral dot_S33x1x4x128x128_S1x4x33x128x128_S33x1x4x128x128_3_4_4_3_012_201 none l r) : (⟨S33x1x4x128x128, .f32⟩ : BufTy).Contents (Elt F) → (⟨S1x4x33x128x128, .f32⟩ : BufTy).Contents (Elt F) → (⟨S33x1x4x128x128, .f32⟩ : BufTy).Contents (Elt F))
  :: StableHlo.unary main_v168 main_v169 ((transpose S1x4x33x128x128 [1, 2, 0, 4, 3] · transposes_S33x1x4x128x128_S1x4x33x128x128_1_2_0_4_3) : (⟨S33x1x4x128x128, .f32⟩ : BufTy).Contents (Elt F) → (⟨S1x4x33x128x128, .f32⟩ : BufTy).Contents (Elt F))
  :: StableHlo.binary main_v161 main_v169 main_v170 (addf : (⟨S1x4x33x128x128, .f32⟩ : BufTy).Contents (Elt F) → (⟨S1x4x33x128x128, .f32⟩ : BufTy).Contents (Elt F) → (⟨S1x4x33x128x128, .f32⟩ : BufTy).Contents (Elt F))
  :: StableHlo.binary main_v159_4 main_v82 main_v171 ((fun l r => Host.dotGeneral dot_S33x1x4x128x128_S1x4x33x128x128_S33x1x4x128x128_4_4_3_3_012_201 none l r) : (⟨S33x1x4x128x128, .f32⟩ : BufTy).Contents (Elt F) → (⟨S1x4x33x128x128, .f32⟩ : BufTy).Contents (Elt F) → (⟨S33x1x4x128x128, .f32⟩ : BufTy).Contents (Elt F))
  :: StableHlo.unary main_v171 main_v172 ((transpose S1x4x33x128x128 [1, 2, 0, 4, 3] · transposes_S33x1x4x128x128_S1x4x33x128x128_1_2_0_4_3) : (⟨S33x1x4x128x128, .f32⟩ : BufTy).Contents (Elt F) → (⟨S1x4x33x128x128, .f32⟩ : BufTy).Contents (Elt F))
  :: StableHlo.unary main_v102 main_v173 (broadcastInDim S1x4x33x128x128 ![0, 1, 2, 3, 4] bcast_S1x4x1x128x1_S1x4x33x128x128_0_1_2_3_4 : (⟨S1x4x1x128x1, .f32⟩ : BufTy).Contents (Elt F) → (⟨S1x4x33x128x128, .f32⟩ : BufTy).Contents (Elt F))
  :: StableHlo.binary main_v172 main_v173 main_v174 (mulf : (⟨S1x4x33x128x128, .f32⟩ : BufTy).Contents (Elt F) → (⟨S1x4x33x128x128, .f32⟩ : BufTy).Contents (Elt F) → (⟨S1x4x33x128x128, .f32⟩ : BufTy).Contents (Elt F))
  :: StableHlo.binary main_v165 main_v174 main_v175 (addf : (⟨S1x4x33x128x128, .f32⟩ : BufTy).Contents (Elt F) → (⟨S1x4x33x128x128, .f32⟩ : BufTy).Contents (Elt F) → (⟨S1x4x33x128x128, .f32⟩ : BufTy).Contents (Elt F))
  :: StableHlo.reshape main_v170 main_v176 (rfl : (.f32 : EltTy) = .f32) shapeCasts_S1x4x33x128x128_S1x4x4224x128
  :: StableHlo.reshape main_v175 main_v177 (rfl : (.f32 : EltTy) = .f32) shapeCasts_S1x4x33x128x128_S1x4x4224x128
  :: StableHlo.reshape main_v167 main_v178 (rfl : (.f32 : EltTy) = .f32) shapeCasts_S1x4x33x128x128_S1x4x4224x128
  :: StableHlo.unary main_v177 main_v179 ((extractStridedSlice S1x4x4224x64 ![0, 0, 0, 0] · slices_S1x4x4224x128_S1x4x4224x64_0_0_0_0) : (⟨S1x4x4224x128, .f32⟩ : BufTy).Contents (Elt F) → (⟨S1x4x4224x64, .f32⟩ : BufTy).Contents (Elt F))
  :: StableHlo.unary main_v177 main_v180 ((extractStridedSlice S1x4x4224x64 ![0, 0, 0, 64] · slices_S1x4x4224x128_S1x4x4224x64_0_0_0_64) : (⟨S1x4x4224x128, .f32⟩ : BufTy).Contents (Elt F) → (⟨S1x4x4224x64, .f32⟩ : BufTy).Contents (Elt F))
  :: StableHlo.unary main_v75 main_v181 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v180 main_v181 main_v182 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v72 main_v183 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v180 main_v183 main_v184 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v179 main_v185 (Host.negf : (⟨S1x4x4224x64, .f32⟩ : BufTy).Contents (Elt F) → (⟨S1x4x4224x64, .f32⟩ : BufTy).Contents (Elt F))
  :: StableHlo.unary main_v68 main_v186 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v185 main_v186 main_v187 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.binary main_v182 main_v187 main_v188 (addf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v65 main_v189 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v179 main_v189 main_v190 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.binary main_v184 main_v190 main_v191 (addf : (⟨S1x4x4224x64, .f32⟩ : BufTy).Contents (Elt F) → (⟨S1x4x4224x64, .f32⟩ : BufTy).Contents (Elt F) → (⟨S1x4x4224x64, .f32⟩ : BufTy).Contents (Elt F))
  :: StableHlo.nullary main_cst_25 (constant S_ .f32 0x00000000#32)
  :: StableHlo.binary main_v188 main_cst_25 main_v192 ((fun x v => pad S1x4x4224x128 ![0, 0, 0, 64] ![0, 0, 0, 0] ![0, 0, 0, 0] x v pads_S1x4x4224x64_S1x4x4224x128_000_000_000_6400 h_S_) : (⟨S1x4x4224x64, .f32⟩ : BufTy).Contents (Elt F) → (⟨S_, .f32⟩ : BufTy).Contents (Elt F) → (⟨S1x4x4224x128, .f32⟩ : BufTy).Contents (Elt F))
  :: StableHlo.nullary main_cst_26 (constant S_ .f32 0x00000000#32)
  :: StableHlo.binary main_v191 main_cst_26 main_v193 ((fun x v => pad S1x4x4224x128 ![0, 0, 0, 0] ![0, 0, 0, 64] ![0, 0, 0, 0] x v pads_S1x4x4224x64_S1x4x4224x128_000_000_000_0640 h_S_) : (⟨S1x4x4224x64, .f32⟩ : BufTy).Contents (Elt F) → (⟨S_, .f32⟩ : BufTy).Contents (Elt F) → (⟨S1x4x4224x128, .f32⟩ : BufTy).Contents (Elt F))
  :: StableHlo.binary main_v192 main_v193 main_v194 (addf : (⟨S1x4x4224x128, .f32⟩ : BufTy).Contents (Elt F) → (⟨S1x4x4224x128, .f32⟩ : BufTy).Contents (Elt F) → (⟨S1x4x4224x128, .f32⟩ : BufTy).Contents (Elt F))
  :: StableHlo.nullary main_cst_27 (constant S_ .f32 0x3DB504F3#32)
  :: StableHlo.unary main_cst_27 main_v195 (broadcastInDim S1x4x4224x128 ![] bcast_S_S1x4x4224x128 : (⟨S_, .f32⟩ : BufTy).Contents (Elt F) → (⟨S1x4x4224x128, .f32⟩ : BufTy).Contents (Elt F))
  :: StableHlo.binary main_v178 main_v195 main_v196 (mulf : (⟨S1x4x4224x128, .f32⟩ : BufTy).Contents (Elt F) → (⟨S1x4x4224x128, .f32⟩ : BufTy).Contents (Elt F) → (⟨S1x4x4224x128, .f32⟩ : BufTy).Contents (Elt F))
  :: StableHlo.unary main_v196 main_v197 ((extractStridedSlice S1x4x4224x64 ![0, 0, 0, 0] · slices_S1x4x4224x128_S1x4x4224x64_0_0_0_0) : (⟨S1x4x4224x128, .f32⟩ : BufTy).Contents (Elt F) → (⟨S1x4x4224x64, .f32⟩ : BufTy).Contents (Elt F))
  :: StableHlo.unary main_v196 main_v198 ((extractStridedSlice S1x4x4224x64 ![0, 0, 0, 64] · slices_S1x4x4224x128_S1x4x4224x64_0_0_0_64) : (⟨S1x4x4224x128, .f32⟩ : BufTy).Contents (Elt F) → (⟨S1x4x4224x64, .f32⟩ : BufTy).Contents (Elt F))
  :: StableHlo.unary main_v43 main_v199 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: [] )

/-- Each touches the TensorCore's references only. -/
theorem main_part3_ops1_sub : (main_part3_ops1 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.reshape_bufs_sub .., StableHlo.reshape_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub ..⟩

/-- The block is the chain of its stretches. -/
theorem main_part3_chain (c : Dev nD) : main_part3 (F := F) c = (Pipeline.chainK
  [ StableHlo.seq main_part3_ops0,
    HostLoop.enter 1 ]
  (StableHlo.seq main_part3_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 42 host operations of @main, window 4 (statements 241 … 283), in order. -/
abbrev main_part4_ops0 : List (HloOp τ sig (Elt F)) :=
  ( StableHlo.binary main_v198 main_v199 main_v200 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v40 main_v201 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v198 main_v201 main_v202 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v197 main_v203 (Host.negf : (⟨S1x4x4224x64, .f32⟩ : BufTy).Contents (Elt F) → (⟨S1x4x4224x64, .f32⟩ : BufTy).Contents (Elt F))
  :: StableHlo.unary main_v36 main_v204 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v203 main_v204 main_v205 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.binary main_v200 main_v205 main_v206 (addf : (⟨S1x4x4224x64, .f32⟩ : BufTy).Contents (Elt F) → (⟨S1x4x4224x64, .f32⟩ : BufTy).Contents (Elt F) → (⟨S1x4x4224x64, .f32⟩ : BufTy).Contents (Elt F))
  :: StableHlo.unary main_v33 main_v207 (broadcastInDim S1x4x4224x64 ![0, 1, 2, 3] bcast_S1x1x4224x64_S1x4x4224x64_0_1_2_3 : (⟨S1x1x4224x64, .f32⟩ : BufTy).Contents (Elt F) → (⟨S1x4x4224x64, .f32⟩ : BufTy).Contents (Elt F))
  :: StableHlo.binary main_v197 main_v207 main_v208 (mulf : (⟨S1x4x4224x64, .f32⟩ : BufTy).Contents (Elt F) → (⟨S1x4x4224x64, .f32⟩ : BufTy).Contents (Elt F) → (⟨S1x4x4224x64, .f32⟩ : BufTy).Contents (Elt F))
  :: StableHlo.binary main_v202 main_v208 main_v209 (addf : (⟨S1x4x4224x64, .f32⟩ : BufTy).Contents (Elt F) → (⟨S1x4x4224x64, .f32⟩ : BufTy).Contents (Elt F) → (⟨S1x4x4224x64, .f32⟩ : BufTy).Contents (Elt F))
  :: StableHlo.nullary main_cst_28 (constant S_ .f32 0x00000000#32)
  :: StableHlo.binary main_v206 main_cst_28 main_v210 ((fun x v => pad S1x4x4224x128 ![0, 0, 0, 64] ![0, 0, 0, 0] ![0, 0, 0, 0] x v pads_S1x4x4224x64_S1x4x4224x128_000_000_000_6400 h_S_) : (⟨S1x4x4224x64, .f32⟩ : BufTy).Contents (Elt F) → (⟨S_, .f32⟩ : BufTy).Contents (Elt F) → (⟨S1x4x4224x128, .f32⟩ : BufTy).Contents (Elt F))
  :: StableHlo.nullary main_cst_29 (constant S_ .f32 0x00000000#32)
  :: StableHlo.binary main_v209 main_cst_29 main_v211 ((fun x v => pad S1x4x4224x128 ![0, 0, 0, 0] ![0, 0, 0, 64] ![0, 0, 0, 0] x v pads_S1x4x4224x64_S1x4x4224x128_000_000_000_0640 h_S_) : (⟨S1x4x4224x64, .f32⟩ : BufTy).Contents (Elt F) → (⟨S_, .f32⟩ : BufTy).Contents (Elt F) → (⟨S1x4x4224x128, .f32⟩ : BufTy).Contents (Elt F))
  :: StableHlo.binary main_v210 main_v211 main_v212 (addf : (⟨S1x4x4224x128, .f32⟩ : BufTy).Contents (Elt F) → (⟨S1x4x4224x128, .f32⟩ : BufTy).Contents (Elt F) → (⟨S1x4x4224x128, .f32⟩ : BufTy).Contents (Elt F))
  :: StableHlo.unary main_v176 main_v213 ((extractStridedSlice S1x4x112x128 ![0, 0, 0, 0] · slices_S1x4x4224x128_S1x4x112x128_0_0_0_0) : (⟨S1x4x4224x128, .f32⟩ : BufTy).Contents (Elt F) → (⟨S1x4x112x128, .f32⟩ : BufTy).Contents (Elt F))
  :: StableHlo.unary main_v176 main_v214 ((extractStridedSlice S1x4x4112x128 ![0, 0, 112, 0] · slices_S1x4x4224x128_S1x4x4112x128_0_0_112_0) : (⟨S1x4x4224x128, .f32⟩ : BufTy).Contents (Elt F) → (⟨S1x4x4112x128, .f32⟩ : BufTy).Contents (Elt F))
  :: StableHlo.unary main_v214 main_v215 ((transpose S1x4112x4x128 [0, 2, 1, 3] · transposes_S1x4x4112x128_S1x4112x4x128_0_2_1_3) : (⟨S1x4x4112x128, .f32⟩ : BufTy).Contents (Elt F) → (⟨S1x4112x4x128, .f32⟩ : BufTy).Contents (Elt F))
  :: StableHlo.reshape main_v215 main_v216 (rfl : (.f32 : EltTy) = .f32) shapeCasts_S1x4112x4x128_S1x4112x512
  :: StableHlo.unary main_v194 main_v217 ((extractStridedSlice S1x4x112x128 ![0, 0, 0, 0] · slices_S1x4x4224x128_S1x4x112x128_0_0_0_0) : (⟨S1x4x4224x128, .f32⟩ : BufTy).Contents (Elt F) → (⟨S1x4x112x128, .f32⟩ : BufTy).Contents (Elt F))
  :: StableHlo.unary main_v194 main_v218 ((extractStridedSlice S1x4x4112x128 ![0, 0, 112, 0] · slices_S1x4x4224x128_S1x4x4112x128_0_0_112_0) : (⟨S1x4x4224x128, .f32⟩ : BufTy).Contents (Elt F) → (⟨S1x4x4112x128, .f32⟩ : BufTy).Contents (Elt F))
  :: StableHlo.unary main_v218 main_v219 ((transpose S1x4112x4x128 [0, 2, 1, 3] · transposes_S1x4x4112x128_S1x4112x4x128_0_2_1_3) : (⟨S1x4x4112x128, .f32⟩ : BufTy).Contents (Elt F) → (⟨S1x4112x4x128, .f32⟩ : BufTy).Contents (Elt F))
  :: StableHlo.reshape main_v219 main_v220 (rfl : (.f32 : EltTy) = .f32) shapeCasts_S1x4112x4x128_S1x4112x512
  :: StableHlo.unary main_v212 main_v221 ((extractStridedSlice S1x4x112x128 ![0, 0, 0, 0] · slices_S1x4x4224x128_S1x4x112x128_0_0_0_0) : (⟨S1x4x4224x128, .f32⟩ : BufTy).Contents (Elt F) → (⟨S1x4x112x128, .f32⟩ : BufTy).Contents (Elt F))
  :: StableHlo.unary main_v212 main_v222 ((extractStridedSlice S1x4x4112x128 ![0, 0, 112, 0] · slices_S1x4x4224x128_S1x4x4112x128_0_0_112_0) : (⟨S1x4x4224x128, .f32⟩ : BufTy).Contents (Elt F) → (⟨S1x4x4112x128, .f32⟩ : BufTy).Contents (Elt F))
  :: StableHlo.unary main_v222 main_v223 ((transpose S1x4112x4x128 [0, 2, 1, 3] · transposes_S1x4x4112x128_S1x4112x4x128_0_2_1_3) : (⟨S1x4x4112x128, .f32⟩ : BufTy).Contents (Elt F) → (⟨S1x4112x4x128, .f32⟩ : BufTy).Contents (Elt F))
  :: StableHlo.reshape main_v223 main_v224 (rfl : (.f32 : EltTy) = .f32) shapeCasts_S1x4112x4x128_S1x4112x512
  :: StableHlo.nullary main_cst_30 (constant S_ .f32 0x00000000#32)
  :: StableHlo.unary main_cst_30 main_v225 (broadcastInDim S112x512 ![] bcast_S_S112x512 : (⟨S_, .f32⟩ : BufTy).Contents (Elt F) → (⟨S112x512, .f32⟩ : BufTy).Contents (Elt F))
  :: StableHlo.reshape main_v224 main_v226 (rfl : (.f32 : EltTy) = .f32) shapeCasts_S1x4112x512_S4112x512
  :: StableHlo.binary main_v225 main_v226 main_v227 ((fun a b => concatenate S4224x512 0 [⟨S112x512, a⟩, ⟨S4112x512, b⟩] concatenates_S112x512_S4112x512_S4224x512_d0) : (⟨S112x512, .f32⟩ : BufTy).Contents (Elt F) → (⟨S4112x512, .f32⟩ : BufTy).Contents (Elt F) → (⟨S4224x512, .f32⟩ : BufTy).Contents (Elt F))
  :: StableHlo.unary main_v227 main_v228 ((truncf .bf16 · bitsLt_bf16_f32) : (⟨S4224x512, .f32⟩ : BufTy).Contents (Elt F) → (⟨S4224x512, .bf16⟩ : BufTy).Contents (Elt F))
  :: StableHlo.nullary main_cst_31 (constant S_ .f32 0x00000000#32)
  :: StableHlo.unary main_cst_31 main_v229 (broadcastInDim S112x512 ![] bcast_S_S112x512 : (⟨S_, .f32⟩ : BufTy).Contents (Elt F) → (⟨S112x512, .f32⟩ : BufTy).Contents (Elt F))
  :: StableHlo.reshape main_v220 main_v230 (rfl : (.f32 : EltTy) = .f32) shapeCasts_S1x4112x512_S4112x512
  :: StableHlo.binary main_v229 main_v230 main_v231 ((fun a b => concatenate S4224x512 0 [⟨S112x512, a⟩, ⟨S4112x512, b⟩] concatenates_S112x512_S4112x512_S4224x512_d0) : (⟨S112x512, .f32⟩ : BufTy).Contents (Elt F) → (⟨S4112x512, .f32⟩ : BufTy).Contents (Elt F) → (⟨S4224x512, .f32⟩ : BufTy).Contents (Elt F))
  :: StableHlo.unary main_v231 main_v232 ((truncf .bf16 · bitsLt_bf16_f32) : (⟨S4224x512, .f32⟩ : BufTy).Contents (Elt F) → (⟨S4224x512, .bf16⟩ : BufTy).Contents (Elt F))
  :: StableHlo.nullary main_cst_32 (constant S_ .f32 0x00000000#32)
  :: StableHlo.unary main_cst_32 main_v233 (broadcastInDim S112x512 ![] bcast_S_S112x512 : (⟨S_, .f32⟩ : BufTy).Contents (Elt F) → (⟨S112x512, .f32⟩ : BufTy).Contents (Elt F))
  :: StableHlo.reshape main_v216 main_v234 (rfl : (.f32 : EltTy) = .f32) shapeCasts_S1x4112x512_S4112x512
  :: StableHlo.binary main_v233 main_v234 main_v235 ((fun a b => concatenate S4224x512 0 [⟨S112x512, a⟩, ⟨S4112x512, b⟩] concatenates_S112x512_S4112x512_S4224x512_d0) : (⟨S112x512, .f32⟩ : BufTy).Contents (Elt F) → (⟨S4112x512, .f32⟩ : BufTy).Contents (Elt F) → (⟨S4224x512, .f32⟩ : BufTy).Contents (Elt F))
  :: StableHlo.unary main_v235 main_v236 ((truncf .bf16 · bitsLt_bf16_f32) : (⟨S4224x512, .f32⟩ : BufTy).Contents (Elt F) → (⟨S4224x512, .bf16⟩ : BufTy).Contents (Elt F))
  :: [] )

/-- Each touches the TensorCore's references only. -/
theorem main_part4_ops0_sub : (main_part4_ops0 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.reshape_bufs_sub .., StableHlo.nullary_bufs_sub .., StableHlo.unary_bufs_sub .., StableHlo.reshape_bufs_sub .., StableHlo.binary_bufs_sub .., StableHlo.unary_bufs_sub .., StableHlo.nullary_bufs_sub .., StableHlo.unary_bufs_sub .., StableHlo.reshape_bufs_sub .., StableHlo.binary_bufs_sub .., StableHlo.unary_bufs_sub .., StableHlo.nullary_bufs_sub .., StableHlo.unary_bufs_sub .., StableHlo.reshape_bufs_sub .., StableHlo.binary_bufs_sub .., StableHlo.unary_bufs_sub ..⟩

/-- The block is the chain of its stretches. -/
theorem main_part4_chain (c : Dev nD) : main_part4 (F := F) c = (Pipeline.chain
  [ StableHlo.seq main_part4_ops0 ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- The block is the chain of its stretches. -/
theorem main_chain_windows (c : Dev nD) : main (F := F) c = (Pipeline.chain
  [ StableHlo.seq main_part0_ops0,
    StableHlo.seq main_part1_ops0,
    StableHlo.seq main_part2_ops0,
    StableHlo.seq main_part2_ops1,
    StableHlo.seq main_part2_ops2,
    HostLoop.enter 0,
    StableHlo.seq main_part2_ops3,
    StableHlo.seq main_part3_ops0,
    HostLoop.enter 1,
    StableHlo.seq main_part3_ops1,
    StableHlo.seq main_part4_ops0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

/-- 6 host operations of @dynamic_index_in_dim (main_while0b_call1), in order. -/
abbrev while0Ops0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.nullary (.of main_while0b_call1_c_2 : StableHlo.TRef sig ⟨S_, .i32⟩) (constantI S_ 32 0#32),
    StableHlo.TRef.unaryIndexed (.of main_v137_0 : StableHlo.TRef sig ⟨S33x1x4x128x128, .f32⟩) ![(.of main_v137_2 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩), (.of main_while0b_call1_c_2 : StableHlo.TRef sig ⟨S_, .i32⟩)] (.of main_while0b_call1_v0 : StableHlo.TRef sig ⟨S1x1x4x128x128, .f32⟩) (fun x i => Host.dynamicSlice S1x1x4x128x128 x (fun k => (i k (Shape.Idx.first h_S_)).toInt) sliceFits_S33x1x4x128x128_S1x1x4x128x128),
    StableHlo.TRef.reshape (.of main_while0b_call1_v0 : StableHlo.TRef sig ⟨S1x1x4x128x128, .f32⟩) (.of main_while0b_v237 : StableHlo.TRef sig ⟨S1x4x128x128, .f32⟩) (rfl : (.f32 : EltTy) = .f32) shapeCasts_S1x1x4x128x128_S1x4x128x128 ]

/-- Each touches the TensorCore's references only. -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 3 host operations of host loop 0's body region, in order. -/
abbrev while0Ops0_1 : List (HloOp τ sig (Elt F)) :=
  [ StableHlo.unary main_v137_1 main_while0b_v238 (broadcastInDim S1x4x128x128 ![0, 1, 2, 3] bcast_S1x4x1x1_S1x4x128x128_0_1_2_3 : (⟨S1x4x1x1, .f32⟩ : BufTy).Contents (Elt F) → (⟨S1x4x128x128, .f32⟩ : BufTy).Contents (Elt F)),
    StableHlo.binary main_v137_3 main_while0b_v238 main_while0b_v239 (mulf : (⟨S1x4x128x128, .f32⟩ : BufTy).Contents (Elt F) → (⟨S1x4x128x128, .f32⟩ : BufTy).Contents (Elt F) → (⟨S1x4x128x128, .f32⟩ : BufTy).Contents (Elt F)),
    StableHlo.binary main_while0b_v239 main_while0b_v237 main_while0b_v240 (addf : (⟨S1x4x128x128, .f32⟩ : BufTy).Contents (Elt F) → (⟨S1x4x128x128, .f32⟩ : BufTy).Contents (Elt F) → (⟨S1x4x128x128, .f32⟩ : BufTy).Contents (Elt F)) ]

/-- Each touches the TensorCore's references only. -/
theorem while0Ops0_1_sub : (while0Ops0_1 : List (HloOp τ sig (Elt F))).Forall fun op => op.bufs ⊆ StableHlo.tcRefs τ sig :=
  ⟨StableHlo.unary_bufs_sub .., StableHlo.binary_bufs_sub .., StableHlo.binary_bufs_sub ..⟩

/-- 6 host operations of @dynamic_update_index_in_dim (main_while0b_call2), in order. -/
abbrev while0Ops0_2 : List (HloOp τ sig (Elt F)) :=
  [ StableHlo.TRef.unary (.of main_v137_3 : StableHlo.TRef sig ⟨S1x4x128x128, .f32⟩) (.of main_while0b_call2_v0 : StableHlo.TRef sig ⟨S1x1x4x128x128, .f32⟩) (broadcastInDim S1x1x4x128x128 ![1, 2, 3, 4] bcast_S1x4x128x128_S1x1x4x128x128_1_2_3_4),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.nullary (.of main_while0b_call2_c_2 : StableHlo.TRef sig ⟨S_, .i32⟩) (constantI S_ 32 0#32),
    StableHlo.TRef.binaryIndexed (.of main_v137_4 : StableHlo.TRef sig ⟨S33x1x4x128x128, .f32⟩) (.of main_while0b_call2_v0 : StableHlo.TRef sig ⟨S1x1x4x128x128, .f32⟩) ![(.of main_v137_2 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩), (.of main_while0b_call2_c_2 : StableHlo.TRef sig ⟨S_, .i32⟩)] (.of main_while0b_v241 : StableHlo.TRef sig ⟨S33x1x4x128x128, .f32⟩) (fun x u i => Host.dynamicUpdateSlice x u (fun k => (i k (Shape.Idx.first h_S_)).toInt) updateFits_S33x1x4x128x128_S1x1x4x128x128) ]

/-- Each touches the TensorCore's references only. -/
theorem while0Ops0_2_sub : (while0Ops0_2 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- 5 host operations of host loop 0's body region, in order. -/
abbrev while0Ops0_3 : List (HloOp τ sig (Elt F)) :=
  [ StableHlo.nullary main_while0b_c_37 (constantI S_ 32 1#32),
    StableHlo.binary main_v137_2 main_while0b_c_37 main_while0b_v242 (addi : (⟨S_, .i32⟩ : BufTy).Contents (Elt F) → (⟨S_, .i32⟩ : BufTy).Contents (Elt F) → (⟨S_, .i32⟩ : BufTy).Contents (Elt F)),
    StableHlo.unary main_while0b_v242 main_v137_2 id,
    StableHlo.unary main_while0b_v240 main_v137_3 id,
    StableHlo.unary main_while0b_v241 main_v137_4 id ]

/-- Each touches the TensorCore's references only. -/
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

/-- The block is the chain of its stretches. -/
theorem while0_body_chain : main_while0_body (F := F) = (Pipeline.chain
  [ StableHlo.seq while0Ops0,
    StableHlo.seq while0Ops0_1,
    StableHlo.seq while0Ops0_2,
    StableHlo.seq while0Ops0_3 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-- 4 host operations of host loop 1's body region, in order. -/
abbrev while1Ops0 : List (HloOp τ sig (Elt F)) :=
  [ StableHlo.nullary main_while1b_c_37 (constantI S_ 32 33#32),
    StableHlo.binary main_while1b_c_37 main_v159_2 main_while1b_v237 (subi : (⟨S_, .i32⟩ : BufTy).Contents (Elt F) → (⟨S_, .i32⟩ : BufTy).Contents (Elt F) → (⟨S_, .i32⟩ : BufTy).Contents (Elt F)),
    StableHlo.nullary main_while1b_c_38 (constantI S_ 32 1#32),
    StableHlo.binary main_while1b_v237 main_while1b_c_38 main_while1b_v238 (subi : (⟨S_, .i32⟩ : BufTy).Contents (Elt F) → (⟨S_, .i32⟩ : BufTy).Contents (Elt F) → (⟨S_, .i32⟩ : BufTy).Contents (Elt F)) ]

/-- Each touches the TensorCore's references only. -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- 6 host operations of @dynamic_index_in_dim (main_while1b_call3), in order. -/
abbrev while1Ops0_1 : List (HloOp τ sig (Elt F)) :=
  [ StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.nullary (.of main_while1b_call3_c_1 : StableHlo.TRef sig ⟨S_, .i32⟩) (constantI S_ 32 0#32),
    StableHlo.TRef.nullary (.of main_while1b_call3_c_2 : StableHlo.TRef sig ⟨S_, .i32⟩) (constantI S_ 32 0#32),
    StableHlo.TRef.unaryIndexed (.of main_v159_0 : StableHlo.TRef sig ⟨S33x1x4x128x128, .f32⟩) ![(.of main_while1b_v238 : StableHlo.TRef sig ⟨S_, .i32⟩), (.of main_while1b_call3_c : StableHlo.TRef sig ⟨S_, .i32⟩), (.of main_while1b_call3_c_0 : StableHlo.TRef sig ⟨S_, .i32⟩), (.of main_while1b_call3_c_1 : StableHlo.TRef sig ⟨S_, .i32⟩), (.of main_while1b_call3_c_2 : StableHlo.TRef sig ⟨S_, .i32⟩)] (.of main_while1b_call3_v0 : StableHlo.TRef sig ⟨S1x1x4x128x128, .f32⟩) (fun x i => Host.dynamicSlice S1x1x4x128x128 x (fun k => (i k (Shape.Idx.first h_S_)).toInt) sliceFits_S33x1x4x128x128_S1x1x4x128x128),
    StableHlo.TRef.reshape (.of main_while1b_call3_v0 : StableHlo.TRef sig ⟨S1x1x4x128x128, .f32⟩) (.of main_while1b_v239 : StableHlo.TRef sig ⟨S1x4x128x128, .f32⟩) (rfl : (.f32 : EltTy) = .f32) shapeCasts_S1x1x4x128x128_S1x4x128x128 ]

/-- Each touches the TensorCore's references only. -/
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 3 host operations of host loop 1's body region, in order. -/
abbrev while1Ops0_2 : List (HloOp τ sig (Elt F)) :=
  [ StableHlo.unary main_v159_1 main_while1b_v240 (broadcastInDim S1x4x128x128 ![0, 1, 2, 3] bcast_S1x4x1x1_S1x4x128x128_0_1_2_3 : (⟨S1x4x1x1, .f32⟩ : BufTy).Contents (Elt F) → (⟨S1x4x128x128, .f32⟩ : BufTy).Contents (Elt F)),
    StableHlo.binary main_v159_3 main_while1b_v240 main_while1b_v241 (mulf : (⟨S1x4x128x128, .f32⟩ : BufTy).Contents (Elt F) → (⟨S1x4x128x128, .f32⟩ : BufTy).Contents (Elt F) → (⟨S1x4x128x128, .f32⟩ : BufTy).Contents (Elt F)),
    StableHlo.binary main_while1b_v239 main_while1b_v241 main_while1b_v242 (addf : (⟨S1x4x128x128, .f32⟩ : BufTy).Contents (Elt F) → (⟨S1x4x128x128, .f32⟩ : BufTy).Contents (Elt F) → (⟨S1x4x128x128, .f32⟩ : BufTy).Contents (Elt F)) ]

/-- Each touches the TensorCore's references only. -/
theorem while1Ops0_2_sub : (while1Ops0_2 : List (HloOp τ sig (Elt F))).Forall fun op => op.bufs ⊆ StableHlo.tcRefs τ sig :=
  ⟨StableHlo.unary_bufs_sub .., StableHlo.binary_bufs_sub .., StableHlo.binary_bufs_sub ..⟩

/-- 6 host operations of @dynamic_update_index_in_dim (main_while1b_call4), in order. -/
abbrev while1Ops0_3 : List (HloOp τ sig (Elt F)) :=
  [ StableHlo.TRef.unary (.of main_v159_3 : StableHlo.TRef sig ⟨S1x4x128x128, .f32⟩) (.of main_while1b_call4_v0 : StableHlo.TRef sig ⟨S1x1x4x128x128, .f32⟩) (broadcastInDim S1x1x4x128x128 ![1, 2, 3, 4] bcast_S1x4x128x128_S1x1x4x128x128_1_2_3_4),
    StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.nullary (.of main_while1b_call4_c_1 : StableHlo.TRef sig ⟨S_, .i32⟩) (constantI S_ 32 0#32),
    StableHlo.TRef.nullary (.of main_while1b_call4_c_2 : StableHlo.TRef sig ⟨S_, .i32⟩) (constantI S_ 32 0#32),
    StableHlo.TRef.binaryIndexed (.of main_v159_4 : StableHlo.TRef sig ⟨S33x1x4x128x128, .f32⟩) (.of main_while1b_call4_v0 : StableHlo.TRef sig ⟨S1x1x4x128x128, .f32⟩) ![(.of main_while1b_v238 : StableHlo.TRef sig ⟨S_, .i32⟩), (.of main_while1b_call4_c : StableHlo.TRef sig ⟨S_, .i32⟩), (.of main_while1b_call4_c_0 : StableHlo.TRef sig ⟨S_, .i32⟩), (.of main_while1b_call4_c_1 : StableHlo.TRef sig ⟨S_, .i32⟩), (.of main_while1b_call4_c_2 : StableHlo.TRef sig ⟨S_, .i32⟩)] (.of main_while1b_v243 : StableHlo.TRef sig ⟨S33x1x4x128x128, .f32⟩) (fun x u i => Host.dynamicUpdateSlice x u (fun k => (i k (Shape.Idx.first h_S_)).toInt) updateFits_S33x1x4x128x128_S1x1x4x128x128) ]

/-- Each touches the TensorCore's references only. -/
theorem while1Ops0_3_sub : (while1Ops0_3 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- 5 host operations of host loop 1's body region, in order. -/
abbrev while1Ops0_4 : List (HloOp τ sig (Elt F)) :=
  [ StableHlo.nullary main_while1b_c_39 (constantI S_ 32 1#32),
    StableHlo.binary main_v159_2 main_while1b_c_39 main_while1b_v244 (addi : (⟨S_, .i32⟩ : BufTy).Contents (Elt F) → (⟨S_, .i32⟩ : BufTy).Contents (Elt F) → (⟨S_, .i32⟩ : BufTy).Contents (Elt F)),
    StableHlo.unary main_while1b_v244 main_v159_2 id,
    StableHlo.unary main_while1b_v242 main_v159_3 id,
    StableHlo.unary main_while1b_v243 main_v159_4 id ]

/-- Each touches the TensorCore's references only. -/
theorem while1Ops0_4_sub : (while1Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

/-- The block is the chain of its stretches. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- No operation of the stretch allocates a buffer. -/
theorem main_part0_ops0_fresh : (main_part0_ops0 : List (HloOp τ sig (Elt F))).Forall fun op => op.fresh = ∅ :=
  StableHlo.forall_fresh_of_map rfl
/-- No operation of the stretch allocates a buffer. -/
theorem main_part1_ops0_fresh : (main_part1_ops0 : List (HloOp τ sig (Elt F))).Forall fun op => op.fresh = ∅ :=
  StableHlo.forall_fresh_of_map rfl
/-- No operation of the stretch allocates a buffer. -/
theorem main_part2_ops0_fresh : (main_part2_ops0 : List (HloOp τ sig (Elt F))).Forall fun op => op.fresh = ∅ :=
  StableHlo.forall_fresh_of_map rfl
/-- No operation of the stretch allocates a buffer. -/
theorem main_part2_ops1_fresh : (main_part2_ops1 : List (HloOp τ sig (Elt F))).Forall fun op => op.fresh = ∅ :=
  StableHlo.forall_fresh_of_map rfl
/-- No operation of the stretch allocates a buffer. -/
theorem main_part2_ops2_fresh : (main_part2_ops2 : List (HloOp τ sig (Elt F))).Forall fun op => op.fresh = ∅ :=
  StableHlo.forall_fresh_of_map rfl
/-- No operation of the stretch allocates a buffer. -/
theorem main_part2_ops3_fresh : (main_part2_ops3 : List (HloOp τ sig (Elt F))).Forall fun op => op.fresh = ∅ :=
  StableHlo.forall_fresh_of_map rfl
/-- No operation of the stretch allocates a buffer. -/
theorem main_part3_ops0_fresh : (main_part3_ops0 : List (HloOp τ sig (Elt F))).Forall fun op => op.fresh = ∅ :=
  StableHlo.forall_fresh_of_map rfl
/-- No operation of the stretch allocates a buffer. -/
theorem main_part3_ops1_fresh : (main_part3_ops1 : List (HloOp τ sig (Elt F))).Forall fun op => op.fresh = ∅ :=
  StableHlo.forall_fresh_of_map rfl
/-- No operation of the stretch allocates a buffer. -/
theorem main_part4_ops0_fresh : (main_part4_ops0 : List (HloOp τ sig (Elt F))).Forall fun op => op.fresh = ∅ :=
  StableHlo.forall_fresh_of_map rfl
/-- No operation of the stretch allocates a buffer. -/
theorem while0Ops0_fresh : (while0Ops0 : List (HloOp τ sig (Elt F))).Forall fun op => op.fresh = ∅ :=
  StableHlo.forall_fresh_of_map rfl
/-- No operation of the stretch allocates a buffer. -/
theorem while0Ops0_1_fresh : (while0Ops0_1 : List (HloOp τ sig (Elt F))).Forall fun op => op.fresh = ∅ :=
  StableHlo.forall_fresh_of_map rfl
/-- No operation of the stretch allocates a buffer. -/
theorem while0Ops0_2_fresh : (while0Ops0_2 : List (HloOp τ sig (Elt F))).Forall fun op => op.fresh = ∅ :=
  StableHlo.forall_fresh_of_map rfl
/-- No operation of the stretch allocates a buffer. -/
theorem while0Ops0_3_fresh : (while0Ops0_3 : List (HloOp τ sig (Elt F))).Forall fun op => op.fresh = ∅ :=
  StableHlo.forall_fresh_of_map rfl
/-- No operation of the stretch allocates a buffer. -/
theorem while1Ops0_fresh : (while1Ops0 : List (HloOp τ sig (Elt F))).Forall fun op => op.fresh = ∅ :=
  StableHlo.forall_fresh_of_map rfl
/-- No operation of the stretch allocates a buffer. -/
theorem while1Ops0_1_fresh : (while1Ops0_1 : List (HloOp τ sig (Elt F))).Forall fun op => op.fresh = ∅ :=
  StableHlo.forall_fresh_of_map rfl
/-- No operation of the stretch allocates a buffer. -/
theorem while1Ops0_2_fresh : (while1Ops0_2 : List (HloOp τ sig (Elt F))).Forall fun op => op.fresh = ∅ :=
  StableHlo.forall_fresh_of_map rfl
/-- No operation of the stretch allocates a buffer. -/
theorem while1Ops0_3_fresh : (while1Ops0_3 : List (HloOp τ sig (Elt F))).Forall fun op => op.fresh = ∅ :=
  StableHlo.forall_fresh_of_map rfl
/-- No operation of the stretch allocates a buffer. -/
theorem while1Ops0_4_fresh : (while1Ops0_4 : List (HloOp τ sig (Elt F))).Forall fun op => op.fresh = ∅ :=
  StableHlo.forall_fresh_of_map rfl

/-- The stretches before the first loop. -/
abbrev preI : List (List (HloOp τ sig (Elt F))) := [main_part0_ops0, main_part1_ops0, main_part2_ops0, main_part2_ops1, main_part2_ops2]
theorem preI_plain : StableHlo.Plain (preI (F := F)) := .cons main_part0_ops0_sub (hf := List.forall_iff_forall_mem.mp main_part0_ops0_fresh) (.cons main_part1_ops0_sub (hf := List.forall_iff_forall_mem.mp main_part1_ops0_fresh) (.cons main_part2_ops0_sub (hf := List.forall_iff_forall_mem.mp main_part2_ops0_fresh) (.cons main_part2_ops1_sub (hf := List.forall_iff_forall_mem.mp main_part2_ops1_fresh) (.cons main_part2_ops2_sub (hf := List.forall_iff_forall_mem.mp main_part2_ops2_fresh) (.nil)))))

/-- The stretches between the loops. -/
abbrev midI : List (List (HloOp τ sig (Elt F))) := [main_part2_ops3, main_part3_ops0]
theorem midI_plain : StableHlo.Plain (midI (F := F)) := .cons main_part2_ops3_sub (hf := List.forall_iff_forall_mem.mp main_part2_ops3_fresh) (.cons main_part3_ops0_sub (hf := List.forall_iff_forall_mem.mp main_part3_ops0_fresh) (.nil))

/-- The stretches after the second loop. -/
abbrev postI : List (List (HloOp τ sig (Elt F))) := [main_part3_ops1, main_part4_ops0]
theorem postI_plain : StableHlo.Plain (postI (F := F)) := .cons main_part3_ops1_sub (hf := List.forall_iff_forall_mem.mp main_part3_ops1_fresh) (.cons main_part4_ops0_sub (hf := List.forall_iff_forall_mem.mp main_part4_ops0_fresh) (.nil))

/-- The first loop's body. -/
abbrev body0 : List (List (HloOp τ sig (Elt F))) := [while0Ops0, while0Ops0_1, while0Ops0_2, while0Ops0_3]
theorem body0_plain : StableHlo.Plain (body0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.nil))))

/-- The second loop's body. -/
abbrev body1 : List (List (HloOp τ sig (Elt F))) := [while1Ops0, while1Ops0_1, while1Ops0_2, while1Ops0_3, while1Ops0_4]
theorem body1_plain : StableHlo.Plain (body1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.nil)))))

end Cert.RefOps

end
-- ==== Proof.Lines.lean ====
/- A straight line of host operations read as EQUATIONS. Each operation of a line writes one buffer, and the buffers are
   written in the order of their places in memory (`Ordered`); an operation reads only buffers placed before the one it
   writes. So what the line leaves in the written buffer is the operation's function of what the line leaves in the buffers
   it reads: one equation per operation over ONE valuation, whatever the length of the line. -/
module

public import Idealize.ShloMosaic.Lib.StableHlo.RunRead

@[expose] public section

noncomputable section

namespace Cert.Lines

open Idealize.ShloMosaic Idealize.ShloMosaic.StableHlo

variable {τ : Topo} {sig : RefSig} {Val : EltTy → Type}

/-- A buffer's place in its memory. -/
def place (r : Ref sig .tc) : ℕ := r.idx.val

/-- The line writes the buffers `W`, one each, at increasing places. -/
structure Ordered (ops : List (HloOp τ sig Val)) (W : List (Ref sig .tc)) : Prop where
  writes : ops.map HloOp.writes = W.map fun w => {Proc.devRef (τ := τ) .tc w}
  increasing : (W.map place).Pairwise (· < ·)

theorem pairwise_of_chain : ∀ {l : List ℕ}, l.IsChain (· < ·) → l.Pairwise (· < ·) := fun h => List.isChain_iff_pairwise.mp h

variable {ops : List (HloOp τ sig Val)} {W : List (Ref sig .tc)}

/-- A buffer the line does not write is left as it was. -/
theorem Ordered.kept (h : Ordered ops W) (V : Valuation τ sig Val) {r : Ref sig .tc} (hr : place r ∉ W.map place) :
    after ops V (Proc.devRef .tc r) = V (Proc.devRef .tc r) :=
  after_unwritten W h.writes (fun hm => hr (List.mem_map_of_mem hm)) V

/-- The written buffer of an operation of the line. -/
theorem Ordered.out (h : Ordered ops W) (V : Valuation τ sig Val) {i : ℕ} {op : HloOp τ sig Val} (ho : ops[i]? = some op)
    {y : Ref sig .tc} (hy : op.writes = {Proc.devRef (τ := τ) .tc y}) :
    W[i]? = some y ∧ after ops V (Proc.devRef .tc y) = op.result (upto ops V i) (Proc.devRef .tc y) := by
  have hlt : i < ops.length := by
    rcases Nat.lt_or_ge i ops.length with hl | hl
    · exact hl
    · rw [List.getElem?_eq_none hl] at ho; cases ho
  have hWi : W[i]? = some y := by
    have e := congrArg (fun l => l[i]?) h.writes
    simp only [List.getElem?_map, ho, Option.map_some] at e
    cases hw : W[i]? with
    | none => rw [hw] at e; cases e
    | some w =>
      rw [hw, Option.map_some, Option.some.injEq, hy, Finset.singleton_inj] at e
      rw [Proc.devRef_injective _ e]
  have hseg : ops.drop i = op :: ops.drop (i + 1) := by
    rw [List.drop_eq_getElem_cons hlt]
    rw [List.getElem?_eq_getElem hlt, Option.some.injEq] at ho
    rw [ho]
  refine ⟨hWi, after_last_write (W.drop (i + 1)) hseg (by rw [List.map_drop, h.writes, List.map_drop]) (fun hm => ?_) V⟩
  obtain ⟨k, hk, hk'⟩ := List.getElem_of_mem hm
  rw [List.getElem_drop] at hk'
  have hp := h.increasing
  rw [List.pairwise_iff_getElem] at hp
  have hWlt : i < W.length := by
    rcases Nat.lt_or_ge i W.length with hl | hl
    · exact hl
    · rw [List.getElem?_eq_none hl] at hWi; cases hWi
  rw [List.getElem?_eq_getElem hWlt, Option.some.injEq] at hWi
  rw [List.length_drop] at hk
  have := hp i (i + 1 + k) (by rw [List.length_map]; exact hWlt) (by rw [List.length_map]; omega) (by omega)
  rw [List.getElem_map, List.getElem_map, hk', hWi] at this
  exact Nat.lt_irrefl _ this

/-- A buffer placed before an operation's written buffer holds, before the operation, what the line leaves in it. -/
theorem Ordered.inp (h : Ordered ops W) (V : Valuation τ sig Val) {i : ℕ} {y x : Ref sig .tc} (hWi : W[i]? = some y)
    (hx : place x < place y) : upto ops V i (Proc.devRef .tc x) = after ops V (Proc.devRef .tc x) := by
  have e : after ops V = after (ops.drop i) (upto ops V i) := by
    rw [upto, ← after_append', List.take_append_drop]
  rw [e]
  refine (after_unwritten (W.drop i) (by rw [List.map_drop, h.writes, List.map_drop]) (fun hm => ?_) _).symm
  obtain ⟨k, hk, hk'⟩ := List.getElem_of_mem hm
  rw [List.getElem_drop] at hk'
  rw [List.length_drop] at hk
  have hWlt : i < W.length := by omega
  rw [List.getElem?_eq_getElem hWlt, Option.some.injEq] at hWi
  rcases Nat.eq_zero_or_pos k with rfl | hpos
  · simp only [Nat.add_zero] at hk'
    rw [← hk', hWi] at hx
    exact Nat.lt_irrefl _ hx
  · have hp := h.increasing
    rw [List.pairwise_iff_getElem] at hp
    have := hp i (i + k) (by rw [List.length_map]; exact hWlt) (by rw [List.length_map]; omega) (by omega)
    rw [List.getElem_map, List.getElem_map, hk', hWi] at this
    omega
where
  after_append' (l₁ l₂ : List (HloOp τ sig Val)) (V : Valuation τ sig Val) : after (l₁ ++ l₂) V = after l₂ (after l₁ V) := by
    induction l₁ generalizing V with
    | nil => rfl
    | cons op l ih => exact ih _

/-! ## One equation per operation -/

section Equations
variable (h : Ordered ops W) (V : Valuation τ sig Val) {i : ℕ} {x a b c y : Ref sig .tc}
include h

theorem Ordered.nullary {v : y.ty.Contents Val} {hy} (ho : ops[i]? = some (StableHlo.nullary y v hy)) :
    after ops V (Proc.devRef .tc y) = v := by
  rw [(h.out V ho (y := y) rfl).2]; exact nullary_result' v hy _

theorem Ordered.unary {f : x.ty.Contents Val → y.ty.Contents Val} {hx hy} (ho : ops[i]? = some (StableHlo.unary x y f hx hy))
    (hp : place x < place y) : after ops V (Proc.devRef .tc y) = f (after ops V (Proc.devRef .tc x)) := by
  obtain ⟨hw, e⟩ := h.out V ho (y := y) rfl
  rw [e, unary_result', h.inp V hw hp]

theorem Ordered.binary {f : a.ty.Contents Val → b.ty.Contents Val → y.ty.Contents Val} {ha hb hy}
    (ho : ops[i]? = some (StableHlo.binary a b y f ha hb hy)) (hpa : place a < place y) (hpb : place b < place y) :
    after ops V (Proc.devRef .tc y) = f (after ops V (Proc.devRef .tc a)) (after ops V (Proc.devRef .tc b)) := by
  obtain ⟨hw, e⟩ := h.out V ho (y := y) rfl
  rw [e, binary_result', h.inp V hw hpa, h.inp V hw hpb]

theorem Ordered.ternary {f : c.ty.Contents Val → a.ty.Contents Val → b.ty.Contents Val → y.ty.Contents Val} {hc ha hb hy}
    (ho : ops[i]? = some (StableHlo.ternary c a b y f hc ha hb hy)) (hpc : place c < place y) (hpa : place a < place y)
    (hpb : place b < place y) :
    after ops V (Proc.devRef .tc y)
      = f (after ops V (Proc.devRef .tc c)) (after ops V (Proc.devRef .tc a)) (after ops V (Proc.devRef .tc b)) := by
  obtain ⟨hw, e⟩ := h.out V ho (y := y) rfl
  rw [e, ternary_result', h.inp V hw hpc, h.inp V hw hpa, h.inp V hw hpb]

theorem Ordered.nary {n : ℕ} {xs : Fin n → Ref sig .tc} {f : ((k : Fin n) → (xs k).ty.Contents Val) → y.ty.Contents Val} {hxs hy}
    (ho : ops[i]? = some (StableHlo.nary xs y f hxs hy)) (hp : ∀ k, place (xs k) < place y) :
    after ops V (Proc.devRef .tc y) = f fun k => after ops V (Proc.devRef .tc (xs k)) := by
  obtain ⟨hw, e⟩ := h.out V ho (y := y) rfl
  rw [e, nary_result']
  exact congrArg f (funext fun k => h.inp V hw (hp k))

theorem Ordered.reshape {he : x.ty.elt = y.ty.elt} {hn hx hy} (ho : ops[i]? = some (StableHlo.reshape x y he hn hx hy))
    (hp : place x < place y) :
    after ops V (Proc.devRef .tc y) = fun j => he ▸ shapeCast y.ty.shape (after ops V (Proc.devRef .tc x)) hn j := by
  obtain ⟨hw, e⟩ := h.out V ho (y := y) rfl
  rw [e, reshape_result', h.inp V hw hp]

/-! The same with the values of the buffers read given by name. -/

theorem Ordered.unary_eq {f : x.ty.Contents Val → y.ty.Contents Val} {hx hy} (ho : ops[i]? = some (StableHlo.unary x y f hx hy))
    (hp : place x < place y) {u : x.ty.Contents Val} (e : after ops V (Proc.devRef .tc x) = u) :
    after ops V (Proc.devRef .tc y) = f u := (h.unary V ho hp).trans (congrArg f e)

theorem Ordered.binary_eq {f : a.ty.Contents Val → b.ty.Contents Val → y.ty.Contents Val} {ha hb hy}
    (ho : ops[i]? = some (StableHlo.binary a b y f ha hb hy)) (hpa : place a < place y) (hpb : place b < place y)
    {u : a.ty.Contents Val} {w : b.ty.Contents Val} (ea : after ops V (Proc.devRef .tc a) = u)
    (eb : after ops V (Proc.devRef .tc b) = w) : after ops V (Proc.devRef .tc y) = f u w := by
  rw [h.binary V ho hpa hpb, ea, eb]

theorem Ordered.ternary_eq {f : c.ty.Contents Val → a.ty.Contents Val → b.ty.Contents Val → y.ty.Contents Val} {hc ha hb hy}
    (ho : ops[i]? = some (StableHlo.ternary c a b y f hc ha hb hy)) (hpc : place c < place y) (hpa : place a < place y)
    (hpb : place b < place y) {t : c.ty.Contents Val} {u : a.ty.Contents Val} {w : b.ty.Contents Val}
    (ec : after ops V (Proc.devRef .tc c) = t) (ea : after ops V (Proc.devRef .tc a) = u)
    (eb : after ops V (Proc.devRef .tc b) = w) : after ops V (Proc.devRef .tc y) = f t u w := by
  rw [h.ternary V ho hpc hpa hpb, ec, ea, eb]

theorem Ordered.nary_eq {n : ℕ} {xs : Fin n → Ref sig .tc} {f : ((k : Fin n) → (xs k).ty.Contents Val) → y.ty.Contents Val} {hxs hy}
    (ho : ops[i]? = some (StableHlo.nary xs y f hxs hy)) (hp : ∀ k, place (xs k) < place y)
    (w : (k : Fin n) → (xs k).ty.Contents Val) (e : ∀ k, after ops V (Proc.devRef .tc (xs k)) = w k) :
    after ops V (Proc.devRef .tc y) = f w := by
  rw [h.nary V ho hp]; exact congrArg f (funext e)

theorem Ordered.reshape_eq {he : x.ty.elt = y.ty.elt} {hn hx hy} (ho : ops[i]? = some (StableHlo.reshape x y he hn hx hy))
    (hp : place x < place y) {u : x.ty.Contents Val} (e : after ops V (Proc.devRef .tc x) = u) :
    after ops V (Proc.devRef .tc y) = fun j => he ▸ shapeCast y.ty.shape u hn j := by
  rw [h.reshape V ho hp, e]

end Equations

end Cert.Lines

end
-- ==== Proof.FwdRefHost.lean ====
/- The values the forward reference computes on the host, one definition per operation, and what its lines of operations leave in the buffers. -/
module

public import proofs.«01_k».proof.Proof.Gen.FwdRefIdeal.Run
public import proofs.«01_k».proof.Proof.Lines

@[expose] public section

set_option maxRecDepth 16384

noncomputable section

namespace Cert.FwdRefHost

open Cert.FwdRefIdeal Cert.FwdRefIdeal.Gen
open Idealize.ShloMosaic Idealize.ShloMosaic.TcCoe Idealize.ShloMosaic.StableHlo
open Cert.Lines

variable {F : FTy → Type} [FloatOps F]

/-! ## The values -/

def v0 (x : (⟨S1x4112x512, .f32⟩ : BufTy).Contents (Elt F)) : (⟨S1x4112x4x128, .f32⟩ : BufTy).Contents (Elt F) :=
  shapeCast S1x4112x4x128 x shapeCasts_S1x4112x512_S1x4112x4x128
def v1 (x : (⟨S1x4112x512, .f32⟩ : BufTy).Contents (Elt F)) : (⟨S1x4x4112x128, .f32⟩ : BufTy).Contents (Elt F) :=
  transpose S1x4x4112x128 [0, 2, 1, 3] (v0 x) transposes_S1x4112x4x128_S1x4x4112x128_0_2_1_3
def cst : (⟨S_, .f32⟩ : BufTy).Contents (Elt F) :=
  constant S_ .f32 0x00000000#32
def v2 : (⟨S1x4x112x128, .f32⟩ : BufTy).Contents (Elt F) :=
  broadcastInDim S1x4x112x128 ![] bcast_S_S1x4x112x128 (cst (F := F))
def v3 (x : (⟨S1x4112x512, .f32⟩ : BufTy).Contents (Elt F)) : (⟨S1x4x4224x128, .f32⟩ : BufTy).Contents (Elt F) :=
  concatenate S1x4x4224x128 2 [⟨S1x4x112x128, (v2 (F := F))⟩, ⟨S1x4x4112x128, (v1 x)⟩] concatenates_S1x4x112x128_S1x4x4112x128_S1x4x4224x128_d2
def v12 : (⟨S4224, .f32⟩ : BufTy).Contents (Elt F) :=
  sitofp .f32 (iotaInDim S4224 32 0)
def cst_2 : (⟨S_, .f32⟩ : BufTy).Contents (Elt F) :=
  constant S_ .f32 0x42E00000#32
def v13 : (⟨S4224, .f32⟩ : BufTy).Contents (Elt F) :=
  broadcastInDim S4224 ![] bcast_S_S4224 (cst_2 (F := F))
def v14 : (⟨S4224, .f32⟩ : BufTy).Contents (Elt F) :=
  subf (v12 (F := F)) (v13 (F := F))
def v15 : (⟨S64, .f32⟩ : BufTy).Contents (Elt F) :=
  sitofp .f32 (iotaInDim S64 32 0)
def v16 : (⟨S64, .f32⟩ : BufTy).Contents (Elt F) :=
  Host.negf (v15 (F := F))
def cst_3 : (⟨S_, .f32⟩ : BufTy).Contents (Elt F) :=
  constant S_ .f32 0x42800000#32
def v17 : (⟨S64, .f32⟩ : BufTy).Contents (Elt F) :=
  broadcastInDim S64 ![] bcast_S_S64 (cst_3 (F := F))
def v18 : (⟨S64, .f32⟩ : BufTy).Contents (Elt F) :=
  Host.divf (v16 (F := F)) (v17 (F := F))
def cst_4 : (⟨S_, .f32⟩ : BufTy).Contents (Elt F) :=
  constant S_ .f32 0x461C4000#32
def v19 : (⟨S64, .f32⟩ : BufTy).Contents (Elt F) :=
  broadcastInDim S64 ![] bcast_S_S64 (cst_4 (F := F))
def v20 : (⟨S64, .f32⟩ : BufTy).Contents (Elt F) :=
  Host.powf (v19 (F := F)) (v18 (F := F))
def v21 : (⟨S4224x1, .f32⟩ : BufTy).Contents (Elt F) :=
  broadcastInDim S4224x1 ![0] bcast_S4224_S4224x1_0 (v14 (F := F))
def v22 : (⟨S1x64, .f32⟩ : BufTy).Contents (Elt F) :=
  broadcastInDim S1x64 ![1] bcast_S64_S1x64_1 (v20 (F := F))
def v23 : (⟨S4224x64, .f32⟩ : BufTy).Contents (Elt F) :=
  broadcastInDim S4224x64 ![0, 1] bcast_S4224x1_S4224x64_0_1 (v21 (F := F))
def v24 : (⟨S4224x64, .f32⟩ : BufTy).Contents (Elt F) :=
  broadcastInDim S4224x64 ![0, 1] bcast_S1x64_S4224x64_0_1 (v22 (F := F))
def v25 : (⟨S4224x64, .f32⟩ : BufTy).Contents (Elt F) :=
  mulf (v23 (F := F)) (v24 (F := F))
def v26 : (⟨S4224x64, .f32⟩ : BufTy).Contents (Elt F) :=
  Host.cos (v25 (F := F))
def v27 : (⟨S4224x64, .f32⟩ : BufTy).Contents (Elt F) :=
  Host.sin (v25 (F := F))
def v28 (x : (⟨S1x4112x512, .f32⟩ : BufTy).Contents (Elt F)) : (⟨S1x4x4224x64, .f32⟩ : BufTy).Contents (Elt F) :=
  extractStridedSlice S1x4x4224x64 ![0, 0, 0, 0] (v3 x) slices_S1x4x4224x128_S1x4x4224x64_0_0_0_0
def v29 (x : (⟨S1x4112x512, .f32⟩ : BufTy).Contents (Elt F)) : (⟨S1x4x4224x64, .f32⟩ : BufTy).Contents (Elt F) :=
  extractStridedSlice S1x4x4224x64 ![0, 0, 0, 64] (v3 x) slices_S1x4x4224x128_S1x4x4224x64_0_0_0_64
def v30 : (⟨S1x1x4224x64, .f32⟩ : BufTy).Contents (Elt F) :=
  broadcastInDim S1x1x4224x64 ![2, 3] bcast_S4224x64_S1x1x4224x64_2_3 (v26 (F := F))
def v31 : (⟨S1x4x4224x64, .f32⟩ : BufTy).Contents (Elt F) :=
  broadcastInDim S1x4x4224x64 ![0, 1, 2, 3] bcast_S1x1x4224x64_S1x4x4224x64_0_1_2_3 (v30 (F := F))
def v32 (x : (⟨S1x4112x512, .f32⟩ : BufTy).Contents (Elt F)) : (⟨S1x4x4224x64, .f32⟩ : BufTy).Contents (Elt F) :=
  mulf (v28 x) (v31 (F := F))
def v33 : (⟨S1x1x4224x64, .f32⟩ : BufTy).Contents (Elt F) :=
  broadcastInDim S1x1x4224x64 ![2, 3] bcast_S4224x64_S1x1x4224x64_2_3 (v27 (F := F))
def v34 : (⟨S1x4x4224x64, .f32⟩ : BufTy).Contents (Elt F) :=
  broadcastInDim S1x4x4224x64 ![0, 1, 2, 3] bcast_S1x1x4224x64_S1x4x4224x64_0_1_2_3 (v33 (F := F))
def v35 (x : (⟨S1x4112x512, .f32⟩ : BufTy).Contents (Elt F)) : (⟨S1x4x4224x64, .f32⟩ : BufTy).Contents (Elt F) :=
  mulf (v29 x) (v34 (F := F))
def v36 (x : (⟨S1x4112x512, .f32⟩ : BufTy).Contents (Elt F)) : (⟨S1x4x4224x64, .f32⟩ : BufTy).Contents (Elt F) :=
  subf (v32 x) (v35 x)
def v39 (x : (⟨S1x4112x512, .f32⟩ : BufTy).Contents (Elt F)) : (⟨S1x4x4224x64, .f32⟩ : BufTy).Contents (Elt F) :=
  mulf (v28 x) (v34 (F := F))
def v42 (x : (⟨S1x4112x512, .f32⟩ : BufTy).Contents (Elt F)) : (⟨S1x4x4224x64, .f32⟩ : BufTy).Contents (Elt F) :=
  mulf (v29 x) (v31 (F := F))
def v43 (x : (⟨S1x4112x512, .f32⟩ : BufTy).Contents (Elt F)) : (⟨S1x4x4224x64, .f32⟩ : BufTy).Contents (Elt F) :=
  addf (v39 x) (v42 x)
def v44 (x : (⟨S1x4112x512, .f32⟩ : BufTy).Contents (Elt F)) : (⟨S1x4x4224x128, .f32⟩ : BufTy).Contents (Elt F) :=
  concatenate S1x4x4224x128 3 [⟨S1x4x4224x64, (v36 x)⟩, ⟨S1x4x4224x64, (v43 x)⟩] concatenates_S1x4x4224x64_S1x4x4224x64_S1x4x4224x128_d3
def cst_5 : (⟨S_, .f32⟩ : BufTy).Contents (Elt F) :=
  constant S_ .f32 0x3DB504F3#32
def v45 : (⟨S1x4x4224x128, .f32⟩ : BufTy).Contents (Elt F) :=
  broadcastInDim S1x4x4224x128 ![] bcast_S_S1x4x4224x128 (cst_5 (F := F))
def v46 (x : (⟨S1x4112x512, .f32⟩ : BufTy).Contents (Elt F)) : (⟨S1x4x4224x128, .f32⟩ : BufTy).Contents (Elt F) :=
  mulf (v44 x) (v45 (F := F))
def v77 (x : (⟨S1x4112x512, .f32⟩ : BufTy).Contents (Elt F)) : (⟨S1x4x33x128x128, .f32⟩ : BufTy).Contents (Elt F) :=
  shapeCast S1x4x33x128x128 (v46 x) shapeCasts_S1x4x4224x128_S1x4x33x128x128
def v78 (x : (⟨S1x4112x512, .f32⟩ : BufTy).Contents (Elt F)) : (⟨S1x4x33x128x128, .f32⟩ : BufTy).Contents (Elt F) :=
  shapeCast S1x4x33x128x128 (v44 x) shapeCasts_S1x4x4224x128_S1x4x33x128x128
def v79 (x : (⟨S1x4112x512, .f32⟩ : BufTy).Contents (Elt F)) : (⟨S1x4x33x128x128, .f32⟩ : BufTy).Contents (Elt F) :=
  shapeCast S1x4x33x128x128 (v3 x) shapeCasts_S1x4x4224x128_S1x4x33x128x128
def v80 : (⟨S4, .f32⟩ : BufTy).Contents (Elt F) :=
  sitofp .f32 (iotaInDim S4 32 0)
def cst_8 : (⟨S_, .f32⟩ : BufTy).Contents (Elt F) :=
  constant S_ .f32 0xC0A00000#32
def v81 : (⟨S4, .f32⟩ : BufTy).Contents (Elt F) :=
  broadcastInDim S4 ![] bcast_S_S4 (cst_8 (F := F))
def v82 : (⟨S4, .f32⟩ : BufTy).Contents (Elt F) :=
  subf (v81 (F := F)) (v80 (F := F))
def cst_9 : (⟨S_, .f32⟩ : BufTy).Contents (Elt F) :=
  constant S_ .f32 0x40000000#32
def v83 : (⟨S4, .f32⟩ : BufTy).Contents (Elt F) :=
  broadcastInDim S4 ![] bcast_S_S4 (cst_9 (F := F))
def v84 : (⟨S4, .f32⟩ : BufTy).Contents (Elt F) :=
  Host.powf (v83 (F := F)) (v82 (F := F))
def v85 : (⟨S4, .f32⟩ : BufTy).Contents (Elt F) :=
  Host.negf (v84 (F := F))
def v86 : (⟨S4, .f32⟩ : BufTy).Contents (Elt F) :=
  Host.log1p (v85 (F := F))
def v87 : (⟨S128, .f32⟩ : BufTy).Contents (Elt F) :=
  sitofp .f32 (iotaInDim S128 32 0)
def cst_10 : (⟨S_, .f32⟩ : BufTy).Contents (Elt F) :=
  constant S_ .f32 0x42FE0000#32
def v88 : (⟨S128, .f32⟩ : BufTy).Contents (Elt F) :=
  broadcastInDim S128 ![] bcast_S_S128 (cst_10 (F := F))
def v89 : (⟨S128, .f32⟩ : BufTy).Contents (Elt F) :=
  subf (v88 (F := F)) (v87 (F := F))
def v90 : (⟨S1x128, .f32⟩ : BufTy).Contents (Elt F) :=
  broadcastInDim S1x128 ![1] bcast_S128_S1x128_1 (v89 (F := F))
def v91 : (⟨S4x1, .f32⟩ : BufTy).Contents (Elt F) :=
  broadcastInDim S4x1 ![0] bcast_S4_S4x1_0 (v86 (F := F))
def v92 : (⟨S4x128, .f32⟩ : BufTy).Contents (Elt F) :=
  broadcastInDim S4x128 ![0, 1] bcast_S1x128_S4x128_0_1 (v90 (F := F))
def v93 : (⟨S4x128, .f32⟩ : BufTy).Contents (Elt F) :=
  broadcastInDim S4x128 ![0, 1] bcast_S4x1_S4x128_0_1 (v91 (F := F))
def v94 : (⟨S4x128, .f32⟩ : BufTy).Contents (Elt F) :=
  mulf (v92 (F := F)) (v93 (F := F))
def v95 : (⟨S4x128, .f32⟩ : BufTy).Contents (Elt F) :=
  Host.exp (v94 (F := F))
def cst_11 : (⟨S_, .f32⟩ : BufTy).Contents (Elt F) :=
  constant S_ .f32 0x43000000#32
def v96 : (⟨S4, .f32⟩ : BufTy).Contents (Elt F) :=
  broadcastInDim S4 ![] bcast_S_S4 (cst_11 (F := F))
def v97 : (⟨S4, .f32⟩ : BufTy).Contents (Elt F) :=
  mulf (v96 (F := F)) (v86 (F := F))
def v98 : (⟨S4, .f32⟩ : BufTy).Contents (Elt F) :=
  Host.exp (v97 (F := F))
def v99 : (⟨S1x4x1x128x1, .f32⟩ : BufTy).Contents (Elt F) :=
  broadcastInDim S1x4x1x128x1 ![1, 3] bcast_S4x128_S1x4x1x128x1_1_3 (v95 (F := F))
def v100 : (⟨S1x4x33x128x128, .f32⟩ : BufTy).Contents (Elt F) :=
  broadcastInDim S1x4x33x128x128 ![0, 1, 2, 3, 4] bcast_S1x4x1x128x1_S1x4x33x128x128_0_1_2_3_4 (v99 (F := F))
def v101 (x : (⟨S1x4112x512, .f32⟩ : BufTy).Contents (Elt F)) : (⟨S1x4x33x128x128, .f32⟩ : BufTy).Contents (Elt F) :=
  mulf (v78 x) (v100 (F := F))
def v102 (x : (⟨S1x4112x512, .f32⟩ : BufTy).Contents (Elt F)) (y : (⟨S1x4112x512, .f32⟩ : BufTy).Contents (Elt F)) : (⟨S33x1x4x128x128, .f32⟩ : BufTy).Contents (Elt F) :=
  Host.dotGeneral dot_S1x4x33x128x128_S1x4x33x128x128_S33x1x4x128x128_3_3_4_4_201_201 none (v101 x) (v79 y)
def v103 : (⟨S1x4x1x1, .f32⟩ : BufTy).Contents (Elt F) :=
  broadcastInDim S1x4x1x1 ![1] bcast_S4_S1x4x1x1_1 (v98 (F := F))
def v104 : (⟨S128x1, .f32⟩ : BufTy).Contents (Elt F) :=
  broadcastInDim S128x1 ![0] bcast_S128_S128x1_0 (v87 (F := F))
def v105 : (⟨S1x128, .f32⟩ : BufTy).Contents (Elt F) :=
  broadcastInDim S1x128 ![1] bcast_S128_S1x128_1 (v87 (F := F))
def v106 : (⟨S128x128, .f32⟩ : BufTy).Contents (Elt F) :=
  broadcastInDim S128x128 ![0, 1] bcast_S128x1_S128x128_0_1 (v104 (F := F))
def v107 : (⟨S128x128, .f32⟩ : BufTy).Contents (Elt F) :=
  broadcastInDim S128x128 ![0, 1] bcast_S1x128_S128x128_0_1 (v105 (F := F))
def v108 : (⟨S128x128, .f32⟩ : BufTy).Contents (Elt F) :=
  subf (v106 (F := F)) (v107 (F := F))
def v109 : (⟨S1x128x128, .f32⟩ : BufTy).Contents (Elt F) :=
  broadcastInDim S1x128x128 ![1, 2] bcast_S128x128_S1x128x128_1_2 (v108 (F := F))
def v110 : (⟨S1x128x128, .f32⟩ : BufTy).Contents (Elt F) :=
  broadcastInDim S1x128x128 ![] bcast_S_S1x128x128 (cst (F := F))
def v111 : (⟨S1x128x128, .i1⟩ : BufTy).Contents (Elt F) :=
  cmpf .oge (v109 (F := F)) (v110 (F := F))
def v113 : (⟨S4x1x1, .f32⟩ : BufTy).Contents (Elt F) :=
  broadcastInDim S4x1x1 ![0] bcast_S4_S4x1x1_0 (v86 (F := F))
def v114 : (⟨S4x128x128, .f32⟩ : BufTy).Contents (Elt F) :=
  broadcastInDim S4x128x128 ![0, 1, 2] bcast_S1x128x128_S4x128x128_0_1_2 (v109 (F := F))
def v115 : (⟨S4x128x128, .f32⟩ : BufTy).Contents (Elt F) :=
  broadcastInDim S4x128x128 ![0, 1, 2] bcast_S4x1x1_S4x128x128_0_1_2 (v113 (F := F))
def v116 : (⟨S4x128x128, .f32⟩ : BufTy).Contents (Elt F) :=
  mulf (v114 (F := F)) (v115 (F := F))
def v117 : (⟨S4x128x128, .f32⟩ : BufTy).Contents (Elt F) :=
  Host.exp (v116 (F := F))
def call0_v1 : (⟨S4x128x128, .i1⟩ : BufTy).Contents (Elt F) :=
  broadcastInDim S4x128x128 ![0, 1, 2] bcast_S1x128x128_S4x128x128_0_1_2 (v111 (F := F))
def call0_v2 : (⟨S4x128x128, .f32⟩ : BufTy).Contents (Elt F) :=
  broadcastInDim S4x128x128 ![] bcast_S_S4x128x128 (cst (F := F))
def v118 : (⟨S4x128x128, .f32⟩ : BufTy).Contents (Elt F) :=
  select (call0_v1 (F := F)) (v117 (F := F)) (call0_v2 (F := F))
def cst_14 : (⟨S_, .f32⟩ : BufTy).Contents (Elt F) :=
  constant S_ .f32 0x3F800000#32
def v119 : (⟨S128, .f32⟩ : BufTy).Contents (Elt F) :=
  broadcastInDim S128 ![] bcast_S_S128 (cst_14 (F := F))
def v120 : (⟨S128, .f32⟩ : BufTy).Contents (Elt F) :=
  addf (v87 (F := F)) (v119 (F := F))
def v121 : (⟨S1x128, .f32⟩ : BufTy).Contents (Elt F) :=
  broadcastInDim S1x128 ![1] bcast_S128_S1x128_1 (v120 (F := F))
def v123 : (⟨S4x128, .f32⟩ : BufTy).Contents (Elt F) :=
  broadcastInDim S4x128 ![0, 1] bcast_S1x128_S4x128_0_1 (v121 (F := F))
def v125 : (⟨S4x128, .f32⟩ : BufTy).Contents (Elt F) :=
  mulf (v123 (F := F)) (v93 (F := F))
def v126 : (⟨S4x128, .f32⟩ : BufTy).Contents (Elt F) :=
  Host.exp (v125 (F := F))
def v127 (x : (⟨S1x4112x512, .f32⟩ : BufTy).Contents (Elt F)) (y : (⟨S1x4112x512, .f32⟩ : BufTy).Contents (Elt F)) : (⟨S1x4x33x128x128, .f32⟩ : BufTy).Contents (Elt F) :=
  Host.dotGeneral dot_S1x4x33x128x128_S1x4x33x128x128_S1x4x33x128x128_4_4_3_3_012_012 none (v77 x) (v78 y)
def v128 : (⟨S1x4x1x128x128, .f32⟩ : BufTy).Contents (Elt F) :=
  broadcastInDim S1x4x1x128x128 ![1, 3, 4] bcast_S4x128x128_S1x4x1x128x128_1_3_4 (v118 (F := F))
def v129 : (⟨S1x4x33x128x128, .f32⟩ : BufTy).Contents (Elt F) :=
  broadcastInDim S1x4x33x128x128 ![0, 1, 2, 3, 4] bcast_S1x4x1x128x128_S1x4x33x128x128_0_1_2_3_4 (v128 (F := F))
def v130 (x : (⟨S1x4112x512, .f32⟩ : BufTy).Contents (Elt F)) (y : (⟨S1x4112x512, .f32⟩ : BufTy).Contents (Elt F)) : (⟨S1x4x33x128x128, .f32⟩ : BufTy).Contents (Elt F) :=
  mulf (v127 x y) (v129 (F := F))
def v131 (x : (⟨S1x4112x512, .f32⟩ : BufTy).Contents (Elt F)) (y : (⟨S1x4112x512, .f32⟩ : BufTy).Contents (Elt F)) (z : (⟨S1x4112x512, .f32⟩ : BufTy).Contents (Elt F)) : (⟨S1x4x33x128x128, .f32⟩ : BufTy).Contents (Elt F) :=
  Host.dotGeneral dot_S1x4x33x128x128_S1x4x33x128x128_S1x4x33x128x128_4_3_3_4_012_012 none (v130 x y) (v79 z)
def v132 : (⟨S1x4x128x128, .f32⟩ : BufTy).Contents (Elt F) :=
  broadcastInDim S1x4x128x128 ![] bcast_S_S1x4x128x128 (cst (F := F))
def v133 : (⟨S33x1x4x128x128, .f32⟩ : BufTy).Contents (Elt F) :=
  broadcastInDim S33x1x4x128x128 ![] bcast_S_S33x1x4x128x128 (cst (F := F))
def v135 : (⟨S1x4x1x128x1, .f32⟩ : BufTy).Contents (Elt F) :=
  broadcastInDim S1x4x1x128x1 ![1, 3] bcast_S4x128_S1x4x1x128x1_1_3 (v126 (F := F))
def v136 : (⟨S1x4x33x128x128, .f32⟩ : BufTy).Contents (Elt F) :=
  broadcastInDim S1x4x33x128x128 ![0, 1, 2, 3, 4] bcast_S1x4x1x128x1_S1x4x33x128x128_0_1_2_3_4 (v135 (F := F))
def v137 (x : (⟨S1x4112x512, .f32⟩ : BufTy).Contents (Elt F)) : (⟨S1x4x33x128x128, .f32⟩ : BufTy).Contents (Elt F) :=
  mulf (v77 x) (v136 (F := F))
def v138 (x : (⟨S1x4112x512, .f32⟩ : BufTy).Contents (Elt F)) (y : (⟨S33x1x4x128x128, .f32⟩ : BufTy).Contents (Elt F)) : (⟨S1x4x33x128x128, .f32⟩ : BufTy).Contents (Elt F) :=
  Host.dotGeneral dot_S1x4x33x128x128_S33x1x4x128x128_S1x4x33x128x128_4_3_3_4_012_120 none (v137 x) y
def v139 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x33x128x128, .f32⟩ : BufTy).Contents (Elt F) :=
  addf (v131 x y z) (v138 x u)
def v140 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x128, .f32⟩ : BufTy).Contents (Elt F) :=
  shapeCast S1x4x4224x128 (v139 x y z u) shapeCasts_S1x4x33x128x128_S1x4x4224x128
def v141 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4224x4x128, .f32⟩ : BufTy).Contents (Elt F) :=
  transpose S1x4224x4x128 [0, 2, 1, 3] (v140 x y z u) transposes_S1x4x4224x128_S1x4224x4x128_0_2_1_3
def v142 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S4224x512, .f32⟩ : BufTy).Contents (Elt F) :=
  shapeCast S4224x512 (v141 x y z u) shapeCasts_S1x4224x4x128_S4224x512
def v143 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S4224x512, .bf16⟩ : BufTy).Contents (Elt F) :=
  truncf .bf16 (v142 x y z u) bitsLt_bf16_f32
def v144 (x : (⟨S33x1x4x128x128, .f32⟩ : BufTy).Contents (Elt F)) : (⟨S33x4x128x128, .f32⟩ : BufTy).Contents (Elt F) :=
  shapeCast S33x4x128x128 x shapeCasts_S33x1x4x128x128_S33x4x128x128
def v145 (x : (⟨S33x1x4x128x128, .f32⟩ : BufTy).Contents (Elt F)) : (⟨S4x33x128x128, .f32⟩ : BufTy).Contents (Elt F) :=
  transpose S4x33x128x128 [1, 0, 2, 3] (v144 x) transposes_S33x4x128x128_S4x33x128x128_1_0_2_3
def v146 (x : (⟨S33x1x4x128x128, .f32⟩ : BufTy).Contents (Elt F)) : (⟨S4x33x128x128, .bf16⟩ : BufTy).Contents (Elt F) :=
  truncf .bf16 (v145 x) bitsLt_bf16_f32

/-! ## What the lines leave -/

namespace Pre

/-- The operations before the loop. -/
abbrev ops : List (HloOp τ sig (Elt F)) := [hostOps0, hostOps0_1, hostOps0_2].flatten

/-- The operations before the loop write these buffers in order. -/
theorem ordered : Lines.Ordered (τ := τ) (sig := sig) (ops (F := F))
    [main_v0, main_v1, main_cst, main_v2, main_v3, main_v4, main_v5, main_cst_0, main_v6, main_v7, main_v8, main_v9, main_cst_1, main_v10, main_v11,
    main_v12, main_cst_2, main_v13, main_v14, main_v15, main_v16, main_cst_3, main_v17, main_v18, main_cst_4, main_v19, main_v20, main_v21, main_v22,
    main_v23, main_v24, main_v25, main_v26, main_v27, main_v28, main_v29, main_v30, main_v31, main_v32, main_v33, main_v34, main_v35, main_v36, main_v37,
    main_v38, main_v39, main_v40, main_v41, main_v42, main_v43, main_v44, main_cst_5, main_v45, main_v46, main_v47, main_v48, main_cst_6, main_v49,
    main_v50, main_cst_7, main_v51, main_v52, main_v53, main_v54, main_v55, main_v56, main_v57, main_v58, main_v59, main_v60, main_v61, main_v62, main_v63,
    main_v64, main_v65, main_v66, main_v67, main_v68, main_v69, main_v70, main_v71, main_v72, main_v73, main_v74, main_v75, main_v76, main_v77, main_v78,
    main_v79, main_v80, main_cst_8, main_v81, main_v82, main_cst_9, main_v83, main_v84, main_v85, main_v86, main_v87, main_cst_10, main_v88, main_v89,
    main_v90, main_v91, main_v92, main_v93, main_v94, main_v95, main_cst_11, main_v96, main_v97, main_v98, main_v99, main_v100, main_v101, main_v102,
    main_v103, main_v104, main_v105, main_v106, main_v107, main_v108, main_v109, main_cst_12, main_v110, main_v111, main_v112, main_v113, main_v114,
    main_v115, main_v116, main_v117, main_cst_13, main_call0_v0, main_call0_v1, main_call0_v2, main_v118, main_cst_14, main_v119, main_v120, main_v121,
    main_v122, main_v123, main_v124, main_v125, main_v126, main_v127, main_v128, main_v129, main_v130, main_v131, main_cst_15, main_v132, main_cst_16,
    main_v133, main_c, main_v134_0, main_v134_1, main_v134_2, main_v134_3, main_v134_4] :=
  ⟨rfl, Lines.pairwise_of_chain (by decide)⟩

variable (V : Valuation τ sig (Elt F))
variable {q : (⟨S1x4112x512, .f32⟩ : BufTy).Contents (Elt F)} {k : (⟨S1x4112x512, .f32⟩ : BufTy).Contents (Elt F)} {v : (⟨S1x4112x512, .f32⟩ : BufTy).Contents (Elt F)}
variable
  (hmain_arg0 : V (Proc.devRef .tc main_arg0) = q)
  (hmain_arg1 : V (Proc.devRef .tc main_arg1) = k)
  (hmain_arg2 : V (Proc.devRef .tc main_arg2) = v)

include hmain_arg0 in
theorem arg0_eq : after ops V (Proc.devRef .tc main_arg0) = q :=
  (ordered.kept V (by decide)).trans hmain_arg0
include hmain_arg1 in
theorem arg1_eq : after ops V (Proc.devRef .tc main_arg1) = k :=
  (ordered.kept V (by decide)).trans hmain_arg1
include hmain_arg2 in
theorem arg2_eq : after ops V (Proc.devRef .tc main_arg2) = v :=
  (ordered.kept V (by decide)).trans hmain_arg2
include hmain_arg0 in
theorem v0_eq : after ops V (Proc.devRef .tc main_v0) = (v0 q) :=
  ordered.reshape_eq V (i := 0) rfl (by decide) (arg0_eq V hmain_arg0)
include hmain_arg0 in
theorem v1_eq : after ops V (Proc.devRef .tc main_v1) = (v1 q) :=
  ordered.unary_eq V (i := 1) rfl (by decide) (v0_eq V hmain_arg0)
theorem cst_eq : after ops V (Proc.devRef .tc main_cst) = (cst (F := F)) :=
  ordered.nullary V (i := 2) rfl
theorem v2_eq : after ops V (Proc.devRef .tc main_v2) = (v2 (F := F)) :=
  ordered.unary_eq V (i := 3) rfl (by decide) (cst_eq V)
include hmain_arg0 in
theorem v3_eq : after ops V (Proc.devRef .tc main_v3) = (v3 q) :=
  ordered.binary_eq V (i := 4) rfl (by decide) (by decide) (v2_eq V) (v1_eq V hmain_arg0)
include hmain_arg1 in
theorem v4_eq : after ops V (Proc.devRef .tc main_v4) = (v0 k) :=
  ordered.reshape_eq V (i := 5) rfl (by decide) (arg1_eq V hmain_arg1)
include hmain_arg1 in
theorem v5_eq : after ops V (Proc.devRef .tc main_v5) = (v1 k) :=
  ordered.unary_eq V (i := 6) rfl (by decide) (v4_eq V hmain_arg1)
theorem cst_0_eq : after ops V (Proc.devRef .tc main_cst_0) = (cst (F := F)) :=
  ordered.nullary V (i := 7) rfl
theorem v6_eq : after ops V (Proc.devRef .tc main_v6) = (v2 (F := F)) :=
  ordered.unary_eq V (i := 8) rfl (by decide) (cst_0_eq V)
include hmain_arg1 in
theorem v7_eq : after ops V (Proc.devRef .tc main_v7) = (v3 k) :=
  ordered.binary_eq V (i := 9) rfl (by decide) (by decide) (v6_eq V) (v5_eq V hmain_arg1)
include hmain_arg2 in
theorem v8_eq : after ops V (Proc.devRef .tc main_v8) = (v0 v) :=
  ordered.reshape_eq V (i := 10) rfl (by decide) (arg2_eq V hmain_arg2)
include hmain_arg2 in
theorem v9_eq : after ops V (Proc.devRef .tc main_v9) = (v1 v) :=
  ordered.unary_eq V (i := 11) rfl (by decide) (v8_eq V hmain_arg2)
theorem cst_1_eq : after ops V (Proc.devRef .tc main_cst_1) = (cst (F := F)) :=
  ordered.nullary V (i := 12) rfl
theorem v10_eq : after ops V (Proc.devRef .tc main_v10) = (v2 (F := F)) :=
  ordered.unary_eq V (i := 13) rfl (by decide) (cst_1_eq V)
include hmain_arg2 in
theorem v11_eq : after ops V (Proc.devRef .tc main_v11) = (v3 v) :=
  ordered.binary_eq V (i := 14) rfl (by decide) (by decide) (v10_eq V) (v9_eq V hmain_arg2)
theorem v12_eq : after ops V (Proc.devRef .tc main_v12) = (v12 (F := F)) :=
  ordered.nullary V (i := 15) rfl
theorem cst_2_eq : after ops V (Proc.devRef .tc main_cst_2) = (cst_2 (F := F)) :=
  ordered.nullary V (i := 16) rfl
theorem v13_eq : after ops V (Proc.devRef .tc main_v13) = (v13 (F := F)) :=
  ordered.unary_eq V (i := 17) rfl (by decide) (cst_2_eq V)
theorem v14_eq : after ops V (Proc.devRef .tc main_v14) = (v14 (F := F)) :=
  ordered.binary_eq V (i := 18) rfl (by decide) (by decide) (v12_eq V) (v13_eq V)
theorem v15_eq : after ops V (Proc.devRef .tc main_v15) = (v15 (F := F)) :=
  ordered.nullary V (i := 19) rfl
theorem v16_eq : after ops V (Proc.devRef .tc main_v16) = (v16 (F := F)) :=
  ordered.unary_eq V (i := 20) rfl (by decide) (v15_eq V)
theorem cst_3_eq : after ops V (Proc.devRef .tc main_cst_3) = (cst_3 (F := F)) :=
  ordered.nullary V (i := 21) rfl
theorem v17_eq : after ops V (Proc.devRef .tc main_v17) = (v17 (F := F)) :=
  ordered.unary_eq V (i := 22) rfl (by decide) (cst_3_eq V)
theorem v18_eq : after ops V (Proc.devRef .tc main_v18) = (v18 (F := F)) :=
  ordered.binary_eq V (i := 23) rfl (by decide) (by decide) (v16_eq V) (v17_eq V)
theorem cst_4_eq : after ops V (Proc.devRef .tc main_cst_4) = (cst_4 (F := F)) :=
  ordered.nullary V (i := 24) rfl
theorem v19_eq : after ops V (Proc.devRef .tc main_v19) = (v19 (F := F)) :=
  ordered.unary_eq V (i := 25) rfl (by decide) (cst_4_eq V)
theorem v20_eq : after ops V (Proc.devRef .tc main_v20) = (v20 (F := F)) :=
  ordered.binary_eq V (i := 26) rfl (by decide) (by decide) (v19_eq V) (v18_eq V)
theorem v21_eq : after ops V (Proc.devRef .tc main_v21) = (v21 (F := F)) :=
  ordered.unary_eq V (i := 27) rfl (by decide) (v14_eq V)
theorem v22_eq : after ops V (Proc.devRef .tc main_v22) = (v22 (F := F)) :=
  ordered.unary_eq V (i := 28) rfl (by decide) (v20_eq V)
theorem v23_eq : after ops V (Proc.devRef .tc main_v23) = (v23 (F := F)) :=
  ordered.unary_eq V (i := 29) rfl (by decide) (v21_eq V)
theorem v24_eq : after ops V (Proc.devRef .tc main_v24) = (v24 (F := F)) :=
  ordered.unary_eq V (i := 30) rfl (by decide) (v22_eq V)
theorem v25_eq : after ops V (Proc.devRef .tc main_v25) = (v25 (F := F)) :=
  ordered.binary_eq V (i := 31) rfl (by decide) (by decide) (v23_eq V) (v24_eq V)
theorem v26_eq : after ops V (Proc.devRef .tc main_v26) = (v26 (F := F)) :=
  ordered.unary_eq V (i := 32) rfl (by decide) (v25_eq V)
theorem v27_eq : after ops V (Proc.devRef .tc main_v27) = (v27 (F := F)) :=
  ordered.unary_eq V (i := 33) rfl (by decide) (v25_eq V)
include hmain_arg0 in
theorem v28_eq : after ops V (Proc.devRef .tc main_v28) = (v28 q) :=
  ordered.unary_eq V (i := 34) rfl (by decide) (v3_eq V hmain_arg0)
include hmain_arg0 in
theorem v29_eq : after ops V (Proc.devRef .tc main_v29) = (v29 q) :=
  ordered.unary_eq V (i := 35) rfl (by decide) (v3_eq V hmain_arg0)
theorem v30_eq : after ops V (Proc.devRef .tc main_v30) = (v30 (F := F)) :=
  ordered.unary_eq V (i := 36) rfl (by decide) (v26_eq V)
theorem v31_eq : after ops V (Proc.devRef .tc main_v31) = (v31 (F := F)) :=
  ordered.unary_eq V (i := 37) rfl (by decide) (v30_eq V)
include hmain_arg0 in
theorem v32_eq : after ops V (Proc.devRef .tc main_v32) = (v32 q) :=
  ordered.binary_eq V (i := 38) rfl (by decide) (by decide) (v28_eq V hmain_arg0) (v31_eq V)
theorem v33_eq : after ops V (Proc.devRef .tc main_v33) = (v33 (F := F)) :=
  ordered.unary_eq V (i := 39) rfl (by decide) (v27_eq V)
theorem v34_eq : after ops V (Proc.devRef .tc main_v34) = (v34 (F := F)) :=
  ordered.unary_eq V (i := 40) rfl (by decide) (v33_eq V)
include hmain_arg0 in
theorem v35_eq : after ops V (Proc.devRef .tc main_v35) = (v35 q) :=
  ordered.binary_eq V (i := 41) rfl (by decide) (by decide) (v29_eq V hmain_arg0) (v34_eq V)
include hmain_arg0 in
theorem v36_eq : after ops V (Proc.devRef .tc main_v36) = (v36 q) :=
  ordered.binary_eq V (i := 42) rfl (by decide) (by decide) (v32_eq V hmain_arg0) (v35_eq V hmain_arg0)
theorem v37_eq : after ops V (Proc.devRef .tc main_v37) = (v33 (F := F)) :=
  ordered.unary_eq V (i := 43) rfl (by decide) (v27_eq V)
theorem v38_eq : after ops V (Proc.devRef .tc main_v38) = (v34 (F := F)) :=
  ordered.unary_eq V (i := 44) rfl (by decide) (v37_eq V)
include hmain_arg0 in
theorem v39_eq : after ops V (Proc.devRef .tc main_v39) = (v39 q) :=
  ordered.binary_eq V (i := 45) rfl (by decide) (by decide) (v28_eq V hmain_arg0) (v38_eq V)
theorem v40_eq : after ops V (Proc.devRef .tc main_v40) = (v30 (F := F)) :=
  ordered.unary_eq V (i := 46) rfl (by decide) (v26_eq V)
theorem v41_eq : after ops V (Proc.devRef .tc main_v41) = (v31 (F := F)) :=
  ordered.unary_eq V (i := 47) rfl (by decide) (v40_eq V)
include hmain_arg0 in
theorem v42_eq : after ops V (Proc.devRef .tc main_v42) = (v42 q) :=
  ordered.binary_eq V (i := 48) rfl (by decide) (by decide) (v29_eq V hmain_arg0) (v41_eq V)
include hmain_arg0 in
theorem v43_eq : after ops V (Proc.devRef .tc main_v43) = (v43 q) :=
  ordered.binary_eq V (i := 49) rfl (by decide) (by decide) (v39_eq V hmain_arg0) (v42_eq V hmain_arg0)
include hmain_arg0 in
theorem v44_eq : after ops V (Proc.devRef .tc main_v44) = (v44 q) :=
  ordered.binary_eq V (i := 50) rfl (by decide) (by decide) (v36_eq V hmain_arg0) (v43_eq V hmain_arg0)
theorem cst_5_eq : after ops V (Proc.devRef .tc main_cst_5) = (cst_5 (F := F)) :=
  ordered.nullary V (i := 51) rfl
theorem v45_eq : after ops V (Proc.devRef .tc main_v45) = (v45 (F := F)) :=
  ordered.unary_eq V (i := 52) rfl (by decide) (cst_5_eq V)
include hmain_arg0 in
theorem v46_eq : after ops V (Proc.devRef .tc main_v46) = (v46 q) :=
  ordered.binary_eq V (i := 53) rfl (by decide) (by decide) (v44_eq V hmain_arg0) (v45_eq V)
theorem v47_eq : after ops V (Proc.devRef .tc main_v47) = (v15 (F := F)) :=
  ordered.nullary V (i := 54) rfl
theorem v48_eq : after ops V (Proc.devRef .tc main_v48) = (v16 (F := F)) :=
  ordered.unary_eq V (i := 55) rfl (by decide) (v47_eq V)
theorem cst_6_eq : after ops V (Proc.devRef .tc main_cst_6) = (cst_3 (F := F)) :=
  ordered.nullary V (i := 56) rfl
theorem v49_eq : after ops V (Proc.devRef .tc main_v49) = (v17 (F := F)) :=
  ordered.unary_eq V (i := 57) rfl (by decide) (cst_6_eq V)
theorem v50_eq : after ops V (Proc.devRef .tc main_v50) = (v18 (F := F)) :=
  ordered.binary_eq V (i := 58) rfl (by decide) (by decide) (v48_eq V) (v49_eq V)
theorem cst_7_eq : after ops V (Proc.devRef .tc main_cst_7) = (cst_4 (F := F)) :=
  ordered.nullary V (i := 59) rfl
theorem v51_eq : after ops V (Proc.devRef .tc main_v51) = (v19 (F := F)) :=
  ordered.unary_eq V (i := 60) rfl (by decide) (cst_7_eq V)
theorem v52_eq : after ops V (Proc.devRef .tc main_v52) = (v20 (F := F)) :=
  ordered.binary_eq V (i := 61) rfl (by decide) (by decide) (v51_eq V) (v50_eq V)
theorem v53_eq : after ops V (Proc.devRef .tc main_v53) = (v21 (F := F)) :=
  ordered.unary_eq V (i := 62) rfl (by decide) (v14_eq V)
theorem v54_eq : after ops V (Proc.devRef .tc main_v54) = (v22 (F := F)) :=
  ordered.unary_eq V (i := 63) rfl (by decide) (v52_eq V)
theorem v55_eq : after ops V (Proc.devRef .tc main_v55) = (v23 (F := F)) :=
  ordered.unary_eq V (i := 64) rfl (by decide) (v53_eq V)
theorem v56_eq : after ops V (Proc.devRef .tc main_v56) = (v24 (F := F)) :=
  ordered.unary_eq V (i := 65) rfl (by decide) (v54_eq V)
theorem v57_eq : after ops V (Proc.devRef .tc main_v57) = (v25 (F := F)) :=
  ordered.binary_eq V (i := 66) rfl (by decide) (by decide) (v55_eq V) (v56_eq V)
theorem v58_eq : after ops V (Proc.devRef .tc main_v58) = (v26 (F := F)) :=
  ordered.unary_eq V (i := 67) rfl (by decide) (v57_eq V)
theorem v59_eq : after ops V (Proc.devRef .tc main_v59) = (v27 (F := F)) :=
  ordered.unary_eq V (i := 68) rfl (by decide) (v57_eq V)
include hmain_arg1 in
theorem v60_eq : after ops V (Proc.devRef .tc main_v60) = (v28 k) :=
  ordered.unary_eq V (i := 69) rfl (by decide) (v7_eq V hmain_arg1)
include hmain_arg1 in
theorem v61_eq : after ops V (Proc.devRef .tc main_v61) = (v29 k) :=
  ordered.unary_eq V (i := 70) rfl (by decide) (v7_eq V hmain_arg1)
theorem v62_eq : after ops V (Proc.devRef .tc main_v62) = (v30 (F := F)) :=
  ordered.unary_eq V (i := 71) rfl (by decide) (v58_eq V)
theorem v63_eq : after ops V (Proc.devRef .tc main_v63) = (v31 (F := F)) :=
  ordered.unary_eq V (i := 72) rfl (by decide) (v62_eq V)
include hmain_arg1 in
theorem v64_eq : after ops V (Proc.devRef .tc main_v64) = (v32 k) :=
  ordered.binary_eq V (i := 73) rfl (by decide) (by decide) (v60_eq V hmain_arg1) (v63_eq V)
theorem v65_eq : after ops V (Proc.devRef .tc main_v65) = (v33 (F := F)) :=
  ordered.unary_eq V (i := 74) rfl (by decide) (v59_eq V)
theorem v66_eq : after ops V (Proc.devRef .tc main_v66) = (v34 (F := F)) :=
  ordered.unary_eq V (i := 75) rfl (by decide) (v65_eq V)
include hmain_arg1 in
theorem v67_eq : after ops V (Proc.devRef .tc main_v67) = (v35 k) :=
  ordered.binary_eq V (i := 76) rfl (by decide) (by decide) (v61_eq V hmain_arg1) (v66_eq V)
include hmain_arg1 in
theorem v68_eq : after ops V (Proc.devRef .tc main_v68) = (v36 k) :=
  ordered.binary_eq V (i := 77) rfl (by decide) (by decide) (v64_eq V hmain_arg1) (v67_eq V hmain_arg1)
theorem v69_eq : after ops V (Proc.devRef .tc main_v69) = (v33 (F := F)) :=
  ordered.unary_eq V (i := 78) rfl (by decide) (v59_eq V)
theorem v70_eq : after ops V (Proc.devRef .tc main_v70) = (v34 (F := F)) :=
  ordered.unary_eq V (i := 79) rfl (by decide) (v69_eq V)
include hmain_arg1 in
theorem v71_eq : after ops V (Proc.devRef .tc main_v71) = (v39 k) :=
  ordered.binary_eq V (i := 80) rfl (by decide) (by decide) (v60_eq V hmain_arg1) (v70_eq V)
theorem v72_eq : after ops V (Proc.devRef .tc main_v72) = (v30 (F := F)) :=
  ordered.unary_eq V (i := 81) rfl (by decide) (v58_eq V)
theorem v73_eq : after ops V (Proc.devRef .tc main_v73) = (v31 (F := F)) :=
  ordered.unary_eq V (i := 82) rfl (by decide) (v72_eq V)
include hmain_arg1 in
theorem v74_eq : after ops V (Proc.devRef .tc main_v74) = (v42 k) :=
  ordered.binary_eq V (i := 83) rfl (by decide) (by decide) (v61_eq V hmain_arg1) (v73_eq V)
include hmain_arg1 in
theorem v75_eq : after ops V (Proc.devRef .tc main_v75) = (v43 k) :=
  ordered.binary_eq V (i := 84) rfl (by decide) (by decide) (v71_eq V hmain_arg1) (v74_eq V hmain_arg1)
include hmain_arg1 in
theorem v76_eq : after ops V (Proc.devRef .tc main_v76) = (v44 k) :=
  ordered.binary_eq V (i := 85) rfl (by decide) (by decide) (v68_eq V hmain_arg1) (v75_eq V hmain_arg1)
include hmain_arg0 in
theorem v77_eq : after ops V (Proc.devRef .tc main_v77) = (v77 q) :=
  ordered.reshape_eq V (i := 86) rfl (by decide) (v46_eq V hmain_arg0)
include hmain_arg1 in
theorem v78_eq : after ops V (Proc.devRef .tc main_v78) = (v78 k) :=
  ordered.reshape_eq V (i := 87) rfl (by decide) (v76_eq V hmain_arg1)
include hmain_arg2 in
theorem v79_eq : after ops V (Proc.devRef .tc main_v79) = (v79 v) :=
  ordered.reshape_eq V (i := 88) rfl (by decide) (v11_eq V hmain_arg2)
theorem v80_eq : after ops V (Proc.devRef .tc main_v80) = (v80 (F := F)) :=
  ordered.nullary V (i := 89) rfl
theorem cst_8_eq : after ops V (Proc.devRef .tc main_cst_8) = (cst_8 (F := F)) :=
  ordered.nullary V (i := 90) rfl
theorem v81_eq : after ops V (Proc.devRef .tc main_v81) = (v81 (F := F)) :=
  ordered.unary_eq V (i := 91) rfl (by decide) (cst_8_eq V)
theorem v82_eq : after ops V (Proc.devRef .tc main_v82) = (v82 (F := F)) :=
  ordered.binary_eq V (i := 92) rfl (by decide) (by decide) (v81_eq V) (v80_eq V)
theorem cst_9_eq : after ops V (Proc.devRef .tc main_cst_9) = (cst_9 (F := F)) :=
  ordered.nullary V (i := 93) rfl
theorem v83_eq : after ops V (Proc.devRef .tc main_v83) = (v83 (F := F)) :=
  ordered.unary_eq V (i := 94) rfl (by decide) (cst_9_eq V)
theorem v84_eq : after ops V (Proc.devRef .tc main_v84) = (v84 (F := F)) :=
  ordered.binary_eq V (i := 95) rfl (by decide) (by decide) (v83_eq V) (v82_eq V)
theorem v85_eq : after ops V (Proc.devRef .tc main_v85) = (v85 (F := F)) :=
  ordered.unary_eq V (i := 96) rfl (by decide) (v84_eq V)
theorem v86_eq : after ops V (Proc.devRef .tc main_v86) = (v86 (F := F)) :=
  ordered.unary_eq V (i := 97) rfl (by decide) (v85_eq V)
theorem v87_eq : after ops V (Proc.devRef .tc main_v87) = (v87 (F := F)) :=
  ordered.nullary V (i := 98) rfl
theorem cst_10_eq : after ops V (Proc.devRef .tc main_cst_10) = (cst_10 (F := F)) :=
  ordered.nullary V (i := 99) rfl
theorem v88_eq : after ops V (Proc.devRef .tc main_v88) = (v88 (F := F)) :=
  ordered.unary_eq V (i := 100) rfl (by decide) (cst_10_eq V)
theorem v89_eq : after ops V (Proc.devRef .tc main_v89) = (v89 (F := F)) :=
  ordered.binary_eq V (i := 101) rfl (by decide) (by decide) (v88_eq V) (v87_eq V)
theorem v90_eq : after ops V (Proc.devRef .tc main_v90) = (v90 (F := F)) :=
  ordered.unary_eq V (i := 102) rfl (by decide) (v89_eq V)
theorem v91_eq : after ops V (Proc.devRef .tc main_v91) = (v91 (F := F)) :=
  ordered.unary_eq V (i := 103) rfl (by decide) (v86_eq V)
theorem v92_eq : after ops V (Proc.devRef .tc main_v92) = (v92 (F := F)) :=
  ordered.unary_eq V (i := 104) rfl (by decide) (v90_eq V)
theorem v93_eq : after ops V (Proc.devRef .tc main_v93) = (v93 (F := F)) :=
  ordered.unary_eq V (i := 105) rfl (by decide) (v91_eq V)
theorem v94_eq : after ops V (Proc.devRef .tc main_v94) = (v94 (F := F)) :=
  ordered.binary_eq V (i := 106) rfl (by decide) (by decide) (v92_eq V) (v93_eq V)
theorem v95_eq : after ops V (Proc.devRef .tc main_v95) = (v95 (F := F)) :=
  ordered.unary_eq V (i := 107) rfl (by decide) (v94_eq V)
theorem cst_11_eq : after ops V (Proc.devRef .tc main_cst_11) = (cst_11 (F := F)) :=
  ordered.nullary V (i := 108) rfl
theorem v96_eq : after ops V (Proc.devRef .tc main_v96) = (v96 (F := F)) :=
  ordered.unary_eq V (i := 109) rfl (by decide) (cst_11_eq V)
theorem v97_eq : after ops V (Proc.devRef .tc main_v97) = (v97 (F := F)) :=
  ordered.binary_eq V (i := 110) rfl (by decide) (by decide) (v96_eq V) (v86_eq V)
theorem v98_eq : after ops V (Proc.devRef .tc main_v98) = (v98 (F := F)) :=
  ordered.unary_eq V (i := 111) rfl (by decide) (v97_eq V)
theorem v99_eq : after ops V (Proc.devRef .tc main_v99) = (v99 (F := F)) :=
  ordered.unary_eq V (i := 112) rfl (by decide) (v95_eq V)
theorem v100_eq : after ops V (Proc.devRef .tc main_v100) = (v100 (F := F)) :=
  ordered.unary_eq V (i := 113) rfl (by decide) (v99_eq V)
include hmain_arg1 in
theorem v101_eq : after ops V (Proc.devRef .tc main_v101) = (v101 k) :=
  ordered.binary_eq V (i := 114) rfl (by decide) (by decide) (v78_eq V hmain_arg1) (v100_eq V)
include hmain_arg1 hmain_arg2 in
theorem v102_eq : after ops V (Proc.devRef .tc main_v102) = (v102 k v) :=
  ordered.binary_eq V (i := 115) rfl (by decide) (by decide) (v101_eq V hmain_arg1) (v79_eq V hmain_arg2)
theorem v103_eq : after ops V (Proc.devRef .tc main_v103) = (v103 (F := F)) :=
  ordered.unary_eq V (i := 116) rfl (by decide) (v98_eq V)
theorem v104_eq : after ops V (Proc.devRef .tc main_v104) = (v104 (F := F)) :=
  ordered.unary_eq V (i := 117) rfl (by decide) (v87_eq V)
theorem v105_eq : after ops V (Proc.devRef .tc main_v105) = (v105 (F := F)) :=
  ordered.unary_eq V (i := 118) rfl (by decide) (v87_eq V)
theorem v106_eq : after ops V (Proc.devRef .tc main_v106) = (v106 (F := F)) :=
  ordered.unary_eq V (i := 119) rfl (by decide) (v104_eq V)
theorem v107_eq : after ops V (Proc.devRef .tc main_v107) = (v107 (F := F)) :=
  ordered.unary_eq V (i := 120) rfl (by decide) (v105_eq V)
theorem v108_eq : after ops V (Proc.devRef .tc main_v108) = (v108 (F := F)) :=
  ordered.binary_eq V (i := 121) rfl (by decide) (by decide) (v106_eq V) (v107_eq V)
theorem v109_eq : after ops V (Proc.devRef .tc main_v109) = (v109 (F := F)) :=
  ordered.unary_eq V (i := 122) rfl (by decide) (v108_eq V)
theorem cst_12_eq : after ops V (Proc.devRef .tc main_cst_12) = (cst (F := F)) :=
  ordered.nullary V (i := 123) rfl
theorem v110_eq : after ops V (Proc.devRef .tc main_v110) = (v110 (F := F)) :=
  ordered.unary_eq V (i := 124) rfl (by decide) (cst_12_eq V)
theorem v111_eq : after ops V (Proc.devRef .tc main_v111) = (v111 (F := F)) :=
  ordered.binary_eq V (i := 125) rfl (by decide) (by decide) (v109_eq V) (v110_eq V)
theorem v112_eq : after ops V (Proc.devRef .tc main_v112) = (v109 (F := F)) :=
  ordered.unary_eq V (i := 126) rfl (by decide) (v108_eq V)
theorem v113_eq : after ops V (Proc.devRef .tc main_v113) = (v113 (F := F)) :=
  ordered.unary_eq V (i := 127) rfl (by decide) (v86_eq V)
theorem v114_eq : after ops V (Proc.devRef .tc main_v114) = (v114 (F := F)) :=
  ordered.unary_eq V (i := 128) rfl (by decide) (v112_eq V)
theorem v115_eq : after ops V (Proc.devRef .tc main_v115) = (v115 (F := F)) :=
  ordered.unary_eq V (i := 129) rfl (by decide) (v113_eq V)
theorem v116_eq : after ops V (Proc.devRef .tc main_v116) = (v116 (F := F)) :=
  ordered.binary_eq V (i := 130) rfl (by decide) (by decide) (v114_eq V) (v115_eq V)
theorem v117_eq : after ops V (Proc.devRef .tc main_v117) = (v117 (F := F)) :=
  ordered.unary_eq V (i := 131) rfl (by decide) (v116_eq V)
theorem cst_13_eq : after ops V (Proc.devRef .tc main_cst_13) = (cst (F := F)) :=
  ordered.nullary V (i := 132) rfl
theorem call0_v0_eq : after ops V (Proc.devRef .tc main_call0_v0) = (cst (F := F)) :=
  ordered.unary_eq V (i := 133) rfl (by decide) (cst_13_eq V)
theorem call0_v1_eq : after ops V (Proc.devRef .tc main_call0_v1) = (call0_v1 (F := F)) :=
  ordered.unary_eq V (i := 134) rfl (by decide) (v111_eq V)
theorem call0_v2_eq : after ops V (Proc.devRef .tc main_call0_v2) = (call0_v2 (F := F)) :=
  ordered.unary_eq V (i := 135) rfl (by decide) (call0_v0_eq V)
theorem v118_eq : after ops V (Proc.devRef .tc main_v118) = (v118 (F := F)) :=
  ordered.ternary_eq V (i := 136) rfl (by decide) (by decide) (by decide) (call0_v1_eq V) (v117_eq V) (call0_v2_eq V)
theorem cst_14_eq : after ops V (Proc.devRef .tc main_cst_14) = (cst_14 (F := F)) :=
  ordered.nullary V (i := 137) rfl
theorem v119_eq : after ops V (Proc.devRef .tc main_v119) = (v119 (F := F)) :=
  ordered.unary_eq V (i := 138) rfl (by decide) (cst_14_eq V)
theorem v120_eq : after ops V (Proc.devRef .tc main_v120) = (v120 (F := F)) :=
  ordered.binary_eq V (i := 139) rfl (by decide) (by decide) (v87_eq V) (v119_eq V)
theorem v121_eq : after ops V (Proc.devRef .tc main_v121) = (v121 (F := F)) :=
  ordered.unary_eq V (i := 140) rfl (by decide) (v120_eq V)
theorem v122_eq : after ops V (Proc.devRef .tc main_v122) = (v91 (F := F)) :=
  ordered.unary_eq V (i := 141) rfl (by decide) (v86_eq V)
theorem v123_eq : after ops V (Proc.devRef .tc main_v123) = (v123 (F := F)) :=
  ordered.unary_eq V (i := 142) rfl (by decide) (v121_eq V)
theorem v124_eq : after ops V (Proc.devRef .tc main_v124) = (v93 (F := F)) :=
  ordered.unary_eq V (i := 143) rfl (by decide) (v122_eq V)
theorem v125_eq : after ops V (Proc.devRef .tc main_v125) = (v125 (F := F)) :=
  ordered.binary_eq V (i := 144) rfl (by decide) (by decide) (v123_eq V) (v124_eq V)
theorem v126_eq : after ops V (Proc.devRef .tc main_v126) = (v126 (F := F)) :=
  ordered.unary_eq V (i := 145) rfl (by decide) (v125_eq V)
include hmain_arg0 hmain_arg1 in
theorem v127_eq : after ops V (Proc.devRef .tc main_v127) = (v127 q k) :=
  ordered.binary_eq V (i := 146) rfl (by decide) (by decide) (v77_eq V hmain_arg0) (v78_eq V hmain_arg1)
theorem v128_eq : after ops V (Proc.devRef .tc main_v128) = (v128 (F := F)) :=
  ordered.unary_eq V (i := 147) rfl (by decide) (v118_eq V)
theorem v129_eq : after ops V (Proc.devRef .tc main_v129) = (v129 (F := F)) :=
  ordered.unary_eq V (i := 148) rfl (by decide) (v128_eq V)
include hmain_arg0 hmain_arg1 in
theorem v130_eq : after ops V (Proc.devRef .tc main_v130) = (v130 q k) :=
  ordered.binary_eq V (i := 149) rfl (by decide) (by decide) (v127_eq V hmain_arg0 hmain_arg1) (v129_eq V)
include hmain_arg0 hmain_arg1 hmain_arg2 in
theorem v131_eq : after ops V (Proc.devRef .tc main_v131) = (v131 q k v) :=
  ordered.binary_eq V (i := 150) rfl (by decide) (by decide) (v130_eq V hmain_arg0 hmain_arg1) (v79_eq V hmain_arg2)
theorem cst_15_eq : after ops V (Proc.devRef .tc main_cst_15) = (cst (F := F)) :=
  ordered.nullary V (i := 151) rfl
theorem v132_eq : after ops V (Proc.devRef .tc main_v132) = (v132 (F := F)) :=
  ordered.unary_eq V (i := 152) rfl (by decide) (cst_15_eq V)
theorem cst_16_eq : after ops V (Proc.devRef .tc main_cst_16) = (cst (F := F)) :=
  ordered.nullary V (i := 153) rfl
theorem v133_eq : after ops V (Proc.devRef .tc main_v133) = (v133 (F := F)) :=
  ordered.unary_eq V (i := 154) rfl (by decide) (cst_16_eq V)
include hmain_arg1 hmain_arg2 in
theorem v134_0_eq : after ops V (Proc.devRef .tc main_v134_0) = (v102 k v) :=
  ordered.unary_eq V (i := 156) rfl (by decide) (v102_eq V hmain_arg1 hmain_arg2)
theorem v134_1_eq : after ops V (Proc.devRef .tc main_v134_1) = (v103 (F := F)) :=
  ordered.unary_eq V (i := 157) rfl (by decide) (v103_eq V)
theorem v134_3_eq : after ops V (Proc.devRef .tc main_v134_3) = (v132 (F := F)) :=
  ordered.unary_eq V (i := 159) rfl (by decide) (v132_eq V)
theorem v134_4_eq : after ops V (Proc.devRef .tc main_v134_4) = (v133 (F := F)) :=
  ordered.unary_eq V (i := 160) rfl (by decide) (v133_eq V)

end Pre

namespace Post

/-- The operations after the loop. -/
abbrev ops : List (HloOp τ sig (Elt F)) := [hostOps0_3].flatten

/-- The operations after the loop write these buffers in order. -/
theorem ordered : Lines.Ordered (τ := τ) (sig := sig) (ops (F := F))
    [main_v135, main_v136, main_v137, main_v138, main_v139, main_v140, main_v141, main_v142, main_v143, main_v144, main_v145, main_v146] :=
  ⟨rfl, Lines.pairwise_of_chain (by decide)⟩

variable (V : Valuation τ sig (Elt F))
variable {q : (⟨S1x4112x512, .f32⟩ : BufTy).Contents (Elt F)} {k : (⟨S1x4112x512, .f32⟩ : BufTy).Contents (Elt F)} {v : (⟨S1x4112x512, .f32⟩ : BufTy).Contents (Elt F)} {sp : (⟨S33x1x4x128x128, .f32⟩ : BufTy).Contents (Elt F)}
variable
  (hmain_v77 : V (Proc.devRef .tc main_v77) = (v77 q))
  (hmain_v126 : V (Proc.devRef .tc main_v126) = (v126 (F := F)))
  (hmain_v131 : V (Proc.devRef .tc main_v131) = (v131 q k v))
  (hmain_v134_4 : V (Proc.devRef .tc main_v134_4) = sp)

include hmain_v77 in
theorem v77_eq : after ops V (Proc.devRef .tc main_v77) = (v77 q) :=
  (ordered.kept V (by decide)).trans hmain_v77
include hmain_v126 in
theorem v126_eq : after ops V (Proc.devRef .tc main_v126) = (v126 (F := F)) :=
  (ordered.kept V (by decide)).trans hmain_v126
include hmain_v131 in
theorem v131_eq : after ops V (Proc.devRef .tc main_v131) = (v131 q k v) :=
  (ordered.kept V (by decide)).trans hmain_v131
include hmain_v134_4 in
theorem v134_4_eq : after ops V (Proc.devRef .tc main_v134_4) = sp :=
  (ordered.kept V (by decide)).trans hmain_v134_4
include hmain_v126 in
theorem v135_eq : after ops V (Proc.devRef .tc main_v135) = (v135 (F := F)) :=
  ordered.unary_eq V (i := 0) rfl (by decide) (v126_eq V hmain_v126)
include hmain_v126 in
theorem v136_eq : after ops V (Proc.devRef .tc main_v136) = (v136 (F := F)) :=
  ordered.unary_eq V (i := 1) rfl (by decide) (v135_eq V hmain_v126)
include hmain_v77 hmain_v126 in
theorem v137_eq : after ops V (Proc.devRef .tc main_v137) = (v137 q) :=
  ordered.binary_eq V (i := 2) rfl (by decide) (by decide) (v77_eq V hmain_v77) (v136_eq V hmain_v126)
include hmain_v77 hmain_v126 hmain_v134_4 in
theorem v138_eq : after ops V (Proc.devRef .tc main_v138) = (v138 q sp) :=
  ordered.binary_eq V (i := 3) rfl (by decide) (by decide) (v137_eq V hmain_v77 hmain_v126) (v134_4_eq V hmain_v134_4)
include hmain_v77 hmain_v126 hmain_v131 hmain_v134_4 in
theorem v139_eq : after ops V (Proc.devRef .tc main_v139) = (v139 q k v sp) :=
  ordered.binary_eq V (i := 4) rfl (by decide) (by decide) (v131_eq V hmain_v131) (v138_eq V hmain_v77 hmain_v126 hmain_v134_4)
include hmain_v77 hmain_v126 hmain_v131 hmain_v134_4 in
theorem v140_eq : after ops V (Proc.devRef .tc main_v140) = (v140 q k v sp) :=
  ordered.reshape_eq V (i := 5) rfl (by decide) (v139_eq V hmain_v77 hmain_v126 hmain_v131 hmain_v134_4)
include hmain_v77 hmain_v126 hmain_v131 hmain_v134_4 in
theorem v141_eq : after ops V (Proc.devRef .tc main_v141) = (v141 q k v sp) :=
  ordered.unary_eq V (i := 6) rfl (by decide) (v140_eq V hmain_v77 hmain_v126 hmain_v131 hmain_v134_4)
include hmain_v77 hmain_v126 hmain_v131 hmain_v134_4 in
theorem v142_eq : after ops V (Proc.devRef .tc main_v142) = (v142 q k v sp) :=
  ordered.reshape_eq V (i := 7) rfl (by decide) (v141_eq V hmain_v77 hmain_v126 hmain_v131 hmain_v134_4)
include hmain_v77 hmain_v126 hmain_v131 hmain_v134_4 in
theorem v143_eq : after ops V (Proc.devRef .tc main_v143) = (v143 q k v sp) :=
  ordered.unary_eq V (i := 8) rfl (by decide) (v142_eq V hmain_v77 hmain_v126 hmain_v131 hmain_v134_4)
include hmain_v134_4 in
theorem v144_eq : after ops V (Proc.devRef .tc main_v144) = (v144 sp) :=
  ordered.reshape_eq V (i := 9) rfl (by decide) (v134_4_eq V hmain_v134_4)
include hmain_v134_4 in
theorem v145_eq : after ops V (Proc.devRef .tc main_v145) = (v145 sp) :=
  ordered.unary_eq V (i := 10) rfl (by decide) (v144_eq V hmain_v134_4)
include hmain_v134_4 in
theorem v146_eq : after ops V (Proc.devRef .tc main_v146) = (v146 sp) :=
  ordered.unary_eq V (i := 11) rfl (by decide) (v145_eq V hmain_v134_4)

end Post

end Cert.FwdRefHost

end
-- ==== Proof.RefHost.lean ====
/- The values the gradient reference computes on the host, one definition per operation (an operation the forward reference has too is that one's), and what its lines of operations leave in the buffers. -/
module

public import proofs.«01_k».proof.Proof.RefOps
public import proofs.«01_k».proof.Proof.FwdRefHost

@[expose] public section

set_option maxRecDepth 16384

noncomputable section

namespace Cert.RefHost

open Cert.ReferenceIdeal Cert.ReferenceIdeal.Gen Cert.RefOps
open Idealize.ShloMosaic Idealize.ShloMosaic.TcCoe Idealize.ShloMosaic.StableHlo
open Cert.Lines

variable {F : FTy → Type} [FloatOps F]

/-! ## The values -/

def v150 (x : (⟨S1x4112x512, .f32⟩ : BufTy).Contents (Elt F)) : (⟨S1x4x4224x128, .f32⟩ : BufTy).Contents (Elt F) :=
  pad S1x4x4224x128 ![0, 0, 112, 0] ![0, 0, 0, 0] ![0, 0, 0, 0] (FwdRefHost.v1 x) (FwdRefHost.cst (F := F)) pads_S1x4x4112x128_S1x4x4224x128_000_000_11200_000 h_S_
def v151 (x : (⟨S1x4112x512, .f32⟩ : BufTy).Contents (Elt F)) : (⟨S1x4x33x128x128, .f32⟩ : BufTy).Contents (Elt F) :=
  shapeCast S1x4x33x128x128 (v150 x) shapeCasts_S1x4x4224x128_S1x4x33x128x128
def v152 (x : (⟨S1x4112x512, .f32⟩ : BufTy).Contents (Elt F)) (y : (⟨S1x4112x512, .f32⟩ : BufTy).Contents (Elt F)) : (⟨S1x4x33x128x128, .f32⟩ : BufTy).Contents (Elt F) :=
  Host.dotGeneral dot_S1x4x33x128x128_S1x4x33x128x128_S1x4x33x128x128_3_3_4_4_012_012 none (v151 x) (FwdRefHost.v137 y)
def v153 (x : (⟨S1x4112x512, .f32⟩ : BufTy).Contents (Elt F)) (y : (⟨S1x4112x512, .f32⟩ : BufTy).Contents (Elt F)) : (⟨S33x1x4x128x128, .f32⟩ : BufTy).Contents (Elt F) :=
  transpose S33x1x4x128x128 [2, 0, 1, 4, 3] (v152 x y) transposes_S1x4x33x128x128_S33x1x4x128x128_2_0_1_4_3
def v154 (x : (⟨S1x4112x512, .f32⟩ : BufTy).Contents (Elt F)) (y : (⟨S33x1x4x128x128, .f32⟩ : BufTy).Contents (Elt F)) : (⟨S1x4x33x128x128, .f32⟩ : BufTy).Contents (Elt F) :=
  Host.dotGeneral dot_S1x4x33x128x128_S33x1x4x128x128_S1x4x33x128x128_4_4_3_3_012_120 none (v151 x) y
def v156 (x : (⟨S1x4112x512, .f32⟩ : BufTy).Contents (Elt F)) (y : (⟨S33x1x4x128x128, .f32⟩ : BufTy).Contents (Elt F)) : (⟨S1x4x33x128x128, .f32⟩ : BufTy).Contents (Elt F) :=
  mulf (v154 x y) (FwdRefHost.v136 (F := F))
def v160 (x : (⟨S1x4112x512, .f32⟩ : BufTy).Contents (Elt F)) (y : (⟨S1x4112x512, .f32⟩ : BufTy).Contents (Elt F)) (z : (⟨S1x4112x512, .f32⟩ : BufTy).Contents (Elt F)) : (⟨S1x4x33x128x128, .f32⟩ : BufTy).Contents (Elt F) :=
  Host.dotGeneral dot_S1x4x33x128x128_S1x4x33x128x128_S1x4x33x128x128_3_3_4_4_012_012 none (v151 x) (FwdRefHost.v130 y z)
def v161 (x : (⟨S1x4112x512, .f32⟩ : BufTy).Contents (Elt F)) (y : (⟨S1x4112x512, .f32⟩ : BufTy).Contents (Elt F)) (z : (⟨S1x4112x512, .f32⟩ : BufTy).Contents (Elt F)) : (⟨S1x4x33x128x128, .f32⟩ : BufTy).Contents (Elt F) :=
  transpose S1x4x33x128x128 [0, 1, 2, 4, 3] (v160 x y z) transposes_S1x4x33x128x128_S1x4x33x128x128_0_1_2_4_3
def v162 (x : (⟨S1x4112x512, .f32⟩ : BufTy).Contents (Elt F)) (y : (⟨S1x4112x512, .f32⟩ : BufTy).Contents (Elt F)) : (⟨S1x4x33x128x128, .f32⟩ : BufTy).Contents (Elt F) :=
  Host.dotGeneral dot_S1x4x33x128x128_S1x4x33x128x128_S1x4x33x128x128_4_4_3_3_012_012 none (v151 x) (FwdRefHost.v79 y)
def v164 (x : (⟨S1x4112x512, .f32⟩ : BufTy).Contents (Elt F)) (y : (⟨S1x4112x512, .f32⟩ : BufTy).Contents (Elt F)) : (⟨S1x4x33x128x128, .f32⟩ : BufTy).Contents (Elt F) :=
  mulf (v162 x y) (FwdRefHost.v129 (F := F))
def v165 (x : (⟨S1x4112x512, .f32⟩ : BufTy).Contents (Elt F)) (y : (⟨S1x4112x512, .f32⟩ : BufTy).Contents (Elt F)) (z : (⟨S1x4112x512, .f32⟩ : BufTy).Contents (Elt F)) : (⟨S1x4x33x128x128, .f32⟩ : BufTy).Contents (Elt F) :=
  Host.dotGeneral dot_S1x4x33x128x128_S1x4x33x128x128_S1x4x33x128x128_3_3_4_4_012_012 none (v164 x y) (FwdRefHost.v77 z)
def v166 (x : (⟨S1x4112x512, .f32⟩ : BufTy).Contents (Elt F)) (y : (⟨S1x4112x512, .f32⟩ : BufTy).Contents (Elt F)) (z : (⟨S1x4112x512, .f32⟩ : BufTy).Contents (Elt F)) : (⟨S1x4x33x128x128, .f32⟩ : BufTy).Contents (Elt F) :=
  Host.dotGeneral dot_S1x4x33x128x128_S1x4x33x128x128_S1x4x33x128x128_4_3_3_4_012_012 none (v164 x y) (FwdRefHost.v78 z)
def v167 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x33x128x128, .f32⟩ : BufTy).Contents (Elt F) :=
  addf (v156 x y) (v166 x z u)
def v168 (x : (⟨S33x1x4x128x128, .f32⟩ : BufTy).Contents (Elt F)) (y : (⟨S1x4112x512, .f32⟩ : BufTy).Contents (Elt F)) : (⟨S33x1x4x128x128, .f32⟩ : BufTy).Contents (Elt F) :=
  Host.dotGeneral dot_S33x1x4x128x128_S1x4x33x128x128_S33x1x4x128x128_3_4_4_3_012_201 none x (FwdRefHost.v101 y)
def v169 (x : (⟨S33x1x4x128x128, .f32⟩ : BufTy).Contents (Elt F)) (y : (⟨S1x4112x512, .f32⟩ : BufTy).Contents (Elt F)) : (⟨S1x4x33x128x128, .f32⟩ : BufTy).Contents (Elt F) :=
  transpose S1x4x33x128x128 [1, 2, 0, 4, 3] (v168 x y) transposes_S33x1x4x128x128_S1x4x33x128x128_1_2_0_4_3
def v170 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x33x128x128, .f32⟩ : BufTy).Contents (Elt F) :=
  addf (v161 x y z) (v169 u z)
def v171 (x : (⟨S33x1x4x128x128, .f32⟩ : BufTy).Contents (Elt F)) (y : (⟨S1x4112x512, .f32⟩ : BufTy).Contents (Elt F)) : (⟨S33x1x4x128x128, .f32⟩ : BufTy).Contents (Elt F) :=
  Host.dotGeneral dot_S33x1x4x128x128_S1x4x33x128x128_S33x1x4x128x128_4_4_3_3_012_201 none x (FwdRefHost.v79 y)
def v172 (x : (⟨S33x1x4x128x128, .f32⟩ : BufTy).Contents (Elt F)) (y : (⟨S1x4112x512, .f32⟩ : BufTy).Contents (Elt F)) : (⟨S1x4x33x128x128, .f32⟩ : BufTy).Contents (Elt F) :=
  transpose S1x4x33x128x128 [1, 2, 0, 4, 3] (v171 x y) transposes_S33x1x4x128x128_S1x4x33x128x128_1_2_0_4_3
def v174 (x : (⟨S33x1x4x128x128, .f32⟩ : BufTy).Contents (Elt F)) (y : (⟨S1x4112x512, .f32⟩ : BufTy).Contents (Elt F)) : (⟨S1x4x33x128x128, .f32⟩ : BufTy).Contents (Elt F) :=
  mulf (v172 x y) (FwdRefHost.v100 (F := F))
def v175 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x33x128x128, .f32⟩ : BufTy).Contents (Elt F) :=
  addf (v165 x y z) (v174 u y)
def v176 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x128, .f32⟩ : BufTy).Contents (Elt F) :=
  shapeCast S1x4x4224x128 (v170 x y z u) shapeCasts_S1x4x33x128x128_S1x4x4224x128
def v177 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x128, .f32⟩ : BufTy).Contents (Elt F) :=
  shapeCast S1x4x4224x128 (v175 x y z u) shapeCasts_S1x4x33x128x128_S1x4x4224x128
def v178 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x128, .f32⟩ : BufTy).Contents (Elt F) :=
  shapeCast S1x4x4224x128 (v167 x y z u) shapeCasts_S1x4x33x128x128_S1x4x4224x128
def v179 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x64, .f32⟩ : BufTy).Contents (Elt F) :=
  extractStridedSlice S1x4x4224x64 ![0, 0, 0, 0] (v177 x y z u) slices_S1x4x4224x128_S1x4x4224x64_0_0_0_0
def v180 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x64, .f32⟩ : BufTy).Contents (Elt F) :=
  extractStridedSlice S1x4x4224x64 ![0, 0, 0, 64] (v177 x y z u) slices_S1x4x4224x128_S1x4x4224x64_0_0_0_64
def v182 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x64, .f32⟩ : BufTy).Contents (Elt F) :=
  mulf (v180 x y z u) (FwdRefHost.v31 (F := F))
def v184 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x64, .f32⟩ : BufTy).Contents (Elt F) :=
  mulf (v180 x y z u) (FwdRefHost.v34 (F := F))
def v185 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x64, .f32⟩ : BufTy).Contents (Elt F) :=
  Host.negf (v179 x y z u)
def v187 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x64, .f32⟩ : BufTy).Contents (Elt F) :=
  mulf (v185 x y z u) (FwdRefHost.v34 (F := F))
def v188 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x64, .f32⟩ : BufTy).Contents (Elt F) :=
  addf (v182 x y z u) (v187 x y z u)
def v190 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x64, .f32⟩ : BufTy).Contents (Elt F) :=
  mulf (v179 x y z u) (FwdRefHost.v31 (F := F))
def v191 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x64, .f32⟩ : BufTy).Contents (Elt F) :=
  addf (v184 x y z u) (v190 x y z u)
def v192 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x128, .f32⟩ : BufTy).Contents (Elt F) :=
  pad S1x4x4224x128 ![0, 0, 0, 64] ![0, 0, 0, 0] ![0, 0, 0, 0] (v188 x y z u) (FwdRefHost.cst (F := F)) pads_S1x4x4224x64_S1x4x4224x128_000_000_000_6400 h_S_
def v193 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x128, .f32⟩ : BufTy).Contents (Elt F) :=
  pad S1x4x4224x128 ![0, 0, 0, 0] ![0, 0, 0, 64] ![0, 0, 0, 0] (v191 x y z u) (FwdRefHost.cst (F := F)) pads_S1x4x4224x64_S1x4x4224x128_000_000_000_0640 h_S_
def v194 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4224x128, .f32⟩ : BufTy).Contents (Elt F) :=
  addf (v192 x y z u) (v193 x y z u)
def v196 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x128, .f32⟩ : BufTy).Contents (Elt F) :=
  mulf (v178 x y z u) (FwdRefHost.v45 (F := F))
def v197 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x64, .f32⟩ : BufTy).Contents (Elt F) :=
  extractStridedSlice S1x4x4224x64 ![0, 0, 0, 0] (v196 x y z u) slices_S1x4x4224x128_S1x4x4224x64_0_0_0_0
def v198 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x64, .f32⟩ : BufTy).Contents (Elt F) :=
  extractStridedSlice S1x4x4224x64 ![0, 0, 0, 64] (v196 x y z u) slices_S1x4x4224x128_S1x4x4224x64_0_0_0_64
def v200 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x64, .f32⟩ : BufTy).Contents (Elt F) :=
  mulf (v198 x y z u) (FwdRefHost.v31 (F := F))
def v202 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x64, .f32⟩ : BufTy).Contents (Elt F) :=
  mulf (v198 x y z u) (FwdRefHost.v34 (F := F))
def v203 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x64, .f32⟩ : BufTy).Contents (Elt F) :=
  Host.negf (v197 x y z u)
def v205 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x64, .f32⟩ : BufTy).Contents (Elt F) :=
  mulf (v203 x y z u) (FwdRefHost.v34 (F := F))
def v206 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x64, .f32⟩ : BufTy).Contents (Elt F) :=
  addf (v200 x y z u) (v205 x y z u)
def v208 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x64, .f32⟩ : BufTy).Contents (Elt F) :=
  mulf (v197 x y z u) (FwdRefHost.v31 (F := F))
def v209 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x64, .f32⟩ : BufTy).Contents (Elt F) :=
  addf (v202 x y z u) (v208 x y z u)
def v210 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x128, .f32⟩ : BufTy).Contents (Elt F) :=
  pad S1x4x4224x128 ![0, 0, 0, 64] ![0, 0, 0, 0] ![0, 0, 0, 0] (v206 x y z u) (FwdRefHost.cst (F := F)) pads_S1x4x4224x64_S1x4x4224x128_000_000_000_6400 h_S_
def v211 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x128, .f32⟩ : BufTy).Contents (Elt F) :=
  pad S1x4x4224x128 ![0, 0, 0, 0] ![0, 0, 0, 64] ![0, 0, 0, 0] (v209 x y z u) (FwdRefHost.cst (F := F)) pads_S1x4x4224x64_S1x4x4224x128_000_000_000_0640 h_S_
def v212 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4224x128, .f32⟩ : BufTy).Contents (Elt F) :=
  addf (v210 x y z u) (v211 x y z u)
def v214 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4112x128, .f32⟩ : BufTy).Contents (Elt F) :=
  extractStridedSlice S1x4x4112x128 ![0, 0, 112, 0] (v176 x y z u) slices_S1x4x4224x128_S1x4x4112x128_0_0_112_0
def v215 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4112x4x128, .f32⟩ : BufTy).Contents (Elt F) :=
  transpose S1x4112x4x128 [0, 2, 1, 3] (v214 x y z u) transposes_S1x4x4112x128_S1x4112x4x128_0_2_1_3
def v216 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4112x512, .f32⟩ : BufTy).Contents (Elt F) :=
  shapeCast S1x4112x512 (v215 x y z u) shapeCasts_S1x4112x4x128_S1x4112x512
def v218 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4x4112x128, .f32⟩ : BufTy).Contents (Elt F) :=
  extractStridedSlice S1x4x4112x128 ![0, 0, 112, 0] (v194 x y z u) slices_S1x4x4224x128_S1x4x4112x128_0_0_112_0
def v219 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4112x4x128, .f32⟩ : BufTy).Contents (Elt F) :=
  transpose S1x4112x4x128 [0, 2, 1, 3] (v218 x y z u) transposes_S1x4x4112x128_S1x4112x4x128_0_2_1_3
def v220 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S1x4112x512, .f32⟩ : BufTy).Contents (Elt F) :=
  shapeCast S1x4112x512 (v219 x y z u) shapeCasts_S1x4112x4x128_S1x4112x512
def v222 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4x4112x128, .f32⟩ : BufTy).Contents (Elt F) :=
  extractStridedSlice S1x4x4112x128 ![0, 0, 112, 0] (v212 x y z u) slices_S1x4x4224x128_S1x4x4112x128_0_0_112_0
def v223 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4112x4x128, .f32⟩ : BufTy).Contents (Elt F) :=
  transpose S1x4112x4x128 [0, 2, 1, 3] (v222 x y z u) transposes_S1x4x4112x128_S1x4112x4x128_0_2_1_3
def v224 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S1x4112x512, .f32⟩ : BufTy).Contents (Elt F) :=
  shapeCast S1x4112x512 (v223 x y z u) shapeCasts_S1x4112x4x128_S1x4112x512
def v225 : (⟨S112x512, .f32⟩ : BufTy).Contents (Elt F) :=
  broadcastInDim S112x512 ![] bcast_S_S112x512 (FwdRefHost.cst (F := F))
def v226 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S4112x512, .f32⟩ : BufTy).Contents (Elt F) :=
  shapeCast S4112x512 (v224 x y z u) shapeCasts_S1x4112x512_S4112x512
def v227 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S4224x512, .f32⟩ : BufTy).Contents (Elt F) :=
  concatenate S4224x512 0 [⟨S112x512, (v225 (F := F))⟩, ⟨S4112x512, (v226 x y z u)⟩] concatenates_S112x512_S4112x512_S4224x512_d0
def v228 (x : (⟨S1x4112x512, .f32⟩ : BufTy).Contents (Elt F)) (y : (⟨S33x1x4x128x128, .f32⟩ : BufTy).Contents (Elt F)) (z : (⟨S1x4112x512, .f32⟩ : BufTy).Contents (Elt F)) (u : (⟨S1x4112x512, .f32⟩ : BufTy).Contents (Elt F)) : (⟨S4224x512, .bf16⟩ : BufTy).Contents (Elt F) :=
  truncf .bf16 (v227 x y z u) bitsLt_bf16_f32
def v230 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S4112x512, .f32⟩ : BufTy).Contents (Elt F) :=
  shapeCast S4112x512 (v220 x y z u) shapeCasts_S1x4112x512_S4112x512
def v231 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S4224x512, .f32⟩ : BufTy).Contents (Elt F) :=
  concatenate S4224x512 0 [⟨S112x512, (v225 (F := F))⟩, ⟨S4112x512, (v230 x y z u)⟩] concatenates_S112x512_S4112x512_S4224x512_d0
def v232 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S4224x512, .bf16⟩ : BufTy).Contents (Elt F) :=
  truncf .bf16 (v231 x y z u) bitsLt_bf16_f32
def v234 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S4112x512, .f32⟩ : BufTy).Contents (Elt F) :=
  shapeCast S4112x512 (v216 x y z u) shapeCasts_S1x4112x512_S4112x512
def v235 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S4224x512, .f32⟩ : BufTy).Contents (Elt F) :=
  concatenate S4224x512 0 [⟨S112x512, (v225 (F := F))⟩, ⟨S4112x512, (v234 x y z u)⟩] concatenates_S112x512_S4112x512_S4224x512_d0
def v236 (x : (⟨S1x4112x512, .f32⟩ : BufTy).Contents (Elt F)) (y : (⟨S1x4112x512, .f32⟩ : BufTy).Contents (Elt F)) (z : (⟨S1x4112x512, .f32⟩ : BufTy).Contents (Elt F)) (u : (⟨S33x1x4x128x128, .f32⟩ : BufTy).Contents (Elt F)) : (⟨S4224x512, .bf16⟩ : BufTy).Contents (Elt F) :=
  truncf .bf16 (v235 x y z u) bitsLt_bf16_f32

/-! ## What the lines leave -/

namespace Pre

/-- The operations before the first loop. -/
abbrev ops : List (HloOp τ sig (Elt F)) := [main_part0_ops0, main_part1_ops0, main_part2_ops0, main_part2_ops1, main_part2_ops2].flatten

/-- The operations before the first loop write these buffers in order. -/
theorem ordered : Lines.Ordered (τ := τ) (sig := sig) (ops (F := F))
    [main_v0, main_v1, main_cst, main_v2, main_v3, main_cst_0, main_v4, main_v5, main_v6, main_cst_1, main_v7, main_v8, main_cst_2, main_v9, main_v10,
    main_v11, main_cst_3, main_v12, main_v13, main_cst_4, main_v14, main_v15, main_cst_5, main_v16, main_v17, main_v18, main_v19, main_cst_6, main_v20,
    main_v21, main_cst_7, main_v22, main_v23, main_v24, main_v25, main_v26, main_v27, main_v28, main_v29, main_v30, main_v31, main_v32, main_v33, main_v34,
    main_v35, main_v36, main_v37, main_v38, main_v39, main_v40, main_v41, main_v42, main_v43, main_v44, main_v45, main_v46, main_v47, main_cst_8, main_v48,
    main_v49, main_v50, main_v51, main_cst_9, main_v52, main_v53, main_cst_10, main_v54, main_v55, main_v56, main_v57, main_v58, main_v59, main_v60,
    main_v61, main_v62, main_v63, main_v64, main_v65, main_v66, main_v67, main_v68, main_v69, main_v70, main_v71, main_v72, main_v73, main_v74, main_v75,
    main_v76, main_v77, main_v78, main_v79, main_v80, main_v81, main_v82, main_v83, main_cst_11, main_v84, main_v85, main_cst_12, main_v86, main_v87,
    main_v88, main_v89, main_v90, main_cst_13, main_v91, main_v92, main_v93, main_v94, main_v95, main_v96, main_v97, main_v98, main_cst_14, main_v99,
    main_v100, main_v101, main_v102, main_v103, main_v104, main_v105, main_v106, main_v107, main_v108, main_v109, main_v110, main_v111, main_v112,
    main_cst_15, main_v113, main_v114, main_v115, main_v116, main_v117, main_v118, main_v119, main_v120, main_cst_16, main_call0_v0, main_call0_v1,
    main_call0_v2, main_v121, main_cst_17, main_v122, main_v123, main_v124, main_v125, main_v126, main_v127, main_v128, main_v129, main_v130, main_v131,
    main_v132, main_v133, main_v134, main_cst_18, main_v135, main_cst_19, main_v136, main_c, main_v137_0, main_v137_1, main_v137_2, main_v137_3,
    main_v137_4] :=
  ⟨rfl, Lines.pairwise_of_chain (by decide)⟩

variable (V : Valuation τ sig (Elt F))
variable {q : (⟨S1x4112x512, .f32⟩ : BufTy).Contents (Elt F)} {k : (⟨S1x4112x512, .f32⟩ : BufTy).Contents (Elt F)} {v : (⟨S1x4112x512, .f32⟩ : BufTy).Contents (Elt F)}
variable
  (hmain_arg0 : V (Proc.devRef .tc main_arg0) = q)
  (hmain_arg1 : V (Proc.devRef .tc main_arg1) = k)
  (hmain_arg2 : V (Proc.devRef .tc main_arg2) = v)

include hmain_arg0 in
theorem arg0_eq : after ops V (Proc.devRef .tc main_arg0) = q :=
  (ordered.kept V (by decide)).trans hmain_arg0
include hmain_arg1 in
theorem arg1_eq : after ops V (Proc.devRef .tc main_arg1) = k :=
  (ordered.kept V (by decide)).trans hmain_arg1
include hmain_arg2 in
theorem arg2_eq : after ops V (Proc.devRef .tc main_arg2) = v :=
  (ordered.kept V (by decide)).trans hmain_arg2
include hmain_arg0 in
theorem v0_eq : after ops V (Proc.devRef .tc main_v0) = (FwdRefHost.v0 q) :=
  ordered.reshape_eq V (i := 0) rfl (by decide) (arg0_eq V hmain_arg0)
include hmain_arg0 in
theorem v1_eq : after ops V (Proc.devRef .tc main_v1) = (FwdRefHost.v1 q) :=
  ordered.unary_eq V (i := 1) rfl (by decide) (v0_eq V hmain_arg0)
theorem cst_eq : after ops V (Proc.devRef .tc main_cst) = (FwdRefHost.cst (F := F)) :=
  ordered.nullary V (i := 2) rfl
theorem v2_eq : after ops V (Proc.devRef .tc main_v2) = (FwdRefHost.v2 (F := F)) :=
  ordered.unary_eq V (i := 3) rfl (by decide) (cst_eq V)
include hmain_arg0 in
theorem v3_eq : after ops V (Proc.devRef .tc main_v3) = (FwdRefHost.v3 q) :=
  ordered.binary_eq V (i := 4) rfl (by decide) (by decide) (v2_eq V) (v1_eq V hmain_arg0)
include hmain_arg1 in
theorem v5_eq : after ops V (Proc.devRef .tc main_v5) = (FwdRefHost.v0 k) :=
  ordered.reshape_eq V (i := 7) rfl (by decide) (arg1_eq V hmain_arg1)
include hmain_arg1 in
theorem v6_eq : after ops V (Proc.devRef .tc main_v6) = (FwdRefHost.v1 k) :=
  ordered.unary_eq V (i := 8) rfl (by decide) (v5_eq V hmain_arg1)
theorem cst_1_eq : after ops V (Proc.devRef .tc main_cst_1) = (FwdRefHost.cst (F := F)) :=
  ordered.nullary V (i := 9) rfl
theorem v7_eq : after ops V (Proc.devRef .tc main_v7) = (FwdRefHost.v2 (F := F)) :=
  ordered.unary_eq V (i := 10) rfl (by decide) (cst_1_eq V)
include hmain_arg1 in
theorem v8_eq : after ops V (Proc.devRef .tc main_v8) = (FwdRefHost.v3 k) :=
  ordered.binary_eq V (i := 11) rfl (by decide) (by decide) (v7_eq V) (v6_eq V hmain_arg1)
include hmain_arg2 in
theorem v10_eq : after ops V (Proc.devRef .tc main_v10) = (FwdRefHost.v0 v) :=
  ordered.reshape_eq V (i := 14) rfl (by decide) (arg2_eq V hmain_arg2)
include hmain_arg2 in
theorem v11_eq : after ops V (Proc.devRef .tc main_v11) = (FwdRefHost.v1 v) :=
  ordered.unary_eq V (i := 15) rfl (by decide) (v10_eq V hmain_arg2)
theorem cst_3_eq : after ops V (Proc.devRef .tc main_cst_3) = (FwdRefHost.cst (F := F)) :=
  ordered.nullary V (i := 16) rfl
theorem v12_eq : after ops V (Proc.devRef .tc main_v12) = (FwdRefHost.v2 (F := F)) :=
  ordered.unary_eq V (i := 17) rfl (by decide) (cst_3_eq V)
include hmain_arg2 in
theorem v13_eq : after ops V (Proc.devRef .tc main_v13) = (FwdRefHost.v3 v) :=
  ordered.binary_eq V (i := 18) rfl (by decide) (by decide) (v12_eq V) (v11_eq V hmain_arg2)
theorem v15_eq : after ops V (Proc.devRef .tc main_v15) = (FwdRefHost.v12 (F := F)) :=
  ordered.nullary V (i := 21) rfl
theorem cst_5_eq : after ops V (Proc.devRef .tc main_cst_5) = (FwdRefHost.cst_2 (F := F)) :=
  ordered.nullary V (i := 22) rfl
theorem v16_eq : after ops V (Proc.devRef .tc main_v16) = (FwdRefHost.v13 (F := F)) :=
  ordered.unary_eq V (i := 23) rfl (by decide) (cst_5_eq V)
theorem v17_eq : after ops V (Proc.devRef .tc main_v17) = (FwdRefHost.v14 (F := F)) :=
  ordered.binary_eq V (i := 24) rfl (by decide) (by decide) (v15_eq V) (v16_eq V)
theorem v18_eq : after ops V (Proc.devRef .tc main_v18) = (FwdRefHost.v15 (F := F)) :=
  ordered.nullary V (i := 25) rfl
theorem v19_eq : after ops V (Proc.devRef .tc main_v19) = (FwdRefHost.v16 (F := F)) :=
  ordered.unary_eq V (i := 26) rfl (by decide) (v18_eq V)
theorem cst_6_eq : after ops V (Proc.devRef .tc main_cst_6) = (FwdRefHost.cst_3 (F := F)) :=
  ordered.nullary V (i := 27) rfl
theorem v20_eq : after ops V (Proc.devRef .tc main_v20) = (FwdRefHost.v17 (F := F)) :=
  ordered.unary_eq V (i := 28) rfl (by decide) (cst_6_eq V)
theorem v21_eq : after ops V (Proc.devRef .tc main_v21) = (FwdRefHost.v18 (F := F)) :=
  ordered.binary_eq V (i := 29) rfl (by decide) (by decide) (v19_eq V) (v20_eq V)
theorem cst_7_eq : after ops V (Proc.devRef .tc main_cst_7) = (FwdRefHost.cst_4 (F := F)) :=
  ordered.nullary V (i := 30) rfl
theorem v22_eq : after ops V (Proc.devRef .tc main_v22) = (FwdRefHost.v19 (F := F)) :=
  ordered.unary_eq V (i := 31) rfl (by decide) (cst_7_eq V)
theorem v23_eq : after ops V (Proc.devRef .tc main_v23) = (FwdRefHost.v20 (F := F)) :=
  ordered.binary_eq V (i := 32) rfl (by decide) (by decide) (v22_eq V) (v21_eq V)
theorem v24_eq : after ops V (Proc.devRef .tc main_v24) = (FwdRefHost.v21 (F := F)) :=
  ordered.unary_eq V (i := 33) rfl (by decide) (v17_eq V)
theorem v25_eq : after ops V (Proc.devRef .tc main_v25) = (FwdRefHost.v22 (F := F)) :=
  ordered.unary_eq V (i := 34) rfl (by decide) (v23_eq V)
theorem v26_eq : after ops V (Proc.devRef .tc main_v26) = (FwdRefHost.v23 (F := F)) :=
  ordered.unary_eq V (i := 35) rfl (by decide) (v24_eq V)
theorem v27_eq : after ops V (Proc.devRef .tc main_v27) = (FwdRefHost.v24 (F := F)) :=
  ordered.unary_eq V (i := 36) rfl (by decide) (v25_eq V)
theorem v28_eq : after ops V (Proc.devRef .tc main_v28) = (FwdRefHost.v25 (F := F)) :=
  ordered.binary_eq V (i := 37) rfl (by decide) (by decide) (v26_eq V) (v27_eq V)
theorem v29_eq : after ops V (Proc.devRef .tc main_v29) = (FwdRefHost.v26 (F := F)) :=
  ordered.unary_eq V (i := 38) rfl (by decide) (v28_eq V)
theorem v30_eq : after ops V (Proc.devRef .tc main_v30) = (FwdRefHost.v27 (F := F)) :=
  ordered.unary_eq V (i := 39) rfl (by decide) (v28_eq V)
include hmain_arg0 in
theorem v31_eq : after ops V (Proc.devRef .tc main_v31) = (FwdRefHost.v28 q) :=
  ordered.unary_eq V (i := 40) rfl (by decide) (v3_eq V hmain_arg0)
include hmain_arg0 in
theorem v32_eq : after ops V (Proc.devRef .tc main_v32) = (FwdRefHost.v29 q) :=
  ordered.unary_eq V (i := 41) rfl (by decide) (v3_eq V hmain_arg0)
theorem v33_eq : after ops V (Proc.devRef .tc main_v33) = (FwdRefHost.v30 (F := F)) :=
  ordered.unary_eq V (i := 42) rfl (by decide) (v29_eq V)
theorem v34_eq : after ops V (Proc.devRef .tc main_v34) = (FwdRefHost.v31 (F := F)) :=
  ordered.unary_eq V (i := 43) rfl (by decide) (v33_eq V)
include hmain_arg0 in
theorem v35_eq : after ops V (Proc.devRef .tc main_v35) = (FwdRefHost.v32 q) :=
  ordered.binary_eq V (i := 44) rfl (by decide) (by decide) (v31_eq V hmain_arg0) (v34_eq V)
theorem v36_eq : after ops V (Proc.devRef .tc main_v36) = (FwdRefHost.v33 (F := F)) :=
  ordered.unary_eq V (i := 45) rfl (by decide) (v30_eq V)
theorem v37_eq : after ops V (Proc.devRef .tc main_v37) = (FwdRefHost.v34 (F := F)) :=
  ordered.unary_eq V (i := 46) rfl (by decide) (v36_eq V)
include hmain_arg0 in
theorem v38_eq : after ops V (Proc.devRef .tc main_v38) = (FwdRefHost.v35 q) :=
  ordered.binary_eq V (i := 47) rfl (by decide) (by decide) (v32_eq V hmain_arg0) (v37_eq V)
include hmain_arg0 in
theorem v39_eq : after ops V (Proc.devRef .tc main_v39) = (FwdRefHost.v36 q) :=
  ordered.binary_eq V (i := 48) rfl (by decide) (by decide) (v35_eq V hmain_arg0) (v38_eq V hmain_arg0)
theorem v40_eq : after ops V (Proc.devRef .tc main_v40) = (FwdRefHost.v33 (F := F)) :=
  ordered.unary_eq V (i := 49) rfl (by decide) (v30_eq V)
theorem v41_eq : after ops V (Proc.devRef .tc main_v41) = (FwdRefHost.v34 (F := F)) :=
  ordered.unary_eq V (i := 50) rfl (by decide) (v40_eq V)
include hmain_arg0 in
theorem v42_eq : after ops V (Proc.devRef .tc main_v42) = (FwdRefHost.v39 q) :=
  ordered.binary_eq V (i := 51) rfl (by decide) (by decide) (v31_eq V hmain_arg0) (v41_eq V)
theorem v43_eq : after ops V (Proc.devRef .tc main_v43) = (FwdRefHost.v30 (F := F)) :=
  ordered.unary_eq V (i := 52) rfl (by decide) (v29_eq V)
theorem v44_eq : after ops V (Proc.devRef .tc main_v44) = (FwdRefHost.v31 (F := F)) :=
  ordered.unary_eq V (i := 53) rfl (by decide) (v43_eq V)
include hmain_arg0 in
theorem v45_eq : after ops V (Proc.devRef .tc main_v45) = (FwdRefHost.v42 q) :=
  ordered.binary_eq V (i := 54) rfl (by decide) (by decide) (v32_eq V hmain_arg0) (v44_eq V)
include hmain_arg0 in
theorem v46_eq : after ops V (Proc.devRef .tc main_v46) = (FwdRefHost.v43 q) :=
  ordered.binary_eq V (i := 55) rfl (by decide) (by decide) (v42_eq V hmain_arg0) (v45_eq V hmain_arg0)
include hmain_arg0 in
theorem v47_eq : after ops V (Proc.devRef .tc main_v47) = (FwdRefHost.v44 q) :=
  ordered.binary_eq V (i := 56) rfl (by decide) (by decide) (v39_eq V hmain_arg0) (v46_eq V hmain_arg0)
theorem cst_8_eq : after ops V (Proc.devRef .tc main_cst_8) = (FwdRefHost.cst_5 (F := F)) :=
  ordered.nullary V (i := 57) rfl
theorem v48_eq : after ops V (Proc.devRef .tc main_v48) = (FwdRefHost.v45 (F := F)) :=
  ordered.unary_eq V (i := 58) rfl (by decide) (cst_8_eq V)
include hmain_arg0 in
theorem v49_eq : after ops V (Proc.devRef .tc main_v49) = (FwdRefHost.v46 q) :=
  ordered.binary_eq V (i := 59) rfl (by decide) (by decide) (v47_eq V hmain_arg0) (v48_eq V)
theorem v50_eq : after ops V (Proc.devRef .tc main_v50) = (FwdRefHost.v15 (F := F)) :=
  ordered.nullary V (i := 60) rfl
theorem v51_eq : after ops V (Proc.devRef .tc main_v51) = (FwdRefHost.v16 (F := F)) :=
  ordered.unary_eq V (i := 61) rfl (by decide) (v50_eq V)
theorem cst_9_eq : after ops V (Proc.devRef .tc main_cst_9) = (FwdRefHost.cst_3 (F := F)) :=
  ordered.nullary V (i := 62) rfl
theorem v52_eq : after ops V (Proc.devRef .tc main_v52) = (FwdRefHost.v17 (F := F)) :=
  ordered.unary_eq V (i := 63) rfl (by decide) (cst_9_eq V)
theorem v53_eq : after ops V (Proc.devRef .tc main_v53) = (FwdRefHost.v18 (F := F)) :=
  ordered.binary_eq V (i := 64) rfl (by decide) (by decide) (v51_eq V) (v52_eq V)
theorem cst_10_eq : after ops V (Proc.devRef .tc main_cst_10) = (FwdRefHost.cst_4 (F := F)) :=
  ordered.nullary V (i := 65) rfl
theorem v54_eq : after ops V (Proc.devRef .tc main_v54) = (FwdRefHost.v19 (F := F)) :=
  ordered.unary_eq V (i := 66) rfl (by decide) (cst_10_eq V)
theorem v55_eq : after ops V (Proc.devRef .tc main_v55) = (FwdRefHost.v20 (F := F)) :=
  ordered.binary_eq V (i := 67) rfl (by decide) (by decide) (v54_eq V) (v53_eq V)
theorem v56_eq : after ops V (Proc.devRef .tc main_v56) = (FwdRefHost.v21 (F := F)) :=
  ordered.unary_eq V (i := 68) rfl (by decide) (v17_eq V)
theorem v57_eq : after ops V (Proc.devRef .tc main_v57) = (FwdRefHost.v22 (F := F)) :=
  ordered.unary_eq V (i := 69) rfl (by decide) (v55_eq V)
theorem v58_eq : after ops V (Proc.devRef .tc main_v58) = (FwdRefHost.v23 (F := F)) :=
  ordered.unary_eq V (i := 70) rfl (by decide) (v56_eq V)
theorem v59_eq : after ops V (Proc.devRef .tc main_v59) = (FwdRefHost.v24 (F := F)) :=
  ordered.unary_eq V (i := 71) rfl (by decide) (v57_eq V)
theorem v60_eq : after ops V (Proc.devRef .tc main_v60) = (FwdRefHost.v25 (F := F)) :=
  ordered.binary_eq V (i := 72) rfl (by decide) (by decide) (v58_eq V) (v59_eq V)
theorem v61_eq : after ops V (Proc.devRef .tc main_v61) = (FwdRefHost.v26 (F := F)) :=
  ordered.unary_eq V (i := 73) rfl (by decide) (v60_eq V)
theorem v62_eq : after ops V (Proc.devRef .tc main_v62) = (FwdRefHost.v27 (F := F)) :=
  ordered.unary_eq V (i := 74) rfl (by decide) (v60_eq V)
include hmain_arg1 in
theorem v63_eq : after ops V (Proc.devRef .tc main_v63) = (FwdRefHost.v28 k) :=
  ordered.unary_eq V (i := 75) rfl (by decide) (v8_eq V hmain_arg1)
include hmain_arg1 in
theorem v64_eq : after ops V (Proc.devRef .tc main_v64) = (FwdRefHost.v29 k) :=
  ordered.unary_eq V (i := 76) rfl (by decide) (v8_eq V hmain_arg1)
theorem v65_eq : after ops V (Proc.devRef .tc main_v65) = (FwdRefHost.v30 (F := F)) :=
  ordered.unary_eq V (i := 77) rfl (by decide) (v61_eq V)
theorem v66_eq : after ops V (Proc.devRef .tc main_v66) = (FwdRefHost.v31 (F := F)) :=
  ordered.unary_eq V (i := 78) rfl (by decide) (v65_eq V)
include hmain_arg1 in
theorem v67_eq : after ops V (Proc.devRef .tc main_v67) = (FwdRefHost.v32 k) :=
  ordered.binary_eq V (i := 79) rfl (by decide) (by decide) (v63_eq V hmain_arg1) (v66_eq V)
theorem v68_eq : after ops V (Proc.devRef .tc main_v68) = (FwdRefHost.v33 (F := F)) :=
  ordered.unary_eq V (i := 80) rfl (by decide) (v62_eq V)
theorem v69_eq : after ops V (Proc.devRef .tc main_v69) = (FwdRefHost.v34 (F := F)) :=
  ordered.unary_eq V (i := 81) rfl (by decide) (v68_eq V)
include hmain_arg1 in
theorem v70_eq : after ops V (Proc.devRef .tc main_v70) = (FwdRefHost.v35 k) :=
  ordered.binary_eq V (i := 82) rfl (by decide) (by decide) (v64_eq V hmain_arg1) (v69_eq V)
include hmain_arg1 in
theorem v71_eq : after ops V (Proc.devRef .tc main_v71) = (FwdRefHost.v36 k) :=
  ordered.binary_eq V (i := 83) rfl (by decide) (by decide) (v67_eq V hmain_arg1) (v70_eq V hmain_arg1)
theorem v72_eq : after ops V (Proc.devRef .tc main_v72) = (FwdRefHost.v33 (F := F)) :=
  ordered.unary_eq V (i := 84) rfl (by decide) (v62_eq V)
theorem v73_eq : after ops V (Proc.devRef .tc main_v73) = (FwdRefHost.v34 (F := F)) :=
  ordered.unary_eq V (i := 85) rfl (by decide) (v72_eq V)
include hmain_arg1 in
theorem v74_eq : after ops V (Proc.devRef .tc main_v74) = (FwdRefHost.v39 k) :=
  ordered.binary_eq V (i := 86) rfl (by decide) (by decide) (v63_eq V hmain_arg1) (v73_eq V)
theorem v75_eq : after ops V (Proc.devRef .tc main_v75) = (FwdRefHost.v30 (F := F)) :=
  ordered.unary_eq V (i := 87) rfl (by decide) (v61_eq V)
theorem v76_eq : after ops V (Proc.devRef .tc main_v76) = (FwdRefHost.v31 (F := F)) :=
  ordered.unary_eq V (i := 88) rfl (by decide) (v75_eq V)
include hmain_arg1 in
theorem v77_eq : after ops V (Proc.devRef .tc main_v77) = (FwdRefHost.v42 k) :=
  ordered.binary_eq V (i := 89) rfl (by decide) (by decide) (v64_eq V hmain_arg1) (v76_eq V)
include hmain_arg1 in
theorem v78_eq : after ops V (Proc.devRef .tc main_v78) = (FwdRefHost.v43 k) :=
  ordered.binary_eq V (i := 90) rfl (by decide) (by decide) (v74_eq V hmain_arg1) (v77_eq V hmain_arg1)
include hmain_arg1 in
theorem v79_eq : after ops V (Proc.devRef .tc main_v79) = (FwdRefHost.v44 k) :=
  ordered.binary_eq V (i := 91) rfl (by decide) (by decide) (v71_eq V hmain_arg1) (v78_eq V hmain_arg1)
include hmain_arg0 in
theorem v80_eq : after ops V (Proc.devRef .tc main_v80) = (FwdRefHost.v77 q) :=
  ordered.reshape_eq V (i := 92) rfl (by decide) (v49_eq V hmain_arg0)
include hmain_arg1 in
theorem v81_eq : after ops V (Proc.devRef .tc main_v81) = (FwdRefHost.v78 k) :=
  ordered.reshape_eq V (i := 93) rfl (by decide) (v79_eq V hmain_arg1)
include hmain_arg2 in
theorem v82_eq : after ops V (Proc.devRef .tc main_v82) = (FwdRefHost.v79 v) :=
  ordered.reshape_eq V (i := 94) rfl (by decide) (v13_eq V hmain_arg2)
theorem v83_eq : after ops V (Proc.devRef .tc main_v83) = (FwdRefHost.v80 (F := F)) :=
  ordered.nullary V (i := 95) rfl
theorem cst_11_eq : after ops V (Proc.devRef .tc main_cst_11) = (FwdRefHost.cst_8 (F := F)) :=
  ordered.nullary V (i := 96) rfl
theorem v84_eq : after ops V (Proc.devRef .tc main_v84) = (FwdRefHost.v81 (F := F)) :=
  ordered.unary_eq V (i := 97) rfl (by decide) (cst_11_eq V)
theorem v85_eq : after ops V (Proc.devRef .tc main_v85) = (FwdRefHost.v82 (F := F)) :=
  ordered.binary_eq V (i := 98) rfl (by decide) (by decide) (v84_eq V) (v83_eq V)
theorem cst_12_eq : after ops V (Proc.devRef .tc main_cst_12) = (FwdRefHost.cst_9 (F := F)) :=
  ordered.nullary V (i := 99) rfl
theorem v86_eq : after ops V (Proc.devRef .tc main_v86) = (FwdRefHost.v83 (F := F)) :=
  ordered.unary_eq V (i := 100) rfl (by decide) (cst_12_eq V)
theorem v87_eq : after ops V (Proc.devRef .tc main_v87) = (FwdRefHost.v84 (F := F)) :=
  ordered.binary_eq V (i := 101) rfl (by decide) (by decide) (v86_eq V) (v85_eq V)
theorem v88_eq : after ops V (Proc.devRef .tc main_v88) = (FwdRefHost.v85 (F := F)) :=
  ordered.unary_eq V (i := 102) rfl (by decide) (v87_eq V)
theorem v89_eq : after ops V (Proc.devRef .tc main_v89) = (FwdRefHost.v86 (F := F)) :=
  ordered.unary_eq V (i := 103) rfl (by decide) (v88_eq V)
theorem v90_eq : after ops V (Proc.devRef .tc main_v90) = (FwdRefHost.v87 (F := F)) :=
  ordered.nullary V (i := 104) rfl
theorem cst_13_eq : after ops V (Proc.devRef .tc main_cst_13) = (FwdRefHost.cst_10 (F := F)) :=
  ordered.nullary V (i := 105) rfl
theorem v91_eq : after ops V (Proc.devRef .tc main_v91) = (FwdRefHost.v88 (F := F)) :=
  ordered.unary_eq V (i := 106) rfl (by decide) (cst_13_eq V)
theorem v92_eq : after ops V (Proc.devRef .tc main_v92) = (FwdRefHost.v89 (F := F)) :=
  ordered.binary_eq V (i := 107) rfl (by decide) (by decide) (v91_eq V) (v90_eq V)
theorem v93_eq : after ops V (Proc.devRef .tc main_v93) = (FwdRefHost.v90 (F := F)) :=
  ordered.unary_eq V (i := 108) rfl (by decide) (v92_eq V)
theorem v94_eq : after ops V (Proc.devRef .tc main_v94) = (FwdRefHost.v91 (F := F)) :=
  ordered.unary_eq V (i := 109) rfl (by decide) (v89_eq V)
theorem v95_eq : after ops V (Proc.devRef .tc main_v95) = (FwdRefHost.v92 (F := F)) :=
  ordered.unary_eq V (i := 110) rfl (by decide) (v93_eq V)
theorem v96_eq : after ops V (Proc.devRef .tc main_v96) = (FwdRefHost.v93 (F := F)) :=
  ordered.unary_eq V (i := 111) rfl (by decide) (v94_eq V)
theorem v97_eq : after ops V (Proc.devRef .tc main_v97) = (FwdRefHost.v94 (F := F)) :=
  ordered.binary_eq V (i := 112) rfl (by decide) (by decide) (v95_eq V) (v96_eq V)
theorem v98_eq : after ops V (Proc.devRef .tc main_v98) = (FwdRefHost.v95 (F := F)) :=
  ordered.unary_eq V (i := 113) rfl (by decide) (v97_eq V)
theorem cst_14_eq : after ops V (Proc.devRef .tc main_cst_14) = (FwdRefHost.cst_11 (F := F)) :=
  ordered.nullary V (i := 114) rfl
theorem v99_eq : after ops V (Proc.devRef .tc main_v99) = (FwdRefHost.v96 (F := F)) :=
  ordered.unary_eq V (i := 115) rfl (by decide) (cst_14_eq V)
theorem v100_eq : after ops V (Proc.devRef .tc main_v100) = (FwdRefHost.v97 (F := F)) :=
  ordered.binary_eq V (i := 116) rfl (by decide) (by decide) (v99_eq V) (v89_eq V)
theorem v101_eq : after ops V (Proc.devRef .tc main_v101) = (FwdRefHost.v98 (F := F)) :=
  ordered.unary_eq V (i := 117) rfl (by decide) (v100_eq V)
theorem v102_eq : after ops V (Proc.devRef .tc main_v102) = (FwdRefHost.v99 (F := F)) :=
  ordered.unary_eq V (i := 118) rfl (by decide) (v98_eq V)
theorem v103_eq : after ops V (Proc.devRef .tc main_v103) = (FwdRefHost.v100 (F := F)) :=
  ordered.unary_eq V (i := 119) rfl (by decide) (v102_eq V)
include hmain_arg1 in
theorem v104_eq : after ops V (Proc.devRef .tc main_v104) = (FwdRefHost.v101 k) :=
  ordered.binary_eq V (i := 120) rfl (by decide) (by decide) (v81_eq V hmain_arg1) (v103_eq V)
include hmain_arg1 hmain_arg2 in
theorem v105_eq : after ops V (Proc.devRef .tc main_v105) = (FwdRefHost.v102 k v) :=
  ordered.binary_eq V (i := 121) rfl (by decide) (by decide) (v104_eq V hmain_arg1) (v82_eq V hmain_arg2)
theorem v106_eq : after ops V (Proc.devRef .tc main_v106) = (FwdRefHost.v103 (F := F)) :=
  ordered.unary_eq V (i := 122) rfl (by decide) (v101_eq V)
theorem v107_eq : after ops V (Proc.devRef .tc main_v107) = (FwdRefHost.v104 (F := F)) :=
  ordered.unary_eq V (i := 123) rfl (by decide) (v90_eq V)
theorem v108_eq : after ops V (Proc.devRef .tc main_v108) = (FwdRefHost.v105 (F := F)) :=
  ordered.unary_eq V (i := 124) rfl (by decide) (v90_eq V)
theorem v109_eq : after ops V (Proc.devRef .tc main_v109) = (FwdRefHost.v106 (F := F)) :=
  ordered.unary_eq V (i := 125) rfl (by decide) (v107_eq V)
theorem v110_eq : after ops V (Proc.devRef .tc main_v110) = (FwdRefHost.v107 (F := F)) :=
  ordered.unary_eq V (i := 126) rfl (by decide) (v108_eq V)
theorem v111_eq : after ops V (Proc.devRef .tc main_v111) = (FwdRefHost.v108 (F := F)) :=
  ordered.binary_eq V (i := 127) rfl (by decide) (by decide) (v109_eq V) (v110_eq V)
theorem v112_eq : after ops V (Proc.devRef .tc main_v112) = (FwdRefHost.v109 (F := F)) :=
  ordered.unary_eq V (i := 128) rfl (by decide) (v111_eq V)
theorem cst_15_eq : after ops V (Proc.devRef .tc main_cst_15) = (FwdRefHost.cst (F := F)) :=
  ordered.nullary V (i := 129) rfl
theorem v113_eq : after ops V (Proc.devRef .tc main_v113) = (FwdRefHost.v110 (F := F)) :=
  ordered.unary_eq V (i := 130) rfl (by decide) (cst_15_eq V)
theorem v114_eq : after ops V (Proc.devRef .tc main_v114) = (FwdRefHost.v111 (F := F)) :=
  ordered.binary_eq V (i := 131) rfl (by decide) (by decide) (v112_eq V) (v113_eq V)
theorem v115_eq : after ops V (Proc.devRef .tc main_v115) = (FwdRefHost.v109 (F := F)) :=
  ordered.unary_eq V (i := 132) rfl (by decide) (v111_eq V)
theorem v116_eq : after ops V (Proc.devRef .tc main_v116) = (FwdRefHost.v113 (F := F)) :=
  ordered.unary_eq V (i := 133) rfl (by decide) (v89_eq V)
theorem v117_eq : after ops V (Proc.devRef .tc main_v117) = (FwdRefHost.v114 (F := F)) :=
  ordered.unary_eq V (i := 134) rfl (by decide) (v115_eq V)
theorem v118_eq : after ops V (Proc.devRef .tc main_v118) = (FwdRefHost.v115 (F := F)) :=
  ordered.unary_eq V (i := 135) rfl (by decide) (v116_eq V)
theorem v119_eq : after ops V (Proc.devRef .tc main_v119) = (FwdRefHost.v116 (F := F)) :=
  ordered.binary_eq V (i := 136) rfl (by decide) (by decide) (v117_eq V) (v118_eq V)
theorem v120_eq : after ops V (Proc.devRef .tc main_v120) = (FwdRefHost.v117 (F := F)) :=
  ordered.unary_eq V (i := 137) rfl (by decide) (v119_eq V)
theorem cst_16_eq : after ops V (Proc.devRef .tc main_cst_16) = (FwdRefHost.cst (F := F)) :=
  ordered.nullary V (i := 138) rfl
theorem call0_v0_eq : after ops V (Proc.devRef .tc main_call0_v0) = (FwdRefHost.cst (F := F)) :=
  ordered.unary_eq V (i := 139) rfl (by decide) (cst_16_eq V)
theorem call0_v1_eq : after ops V (Proc.devRef .tc main_call0_v1) = (FwdRefHost.call0_v1 (F := F)) :=
  ordered.unary_eq V (i := 140) rfl (by decide) (v114_eq V)
theorem call0_v2_eq : after ops V (Proc.devRef .tc main_call0_v2) = (FwdRefHost.call0_v2 (F := F)) :=
  ordered.unary_eq V (i := 141) rfl (by decide) (call0_v0_eq V)
theorem v121_eq : after ops V (Proc.devRef .tc main_v121) = (FwdRefHost.v118 (F := F)) :=
  ordered.ternary_eq V (i := 142) rfl (by decide) (by decide) (by decide) (call0_v1_eq V) (v120_eq V) (call0_v2_eq V)
theorem cst_17_eq : after ops V (Proc.devRef .tc main_cst_17) = (FwdRefHost.cst_14 (F := F)) :=
  ordered.nullary V (i := 143) rfl
theorem v122_eq : after ops V (Proc.devRef .tc main_v122) = (FwdRefHost.v119 (F := F)) :=
  ordered.unary_eq V (i := 144) rfl (by decide) (cst_17_eq V)
theorem v123_eq : after ops V (Proc.devRef .tc main_v123) = (FwdRefHost.v120 (F := F)) :=
  ordered.binary_eq V (i := 145) rfl (by decide) (by decide) (v90_eq V) (v122_eq V)
theorem v124_eq : after ops V (Proc.devRef .tc main_v124) = (FwdRefHost.v121 (F := F)) :=
  ordered.unary_eq V (i := 146) rfl (by decide) (v123_eq V)
theorem v125_eq : after ops V (Proc.devRef .tc main_v125) = (FwdRefHost.v91 (F := F)) :=
  ordered.unary_eq V (i := 147) rfl (by decide) (v89_eq V)
theorem v126_eq : after ops V (Proc.devRef .tc main_v126) = (FwdRefHost.v123 (F := F)) :=
  ordered.unary_eq V (i := 148) rfl (by decide) (v124_eq V)
theorem v127_eq : after ops V (Proc.devRef .tc main_v127) = (FwdRefHost.v93 (F := F)) :=
  ordered.unary_eq V (i := 149) rfl (by decide) (v125_eq V)
theorem v128_eq : after ops V (Proc.devRef .tc main_v128) = (FwdRefHost.v125 (F := F)) :=
  ordered.binary_eq V (i := 150) rfl (by decide) (by decide) (v126_eq V) (v127_eq V)
theorem v129_eq : after ops V (Proc.devRef .tc main_v129) = (FwdRefHost.v126 (F := F)) :=
  ordered.unary_eq V (i := 151) rfl (by decide) (v128_eq V)
include hmain_arg0 hmain_arg1 in
theorem v130_eq : after ops V (Proc.devRef .tc main_v130) = (FwdRefHost.v127 q k) :=
  ordered.binary_eq V (i := 152) rfl (by decide) (by decide) (v80_eq V hmain_arg0) (v81_eq V hmain_arg1)
theorem v131_eq : after ops V (Proc.devRef .tc main_v131) = (FwdRefHost.v128 (F := F)) :=
  ordered.unary_eq V (i := 153) rfl (by decide) (v121_eq V)
theorem v132_eq : after ops V (Proc.devRef .tc main_v132) = (FwdRefHost.v129 (F := F)) :=
  ordered.unary_eq V (i := 154) rfl (by decide) (v131_eq V)
include hmain_arg0 hmain_arg1 in
theorem v133_eq : after ops V (Proc.devRef .tc main_v133) = (FwdRefHost.v130 q k) :=
  ordered.binary_eq V (i := 155) rfl (by decide) (by decide) (v130_eq V hmain_arg0 hmain_arg1) (v132_eq V)
theorem cst_18_eq : after ops V (Proc.devRef .tc main_cst_18) = (FwdRefHost.cst (F := F)) :=
  ordered.nullary V (i := 157) rfl
theorem v135_eq : after ops V (Proc.devRef .tc main_v135) = (FwdRefHost.v132 (F := F)) :=
  ordered.unary_eq V (i := 158) rfl (by decide) (cst_18_eq V)
theorem cst_19_eq : after ops V (Proc.devRef .tc main_cst_19) = (FwdRefHost.cst (F := F)) :=
  ordered.nullary V (i := 159) rfl
theorem v136_eq : after ops V (Proc.devRef .tc main_v136) = (FwdRefHost.v133 (F := F)) :=
  ordered.unary_eq V (i := 160) rfl (by decide) (cst_19_eq V)
include hmain_arg1 hmain_arg2 in
theorem v137_0_eq : after ops V (Proc.devRef .tc main_v137_0) = (FwdRefHost.v102 k v) :=
  ordered.unary_eq V (i := 162) rfl (by decide) (v105_eq V hmain_arg1 hmain_arg2)
theorem v137_1_eq : after ops V (Proc.devRef .tc main_v137_1) = (FwdRefHost.v103 (F := F)) :=
  ordered.unary_eq V (i := 163) rfl (by decide) (v106_eq V)
theorem v137_3_eq : after ops V (Proc.devRef .tc main_v137_3) = (FwdRefHost.v132 (F := F)) :=
  ordered.unary_eq V (i := 165) rfl (by decide) (v135_eq V)
theorem v137_4_eq : after ops V (Proc.devRef .tc main_v137_4) = (FwdRefHost.v133 (F := F)) :=
  ordered.unary_eq V (i := 166) rfl (by decide) (v136_eq V)

end Pre

namespace Mid

/-- The operations between the loops. -/
abbrev ops : List (HloOp τ sig (Elt F)) := [main_part2_ops3, main_part3_ops0].flatten

/-- The operations between the loops write these buffers in order. -/
theorem ordered : Lines.Ordered (τ := τ) (sig := sig) (ops (F := F))
    [main_v138, main_v139, main_v140, main_v141, main_v142, main_v143, main_v144, main_v145, main_v146, main_cst_20, main_v147, main_v148, main_v149,
    main_cst_21, main_v150, main_v151, main_v152, main_v153, main_v154, main_v155, main_v156, main_cst_22, main_v157, main_cst_23, main_v158, main_c_24,
    main_v159_0, main_v159_1, main_v159_2, main_v159_3, main_v159_4] :=
  ⟨rfl, Lines.pairwise_of_chain (by decide)⟩

variable (V : Valuation τ sig (Elt F))
variable {q : (⟨S1x4112x512, .f32⟩ : BufTy).Contents (Elt F)} {ct : (⟨S1x4112x512, .f32⟩ : BufTy).Contents (Elt F)} {sp : (⟨S33x1x4x128x128, .f32⟩ : BufTy).Contents (Elt F)}
variable
  (hmain_arg3 : V (Proc.devRef .tc main_arg3) = ct)
  (hmain_v80 : V (Proc.devRef .tc main_v80) = (FwdRefHost.v77 q))
  (hmain_v106 : V (Proc.devRef .tc main_v106) = (FwdRefHost.v103 (F := F)))
  (hmain_v129 : V (Proc.devRef .tc main_v129) = (FwdRefHost.v126 (F := F)))
  (hmain_v137_4 : V (Proc.devRef .tc main_v137_4) = sp)

include hmain_arg3 in
theorem arg3_eq : after ops V (Proc.devRef .tc main_arg3) = ct :=
  (ordered.kept V (by decide)).trans hmain_arg3
include hmain_v80 in
theorem v80_eq : after ops V (Proc.devRef .tc main_v80) = (FwdRefHost.v77 q) :=
  (ordered.kept V (by decide)).trans hmain_v80
include hmain_v106 in
theorem v106_eq : after ops V (Proc.devRef .tc main_v106) = (FwdRefHost.v103 (F := F)) :=
  (ordered.kept V (by decide)).trans hmain_v106
include hmain_v129 in
theorem v129_eq : after ops V (Proc.devRef .tc main_v129) = (FwdRefHost.v126 (F := F)) :=
  (ordered.kept V (by decide)).trans hmain_v129
include hmain_v137_4 in
theorem v137_4_eq : after ops V (Proc.devRef .tc main_v137_4) = sp :=
  (ordered.kept V (by decide)).trans hmain_v137_4
include hmain_v129 in
theorem v138_eq : after ops V (Proc.devRef .tc main_v138) = (FwdRefHost.v135 (F := F)) :=
  ordered.unary_eq V (i := 0) rfl (by decide) (v129_eq V hmain_v129)
include hmain_v129 in
theorem v139_eq : after ops V (Proc.devRef .tc main_v139) = (FwdRefHost.v136 (F := F)) :=
  ordered.unary_eq V (i := 1) rfl (by decide) (v138_eq V hmain_v129)
include hmain_v80 hmain_v129 in
theorem v140_eq : after ops V (Proc.devRef .tc main_v140) = (FwdRefHost.v137 q) :=
  ordered.binary_eq V (i := 2) rfl (by decide) (by decide) (v80_eq V hmain_v80) (v139_eq V hmain_v129)
include hmain_arg3 in
theorem v148_eq : after ops V (Proc.devRef .tc main_v148) = (FwdRefHost.v0 ct) :=
  ordered.reshape_eq V (i := 11) rfl (by decide) (arg3_eq V hmain_arg3)
include hmain_arg3 in
theorem v149_eq : after ops V (Proc.devRef .tc main_v149) = (FwdRefHost.v1 ct) :=
  ordered.unary_eq V (i := 12) rfl (by decide) (v148_eq V hmain_arg3)
theorem cst_21_eq : after ops V (Proc.devRef .tc main_cst_21) = (FwdRefHost.cst (F := F)) :=
  ordered.nullary V (i := 13) rfl
include hmain_arg3 in
theorem v150_eq : after ops V (Proc.devRef .tc main_v150) = (v150 ct) :=
  ordered.binary_eq V (i := 14) rfl (by decide) (by decide) (v149_eq V hmain_arg3) (cst_21_eq V)
include hmain_arg3 in
theorem v151_eq : after ops V (Proc.devRef .tc main_v151) = (v151 ct) :=
  ordered.reshape_eq V (i := 15) rfl (by decide) (v150_eq V hmain_arg3)
include hmain_arg3 hmain_v80 hmain_v129 in
theorem v152_eq : after ops V (Proc.devRef .tc main_v152) = (v152 ct q) :=
  ordered.binary_eq V (i := 16) rfl (by decide) (by decide) (v151_eq V hmain_arg3) (v140_eq V hmain_v80 hmain_v129)
include hmain_arg3 hmain_v80 hmain_v129 in
theorem v153_eq : after ops V (Proc.devRef .tc main_v153) = (v153 ct q) :=
  ordered.unary_eq V (i := 17) rfl (by decide) (v152_eq V hmain_arg3 hmain_v80 hmain_v129)
include hmain_arg3 hmain_v137_4 in
theorem v154_eq : after ops V (Proc.devRef .tc main_v154) = (v154 ct sp) :=
  ordered.binary_eq V (i := 18) rfl (by decide) (by decide) (v151_eq V hmain_arg3) (v137_4_eq V hmain_v137_4)
include hmain_v129 in
theorem v155_eq : after ops V (Proc.devRef .tc main_v155) = (FwdRefHost.v136 (F := F)) :=
  ordered.unary_eq V (i := 19) rfl (by decide) (v138_eq V hmain_v129)
include hmain_arg3 hmain_v129 hmain_v137_4 in
theorem v156_eq : after ops V (Proc.devRef .tc main_v156) = (v156 ct sp) :=
  ordered.binary_eq V (i := 20) rfl (by decide) (by decide) (v154_eq V hmain_arg3 hmain_v137_4) (v155_eq V hmain_v129)
theorem cst_22_eq : after ops V (Proc.devRef .tc main_cst_22) = (FwdRefHost.cst (F := F)) :=
  ordered.nullary V (i := 21) rfl
theorem v157_eq : after ops V (Proc.devRef .tc main_v157) = (FwdRefHost.v132 (F := F)) :=
  ordered.unary_eq V (i := 22) rfl (by decide) (cst_22_eq V)
theorem cst_23_eq : after ops V (Proc.devRef .tc main_cst_23) = (FwdRefHost.cst (F := F)) :=
  ordered.nullary V (i := 23) rfl
theorem v158_eq : after ops V (Proc.devRef .tc main_v158) = (FwdRefHost.v133 (F := F)) :=
  ordered.unary_eq V (i := 24) rfl (by decide) (cst_23_eq V)
include hmain_arg3 hmain_v80 hmain_v129 in
theorem v159_0_eq : after ops V (Proc.devRef .tc main_v159_0) = (v153 ct q) :=
  ordered.unary_eq V (i := 26) rfl (by decide) (v153_eq V hmain_arg3 hmain_v80 hmain_v129)
include hmain_v106 in
theorem v159_1_eq : after ops V (Proc.devRef .tc main_v159_1) = (FwdRefHost.v103 (F := F)) :=
  ordered.unary_eq V (i := 27) rfl (by decide) (v106_eq V hmain_v106)
theorem v159_3_eq : after ops V (Proc.devRef .tc main_v159_3) = (FwdRefHost.v132 (F := F)) :=
  ordered.unary_eq V (i := 29) rfl (by decide) (v157_eq V)
theorem v159_4_eq : after ops V (Proc.devRef .tc main_v159_4) = (FwdRefHost.v133 (F := F)) :=
  ordered.unary_eq V (i := 30) rfl (by decide) (v158_eq V)

end Mid

namespace Post

/-- The operations after the second loop. -/
abbrev ops : List (HloOp τ sig (Elt F)) := [main_part3_ops1, main_part4_ops0].flatten

/-- The operations after the second loop write these buffers in order. -/
theorem ordered : Lines.Ordered (τ := τ) (sig := sig) (ops (F := F))
    [main_v160, main_v161, main_v162, main_v163, main_v164, main_v165, main_v166, main_v167, main_v168, main_v169, main_v170, main_v171, main_v172,
    main_v173, main_v174, main_v175, main_v176, main_v177, main_v178, main_v179, main_v180, main_v181, main_v182, main_v183, main_v184, main_v185,
    main_v186, main_v187, main_v188, main_v189, main_v190, main_v191, main_cst_25, main_v192, main_cst_26, main_v193, main_v194, main_cst_27, main_v195,
    main_v196, main_v197, main_v198, main_v199, main_v200, main_v201, main_v202, main_v203, main_v204, main_v205, main_v206, main_v207, main_v208,
    main_v209, main_cst_28, main_v210, main_cst_29, main_v211, main_v212, main_v213, main_v214, main_v215, main_v216, main_v217, main_v218, main_v219,
    main_v220, main_v221, main_v222, main_v223, main_v224, main_cst_30, main_v225, main_v226, main_v227, main_v228, main_cst_31, main_v229, main_v230,
    main_v231, main_v232, main_cst_32, main_v233, main_v234, main_v235, main_v236] :=
  ⟨rfl, Lines.pairwise_of_chain (by decide)⟩

variable (V : Valuation τ sig (Elt F))
variable {q : (⟨S1x4112x512, .f32⟩ : BufTy).Contents (Elt F)} {k : (⟨S1x4112x512, .f32⟩ : BufTy).Contents (Elt F)} {v : (⟨S1x4112x512, .f32⟩ : BufTy).Contents (Elt F)} {ct : (⟨S1x4112x512, .f32⟩ : BufTy).Contents (Elt F)} {sp : (⟨S33x1x4x128x128, .f32⟩ : BufTy).Contents (Elt F)} {gp : (⟨S33x1x4x128x128, .f32⟩ : BufTy).Contents (Elt F)}
variable
  (hmain_v33 : V (Proc.devRef .tc main_v33) = (FwdRefHost.v30 (F := F)))
  (hmain_v36 : V (Proc.devRef .tc main_v36) = (FwdRefHost.v33 (F := F)))
  (hmain_v40 : V (Proc.devRef .tc main_v40) = (FwdRefHost.v33 (F := F)))
  (hmain_v43 : V (Proc.devRef .tc main_v43) = (FwdRefHost.v30 (F := F)))
  (hmain_v65 : V (Proc.devRef .tc main_v65) = (FwdRefHost.v30 (F := F)))
  (hmain_v68 : V (Proc.devRef .tc main_v68) = (FwdRefHost.v33 (F := F)))
  (hmain_v72 : V (Proc.devRef .tc main_v72) = (FwdRefHost.v33 (F := F)))
  (hmain_v75 : V (Proc.devRef .tc main_v75) = (FwdRefHost.v30 (F := F)))
  (hmain_v80 : V (Proc.devRef .tc main_v80) = (FwdRefHost.v77 q))
  (hmain_v81 : V (Proc.devRef .tc main_v81) = (FwdRefHost.v78 k))
  (hmain_v82 : V (Proc.devRef .tc main_v82) = (FwdRefHost.v79 v))
  (hmain_v102 : V (Proc.devRef .tc main_v102) = (FwdRefHost.v99 (F := F)))
  (hmain_v104 : V (Proc.devRef .tc main_v104) = (FwdRefHost.v101 k))
  (hmain_v131 : V (Proc.devRef .tc main_v131) = (FwdRefHost.v128 (F := F)))
  (hmain_v133 : V (Proc.devRef .tc main_v133) = (FwdRefHost.v130 q k))
  (hmain_v151 : V (Proc.devRef .tc main_v151) = (v151 ct))
  (hmain_v156 : V (Proc.devRef .tc main_v156) = (v156 ct sp))
  (hmain_v159_4 : V (Proc.devRef .tc main_v159_4) = gp)

include hmain_v33 in
theorem v33_eq : after ops V (Proc.devRef .tc main_v33) = (FwdRefHost.v30 (F := F)) :=
  (ordered.kept V (by decide)).trans hmain_v33
include hmain_v36 in
theorem v36_eq : after ops V (Proc.devRef .tc main_v36) = (FwdRefHost.v33 (F := F)) :=
  (ordered.kept V (by decide)).trans hmain_v36
include hmain_v40 in
theorem v40_eq : after ops V (Proc.devRef .tc main_v40) = (FwdRefHost.v33 (F := F)) :=
  (ordered.kept V (by decide)).trans hmain_v40
include hmain_v43 in
theorem v43_eq : after ops V (Proc.devRef .tc main_v43) = (FwdRefHost.v30 (F := F)) :=
  (ordered.kept V (by decide)).trans hmain_v43
include hmain_v65 in
theorem v65_eq : after ops V (Proc.devRef .tc main_v65) = (FwdRefHost.v30 (F := F)) :=
  (ordered.kept V (by decide)).trans hmain_v65
include hmain_v68 in
theorem v68_eq : after ops V (Proc.devRef .tc main_v68) = (FwdRefHost.v33 (F := F)) :=
  (ordered.kept V (by decide)).trans hmain_v68
include hmain_v72 in
theorem v72_eq : after ops V (Proc.devRef .tc main_v72) = (FwdRefHost.v33 (F := F)) :=
  (ordered.kept V (by decide)).trans hmain_v72
include hmain_v75 in
theorem v75_eq : after ops V (Proc.devRef .tc main_v75) = (FwdRefHost.v30 (F := F)) :=
  (ordered.kept V (by decide)).trans hmain_v75
include hmain_v80 in
theorem v80_eq : after ops V (Proc.devRef .tc main_v80) = (FwdRefHost.v77 q) :=
  (ordered.kept V (by decide)).trans hmain_v80
include hmain_v81 in
theorem v81_eq : after ops V (Proc.devRef .tc main_v81) = (FwdRefHost.v78 k) :=
  (ordered.kept V (by decide)).trans hmain_v81
include hmain_v82 in
theorem v82_eq : after ops V (Proc.devRef .tc main_v82) = (FwdRefHost.v79 v) :=
  (ordered.kept V (by decide)).trans hmain_v82
include hmain_v102 in
theorem v102_eq : after ops V (Proc.devRef .tc main_v102) = (FwdRefHost.v99 (F := F)) :=
  (ordered.kept V (by decide)).trans hmain_v102
include hmain_v104 in
theorem v104_eq : after ops V (Proc.devRef .tc main_v104) = (FwdRefHost.v101 k) :=
  (ordered.kept V (by decide)).trans hmain_v104
include hmain_v131 in
theorem v131_eq : after ops V (Proc.devRef .tc main_v131) = (FwdRefHost.v128 (F := F)) :=
  (ordered.kept V (by decide)).trans hmain_v131
include hmain_v133 in
theorem v133_eq : after ops V (Proc.devRef .tc main_v133) = (FwdRefHost.v130 q k) :=
  (ordered.kept V (by decide)).trans hmain_v133
include hmain_v151 in
theorem v151_eq : after ops V (Proc.devRef .tc main_v151) = (v151 ct) :=
  (ordered.kept V (by decide)).trans hmain_v151
include hmain_v156 in
theorem v156_eq : after ops V (Proc.devRef .tc main_v156) = (v156 ct sp) :=
  (ordered.kept V (by decide)).trans hmain_v156
include hmain_v159_4 in
theorem v159_4_eq : after ops V (Proc.devRef .tc main_v159_4) = gp :=
  (ordered.kept V (by decide)).trans hmain_v159_4
include hmain_v133 hmain_v151 in
theorem v160_eq : after ops V (Proc.devRef .tc main_v160) = (v160 ct q k) :=
  ordered.binary_eq V (i := 0) rfl (by decide) (by decide) (v151_eq V hmain_v151) (v133_eq V hmain_v133)
include hmain_v133 hmain_v151 in
theorem v161_eq : after ops V (Proc.devRef .tc main_v161) = (v161 ct q k) :=
  ordered.unary_eq V (i := 1) rfl (by decide) (v160_eq V hmain_v133 hmain_v151)
include hmain_v82 hmain_v151 in
theorem v162_eq : after ops V (Proc.devRef .tc main_v162) = (v162 ct v) :=
  ordered.binary_eq V (i := 2) rfl (by decide) (by decide) (v151_eq V hmain_v151) (v82_eq V hmain_v82)
include hmain_v131 in
theorem v163_eq : after ops V (Proc.devRef .tc main_v163) = (FwdRefHost.v129 (F := F)) :=
  ordered.unary_eq V (i := 3) rfl (by decide) (v131_eq V hmain_v131)
include hmain_v82 hmain_v131 hmain_v151 in
theorem v164_eq : after ops V (Proc.devRef .tc main_v164) = (v164 ct v) :=
  ordered.binary_eq V (i := 4) rfl (by decide) (by decide) (v162_eq V hmain_v82 hmain_v151) (v163_eq V hmain_v131)
include hmain_v80 hmain_v82 hmain_v131 hmain_v151 in
theorem v165_eq : after ops V (Proc.devRef .tc main_v165) = (v165 ct v q) :=
  ordered.binary_eq V (i := 5) rfl (by decide) (by decide) (v164_eq V hmain_v82 hmain_v131 hmain_v151) (v80_eq V hmain_v80)
include hmain_v81 hmain_v82 hmain_v131 hmain_v151 in
theorem v166_eq : after ops V (Proc.devRef .tc main_v166) = (v166 ct v k) :=
  ordered.binary_eq V (i := 6) rfl (by decide) (by decide) (v164_eq V hmain_v82 hmain_v131 hmain_v151) (v81_eq V hmain_v81)
include hmain_v81 hmain_v82 hmain_v131 hmain_v151 hmain_v156 in
theorem v167_eq : after ops V (Proc.devRef .tc main_v167) = (v167 ct sp v k) :=
  ordered.binary_eq V (i := 7) rfl (by decide) (by decide) (v156_eq V hmain_v156) (v166_eq V hmain_v81 hmain_v82 hmain_v131 hmain_v151)
include hmain_v104 hmain_v159_4 in
theorem v168_eq : after ops V (Proc.devRef .tc main_v168) = (v168 gp k) :=
  ordered.binary_eq V (i := 8) rfl (by decide) (by decide) (v159_4_eq V hmain_v159_4) (v104_eq V hmain_v104)
include hmain_v104 hmain_v159_4 in
theorem v169_eq : after ops V (Proc.devRef .tc main_v169) = (v169 gp k) :=
  ordered.unary_eq V (i := 9) rfl (by decide) (v168_eq V hmain_v104 hmain_v159_4)
include hmain_v104 hmain_v133 hmain_v151 hmain_v159_4 in
theorem v170_eq : after ops V (Proc.devRef .tc main_v170) = (v170 ct q k gp) :=
  ordered.binary_eq V (i := 10) rfl (by decide) (by decide) (v161_eq V hmain_v133 hmain_v151) (v169_eq V hmain_v104 hmain_v159_4)
include hmain_v82 hmain_v159_4 in
theorem v171_eq : after ops V (Proc.devRef .tc main_v171) = (v171 gp v) :=
  ordered.binary_eq V (i := 11) rfl (by decide) (by decide) (v159_4_eq V hmain_v159_4) (v82_eq V hmain_v82)
include hmain_v82 hmain_v159_4 in
theorem v172_eq : after ops V (Proc.devRef .tc main_v172) = (v172 gp v) :=
  ordered.unary_eq V (i := 12) rfl (by decide) (v171_eq V hmain_v82 hmain_v159_4)
include hmain_v102 in
theorem v173_eq : after ops V (Proc.devRef .tc main_v173) = (FwdRefHost.v100 (F := F)) :=
  ordered.unary_eq V (i := 13) rfl (by decide) (v102_eq V hmain_v102)
include hmain_v82 hmain_v102 hmain_v159_4 in
theorem v174_eq : after ops V (Proc.devRef .tc main_v174) = (v174 gp v) :=
  ordered.binary_eq V (i := 14) rfl (by decide) (by decide) (v172_eq V hmain_v82 hmain_v159_4) (v173_eq V hmain_v102)
include hmain_v80 hmain_v82 hmain_v102 hmain_v131 hmain_v151 hmain_v159_4 in
theorem v175_eq : after ops V (Proc.devRef .tc main_v175) = (v175 ct v q gp) :=
  ordered.binary_eq V (i := 15) rfl (by decide) (by decide) (v165_eq V hmain_v80 hmain_v82 hmain_v131 hmain_v151) (v174_eq V hmain_v82 hmain_v102 hmain_v159_4)
include hmain_v104 hmain_v133 hmain_v151 hmain_v159_4 in
theorem v176_eq : after ops V (Proc.devRef .tc main_v176) = (v176 ct q k gp) :=
  ordered.reshape_eq V (i := 16) rfl (by decide) (v170_eq V hmain_v104 hmain_v133 hmain_v151 hmain_v159_4)
include hmain_v80 hmain_v82 hmain_v102 hmain_v131 hmain_v151 hmain_v159_4 in
theorem v177_eq : after ops V (Proc.devRef .tc main_v177) = (v177 ct v q gp) :=
  ordered.reshape_eq V (i := 17) rfl (by decide) (v175_eq V hmain_v80 hmain_v82 hmain_v102 hmain_v131 hmain_v151 hmain_v159_4)
include hmain_v81 hmain_v82 hmain_v131 hmain_v151 hmain_v156 in
theorem v178_eq : after ops V (Proc.devRef .tc main_v178) = (v178 ct sp v k) :=
  ordered.reshape_eq V (i := 18) rfl (by decide) (v167_eq V hmain_v81 hmain_v82 hmain_v131 hmain_v151 hmain_v156)
include hmain_v80 hmain_v82 hmain_v102 hmain_v131 hmain_v151 hmain_v159_4 in
theorem v179_eq : after ops V (Proc.devRef .tc main_v179) = (v179 ct v q gp) :=
  ordered.unary_eq V (i := 19) rfl (by decide) (v177_eq V hmain_v80 hmain_v82 hmain_v102 hmain_v131 hmain_v151 hmain_v159_4)
include hmain_v80 hmain_v82 hmain_v102 hmain_v131 hmain_v151 hmain_v159_4 in
theorem v180_eq : after ops V (Proc.devRef .tc main_v180) = (v180 ct v q gp) :=
  ordered.unary_eq V (i := 20) rfl (by decide) (v177_eq V hmain_v80 hmain_v82 hmain_v102 hmain_v131 hmain_v151 hmain_v159_4)
include hmain_v75 in
theorem v181_eq : after ops V (Proc.devRef .tc main_v181) = (FwdRefHost.v31 (F := F)) :=
  ordered.unary_eq V (i := 21) rfl (by decide) (v75_eq V hmain_v75)
include hmain_v75 hmain_v80 hmain_v82 hmain_v102 hmain_v131 hmain_v151 hmain_v159_4 in
theorem v182_eq : after ops V (Proc.devRef .tc main_v182) = (v182 ct v q gp) :=
  ordered.binary_eq V (i := 22) rfl (by decide) (by decide) (v180_eq V hmain_v80 hmain_v82 hmain_v102 hmain_v131 hmain_v151 hmain_v159_4) (v181_eq V hmain_v75)
include hmain_v72 in
theorem v183_eq : after ops V (Proc.devRef .tc main_v183) = (FwdRefHost.v34 (F := F)) :=
  ordered.unary_eq V (i := 23) rfl (by decide) (v72_eq V hmain_v72)
include hmain_v72 hmain_v80 hmain_v82 hmain_v102 hmain_v131 hmain_v151 hmain_v159_4 in
theorem v184_eq : after ops V (Proc.devRef .tc main_v184) = (v184 ct v q gp) :=
  ordered.binary_eq V (i := 24) rfl (by decide) (by decide) (v180_eq V hmain_v80 hmain_v82 hmain_v102 hmain_v131 hmain_v151 hmain_v159_4) (v183_eq V hmain_v72)
include hmain_v80 hmain_v82 hmain_v102 hmain_v131 hmain_v151 hmain_v159_4 in
theorem v185_eq : after ops V (Proc.devRef .tc main_v185) = (v185 ct v q gp) :=
  ordered.unary_eq V (i := 25) rfl (by decide) (v179_eq V hmain_v80 hmain_v82 hmain_v102 hmain_v131 hmain_v151 hmain_v159_4)
include hmain_v68 in
theorem v186_eq : after ops V (Proc.devRef .tc main_v186) = (FwdRefHost.v34 (F := F)) :=
  ordered.unary_eq V (i := 26) rfl (by decide) (v68_eq V hmain_v68)
include hmain_v68 hmain_v80 hmain_v82 hmain_v102 hmain_v131 hmain_v151 hmain_v159_4 in
theorem v187_eq : after ops V (Proc.devRef .tc main_v187) = (v187 ct v q gp) :=
  ordered.binary_eq V (i := 27) rfl (by decide) (by decide) (v185_eq V hmain_v80 hmain_v82 hmain_v102 hmain_v131 hmain_v151 hmain_v159_4) (v186_eq V hmain_v68)
include hmain_v68 hmain_v75 hmain_v80 hmain_v82 hmain_v102 hmain_v131 hmain_v151 hmain_v159_4 in
theorem v188_eq : after ops V (Proc.devRef .tc main_v188) = (v188 ct v q gp) :=
  ordered.binary_eq V (i := 28) rfl (by decide) (by decide) (v182_eq V hmain_v75 hmain_v80 hmain_v82 hmain_v102 hmain_v131 hmain_v151 hmain_v159_4) (v187_eq V hmain_v68 hmain_v80 hmain_v82 hmain_v102 hmain_v131 hmain_v151 hmain_v159_4)
include hmain_v65 in
theorem v189_eq : after ops V (Proc.devRef .tc main_v189) = (FwdRefHost.v31 (F := F)) :=
  ordered.unary_eq V (i := 29) rfl (by decide) (v65_eq V hmain_v65)
include hmain_v65 hmain_v80 hmain_v82 hmain_v102 hmain_v131 hmain_v151 hmain_v159_4 in
theorem v190_eq : after ops V (Proc.devRef .tc main_v190) = (v190 ct v q gp) :=
  ordered.binary_eq V (i := 30) rfl (by decide) (by decide) (v179_eq V hmain_v80 hmain_v82 hmain_v102 hmain_v131 hmain_v151 hmain_v159_4) (v189_eq V hmain_v65)
include hmain_v65 hmain_v72 hmain_v80 hmain_v82 hmain_v102 hmain_v131 hmain_v151 hmain_v159_4 in
theorem v191_eq : after ops V (Proc.devRef .tc main_v191) = (v191 ct v q gp) :=
  ordered.binary_eq V (i := 31) rfl (by decide) (by decide) (v184_eq V hmain_v72 hmain_v80 hmain_v82 hmain_v102 hmain_v131 hmain_v151 hmain_v159_4) (v190_eq V hmain_v65 hmain_v80 hmain_v82 hmain_v102 hmain_v131 hmain_v151 hmain_v159_4)
theorem cst_25_eq : after ops V (Proc.devRef .tc main_cst_25) = (FwdRefHost.cst (F := F)) :=
  ordered.nullary V (i := 32) rfl
include hmain_v68 hmain_v75 hmain_v80 hmain_v82 hmain_v102 hmain_v131 hmain_v151 hmain_v159_4 in
theorem v192_eq : after ops V (Proc.devRef .tc main_v192) = (v192 ct v q gp) :=
  ordered.binary_eq V (i := 33) rfl (by decide) (by decide) (v188_eq V hmain_v68 hmain_v75 hmain_v80 hmain_v82 hmain_v102 hmain_v131 hmain_v151 hmain_v159_4) (cst_25_eq V)
theorem cst_26_eq : after ops V (Proc.devRef .tc main_cst_26) = (FwdRefHost.cst (F := F)) :=
  ordered.nullary V (i := 34) rfl
include hmain_v65 hmain_v72 hmain_v80 hmain_v82 hmain_v102 hmain_v131 hmain_v151 hmain_v159_4 in
theorem v193_eq : after ops V (Proc.devRef .tc main_v193) = (v193 ct v q gp) :=
  ordered.binary_eq V (i := 35) rfl (by decide) (by decide) (v191_eq V hmain_v65 hmain_v72 hmain_v80 hmain_v82 hmain_v102 hmain_v131 hmain_v151 hmain_v159_4) (cst_26_eq V)
include hmain_v65 hmain_v68 hmain_v72 hmain_v75 hmain_v80 hmain_v82 hmain_v102 hmain_v131 hmain_v151 hmain_v159_4 in
theorem v194_eq : after ops V (Proc.devRef .tc main_v194) = (v194 ct v q gp) :=
  ordered.binary_eq V (i := 36) rfl (by decide) (by decide) (v192_eq V hmain_v68 hmain_v75 hmain_v80 hmain_v82 hmain_v102 hmain_v131 hmain_v151 hmain_v159_4) (v193_eq V hmain_v65 hmain_v72 hmain_v80 hmain_v82 hmain_v102 hmain_v131 hmain_v151 hmain_v159_4)
theorem cst_27_eq : after ops V (Proc.devRef .tc main_cst_27) = (FwdRefHost.cst_5 (F := F)) :=
  ordered.nullary V (i := 37) rfl
theorem v195_eq : after ops V (Proc.devRef .tc main_v195) = (FwdRefHost.v45 (F := F)) :=
  ordered.unary_eq V (i := 38) rfl (by decide) (cst_27_eq V)
include hmain_v81 hmain_v82 hmain_v131 hmain_v151 hmain_v156 in
theorem v196_eq : after ops V (Proc.devRef .tc main_v196) = (v196 ct sp v k) :=
  ordered.binary_eq V (i := 39) rfl (by decide) (by decide) (v178_eq V hmain_v81 hmain_v82 hmain_v131 hmain_v151 hmain_v156) (v195_eq V)
include hmain_v81 hmain_v82 hmain_v131 hmain_v151 hmain_v156 in
theorem v197_eq : after ops V (Proc.devRef .tc main_v197) = (v197 ct sp v k) :=
  ordered.unary_eq V (i := 40) rfl (by decide) (v196_eq V hmain_v81 hmain_v82 hmain_v131 hmain_v151 hmain_v156)
include hmain_v81 hmain_v82 hmain_v131 hmain_v151 hmain_v156 in
theorem v198_eq : after ops V (Proc.devRef .tc main_v198) = (v198 ct sp v k) :=
  ordered.unary_eq V (i := 41) rfl (by decide) (v196_eq V hmain_v81 hmain_v82 hmain_v131 hmain_v151 hmain_v156)
include hmain_v43 in
theorem v199_eq : after ops V (Proc.devRef .tc main_v199) = (FwdRefHost.v31 (F := F)) :=
  ordered.unary_eq V (i := 42) rfl (by decide) (v43_eq V hmain_v43)
include hmain_v43 hmain_v81 hmain_v82 hmain_v131 hmain_v151 hmain_v156 in
theorem v200_eq : after ops V (Proc.devRef .tc main_v200) = (v200 ct sp v k) :=
  ordered.binary_eq V (i := 43) rfl (by decide) (by decide) (v198_eq V hmain_v81 hmain_v82 hmain_v131 hmain_v151 hmain_v156) (v199_eq V hmain_v43)
include hmain_v40 in
theorem v201_eq : after ops V (Proc.devRef .tc main_v201) = (FwdRefHost.v34 (F := F)) :=
  ordered.unary_eq V (i := 44) rfl (by decide) (v40_eq V hmain_v40)
include hmain_v40 hmain_v81 hmain_v82 hmain_v131 hmain_v151 hmain_v156 in
theorem v202_eq : after ops V (Proc.devRef .tc main_v202) = (v202 ct sp v k) :=
  ordered.binary_eq V (i := 45) rfl (by decide) (by decide) (v198_eq V hmain_v81 hmain_v82 hmain_v131 hmain_v151 hmain_v156) (v201_eq V hmain_v40)
include hmain_v81 hmain_v82 hmain_v131 hmain_v151 hmain_v156 in
theorem v203_eq : after ops V (Proc.devRef .tc main_v203) = (v203 ct sp v k) :=
  ordered.unary_eq V (i := 46) rfl (by decide) (v197_eq V hmain_v81 hmain_v82 hmain_v131 hmain_v151 hmain_v156)
include hmain_v36 in
theorem v204_eq : after ops V (Proc.devRef .tc main_v204) = (FwdRefHost.v34 (F := F)) :=
  ordered.unary_eq V (i := 47) rfl (by decide) (v36_eq V hmain_v36)
include hmain_v36 hmain_v81 hmain_v82 hmain_v131 hmain_v151 hmain_v156 in
theorem v205_eq : after ops V (Proc.devRef .tc main_v205) = (v205 ct sp v k) :=
  ordered.binary_eq V (i := 48) rfl (by decide) (by decide) (v203_eq V hmain_v81 hmain_v82 hmain_v131 hmain_v151 hmain_v156) (v204_eq V hmain_v36)
include hmain_v36 hmain_v43 hmain_v81 hmain_v82 hmain_v131 hmain_v151 hmain_v156 in
theorem v206_eq : after ops V (Proc.devRef .tc main_v206) = (v206 ct sp v k) :=
  ordered.binary_eq V (i := 49) rfl (by decide) (by decide) (v200_eq V hmain_v43 hmain_v81 hmain_v82 hmain_v131 hmain_v151 hmain_v156) (v205_eq V hmain_v36 hmain_v81 hmain_v82 hmain_v131 hmain_v151 hmain_v156)
include hmain_v33 in
theorem v207_eq : after ops V (Proc.devRef .tc main_v207) = (FwdRefHost.v31 (F := F)) :=
  ordered.unary_eq V (i := 50) rfl (by decide) (v33_eq V hmain_v33)
include hmain_v33 hmain_v81 hmain_v82 hmain_v131 hmain_v151 hmain_v156 in
theorem v208_eq : after ops V (Proc.devRef .tc main_v208) = (v208 ct sp v k) :=
  ordered.binary_eq V (i := 51) rfl (by decide) (by decide) (v197_eq V hmain_v81 hmain_v82 hmain_v131 hmain_v151 hmain_v156) (v207_eq V hmain_v33)
include hmain_v33 hmain_v40 hmain_v81 hmain_v82 hmain_v131 hmain_v151 hmain_v156 in
theorem v209_eq : after ops V (Proc.devRef .tc main_v209) = (v209 ct sp v k) :=
  ordered.binary_eq V (i := 52) rfl (by decide) (by decide) (v202_eq V hmain_v40 hmain_v81 hmain_v82 hmain_v131 hmain_v151 hmain_v156) (v208_eq V hmain_v33 hmain_v81 hmain_v82 hmain_v131 hmain_v151 hmain_v156)
theorem cst_28_eq : after ops V (Proc.devRef .tc main_cst_28) = (FwdRefHost.cst (F := F)) :=
  ordered.nullary V (i := 53) rfl
include hmain_v36 hmain_v43 hmain_v81 hmain_v82 hmain_v131 hmain_v151 hmain_v156 in
theorem v210_eq : after ops V (Proc.devRef .tc main_v210) = (v210 ct sp v k) :=
  ordered.binary_eq V (i := 54) rfl (by decide) (by decide) (v206_eq V hmain_v36 hmain_v43 hmain_v81 hmain_v82 hmain_v131 hmain_v151 hmain_v156) (cst_28_eq V)
theorem cst_29_eq : after ops V (Proc.devRef .tc main_cst_29) = (FwdRefHost.cst (F := F)) :=
  ordered.nullary V (i := 55) rfl
include hmain_v33 hmain_v40 hmain_v81 hmain_v82 hmain_v131 hmain_v151 hmain_v156 in
theorem v211_eq : after ops V (Proc.devRef .tc main_v211) = (v211 ct sp v k) :=
  ordered.binary_eq V (i := 56) rfl (by decide) (by decide) (v209_eq V hmain_v33 hmain_v40 hmain_v81 hmain_v82 hmain_v131 hmain_v151 hmain_v156) (cst_29_eq V)
include hmain_v33 hmain_v36 hmain_v40 hmain_v43 hmain_v81 hmain_v82 hmain_v131 hmain_v151 hmain_v156 in
theorem v212_eq : after ops V (Proc.devRef .tc main_v212) = (v212 ct sp v k) :=
  ordered.binary_eq V (i := 57) rfl (by decide) (by decide) (v210_eq V hmain_v36 hmain_v43 hmain_v81 hmain_v82 hmain_v131 hmain_v151 hmain_v156) (v211_eq V hmain_v33 hmain_v40 hmain_v81 hmain_v82 hmain_v131 hmain_v151 hmain_v156)
include hmain_v104 hmain_v133 hmain_v151 hmain_v159_4 in
theorem v214_eq : after ops V (Proc.devRef .tc main_v214) = (v214 ct q k gp) :=
  ordered.unary_eq V (i := 59) rfl (by decide) (v176_eq V hmain_v104 hmain_v133 hmain_v151 hmain_v159_4)
include hmain_v104 hmain_v133 hmain_v151 hmain_v159_4 in
theorem v215_eq : after ops V (Proc.devRef .tc main_v215) = (v215 ct q k gp) :=
  ordered.unary_eq V (i := 60) rfl (by decide) (v214_eq V hmain_v104 hmain_v133 hmain_v151 hmain_v159_4)
include hmain_v104 hmain_v133 hmain_v151 hmain_v159_4 in
theorem v216_eq : after ops V (Proc.devRef .tc main_v216) = (v216 ct q k gp) :=
  ordered.reshape_eq V (i := 61) rfl (by decide) (v215_eq V hmain_v104 hmain_v133 hmain_v151 hmain_v159_4)
include hmain_v65 hmain_v68 hmain_v72 hmain_v75 hmain_v80 hmain_v82 hmain_v102 hmain_v131 hmain_v151 hmain_v159_4 in
theorem v218_eq : after ops V (Proc.devRef .tc main_v218) = (v218 ct v q gp) :=
  ordered.unary_eq V (i := 63) rfl (by decide) (v194_eq V hmain_v65 hmain_v68 hmain_v72 hmain_v75 hmain_v80 hmain_v82 hmain_v102 hmain_v131 hmain_v151 hmain_v159_4)
include hmain_v65 hmain_v68 hmain_v72 hmain_v75 hmain_v80 hmain_v82 hmain_v102 hmain_v131 hmain_v151 hmain_v159_4 in
theorem v219_eq : after ops V (Proc.devRef .tc main_v219) = (v219 ct v q gp) :=
  ordered.unary_eq V (i := 64) rfl (by decide) (v218_eq V hmain_v65 hmain_v68 hmain_v72 hmain_v75 hmain_v80 hmain_v82 hmain_v102 hmain_v131 hmain_v151 hmain_v159_4)
include hmain_v65 hmain_v68 hmain_v72 hmain_v75 hmain_v80 hmain_v82 hmain_v102 hmain_v131 hmain_v151 hmain_v159_4 in
theorem v220_eq : after ops V (Proc.devRef .tc main_v220) = (v220 ct v q gp) :=
  ordered.reshape_eq V (i := 65) rfl (by decide) (v219_eq V hmain_v65 hmain_v68 hmain_v72 hmain_v75 hmain_v80 hmain_v82 hmain_v102 hmain_v131 hmain_v151 hmain_v159_4)
include hmain_v33 hmain_v36 hmain_v40 hmain_v43 hmain_v81 hmain_v82 hmain_v131 hmain_v151 hmain_v156 in
theorem v222_eq : after ops V (Proc.devRef .tc main_v222) = (v222 ct sp v k) :=
  ordered.unary_eq V (i := 67) rfl (by decide) (v212_eq V hmain_v33 hmain_v36 hmain_v40 hmain_v43 hmain_v81 hmain_v82 hmain_v131 hmain_v151 hmain_v156)
include hmain_v33 hmain_v36 hmain_v40 hmain_v43 hmain_v81 hmain_v82 hmain_v131 hmain_v151 hmain_v156 in
theorem v223_eq : after ops V (Proc.devRef .tc main_v223) = (v223 ct sp v k) :=
  ordered.unary_eq V (i := 68) rfl (by decide) (v222_eq V hmain_v33 hmain_v36 hmain_v40 hmain_v43 hmain_v81 hmain_v82 hmain_v131 hmain_v151 hmain_v156)
include hmain_v33 hmain_v36 hmain_v40 hmain_v43 hmain_v81 hmain_v82 hmain_v131 hmain_v151 hmain_v156 in
theorem v224_eq : after ops V (Proc.devRef .tc main_v224) = (v224 ct sp v k) :=
  ordered.reshape_eq V (i := 69) rfl (by decide) (v223_eq V hmain_v33 hmain_v36 hmain_v40 hmain_v43 hmain_v81 hmain_v82 hmain_v131 hmain_v151 hmain_v156)
theorem cst_30_eq : after ops V (Proc.devRef .tc main_cst_30) = (FwdRefHost.cst (F := F)) :=
  ordered.nullary V (i := 70) rfl
theorem v225_eq : after ops V (Proc.devRef .tc main_v225) = (v225 (F := F)) :=
  ordered.unary_eq V (i := 71) rfl (by decide) (cst_30_eq V)
include hmain_v33 hmain_v36 hmain_v40 hmain_v43 hmain_v81 hmain_v82 hmain_v131 hmain_v151 hmain_v156 in
theorem v226_eq : after ops V (Proc.devRef .tc main_v226) = (v226 ct sp v k) :=
  ordered.reshape_eq V (i := 72) rfl (by decide) (v224_eq V hmain_v33 hmain_v36 hmain_v40 hmain_v43 hmain_v81 hmain_v82 hmain_v131 hmain_v151 hmain_v156)
include hmain_v33 hmain_v36 hmain_v40 hmain_v43 hmain_v81 hmain_v82 hmain_v131 hmain_v151 hmain_v156 in
theorem v227_eq : after ops V (Proc.devRef .tc main_v227) = (v227 ct sp v k) :=
  ordered.binary_eq V (i := 73) rfl (by decide) (by decide) (v225_eq V) (v226_eq V hmain_v33 hmain_v36 hmain_v40 hmain_v43 hmain_v81 hmain_v82 hmain_v131 hmain_v151 hmain_v156)
include hmain_v33 hmain_v36 hmain_v40 hmain_v43 hmain_v81 hmain_v82 hmain_v131 hmain_v151 hmain_v156 in
theorem v228_eq : after ops V (Proc.devRef .tc main_v228) = (v228 ct sp v k) :=
  ordered.unary_eq V (i := 74) rfl (by decide) (v227_eq V hmain_v33 hmain_v36 hmain_v40 hmain_v43 hmain_v81 hmain_v82 hmain_v131 hmain_v151 hmain_v156)
theorem cst_31_eq : after ops V (Proc.devRef .tc main_cst_31) = (FwdRefHost.cst (F := F)) :=
  ordered.nullary V (i := 75) rfl
theorem v229_eq : after ops V (Proc.devRef .tc main_v229) = (v225 (F := F)) :=
  ordered.unary_eq V (i := 76) rfl (by decide) (cst_31_eq V)
include hmain_v65 hmain_v68 hmain_v72 hmain_v75 hmain_v80 hmain_v82 hmain_v102 hmain_v131 hmain_v151 hmain_v159_4 in
theorem v230_eq : after ops V (Proc.devRef .tc main_v230) = (v230 ct v q gp) :=
  ordered.reshape_eq V (i := 77) rfl (by decide) (v220_eq V hmain_v65 hmain_v68 hmain_v72 hmain_v75 hmain_v80 hmain_v82 hmain_v102 hmain_v131 hmain_v151 hmain_v159_4)
include hmain_v65 hmain_v68 hmain_v72 hmain_v75 hmain_v80 hmain_v82 hmain_v102 hmain_v131 hmain_v151 hmain_v159_4 in
theorem v231_eq : after ops V (Proc.devRef .tc main_v231) = (v231 ct v q gp) :=
  ordered.binary_eq V (i := 78) rfl (by decide) (by decide) (v229_eq V) (v230_eq V hmain_v65 hmain_v68 hmain_v72 hmain_v75 hmain_v80 hmain_v82 hmain_v102 hmain_v131 hmain_v151 hmain_v159_4)
include hmain_v65 hmain_v68 hmain_v72 hmain_v75 hmain_v80 hmain_v82 hmain_v102 hmain_v131 hmain_v151 hmain_v159_4 in
theorem v232_eq : after ops V (Proc.devRef .tc main_v232) = (v232 ct v q gp) :=
  ordered.unary_eq V (i := 79) rfl (by decide) (v231_eq V hmain_v65 hmain_v68 hmain_v72 hmain_v75 hmain_v80 hmain_v82 hmain_v102 hmain_v131 hmain_v151 hmain_v159_4)
theorem cst_32_eq : after ops V (Proc.devRef .tc main_cst_32) = (FwdRefHost.cst (F := F)) :=
  ordered.nullary V (i := 80) rfl
theorem v233_eq : after ops V (Proc.devRef .tc main_v233) = (v225 (F := F)) :=
  ordered.unary_eq V (i := 81) rfl (by decide) (cst_32_eq V)
include hmain_v104 hmain_v133 hmain_v151 hmain_v159_4 in
theorem v234_eq : after ops V (Proc.devRef .tc main_v234) = (v234 ct q k gp) :=
  ordered.reshape_eq V (i := 82) rfl (by decide) (v216_eq V hmain_v104 hmain_v133 hmain_v151 hmain_v159_4)
include hmain_v104 hmain_v133 hmain_v151 hmain_v159_4 in
theorem v235_eq : after ops V (Proc.devRef .tc main_v235) = (v235 ct q k gp) :=
  ordered.binary_eq V (i := 83) rfl (by decide) (by decide) (v233_eq V) (v234_eq V hmain_v104 hmain_v133 hmain_v151 hmain_v159_4)
include hmain_v104 hmain_v133 hmain_v151 hmain_v159_4 in
theorem v236_eq : after ops V (Proc.devRef .tc main_v236) = (v236 ct q k gp) :=
  ordered.unary_eq V (i := 84) rfl (by decide) (v235_eq V hmain_v104 hmain_v133 hmain_v151 hmain_v159_4)

end Post

end Cert.RefHost

end
-- ==== Proof.RefLoops.lean ====
/- The reference's two loops: the trip counter, the condition, and what one trip leaves in the carried buffers. -/
module

public import proofs.«01_k».proof.Proof.RefOps

@[expose] public section

set_option maxRecDepth 2940

noncomputable section

namespace Cert.RefLoops.Loop0

open Cert.ReferenceIdeal Cert.ReferenceIdeal.Gen Cert.RefOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The reference each operation of `while0Ops0` writes, in order. -/
abbrev while0Ops0_W : List (Ref sig .tc) := [main_while0b_call1_c, main_while0b_call1_c_0, main_while0b_call1_c_1, main_while0b_call1_c_2, main_while0b_call1_v0, main_while0b_v237]
theorem while0Ops0_writes : (while0Ops0 : List (HloOp τ sig (Elt F))).Forall fun op => op.writes ⊆ (while0Ops0_W.map (Proc.devRef (τ := τ) .tc)).toFinset :=
  StableHlo.forall_writes_sub_of_map rfl
/-- The reference each operation of `while0Ops0_1` writes, in order. -/
abbrev while0Ops0_1_W : List (Ref sig .tc) := [main_while0b_v238, main_while0b_v239, main_while0b_v240]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- The reference each operation of `while0Ops0_2` writes, in order. -/
abbrev while0Ops0_2_W : List (Ref sig .tc) := [main_while0b_call2_v0, main_while0b_call2_c, main_while0b_call2_c_0, main_while0b_call2_c_1, main_while0b_call2_c_2, main_while0b_v241]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- The reference each operation of `while0Ops0_3` writes, in order. -/
abbrev while0Ops0_3_W : List (Ref sig .tc) := [main_while0b_c_37, main_while0b_v242, main_v137_2, main_v137_3, main_v137_4]
theorem while0Ops0_3_writes : (while0Ops0_3 : List (HloOp τ sig (Elt F))).Forall fun op => op.writes ⊆ (while0Ops0_3_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_37 (constantI S_ 32 33#32),
    StableHlo.binary main_v137_2 main_while0c_c_37 main_while0c_v237 (cmpi .slt) ]

/-- The reference each operation of `condOps` writes, in order. -/
abbrev condOps_W : List (Ref sig .tc) := [main_while0c_c_37, main_while0c_v237]
theorem condOps_writes : (condOps : List (HloOp τ sig (Elt F))).Forall fun op => op.writes ⊆ (condOps_W.map (Proc.devRef (τ := τ) .tc)).toFinset :=
  StableHlo.forall_writes_sub_of_map rfl

variable (W₀ : Dev nD → Valuation τ sig (Elt F))

/-- Every buffer's contents before the `k`-th run of the condition, counted from 0. -/
abbrev atK (k : ℕ) (c : Dev nD) : Valuation τ sig (Elt F) := atTrip condOps body0 (W₀) k c

/-- The trip counter (`main_v137_2`) is written by one stretch of the body, `while0Ops0_3`: not by the condition, nor by the
    body's other stretches. -/
theorem ctr_cond (V : Valuation τ sig (Elt F)) : after condOps V (Proc.devRef .tc main_v137_2) = V (Proc.devRef .tc main_v137_2) :=
  after_of_writes_sub condOps V condOps_writes (by decide +kernel)
theorem ctr_while0Ops0 (V : Valuation τ sig (Elt F)) : after while0Ops0 V (Proc.devRef .tc main_v137_2) = V (Proc.devRef .tc main_v137_2) :=
  after_of_writes_sub while0Ops0 V while0Ops0_writes (by decide +kernel)
theorem ctr_while0Ops0_1 (V : Valuation τ sig (Elt F)) : after while0Ops0_1 V (Proc.devRef .tc main_v137_2) = V (Proc.devRef .tc main_v137_2) :=
  after_of_writes_sub while0Ops0_1 V while0Ops0_1_writes (by decide +kernel)
theorem ctr_while0Ops0_2 (V : Valuation τ sig (Elt F)) : after while0Ops0_2 V (Proc.devRef .tc main_v137_2) = V (Proc.devRef .tc main_v137_2) :=
  after_of_writes_sub while0Ops0_2 V while0Ops0_2_writes (by decide +kernel)

set_option maxRecDepth 100000 in
/-- `while0Ops0_3` leaves the counter one step on. -/
theorem ctr_step (X : Valuation τ sig (Elt F)) :
    after while0Ops0_3 X (Proc.devRef .tc main_v137_2) = addi (X (Proc.devRef .tc main_v137_2)) (constantI S_ 32 1#32) := by
  after_results
  rfl

variable (h0 : ∀ c, W₀ c (Proc.devRef .tc main_v137_2) = fun _ => (0#32 : BitVec 32))
include h0

/-- Before the `k`-th condition the counter is the loop's induction variable at `k`. -/
theorem atK_ctr (c : Dev nD) : ∀ k, atK W₀ k c (Proc.devRef .tc main_v137_2) = fun _ => Scf.iv 0#32 1#32 k
  | 0 => by rw [show atK W₀ 0 c = W₀ c from rfl, h0 c, Scf.iv_zero]
  | k + 1 => by
    rw [show atK W₀ (k + 1) c = afterL body0 (after condOps (atK W₀ k c)) from rfl]
    simp only [afterL_cons, afterL_nil]
    rw [ctr_step, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps body0 (W₀) 33 := by
  intro k hk c bd
  have hctr := atK_ctr W₀ h0 c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK W₀ k c) main_v137_2 HostLoop.idx0)
        (HloOp.result _ (atK W₀ k c) main_while0c_c_37 HostLoop.idx0) = 1#1) (k < 33)
    rw [nullary_result_ne _ _ _ _ (by decide), nullary_result, hctr]
    exact Scf.cmpi_slt_iv_ub_iff (lb := 0#32) (ub := 33#32) (st := 1#32) (by decide) (show k ≤ Scf.trips 0#32 33#32 1#32 from hk)
  isplitl [Hb]; · iexact Hb
  rw [after_cons, after_cons, after_nil]; iexact Hh

omit h0
/-! ## One trip's values -/

/-- The body's operations 1 … 5 of 20. -/
abbrev trip_w0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.nullary (.of main_while0b_call1_c_2 : StableHlo.TRef sig ⟨S_, .i32⟩) (constantI S_ 32 0#32),
    StableHlo.TRef.unaryIndexed (.of main_v137_0 : StableHlo.TRef sig ⟨S33x1x4x128x128, .f32⟩) ![(.of main_v137_2 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩), (.of main_while0b_call1_c_2 : StableHlo.TRef sig ⟨S_, .i32⟩)] (.of main_while0b_call1_v0 : StableHlo.TRef sig ⟨S1x1x4x128x128, .f32⟩) (fun x i => Host.dynamicSlice S1x1x4x128x128 x (fun k => (i k (Shape.Idx.first h_S_)).toInt) sliceFits_S33x1x4x128x128_S1x1x4x128x128) ]

/-- The body's operations 6 … 6 of 20. -/
abbrev trip_w1 : List (HloOp τ sig (Elt F)) :=
  [ StableHlo.TRef.reshape (.of main_while0b_call1_v0 : StableHlo.TRef sig ⟨S1x1x4x128x128, .f32⟩) (.of main_while0b_v237 : StableHlo.TRef sig ⟨S1x4x128x128, .f32⟩) (rfl : (.f32 : EltTy) = .f32) shapeCasts_S1x1x4x128x128_S1x4x128x128 ]

/-- The body's operations 7 … 9 of 20. -/
abbrev trip_w2 : List (HloOp τ sig (Elt F)) :=
  [ StableHlo.unary main_v137_1 main_while0b_v238 (broadcastInDim S1x4x128x128 ![0, 1, 2, 3] bcast_S1x4x1x1_S1x4x128x128_0_1_2_3 : (⟨S1x4x1x1, .f32⟩ : BufTy).Contents (Elt F) → (⟨S1x4x128x128, .f32⟩ : BufTy).Contents (Elt F)),
    StableHlo.binary main_v137_3 main_while0b_v238 main_while0b_v239 (mulf : (⟨S1x4x128x128, .f32⟩ : BufTy).Contents (Elt F) → (⟨S1x4x128x128, .f32⟩ : BufTy).Contents (Elt F) → (⟨S1x4x128x128, .f32⟩ : BufTy).Contents (Elt F)),
    StableHlo.binary main_while0b_v239 main_while0b_v237 main_while0b_v240 (addf : (⟨S1x4x128x128, .f32⟩ : BufTy).Contents (Elt F) → (⟨S1x4x128x128, .f32⟩ : BufTy).Contents (Elt F) → (⟨S1x4x128x128, .f32⟩ : BufTy).Contents (Elt F)) ]

/-- The body's operations 10 … 15 of 20. -/
abbrev trip_w3 : List (HloOp τ sig (Elt F)) :=
  [ StableHlo.TRef.unary (.of main_v137_3 : StableHlo.TRef sig ⟨S1x4x128x128, .f32⟩) (.of main_while0b_call2_v0 : StableHlo.TRef sig ⟨S1x1x4x128x128, .f32⟩) (broadcastInDim S1x1x4x128x128 ![1, 2, 3, 4] bcast_S1x4x128x128_S1x1x4x128x128_1_2_3_4),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.nullary (.of main_while0b_call2_c_2 : StableHlo.TRef sig ⟨S_, .i32⟩) (constantI S_ 32 0#32),
    StableHlo.TRef.binaryIndexed (.of main_v137_4 : StableHlo.TRef sig ⟨S33x1x4x128x128, .f32⟩) (.of main_while0b_call2_v0 : StableHlo.TRef sig ⟨S1x1x4x128x128, .f32⟩) ![(.of main_v137_2 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩), (.of main_while0b_call2_c_2 : StableHlo.TRef sig ⟨S_, .i32⟩)] (.of main_while0b_v241 : StableHlo.TRef sig ⟨S33x1x4x128x128, .f32⟩) (fun x u i => Host.dynamicUpdateSlice x u (fun k => (i k (Shape.Idx.first h_S_)).toInt) updateFits_S33x1x4x128x128_S1x1x4x128x128) ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 := rfl
set_option maxRecDepth 5000 in
/-- `while0Ops0_2` is its windows in order. -/
theorem while0Ops0_2_cut : (while0Ops0_2 : List (HloOp τ sig (Elt F))) = trip_w3 := rfl

/-- The device's buffer contents before the body's first window. -/
def val0 (V0 : Valuation τ sig (Elt F)) : Valuation τ sig (Elt F) := V0
theorem val0_main_v137_0 (V0 : Valuation τ sig (Elt F)) : val0 V0 (no_index (Proc.devRef .tc main_v137_0)) = V0 (Proc.devRef .tc main_v137_0) := rfl
theorem val0_main_v137_2 (V0 : Valuation τ sig (Elt F)) : val0 V0 (no_index (Proc.devRef .tc main_v137_2)) = V0 (Proc.devRef .tc main_v137_2) := rfl
theorem val0_main_v137_1 (V0 : Valuation τ sig (Elt F)) : val0 V0 (no_index (Proc.devRef .tc main_v137_1)) = V0 (Proc.devRef .tc main_v137_1) := rfl
theorem val0_main_v137_3 (V0 : Valuation τ sig (Elt F)) : val0 V0 (no_index (Proc.devRef .tc main_v137_3)) = V0 (Proc.devRef .tc main_v137_3) := rfl
theorem val0_main_v137_4 (V0 : Valuation τ sig (Elt F)) : val0 V0 (no_index (Proc.devRef .tc main_v137_4)) = V0 (Proc.devRef .tc main_v137_4) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call1_c, main_while0b_call1_c_0, main_while0b_call1_c_1, main_while0b_call1_c_2, main_while0b_call1_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v137_0 (V0 : Valuation τ sig (Elt F)) : val1 V0 (no_index (Proc.devRef .tc main_v137_0)) = V0 (Proc.devRef .tc main_v137_0) :=
  (val1_keep V0 main_v137_0 (by decide)).trans (val0_main_v137_0 V0)
theorem val1_main_v137_2 (V0 : Valuation τ sig (Elt F)) : val1 V0 (no_index (Proc.devRef .tc main_v137_2)) = V0 (Proc.devRef .tc main_v137_2) :=
  (val1_keep V0 main_v137_2 (by decide)).trans (val0_main_v137_2 V0)
theorem val1_main_v137_1 (V0 : Valuation τ sig (Elt F)) : val1 V0 (no_index (Proc.devRef .tc main_v137_1)) = V0 (Proc.devRef .tc main_v137_1) :=
  (val1_keep V0 main_v137_1 (by decide)).trans (val0_main_v137_1 V0)
theorem val1_main_v137_3 (V0 : Valuation τ sig (Elt F)) : val1 V0 (no_index (Proc.devRef .tc main_v137_3)) = V0 (Proc.devRef .tc main_v137_3) :=
  (val1_keep V0 main_v137_3 (by decide)).trans (val0_main_v137_3 V0)
theorem val1_main_v137_4 (V0 : Valuation τ sig (Elt F)) : val1 V0 (no_index (Proc.devRef .tc main_v137_4)) = V0 (Proc.devRef .tc main_v137_4) :=
  (val1_keep V0 main_v137_4 (by decide)).trans (val0_main_v137_4 V0)
set_option maxRecDepth 8192 in
theorem val1_main_while0b_call1_v0 (V0 : Valuation τ sig (Elt F)) : val1 V0 (no_index (Proc.devRef .tc main_while0b_call1_v0)) = Host.dynamicSlice S1x1x4x128x128 (V0 (Proc.devRef .tc main_v137_0)) (fun k => (((![V0 (Proc.devRef .tc main_v137_2), constantI S_ 32 0#32, constantI S_ 32 0#32, constantI S_ 32 0#32, constantI S_ 32 0#32] : Fin 5 → (⟨S_, .i32⟩ : BufTy).Contents (Elt F))) k (Shape.Idx.first h_S_)).toInt) sliceFits_S33x1x4x128x128_S1x1x4x128x128 := by
  unfold val1
  simp only [trip_w0]
  after_results_entrywise [val0_main_v137_2, val0_main_v137_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v237]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v137_0 (V0 : Valuation τ sig (Elt F)) : val2 V0 (no_index (Proc.devRef .tc main_v137_0)) = V0 (Proc.devRef .tc main_v137_0) :=
  (val2_keep V0 main_v137_0 (by decide)).trans (val1_main_v137_0 V0)
theorem val2_main_v137_2 (V0 : Valuation τ sig (Elt F)) : val2 V0 (no_index (Proc.devRef .tc main_v137_2)) = V0 (Proc.devRef .tc main_v137_2) :=
  (val2_keep V0 main_v137_2 (by decide)).trans (val1_main_v137_2 V0)
theorem val2_main_v137_1 (V0 : Valuation τ sig (Elt F)) : val2 V0 (no_index (Proc.devRef .tc main_v137_1)) = V0 (Proc.devRef .tc main_v137_1) :=
  (val2_keep V0 main_v137_1 (by decide)).trans (val1_main_v137_1 V0)
theorem val2_main_v137_3 (V0 : Valuation τ sig (Elt F)) : val2 V0 (no_index (Proc.devRef .tc main_v137_3)) = V0 (Proc.devRef .tc main_v137_3) :=
  (val2_keep V0 main_v137_3 (by decide)).trans (val1_main_v137_3 V0)
theorem val2_main_v137_4 (V0 : Valuation τ sig (Elt F)) : val2 V0 (no_index (Proc.devRef .tc main_v137_4)) = V0 (Proc.devRef .tc main_v137_4) :=
  (val2_keep V0 main_v137_4 (by decide)).trans (val1_main_v137_4 V0)
set_option maxRecDepth 8192 in
theorem val2_main_while0b_v237 (V0 : Valuation τ sig (Elt F)) : val2 V0 (no_index (Proc.devRef .tc main_while0b_v237)) = shapeCast S1x4x128x128 (Host.dynamicSlice S1x1x4x128x128 (V0 (Proc.devRef .tc main_v137_0)) (fun k => (((![V0 (Proc.devRef .tc main_v137_2), constantI S_ 32 0#32, constantI S_ 32 0#32, constantI S_ 32 0#32, constantI S_ 32 0#32] : Fin 5 → (⟨S_, .i32⟩ : BufTy).Contents (Elt F))) k (Shape.Idx.first h_S_)).toInt) sliceFits_S33x1x4x128x128_S1x1x4x128x128) shapeCasts_S1x1x4x128x128_S1x4x128x128 := by
  unfold val2
  simp only [trip_w1]
  after_results_entrywise [val1_main_while0b_call1_v0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v238, main_while0b_v239, main_while0b_v240]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v137_0 (V0 : Valuation τ sig (Elt F)) : val3 V0 (no_index (Proc.devRef .tc main_v137_0)) = V0 (Proc.devRef .tc main_v137_0) :=
  (val3_keep V0 main_v137_0 (by decide)).trans (val2_main_v137_0 V0)
theorem val3_main_v137_2 (V0 : Valuation τ sig (Elt F)) : val3 V0 (no_index (Proc.devRef .tc main_v137_2)) = V0 (Proc.devRef .tc main_v137_2) :=
  (val3_keep V0 main_v137_2 (by decide)).trans (val2_main_v137_2 V0)
theorem val3_main_v137_1 (V0 : Valuation τ sig (Elt F)) : val3 V0 (no_index (Proc.devRef .tc main_v137_1)) = V0 (Proc.devRef .tc main_v137_1) :=
  (val3_keep V0 main_v137_1 (by decide)).trans (val2_main_v137_1 V0)
theorem val3_main_v137_3 (V0 : Valuation τ sig (Elt F)) : val3 V0 (no_index (Proc.devRef .tc main_v137_3)) = V0 (Proc.devRef .tc main_v137_3) :=
  (val3_keep V0 main_v137_3 (by decide)).trans (val2_main_v137_3 V0)
theorem val3_main_v137_4 (V0 : Valuation τ sig (Elt F)) : val3 V0 (no_index (Proc.devRef .tc main_v137_4)) = V0 (Proc.devRef .tc main_v137_4) :=
  (val3_keep V0 main_v137_4 (by decide)).trans (val2_main_v137_4 V0)
set_option maxRecDepth 8192 in
theorem val3_main_while0b_v240 (V0 : Valuation τ sig (Elt F)) : val3 V0 (no_index (Proc.devRef .tc main_while0b_v240)) = addf (mulf (V0 (Proc.devRef .tc main_v137_3)) (broadcastInDim S1x4x128x128 ![0, 1, 2, 3] bcast_S1x4x1x1_S1x4x128x128_0_1_2_3 (V0 (Proc.devRef .tc main_v137_1)))) (shapeCast S1x4x128x128 (Host.dynamicSlice S1x1x4x128x128 (V0 (Proc.devRef .tc main_v137_0)) (fun k => (((![V0 (Proc.devRef .tc main_v137_2), constantI S_ 32 0#32, constantI S_ 32 0#32, constantI S_ 32 0#32, constantI S_ 32 0#32] : Fin 5 → (⟨S_, .i32⟩ : BufTy).Contents (Elt F))) k (Shape.Idx.first h_S_)).toInt) sliceFits_S33x1x4x128x128_S1x1x4x128x128) shapeCasts_S1x1x4x128x128_S1x4x128x128) := by
  unfold val3
  simp only [trip_w2]
  after_results_entrywise [val2_main_while0b_v237, val2_main_v137_1, val2_main_v137_3, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_call2_v0, main_while0b_call2_c, main_while0b_call2_c_0, main_while0b_call2_c_1, main_while0b_call2_c_2, main_while0b_v241]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v137_0 (V0 : Valuation τ sig (Elt F)) : val4 V0 (no_index (Proc.devRef .tc main_v137_0)) = V0 (Proc.devRef .tc main_v137_0) :=
  (val4_keep V0 main_v137_0 (by decide)).trans (val3_main_v137_0 V0)
theorem val4_main_v137_2 (V0 : Valuation τ sig (Elt F)) : val4 V0 (no_index (Proc.devRef .tc main_v137_2)) = V0 (Proc.devRef .tc main_v137_2) :=
  (val4_keep V0 main_v137_2 (by decide)).trans (val3_main_v137_2 V0)
theorem val4_main_v137_1 (V0 : Valuation τ sig (Elt F)) : val4 V0 (no_index (Proc.devRef .tc main_v137_1)) = V0 (Proc.devRef .tc main_v137_1) :=
  (val4_keep V0 main_v137_1 (by decide)).trans (val3_main_v137_1 V0)
theorem val4_main_v137_3 (V0 : Valuation τ sig (Elt F)) : val4 V0 (no_index (Proc.devRef .tc main_v137_3)) = V0 (Proc.devRef .tc main_v137_3) :=
  (val4_keep V0 main_v137_3 (by decide)).trans (val3_main_v137_3 V0)
theorem val4_main_v137_4 (V0 : Valuation τ sig (Elt F)) : val4 V0 (no_index (Proc.devRef .tc main_v137_4)) = V0 (Proc.devRef .tc main_v137_4) :=
  (val4_keep V0 main_v137_4 (by decide)).trans (val3_main_v137_4 V0)
theorem val4_main_while0b_v240 (V0 : Valuation τ sig (Elt F)) : val4 V0 (no_index (Proc.devRef .tc main_while0b_v240)) = addf (mulf (V0 (Proc.devRef .tc main_v137_3)) (broadcastInDim S1x4x128x128 ![0, 1, 2, 3] bcast_S1x4x1x1_S1x4x128x128_0_1_2_3 (V0 (Proc.devRef .tc main_v137_1)))) (shapeCast S1x4x128x128 (Host.dynamicSlice S1x1x4x128x128 (V0 (Proc.devRef .tc main_v137_0)) (fun k => (((![V0 (Proc.devRef .tc main_v137_2), constantI S_ 32 0#32, constantI S_ 32 0#32, constantI S_ 32 0#32, constantI S_ 32 0#32] : Fin 5 → (⟨S_, .i32⟩ : BufTy).Contents (Elt F))) k (Shape.Idx.first h_S_)).toInt) sliceFits_S33x1x4x128x128_S1x1x4x128x128) shapeCasts_S1x1x4x128x128_S1x4x128x128) :=
  (val4_keep V0 main_while0b_v240 (by decide)).trans (val3_main_while0b_v240 V0)
set_option maxRecDepth 8192 in
theorem val4_main_while0b_v241 (V0 : Valuation τ sig (Elt F)) : val4 V0 (no_index (Proc.devRef .tc main_while0b_v241)) = Host.dynamicUpdateSlice (V0 (Proc.devRef .tc main_v137_4)) (broadcastInDim S1x1x4x128x128 ![1, 2, 3, 4] bcast_S1x4x128x128_S1x1x4x128x128_1_2_3_4 (V0 (Proc.devRef .tc main_v137_3))) (fun k => (((![V0 (Proc.devRef .tc main_v137_2), constantI S_ 32 0#32, constantI S_ 32 0#32, constantI S_ 32 0#32, constantI S_ 32 0#32] : Fin 5 → (⟨S_, .i32⟩ : BufTy).Contents (Elt F))) k (Shape.Idx.first h_S_)).toInt) updateFits_S33x1x4x128x128_S1x1x4x128x128 := by
  unfold val4
  simp only [trip_w3]
  after_results_entrywise [val3_main_v137_2, val3_main_v137_3, val3_main_v137_4, cast_eq]

set_option maxRecDepth 8192 in
/-- The body's stretches before `while0Ops0_3`, from any contents: their windows in order. -/
theorem trip_windows (V0 : Valuation τ sig (Elt F)) : after while0Ops0_2 (after while0Ops0_1 (after while0Ops0 (V0))) = val4 V0 := by
  simp only [while0Ops0_cut, while0Ops0_1_cut, while0Ops0_2_cut, after_append]
  rfl

set_option maxRecDepth 8192 in
set_option maxHeartbeats 2000000 in
/-- `main_v137_0` after one trip's body, from any contents. -/
theorem trip_main_v137_0 (V0 : Valuation τ sig (Elt F)) : afterL body0 V0 (no_index (Proc.devRef .tc main_v137_0)) = V0 (Proc.devRef .tc main_v137_0) := by
  simp only [body0, afterL_cons, afterL_nil, trip_windows]
  after_results
  all_goals (try simp only [val4_main_while0b_v240, val4_main_while0b_v241, val4_main_v137_0, val4_main_v137_1, val4_main_v137_2, val4_main_v137_3, val4_main_v137_4]) <;> rfl
set_option maxRecDepth 8192 in
set_option maxHeartbeats 2000000 in
/-- `main_v137_1` after one trip's body, from any contents. -/
theorem trip_main_v137_1 (V0 : Valuation τ sig (Elt F)) : afterL body0 V0 (no_index (Proc.devRef .tc main_v137_1)) = V0 (Proc.devRef .tc main_v137_1) := by
  simp only [body0, afterL_cons, afterL_nil, trip_windows]
  after_results
  all_goals (try simp only [val4_main_while0b_v240, val4_main_while0b_v241, val4_main_v137_0, val4_main_v137_1, val4_main_v137_2, val4_main_v137_3, val4_main_v137_4]) <;> rfl
set_option maxRecDepth 8192 in
set_option maxHeartbeats 2000000 in
/-- `main_v137_2` after one trip's body, from any contents. -/
theorem trip_main_v137_2 (V0 : Valuation τ sig (Elt F)) : afterL body0 V0 (no_index (Proc.devRef .tc main_v137_2)) = id (addi (V0 (Proc.devRef .tc main_v137_2)) (constantI S_ 32 1#32)) := by
  simp only [body0, afterL_cons, afterL_nil, trip_windows]
  after_results
  all_goals (try simp only [val4_main_while0b_v240, val4_main_while0b_v241, val4_main_v137_0, val4_main_v137_1, val4_main_v137_2, val4_main_v137_3, val4_main_v137_4]) <;> rfl
set_option maxRecDepth 8192 in
set_option maxHeartbeats 2000000 in
/-- `main_v137_3` after one trip's body, from any contents. -/
theorem trip_main_v137_3 (V0 : Valuation τ sig (Elt F)) : afterL body0 V0 (no_index (Proc.devRef .tc main_v137_3)) = id (addf (mulf (V0 (Proc.devRef .tc main_v137_3)) (broadcastInDim S1x4x128x128 ![0, 1, 2, 3] bcast_S1x4x1x1_S1x4x128x128_0_1_2_3 (V0 (Proc.devRef .tc main_v137_1)))) (shapeCast S1x4x128x128 (Host.dynamicSlice S1x1x4x128x128 (V0 (Proc.devRef .tc main_v137_0)) (fun k => (((![V0 (Proc.devRef .tc main_v137_2), constantI S_ 32 0#32, constantI S_ 32 0#32, constantI S_ 32 0#32, constantI S_ 32 0#32] : Fin 5 → (⟨S_, .i32⟩ : BufTy).Contents (Elt F))) k (Shape.Idx.first h_S_)).toInt) sliceFits_S33x1x4x128x128_S1x1x4x128x128) shapeCasts_S1x1x4x128x128_S1x4x128x128)) := by
  simp only [body0, afterL_cons, afterL_nil, trip_windows]
  after_results
  all_goals (try simp only [val4_main_while0b_v240, val4_main_while0b_v241, val4_main_v137_0, val4_main_v137_1, val4_main_v137_2, val4_main_v137_3, val4_main_v137_4]) <;> rfl
set_option maxRecDepth 8192 in
set_option maxHeartbeats 2000000 in
/-- `main_v137_4` after one trip's body, from any contents. -/
theorem trip_main_v137_4 (V0 : Valuation τ sig (Elt F)) : afterL body0 V0 (no_index (Proc.devRef .tc main_v137_4)) = id (Host.dynamicUpdateSlice (V0 (Proc.devRef .tc main_v137_4)) (broadcastInDim S1x1x4x128x128 ![1, 2, 3, 4] bcast_S1x4x128x128_S1x1x4x128x128_1_2_3_4 (V0 (Proc.devRef .tc main_v137_3))) (fun k => (((![V0 (Proc.devRef .tc main_v137_2), constantI S_ 32 0#32, constantI S_ 32 0#32, constantI S_ 32 0#32, constantI S_ 32 0#32] : Fin 5 → (⟨S_, .i32⟩ : BufTy).Contents (Elt F))) k (Shape.Idx.first h_S_)).toInt) updateFits_S33x1x4x128x128_S1x1x4x128x128) := by
  simp only [body0, afterL_cons, afterL_nil, trip_windows]
  after_results
  all_goals (try simp only [val4_main_while0b_v240, val4_main_while0b_v241, val4_main_v137_0, val4_main_v137_1, val4_main_v137_2, val4_main_v137_3, val4_main_v137_4]) <;> rfl

theorem cond_main_v137_0 (X : Valuation τ sig (Elt F)) : after condOps X (Proc.devRef .tc main_v137_0) = X (Proc.devRef .tc main_v137_0) :=
  after_of_writes_sub condOps X condOps_writes (by decide +kernel)
theorem cond_main_v137_1 (X : Valuation τ sig (Elt F)) : after condOps X (Proc.devRef .tc main_v137_1) = X (Proc.devRef .tc main_v137_1) :=
  after_of_writes_sub condOps X condOps_writes (by decide +kernel)
theorem cond_main_v137_3 (X : Valuation τ sig (Elt F)) : after condOps X (Proc.devRef .tc main_v137_3) = X (Proc.devRef .tc main_v137_3) :=
  after_of_writes_sub condOps X condOps_writes (by decide +kernel)
theorem cond_main_v137_4 (X : Valuation τ sig (Elt F)) : after condOps X (Proc.devRef .tc main_v137_4) = X (Proc.devRef .tc main_v137_4) :=
  after_of_writes_sub condOps X condOps_writes (by decide +kernel)

end Cert.RefLoops.Loop0

namespace Cert.RefLoops.Loop1

open Cert.ReferenceIdeal Cert.ReferenceIdeal.Gen Cert.RefOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The reference each operation of `while1Ops0` writes, in order. -/
abbrev while1Ops0_W : List (Ref sig .tc) := [main_while1b_c_37, main_while1b_v237, main_while1b_c_38, main_while1b_v238]
theorem while1Ops0_writes : (while1Ops0 : List (HloOp τ sig (Elt F))).Forall fun op => op.writes ⊆ (while1Ops0_W.map (Proc.devRef (τ := τ) .tc)).toFinset :=
  StableHlo.forall_writes_sub_of_map rfl
/-- The reference each operation of `while1Ops0_1` writes, in order. -/
abbrev while1Ops0_1_W : List (Ref sig .tc) := [main_while1b_call3_c, main_while1b_call3_c_0, main_while1b_call3_c_1, main_while1b_call3_c_2, main_while1b_call3_v0, main_while1b_v239]
theorem while1Ops0_1_writes : (while1Ops0_1 : List (HloOp τ sig (Elt F))).Forall fun op => op.writes ⊆ (while1Ops0_1_W.map (Proc.devRef (τ := τ) .tc)).toFinset :=
  StableHlo.forall_writes_sub_of_map rfl
/-- The reference each operation of `while1Ops0_2` writes, in order. -/
abbrev while1Ops0_2_W : List (Ref sig .tc) := [main_while1b_v240, main_while1b_v241, main_while1b_v242]
theorem while1Ops0_2_writes : (while1Ops0_2 : List (HloOp τ sig (Elt F))).Forall fun op => op.writes ⊆ (while1Ops0_2_W.map (Proc.devRef (τ := τ) .tc)).toFinset :=
  StableHlo.forall_writes_sub_of_map rfl
/-- The reference each operation of `while1Ops0_3` writes, in order. -/
abbrev while1Ops0_3_W : List (Ref sig .tc) := [main_while1b_call4_v0, main_while1b_call4_c, main_while1b_call4_c_0, main_while1b_call4_c_1, main_while1b_call4_c_2, main_while1b_v243]
theorem while1Ops0_3_writes : (while1Ops0_3 : List (HloOp τ sig (Elt F))).Forall fun op => op.writes ⊆ (while1Ops0_3_W.map (Proc.devRef (τ := τ) .tc)).toFinset :=
  StableHlo.forall_writes_sub_of_map rfl
/-- The reference each operation of `while1Ops0_4` writes, in order. -/
abbrev while1Ops0_4_W : List (Ref sig .tc) := [main_while1b_c_39, main_while1b_v244, main_v159_2, main_v159_3, main_v159_4]
theorem while1Ops0_4_writes : (while1Ops0_4 : List (HloOp τ sig (Elt F))).Forall fun op => op.writes ⊆ (while1Ops0_4_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while1c_c_37 (constantI S_ 32 33#32),
    StableHlo.binary main_v159_2 main_while1c_c_37 main_while1c_v237 (cmpi .slt) ]

/-- The reference each operation of `condOps` writes, in order. -/
abbrev condOps_W : List (Ref sig .tc) := [main_while1c_c_37, main_while1c_v237]
theorem condOps_writes : (condOps : List (HloOp τ sig (Elt F))).Forall fun op => op.writes ⊆ (condOps_W.map (Proc.devRef (τ := τ) .tc)).toFinset :=
  StableHlo.forall_writes_sub_of_map rfl

variable (W₀ : Dev nD → Valuation τ sig (Elt F))

/-- Every buffer's contents before the `k`-th run of the condition, counted from 0. -/
abbrev atK (k : ℕ) (c : Dev nD) : Valuation τ sig (Elt F) := atTrip condOps body1 (W₀) k c

/-- The trip counter (`main_v159_2`) is written by one stretch of the body, `while1Ops0_4`: not by the condition, nor by the
    body's other stretches. -/
theorem ctr_cond (V : Valuation τ sig (Elt F)) : after condOps V (Proc.devRef .tc main_v159_2) = V (Proc.devRef .tc main_v159_2) :=
  after_of_writes_sub condOps V condOps_writes (by decide +kernel)
theorem ctr_while1Ops0 (V : Valuation τ sig (Elt F)) : after while1Ops0 V (Proc.devRef .tc main_v159_2) = V (Proc.devRef .tc main_v159_2) :=
  after_of_writes_sub while1Ops0 V while1Ops0_writes (by decide +kernel)
theorem ctr_while1Ops0_1 (V : Valuation τ sig (Elt F)) : after while1Ops0_1 V (Proc.devRef .tc main_v159_2) = V (Proc.devRef .tc main_v159_2) :=
  after_of_writes_sub while1Ops0_1 V while1Ops0_1_writes (by decide +kernel)
theorem ctr_while1Ops0_2 (V : Valuation τ sig (Elt F)) : after while1Ops0_2 V (Proc.devRef .tc main_v159_2) = V (Proc.devRef .tc main_v159_2) :=
  after_of_writes_sub while1Ops0_2 V while1Ops0_2_writes (by decide +kernel)
theorem ctr_while1Ops0_3 (V : Valuation τ sig (Elt F)) : after while1Ops0_3 V (Proc.devRef .tc main_v159_2) = V (Proc.devRef .tc main_v159_2) :=
  after_of_writes_sub while1Ops0_3 V while1Ops0_3_writes (by decide +kernel)

set_option maxRecDepth 100000 in
/-- `while1Ops0_4` leaves the counter one step on. -/
theorem ctr_step (X : Valuation τ sig (Elt F)) :
    after while1Ops0_4 X (Proc.devRef .tc main_v159_2) = addi (X (Proc.devRef .tc main_v159_2)) (constantI S_ 32 1#32) := by
  after_results
  rfl

variable (h0 : ∀ c, W₀ c (Proc.devRef .tc main_v159_2) = fun _ => (0#32 : BitVec 32))
include h0

/-- Before the `k`-th condition the counter is the loop's induction variable at `k`. -/
theorem atK_ctr (c : Dev nD) : ∀ k, atK W₀ k c (Proc.devRef .tc main_v159_2) = fun _ => Scf.iv 0#32 1#32 k
  | 0 => by rw [show atK W₀ 0 c = W₀ c from rfl, h0 c, Scf.iv_zero]
  | k + 1 => by
    rw [show atK W₀ (k + 1) c = afterL body1 (after condOps (atK W₀ k c)) from rfl]
    simp only [afterL_cons, afterL_nil]
    rw [ctr_step, ctr_while1Ops0_3, ctr_while1Ops0_2, ctr_while1Ops0_1, ctr_while1Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while1_cond (F := F)) condOps body1 (W₀) 33 := by
  intro k hk c bd
  have hctr := atK_ctr W₀ h0 c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK W₀ k c) main_v159_2 HostLoop.idx0)
        (HloOp.result _ (atK W₀ k c) main_while1c_c_37 HostLoop.idx0) = 1#1) (k < 33)
    rw [nullary_result_ne _ _ _ _ (by decide), nullary_result, hctr]
    exact Scf.cmpi_slt_iv_ub_iff (lb := 0#32) (ub := 33#32) (st := 1#32) (by decide) (show k ≤ Scf.trips 0#32 33#32 1#32 from hk)
  isplitl [Hb]; · iexact Hb
  rw [after_cons, after_cons, after_nil]; iexact Hh

omit h0
/-! ## One trip's values -/

/-- The body's operations 1 … 4 of 24. -/
abbrev trip_w0 : List (HloOp τ sig (Elt F)) :=
  [ StableHlo.nullary main_while1b_c_37 (constantI S_ 32 33#32),
    StableHlo.binary main_while1b_c_37 main_v159_2 main_while1b_v237 (subi : (⟨S_, .i32⟩ : BufTy).Contents (Elt F) → (⟨S_, .i32⟩ : BufTy).Contents (Elt F) → (⟨S_, .i32⟩ : BufTy).Contents (Elt F)),
    StableHlo.nullary main_while1b_c_38 (constantI S_ 32 1#32),
    StableHlo.binary main_while1b_v237 main_while1b_c_38 main_while1b_v238 (subi : (⟨S_, .i32⟩ : BufTy).Contents (Elt F) → (⟨S_, .i32⟩ : BufTy).Contents (Elt F) → (⟨S_, .i32⟩ : BufTy).Contents (Elt F)) ]

/-- The body's operations 5 … 9 of 24. -/
abbrev trip_w1 : List (HloOp τ sig (Elt F)) :=
  [ StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.nullary (.of main_while1b_call3_c_1 : StableHlo.TRef sig ⟨S_, .i32⟩) (constantI S_ 32 0#32),
    StableHlo.TRef.nullary (.of main_while1b_call3_c_2 : StableHlo.TRef sig ⟨S_, .i32⟩) (constantI S_ 32 0#32),
    StableHlo.TRef.unaryIndexed (.of main_v159_0 : StableHlo.TRef sig ⟨S33x1x4x128x128, .f32⟩) ![(.of main_while1b_v238 : StableHlo.TRef sig ⟨S_, .i32⟩), (.of main_while1b_call3_c : StableHlo.TRef sig ⟨S_, .i32⟩), (.of main_while1b_call3_c_0 : StableHlo.TRef sig ⟨S_, .i32⟩), (.of main_while1b_call3_c_1 : StableHlo.TRef sig ⟨S_, .i32⟩), (.of main_while1b_call3_c_2 : StableHlo.TRef sig ⟨S_, .i32⟩)] (.of main_while1b_call3_v0 : StableHlo.TRef sig ⟨S1x1x4x128x128, .f32⟩) (fun x i => Host.dynamicSlice S1x1x4x128x128 x (fun k => (i k (Shape.Idx.first h_S_)).toInt) sliceFits_S33x1x4x128x128_S1x1x4x128x128) ]

/-- The body's operations 10 … 10 of 24. -/
abbrev trip_w2 : List (HloOp τ sig (Elt F)) :=
  [ StableHlo.TRef.reshape (.of main_while1b_call3_v0 : StableHlo.TRef sig ⟨S1x1x4x128x128, .f32⟩) (.of main_while1b_v239 : StableHlo.TRef sig ⟨S1x4x128x128, .f32⟩) (rfl : (.f32 : EltTy) = .f32) shapeCasts_S1x1x4x128x128_S1x4x128x128 ]

/-- The body's operations 11 … 13 of 24. -/
abbrev trip_w3 : List (HloOp τ sig (Elt F)) :=
  [ StableHlo.unary main_v159_1 main_while1b_v240 (broadcastInDim S1x4x128x128 ![0, 1, 2, 3] bcast_S1x4x1x1_S1x4x128x128_0_1_2_3 : (⟨S1x4x1x1, .f32⟩ : BufTy).Contents (Elt F) → (⟨S1x4x128x128, .f32⟩ : BufTy).Contents (Elt F)),
    StableHlo.binary main_v159_3 main_while1b_v240 main_while1b_v241 (mulf : (⟨S1x4x128x128, .f32⟩ : BufTy).Contents (Elt F) → (⟨S1x4x128x128, .f32⟩ : BufTy).Contents (Elt F) → (⟨S1x4x128x128, .f32⟩ : BufTy).Contents (Elt F)),
    StableHlo.binary main_while1b_v239 main_while1b_v241 main_while1b_v242 (addf : (⟨S1x4x128x128, .f32⟩ : BufTy).Contents (Elt F) → (⟨S1x4x128x128, .f32⟩ : BufTy).Contents (Elt F) → (⟨S1x4x128x128, .f32⟩ : BufTy).Contents (Elt F)) ]

/-- The body's operations 14 … 19 of 24. -/
abbrev trip_w4 : List (HloOp τ sig (Elt F)) :=
  [ StableHlo.TRef.unary (.of main_v159_3 : StableHlo.TRef sig ⟨S1x4x128x128, .f32⟩) (.of main_while1b_call4_v0 : StableHlo.TRef sig ⟨S1x1x4x128x128, .f32⟩) (broadcastInDim S1x1x4x128x128 ![1, 2, 3, 4] bcast_S1x4x128x128_S1x1x4x128x128_1_2_3_4),
    StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.nullary (.of main_while1b_call4_c_1 : StableHlo.TRef sig ⟨S_, .i32⟩) (constantI S_ 32 0#32),
    StableHlo.TRef.nullary (.of main_while1b_call4_c_2 : StableHlo.TRef sig ⟨S_, .i32⟩) (constantI S_ 32 0#32),
    StableHlo.TRef.binaryIndexed (.of main_v159_4 : StableHlo.TRef sig ⟨S33x1x4x128x128, .f32⟩) (.of main_while1b_call4_v0 : StableHlo.TRef sig ⟨S1x1x4x128x128, .f32⟩) ![(.of main_while1b_v238 : StableHlo.TRef sig ⟨S_, .i32⟩), (.of main_while1b_call4_c : StableHlo.TRef sig ⟨S_, .i32⟩), (.of main_while1b_call4_c_0 : StableHlo.TRef sig ⟨S_, .i32⟩), (.of main_while1b_call4_c_1 : StableHlo.TRef sig ⟨S_, .i32⟩), (.of main_while1b_call4_c_2 : StableHlo.TRef sig ⟨S_, .i32⟩)] (.of main_while1b_v243 : StableHlo.TRef sig ⟨S33x1x4x128x128, .f32⟩) (fun x u i => Host.dynamicUpdateSlice x u (fun k => (i k (Shape.Idx.first h_S_)).toInt) updateFits_S33x1x4x128x128_S1x1x4x128x128) ]

set_option maxRecDepth 5000 in
/-- `while1Ops0` is its windows in order. -/
theorem while1Ops0_cut : (while1Ops0 : List (HloOp τ sig (Elt F))) = trip_w0 := rfl
set_option maxRecDepth 5000 in
/-- `while1Ops0_1` is its windows in order. -/
theorem while1Ops0_1_cut : (while1Ops0_1 : List (HloOp τ sig (Elt F))) = trip_w1 ++ (trip_w2) := rfl
set_option maxRecDepth 5000 in
/-- `while1Ops0_2` is its windows in order. -/
theorem while1Ops0_2_cut : (while1Ops0_2 : List (HloOp τ sig (Elt F))) = trip_w3 := rfl
set_option maxRecDepth 5000 in
/-- `while1Ops0_3` is its windows in order. -/
theorem while1Ops0_3_cut : (while1Ops0_3 : List (HloOp τ sig (Elt F))) = trip_w4 := rfl

set_option maxRecDepth 8192 in
/-- `main_while1b_v238`'s composed term of the carried buffers (named: it is used 2 times). -/
def res_main_while1b_v238 (V0 : Valuation τ sig (Elt F)) : (Proc.devRef .tc main_while1b_v238 : DevRef τ sig).ty.Contents (Elt F) :=
  subi (subi (constantI S_ 32 33#32) (V0 (Proc.devRef .tc main_v159_2))) (constantI S_ 32 1#32)

/-- The device's buffer contents before the body's first window. -/
def val0 (V0 : Valuation τ sig (Elt F)) : Valuation τ sig (Elt F) := V0
theorem val0_main_v159_2 (V0 : Valuation τ sig (Elt F)) : val0 V0 (no_index (Proc.devRef .tc main_v159_2)) = V0 (Proc.devRef .tc main_v159_2) := rfl
theorem val0_main_v159_0 (V0 : Valuation τ sig (Elt F)) : val0 V0 (no_index (Proc.devRef .tc main_v159_0)) = V0 (Proc.devRef .tc main_v159_0) := rfl
theorem val0_main_v159_1 (V0 : Valuation τ sig (Elt F)) : val0 V0 (no_index (Proc.devRef .tc main_v159_1)) = V0 (Proc.devRef .tc main_v159_1) := rfl
theorem val0_main_v159_3 (V0 : Valuation τ sig (Elt F)) : val0 V0 (no_index (Proc.devRef .tc main_v159_3)) = V0 (Proc.devRef .tc main_v159_3) := rfl
theorem val0_main_v159_4 (V0 : Valuation τ sig (Elt F)) : val0 V0 (no_index (Proc.devRef .tc main_v159_4)) = V0 (Proc.devRef .tc main_v159_4) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while1b_c_37, main_while1b_v237, main_while1b_c_38, main_while1b_v238]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v159_2 (V0 : Valuation τ sig (Elt F)) : val1 V0 (no_index (Proc.devRef .tc main_v159_2)) = V0 (Proc.devRef .tc main_v159_2) :=
  (val1_keep V0 main_v159_2 (by decide)).trans (val0_main_v159_2 V0)
theorem val1_main_v159_0 (V0 : Valuation τ sig (Elt F)) : val1 V0 (no_index (Proc.devRef .tc main_v159_0)) = V0 (Proc.devRef .tc main_v159_0) :=
  (val1_keep V0 main_v159_0 (by decide)).trans (val0_main_v159_0 V0)
theorem val1_main_v159_1 (V0 : Valuation τ sig (Elt F)) : val1 V0 (no_index (Proc.devRef .tc main_v159_1)) = V0 (Proc.devRef .tc main_v159_1) :=
  (val1_keep V0 main_v159_1 (by decide)).trans (val0_main_v159_1 V0)
theorem val1_main_v159_3 (V0 : Valuation τ sig (Elt F)) : val1 V0 (no_index (Proc.devRef .tc main_v159_3)) = V0 (Proc.devRef .tc main_v159_3) :=
  (val1_keep V0 main_v159_3 (by decide)).trans (val0_main_v159_3 V0)
theorem val1_main_v159_4 (V0 : Valuation τ sig (Elt F)) : val1 V0 (no_index (Proc.devRef .tc main_v159_4)) = V0 (Proc.devRef .tc main_v159_4) :=
  (val1_keep V0 main_v159_4 (by decide)).trans (val0_main_v159_4 V0)
set_option maxRecDepth 8192 in
theorem val1_main_while1b_v238 (V0 : Valuation τ sig (Elt F)) : val1 V0 (no_index (Proc.devRef .tc main_while1b_v238)) = res_main_while1b_v238 V0 := by
  unfold val1
  simp only [trip_w0]
  after_results_entrywise [val0_main_v159_2, res_main_while1b_v238, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while1b_call3_c, main_while1b_call3_c_0, main_while1b_call3_c_1, main_while1b_call3_c_2, main_while1b_call3_v0]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v159_2 (V0 : Valuation τ sig (Elt F)) : val2 V0 (no_index (Proc.devRef .tc main_v159_2)) = V0 (Proc.devRef .tc main_v159_2) :=
  (val2_keep V0 main_v159_2 (by decide)).trans (val1_main_v159_2 V0)
theorem val2_main_v159_0 (V0 : Valuation τ sig (Elt F)) : val2 V0 (no_index (Proc.devRef .tc main_v159_0)) = V0 (Proc.devRef .tc main_v159_0) :=
  (val2_keep V0 main_v159_0 (by decide)).trans (val1_main_v159_0 V0)
theorem val2_main_v159_1 (V0 : Valuation τ sig (Elt F)) : val2 V0 (no_index (Proc.devRef .tc main_v159_1)) = V0 (Proc.devRef .tc main_v159_1) :=
  (val2_keep V0 main_v159_1 (by decide)).trans (val1_main_v159_1 V0)
theorem val2_main_v159_3 (V0 : Valuation τ sig (Elt F)) : val2 V0 (no_index (Proc.devRef .tc main_v159_3)) = V0 (Proc.devRef .tc main_v159_3) :=
  (val2_keep V0 main_v159_3 (by decide)).trans (val1_main_v159_3 V0)
theorem val2_main_v159_4 (V0 : Valuation τ sig (Elt F)) : val2 V0 (no_index (Proc.devRef .tc main_v159_4)) = V0 (Proc.devRef .tc main_v159_4) :=
  (val2_keep V0 main_v159_4 (by decide)).trans (val1_main_v159_4 V0)
theorem val2_main_while1b_v238 (V0 : Valuation τ sig (Elt F)) : val2 V0 (no_index (Proc.devRef .tc main_while1b_v238)) = res_main_while1b_v238 V0 :=
  (val2_keep V0 main_while1b_v238 (by decide)).trans (val1_main_while1b_v238 V0)
set_option maxRecDepth 8192 in
theorem val2_main_while1b_call3_v0 (V0 : Valuation τ sig (Elt F)) : val2 V0 (no_index (Proc.devRef .tc main_while1b_call3_v0)) = Host.dynamicSlice S1x1x4x128x128 (V0 (Proc.devRef .tc main_v159_0)) (fun k => (((![res_main_while1b_v238 V0, constantI S_ 32 0#32, constantI S_ 32 0#32, constantI S_ 32 0#32, constantI S_ 32 0#32] : Fin 5 → (⟨S_, .i32⟩ : BufTy).Contents (Elt F))) k (Shape.Idx.first h_S_)).toInt) sliceFits_S33x1x4x128x128_S1x1x4x128x128 := by
  unfold val2
  simp only [trip_w1]
  after_results_entrywise [val1_main_while1b_v238, val1_main_v159_0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while1b_v239]
set_option maxRecDepth 8192 in
theorem trip_w2_writes : (trip_w2 : List (HloOp τ sig (Elt F))).Forall fun op => op.writes ⊆ (trip_w2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v159_2 (V0 : Valuation τ sig (Elt F)) : val3 V0 (no_index (Proc.devRef .tc main_v159_2)) = V0 (Proc.devRef .tc main_v159_2) :=
  (val3_keep V0 main_v159_2 (by decide)).trans (val2_main_v159_2 V0)
theorem val3_main_v159_0 (V0 : Valuation τ sig (Elt F)) : val3 V0 (no_index (Proc.devRef .tc main_v159_0)) = V0 (Proc.devRef .tc main_v159_0) :=
  (val3_keep V0 main_v159_0 (by decide)).trans (val2_main_v159_0 V0)
theorem val3_main_v159_1 (V0 : Valuation τ sig (Elt F)) : val3 V0 (no_index (Proc.devRef .tc main_v159_1)) = V0 (Proc.devRef .tc main_v159_1) :=
  (val3_keep V0 main_v159_1 (by decide)).trans (val2_main_v159_1 V0)
theorem val3_main_v159_3 (V0 : Valuation τ sig (Elt F)) : val3 V0 (no_index (Proc.devRef .tc main_v159_3)) = V0 (Proc.devRef .tc main_v159_3) :=
  (val3_keep V0 main_v159_3 (by decide)).trans (val2_main_v159_3 V0)
theorem val3_main_v159_4 (V0 : Valuation τ sig (Elt F)) : val3 V0 (no_index (Proc.devRef .tc main_v159_4)) = V0 (Proc.devRef .tc main_v159_4) :=
  (val3_keep V0 main_v159_4 (by decide)).trans (val2_main_v159_4 V0)
theorem val3_main_while1b_v238 (V0 : Valuation τ sig (Elt F)) : val3 V0 (no_index (Proc.devRef .tc main_while1b_v238)) = res_main_while1b_v238 V0 :=
  (val3_keep V0 main_while1b_v238 (by decide)).trans (val2_main_while1b_v238 V0)
set_option maxRecDepth 8192 in
theorem val3_main_while1b_v239 (V0 : Valuation τ sig (Elt F)) : val3 V0 (no_index (Proc.devRef .tc main_while1b_v239)) = shapeCast S1x4x128x128 (Host.dynamicSlice S1x1x4x128x128 (V0 (Proc.devRef .tc main_v159_0)) (fun k => (((![res_main_while1b_v238 V0, constantI S_ 32 0#32, constantI S_ 32 0#32, constantI S_ 32 0#32, constantI S_ 32 0#32] : Fin 5 → (⟨S_, .i32⟩ : BufTy).Contents (Elt F))) k (Shape.Idx.first h_S_)).toInt) sliceFits_S33x1x4x128x128_S1x1x4x128x128) shapeCasts_S1x1x4x128x128_S1x4x128x128 := by
  unfold val3
  simp only [trip_w2]
  after_results_entrywise [val2_main_while1b_call3_v0, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while1b_v240, main_while1b_v241, main_while1b_v242]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v159_2 (V0 : Valuation τ sig (Elt F)) : val4 V0 (no_index (Proc.devRef .tc main_v159_2)) = V0 (Proc.devRef .tc main_v159_2) :=
  (val4_keep V0 main_v159_2 (by decide)).trans (val3_main_v159_2 V0)
theorem val4_main_v159_0 (V0 : Valuation τ sig (Elt F)) : val4 V0 (no_index (Proc.devRef .tc main_v159_0)) = V0 (Proc.devRef .tc main_v159_0) :=
  (val4_keep V0 main_v159_0 (by decide)).trans (val3_main_v159_0 V0)
theorem val4_main_v159_1 (V0 : Valuation τ sig (Elt F)) : val4 V0 (no_index (Proc.devRef .tc main_v159_1)) = V0 (Proc.devRef .tc main_v159_1) :=
  (val4_keep V0 main_v159_1 (by decide)).trans (val3_main_v159_1 V0)
theorem val4_main_v159_3 (V0 : Valuation τ sig (Elt F)) : val4 V0 (no_index (Proc.devRef .tc main_v159_3)) = V0 (Proc.devRef .tc main_v159_3) :=
  (val4_keep V0 main_v159_3 (by decide)).trans (val3_main_v159_3 V0)
theorem val4_main_v159_4 (V0 : Valuation τ sig (Elt F)) : val4 V0 (no_index (Proc.devRef .tc main_v159_4)) = V0 (Proc.devRef .tc main_v159_4) :=
  (val4_keep V0 main_v159_4 (by decide)).trans (val3_main_v159_4 V0)
theorem val4_main_while1b_v238 (V0 : Valuation τ sig (Elt F)) : val4 V0 (no_index (Proc.devRef .tc main_while1b_v238)) = res_main_while1b_v238 V0 :=
  (val4_keep V0 main_while1b_v238 (by decide)).trans (val3_main_while1b_v238 V0)
set_option maxRecDepth 8192 in
theorem val4_main_while1b_v242 (V0 : Valuation τ sig (Elt F)) : val4 V0 (no_index (Proc.devRef .tc main_while1b_v242)) = addf (shapeCast S1x4x128x128 (Host.dynamicSlice S1x1x4x128x128 (V0 (Proc.devRef .tc main_v159_0)) (fun k => (((![res_main_while1b_v238 V0, constantI S_ 32 0#32, constantI S_ 32 0#32, constantI S_ 32 0#32, constantI S_ 32 0#32] : Fin 5 → (⟨S_, .i32⟩ : BufTy).Contents (Elt F))) k (Shape.Idx.first h_S_)).toInt) sliceFits_S33x1x4x128x128_S1x1x4x128x128) shapeCasts_S1x1x4x128x128_S1x4x128x128) (mulf (V0 (Proc.devRef .tc main_v159_3)) (broadcastInDim S1x4x128x128 ![0, 1, 2, 3] bcast_S1x4x1x1_S1x4x128x128_0_1_2_3 (V0 (Proc.devRef .tc main_v159_1)))) := by
  unfold val4
  simp only [trip_w3]
  after_results_entrywise [val3_main_v159_1, val3_main_v159_3, val3_main_while1b_v239, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while1b_call4_v0, main_while1b_call4_c, main_while1b_call4_c_0, main_while1b_call4_c_1, main_while1b_call4_c_2, main_while1b_v243]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v159_2 (V0 : Valuation τ sig (Elt F)) : val5 V0 (no_index (Proc.devRef .tc main_v159_2)) = V0 (Proc.devRef .tc main_v159_2) :=
  (val5_keep V0 main_v159_2 (by decide)).trans (val4_main_v159_2 V0)
theorem val5_main_v159_0 (V0 : Valuation τ sig (Elt F)) : val5 V0 (no_index (Proc.devRef .tc main_v159_0)) = V0 (Proc.devRef .tc main_v159_0) :=
  (val5_keep V0 main_v159_0 (by decide)).trans (val4_main_v159_0 V0)
theorem val5_main_v159_1 (V0 : Valuation τ sig (Elt F)) : val5 V0 (no_index (Proc.devRef .tc main_v159_1)) = V0 (Proc.devRef .tc main_v159_1) :=
  (val5_keep V0 main_v159_1 (by decide)).trans (val4_main_v159_1 V0)
theorem val5_main_v159_3 (V0 : Valuation τ sig (Elt F)) : val5 V0 (no_index (Proc.devRef .tc main_v159_3)) = V0 (Proc.devRef .tc main_v159_3) :=
  (val5_keep V0 main_v159_3 (by decide)).trans (val4_main_v159_3 V0)
theorem val5_main_v159_4 (V0 : Valuation τ sig (Elt F)) : val5 V0 (no_index (Proc.devRef .tc main_v159_4)) = V0 (Proc.devRef .tc main_v159_4) :=
  (val5_keep V0 main_v159_4 (by decide)).trans (val4_main_v159_4 V0)
theorem val5_main_while1b_v242 (V0 : Valuation τ sig (Elt F)) : val5 V0 (no_index (Proc.devRef .tc main_while1b_v242)) = addf (shapeCast S1x4x128x128 (Host.dynamicSlice S1x1x4x128x128 (V0 (Proc.devRef .tc main_v159_0)) (fun k => (((![res_main_while1b_v238 V0, constantI S_ 32 0#32, constantI S_ 32 0#32, constantI S_ 32 0#32, constantI S_ 32 0#32] : Fin 5 → (⟨S_, .i32⟩ : BufTy).Contents (Elt F))) k (Shape.Idx.first h_S_)).toInt) sliceFits_S33x1x4x128x128_S1x1x4x128x128) shapeCasts_S1x1x4x128x128_S1x4x128x128) (mulf (V0 (Proc.devRef .tc main_v159_3)) (broadcastInDim S1x4x128x128 ![0, 1, 2, 3] bcast_S1x4x1x1_S1x4x128x128_0_1_2_3 (V0 (Proc.devRef .tc main_v159_1)))) :=
  (val5_keep V0 main_while1b_v242 (by decide)).trans (val4_main_while1b_v242 V0)
set_option maxRecDepth 8192 in
theorem val5_main_while1b_v243 (V0 : Valuation τ sig (Elt F)) : val5 V0 (no_index (Proc.devRef .tc main_while1b_v243)) = Host.dynamicUpdateSlice (V0 (Proc.devRef .tc main_v159_4)) (broadcastInDim S1x1x4x128x128 ![1, 2, 3, 4] bcast_S1x4x128x128_S1x1x4x128x128_1_2_3_4 (V0 (Proc.devRef .tc main_v159_3))) (fun k => (((![res_main_while1b_v238 V0, constantI S_ 32 0#32, constantI S_ 32 0#32, constantI S_ 32 0#32, constantI S_ 32 0#32] : Fin 5 → (⟨S_, .i32⟩ : BufTy).Contents (Elt F))) k (Shape.Idx.first h_S_)).toInt) updateFits_S33x1x4x128x128_S1x1x4x128x128 := by
  unfold val5
  simp only [trip_w4]
  after_results_entrywise [val4_main_while1b_v238, val4_main_v159_3, val4_main_v159_4, cast_eq]

set_option maxRecDepth 8192 in
/-- The body's stretches before `while1Ops0_4`, from any contents: their windows in order. -/
theorem trip_windows (V0 : Valuation τ sig (Elt F)) : after while1Ops0_3 (after while1Ops0_2 (after while1Ops0_1 (after while1Ops0 (V0)))) = val5 V0 := by
  simp only [while1Ops0_cut, while1Ops0_1_cut, while1Ops0_2_cut, while1Ops0_3_cut, after_append]
  rfl

set_option maxRecDepth 8192 in
set_option maxHeartbeats 2000000 in
/-- `main_v159_0` after one trip's body, from any contents. -/
theorem trip_main_v159_0 (V0 : Valuation τ sig (Elt F)) : afterL body1 V0 (no_index (Proc.devRef .tc main_v159_0)) = V0 (Proc.devRef .tc main_v159_0) := by
  simp only [body1, afterL_cons, afterL_nil, trip_windows]
  after_results
  all_goals (try simp only [val5_main_while1b_v242, val5_main_while1b_v243, val5_main_v159_0, val5_main_v159_1, val5_main_v159_2, val5_main_v159_3, val5_main_v159_4]) <;> rfl
set_option maxRecDepth 8192 in
set_option maxHeartbeats 2000000 in
/-- `main_v159_1` after one trip's body, from any contents. -/
theorem trip_main_v159_1 (V0 : Valuation τ sig (Elt F)) : afterL body1 V0 (no_index (Proc.devRef .tc main_v159_1)) = V0 (Proc.devRef .tc main_v159_1) := by
  simp only [body1, afterL_cons, afterL_nil, trip_windows]
  after_results
  all_goals (try simp only [val5_main_while1b_v242, val5_main_while1b_v243, val5_main_v159_0, val5_main_v159_1, val5_main_v159_2, val5_main_v159_3, val5_main_v159_4]) <;> rfl
set_option maxRecDepth 8192 in
set_option maxHeartbeats 2000000 in
/-- `main_v159_2` after one trip's body, from any contents. -/
theorem trip_main_v159_2 (V0 : Valuation τ sig (Elt F)) : afterL body1 V0 (no_index (Proc.devRef .tc main_v159_2)) = id (addi (V0 (Proc.devRef .tc main_v159_2)) (constantI S_ 32 1#32)) := by
  simp only [body1, afterL_cons, afterL_nil, trip_windows]
  after_results
  all_goals (try simp only [val5_main_while1b_v242, val5_main_while1b_v243, val5_main_v159_0, val5_main_v159_1, val5_main_v159_2, val5_main_v159_3, val5_main_v159_4]) <;> rfl
set_option maxRecDepth 8192 in
set_option maxHeartbeats 2000000 in
/-- `main_v159_3` after one trip's body, from any contents. -/
theorem trip_main_v159_3 (V0 : Valuation τ sig (Elt F)) : afterL body1 V0 (no_index (Proc.devRef .tc main_v159_3)) = id (addf (shapeCast S1x4x128x128 (Host.dynamicSlice S1x1x4x128x128 (V0 (Proc.devRef .tc main_v159_0)) (fun k => (((![res_main_while1b_v238 V0, constantI S_ 32 0#32, constantI S_ 32 0#32, constantI S_ 32 0#32, constantI S_ 32 0#32] : Fin 5 → (⟨S_, .i32⟩ : BufTy).Contents (Elt F))) k (Shape.Idx.first h_S_)).toInt) sliceFits_S33x1x4x128x128_S1x1x4x128x128) shapeCasts_S1x1x4x128x128_S1x4x128x128) (mulf (V0 (Proc.devRef .tc main_v159_3)) (broadcastInDim S1x4x128x128 ![0, 1, 2, 3] bcast_S1x4x1x1_S1x4x128x128_0_1_2_3 (V0 (Proc.devRef .tc main_v159_1))))) := by
  simp only [body1, afterL_cons, afterL_nil, trip_windows]
  after_results
  all_goals (try simp only [val5_main_while1b_v242, val5_main_while1b_v243, val5_main_v159_0, val5_main_v159_1, val5_main_v159_2, val5_main_v159_3, val5_main_v159_4]) <;> rfl
set_option maxRecDepth 8192 in
set_option maxHeartbeats 2000000 in
/-- `main_v159_4` after one trip's body, from any contents. -/
theorem trip_main_v159_4 (V0 : Valuation τ sig (Elt F)) : afterL body1 V0 (no_index (Proc.devRef .tc main_v159_4)) = id (Host.dynamicUpdateSlice (V0 (Proc.devRef .tc main_v159_4)) (broadcastInDim S1x1x4x128x128 ![1, 2, 3, 4] bcast_S1x4x128x128_S1x1x4x128x128_1_2_3_4 (V0 (Proc.devRef .tc main_v159_3))) (fun k => (((![res_main_while1b_v238 V0, constantI S_ 32 0#32, constantI S_ 32 0#32, constantI S_ 32 0#32, constantI S_ 32 0#32] : Fin 5 → (⟨S_, .i32⟩ : BufTy).Contents (Elt F))) k (Shape.Idx.first h_S_)).toInt) updateFits_S33x1x4x128x128_S1x1x4x128x128) := by
  simp only [body1, afterL_cons, afterL_nil, trip_windows]
  after_results
  all_goals (try simp only [val5_main_while1b_v242, val5_main_while1b_v243, val5_main_v159_0, val5_main_v159_1, val5_main_v159_2, val5_main_v159_3, val5_main_v159_4]) <;> rfl

theorem cond_main_v159_0 (X : Valuation τ sig (Elt F)) : after condOps X (Proc.devRef .tc main_v159_0) = X (Proc.devRef .tc main_v159_0) :=
  after_of_writes_sub condOps X condOps_writes (by decide +kernel)
theorem cond_main_v159_1 (X : Valuation τ sig (Elt F)) : after condOps X (Proc.devRef .tc main_v159_1) = X (Proc.devRef .tc main_v159_1) :=
  after_of_writes_sub condOps X condOps_writes (by decide +kernel)
theorem cond_main_v159_3 (X : Valuation τ sig (Elt F)) : after condOps X (Proc.devRef .tc main_v159_3) = X (Proc.devRef .tc main_v159_3) :=
  after_of_writes_sub condOps X condOps_writes (by decide +kernel)
theorem cond_main_v159_4 (X : Valuation τ sig (Elt F)) : after condOps X (Proc.devRef .tc main_v159_4) = X (Proc.devRef .tc main_v159_4) :=
  after_of_writes_sub condOps X condOps_writes (by decide +kernel)

end Cert.RefLoops.Loop1

end
-- ==== Proof.TwoLoops.lean ====
/- The run of a program of host operations with TWO counted loops: lines, a loop, lines, a loop, lines. As for one loop,
   every buffer ends at the fold of the lines and of the trips; the second loop starts where the lines after the first left off. -/
module

public import Idealize.ShloMosaic.Lib.StableHlo.RunLoop

@[expose] public section

noncomputable section

namespace Cert.TwoLoops

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs)

variable {nD : Nat} {τ : Topo} {sig : RefSig} {F : FTy → Type} {Λ₀ : Idealize.SL.Sem.Labels}

local notation "𝕄" => MT nD τ sig Unit (Elt F) ℕ (Option PUnit) ℕ

/-- One counted loop of the program: its condition's operations, its body's stretches and its number of trips. -/
structure Trips (τ : Topo) (sig : RefSig) (F : FTy → Type) where
  cond : List (HloOp τ sig (Elt F))
  body : List (List (HloOp τ sig (Elt F)))
  n : ℕ

/-- The buffers after the loop entered at `W`. -/
abbrev Trips.out (T : Trips τ sig F) (W : Dev nD → Valuation τ sig (Elt F)) (c : Dev nD) : Valuation τ sig (Elt F) :=
  after T.cond (atTrip T.cond T.body W T.n c)

variable (pre mid post : List (List (HloOp τ sig (Elt F)))) (A B : Trips τ sig F)
  (m : (ℓ : Loc nD τ sig) → Buf (Elt F) ℓ)

/-- The buffers at the first loop's entry. -/
abbrev entryA (c : Dev nD) : Valuation τ sig (Elt F) := entryContents pre m c

/-- The buffers at the second loop's entry. -/
abbrev entryB (c : Dev nD) : Valuation τ sig (Elt F) := afterL mid (A.out (entryA pre m) c)

/-- The buffers at the end. -/
abbrev final (c : Dev nD) : Valuation τ sig (Elt F) := afterL post (B.out (entryB pre mid A m) c)

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

abbrev noAdm : (p : Fin 0) → (pcs p).Adm := fun p => p.elim0
abbrev noTicket : Fin 0 → Ticket (Ix := Unit) (Name := ℕ) (U := Option PUnit) (Lvl := ℕ) (nD := nD) (τ := τ) pcs (noAdm pcs) :=
  fun j => j.elim0
abbrev noIndex : GSem nD τ sig → Finset Unit := fun _ => ∅
abbrev noLevel : GSem nD τ sig → Unit → ℕ := fun _ _ => 0

theorem noCell : Function.Injective (Pipeline.cellOf (nD := nD) (τ := τ) (Pipeline.pin pcs (noAdm pcs))) :=
  fun k => k.1.elim0

/-- What rides along beside the buffers. -/
abbrev Owed (c : Dev nD) : sProp 𝕄 := iprop(∃ W, owes (c : Thread nD τ) (0 : CellTallies nD τ sig Unit) W)

variable {pcs defs₀ loops}

/-- The condition's specification with the rest riding along. -/
theorem ride {cond : Prog (TpuEff nD τ sig (Elt F) (HostLoop.Sig (Pipeline.Sig Λ₀ (Fin 0) fun p => (pcs p).Adm) nL) .tc) (Elt F .i1)}
    {T : Trips τ sig F} {W : Dev nD → Valuation τ sig (Elt F)}
    (h : CondSpec pcs defs₀ loops cond T.cond T.body W T.n) :
    LoopCond pcs defs₀ Variants.none loops Owed cond T.cond T.body W T.n := fun k hk c bd => by
  have hpost : ∀ v : Elt F .i1,
      iprop(iprop(⌜v = 1#1 ↔ k < T.n⌝ ∗ boundary (c : Thread nD τ) ∗ held (c : Thread nD τ) (ucRefs τ sig) (after T.cond (atTrip T.cond T.body W k c))) ∗ Owed c)
        ⊢ iprop(⌜v = 1#1 ↔ k < T.n⌝ ∗ boundary (c : Thread nD τ) ∗ held (c : Thread nD τ) (ucRefs τ sig) (after T.cond (atTrip T.cond T.body W k c)) ∗ Owed c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left (h k hk c bd)).trans (wp_frame_r _ _ _)).trans (wp_mono _ _ _ hpost))
  iintro ⟨Hbd, Hh, HR⟩
  isplitl [Hbd Hh]; · isplitl [Hbd] <;> iassumption
  iexact HR

variable {pre mid post A B m}
  {lA lB : Fin nL}
  {condA condB : Prog (TpuEff nD τ sig (Elt F) (HostLoop.Sig (Pipeline.Sig Λ₀ (Fin 0) fun p => (pcs p).Adm) nL) .tc) (Elt F .i1)}
  {bodyA bodyB : Prog (TpuEff nD τ sig (Elt F) (HostLoop.Sig (Pipeline.Sig Λ₀ (Fin 0) fun p => (pcs p).Adm) nL) .tc) PUnit}
  (hlA : loops lA = HostLoop.step lA condA bodyA) (hlB : loops lB = HostLoop.step lB condB bodyB)
  (hpre : Plain pre) (hmid : Plain mid) (hpost : Plain post) (hA : Plain A.body) (hB : Plain B.body)
  (hbA : bodyA = Pipeline.chain (A.body.map fun ops => (seq ops : Prog _ PUnit)))
  (hbB : bodyB = Pipeline.chain (B.body.map fun ops => (seq ops : Prog _ PUnit)))
  (hcA : CondSpec pcs defs₀ loops condA A.cond A.body (entryA pre m) A.n)
  (hcB : CondSpec pcs defs₀ loops condB B.cond B.body (entryB pre mid A m) B.n)

/-- The program's segments in order. -/
def segs : List (CSeg pcs (noAdm pcs) defs₀ Variants.none noIndex noLevel loops (noTicket (nD := nD) (τ := τ) pcs)) :=
  segsOf _ _ _ _ _ _ _ _ Owed pre hpre (launchContents m)
    ++ (loopSeg _ _ _ _ _ _ _ _ lA condA bodyA hlA A.cond A.body hA hbA A.n (entryA pre m) Owed (ride hcA)
      :: (segsOf _ _ _ _ _ _ _ _ Owed mid hmid (A.out (entryA pre m))
        ++ (loopSeg _ _ _ _ _ _ _ _ lB condB bodyB hlB B.cond B.body hB hbB B.n (entryB pre mid A m) Owed (ride hcB)
          :: segsOf _ _ _ _ _ _ _ _ Owed post hpost (B.out (entryB pre mid A m)))))

theorem segs_prog : (segs hlA hlB hpre hmid hpost hA hB hbA hbB hcA hcB).map CSeg.prog
    = (pre.map fun ops => (seq ops : Prog _ PUnit)) ++ (HostLoop.enter lA
      :: ((mid.map fun ops => (seq ops : Prog _ PUnit)) ++ (HostLoop.enter lB :: post.map fun ops => (seq ops : Prog _ PUnit)))) := by
  unfold segs
  rw [List.map_append, List.map_cons, List.map_append, List.map_cons, segsOf_prog, segsOf_prog, segsOf_prog]
  rfl

theorem segs_chains :
    CSeg.Chains (fun c => iprop(held (c : Thread nD τ) (ucRefs τ sig) (launchContents m c) ∗ Owed c))
      (segs hlA hlB hpre hmid hpost hA hB hbA hbB hcA hcB)
      (fun c => iprop(iprop(held (c : Thread nD τ) (ucRefs τ sig) (final pre mid post A B m c)) ∗ ∃ W, owes (c : Thread nD τ) (0 : CellTallies nD τ sig Unit) W)) := by
  unfold segs
  exact CSeg.Chains.append (segsOf_chains _ _ _ _ _ _ _ _ Owed pre hpre _)
    ⟨fun _ => .rfl, CSeg.Chains.append (segsOf_chains _ _ _ _ _ _ _ _ Owed mid hmid _)
      ⟨fun _ => .rfl, segsOf_chains _ _ _ _ _ _ _ _ Owed post hpost _⟩⟩

include hlA hlB hpre hmid hpost hA hB hbA hbB hcA hcB in
/-- From any memory with zero counters every weakly fair execution of the program terminates, and every buffer that holds
    a tensor ends at the fold. -/
theorem run [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain ((pre.map fun ops => (seq ops : Prog _ PUnit)) ++ (HostLoop.enter lA
      :: ((mid.map fun ops => (seq ops : Prog _ PUnit)) ++ (HostLoop.enter lB :: post.map fun ops => (seq ops : Prog _ PUnit))))))
    (ρ : Dev nD → PrngReg) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final pre mid post A B m c (Proc.devRef .tc b)) :=
  Pipeline.θ_run_regions_loop_kit (Ix := Unit) (Name := ℕ) (U := Option PUnit) (Lvl := ℕ) (J := Fin 0) (P := Fin 0) (Val := Elt F)
    pcs (noAdm pcs) (noCell pcs) defs₀ Variants.none noIndex noLevel loops (noTicket pcs) m ρ main
    (segs hlA hlB hpre hmid hpost hA hB hbA hbB hcA hcB)
    (fun c Q => by
      rw [hmain c]
      show wp _ _ _ (Pipeline.chain ((segs hlA hlB hpre hmid hpost hA hB hbA hbB hcA hcB).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Owed c))
    (Tₙ := fun c => iprop(held (c : Thread nD τ) (ucRefs τ sig) (final pre mid post A B m c)))
    (hch := segs_chains hlA hlB hpre hmid hpost hA hB hbA hbB hcA hcB)
    (hinit := by
      refine Pipeline.initEach noIndex noLevel fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final pre mid post A B m c b)
    (hfin := fun c s' => by
      unfold held
      iintro ⟨Hh, HSI⟩
      ihave Hr := (pointsTo_read_all (ucRefs τ sig) (fun b => ((c : Dev nD), b)) (fun b => final pre mid post A B m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end
-- ==== Proof.RefRun.lean ====
/- The reference's run: its lines, the scan over the chunks forward, more lines, the scan backward, and the lines after it.
   Every buffer ends at the fold of the five. -/
module

public import proofs.«01_k».proof.Proof.RefLoops
public import proofs.«01_k».proof.Proof.TwoLoops

@[expose] public section

set_option maxRecDepth 2940

noncomputable section

namespace Cert.RefRun

open Cert.ReferenceIdeal Cert.ReferenceIdeal.Gen Cert.RefOps Cert.RefLoops
open Idealize.ShloMosaic Idealize.ShloMosaic.TcCoe Idealize.ShloMosaic.Tactic Idealize.ShloMosaic.StableHlo
open Idealize.SL Idealize.SL.Sem

variable {F : FTy → Type} [FloatOps F]

/-- The loop over the chunks that carries the state. -/
abbrev A : TwoLoops.Trips τ sig F := ⟨Loop0.condOps, body0, 33⟩
/-- The loop over the chunks, last to first, that carries the state's gradient. -/
abbrev B : TwoLoops.Trips τ sig F := ⟨Loop1.condOps, body1, 33⟩

variable (m : (ℓ : Loc nD τ sig) → Buf (Elt F) ℓ) (ρ : Dev nD → PrngReg)

abbrev entryA (c : Dev nD) : Valuation τ sig (Elt F) := TwoLoops.entryA preI m c
abbrev entryB (c : Dev nD) : Valuation τ sig (Elt F) := TwoLoops.entryB preI midI A m c
abbrev final (c : Dev nD) : Valuation τ sig (Elt F) := TwoLoops.final preI midI postI A B m c

theorem counterA (c : Dev nD) : entryA m c (Proc.devRef .tc main_v137_2) = fun _ => (0#32 : BitVec 32) := by
  simp only [entryA, TwoLoops.entryA, entryContents, afterL_cons, afterL_nil]
  after_reads_simp
  rfl

theorem counterB (c : Dev nD) : entryB m c (Proc.devRef .tc main_v159_2) = fun _ => (0#32 : BitVec 32) := by
  simp only [entryB, TwoLoops.entryB, afterL_cons, afterL_nil]
  generalize TwoLoops.Trips.out A (TwoLoops.entryA preI m) c = X
  after_reads_simp
  rfl

/-- Every buffer that holds a tensor ends at the fold. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  TwoLoops.run (pcs := pcfgs (F := F)) (defs₀ := defs₀) (loops := loops) (lA := 0) (lB := 1)
    (condA := main_while0_cond) (condB := main_while1_cond) (bodyA := main_while0_body) (bodyB := main_while1_body)
    (A := A) (B := B) (pre := preI) (mid := midI) (post := postI) (m := m) rfl rfl
    preI_plain midI_plain postI_plain body0_plain body1_plain
    (by rw [while0_body_chain]; rfl) (by rw [while1_body_chain]; rfl)
    (Loop0.cond_spec (entryA m) (counterA m)) (Loop1.cond_spec (entryB m) (counterB m))
    main (fun c => by rw [main_chain_windows]; rfl) ρ

end Cert.RefRun

end
-- ==== Proof.Scan.lean ====
/- A scan over the 33 chunks that carries a 4 × 128 × 128 array `S`, decayed by a factor per head and increased by the
   chunk's array, and that stacks the array carried INTO each trip: what the stack holds at the end. The chunks are taken
   in the order `p 0, p 1, …`. -/
module

public import Idealize.ShloMosaic.Lib.ValueIdx
public import Idealize.ShloMosaic.Lib.Pipeline.Value
public import Idealize.ShloMosaic.Lib.Pointwise.ShapeOpsCore
public import Idealize.ShloMosaic.Lib.DynamicIndex
public import Idealize.ShloMosaic.Lib.Scf.Counter

@[expose] public section

noncomputable section

namespace Cert.Scan

open Idealize.ShloMosaic hiding ix0 ix1 ix2 ix3 ix4 ix5
open Idealize.ShloMosaic.ValueIdx

abbrev One : Shape := ⟨0, ![]⟩
abbrev Stack : Shape := ⟨5, ![33, 1, 4, 128, 128]⟩
abbrev Slot : Shape := ⟨5, ![1, 1, 4, 128, 128]⟩
abbrev Carried : Shape := ⟨4, ![1, 4, 128, 128]⟩
abbrev Factor : Shape := ⟨4, ![1, 4, 1, 1]⟩

/-- The carried array after `k` trips: zero, then decayed and increased by the chunk `p k`'s. -/
def carried (cd : Vec Ideal Factor .f32) (kv : Vec Ideal Stack .f32) (p : ℕ → Fin 33) (h : Fin 4) (a b : Fin 128) : ℕ → EReal
  | 0 => 0
  | k + 1 => carried cd kv p h a b k * cd (ix4 0 h 0 0) + kv (ix5 (p k) 0 h a b)

variable {α : Type}

/-- A slice of one slot at the number `n`. -/
theorem slice_at (x : Stack.Idx → α) (start : Fin 5 → Int) (hf : Stack.Slices (fun _ => 0) Slot) (n : Fin 33)
    (h0 : start 0 = (n.val : Int)) (h1 : ∀ a : Fin 5, a ≠ 0 → start a = 0) (h : Fin 4) (a b : Fin 128) :
    Host.dynamicSlice Slot x start hf (ix5 0 0 h a b) = x (ix5 n 0 h a b) := by
  rw [Host.dynamicSlice_eq_extractStridedSlice Slot x start (fun i => if i = 0 then n.val else 0) hf
    ⟨hf.1, fun i => by
      have := n.isLt
      fin_cases i <;> simp <;> omega⟩
    (fun i => by
      by_cases hi : i = 0
      · subst hi; simpa using h0
      · simpa [hi] using h1 i hi)]
  refine extractStridedSlice_apply _ x _ _ (ix5 n 0 h a b) (fun i => ?_)
  fin_cases i <;> first | rfl | (show _ = _ + _; simp)

/-- An update of one slot at the number `n`. -/
theorem update_at (x : Stack.Idx → α) (u : Slot.Idx → α) (start : Fin 5 → Int) (hf : Stack.Slices (fun _ => 0) Slot) (n : Fin 33)
    (h0 : start 0 = (n.val : Int)) (h1 : ∀ a : Fin 5, a ≠ 0 → start a = 0) (n' : Fin 33) (h : Fin 4) (a b : Fin 128) :
    Host.dynamicUpdateSlice x u start hf (ix5 n' 0 h a b) = if n' = n then u (ix5 0 0 h a b) else x (ix5 n' 0 h a b) := by
  have hc : ∀ i : Fin 5, Host.clampedStart Stack Slot hf.1 start i = if i = 0 then n.val else 0 := fun i => by
    have := n.isLt
    by_cases hi : i = 0
    · subst hi; exact (Host.clampedStart_of_le hf.1 start 0 n.val h0 (by show n.val + 1 ≤ 33; omega)).trans (if_pos rfl).symm
    · rw [if_neg hi]
      refine Host.clampedStart_of_le hf.1 start i 0 (h1 i hi) ?_
      fin_cases i <;> first | exact absurd rfl hi | (show 0 + _ ≤ _; simp)
  rw [Host.dynamicUpdateSlice_apply]
  by_cases e : n' = n
  · subst e
    rw [if_pos rfl, dif_pos (fun i => by
      rw [hc i]
      have := (ix5 n' (0 : Fin 1) h a b i).isLt
      fin_cases i <;> simp <;> first | omega | exact Fin.isLt _)]
    refine congrArg u (funext fun i => Fin.ext ?_)
    show ((ix5 n' (0 : Fin 1) h a b : Stack.Idx) _).val - Host.clampedStart Stack Slot hf.1 start _ = _
    rw [hc]
    fin_cases i <;> simp <;> rfl
  · rw [if_neg e, dif_neg]
    intro hin
    have h' := hin 0
    rw [hc 0, if_pos rfl] at h'
    have h2 : n.val ≤ n'.val ∧ n'.val < n.val + 1 := h'
    exact e (Fin.ext (by omega))

/-- One trip's carried array: decayed, plus the slot the index names. -/
theorem next_at (S : Vec Ideal Carried .f32) (cd : Vec Ideal Factor .f32) (kv : Vec Ideal Stack .f32) (start : Fin 5 → Int)
    (hb : Factor.BroadcastsInDim Carried ![0, 1, 2, 3]) (hf : Stack.Slices (fun _ => 0) Slot) (hs : Slot.ShapeCasts Carried) (n : Fin 33)
    (h0 : start 0 = (n.val : Int)) (h1 : ∀ a : Fin 5, a ≠ 0 → start a = 0) (h : Fin 4) (a b : Fin 128) :
    mulf (F := Ideal) (φ := .f32) S (broadcastInDim Carried ![0, 1, 2, 3] hb cd) (ix4 0 h a b) = S (ix4 0 h a b) * cd (ix4 0 h 0 0)
    ∧ shapeCast Carried (Host.dynamicSlice Slot kv start hf) hs (ix4 0 h a b) = kv (ix5 n 0 h a b) := by
  constructor
  · show S _ * _ = _
    rw [broadcastInDim_apply ![0, 1, 2, 3] hb cd (ix4 0 h a b) (ix4 0 h 0 0) (fun i => by fin_cases i <;> first | rfl | simp)]
  · rw [shapeCast_apply _ hs (ix4 0 h a b) (ix5 0 0 h a b) (by
      rw [Shape.rowMajor_val_four, Shape.rowMajor_val_five]; rfl)]
    exact slice_at kv start hf n h0 h1 h a b

/-- One trip's stack: the carried array written into the slot the index names. -/
theorem write_at (K : Vec Ideal Stack .f32) (S : Vec Ideal Carried .f32) (start : Fin 5 → Int)
    (hb : Carried.BroadcastsInDim Slot ![1, 2, 3, 4]) (hf : Stack.Slices (fun _ => 0) Slot) (n : Fin 33)
    (h0 : start 0 = (n.val : Int)) (h1 : ∀ a : Fin 5, a ≠ 0 → start a = 0) (n' : Fin 33) (h : Fin 4) (a b : Fin 128) :
    Host.dynamicUpdateSlice K (broadcastInDim Slot ![1, 2, 3, 4] hb S) start hf (ix5 n' 0 h a b)
      = if n' = n then S (ix4 0 h a b) else K (ix5 n' 0 h a b) := by
  rw [update_at K _ start hf n h0 h1 n' h a b,
    broadcastInDim_apply ![1, 2, 3, 4] hb S (ix5 0 0 h a b) (ix4 0 h a b) (fun i => by fin_cases i <;> first | rfl | simp)]

/-- What the stack holds at the end. -/
theorem stacked {cd : Vec Ideal Factor .f32} {kv : Vec Ideal Stack .f32} {p : ℕ → Fin 33} (hp : ∀ j k : ℕ, j < 33 → k < 33 → p j = p k → j = k)
    {S : ℕ → Vec Ideal Carried .f32} {K : ℕ → Vec Ideal Stack .f32}
    (hS0 : ∀ h a b, S 0 (ix4 0 h a b) = 0)
    (hS : ∀ k < 33, ∀ h a b, S (k + 1) (ix4 0 h a b) = S k (ix4 0 h a b) * cd (ix4 0 h 0 0) + kv (ix5 (p k) 0 h a b))
    (hK : ∀ k < 33, ∀ n h a b, K (k + 1) (ix5 n 0 h a b) = if n = p k then S k (ix4 0 h a b) else K k (ix5 n 0 h a b))
    (k : ℕ) (hk : k < 33) (h : Fin 4) (a b : Fin 128) : K 33 (ix5 (p k) 0 h a b) = carried cd kv p h a b k := by
  have hc : ∀ j ≤ 33, S j (ix4 0 h a b) = carried cd kv p h a b j := fun j => by
    induction j with
    | zero => exact fun _ => hS0 h a b
    | succ j ih => exact fun hj => by rw [hS j (by omega), ih (by omega)]; rfl
  have hr : ∀ j, k < j → j ≤ 33 → K j (ix5 (p k) 0 h a b) = S k (ix4 0 h a b) := fun j => by
    induction j with
    | zero => exact fun hj => absurd hj (by omega)
    | succ j ih =>
      intro hj hj'
      rw [hK j (by omega)]
      by_cases e : j = k
      · subst e; rw [if_pos rfl]
      · rw [if_neg (fun e' => e (hp j k (by omega) hk e'.symm)), ih (by omega) (by omega)]
  rw [hr 33 hk le_rfl, hc k hk.le]

/-- The trip's number as the index word of a loop that counts up … -/
theorem word_up (k : ℕ) (hk : k < 33) : (Scf.iv 0#32 1#32 k).toInt = (k : Int) := by
  interval_cases k <;> decide

/-- … and of one that counts down. -/
theorem word_down (k : ℕ) (hk : k < 33) : (33#32 - Scf.iv 0#32 1#32 k - 1#32).toInt = ((32 - k : ℕ) : Int) := by
  interval_cases k <;> decide

end Cert.Scan

end
-- ==== Proof.RefLoop0.lean ====
/- The gradient reference's loop over the chunks, first to last: the states it stacks. -/
module

public import proofs.«01_k».proof.Proof.RefLoops
public import proofs.«01_k».proof.Proof.Scan

@[expose] public section

set_option maxRecDepth 8000

noncomputable section

namespace Cert.RefLoop0

open Cert.ReferenceIdeal Cert.ReferenceIdeal.Gen Cert.RefOps Cert.RefLoops.Loop0
open Idealize.ShloMosaic hiding ix0 ix1 ix2 ix3 ix4 ix5
open Idealize.ShloMosaic.TcCoe Idealize.ShloMosaic.StableHlo Idealize.ShloMosaic.ValueIdx

/-! ## The scan over the chunks -/

section
variable (W : Dev nD → Valuation τ sig (Elt Ideal)) (c : Dev nD)

/-- The contents before trip `k`. -/
abbrev at_ (k : ℕ) : Valuation τ sig (Elt Ideal) := atTrip condOps body0 W k c

theorem at_succ (k : ℕ) : at_ W c (k + 1) = afterL body0 (after condOps (at_ W c k)) := rfl

/-- A buffer no trip writes keeps its contents. -/
theorem keep (r : Ref sig .tc) (hc : r ∉ condOps_W) (h0 : r ∉ while0Ops0_W) (h1 : r ∉ while0Ops0_1_W) (h2 : r ∉ while0Ops0_2_W) (h3 : r ∉ while0Ops0_3_W) :
    ∀ k, at_ W c k (Proc.devRef .tc r) = W c (Proc.devRef .tc r)
  | 0 => rfl
  | k + 1 => by
    rw [at_succ]
    simp only [afterL_cons, afterL_nil]
    rw [after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0,
      after_of_writes_sub condOps _ condOps_writes hc, keep r hc h0 h1 h2 h3 k]

theorem cond_keep (X : Valuation τ sig (Elt Ideal)) (i : Fin 5) :
    after condOps X (Proc.devRef .tc (![main_v137_0, main_v137_1, main_v137_2, main_v137_3, main_v137_4] i)) = X (Proc.devRef .tc (![main_v137_0, main_v137_1, main_v137_2, main_v137_3, main_v137_4] i)) := by
  fin_cases i <;> exact after_of_writes_sub condOps _ condOps_writes (by decide +kernel)

theorem slots : ∀ k, at_ W c k (Proc.devRef .tc main_v137_0) = W c (Proc.devRef .tc main_v137_0)
  | 0 => rfl
  | k + 1 => by rw [at_succ, trip_main_v137_0]; exact (cond_keep _ 0).trans (slots k)

theorem factor : ∀ k, at_ W c k (Proc.devRef .tc main_v137_1) = W c (Proc.devRef .tc main_v137_1)
  | 0 => rfl
  | k + 1 => by rw [at_succ, trip_main_v137_1]; exact (cond_keep _ 1).trans (factor k)

/-- The counter before trip `k`. -/
theorem counter (h0 : W c (Proc.devRef .tc main_v137_2) = fun _ => (0#32 : BitVec 32)) : ∀ k, at_ W c k (Proc.devRef .tc main_v137_2) = fun _ => Scf.iv 0#32 1#32 k
  | 0 => by rw [Scf.iv_zero]; exact h0
  | k + 1 => by
    rw [at_succ, trip_main_v137_2, show after condOps (at_ W c k) (Proc.devRef .tc main_v137_2) = _ from (cond_keep _ 2).trans (counter h0 k), Scf.iv_succ]
    rfl

/-- The order the chunks are taken in. -/
def order (k : ℕ) : Fin 33 := ⟨k % 33, Nat.mod_lt _ (by norm_num)⟩

theorem order_inj : ∀ j k : ℕ, j < 33 → k < 33 → order j = order k → j = k := by
  intro j k hj hk e
  have e' := congrArg Fin.val e
  simp only [order] at e'
  omega

/-- The slot a trip reads and writes. -/
def start (V : Valuation τ sig (Elt Ideal)) : Fin 5 → Int := fun k =>
  (((![V (Proc.devRef .tc main_v137_2), constantI S_ 32 0#32, constantI S_ 32 0#32, constantI S_ 32 0#32, constantI S_ 32 0#32] : Fin 5 → (⟨S_, .i32⟩ : BufTy).Contents (Elt Ideal))) k (Shape.Idx.first h_S_)).toInt

theorem start_zero (V : Valuation τ sig (Elt Ideal)) (a : Fin 5) (ha : a ≠ 0) : start V a = 0 := by
  fin_cases a
  · exact absurd rfl ha
  all_goals rfl

theorem start_at (h0 : W c (Proc.devRef .tc main_v137_2) = fun _ => (0#32 : BitVec 32)) (k : ℕ) (hk : k < 33) :
    start (after condOps (at_ W c k)) 0 = ((order k).val : Int) := by
  have hc : after condOps (at_ W c k) (Proc.devRef .tc main_v137_2) = fun _ => Scf.iv 0#32 1#32 k := (cond_keep _ 2).trans (counter W c h0 k)
  simp only [start, hc]
  exact (Scan.word_up k hk).trans (by simp only [order]; omega)

/-- What the stack holds after the loop. -/
theorem stack (h0 : W c (Proc.devRef .tc main_v137_2) = fun _ => (0#32 : BitVec 32)) (hz : ∀ h a b, (W c (Proc.devRef .tc main_v137_3) : Vec Ideal Scan.Carried .f32) (ix4 0 h a b) = (0 : EReal))
    (k : ℕ) (hk : k < 33) (h : Fin 4) (a b : Fin 128) :
    (after condOps (at_ W c 33) (Proc.devRef .tc main_v137_4) : Vec Ideal Scan.Stack .f32) (ix5 (order k) 0 h a b)
      = Scan.carried (W c (Proc.devRef .tc main_v137_1)) (W c (Proc.devRef .tc main_v137_0)) order h a b k := by
  rw [show after condOps (at_ W c 33) (Proc.devRef .tc main_v137_4) = _ from cond_keep _ 4]
  refine Scan.stacked (S := fun k => at_ W c k (Proc.devRef .tc main_v137_3)) (K := fun k => at_ W c k (Proc.devRef .tc main_v137_4)) order_inj hz ?_ ?_ k hk h a b
  · intro k hk h a b
    show at_ W c (k + 1) (Proc.devRef .tc main_v137_3) _ = _
    rw [at_succ, trip_main_v137_3, show after condOps (at_ W c k) (Proc.devRef .tc main_v137_0) = _ from (cond_keep _ 0).trans (slots W c k),
      show after condOps (at_ W c k) (Proc.devRef .tc main_v137_1) = _ from (cond_keep _ 1).trans (factor W c k),
      show after condOps (at_ W c k) (Proc.devRef .tc main_v137_3) = _ from cond_keep _ 3]
    have hn := Scan.next_at (at_ W c k (Proc.devRef .tc main_v137_3)) (W c (Proc.devRef .tc main_v137_1)) (W c (Proc.devRef .tc main_v137_0)) (start (after condOps (at_ W c k)))
      bcast_S1x4x1x1_S1x4x128x128_0_1_2_3 sliceFits_S33x1x4x128x128_S1x1x4x128x128 shapeCasts_S1x1x4x128x128_S1x4x128x128
      (order k) (start_at W c h0 k hk) (start_zero _) h a b
    exact congrArg₂ (fun s t : EReal => s + t) hn.1 hn.2
  · intro k hk n h a b
    show at_ W c (k + 1) (Proc.devRef .tc main_v137_4) _ = _
    rw [at_succ, trip_main_v137_4, show after condOps (at_ W c k) (Proc.devRef .tc main_v137_3) = _ from cond_keep _ 3,
      show after condOps (at_ W c k) (Proc.devRef .tc main_v137_4) = _ from cond_keep _ 4]
    exact Scan.write_at (at_ W c k (Proc.devRef .tc main_v137_4)) (at_ W c k (Proc.devRef .tc main_v137_3)) (start (after condOps (at_ W c k)))
      bcast_S1x4x128x128_S1x1x4x128x128_1_2_3_4 updateFits_S33x1x4x128x128_S1x1x4x128x128
      (order k) (start_at W c h0 k hk) (start_zero _) n h a b

end

end Cert.RefLoop0

end
-- ==== Proof.RefLoop1.lean ====
/- The gradient reference's loop over the chunks, last to first: the gradients of the state it stacks. -/
module

public import proofs.«01_k».proof.Proof.RefLoops
public import proofs.«01_k».proof.Proof.Scan

@[expose] public section

set_option maxRecDepth 8000

noncomputable section

namespace Cert.RefLoop1

open Cert.ReferenceIdeal Cert.ReferenceIdeal.Gen Cert.RefOps Cert.RefLoops.Loop1
open Idealize.ShloMosaic hiding ix0 ix1 ix2 ix3 ix4 ix5
open Idealize.ShloMosaic.TcCoe Idealize.ShloMosaic.StableHlo Idealize.ShloMosaic.ValueIdx

/-! ## The scan over the chunks -/

section
variable (W : Dev nD → Valuation τ sig (Elt Ideal)) (c : Dev nD)

/-- The contents before trip `k`. -/
abbrev at_ (k : ℕ) : Valuation τ sig (Elt Ideal) := atTrip condOps body1 W k c

theorem at_succ (k : ℕ) : at_ W c (k + 1) = afterL body1 (after condOps (at_ W c k)) := rfl

/-- A buffer no trip writes keeps its contents. -/
theorem keep (r : Ref sig .tc) (hc : r ∉ condOps_W) (h0 : r ∉ while1Ops0_W) (h1 : r ∉ while1Ops0_1_W) (h2 : r ∉ while1Ops0_2_W) (h3 : r ∉ while1Ops0_3_W) (h4 : r ∉ while1Ops0_4_W) :
    ∀ k, at_ W c k (Proc.devRef .tc r) = W c (Proc.devRef .tc r)
  | 0 => rfl
  | k + 1 => by
    rw [at_succ]
    simp only [afterL_cons, afterL_nil]
    rw [after_of_writes_sub while1Ops0_4 _ while1Ops0_4_writes h4, after_of_writes_sub while1Ops0_3 _ while1Ops0_3_writes h3, after_of_writes_sub while1Ops0_2 _ while1Ops0_2_writes h2, after_of_writes_sub while1Ops0_1 _ while1Ops0_1_writes h1, after_of_writes_sub while1Ops0 _ while1Ops0_writes h0,
      after_of_writes_sub condOps _ condOps_writes hc, keep r hc h0 h1 h2 h3 h4 k]

theorem cond_keep (X : Valuation τ sig (Elt Ideal)) (i : Fin 5) :
    after condOps X (Proc.devRef .tc (![main_v159_0, main_v159_1, main_v159_2, main_v159_3, main_v159_4] i)) = X (Proc.devRef .tc (![main_v159_0, main_v159_1, main_v159_2, main_v159_3, main_v159_4] i)) := by
  fin_cases i <;> exact after_of_writes_sub condOps _ condOps_writes (by decide +kernel)

theorem slots : ∀ k, at_ W c k (Proc.devRef .tc main_v159_0) = W c (Proc.devRef .tc main_v159_0)
  | 0 => rfl
  | k + 1 => by rw [at_succ, trip_main_v159_0]; exact (cond_keep _ 0).trans (slots k)

theorem factor : ∀ k, at_ W c k (Proc.devRef .tc main_v159_1) = W c (Proc.devRef .tc main_v159_1)
  | 0 => rfl
  | k + 1 => by rw [at_succ, trip_main_v159_1]; exact (cond_keep _ 1).trans (factor k)

/-- The counter before trip `k`. -/
theorem counter (h0 : W c (Proc.devRef .tc main_v159_2) = fun _ => (0#32 : BitVec 32)) : ∀ k, at_ W c k (Proc.devRef .tc main_v159_2) = fun _ => Scf.iv 0#32 1#32 k
  | 0 => by rw [Scf.iv_zero]; exact h0
  | k + 1 => by
    rw [at_succ, trip_main_v159_2, show after condOps (at_ W c k) (Proc.devRef .tc main_v159_2) = _ from (cond_keep _ 2).trans (counter h0 k), Scf.iv_succ]
    rfl

/-- The order the chunks are taken in. -/
def order (k : ℕ) : Fin 33 := ⟨32 - k, by omega⟩

theorem order_inj : ∀ j k : ℕ, j < 33 → k < 33 → order j = order k → j = k := by
  intro j k hj hk e
  have e' := congrArg Fin.val e
  simp only [order] at e'
  omega

/-- The slot a trip reads and writes. -/
def start (V : Valuation τ sig (Elt Ideal)) : Fin 5 → Int := fun k =>
  (((![subi (subi (constantI S_ 32 33#32) (V (Proc.devRef .tc main_v159_2))) (constantI S_ 32 1#32), constantI S_ 32 0#32, constantI S_ 32 0#32, constantI S_ 32 0#32, constantI S_ 32 0#32] : Fin 5 → (⟨S_, .i32⟩ : BufTy).Contents (Elt Ideal))) k (Shape.Idx.first h_S_)).toInt

theorem start_zero (V : Valuation τ sig (Elt Ideal)) (a : Fin 5) (ha : a ≠ 0) : start V a = 0 := by
  fin_cases a
  · exact absurd rfl ha
  all_goals rfl

theorem start_at (h0 : W c (Proc.devRef .tc main_v159_2) = fun _ => (0#32 : BitVec 32)) (k : ℕ) (hk : k < 33) :
    start (after condOps (at_ W c k)) 0 = ((order k).val : Int) := by
  have hc : after condOps (at_ W c k) (Proc.devRef .tc main_v159_2) = fun _ => Scf.iv 0#32 1#32 k := (cond_keep _ 2).trans (counter W c h0 k)
  simp only [start, hc]
  exact (Scan.word_down k hk).trans (by simp only [order])

/-- What the stack holds after the loop. -/
theorem stack (h0 : W c (Proc.devRef .tc main_v159_2) = fun _ => (0#32 : BitVec 32)) (hz : ∀ h a b, (W c (Proc.devRef .tc main_v159_3) : Vec Ideal Scan.Carried .f32) (ix4 0 h a b) = (0 : EReal))
    (k : ℕ) (hk : k < 33) (h : Fin 4) (a b : Fin 128) :
    (after condOps (at_ W c 33) (Proc.devRef .tc main_v159_4) : Vec Ideal Scan.Stack .f32) (ix5 (order k) 0 h a b)
      = Scan.carried (W c (Proc.devRef .tc main_v159_1)) (W c (Proc.devRef .tc main_v159_0)) order h a b k := by
  rw [show after condOps (at_ W c 33) (Proc.devRef .tc main_v159_4) = _ from cond_keep _ 4]
  refine Scan.stacked (S := fun k => at_ W c k (Proc.devRef .tc main_v159_3)) (K := fun k => at_ W c k (Proc.devRef .tc main_v159_4)) order_inj hz ?_ ?_ k hk h a b
  · intro k hk h a b
    show at_ W c (k + 1) (Proc.devRef .tc main_v159_3) _ = _
    rw [at_succ, trip_main_v159_3, show after condOps (at_ W c k) (Proc.devRef .tc main_v159_0) = _ from (cond_keep _ 0).trans (slots W c k),
      show after condOps (at_ W c k) (Proc.devRef .tc main_v159_1) = _ from (cond_keep _ 1).trans (factor W c k),
      show after condOps (at_ W c k) (Proc.devRef .tc main_v159_3) = _ from cond_keep _ 3]
    have hn := Scan.next_at (at_ W c k (Proc.devRef .tc main_v159_3)) (W c (Proc.devRef .tc main_v159_1)) (W c (Proc.devRef .tc main_v159_0)) (start (after condOps (at_ W c k)))
      bcast_S1x4x1x1_S1x4x128x128_0_1_2_3 sliceFits_S33x1x4x128x128_S1x1x4x128x128 shapeCasts_S1x1x4x128x128_S1x4x128x128
      (order k) (start_at W c h0 k hk) (start_zero _) h a b
    exact (congrArg₂ (fun s t : EReal => s + t) hn.2 hn.1).trans (add_comm _ _)
  · intro k hk n h a b
    show at_ W c (k + 1) (Proc.devRef .tc main_v159_4) _ = _
    rw [at_succ, trip_main_v159_4, show after condOps (at_ W c k) (Proc.devRef .tc main_v159_3) = _ from cond_keep _ 3,
      show after condOps (at_ W c k) (Proc.devRef .tc main_v159_4) = _ from cond_keep _ 4]
    exact Scan.write_at (at_ W c k (Proc.devRef .tc main_v159_4)) (at_ W c k (Proc.devRef .tc main_v159_3)) (start (after condOps (at_ W c k)))
      bcast_S1x4x128x128_S1x1x4x128x128_1_2_3_4 updateFits_S33x1x4x128x128_S1x1x4x128x128
      (order k) (start_at W c h0 k hk) (start_zero _) n h a b

end

end Cert.RefLoop1

end
-- ==== Proof.RefClaim.lean ====
/- The reference's run: its arguments end as they began, its results are the values of its lines over what its two loops
   stack, and the two stacks are the carried states and the carried state gradients. -/
module

public import proofs.«01_k».proof.Defs
public import proofs.«01_k».proof.Proof.RefHost
public import proofs.«01_k».proof.Proof.RefRun
public import proofs.«01_k».proof.Proof.RefLoop0
public import proofs.«01_k».proof.Proof.RefLoop1
public import Idealize.ShloMosaic.Lib.Quiescent
public import Idealize.ShloMosaic.PureOps.Ideal.Laws

@[expose] public section

set_option maxRecDepth 8000

noncomputable section

namespace Cert.RefClaim

open Idealize.ShloMosaic hiding ix0 ix1 ix2 ix3 ix4 ix5 eq_ix1 eq_ix2 eq_ix3 eq_ix4 eq_ix5
open Idealize.ShloMosaic.TcCoe Idealize.ShloMosaic.StableHlo Idealize.ShloMosaic.ValueIdx Idealize.SL.Sem
open Cert.ReferenceIdeal Cert.ReferenceIdeal.Gen Cert.RefOps

section
variable (m : (ℓ : Loc nD τ sig) → Buf (Elt Ideal) ℓ) (ρ : Dev nD → PrngReg) (c : Dev nD)

/-- The contents before the first loop, after it, before the second, after it, and at the end. -/
abbrev before : Valuation τ sig (Elt Ideal) := RefRun.entryA m c
abbrev behind : Valuation τ sig (Elt Ideal) := after RefLoops.Loop0.condOps (RefLoop0.at_ (RefRun.entryA m) c 33)
abbrev between : Valuation τ sig (Elt Ideal) := RefRun.entryB m c
abbrev beyond : Valuation τ sig (Elt Ideal) := after RefLoops.Loop1.condOps (RefLoop1.at_ (RefRun.entryB m) c 33)
abbrev final : Valuation τ sig (Elt Ideal) := RefRun.final m c

theorem before_eq : before m c = after RefHost.Pre.ops (launchContents m c) := afterL_eq_after_flatten preI _
theorem between_eq : between m c = after RefHost.Mid.ops (behind m c) := afterL_eq_after_flatten midI _
theorem final_eq : final m c = after RefHost.Post.ops (beyond m c) := afterL_eq_after_flatten postI _

/-- A buffer that the first loop does not write. -/
theorem behind_keep (r : Ref sig .tc) (hc : r ∉ RefLoops.Loop0.condOps_W) (h0 : r ∉ RefLoops.Loop0.while0Ops0_W) (h1 : r ∉ RefLoops.Loop0.while0Ops0_1_W) (h2 : r ∉ RefLoops.Loop0.while0Ops0_2_W)
    (h3 : r ∉ RefLoops.Loop0.while0Ops0_3_W) : behind m c (Proc.devRef .tc r) = before m c (Proc.devRef .tc r) :=
  (after_of_writes_sub RefLoops.Loop0.condOps _ RefLoops.Loop0.condOps_writes hc).trans (RefLoop0.keep (RefRun.entryA m) c r hc h0 h1 h2 h3 33)

/-- A buffer that the second loop does not write. -/
theorem beyond_keep (r : Ref sig .tc) (hc : r ∉ RefLoops.Loop1.condOps_W) (h0 : r ∉ RefLoops.Loop1.while1Ops0_W) (h1 : r ∉ RefLoops.Loop1.while1Ops0_1_W) (h2 : r ∉ RefLoops.Loop1.while1Ops0_2_W)
    (h3 : r ∉ RefLoops.Loop1.while1Ops0_3_W) (h4 : r ∉ RefLoops.Loop1.while1Ops0_4_W) : beyond m c (Proc.devRef .tc r) = between m c (Proc.devRef .tc r) :=
  (after_of_writes_sub RefLoops.Loop1.condOps _ RefLoops.Loop1.condOps_writes hc).trans (RefLoop1.keep (RefRun.entryB m) c r hc h0 h1 h2 h3 h4 33)

theorem arg0_kept : final m c (Proc.devRef .tc main_arg0) = m ((c.tc : Thread nD τ).loc main_arg0) := by
  rw [final_eq, RefHost.Post.ordered.kept _ (by decide), beyond_keep m c _ (by decide) (by decide) (by decide) (by decide) (by decide) (by decide), between_eq, RefHost.Mid.ordered.kept _ (by decide),
    behind_keep m c _ (by decide) (by decide) (by decide) (by decide) (by decide), before_eq, RefHost.Pre.ordered.kept _ (by decide)]
theorem arg1_kept : final m c (Proc.devRef .tc main_arg1) = m ((c.tc : Thread nD τ).loc main_arg1) := by
  rw [final_eq, RefHost.Post.ordered.kept _ (by decide), beyond_keep m c _ (by decide) (by decide) (by decide) (by decide) (by decide) (by decide), between_eq, RefHost.Mid.ordered.kept _ (by decide),
    behind_keep m c _ (by decide) (by decide) (by decide) (by decide) (by decide), before_eq, RefHost.Pre.ordered.kept _ (by decide)]
theorem arg2_kept : final m c (Proc.devRef .tc main_arg2) = m ((c.tc : Thread nD τ).loc main_arg2) := by
  rw [final_eq, RefHost.Post.ordered.kept _ (by decide), beyond_keep m c _ (by decide) (by decide) (by decide) (by decide) (by decide) (by decide), between_eq, RefHost.Mid.ordered.kept _ (by decide),
    behind_keep m c _ (by decide) (by decide) (by decide) (by decide) (by decide), before_eq, RefHost.Pre.ordered.kept _ (by decide)]
theorem arg3_kept : final m c (Proc.devRef .tc main_arg3) = m ((c.tc : Thread nD τ).loc main_arg3) := by
  rw [final_eq, RefHost.Post.ordered.kept _ (by decide), beyond_keep m c _ (by decide) (by decide) (by decide) (by decide) (by decide) (by decide), between_eq, RefHost.Mid.ordered.kept _ (by decide),
    behind_keep m c _ (by decide) (by decide) (by decide) (by decide) (by decide), before_eq, RefHost.Pre.ordered.kept _ (by decide)]

/-- The arguments: queries, keys, values, and the cotangent of the retention. -/
abbrev Arg := Vec Ideal S1x4112x512 .f32
abbrev q : Arg := m ((c.tc : Thread nD τ).loc main_arg0)
abbrev k : Arg := m ((c.tc : Thread nD τ).loc main_arg1)
abbrev v : Arg := m ((c.tc : Thread nD τ).loc main_arg2)
abbrev ct : Arg := m ((c.tc : Thread nD τ).loc main_arg3)
/-- The stacks that the loops leave: the states, and the state gradients. -/
abbrev sp : Vec Ideal Scan.Stack .f32 := behind m c (Proc.devRef .tc main_v137_4)
abbrev gp : Vec Ideal Scan.Stack .f32 := beyond m c (Proc.devRef .tc main_v159_4)

theorem slotsA : before m c (Proc.devRef .tc main_v137_0) = FwdRefHost.v102 (k m c) (v m c) := by
  rw [before_eq]; exact RefHost.Pre.v137_0_eq _ rfl rfl
theorem factorA : before m c (Proc.devRef .tc main_v137_1) = FwdRefHost.v103 (F := Ideal) := by
  rw [before_eq]; exact RefHost.Pre.v137_1_eq _
theorem zeroA : before m c (Proc.devRef .tc main_v137_3) = FwdRefHost.v132 (F := Ideal) := by
  rw [before_eq]; exact RefHost.Pre.v137_3_eq _

theorem arg3_behind : behind m c (Proc.devRef .tc main_arg3) = ct m c := by
  rw [behind_keep m c _ (by decide) (by decide) (by decide) (by decide) (by decide), before_eq, RefHost.Pre.ordered.kept _ (by decide)]
theorem v80_behind : behind m c (Proc.devRef .tc main_v80) = FwdRefHost.v77 (q m c) := by
  rw [behind_keep m c _ (by decide) (by decide) (by decide) (by decide) (by decide), before_eq]
  exact RefHost.Pre.v80_eq _ rfl
theorem v106_behind : behind m c (Proc.devRef .tc main_v106) = FwdRefHost.v103 (F := Ideal) := by
  rw [behind_keep m c _ (by decide) (by decide) (by decide) (by decide) (by decide), before_eq]
  exact RefHost.Pre.v106_eq _
theorem v129_behind : behind m c (Proc.devRef .tc main_v129) = FwdRefHost.v126 (F := Ideal) := by
  rw [behind_keep m c _ (by decide) (by decide) (by decide) (by decide) (by decide), before_eq]
  exact RefHost.Pre.v129_eq _

theorem slotsB : between m c (Proc.devRef .tc main_v159_0) = RefHost.v153 (ct m c) (q m c) := by
  rw [between_eq]; exact RefHost.Mid.v159_0_eq _ (arg3_behind m c) (v80_behind m c) (v129_behind m c)
theorem factorB : between m c (Proc.devRef .tc main_v159_1) = FwdRefHost.v103 (F := Ideal) := by
  rw [between_eq]; exact RefHost.Mid.v159_1_eq _ (v106_behind m c)
theorem zeroB : between m c (Proc.devRef .tc main_v159_3) = FwdRefHost.v132 (F := Ideal) := by
  rw [between_eq]; exact RefHost.Mid.v159_3_eq _

/-- The first stack: the state before each chunk. -/
theorem states (n : Fin 33) (h : Fin 4) (a b : Fin 128) :
    sp m c (ix5 n 0 h a b) = Scan.carried (FwdRefHost.v103 (F := Ideal)) (FwdRefHost.v102 (k m c) (v m c)) RefLoop0.order h a b n.val := by
  have e := RefLoop0.stack (RefRun.entryA m) c (RefRun.counterA m c) (fun h a b => by
    rw [show RefRun.entryA m c (Proc.devRef .tc main_v137_3) = _ from zeroA m c]
    exact Ideal.ofBits_zero_f32) n.val n.isLt h a b
  rw [show RefLoop0.order n.val = n from Fin.ext (Nat.mod_eq_of_lt n.isLt),
    show RefRun.entryA m c (Proc.devRef .tc main_v137_1) = _ from factorA m c,
    show RefRun.entryA m c (Proc.devRef .tc main_v137_0) = _ from slotsA m c] at e
  exact e

/-- The second stack: the state gradient behind each chunk, the chunks taken last to first. -/
theorem grads (n : Fin 33) (h : Fin 4) (a b : Fin 128) :
    gp m c (ix5 n 0 h a b) = Scan.carried (FwdRefHost.v103 (F := Ideal)) (RefHost.v153 (ct m c) (q m c)) RefLoop1.order h a b (32 - n.val) := by
  have e := RefLoop1.stack (RefRun.entryB m) c (RefRun.counterB m c) (fun h a b => by
    rw [show RefRun.entryB m c (Proc.devRef .tc main_v159_3) = _ from zeroB m c]
    exact Ideal.ofBits_zero_f32) (32 - n.val) (by omega) h a b
  rw [show RefLoop1.order (32 - n.val) = n from Fin.ext (by show 32 - (32 - n.val) = n.val; have := n.isLt; omega),
    show RefRun.entryB m c (Proc.devRef .tc main_v159_1) = _ from factorB m c,
    show RefRun.entryB m c (Proc.devRef .tc main_v159_0) = _ from slotsB m c] at e
  exact e

theorem v33_beyond : beyond m c (Proc.devRef .tc main_v33) = FwdRefHost.v30 (F := Ideal) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v33_eq _
theorem v36_beyond : beyond m c (Proc.devRef .tc main_v36) = FwdRefHost.v33 (F := Ideal) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v36_eq _
theorem v40_beyond : beyond m c (Proc.devRef .tc main_v40) = FwdRefHost.v33 (F := Ideal) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v40_eq _
theorem v43_beyond : beyond m c (Proc.devRef .tc main_v43) = FwdRefHost.v30 (F := Ideal) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v43_eq _
theorem v65_beyond : beyond m c (Proc.devRef .tc main_v65) = FwdRefHost.v30 (F := Ideal) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v65_eq _
theorem v68_beyond : beyond m c (Proc.devRef .tc main_v68) = FwdRefHost.v33 (F := Ideal) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v68_eq _
theorem v72_beyond : beyond m c (Proc.devRef .tc main_v72) = FwdRefHost.v33 (F := Ideal) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v72_eq _
theorem v75_beyond : beyond m c (Proc.devRef .tc main_v75) = FwdRefHost.v30 (F := Ideal) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v75_eq _
theorem v80_beyond : beyond m c (Proc.devRef .tc main_v80) = FwdRefHost.v77 (q m c) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v80_eq _ rfl
theorem v81_beyond : beyond m c (Proc.devRef .tc main_v81) = FwdRefHost.v78 (k m c) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v81_eq _ rfl
theorem v82_beyond : beyond m c (Proc.devRef .tc main_v82) = FwdRefHost.v79 (v m c) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v82_eq _ rfl
theorem v102_beyond : beyond m c (Proc.devRef .tc main_v102) = FwdRefHost.v99 (F := Ideal) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v102_eq _
theorem v104_beyond : beyond m c (Proc.devRef .tc main_v104) = FwdRefHost.v101 (k m c) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v104_eq _ rfl
theorem v131_beyond : beyond m c (Proc.devRef .tc main_v131) = FwdRefHost.v128 (F := Ideal) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v131_eq _
theorem v133_beyond : beyond m c (Proc.devRef .tc main_v133) = FwdRefHost.v130 (q m c) (k m c) := by
  rw [beyond_keep m c _ (by decide) (by decide) (by decide) (by decide) (by decide) (by decide), between_eq, RefHost.Mid.ordered.kept _ (by decide), behind_keep m c _ (by decide) (by decide) (by decide) (by decide) (by decide), before_eq]
  exact RefHost.Pre.v133_eq _ rfl rfl
theorem v151_beyond : beyond m c (Proc.devRef .tc main_v151) = RefHost.v151 (ct m c) := by
  rw [beyond_keep m c _ (by decide) (by decide) (by decide) (by decide) (by decide) (by decide), between_eq]
  exact RefHost.Mid.v151_eq _ (arg3_behind m c)
theorem v156_beyond : beyond m c (Proc.devRef .tc main_v156) = RefHost.v156 (ct m c) (sp m c) := by
  rw [beyond_keep m c _ (by decide) (by decide) (by decide) (by decide) (by decide) (by decide), between_eq]
  exact RefHost.Mid.v156_eq _ (arg3_behind m c) (v129_behind m c) rfl

theorem dq_final : final m c (Proc.devRef .tc main_v228) = RefHost.v228 (ct m c) (sp m c) (v m c) (k m c) := by
  rw [final_eq]
  exact RefHost.Post.v228_eq _ (v33_beyond m c) (v36_beyond m c) (v40_beyond m c) (v43_beyond m c) (v81_beyond m c) (v82_beyond m c) (v131_beyond m c) (v151_beyond m c) (v156_beyond m c)
theorem dk_final : final m c (Proc.devRef .tc main_v232) = RefHost.v232 (ct m c) (v m c) (q m c) (gp m c) := by
  rw [final_eq]
  exact RefHost.Post.v232_eq _ (v65_beyond m c) (v68_beyond m c) (v72_beyond m c) (v75_beyond m c) (v80_beyond m c) (v82_beyond m c) (v102_beyond m c) (v131_beyond m c) (v151_beyond m c) rfl
theorem dv_final : final m c (Proc.devRef .tc main_v236) = RefHost.v236 (ct m c) (q m c) (k m c) (gp m c) := by
  rw [final_eq]
  exact RefHost.Post.v236_eq _ (v104_beyond m c) (v133_beyond m c) (v151_beyond m c) rfl

/-- The reference's run. -/
theorem run : θ_run (defs (F := Ideal)) (onTc (τ := τ) (main (F := Ideal))) ⟨m, fun _ => 0, ρ⟩ (fun r => ∀ c : Dev nD,
      r.2.mem ((c.tc : Thread nD τ).loc main_v228) = RefHost.v228 (ct m c) (sp m c) (v m c) (k m c)
      ∧ r.2.mem ((c.tc : Thread nD τ).loc main_v232) = RefHost.v232 (ct m c) (v m c) (q m c) (gp m c)
      ∧ r.2.mem ((c.tc : Thread nD τ).loc main_v236) = RefHost.v236 (ct m c) (q m c) (k m c) (gp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_v228 rfl).trans (dq_final m c), (h c main_v232 rfl).trans (dk_final m c), (h c main_v236 rfl).trans (dv_final m c),
      (h c main_arg0 rfl).trans (arg0_kept m c), (h c main_arg1 rfl).trans (arg1_kept m c), (h c main_arg2 rfl).trans (arg2_kept m c),
      (h c main_arg3 rfl).trans (arg3_kept m c)⟩) (RefRun.run m ρ)

end

instance : Cert.ReferenceIdeal.Facts := Cert.ReferenceIdeal.Gen.facts

theorem quiescent : Cert.quiescent_ReferenceIdeal := fun m g _ =>
  (θ_run defs _ _).mono (fun r h => ⟨fun c => (h c).2.2.2, sem_eq_zero_of_no_sems (by decide) r.2⟩) (run m g)

end Cert.RefClaim

end
-- ==== Proof.FwdBlock.lean ====
/- What ONE POINT of the forward retention's grid leaves in its blocks. A point takes three chunks of 128 positions; per
   chunk and head it works on 128x128 tiles: the masked scores against the values plus the decayed queries against the
   carried state (`outTile`), and the next state (`stepTile`). The blocks that the point leaves are the tiles side by side
   (`outBlock`, `statesBlock`, `nextBlock`) over the state that it starts from: the zero fill at the first chunk, what
   the point before left otherwise. -/
module

public import proofs.«01_k».proof.Proof.Gen.FwdIdeal.Frame
public import Idealize.ShloMosaic.Lib.ValueIdx
public import Idealize.ShloMosaic.Lib.Pipeline.Value

@[expose] public section

set_option maxRecDepth 16384

noncomputable section

namespace Cert.FwdBlock

open Idealize.ShloMosaic Idealize.ShloMosaic.TcCoe Idealize.ShloMosaic.Tactic Idealize.ShloMosaic.ValueIdx
open Cert.FwdIdeal Cert.FwdIdeal.Gen

variable {F : FTy → Type} [FloatOps F]

/-! ## The tiles -/

/-- The masked scores of a chunk: `q kᵀ` times the decay mask. -/
def scoreTile (q k : Vec F S128x128 .bf16) (mask : Vec F S128x128 .f32) : Vec F S128x128 .bf16 :=
  truncf .bf16 (mulf (matmul dot_S128x128_S128x128_S128x128_1_1_0_0_n_n none q k (constant S128x128 .f32 0x00000000#32)) mask) bitsLt_bf16_f32

/-- The retention of a chunk: the scores against the values, plus the decayed queries against the state. -/
def outTile (q k v : Vec F S128x128 .bf16) (mask qdec : Vec F S128x128 .f32) (s : Vec F S128x128 .f32) : Vec F S128x128 .bf16 :=
  truncf .bf16 (addf
    (matmul dot_S128x128_S128x128_S128x128_1_0_0_1_n_n none (scoreTile q k mask) v (constant S128x128 .f32 0x00000000#32))
    (matmul dot_S128x128_S128x128_S128x128_1_0_0_1_n_n none (truncf .bf16 (mulf (extf .f32 q bitsLt_bf16_f32) qdec) bitsLt_bf16_f32)
      (truncf .bf16 s bitsLt_bf16_f32) (constant S128x128 .f32 0x00000000#32))) bitsLt_bf16_f32

/-- The state after a chunk: the decayed state plus the decayed keys against the values. -/
def stepTile (k v : Vec F S128x128 .bf16) (kdec cdec : Vec F S128x128 .f32) (s : Vec F S128x128 .f32) : Vec F S128x128 .f32 :=
  addf (mulf s cdec) (matmul dot_S128x128_S128x128_S128x128_0_0_1_1_n_n none
    (truncf .bf16 (mulf (extf .f32 k bitsLt_bf16_f32) kdec) bitsLt_bf16_f32) v (constant S128x128 .f32 0x00000000#32))

/-- Rows `128 j …` and columns `128 h …` of a block of three chunks and four heads. -/
def tile {e : EltTy} (x : Vec F S384x512 e) (j h : ℕ) (hj : ∀ a, ![128 * j, 128 * h] a + S128x128.size a ≤ S384x512.size a) : Vec F S128x128 e :=
  shapeCast S128x128 (View.ld x (Rect.unit ![128 * j, 128 * h] S128x128.size hj)) shapeCasts_S128x128_S128x128

/-- Table `i` of head `h` of the decay tables. -/
def decTile (x : Vec F S4x4x128x128 .f32) (h i : ℕ) (hi : ∀ a, ![h, i, 0, 0] a + S1x1x128x128.size a ≤ S4x4x128x128.size a) : Vec F S128x128 .f32 :=
  shapeCast S128x128 (View.ld x (Rect.unit ![h, i, 0, 0] S1x1x128x128.size hi)) shapeCasts_S1x1x128x128_S128x128

/-- The state of head `h`. -/
def headTile (x : Vec F S4x128x128 .f32) (h : ℕ) (hh : ∀ a, ![h, 0, 0] a + S1x128x128.size a ≤ S4x128x128.size a) : Vec F S128x128 .f32 :=
  shapeCast S128x128 (View.ld x (Rect.unit ![h, 0, 0] S1x128x128.size hh)) shapeCasts_S1x128x128_S128x128

theorem tile_ok {j h : ℕ} (hj : j < 3) (hh : h < 4) : ∀ a, ![128 * j, 128 * h] a + S128x128.size a ≤ S384x512.size a := by
  intro a; fin_cases a
  · show 128 * j + 128 ≤ 384; omega
  · show 128 * h + 128 ≤ 512; omega
theorem dec_ok {h i : ℕ} (hh : h < 4) (hi : i < 4) : ∀ a, ![h, i, 0, 0] a + S1x1x128x128.size a ≤ S4x4x128x128.size a := by
  intro a; fin_cases a
  · show h + 1 ≤ 4; omega
  · show i + 1 ≤ 4; omega
  · show 0 + 128 ≤ 128; omega
  · show 0 + 128 ≤ 128; omega
theorem head_ok {h : ℕ} (hh : h < 4) : ∀ a, ![h, 0, 0] a + S1x128x128.size a ≤ S4x128x128.size a := by
  intro a; fin_cases a
  · show h + 1 ≤ 4; omega
  · show 0 + 128 ≤ 128; omega
  · show 0 + 128 ≤ 128; omega

/-- The state of head `h` after `j` of the point's chunks, over the states `s0`. -/
def stateOf (x1 x2 : Vec F S384x512 .bf16) (x3 : Vec F S4x4x128x128 .f32) (s0 : Vec F S4x128x128 .f32) (h : ℕ) (hh : h < 4) : (j : ℕ) → j ≤ 3 → Vec F S128x128 .f32
  | 0, _ => headTile s0 h (head_ok hh)
  | j + 1, hj => stepTile (tile x1 j h (tile_ok hj hh)) (tile x2 j h (tile_ok hj hh)) (decTile x3 h 1 (dec_ok hh (by omega))) (decTile x3 h 3 (dec_ok hh (by omega)))
      (stateOf x1 x2 x3 s0 h hh j (by omega))

/-- The retention of chunk `j` and head `h`. -/
def outOf (x0 x1 x2 : Vec F S384x512 .bf16) (x3 : Vec F S4x4x128x128 .f32) (s0 : Vec F S4x128x128 .f32) (j h : ℕ) (hj : j < 3) (hh : h < 4) : Vec F S128x128 .bf16 :=
  outTile (tile x0 j h (tile_ok hj hh)) (tile x1 j h (tile_ok hj hh)) (tile x2 j h (tile_ok hj hh)) (decTile x3 h 0 (dec_ok hh (by omega))) (decTile x3 h 2 (dec_ok hh (by omega)))
    (stateOf x1 x2 x3 s0 h hh j (by omega))

/-- The point's block of the retention. -/
def outBlock (x0 x1 x2 : Vec F S384x512 .bf16) (x3 : Vec F S4x4x128x128 .f32) (s0 : Vec F S4x128x128 .f32) : Vec F S384x512 .bf16 :=
  fun y => outOf x0 x1 x2 x3 s0 ((y 0).val / 128) ((y 1).val / 128)
    (by have : (y 0).val < 384 := (y 0).isLt; omega) (by have : (y 1).val < 512 := (y 1).isLt; omega)
    (ix2 ⟨(y 0).val % 128, Nat.mod_lt _ (by omega)⟩ ⟨(y 1).val % 128, Nat.mod_lt _ (by omega)⟩)

/-- The point's block of the states that its chunks start from. -/
def statesBlock (x1 x2 : Vec F S384x512 .bf16) (x3 : Vec F S4x4x128x128 .f32) (s0 : Vec F S4x128x128 .f32) : Vec F S4x3x128x128 .bf16 :=
  fun y => truncf .bf16 (stateOf x1 x2 x3 s0 (y 0).val (y 0).isLt (y 1).val (Nat.le_of_lt (y 1).isLt)) bitsLt_bf16_f32 (ix2 (y 2) (y 3))

/-- The states that the point leaves. -/
def nextBlock (x1 x2 : Vec F S384x512 .bf16) (x3 : Vec F S4x4x128x128 .f32) (s0 : Vec F S4x128x128 .f32) : Vec F S4x128x128 .f32 :=
  fun y => stateOf x1 x2 x3 s0 (y 0).val (y 0).isLt 3 (Nat.le_refl 3) (ix2 (y 1) (y 2))

/-! ## The pieces that a point stores -/

/-- The twelve stores into the block of the retention, the last first. -/
def outPieces (x0 x1 x2 : Vec F S384x512 .bf16) (x3 : Vec F S4x4x128x128 .f32) (s0 : Vec F S4x128x128 .f32) : List (View.Piece (Elt F) S384x512 .bf16) :=
  [⟨Rect.unit ![256, 384] S128x128.size inb_S384x512_S128x128_256_384, outOf x0 x1 x2 x3 s0 2 3 (by omega) (by omega)⟩,
   ⟨Rect.unit ![256, 256] S128x128.size inb_S384x512_S128x128_256_256, outOf x0 x1 x2 x3 s0 2 2 (by omega) (by omega)⟩,
   ⟨Rect.unit ![256, 128] S128x128.size inb_S384x512_S128x128_256_128, outOf x0 x1 x2 x3 s0 2 1 (by omega) (by omega)⟩,
   ⟨Rect.unit ![256, 0] S128x128.size inb_S384x512_S128x128_256_0, outOf x0 x1 x2 x3 s0 2 0 (by omega) (by omega)⟩,
   ⟨Rect.unit ![128, 384] S128x128.size inb_S384x512_S128x128_128_384, outOf x0 x1 x2 x3 s0 1 3 (by omega) (by omega)⟩,
   ⟨Rect.unit ![128, 256] S128x128.size inb_S384x512_S128x128_128_256, outOf x0 x1 x2 x3 s0 1 2 (by omega) (by omega)⟩,
   ⟨Rect.unit ![128, 128] S128x128.size inb_S384x512_S128x128_128_128, outOf x0 x1 x2 x3 s0 1 1 (by omega) (by omega)⟩,
   ⟨Rect.unit ![128, 0] S128x128.size inb_S384x512_S128x128_128_0, outOf x0 x1 x2 x3 s0 1 0 (by omega) (by omega)⟩,
   ⟨Rect.unit ![0, 384] S128x128.size inb_S384x512_S128x128_0_384, outOf x0 x1 x2 x3 s0 0 3 (by omega) (by omega)⟩,
   ⟨Rect.unit ![0, 256] S128x128.size inb_S384x512_S128x128_0_256, outOf x0 x1 x2 x3 s0 0 2 (by omega) (by omega)⟩,
   ⟨Rect.unit ![0, 128] S128x128.size inb_S384x512_S128x128_0_128, outOf x0 x1 x2 x3 s0 0 1 (by omega) (by omega)⟩,
   ⟨Rect.unit ![0, 0] S128x128.size inb_S384x512_S128x128_0_0, outOf x0 x1 x2 x3 s0 0 0 (by omega) (by omega)⟩]

/-- The twelve stores into the block of the saved states, the last first. -/
def statesPieces (x1 x2 : Vec F S384x512 .bf16) (x3 : Vec F S4x4x128x128 .f32) (s0 : Vec F S4x128x128 .f32) : List (View.Piece (Elt F) S4x3x128x128 .bf16) :=
  [⟨Rect.unit ![3, 2, 0, 0] S1x1x128x128.size inb_S4x3x128x128_S1x1x128x128_3_2_0_0, shapeCast S1x1x128x128 (truncf .bf16 (stateOf x1 x2 x3 s0 3 (by omega) 2 (by omega)) bitsLt_bf16_f32) shapeCasts_S128x128_S1x1x128x128⟩,
   ⟨Rect.unit ![2, 2, 0, 0] S1x1x128x128.size inb_S4x3x128x128_S1x1x128x128_2_2_0_0, shapeCast S1x1x128x128 (truncf .bf16 (stateOf x1 x2 x3 s0 2 (by omega) 2 (by omega)) bitsLt_bf16_f32) shapeCasts_S128x128_S1x1x128x128⟩,
   ⟨Rect.unit ![1, 2, 0, 0] S1x1x128x128.size inb_S4x3x128x128_S1x1x128x128_1_2_0_0, shapeCast S1x1x128x128 (truncf .bf16 (stateOf x1 x2 x3 s0 1 (by omega) 2 (by omega)) bitsLt_bf16_f32) shapeCasts_S128x128_S1x1x128x128⟩,
   ⟨Rect.unit ![0, 2, 0, 0] S1x1x128x128.size inb_S4x3x128x128_S1x1x128x128_0_2_0_0, shapeCast S1x1x128x128 (truncf .bf16 (stateOf x1 x2 x3 s0 0 (by omega) 2 (by omega)) bitsLt_bf16_f32) shapeCasts_S128x128_S1x1x128x128⟩,
   ⟨Rect.unit ![3, 1, 0, 0] S1x1x128x128.size inb_S4x3x128x128_S1x1x128x128_3_1_0_0, shapeCast S1x1x128x128 (truncf .bf16 (stateOf x1 x2 x3 s0 3 (by omega) 1 (by omega)) bitsLt_bf16_f32) shapeCasts_S128x128_S1x1x128x128⟩,
   ⟨Rect.unit ![2, 1, 0, 0] S1x1x128x128.size inb_S4x3x128x128_S1x1x128x128_2_1_0_0, shapeCast S1x1x128x128 (truncf .bf16 (stateOf x1 x2 x3 s0 2 (by omega) 1 (by omega)) bitsLt_bf16_f32) shapeCasts_S128x128_S1x1x128x128⟩,
   ⟨Rect.unit ![1, 1, 0, 0] S1x1x128x128.size inb_S4x3x128x128_S1x1x128x128_1_1_0_0, shapeCast S1x1x128x128 (truncf .bf16 (stateOf x1 x2 x3 s0 1 (by omega) 1 (by omega)) bitsLt_bf16_f32) shapeCasts_S128x128_S1x1x128x128⟩,
   ⟨Rect.unit ![0, 1, 0, 0] S1x1x128x128.size inb_S4x3x128x128_S1x1x128x128_0_1_0_0, shapeCast S1x1x128x128 (truncf .bf16 (stateOf x1 x2 x3 s0 0 (by omega) 1 (by omega)) bitsLt_bf16_f32) shapeCasts_S128x128_S1x1x128x128⟩,
   ⟨Rect.unit ![3, 0, 0, 0] S1x1x128x128.size inb_S4x3x128x128_S1x1x128x128_3_0_0_0, shapeCast S1x1x128x128 (truncf .bf16 (stateOf x1 x2 x3 s0 3 (by omega) 0 (by omega)) bitsLt_bf16_f32) shapeCasts_S128x128_S1x1x128x128⟩,
   ⟨Rect.unit ![2, 0, 0, 0] S1x1x128x128.size inb_S4x3x128x128_S1x1x128x128_2_0_0_0, shapeCast S1x1x128x128 (truncf .bf16 (stateOf x1 x2 x3 s0 2 (by omega) 0 (by omega)) bitsLt_bf16_f32) shapeCasts_S128x128_S1x1x128x128⟩,
   ⟨Rect.unit ![1, 0, 0, 0] S1x1x128x128.size inb_S4x3x128x128_S1x1x128x128_1_0_0_0, shapeCast S1x1x128x128 (truncf .bf16 (stateOf x1 x2 x3 s0 1 (by omega) 0 (by omega)) bitsLt_bf16_f32) shapeCasts_S128x128_S1x1x128x128⟩,
   ⟨Rect.unit ![0, 0, 0, 0] S1x1x128x128.size inb_S4x3x128x128_S1x1x128x128_0_0_0_0, shapeCast S1x1x128x128 (truncf .bf16 (stateOf x1 x2 x3 s0 0 (by omega) 0 (by omega)) bitsLt_bf16_f32) shapeCasts_S128x128_S1x1x128x128⟩]

/-- The four stores of the carried states, the last first. -/
def nextPieces (x1 x2 : Vec F S384x512 .bf16) (x3 : Vec F S4x4x128x128 .f32) (s0 : Vec F S4x128x128 .f32) : List (View.Piece (Elt F) S4x128x128 .f32) :=
  [⟨Rect.unit ![3, 0, 0] S1x128x128.size inb_S4x128x128_S1x128x128_3_0_0, shapeCast S1x128x128 (stateOf x1 x2 x3 s0 3 (by omega) 3 (by omega)) shapeCasts_S128x128_S1x128x128⟩,
   ⟨Rect.unit ![2, 0, 0] S1x128x128.size inb_S4x128x128_S1x128x128_2_0_0, shapeCast S1x128x128 (stateOf x1 x2 x3 s0 2 (by omega) 3 (by omega)) shapeCasts_S128x128_S1x128x128⟩,
   ⟨Rect.unit ![1, 0, 0] S1x128x128.size inb_S4x128x128_S1x128x128_1_0_0, shapeCast S1x128x128 (stateOf x1 x2 x3 s0 1 (by omega) 3 (by omega)) shapeCasts_S128x128_S1x128x128⟩,
   ⟨Rect.unit ![0, 0, 0] S1x128x128.size inb_S4x128x128_S1x128x128_0_0_0, shapeCast S1x128x128 (stateOf x1 x2 x3 s0 0 (by omega) 3 (by omega)) shapeCasts_S128x128_S1x128x128⟩]

/-- A load from a scratch that one zero fill has covered reads the fill. -/
theorem scratch_zero (v : View sig .tc .vmem S4x128x128 .f32) (r : Rect S4x128x128) :
    v.readCov [(⟨Rect.unit ![0, 0, 0] ![4, 128, 128] inb_S4x128x128_S4x128x128_0_0_0, k0_pay5⟩ : View.Piece (Elt F) S4x128x128 .f32)] r.toLoadRect
      = View.ld k0_pay5 r := by
  rw [View.readCov_eq_canon', View.canon_unit_zero (S := S4x128x128) (off := ![0, 0, 0]) (by funext a; fin_cases a <;> rfl)]

set_option maxHeartbeats 2000000 in
theorem out_A_4 (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S4x4x128x128 .f32) (harg4 : arg4.IsWhole) (arg5 : Memref sig .tc .vmem S384x512 .bf16) (harg5 : arg5.IsWhole) (arg6 : Memref sig .tc .vmem S4x3x128x128 .bf16) (harg6 : arg6.IsWhole) (arg7 : Memref sig .tc .vmem S4x128x128 .f32) (harg7 : arg7.IsWhole) (hc0 : cond0_0 i)
    (x0 : Vec F S384x512 .bf16) (x1 : Vec F S384x512 .bf16) (x2 : Vec F S384x512 .bf16) (x3 : Vec F S4x4x128x128 .f32) :
    out0_A_4 c i arg1 harg1 arg2 harg2 arg3 harg3 arg4 harg4 arg5 harg5 arg6 harg6 arg7 harg7 hc0 x0 x1 x2 x3 = View.canon (outPieces x0 x1 x2 x3 k0_pay5) := by
  unfold out0_A_4
  rw [View.read_writes_junk_eq_canon]
  unfold kernelRun0_A
  dsimp only
  sl_unfold_words
  simp only [View.readAt_eq_ld, harg1.read_unread, harg2.read_unread, harg3.read_unread, harg4.read_unread]
  simp only [scratch_zero]
  rfl

set_option maxHeartbeats 2000000 in
theorem out_A_5 (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S4x4x128x128 .f32) (harg4 : arg4.IsWhole) (arg5 : Memref sig .tc .vmem S384x512 .bf16) (harg5 : arg5.IsWhole) (arg6 : Memref sig .tc .vmem S4x3x128x128 .bf16) (harg6 : arg6.IsWhole) (arg7 : Memref sig .tc .vmem S4x128x128 .f32) (harg7 : arg7.IsWhole) (hc0 : cond0_0 i)
    (x0 : Vec F S384x512 .bf16) (x1 : Vec F S384x512 .bf16) (x2 : Vec F S384x512 .bf16) (x3 : Vec F S4x4x128x128 .f32) :
    out0_A_5 c i arg1 harg1 arg2 harg2 arg3 harg3 arg4 harg4 arg5 harg5 arg6 harg6 arg7 harg7 hc0 x0 x1 x2 x3 = View.canon (statesPieces x1 x2 x3 k0_pay5) := by
  unfold out0_A_5
  rw [View.read_writes_junk_eq_canon]
  unfold kernelRun0_A
  dsimp only
  sl_unfold_words
  simp only [View.readAt_eq_ld, harg1.read_unread, harg2.read_unread, harg3.read_unread, harg4.read_unread]
  simp only [scratch_zero]
  rfl

set_option maxHeartbeats 2000000 in
theorem sout_A (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S4x4x128x128 .f32) (harg4 : arg4.IsWhole) (arg5 : Memref sig .tc .vmem S384x512 .bf16) (harg5 : arg5.IsWhole) (arg6 : Memref sig .tc .vmem S4x3x128x128 .bf16) (harg6 : arg6.IsWhole) (arg7 : Memref sig .tc .vmem S4x128x128 .f32) (harg7 : arg7.IsWhole) (hc0 : cond0_0 i)
    (x0 : Vec F S384x512 .bf16) (x1 : Vec F S384x512 .bf16) (x2 : Vec F S384x512 .bf16) (x3 : Vec F S4x4x128x128 .f32) :
    sout0_A_0 c i arg1 harg1 arg2 harg2 arg3 harg3 arg4 harg4 arg5 harg5 arg6 harg6 arg7 harg7 hc0 x0 x1 x2 x3 = View.canon (nextPieces x1 x2 x3 k0_pay5 ++ [⟨Rect.unit ![0, 0, 0] S4x128x128.size inb_S4x128x128_S4x128x128_0_0_0, k0_pay5⟩]) := by
  unfold sout0_A_0
  rw [View.read_writes_junk_eq_canon]
  unfold kernelRun0_A
  dsimp only
  sl_unfold_words
  simp only [View.readAt_eq_ld, harg1.read_unread, harg2.read_unread, harg3.read_unread, harg4.read_unread]
  simp only [scratch_zero]
  rfl

set_option maxHeartbeats 2000000 in
theorem out_B_4 (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S4x4x128x128 .f32) (harg4 : arg4.IsWhole) (arg5 : Memref sig .tc .vmem S384x512 .bf16) (harg5 : arg5.IsWhole) (arg6 : Memref sig .tc .vmem S4x3x128x128 .bf16) (harg6 : arg6.IsWhole) (arg7 : Memref sig .tc .vmem S4x128x128 .f32) (harg7 : arg7.IsWhole) (hc0 : ¬cond0_0 i)
    (x0 : Vec F S384x512 .bf16) (x1 : Vec F S384x512 .bf16) (x2 : Vec F S384x512 .bf16) (x3 : Vec F S4x4x128x128 .f32) (xs0 : Vec F S4x128x128 .f32) :
    out0_B_4 c i arg1 harg1 arg2 harg2 arg3 harg3 arg4 harg4 arg5 harg5 arg6 harg6 arg7 harg7 hc0 x0 x1 x2 x3 xs0 = View.canon (outPieces x0 x1 x2 x3 xs0) := by
  unfold out0_B_4
  rw [View.read_writes_junk_eq_canon]
  unfold kernelRun0_B
  dsimp only
  sl_unfold_words
  simp only [View.readAt_eq_ld, harg1.read_unread, harg2.read_unread, harg3.read_unread, harg4.read_unread, harg7.read_unread]

  rfl

set_option maxHeartbeats 2000000 in
theorem out_B_5 (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S4x4x128x128 .f32) (harg4 : arg4.IsWhole) (arg5 : Memref sig .tc .vmem S384x512 .bf16) (harg5 : arg5.IsWhole) (arg6 : Memref sig .tc .vmem S4x3x128x128 .bf16) (harg6 : arg6.IsWhole) (arg7 : Memref sig .tc .vmem S4x128x128 .f32) (harg7 : arg7.IsWhole) (hc0 : ¬cond0_0 i)
    (x0 : Vec F S384x512 .bf16) (x1 : Vec F S384x512 .bf16) (x2 : Vec F S384x512 .bf16) (x3 : Vec F S4x4x128x128 .f32) (xs0 : Vec F S4x128x128 .f32) :
    out0_B_5 c i arg1 harg1 arg2 harg2 arg3 harg3 arg4 harg4 arg5 harg5 arg6 harg6 arg7 harg7 hc0 x0 x1 x2 x3 xs0 = View.canon (statesPieces x1 x2 x3 xs0) := by
  unfold out0_B_5
  rw [View.read_writes_junk_eq_canon]
  unfold kernelRun0_B
  dsimp only
  sl_unfold_words
  simp only [View.readAt_eq_ld, harg1.read_unread, harg2.read_unread, harg3.read_unread, harg4.read_unread, harg7.read_unread]

  rfl

set_option maxHeartbeats 2000000 in
theorem sout_B (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S4x4x128x128 .f32) (harg4 : arg4.IsWhole) (arg5 : Memref sig .tc .vmem S384x512 .bf16) (harg5 : arg5.IsWhole) (arg6 : Memref sig .tc .vmem S4x3x128x128 .bf16) (harg6 : arg6.IsWhole) (arg7 : Memref sig .tc .vmem S4x128x128 .f32) (harg7 : arg7.IsWhole) (hc0 : ¬cond0_0 i)
    (x0 : Vec F S384x512 .bf16) (x1 : Vec F S384x512 .bf16) (x2 : Vec F S384x512 .bf16) (x3 : Vec F S4x4x128x128 .f32) (xs0 : Vec F S4x128x128 .f32) :
    sout0_B_0 c i arg1 harg1 arg2 harg2 arg3 harg3 arg4 harg4 arg5 harg5 arg6 harg6 arg7 harg7 hc0 x0 x1 x2 x3 xs0 = View.canon (nextPieces x1 x2 x3 xs0) := by
  unfold sout0_B_0
  rw [View.read_writes_junk_eq_canon]
  unfold kernelRun0_B
  dsimp only
  sl_unfold_words
  simp only [View.readAt_eq_ld, harg1.read_unread, harg2.read_unread, harg3.read_unread, harg4.read_unread, harg7.read_unread]
  rfl

end Cert.FwdBlock

end
-- ==== Proof.FwdBlocks.lean ====
/- The blocks that one point of the forward retention's grid leaves, as functions of an index: the stores' tiles side by
   side. -/
module

public import proofs.«01_k».proof.Proof.FwdBlock

@[expose] public section

set_option maxRecDepth 16384

noncomputable section

namespace Cert.FwdBlock

open Idealize.ShloMosaic Idealize.ShloMosaic.TcCoe Idealize.ShloMosaic.ValueIdx
open Cert.FwdIdeal Cert.FwdIdeal.Gen

variable {F : FTy → Type} [FloatOps F]

/-- What pieces behind covering ones hold does not matter. -/
theorem canon_append {S : Shape} {e : EltTy} (L L' : List (View.Piece (Elt F) S e)) {y : S.Idx} (h : ∃ p ∈ L, y ∈ p.1.set) :
    View.canon (L ++ L') y = View.canon L y := by
  induction L with
  | nil => obtain ⟨p, hp, _⟩ := h; cases hp
  | cons p L ih =>
    by_cases hm : y ∈ p.1.set
    · obtain ⟨x, rfl⟩ := p.1.exists_idx_of_mem hm
      obtain ⟨r, w⟩ := p
      exact (View.canon_cons_emb r w _ x).trans (View.canon_cons_emb r w _ x).symm
    · rw [List.cons_append, View.canon_cons_of_not_mem _ _ hm, View.canon_cons_of_not_mem _ _ hm]
      refine ih ?_
      obtain ⟨q, hq, hy⟩ := h
      rcases List.mem_cons.mp hq with rfl | hq'
      · exact absurd hy hm
      · exact ⟨q, hq', hy⟩

/-- A block's index lies in a tile's rectangle when its coordinates do. -/
theorem mem_tile {y : S384x512.Idx} (j h : ℕ) (ej : (y 0).val / 128 = j) (eh : (y 1).val / 128 = h)
    (hb : ∀ a, ![128 * j, 128 * h] a + S128x128.size a ≤ S384x512.size a) : y ∈ (Rect.unit (s := S384x512) ![128 * j, 128 * h] S128x128.size hb).set := by
  refine Rect.mem_set_unit.mpr fun a => ?_
  match a with
  | ⟨0, _⟩ => exact ⟨by show 128 * j ≤ (y 0).val; omega, by show (y 0).val < 128 * j + 128; omega⟩
  | ⟨1, _⟩ => exact ⟨by show 128 * h ≤ (y 1).val; omega, by show (y 1).val < 128 * h + 128; omega⟩

theorem mem_state {y : S4x3x128x128.Idx} (j h : ℕ) (ej : (y 1).val = j) (eh : (y 0).val = h)
    (hb : ∀ a, ![h, j, 0, 0] a + S1x1x128x128.size a ≤ S4x3x128x128.size a) : y ∈ (Rect.unit (s := S4x3x128x128) ![h, j, 0, 0] S1x1x128x128.size hb).set := by
  refine Rect.mem_set_unit.mpr fun a => ?_
  match a with
  | ⟨0, _⟩ => exact ⟨by show h ≤ (y 0).val; omega, by show (y 0).val < h + 1; omega⟩
  | ⟨1, _⟩ => exact ⟨by show j ≤ (y 1).val; omega, by show (y 1).val < j + 1; omega⟩
  | ⟨2, _⟩ => exact ⟨by show 0 ≤ (y 2).val; omega, by show (y 2).val < 0 + 128; have : (y 2).val < 128 := (y 2).isLt; omega⟩
  | ⟨3, _⟩ => exact ⟨by show 0 ≤ (y 3).val; omega, by show (y 3).val < 0 + 128; have : (y 3).val < 128 := (y 3).isLt; omega⟩

theorem mem_next {y : S4x128x128.Idx} (h : ℕ) (eh : (y 0).val = h)
    (hb : ∀ a, ![h, 0, 0] a + S1x128x128.size a ≤ S4x128x128.size a) : y ∈ (Rect.unit (s := S4x128x128) ![h, 0, 0] S1x128x128.size hb).set := by
  refine Rect.mem_set_unit.mpr fun a => ?_
  match a with
  | ⟨0, _⟩ => exact ⟨by show h ≤ (y 0).val; omega, by show (y 0).val < h + 1; omega⟩
  | ⟨1, _⟩ => exact ⟨by show 0 ≤ (y 1).val; omega, by show (y 1).val < 0 + 128; have : (y 1).val < 128 := (y 1).isLt; omega⟩
  | ⟨2, _⟩ => exact ⟨by show 0 ≤ (y 2).val; omega, by show (y 2).val < 0 + 128; have : (y 2).val < 128 := (y 2).isLt; omega⟩

section
variable (x0 x1 x2 : Vec F S384x512 .bf16) (x3 : Vec F S4x4x128x128 .f32) (s0 : Vec F S4x128x128 .f32)

theorem outOf_congr {j h j' h' : ℕ} (ej : j = j') (eh : h = h') (hj : j < 3) (hh : h < 4) (hj' : j' < 3) (hh' : h' < 4) :
    outOf x0 x1 x2 x3 s0 j h hj hh = outOf x0 x1 x2 x3 s0 j' h' hj' hh' := by subst ej eh; rfl

theorem stateOf_congr {j h j' h' : ℕ} (ej : j = j') (eh : h = h') (hj : j ≤ 3) (hh : h < 4) (hj' : j' ≤ 3) (hh' : h' < 4) :
    stateOf x1 x2 x3 s0 h hh j hj = stateOf x1 x2 x3 s0 h' hh' j' hj' := by subst ej eh; rfl

/-- The store of chunk `j` and head `h` is that tile of the block. -/
theorem out_piece (j h : ℕ) (hj : j < 3) (hh : h < 4) (hb : ∀ a, ![128 * j, 128 * h] a + S128x128.size a ≤ S384x512.size a) (x : S128x128.Idx) :
    outOf x0 x1 x2 x3 s0 j h hj hh x = outBlock x0 x1 x2 x3 s0 ((Rect.unit (s := S384x512) ![128 * j, 128 * h] S128x128.size hb).emb x) := by
  have h0 : (x 0).val < 128 := (x 0).isLt
  have h1 : (x 1).val < 128 := (x 1).isLt
  have e0 : (((Rect.unit (s := S384x512) ![128 * j, 128 * h] S128x128.size hb).emb x) 0).val = 128 * j + (x 0).val := by show 128 * j + 1 * (x 0).val = _; omega
  have e1 : (((Rect.unit (s := S384x512) ![128 * j, 128 * h] S128x128.size hb).emb x) 1).val = 128 * h + (x 1).val := by show 128 * h + 1 * (x 1).val = _; omega
  unfold outBlock
  rw [outOf_congr x0 x1 x2 x3 s0 (j := _ / 128) (h := _ / 128) (j' := j) (h' := h) (by rw [e0]; omega) (by rw [e1]; omega) _ _ hj hh]
  congr 1
  refine (eq_ix2 x).trans (congrArg₂ ix2 (Fin.ext ?_) (Fin.ext ?_))
  · show (x 0).val = _ % 128; rw [e0]; omega
  · show (x 1).val = _ % 128; rw [e1]; omega

theorem states_piece (j h : ℕ) (hj : j < 3) (hh : h < 4) (hb : ∀ a, ![h, j, 0, 0] a + S1x1x128x128.size a ≤ S4x3x128x128.size a) (x : S1x1x128x128.Idx) :
    shapeCast S1x1x128x128 (truncf .bf16 (stateOf x1 x2 x3 s0 h hh j (Nat.le_of_lt hj)) bitsLt_bf16_f32) shapeCasts_S128x128_S1x1x128x128 x
      = statesBlock x1 x2 x3 s0 ((Rect.unit (s := S4x3x128x128) ![h, j, 0, 0] S1x1x128x128.size hb).emb x) := by
  have h0 : (x 0).val < 1 := (x 0).isLt
  have h1 : (x 1).val < 1 := (x 1).isLt
  have e0 : (((Rect.unit (s := S4x3x128x128) ![h, j, 0, 0] S1x1x128x128.size hb).emb x) 0).val = h + (x 0).val := by show h + 1 * (x 0).val = _; omega
  have e1 : (((Rect.unit (s := S4x3x128x128) ![h, j, 0, 0] S1x1x128x128.size hb).emb x) 1).val = j + (x 1).val := by show j + 1 * (x 1).val = _; omega
  have e2 : (((Rect.unit (s := S4x3x128x128) ![h, j, 0, 0] S1x1x128x128.size hb).emb x) 2).val = 0 + (x 2).val := by show 0 + 1 * (x 2).val = _; omega
  have e3 : (((Rect.unit (s := S4x3x128x128) ![h, j, 0, 0] S1x1x128x128.size hb).emb x) 3).val = 0 + (x 3).val := by show 0 + 1 * (x 3).val = _; omega
  refine (shapeCast_apply _ _ x (ix2 (x 2) (x 3)) (by
    rw [Shape.rowMajor_val_two, Shape.rowMajor_val_four]
    show (x 2).val * 128 + (x 3).val = (((x 0).val * 1 + (x 1).val) * 128 + (x 2).val) * 128 + (x 3).val
    omega)).trans ?_
  unfold statesBlock
  refine Eq.trans ?_ (congrArg (fun T : Vec F S128x128 .f32 => truncf .bf16 T bitsLt_bf16_f32 (ix2 _ _))
    (stateOf_congr x1 x2 x3 s0 (j := j) (h := h) (by rw [e1]; omega) (by rw [e0]; omega) (Nat.le_of_lt hj) hh _ _))
  exact congrArg (truncf .bf16 (stateOf x1 x2 x3 s0 h hh j (Nat.le_of_lt hj)) bitsLt_bf16_f32)
    (congrArg₂ ix2 (Fin.ext (by rw [e2]; omega)) (Fin.ext (by rw [e3]; omega)))

theorem next_piece (h : ℕ) (hh : h < 4) (hb : ∀ a, ![h, 0, 0] a + S1x128x128.size a ≤ S4x128x128.size a) (x : S1x128x128.Idx) :
    shapeCast S1x128x128 (stateOf x1 x2 x3 s0 h hh 3 (Nat.le_refl 3)) shapeCasts_S128x128_S1x128x128 x
      = nextBlock x1 x2 x3 s0 ((Rect.unit (s := S4x128x128) ![h, 0, 0] S1x128x128.size hb).emb x) := by
  have h0 : (x 0).val < 1 := (x 0).isLt
  have e0 : (((Rect.unit (s := S4x128x128) ![h, 0, 0] S1x128x128.size hb).emb x) 0).val = h + (x 0).val := by show h + 1 * (x 0).val = _; omega
  have e1 : (((Rect.unit (s := S4x128x128) ![h, 0, 0] S1x128x128.size hb).emb x) 1).val = 0 + (x 1).val := by show 0 + 1 * (x 1).val = _; omega
  have e2 : (((Rect.unit (s := S4x128x128) ![h, 0, 0] S1x128x128.size hb).emb x) 2).val = 0 + (x 2).val := by show 0 + 1 * (x 2).val = _; omega
  refine (shapeCast_apply _ _ x (ix2 (x 1) (x 2)) (by
    rw [Shape.rowMajor_val_two, Shape.rowMajor_val_three]
    show (x 1).val * 128 + (x 2).val = ((x 0).val * 128 + (x 1).val) * 128 + (x 2).val
    omega)).trans ?_
  unfold nextBlock
  refine Eq.trans ?_ (congrArg (fun T : Vec F S128x128 .f32 => T (ix2 _ _))
    (stateOf_congr x1 x2 x3 s0 (j := 3) (h := h) rfl (by rw [e0]; omega) (Nat.le_refl 3) hh _ _))
  exact congrArg (stateOf x1 x2 x3 s0 h hh 3 (Nat.le_refl 3))
    (congrArg₂ ix2 (Fin.ext (by rw [e1]; omega)) (Fin.ext (by rw [e2]; omega)))

/-- The block of the retention is its twelve stores. -/
theorem canon_out : View.canon (outPieces x0 x1 x2 x3 s0) = outBlock x0 x1 x2 x3 s0 := by
  funext y
  refine View.canon_apply_of_pieces (outBlock x0 x1 x2 x3 s0) _ ?_ y ?_
  · simp only [outPieces, List.forall_mem_cons]
    exact ⟨fun x => out_piece x0 x1 x2 x3 s0 2 3 (by omega) (by omega) (tile_ok (by omega) (by omega)) x, fun x => out_piece x0 x1 x2 x3 s0 2 2 (by omega) (by omega) (tile_ok (by omega) (by omega)) x, fun x => out_piece x0 x1 x2 x3 s0 2 1 (by omega) (by omega) (tile_ok (by omega) (by omega)) x, fun x => out_piece x0 x1 x2 x3 s0 2 0 (by omega) (by omega) (tile_ok (by omega) (by omega)) x, fun x => out_piece x0 x1 x2 x3 s0 1 3 (by omega) (by omega) (tile_ok (by omega) (by omega)) x, fun x => out_piece x0 x1 x2 x3 s0 1 2 (by omega) (by omega) (tile_ok (by omega) (by omega)) x, fun x => out_piece x0 x1 x2 x3 s0 1 1 (by omega) (by omega) (tile_ok (by omega) (by omega)) x, fun x => out_piece x0 x1 x2 x3 s0 1 0 (by omega) (by omega) (tile_ok (by omega) (by omega)) x, fun x => out_piece x0 x1 x2 x3 s0 0 3 (by omega) (by omega) (tile_ok (by omega) (by omega)) x, fun x => out_piece x0 x1 x2 x3 s0 0 2 (by omega) (by omega) (tile_ok (by omega) (by omega)) x, fun x => out_piece x0 x1 x2 x3 s0 0 1 (by omega) (by omega) (tile_ok (by omega) (by omega)) x, fun x => out_piece x0 x1 x2 x3 s0 0 0 (by omega) (by omega) (tile_ok (by omega) (by omega)) x, fun _ h => absurd h (List.not_mem_nil)⟩
  · have h0 : (y 0).val < 384 := (y 0).isLt
    have h1 : (y 1).val < 512 := (y 1).isLt
    have key : ∀ j < 3, ∀ h < 4, (y 0).val / 128 = j → (y 1).val / 128 = h → ∃ p ∈ outPieces x0 x1 x2 x3 s0, y ∈ p.1.set := by
      intro j hj h hh ej eh
      interval_cases j <;> interval_cases h
      · exact ⟨_, List.mem_of_getElem? (i := 11) rfl, mem_tile 0 0 ej eh (tile_ok (by omega) (by omega))⟩
      · exact ⟨_, List.mem_of_getElem? (i := 10) rfl, mem_tile 0 1 ej eh (tile_ok (by omega) (by omega))⟩
      · exact ⟨_, List.mem_of_getElem? (i := 9) rfl, mem_tile 0 2 ej eh (tile_ok (by omega) (by omega))⟩
      · exact ⟨_, List.mem_of_getElem? (i := 8) rfl, mem_tile 0 3 ej eh (tile_ok (by omega) (by omega))⟩
      · exact ⟨_, List.mem_of_getElem? (i := 7) rfl, mem_tile 1 0 ej eh (tile_ok (by omega) (by omega))⟩
      · exact ⟨_, List.mem_of_getElem? (i := 6) rfl, mem_tile 1 1 ej eh (tile_ok (by omega) (by omega))⟩
      · exact ⟨_, List.mem_of_getElem? (i := 5) rfl, mem_tile 1 2 ej eh (tile_ok (by omega) (by omega))⟩
      · exact ⟨_, List.mem_of_getElem? (i := 4) rfl, mem_tile 1 3 ej eh (tile_ok (by omega) (by omega))⟩
      · exact ⟨_, List.mem_of_getElem? (i := 3) rfl, mem_tile 2 0 ej eh (tile_ok (by omega) (by omega))⟩
      · exact ⟨_, List.mem_of_getElem? (i := 2) rfl, mem_tile 2 1 ej eh (tile_ok (by omega) (by omega))⟩
      · exact ⟨_, List.mem_of_getElem? (i := 1) rfl, mem_tile 2 2 ej eh (tile_ok (by omega) (by omega))⟩
      · exact ⟨_, List.mem_of_getElem? (i := 0) rfl, mem_tile 2 3 ej eh (tile_ok (by omega) (by omega))⟩
    exact key _ (by omega) _ (by omega) rfl rfl

/-- The block of the saved states is its twelve stores. -/
theorem canon_states : View.canon (statesPieces x1 x2 x3 s0) = statesBlock x1 x2 x3 s0 := by
  funext y
  refine View.canon_apply_of_pieces (statesBlock x1 x2 x3 s0) _ ?_ y ?_
  · simp only [statesPieces, List.forall_mem_cons]
    exact ⟨fun x => states_piece x1 x2 x3 s0 2 3 (by omega) (by omega) _ x, fun x => states_piece x1 x2 x3 s0 2 2 (by omega) (by omega) _ x, fun x => states_piece x1 x2 x3 s0 2 1 (by omega) (by omega) _ x, fun x => states_piece x1 x2 x3 s0 2 0 (by omega) (by omega) _ x, fun x => states_piece x1 x2 x3 s0 1 3 (by omega) (by omega) _ x, fun x => states_piece x1 x2 x3 s0 1 2 (by omega) (by omega) _ x, fun x => states_piece x1 x2 x3 s0 1 1 (by omega) (by omega) _ x, fun x => states_piece x1 x2 x3 s0 1 0 (by omega) (by omega) _ x, fun x => states_piece x1 x2 x3 s0 0 3 (by omega) (by omega) _ x, fun x => states_piece x1 x2 x3 s0 0 2 (by omega) (by omega) _ x, fun x => states_piece x1 x2 x3 s0 0 1 (by omega) (by omega) _ x, fun x => states_piece x1 x2 x3 s0 0 0 (by omega) (by omega) _ x, fun _ h => absurd h (List.not_mem_nil)⟩
  · have h0 : (y 0).val < 4 := (y 0).isLt
    have h1 : (y 1).val < 3 := (y 1).isLt
    have h2 : (y 2).val < 128 := (y 2).isLt
    have h3 : (y 3).val < 128 := (y 3).isLt
    have key : ∀ j < 3, ∀ h < 4, (y 1).val = j → (y 0).val = h → ∃ p ∈ statesPieces x1 x2 x3 s0, y ∈ p.1.set := by
      intro j hj h hh ej eh
      interval_cases j <;> interval_cases h
      · exact ⟨_, List.mem_of_getElem? (i := 11) rfl, mem_state 0 0 ej eh inb_S4x3x128x128_S1x1x128x128_0_0_0_0⟩
      · exact ⟨_, List.mem_of_getElem? (i := 10) rfl, mem_state 0 1 ej eh inb_S4x3x128x128_S1x1x128x128_1_0_0_0⟩
      · exact ⟨_, List.mem_of_getElem? (i := 9) rfl, mem_state 0 2 ej eh inb_S4x3x128x128_S1x1x128x128_2_0_0_0⟩
      · exact ⟨_, List.mem_of_getElem? (i := 8) rfl, mem_state 0 3 ej eh inb_S4x3x128x128_S1x1x128x128_3_0_0_0⟩
      · exact ⟨_, List.mem_of_getElem? (i := 7) rfl, mem_state 1 0 ej eh inb_S4x3x128x128_S1x1x128x128_0_1_0_0⟩
      · exact ⟨_, List.mem_of_getElem? (i := 6) rfl, mem_state 1 1 ej eh inb_S4x3x128x128_S1x1x128x128_1_1_0_0⟩
      · exact ⟨_, List.mem_of_getElem? (i := 5) rfl, mem_state 1 2 ej eh inb_S4x3x128x128_S1x1x128x128_2_1_0_0⟩
      · exact ⟨_, List.mem_of_getElem? (i := 4) rfl, mem_state 1 3 ej eh inb_S4x3x128x128_S1x1x128x128_3_1_0_0⟩
      · exact ⟨_, List.mem_of_getElem? (i := 3) rfl, mem_state 2 0 ej eh inb_S4x3x128x128_S1x1x128x128_0_2_0_0⟩
      · exact ⟨_, List.mem_of_getElem? (i := 2) rfl, mem_state 2 1 ej eh inb_S4x3x128x128_S1x1x128x128_1_2_0_0⟩
      · exact ⟨_, List.mem_of_getElem? (i := 1) rfl, mem_state 2 2 ej eh inb_S4x3x128x128_S1x1x128x128_2_2_0_0⟩
      · exact ⟨_, List.mem_of_getElem? (i := 0) rfl, mem_state 2 3 ej eh inb_S4x3x128x128_S1x1x128x128_3_2_0_0⟩
    exact key _ h1 _ h0 rfl rfl

/-- The carried states are the point's last four stores, whatever was stored before. -/
theorem canon_next (L : List (View.Piece (Elt F) S4x128x128 .f32)) : View.canon (nextPieces x1 x2 x3 s0 ++ L) = nextBlock x1 x2 x3 s0 := by
  funext y
  have h0 : (y 0).val < 4 := (y 0).isLt
  have h1 : (y 1).val < 128 := (y 1).isLt
  have h2 : (y 2).val < 128 := (y 2).isLt
  have cov : ∃ p ∈ nextPieces x1 x2 x3 s0, y ∈ p.1.set := by
    have key : ∀ h < 4, (y 0).val = h → ∃ p ∈ nextPieces x1 x2 x3 s0, y ∈ p.1.set := by
      intro h hh eh
      interval_cases h
      · exact ⟨_, List.mem_of_getElem? (i := 3) rfl, mem_next 0 eh inb_S4x128x128_S1x128x128_0_0_0⟩
      · exact ⟨_, List.mem_of_getElem? (i := 2) rfl, mem_next 1 eh inb_S4x128x128_S1x128x128_1_0_0⟩
      · exact ⟨_, List.mem_of_getElem? (i := 1) rfl, mem_next 2 eh inb_S4x128x128_S1x128x128_2_0_0⟩
      · exact ⟨_, List.mem_of_getElem? (i := 0) rfl, mem_next 3 eh inb_S4x128x128_S1x128x128_3_0_0⟩
    exact key _ h0 rfl
  rw [canon_append _ L cov]
  refine View.canon_apply_of_pieces (nextBlock x1 x2 x3 s0) _ ?_ y cov
  simp only [nextPieces, List.forall_mem_cons]
  exact ⟨fun x => next_piece x1 x2 x3 s0 3 (by omega) _ x, fun x => next_piece x1 x2 x3 s0 2 (by omega) _ x, fun x => next_piece x1 x2 x3 s0 1 (by omega) _ x, fun x => next_piece x1 x2 x3 s0 0 (by omega) _ x, fun _ h => absurd h (List.not_mem_nil)⟩

end

end Cert.FwdBlock

end
-- ==== Proof.FwdArray.lean ====
/- What the forward retention's call leaves in its two arrays, index by index: chunk `n` and head `h` of the retention is
   `outTile` of that chunk's queries, keys and values over the state before it, and the saved states are those states.
   The state is carried from one chunk to the next, through the grid's eleven points of three chunks each. -/
module

public import proofs.«01_k».proof.Proof.FwdBlocks
public import proofs.«01_k».proof.Proof.Gen.FwdIdeal.Value

@[expose] public section

set_option maxRecDepth 16384

noncomputable section

namespace Cert.FwdBlock

open Idealize.ShloMosaic Idealize.ShloMosaic.TcCoe Idealize.ShloMosaic.ValueIdx
open Cert.FwdIdeal Cert.FwdIdeal.Gen Cert.FwdIdeal.Value

variable {F : FTy → Type} [FloatOps F]

/-! ## The recursion over the whole arrays -/

/-- Chunk `n` and head `h` of part `w` (queries, keys, values) of the projected array. -/
def zTile (z : Vec F S4224x1536 .bf16) (w n h : ℕ) : Vec F S128x128 .bf16 :=
  fun y => z (ix2 ⟨(128 * n + (y 0).val) % 4224, Nat.mod_lt _ (by omega)⟩ ⟨(512 * w + 128 * h + (y 1).val) % 1536, Nat.mod_lt _ (by omega)⟩)

/-- Table `i` of head `h`. -/
def dTile (d : Vec F S4x4x128x128 .f32) (h i : Fin 4) : Vec F S128x128 .f32 := fun y => d (ix4 h i (y 0) (y 1))

/-- The state of head `h` before chunk `n`. -/
def state (z : Vec F S4224x1536 .bf16) (d : Vec F S4x4x128x128 .f32) (h : Fin 4) : ℕ → Vec F S128x128 .f32
  | 0 => fun _ => Scalar.ofBits .f32 0x00000000#32
  | n + 1 => stepTile (zTile z 1 n h.val) (zTile z 2 n h.val) (dTile d h 1) (dTile d h 3) (state z d h n)

/-- The retention of chunk `n` and head `h`. -/
def chunkOut (z : Vec F S4224x1536 .bf16) (d : Vec F S4x4x128x128 .f32) (n : ℕ) (h : Fin 4) : Vec F S128x128 .bf16 :=
  outTile (zTile z 0 n h.val) (zTile z 1 n h.val) (zTile z 2 n h.val) (dTile d h 0) (dTile d h 2) (state z d h n)

/-! ## The blocks that a point reads -/

section
variable (m : (ℓ : Loc nD τ sig) → Buf (Elt F) ℓ) (c : Dev nD)

/-- The projected array and the decay tables at the launch. -/
abbrev zOf : Vec F S4224x1536 .bf16 := V m c main_v194
abbrev dOf : Vec F S4x4x128x128 .f32 := V m c main_v79

theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 1] := (by decide +kernel : ∀ t : Fin grid0.N, win0_1.index t = ![t.val, 1])
theorem idx_2 : ∀ t : Fin cfg0.N, win0_2.index t = ![t.val, 2] := (by decide +kernel : ∀ t : Fin grid0.N, win0_2.index t = ![t.val, 2])
theorem idx_3 : ∀ t : Fin cfg0.N, win0_3.index t = ![0, 0, 0, 0] := (by decide +kernel : ∀ t : Fin grid0.N, win0_3.index t = ![0, 0, 0, 0])

theorem lt_grid (t : Fin cfg0.N) : t.val < 11 := lt_of_lt_of_eq t.isLt (show cfg0.N = 11 from N_0)

/-- A tile of a block of rows `384 t …` and columns `512 w …` is a chunk and head of the array. -/
theorem tile_of {x : Vec F S384x512 .bf16} {z : Vec F S4224x1536 .bf16} {t w : ℕ} (ht : t < 11) (hw : w < 3)
    (hx : ∀ y : S384x512.Idx, ∃ k : S4224x1536.Idx, (k 0).val = 384 * t + (y 0).val ∧ (k 1).val = 512 * w + (y 1).val ∧ x y = z k)
    (j h : ℕ) (hj : j < 3) (hh : h < 4) : tile x j h (tile_ok hj hh) = zTile z w (3 * t + j) h := by
  funext y
  have h0 : (y 0).val < 128 := (y 0).isLt
  have h1 : (y 1).val < 128 := (y 1).isLt
  obtain ⟨k, k0, k1, e⟩ := hx ((Rect.unit (s := S384x512) ![128 * j, 128 * h] S128x128.size (tile_ok hj hh)).idx y)
  rw [show (((Rect.unit (s := S384x512) ![128 * j, 128 * h] S128x128.size (tile_ok hj hh)).idx y) 0).val = 128 * j + (y 0).val from by
    show 128 * j + 1 * (y 0).val = _; omega] at k0
  rw [show (((Rect.unit (s := S384x512) ![128 * j, 128 * h] S128x128.size (tile_ok hj hh)).idx y) 1).val = 128 * h + (y 1).val from by
    show 128 * h + 1 * (y 1).val = _; omega] at k1
  refine (congrFun (shapeCast_self (s := S128x128) (View.ld x (Rect.unit ![128 * j, 128 * h] S128x128.size (tile_ok hj hh))) _) y).trans ?_
  refine e.trans (congrArg z ((eq_ix2 k).trans (congrArg₂ ix2 (Fin.ext ?_) (Fin.ext ?_))))
  · show (k 0).val = (128 * (3 * t + j) + (y 0).val) % 4224
    omega
  · show (k 1).val = (512 * w + 128 * h + (y 1).val) % 1536
    omega

theorem blk_0 (t : Fin cfg0.N) (j h : ℕ) (hj : j < 3) (hh : h < 4) : tile (iblk m c 0 t) j h (tile_ok hj hh) = zTile (zOf m c) 0 (3 * t.val + j) h := by
  refine tile_of (F := F) (z := zOf m c) (t := t.val) (w := 0) (lt_grid t) (by omega) (fun y => ⟨((cfg0.win 0).blk t).view.emb y, ?_, ?_, rfl⟩) j h hj hh
  · have e : (((cfg0.win 0).blk t).view.emb y 0).val = win0_0.index t (0 : Fin 2) * 384 + 1 * (y 0).val := rfl
    rw [e, idx_0]; show t.val * 384 + 1 * (y 0).val = _; omega
  · have e : (((cfg0.win 0).blk t).view.emb y 1).val = win0_0.index t (1 : Fin 2) * 512 + 1 * (y 1).val := rfl
    rw [e, idx_0]; show 0 * 512 + 1 * (y 1).val = _; omega
theorem blk_1 (t : Fin cfg0.N) (j h : ℕ) (hj : j < 3) (hh : h < 4) : tile (iblk m c 1 t) j h (tile_ok hj hh) = zTile (zOf m c) 1 (3 * t.val + j) h := by
  refine tile_of (F := F) (z := zOf m c) (t := t.val) (w := 1) (lt_grid t) (by omega) (fun y => ⟨((cfg0.win 1).blk t).view.emb y, ?_, ?_, rfl⟩) j h hj hh
  · have e : (((cfg0.win 1).blk t).view.emb y 0).val = win0_1.index t (0 : Fin 2) * 384 + 1 * (y 0).val := rfl
    rw [e, idx_1]; show t.val * 384 + 1 * (y 0).val = _; omega
  · have e : (((cfg0.win 1).blk t).view.emb y 1).val = win0_1.index t (1 : Fin 2) * 512 + 1 * (y 1).val := rfl
    rw [e, idx_1]; show 1 * 512 + 1 * (y 1).val = _; omega
theorem blk_2 (t : Fin cfg0.N) (j h : ℕ) (hj : j < 3) (hh : h < 4) : tile (iblk m c 2 t) j h (tile_ok hj hh) = zTile (zOf m c) 2 (3 * t.val + j) h := by
  refine tile_of (F := F) (z := zOf m c) (t := t.val) (w := 2) (lt_grid t) (by omega) (fun y => ⟨((cfg0.win 2).blk t).view.emb y, ?_, ?_, rfl⟩) j h hj hh
  · have e : (((cfg0.win 2).blk t).view.emb y 0).val = win0_2.index t (0 : Fin 2) * 384 + 1 * (y 0).val := rfl
    rw [e, idx_2]; show t.val * 384 + 1 * (y 0).val = _; omega
  · have e : (((cfg0.win 2).blk t).view.emb y 1).val = win0_2.index t (1 : Fin 2) * 512 + 1 * (y 1).val := rfl
    rw [e, idx_2]; show 2 * 512 + 1 * (y 1).val = _; omega

theorem blk_3 (t : Fin cfg0.N) (h i : Fin 4) : decTile (iblk m c 3 t) h.val i.val (dec_ok h.isLt i.isLt) = dTile (dOf m c) h i := by
  funext y
  unfold decTile
  refine (shapeCast_apply _ _ y (ix4 0 0 (y 0) (y 1)) (by
    rw [Shape.rowMajor_val_two, Shape.rowMajor_val_four]
    show ((0 * 1 + 0) * 128 + (y 0).val) * 128 + (y 1).val = (y 0).val * 128 + (y 1).val
    omega)).trans ?_
  show iblk m c 3 t ((Rect.unit (s := S4x4x128x128) ![h.val, i.val, 0, 0] S1x1x128x128.size (dec_ok h.isLt i.isLt)).idx (ix4 0 0 (y 0) (y 1))) = dOf m c (ix4 h i (y 0) (y 1))
  show dOf m c (((cfg0.win 3).blk t).view.emb _) = _
  refine congrArg (dOf m c) ?_
  have hi := idx_3 t
  funext a
  apply Fin.ext
  match a with
  | ⟨0, _⟩ => show win0_3.index t (0 : Fin 4) * 4 + 1 * (h.val + 1 * 0) = h.val; rw [hi]; show 0 * 4 + 1 * (h.val + 1 * 0) = h.val; omega
  | ⟨1, _⟩ => show win0_3.index t (1 : Fin 4) * 4 + 1 * (i.val + 1 * 0) = i.val; rw [hi]; show 0 * 4 + 1 * (i.val + 1 * 0) = i.val; omega
  | ⟨2, _⟩ => show win0_3.index t (2 : Fin 4) * 128 + 1 * (0 + 1 * (y 0).val) = (y 0).val; rw [hi]; show 0 * 128 + 1 * (0 + 1 * (y 0).val) = (y 0).val; omega
  | ⟨3, _⟩ => show win0_3.index t (3 : Fin 4) * 128 + 1 * (0 + 1 * (y 1).val) = (y 1).val; rw [hi]; show 0 * 128 + 1 * (0 + 1 * (y 1).val) = (y 1).val; omega

/-! ## One point -/

theorem headTile_apply (x : Vec F S4x128x128 .f32) (h : Fin 4) (y : S128x128.Idx) : headTile x h.val (head_ok h.isLt) y = x (ix3 h (y 0) (y 1)) := by
  unfold headTile
  refine (shapeCast_apply _ _ y (ix3 0 (y 0) (y 1)) (by
    rw [Shape.rowMajor_val_two, Shape.rowMajor_val_three]
    show (0 * 128 + (y 0).val) * 128 + (y 1).val = (y 0).val * 128 + (y 1).val
    omega)).trans ?_
  show x _ = x _
  refine congrArg x ?_
  funext a
  apply Fin.ext
  match a with
  | ⟨0, _⟩ => show h.val + 1 * 0 = h.val; omega
  | ⟨1, _⟩ => show 0 + 1 * (y 0).val = (y 0).val; omega
  | ⟨2, _⟩ => show 0 + 1 * (y 1).val = (y 1).val; omega

/-- Over states that are the recursion's before the point, a point's states are the recursion's. -/
theorem stateOf_eq (t : Fin cfg0.N) (s0 : Vec F S4x128x128 .f32) (h : Fin 4)
    (hs : ∀ y : S128x128.Idx, s0 (ix3 h (y 0) (y 1)) = state (zOf m c) (dOf m c) h (3 * t.val) y) :
    ∀ (j : ℕ) (hj : j ≤ 3), stateOf (iblk m c 1 t) (iblk m c 2 t) (iblk m c 3 t) s0 h.val h.isLt j hj = state (zOf m c) (dOf m c) h (3 * t.val + j)
  | 0, _ => funext fun y => (headTile_apply s0 h y).trans (hs y)
  | j + 1, hj => by
    show stepTile _ _ _ _ _ = stepTile _ _ _ _ _
    have e1 := blk_3 m c t h 1
    have e3 := blk_3 m c t h 3
    rw [stateOf_eq t s0 h hs j (by omega), blk_1 m c t j h.val (by omega) h.isLt, blk_2 m c t j h.val (by omega) h.isLt]
    exact congrArg₂ (fun A B => stepTile _ _ A B _) e1 e3

/-- The states before a point, as the recursion has them. -/
def Before (t : ℕ) (s0 : Vec F S4x128x128 .f32) : Prop :=
  ∀ (h : Fin 4) (y : S128x128.Idx), s0 (ix3 h (y 0) (y 1)) = state (zOf m c) (dOf m c) h (3 * t) y

theorem before_zero : Before m c 0 (k0_pay5 (F := F)) := by
  intro h y
  show k0_pay5 _ = Scalar.ofBits .f32 0x00000000#32
  unfold k0_pay5
  rw [shapeCast_self]
  rfl

theorem next_before (t : Fin cfg0.N) (s0 : Vec F S4x128x128 .f32) (hs : Before m c t.val s0) :
    Before m c (t.val + 1) (nextBlock (iblk m c 1 t) (iblk m c 2 t) (iblk m c 3 t) s0) := by
  intro h y
  show stateOf _ _ _ _ h.val _ 3 _ (ix2 (y 0) (y 1)) = _
  rw [stateOf_eq m c t s0 h (hs h) 3 (Nat.le_refl 3)]
  exact congrArg _ (eq_ix2 y).symm

/-- What a point's three blocks hold. -/
structure Point (t : Fin cfg0.N) (o : Vec F S384x512 .bf16 × Vec F S4x3x128x128 .bf16 × Vec F S4x128x128 .f32) : Prop where
  out : ∀ y : S384x512.Idx, o.1 y = chunkOut (zOf m c) (dOf m c) (3 * t.val + (y 0).val / 128) ⟨(y 1).val / 128, by have : (y 1).val < 512 := (y 1).isLt; omega⟩
    (ix2 ⟨(y 0).val % 128, Nat.mod_lt _ (by omega)⟩ ⟨(y 1).val % 128, Nat.mod_lt _ (by omega)⟩)
  states : ∀ y : S4x3x128x128.Idx, o.2.1 y = truncf .bf16 (state (zOf m c) (dOf m c) (y 0) (3 * t.val + (y 1).val)) bitsLt_bf16_f32 (ix2 (y 2) (y 3))
  next : Before m c (t.val + 1) o.2.2

theorem point_of (t : Fin cfg0.N) (s0 : Vec F S4x128x128 .f32) (hs : Before m c t.val s0) :
    Point m c t (outBlock (iblk m c 0 t) (iblk m c 1 t) (iblk m c 2 t) (iblk m c 3 t) s0, statesBlock (iblk m c 1 t) (iblk m c 2 t) (iblk m c 3 t) s0,
      nextBlock (iblk m c 1 t) (iblk m c 2 t) (iblk m c 3 t) s0) where
  out y := by
    have h0 : (y 0).val / 128 < 3 := by have : (y 0).val < 384 := (y 0).isLt; omega
    have h1 : (y 1).val / 128 < 4 := by have : (y 1).val < 512 := (y 1).isLt; omega
    show outTile _ _ _ _ _ _ _ = outTile _ _ _ _ _ _ _
    refine congrFun ?_ _
    have e0 := blk_3 m c t ⟨(y 1).val / 128, h1⟩ 0
    have e2 := blk_3 m c t ⟨(y 1).val / 128, h1⟩ 2
    have es := stateOf_eq m c t s0 ⟨(y 1).val / 128, h1⟩ (hs _) ((y 0).val / 128) (Nat.le_of_lt h0)
    rw [blk_0 m c t _ _ h0 h1, blk_1 m c t _ _ h0 h1, blk_2 m c t _ _ h0 h1]
    exact (congrArg₂ (fun A B => outTile _ _ _ A B _) e0 e2).trans (congrArg (fun s => outTile _ _ _ _ _ s) es)
  states y := by
    show truncf .bf16 (stateOf _ _ _ _ (y 0).val _ _ _) bitsLt_bf16_f32 _ = _
    rw [stateOf_eq m c t s0 (y 0) (hs _)]
  next := next_before m c t s0 hs

/-! ## All points -/

theorem out_point_A (t : Fin cfg0.N) (h0 : t.val % 11 = 0) : outsAt0 m c t.val t.isLt =
    (outBlock (iblk m c 0 t) (iblk m c 1 t) (iblk m c 2 t) (iblk m c 3 t) k0_pay5, statesBlock (iblk m c 1 t) (iblk m c 2 t) (iblk m c 3 t) k0_pay5,
      nextBlock (iblk m c 1 t) (iblk m c 2 t) (iblk m c 3 t) k0_pay5) := by
  rw [outsAt0_A m c t h0]
  rw [out_A_4, out_A_5, sout_A, canon_out, canon_states, canon_next]

theorem out_point_B (t : Fin cfg0.N) (h0 : ¬t.val % 11 = 0) (s : Vec F S4x128x128 .f32)
    (hs : (outsAt0 m c (t.val - 1) (Nat.lt_of_le_of_lt (Nat.sub_le _ _) t.isLt)).2.2 = s) : outsAt0 m c t.val t.isLt =
    (outBlock (iblk m c 0 t) (iblk m c 1 t) (iblk m c 2 t) (iblk m c 3 t) s, statesBlock (iblk m c 1 t) (iblk m c 2 t) (iblk m c 3 t) s,
      nextBlock (iblk m c 1 t) (iblk m c 2 t) (iblk m c 3 t) s) := by
  subst hs
  rw [outsAt0_B m c t h0]
  have e := canon_next (iblk m c 1 t) (iblk m c 2 t) (iblk m c 3 t) (outsAt0 m c (t.val - 1) (Nat.lt_of_le_of_lt (Nat.sub_le _ _) t.isLt)).2.2 []
  rw [List.append_nil] at e
  rw [out_B_4, out_B_5, sout_B, canon_out, canon_states, e]

theorem point : ∀ (n : ℕ) (hn : n < cfg0.N), Point m c ⟨n, hn⟩ (outsAt0 m c n hn)
  | 0, hn => by
    rw [out_point_A m c ⟨0, hn⟩ (Nat.zero_mod _)]
    exact point_of m c ⟨0, hn⟩ _ (before_zero m c)
  | n + 1, hn => by
    have hN : n + 1 < 11 := lt_of_lt_of_eq hn (show cfg0.N = 11 from N_0)
    rw [out_point_B m c ⟨n + 1, hn⟩ (by show ¬(n + 1) % 11 = 0; omega) _ rfl]
    exact point_of m c ⟨n + 1, hn⟩ _ (point n (Nat.lt_of_succ_lt hn)).next

/-! ## The two arrays -/

/-- THE RETENTION, index by index. -/
theorem G4_apply (i : S4224x512.Idx) : G4 m c i =
    chunkOut (zOf m c) (dOf m c) ((i 0).val / 128) ⟨(i 1).val / 128, by have : (i 1).val < 512 := (i 1).isLt; omega⟩
      (ix2 ⟨(i 0).val % 128, Nat.mod_lt _ (by omega)⟩ ⟨(i 1).val % 128, Nat.mod_lt _ (by omega)⟩) := by
  have h0 : (i 0).val < 4224 := (i 0).isLt
  have h1 : (i 1).val < 512 := (i 1).isLt
  have hp : pt4Of i = (i 0).val / 384 := by show 1 * ((i 0).val / 384 - 0) + 1 * ((i 1).val / 512 - 0) = _; omega
  have hlt : pt4Of i < cfg0.N := by rw [hp, show cfg0.N = 11 from N_0]; omega
  unfold G4
  rw [dif_pos hlt, ← outsAt0_sweep m c (pt4Of i) hlt, (point m c (pt4Of i) hlt).out]
  have a0 : (loc4Of i 0).val = (i 0).val % 384 := rfl
  have a1 : (loc4Of i 1).val = (i 1).val % 512 := rfl
  have key : ∀ (n n' : ℕ) (h h' : Fin 4) (y y' : S128x128.Idx), n = n' → h = h' → y = y' → chunkOut (zOf m c) (dOf m c) n h y = chunkOut (zOf m c) (dOf m c) n' h' y' := by
    rintro n _ h _ y _ rfl rfl rfl; rfl
  refine key _ _ _ _ _ _ ?_ (Fin.ext ?_) (congrArg₂ ix2 (Fin.ext ?_) (Fin.ext ?_))
  · show 3 * pt4Of i + (loc4Of i 0).val / 128 = (i 0).val / 128
    rw [hp, a0]; omega
  · show (loc4Of i 1).val / 128 = (i 1).val / 128
    rw [a1]; omega
  · show (loc4Of i 0).val % 128 = (i 0).val % 128
    rw [a0]; omega
  · show (loc4Of i 1).val % 128 = (i 1).val % 128
    rw [a1]; omega

/-- THE SAVED STATES, index by index. -/
theorem G5_apply (i : S4x33x128x128.Idx) : G5 m c i = truncf .bf16 (state (zOf m c) (dOf m c) (i 0) (i 1).val) bitsLt_bf16_f32 (ix2 (i 2) (i 3)) := by
  have h0 : (i 0).val < 4 := (i 0).isLt
  have h1 : (i 1).val < 33 := (i 1).isLt
  have h2 : (i 2).val < 128 := (i 2).isLt
  have h3 : (i 3).val < 128 := (i 3).isLt
  have hp : pt5Of i = (i 1).val / 3 := by
    show 11 * ((i 0).val / 4 - 0) + 1 * ((i 1).val / 3 - 0) + 1 * ((i 2).val / 128 - 0) + 1 * ((i 3).val / 128 - 0) = _; omega
  have hlt : pt5Of i < cfg0.N := by rw [hp, show cfg0.N = 11 from N_0]; omega
  unfold G5
  rw [dif_pos hlt, ← outsAt0_sweep m c (pt5Of i) hlt, (point m c (pt5Of i) hlt).states]
  have key : ∀ (n n' : ℕ) (h h' : Fin 4) (y y' : S128x128.Idx), n = n' → h = h' → y = y' →
      truncf .bf16 (state (zOf m c) (dOf m c) h n) bitsLt_bf16_f32 y = truncf .bf16 (state (zOf m c) (dOf m c) h' n') bitsLt_bf16_f32 y' := by
    rintro n _ h _ y _ rfl rfl rfl; rfl
  refine key _ _ _ _ _ _ ?_ (Fin.ext ?_) (congrArg₂ ix2 (Fin.ext ?_) (Fin.ext ?_))
  · show 3 * pt5Of i + (i 1).val % 3 = (i 1).val
    rw [hp]; omega
  · show (i 0).val % 4 = (i 0).val
    omega
  · show (i 2).val % 128 = (i 2).val
    omega
  · show (i 3).val % 128 = (i 3).val
    omega

end

end Cert.FwdBlock

end
-- ==== Proof.FwdHost.lean ====
/- The values the forward call is launched over, one definition per operation of its host code (an operation the reference has too is the reference's), and what the line leaves in the buffers. -/
module

public import proofs.«01_k».proof.Proof.Gen.FwdIdeal.Launch
public import proofs.«01_k».proof.Proof.FwdRefHost

@[expose] public section

set_option maxRecDepth 16384

noncomputable section

namespace Cert.FwdHost

open Cert.FwdIdeal Cert.FwdIdeal.Gen
open Idealize.ShloMosaic Idealize.ShloMosaic.TcCoe Idealize.ShloMosaic.StableHlo
open Cert.Lines

variable {F : FTy → Type} [FloatOps F]

/-! ## The values -/

def v69 : (⟨S4x128x1, .f32⟩ : BufTy).Contents (Elt F) :=
  broadcastInDim S4x128x1 ![0, 1] bcast_S4x128_S4x128x1_0_1 (FwdRefHost.v95 (F := F))
def v70 : (⟨S4x128x128, .f32⟩ : BufTy).Contents (Elt F) :=
  broadcastInDim S4x128x128 ![0, 1, 2] bcast_S4x128x1_S4x128x128_0_1_2 (v69 (F := F))
def v71 : (⟨S4x128x1, .f32⟩ : BufTy).Contents (Elt F) :=
  broadcastInDim S4x128x1 ![0, 1] bcast_S4x128_S4x128x1_0_1 (FwdRefHost.v126 (F := F))
def v72 : (⟨S4x128x128, .f32⟩ : BufTy).Contents (Elt F) :=
  broadcastInDim S4x128x128 ![0, 1, 2] bcast_S4x128x1_S4x128x128_0_1_2 (v71 (F := F))
def v73 : (⟨S4x1x1, .f32⟩ : BufTy).Contents (Elt F) :=
  broadcastInDim S4x1x1 ![0] bcast_S4_S4x1x1_0 (FwdRefHost.v98 (F := F))
def v74 : (⟨S4x128x128, .f32⟩ : BufTy).Contents (Elt F) :=
  broadcastInDim S4x128x128 ![0, 1, 2] bcast_S4x1x1_S4x128x128_0_1_2 (v73 (F := F))
def v75 : (⟨S4x1x128x128, .f32⟩ : BufTy).Contents (Elt F) :=
  broadcastInDim S4x1x128x128 ![0, 2, 3] bcast_S4x128x128_S4x1x128x128_0_2_3 (FwdRefHost.v118 (F := F))
def v76 : (⟨S4x1x128x128, .f32⟩ : BufTy).Contents (Elt F) :=
  broadcastInDim S4x1x128x128 ![0, 2, 3] bcast_S4x128x128_S4x1x128x128_0_2_3 (v70 (F := F))
def v77 : (⟨S4x1x128x128, .f32⟩ : BufTy).Contents (Elt F) :=
  broadcastInDim S4x1x128x128 ![0, 2, 3] bcast_S4x128x128_S4x1x128x128_0_2_3 (v72 (F := F))
def v78 : (⟨S4x1x128x128, .f32⟩ : BufTy).Contents (Elt F) :=
  broadcastInDim S4x1x128x128 ![0, 2, 3] bcast_S4x128x128_S4x1x128x128_0_2_3 (v74 (F := F))
def v79 : (⟨S4x4x128x128, .f32⟩ : BufTy).Contents (Elt F) :=
  concatenate S4x4x128x128 1 [⟨S4x1x128x128, (v75 (F := F))⟩, ⟨S4x1x128x128, (v76 (F := F))⟩, ⟨S4x1x128x128, (v77 (F := F))⟩, ⟨S4x1x128x128, (v78 (F := F))⟩] concatenates_S4x1x128x128_S4x1x128x128_S4x1x128x128_S4x1x128x128_S4x4x128x128_d1
def v184 (x : (⟨S1x4112x512, .f32⟩ : BufTy).Contents (Elt F)) : (⟨S4x4224x128, .f32⟩ : BufTy).Contents (Elt F) :=
  shapeCast S4x4224x128 (FwdRefHost.v77 x) shapeCasts_S1x4x33x128x128_S4x4224x128
def v185 (x : (⟨S1x4112x512, .f32⟩ : BufTy).Contents (Elt F)) : (⟨S4224x4x128, .f32⟩ : BufTy).Contents (Elt F) :=
  transpose S4224x4x128 [1, 0, 2] (v184 x) transposes_S4x4224x128_S4224x4x128_1_0_2
def v186 (x : (⟨S1x4112x512, .f32⟩ : BufTy).Contents (Elt F)) : (⟨S4224x512, .f32⟩ : BufTy).Contents (Elt F) :=
  shapeCast S4224x512 (v185 x) shapeCasts_S4224x4x128_S4224x512
def v187 (x : (⟨S1x4112x512, .f32⟩ : BufTy).Contents (Elt F)) : (⟨S4x4224x128, .f32⟩ : BufTy).Contents (Elt F) :=
  shapeCast S4x4224x128 (FwdRefHost.v78 x) shapeCasts_S1x4x33x128x128_S4x4224x128
def v188 (x : (⟨S1x4112x512, .f32⟩ : BufTy).Contents (Elt F)) : (⟨S4224x4x128, .f32⟩ : BufTy).Contents (Elt F) :=
  transpose S4224x4x128 [1, 0, 2] (v187 x) transposes_S4x4224x128_S4224x4x128_1_0_2
def v189 (x : (⟨S1x4112x512, .f32⟩ : BufTy).Contents (Elt F)) : (⟨S4224x512, .f32⟩ : BufTy).Contents (Elt F) :=
  shapeCast S4224x512 (v188 x) shapeCasts_S4224x4x128_S4224x512
def v190 (x : (⟨S1x4112x512, .f32⟩ : BufTy).Contents (Elt F)) : (⟨S4x4224x128, .f32⟩ : BufTy).Contents (Elt F) :=
  shapeCast S4x4224x128 (FwdRefHost.v79 x) shapeCasts_S1x4x33x128x128_S4x4224x128
def v191 (x : (⟨S1x4112x512, .f32⟩ : BufTy).Contents (Elt F)) : (⟨S4224x4x128, .f32⟩ : BufTy).Contents (Elt F) :=
  transpose S4224x4x128 [1, 0, 2] (v190 x) transposes_S4x4224x128_S4224x4x128_1_0_2
def v192 (x : (⟨S1x4112x512, .f32⟩ : BufTy).Contents (Elt F)) : (⟨S4224x512, .f32⟩ : BufTy).Contents (Elt F) :=
  shapeCast S4224x512 (v191 x) shapeCasts_S4224x4x128_S4224x512
def v193 (x : (⟨S1x4112x512, .f32⟩ : BufTy).Contents (Elt F)) (y : (⟨S1x4112x512, .f32⟩ : BufTy).Contents (Elt F)) (z : (⟨S1x4112x512, .f32⟩ : BufTy).Contents (Elt F)) : (⟨S4224x1536, .f32⟩ : BufTy).Contents (Elt F) :=
  concatenate S4224x1536 1 [⟨S4224x512, (v186 x)⟩, ⟨S4224x512, (v189 y)⟩, ⟨S4224x512, (v192 z)⟩] concatenates_S4224x512_S4224x512_S4224x512_S4224x1536_d1
def v194 (x : (⟨S1x4112x512, .f32⟩ : BufTy).Contents (Elt F)) (y : (⟨S1x4112x512, .f32⟩ : BufTy).Contents (Elt F)) (z : (⟨S1x4112x512, .f32⟩ : BufTy).Contents (Elt F)) : (⟨S4224x1536, .bf16⟩ : BufTy).Contents (Elt F) :=
  truncf .bf16 (v193 x y z) bitsLt_bf16_f32

/-! ## What the lines leave -/

namespace Pre

/-- The operations before the kernel. -/
abbrev ops : List (HloOp τ sig (Elt F)) := [hostOps0, hostOps0_1, hostOps0_2, hostOps0_3, hostOps0_4, hostOps0_5, hostOps0_6].flatten

/-- The operations before the kernel write these buffers in order. -/
theorem ordered : Lines.Ordered (τ := τ) (sig := sig) (ops (F := F))
    [main_v0, main_c, main_call0_v0, main_call0_c, main_call0_v1, main_call0_c_0, main_call0_v2, main_call0_v3, main_call0_v4, main_call0_c_1,
    main_call0_v5, main_call0_v6, main_call0_c_2, main_call0_v7, main_call0_v8, main_call0_c_3, main_call0_v9, main_call0_v10, main_call0_v11,
    main_call0_v12, main_call0_v13, main_call0_v14, main_v1, main_v2, main_v3, main_cst, main_v4, main_v5, main_cst_0, main_v6, main_v7, main_v8,
    main_cst_1, main_v9, main_v10, main_cst_2, main_v11, main_v12, main_v13, main_v14, main_v15, main_v16, main_v17, main_v18, main_v19, main_c_3,
    main_v20, main_v21, main_cst_4, main_cst_5, main_call1_v0, main_call1_v1, main_v22, main_v23, main_v24, main_v25, main_v26, main_v27, main_cst_6,
    main_v28, main_v29, main_cst_7, main_v30, main_v31, main_v32, main_v33, main_v34, main_v35, main_v36, main_v37, main_v38, main_v39, main_v40,
    main_cst_8, main_v41, main_v42, main_v43, main_v44, main_v45, main_v46, main_v47, main_v48, main_cst_9, main_call2_v0, main_call2_v1, main_call2_v2,
    main_v49, main_cst_10, main_v50, main_v51, main_v52, main_v53, main_v54, main_v55, main_v56, main_v57, main_cst_11, main_v58, main_v59, main_v60,
    main_v61, main_v62, main_v63, main_v64, main_v65, main_cst_12, main_v66, main_v67, main_v68, main_v69, main_v70, main_v71, main_v72, main_v73,
    main_v74, main_v75, main_v76, main_v77, main_v78, main_v79, main_v80, main_v81, main_cst_13, main_v82, main_v83, main_v84, main_v85, main_cst_14,
    main_v86, main_v87, main_v88, main_v89, main_cst_15, main_v90, main_v91, main_v92, main_cst_16, main_v93, main_v94, main_v95, main_v96, main_cst_17,
    main_v97, main_v98, main_cst_18, main_v99, main_v100, main_v101, main_v102, main_v103, main_v104, main_v105, main_v106, main_v107, main_v108,
    main_v109, main_v110, main_v111, main_v112, main_v113, main_v114, main_v115, main_v116, main_v117, main_v118, main_v119, main_v120, main_v121,
    main_v122, main_v123, main_v124, main_cst_19, main_v125, main_v126, main_v127, main_v128, main_cst_20, main_v129, main_v130, main_cst_21, main_v131,
    main_v132, main_v133, main_v134, main_v135, main_v136, main_v137, main_v138, main_v139, main_v140, main_v141, main_v142, main_v143, main_v144,
    main_v145, main_v146, main_v147, main_v148, main_v149, main_v150, main_v151, main_v152, main_v153, main_v154, main_v155, main_v156, main_v157,
    main_v158, main_v159, main_v160, main_cst_22, main_v161, main_v162, main_cst_23, main_v163, main_v164, main_v165, main_v166, main_v167, main_cst_24,
    main_v168, main_v169, main_v170, main_v171, main_v172, main_v173, main_v174, main_v175, main_cst_25, main_v176, main_v177, main_v178, main_v179,
    main_v180, main_v181, main_v182, main_v183, main_v184, main_v185, main_v186, main_v187, main_v188, main_v189, main_v190, main_v191, main_v192,
    main_v193, main_v194] :=
  ⟨rfl, Lines.pairwise_of_chain (by decide)⟩

variable (V : Valuation τ sig (Elt F))
variable {q : (⟨S1x4112x512, .f32⟩ : BufTy).Contents (Elt F)} {k : (⟨S1x4112x512, .f32⟩ : BufTy).Contents (Elt F)} {v : (⟨S1x4112x512, .f32⟩ : BufTy).Contents (Elt F)}
variable
  (hmain_arg0 : V (Proc.devRef .tc main_arg0) = q)
  (hmain_arg1 : V (Proc.devRef .tc main_arg1) = k)
  (hmain_arg2 : V (Proc.devRef .tc main_arg2) = v)

include hmain_arg0 in
theorem arg0_eq : after ops V (Proc.devRef .tc main_arg0) = q :=
  (ordered.kept V (by decide)).trans hmain_arg0
include hmain_arg1 in
theorem arg1_eq : after ops V (Proc.devRef .tc main_arg1) = k :=
  (ordered.kept V (by decide)).trans hmain_arg1
include hmain_arg2 in
theorem arg2_eq : after ops V (Proc.devRef .tc main_arg2) = v :=
  (ordered.kept V (by decide)).trans hmain_arg2
theorem v27_eq : after ops V (Proc.devRef .tc main_v27) = (FwdRefHost.v80 (F := F)) :=
  ordered.nullary V (i := 57) rfl
theorem cst_6_eq : after ops V (Proc.devRef .tc main_cst_6) = (FwdRefHost.cst_8 (F := F)) :=
  ordered.nullary V (i := 58) rfl
theorem v28_eq : after ops V (Proc.devRef .tc main_v28) = (FwdRefHost.v81 (F := F)) :=
  ordered.unary_eq V (i := 59) rfl (by decide) (cst_6_eq V)
theorem v29_eq : after ops V (Proc.devRef .tc main_v29) = (FwdRefHost.v82 (F := F)) :=
  ordered.binary_eq V (i := 60) rfl (by decide) (by decide) (v28_eq V) (v27_eq V)
theorem cst_7_eq : after ops V (Proc.devRef .tc main_cst_7) = (FwdRefHost.cst_9 (F := F)) :=
  ordered.nullary V (i := 61) rfl
theorem v30_eq : after ops V (Proc.devRef .tc main_v30) = (FwdRefHost.v83 (F := F)) :=
  ordered.unary_eq V (i := 62) rfl (by decide) (cst_7_eq V)
theorem v31_eq : after ops V (Proc.devRef .tc main_v31) = (FwdRefHost.v84 (F := F)) :=
  ordered.binary_eq V (i := 63) rfl (by decide) (by decide) (v30_eq V) (v29_eq V)
theorem v32_eq : after ops V (Proc.devRef .tc main_v32) = (FwdRefHost.v85 (F := F)) :=
  ordered.unary_eq V (i := 64) rfl (by decide) (v31_eq V)
theorem v33_eq : after ops V (Proc.devRef .tc main_v33) = (FwdRefHost.v86 (F := F)) :=
  ordered.unary_eq V (i := 65) rfl (by decide) (v32_eq V)
theorem v34_eq : after ops V (Proc.devRef .tc main_v34) = (FwdRefHost.v87 (F := F)) :=
  ordered.nullary V (i := 66) rfl
theorem v35_eq : after ops V (Proc.devRef .tc main_v35) = (FwdRefHost.v104 (F := F)) :=
  ordered.unary_eq V (i := 67) rfl (by decide) (v34_eq V)
theorem v36_eq : after ops V (Proc.devRef .tc main_v36) = (FwdRefHost.v105 (F := F)) :=
  ordered.unary_eq V (i := 68) rfl (by decide) (v34_eq V)
theorem v37_eq : after ops V (Proc.devRef .tc main_v37) = (FwdRefHost.v106 (F := F)) :=
  ordered.unary_eq V (i := 69) rfl (by decide) (v35_eq V)
theorem v38_eq : after ops V (Proc.devRef .tc main_v38) = (FwdRefHost.v107 (F := F)) :=
  ordered.unary_eq V (i := 70) rfl (by decide) (v36_eq V)
theorem v39_eq : after ops V (Proc.devRef .tc main_v39) = (FwdRefHost.v108 (F := F)) :=
  ordered.binary_eq V (i := 71) rfl (by decide) (by decide) (v37_eq V) (v38_eq V)
theorem v40_eq : after ops V (Proc.devRef .tc main_v40) = (FwdRefHost.v109 (F := F)) :=
  ordered.unary_eq V (i := 72) rfl (by decide) (v39_eq V)
theorem cst_8_eq : after ops V (Proc.devRef .tc main_cst_8) = (FwdRefHost.cst (F := F)) :=
  ordered.nullary V (i := 73) rfl
theorem v41_eq : after ops V (Proc.devRef .tc main_v41) = (FwdRefHost.v110 (F := F)) :=
  ordered.unary_eq V (i := 74) rfl (by decide) (cst_8_eq V)
theorem v42_eq : after ops V (Proc.devRef .tc main_v42) = (FwdRefHost.v111 (F := F)) :=
  ordered.binary_eq V (i := 75) rfl (by decide) (by decide) (v40_eq V) (v41_eq V)
theorem v43_eq : after ops V (Proc.devRef .tc main_v43) = (FwdRefHost.v109 (F := F)) :=
  ordered.unary_eq V (i := 76) rfl (by decide) (v39_eq V)
theorem v44_eq : after ops V (Proc.devRef .tc main_v44) = (FwdRefHost.v113 (F := F)) :=
  ordered.unary_eq V (i := 77) rfl (by decide) (v33_eq V)
theorem v45_eq : after ops V (Proc.devRef .tc main_v45) = (FwdRefHost.v114 (F := F)) :=
  ordered.unary_eq V (i := 78) rfl (by decide) (v43_eq V)
theorem v46_eq : after ops V (Proc.devRef .tc main_v46) = (FwdRefHost.v115 (F := F)) :=
  ordered.unary_eq V (i := 79) rfl (by decide) (v44_eq V)
theorem v47_eq : after ops V (Proc.devRef .tc main_v47) = (FwdRefHost.v116 (F := F)) :=
  ordered.binary_eq V (i := 80) rfl (by decide) (by decide) (v45_eq V) (v46_eq V)
theorem v48_eq : after ops V (Proc.devRef .tc main_v48) = (FwdRefHost.v117 (F := F)) :=
  ordered.unary_eq V (i := 81) rfl (by decide) (v47_eq V)
theorem cst_9_eq : after ops V (Proc.devRef .tc main_cst_9) = (FwdRefHost.cst (F := F)) :=
  ordered.nullary V (i := 82) rfl
theorem call2_v0_eq : after ops V (Proc.devRef .tc main_call2_v0) = (FwdRefHost.cst (F := F)) :=
  ordered.unary_eq V (i := 83) rfl (by decide) (cst_9_eq V)
theorem call2_v1_eq : after ops V (Proc.devRef .tc main_call2_v1) = (FwdRefHost.call0_v1 (F := F)) :=
  ordered.unary_eq V (i := 84) rfl (by decide) (v42_eq V)
theorem call2_v2_eq : after ops V (Proc.devRef .tc main_call2_v2) = (FwdRefHost.call0_v2 (F := F)) :=
  ordered.unary_eq V (i := 85) rfl (by decide) (call2_v0_eq V)
theorem v49_eq : after ops V (Proc.devRef .tc main_v49) = (FwdRefHost.v118 (F := F)) :=
  ordered.ternary_eq V (i := 86) rfl (by decide) (by decide) (by decide) (call2_v1_eq V) (v48_eq V) (call2_v2_eq V)
theorem cst_10_eq : after ops V (Proc.devRef .tc main_cst_10) = (FwdRefHost.cst_10 (F := F)) :=
  ordered.nullary V (i := 87) rfl
theorem v50_eq : after ops V (Proc.devRef .tc main_v50) = (FwdRefHost.v88 (F := F)) :=
  ordered.unary_eq V (i := 88) rfl (by decide) (cst_10_eq V)
theorem v51_eq : after ops V (Proc.devRef .tc main_v51) = (FwdRefHost.v89 (F := F)) :=
  ordered.binary_eq V (i := 89) rfl (by decide) (by decide) (v50_eq V) (v34_eq V)
theorem v52_eq : after ops V (Proc.devRef .tc main_v52) = (FwdRefHost.v90 (F := F)) :=
  ordered.unary_eq V (i := 90) rfl (by decide) (v51_eq V)
theorem v53_eq : after ops V (Proc.devRef .tc main_v53) = (FwdRefHost.v91 (F := F)) :=
  ordered.unary_eq V (i := 91) rfl (by decide) (v33_eq V)
theorem v54_eq : after ops V (Proc.devRef .tc main_v54) = (FwdRefHost.v92 (F := F)) :=
  ordered.unary_eq V (i := 92) rfl (by decide) (v52_eq V)
theorem v55_eq : after ops V (Proc.devRef .tc main_v55) = (FwdRefHost.v93 (F := F)) :=
  ordered.unary_eq V (i := 93) rfl (by decide) (v53_eq V)
theorem v56_eq : after ops V (Proc.devRef .tc main_v56) = (FwdRefHost.v94 (F := F)) :=
  ordered.binary_eq V (i := 94) rfl (by decide) (by decide) (v54_eq V) (v55_eq V)
theorem v57_eq : after ops V (Proc.devRef .tc main_v57) = (FwdRefHost.v95 (F := F)) :=
  ordered.unary_eq V (i := 95) rfl (by decide) (v56_eq V)
theorem cst_11_eq : after ops V (Proc.devRef .tc main_cst_11) = (FwdRefHost.cst_14 (F := F)) :=
  ordered.nullary V (i := 96) rfl
theorem v58_eq : after ops V (Proc.devRef .tc main_v58) = (FwdRefHost.v119 (F := F)) :=
  ordered.unary_eq V (i := 97) rfl (by decide) (cst_11_eq V)
theorem v59_eq : after ops V (Proc.devRef .tc main_v59) = (FwdRefHost.v120 (F := F)) :=
  ordered.binary_eq V (i := 98) rfl (by decide) (by decide) (v34_eq V) (v58_eq V)
theorem v60_eq : after ops V (Proc.devRef .tc main_v60) = (FwdRefHost.v121 (F := F)) :=
  ordered.unary_eq V (i := 99) rfl (by decide) (v59_eq V)
theorem v61_eq : after ops V (Proc.devRef .tc main_v61) = (FwdRefHost.v91 (F := F)) :=
  ordered.unary_eq V (i := 100) rfl (by decide) (v33_eq V)
theorem v62_eq : after ops V (Proc.devRef .tc main_v62) = (FwdRefHost.v123 (F := F)) :=
  ordered.unary_eq V (i := 101) rfl (by decide) (v60_eq V)
theorem v63_eq : after ops V (Proc.devRef .tc main_v63) = (FwdRefHost.v93 (F := F)) :=
  ordered.unary_eq V (i := 102) rfl (by decide) (v61_eq V)
theorem v64_eq : after ops V (Proc.devRef .tc main_v64) = (FwdRefHost.v125 (F := F)) :=
  ordered.binary_eq V (i := 103) rfl (by decide) (by decide) (v62_eq V) (v63_eq V)
theorem v65_eq : after ops V (Proc.devRef .tc main_v65) = (FwdRefHost.v126 (F := F)) :=
  ordered.unary_eq V (i := 104) rfl (by decide) (v64_eq V)
theorem cst_12_eq : after ops V (Proc.devRef .tc main_cst_12) = (FwdRefHost.cst_11 (F := F)) :=
  ordered.nullary V (i := 105) rfl
theorem v66_eq : after ops V (Proc.devRef .tc main_v66) = (FwdRefHost.v96 (F := F)) :=
  ordered.unary_eq V (i := 106) rfl (by decide) (cst_12_eq V)
theorem v67_eq : after ops V (Proc.devRef .tc main_v67) = (FwdRefHost.v97 (F := F)) :=
  ordered.binary_eq V (i := 107) rfl (by decide) (by decide) (v66_eq V) (v33_eq V)
theorem v68_eq : after ops V (Proc.devRef .tc main_v68) = (FwdRefHost.v98 (F := F)) :=
  ordered.unary_eq V (i := 108) rfl (by decide) (v67_eq V)
theorem v69_eq : after ops V (Proc.devRef .tc main_v69) = (v69 (F := F)) :=
  ordered.unary_eq V (i := 109) rfl (by decide) (v57_eq V)
theorem v70_eq : after ops V (Proc.devRef .tc main_v70) = (v70 (F := F)) :=
  ordered.unary_eq V (i := 110) rfl (by decide) (v69_eq V)
theorem v71_eq : after ops V (Proc.devRef .tc main_v71) = (v71 (F := F)) :=
  ordered.unary_eq V (i := 111) rfl (by decide) (v65_eq V)
theorem v72_eq : after ops V (Proc.devRef .tc main_v72) = (v72 (F := F)) :=
  ordered.unary_eq V (i := 112) rfl (by decide) (v71_eq V)
theorem v73_eq : after ops V (Proc.devRef .tc main_v73) = (v73 (F := F)) :=
  ordered.unary_eq V (i := 113) rfl (by decide) (v68_eq V)
theorem v74_eq : after ops V (Proc.devRef .tc main_v74) = (v74 (F := F)) :=
  ordered.unary_eq V (i := 114) rfl (by decide) (v73_eq V)
theorem v75_eq : after ops V (Proc.devRef .tc main_v75) = (v75 (F := F)) :=
  ordered.unary_eq V (i := 115) rfl (by decide) (v49_eq V)
theorem v76_eq : after ops V (Proc.devRef .tc main_v76) = (v76 (F := F)) :=
  ordered.unary_eq V (i := 116) rfl (by decide) (v70_eq V)
theorem v77_eq : after ops V (Proc.devRef .tc main_v77) = (v77 (F := F)) :=
  ordered.unary_eq V (i := 117) rfl (by decide) (v72_eq V)
theorem v78_eq : after ops V (Proc.devRef .tc main_v78) = (v78 (F := F)) :=
  ordered.unary_eq V (i := 118) rfl (by decide) (v74_eq V)
theorem v79_eq : after ops V (Proc.devRef .tc main_v79) = (v79 (F := F)) :=
  ordered.nary_eq V (i := 119) rfl (by decide) (fun i => match i with | 0 => (v75 (F := F)) | 1 => (v76 (F := F)) | 2 => (v77 (F := F)) | 3 => (v78 (F := F)))
    (fun i => match i with | 0 => (v75_eq V) | 1 => (v76_eq V) | 2 => (v77_eq V) | 3 => (v78_eq V))
include hmain_arg0 in
theorem v80_eq : after ops V (Proc.devRef .tc main_v80) = (FwdRefHost.v0 q) :=
  ordered.reshape_eq V (i := 120) rfl (by decide) (arg0_eq V hmain_arg0)
include hmain_arg0 in
theorem v81_eq : after ops V (Proc.devRef .tc main_v81) = (FwdRefHost.v1 q) :=
  ordered.unary_eq V (i := 121) rfl (by decide) (v80_eq V hmain_arg0)
theorem cst_13_eq : after ops V (Proc.devRef .tc main_cst_13) = (FwdRefHost.cst (F := F)) :=
  ordered.nullary V (i := 122) rfl
theorem v82_eq : after ops V (Proc.devRef .tc main_v82) = (FwdRefHost.v2 (F := F)) :=
  ordered.unary_eq V (i := 123) rfl (by decide) (cst_13_eq V)
include hmain_arg0 in
theorem v83_eq : after ops V (Proc.devRef .tc main_v83) = (FwdRefHost.v3 q) :=
  ordered.binary_eq V (i := 124) rfl (by decide) (by decide) (v82_eq V) (v81_eq V hmain_arg0)
include hmain_arg1 in
theorem v84_eq : after ops V (Proc.devRef .tc main_v84) = (FwdRefHost.v0 k) :=
  ordered.reshape_eq V (i := 125) rfl (by decide) (arg1_eq V hmain_arg1)
include hmain_arg1 in
theorem v85_eq : after ops V (Proc.devRef .tc main_v85) = (FwdRefHost.v1 k) :=
  ordered.unary_eq V (i := 126) rfl (by decide) (v84_eq V hmain_arg1)
theorem cst_14_eq : after ops V (Proc.devRef .tc main_cst_14) = (FwdRefHost.cst (F := F)) :=
  ordered.nullary V (i := 127) rfl
theorem v86_eq : after ops V (Proc.devRef .tc main_v86) = (FwdRefHost.v2 (F := F)) :=
  ordered.unary_eq V (i := 128) rfl (by decide) (cst_14_eq V)
include hmain_arg1 in
theorem v87_eq : after ops V (Proc.devRef .tc main_v87) = (FwdRefHost.v3 k) :=
  ordered.binary_eq V (i := 129) rfl (by decide) (by decide) (v86_eq V) (v85_eq V hmain_arg1)
include hmain_arg2 in
theorem v88_eq : after ops V (Proc.devRef .tc main_v88) = (FwdRefHost.v0 v) :=
  ordered.reshape_eq V (i := 130) rfl (by decide) (arg2_eq V hmain_arg2)
include hmain_arg2 in
theorem v89_eq : after ops V (Proc.devRef .tc main_v89) = (FwdRefHost.v1 v) :=
  ordered.unary_eq V (i := 131) rfl (by decide) (v88_eq V hmain_arg2)
theorem cst_15_eq : after ops V (Proc.devRef .tc main_cst_15) = (FwdRefHost.cst (F := F)) :=
  ordered.nullary V (i := 132) rfl
theorem v90_eq : after ops V (Proc.devRef .tc main_v90) = (FwdRefHost.v2 (F := F)) :=
  ordered.unary_eq V (i := 133) rfl (by decide) (cst_15_eq V)
include hmain_arg2 in
theorem v91_eq : after ops V (Proc.devRef .tc main_v91) = (FwdRefHost.v3 v) :=
  ordered.binary_eq V (i := 134) rfl (by decide) (by decide) (v90_eq V) (v89_eq V hmain_arg2)
theorem v92_eq : after ops V (Proc.devRef .tc main_v92) = (FwdRefHost.v12 (F := F)) :=
  ordered.nullary V (i := 135) rfl
theorem cst_16_eq : after ops V (Proc.devRef .tc main_cst_16) = (FwdRefHost.cst_2 (F := F)) :=
  ordered.nullary V (i := 136) rfl
theorem v93_eq : after ops V (Proc.devRef .tc main_v93) = (FwdRefHost.v13 (F := F)) :=
  ordered.unary_eq V (i := 137) rfl (by decide) (cst_16_eq V)
theorem v94_eq : after ops V (Proc.devRef .tc main_v94) = (FwdRefHost.v14 (F := F)) :=
  ordered.binary_eq V (i := 138) rfl (by decide) (by decide) (v92_eq V) (v93_eq V)
theorem v95_eq : after ops V (Proc.devRef .tc main_v95) = (FwdRefHost.v15 (F := F)) :=
  ordered.nullary V (i := 139) rfl
theorem v96_eq : after ops V (Proc.devRef .tc main_v96) = (FwdRefHost.v16 (F := F)) :=
  ordered.unary_eq V (i := 140) rfl (by decide) (v95_eq V)
theorem cst_17_eq : after ops V (Proc.devRef .tc main_cst_17) = (FwdRefHost.cst_3 (F := F)) :=
  ordered.nullary V (i := 141) rfl
theorem v97_eq : after ops V (Proc.devRef .tc main_v97) = (FwdRefHost.v17 (F := F)) :=
  ordered.unary_eq V (i := 142) rfl (by decide) (cst_17_eq V)
theorem v98_eq : after ops V (Proc.devRef .tc main_v98) = (FwdRefHost.v18 (F := F)) :=
  ordered.binary_eq V (i := 143) rfl (by decide) (by decide) (v96_eq V) (v97_eq V)
theorem cst_18_eq : after ops V (Proc.devRef .tc main_cst_18) = (FwdRefHost.cst_4 (F := F)) :=
  ordered.nullary V (i := 144) rfl
theorem v99_eq : after ops V (Proc.devRef .tc main_v99) = (FwdRefHost.v19 (F := F)) :=
  ordered.unary_eq V (i := 145) rfl (by decide) (cst_18_eq V)
theorem v100_eq : after ops V (Proc.devRef .tc main_v100) = (FwdRefHost.v20 (F := F)) :=
  ordered.binary_eq V (i := 146) rfl (by decide) (by decide) (v99_eq V) (v98_eq V)
theorem v101_eq : after ops V (Proc.devRef .tc main_v101) = (FwdRefHost.v21 (F := F)) :=
  ordered.unary_eq V (i := 147) rfl (by decide) (v94_eq V)
theorem v102_eq : after ops V (Proc.devRef .tc main_v102) = (FwdRefHost.v22 (F := F)) :=
  ordered.unary_eq V (i := 148) rfl (by decide) (v100_eq V)
theorem v103_eq : after ops V (Proc.devRef .tc main_v103) = (FwdRefHost.v23 (F := F)) :=
  ordered.unary_eq V (i := 149) rfl (by decide) (v101_eq V)
theorem v104_eq : after ops V (Proc.devRef .tc main_v104) = (FwdRefHost.v24 (F := F)) :=
  ordered.unary_eq V (i := 150) rfl (by decide) (v102_eq V)
theorem v105_eq : after ops V (Proc.devRef .tc main_v105) = (FwdRefHost.v25 (F := F)) :=
  ordered.binary_eq V (i := 151) rfl (by decide) (by decide) (v103_eq V) (v104_eq V)
theorem v106_eq : after ops V (Proc.devRef .tc main_v106) = (FwdRefHost.v26 (F := F)) :=
  ordered.unary_eq V (i := 152) rfl (by decide) (v105_eq V)
theorem v107_eq : after ops V (Proc.devRef .tc main_v107) = (FwdRefHost.v27 (F := F)) :=
  ordered.unary_eq V (i := 153) rfl (by decide) (v105_eq V)
include hmain_arg0 in
theorem v108_eq : after ops V (Proc.devRef .tc main_v108) = (FwdRefHost.v28 q) :=
  ordered.unary_eq V (i := 154) rfl (by decide) (v83_eq V hmain_arg0)
include hmain_arg0 in
theorem v109_eq : after ops V (Proc.devRef .tc main_v109) = (FwdRefHost.v29 q) :=
  ordered.unary_eq V (i := 155) rfl (by decide) (v83_eq V hmain_arg0)
theorem v110_eq : after ops V (Proc.devRef .tc main_v110) = (FwdRefHost.v30 (F := F)) :=
  ordered.unary_eq V (i := 156) rfl (by decide) (v106_eq V)
theorem v111_eq : after ops V (Proc.devRef .tc main_v111) = (FwdRefHost.v31 (F := F)) :=
  ordered.unary_eq V (i := 157) rfl (by decide) (v110_eq V)
include hmain_arg0 in
theorem v112_eq : after ops V (Proc.devRef .tc main_v112) = (FwdRefHost.v32 q) :=
  ordered.binary_eq V (i := 158) rfl (by decide) (by decide) (v108_eq V hmain_arg0) (v111_eq V)
theorem v113_eq : after ops V (Proc.devRef .tc main_v113) = (FwdRefHost.v33 (F := F)) :=
  ordered.unary_eq V (i := 159) rfl (by decide) (v107_eq V)
theorem v114_eq : after ops V (Proc.devRef .tc main_v114) = (FwdRefHost.v34 (F := F)) :=
  ordered.unary_eq V (i := 160) rfl (by decide) (v113_eq V)
include hmain_arg0 in
theorem v115_eq : after ops V (Proc.devRef .tc main_v115) = (FwdRefHost.v35 q) :=
  ordered.binary_eq V (i := 161) rfl (by decide) (by decide) (v109_eq V hmain_arg0) (v114_eq V)
include hmain_arg0 in
theorem v116_eq : after ops V (Proc.devRef .tc main_v116) = (FwdRefHost.v36 q) :=
  ordered.binary_eq V (i := 162) rfl (by decide) (by decide) (v112_eq V hmain_arg0) (v115_eq V hmain_arg0)
theorem v117_eq : after ops V (Proc.devRef .tc main_v117) = (FwdRefHost.v33 (F := F)) :=
  ordered.unary_eq V (i := 163) rfl (by decide) (v107_eq V)
theorem v118_eq : after ops V (Proc.devRef .tc main_v118) = (FwdRefHost.v34 (F := F)) :=
  ordered.unary_eq V (i := 164) rfl (by decide) (v117_eq V)
include hmain_arg0 in
theorem v119_eq : after ops V (Proc.devRef .tc main_v119) = (FwdRefHost.v39 q) :=
  ordered.binary_eq V (i := 165) rfl (by decide) (by decide) (v108_eq V hmain_arg0) (v118_eq V)
theorem v120_eq : after ops V (Proc.devRef .tc main_v120) = (FwdRefHost.v30 (F := F)) :=
  ordered.unary_eq V (i := 166) rfl (by decide) (v106_eq V)
theorem v121_eq : after ops V (Proc.devRef .tc main_v121) = (FwdRefHost.v31 (F := F)) :=
  ordered.unary_eq V (i := 167) rfl (by decide) (v120_eq V)
include hmain_arg0 in
theorem v122_eq : after ops V (Proc.devRef .tc main_v122) = (FwdRefHost.v42 q) :=
  ordered.binary_eq V (i := 168) rfl (by decide) (by decide) (v109_eq V hmain_arg0) (v121_eq V)
include hmain_arg0 in
theorem v123_eq : after ops V (Proc.devRef .tc main_v123) = (FwdRefHost.v43 q) :=
  ordered.binary_eq V (i := 169) rfl (by decide) (by decide) (v119_eq V hmain_arg0) (v122_eq V hmain_arg0)
include hmain_arg0 in
theorem v124_eq : after ops V (Proc.devRef .tc main_v124) = (FwdRefHost.v44 q) :=
  ordered.binary_eq V (i := 170) rfl (by decide) (by decide) (v116_eq V hmain_arg0) (v123_eq V hmain_arg0)
theorem cst_19_eq : after ops V (Proc.devRef .tc main_cst_19) = (FwdRefHost.cst_5 (F := F)) :=
  ordered.nullary V (i := 171) rfl
theorem v125_eq : after ops V (Proc.devRef .tc main_v125) = (FwdRefHost.v45 (F := F)) :=
  ordered.unary_eq V (i := 172) rfl (by decide) (cst_19_eq V)
include hmain_arg0 in
theorem v126_eq : after ops V (Proc.devRef .tc main_v126) = (FwdRefHost.v46 q) :=
  ordered.binary_eq V (i := 173) rfl (by decide) (by decide) (v124_eq V hmain_arg0) (v125_eq V)
theorem v127_eq : after ops V (Proc.devRef .tc main_v127) = (FwdRefHost.v15 (F := F)) :=
  ordered.nullary V (i := 174) rfl
theorem v128_eq : after ops V (Proc.devRef .tc main_v128) = (FwdRefHost.v16 (F := F)) :=
  ordered.unary_eq V (i := 175) rfl (by decide) (v127_eq V)
theorem cst_20_eq : after ops V (Proc.devRef .tc main_cst_20) = (FwdRefHost.cst_3 (F := F)) :=
  ordered.nullary V (i := 176) rfl
theorem v129_eq : after ops V (Proc.devRef .tc main_v129) = (FwdRefHost.v17 (F := F)) :=
  ordered.unary_eq V (i := 177) rfl (by decide) (cst_20_eq V)
theorem v130_eq : after ops V (Proc.devRef .tc main_v130) = (FwdRefHost.v18 (F := F)) :=
  ordered.binary_eq V (i := 178) rfl (by decide) (by decide) (v128_eq V) (v129_eq V)
theorem cst_21_eq : after ops V (Proc.devRef .tc main_cst_21) = (FwdRefHost.cst_4 (F := F)) :=
  ordered.nullary V (i := 179) rfl
theorem v131_eq : after ops V (Proc.devRef .tc main_v131) = (FwdRefHost.v19 (F := F)) :=
  ordered.unary_eq V (i := 180) rfl (by decide) (cst_21_eq V)
theorem v132_eq : after ops V (Proc.devRef .tc main_v132) = (FwdRefHost.v20 (F := F)) :=
  ordered.binary_eq V (i := 181) rfl (by decide) (by decide) (v131_eq V) (v130_eq V)
theorem v133_eq : after ops V (Proc.devRef .tc main_v133) = (FwdRefHost.v21 (F := F)) :=
  ordered.unary_eq V (i := 182) rfl (by decide) (v94_eq V)
theorem v134_eq : after ops V (Proc.devRef .tc main_v134) = (FwdRefHost.v22 (F := F)) :=
  ordered.unary_eq V (i := 183) rfl (by decide) (v132_eq V)
theorem v135_eq : after ops V (Proc.devRef .tc main_v135) = (FwdRefHost.v23 (F := F)) :=
  ordered.unary_eq V (i := 184) rfl (by decide) (v133_eq V)
theorem v136_eq : after ops V (Proc.devRef .tc main_v136) = (FwdRefHost.v24 (F := F)) :=
  ordered.unary_eq V (i := 185) rfl (by decide) (v134_eq V)
theorem v137_eq : after ops V (Proc.devRef .tc main_v137) = (FwdRefHost.v25 (F := F)) :=
  ordered.binary_eq V (i := 186) rfl (by decide) (by decide) (v135_eq V) (v136_eq V)
theorem v138_eq : after ops V (Proc.devRef .tc main_v138) = (FwdRefHost.v26 (F := F)) :=
  ordered.unary_eq V (i := 187) rfl (by decide) (v137_eq V)
theorem v139_eq : after ops V (Proc.devRef .tc main_v139) = (FwdRefHost.v27 (F := F)) :=
  ordered.unary_eq V (i := 188) rfl (by decide) (v137_eq V)
include hmain_arg1 in
theorem v140_eq : after ops V (Proc.devRef .tc main_v140) = (FwdRefHost.v28 k) :=
  ordered.unary_eq V (i := 189) rfl (by decide) (v87_eq V hmain_arg1)
include hmain_arg1 in
theorem v141_eq : after ops V (Proc.devRef .tc main_v141) = (FwdRefHost.v29 k) :=
  ordered.unary_eq V (i := 190) rfl (by decide) (v87_eq V hmain_arg1)
theorem v142_eq : after ops V (Proc.devRef .tc main_v142) = (FwdRefHost.v30 (F := F)) :=
  ordered.unary_eq V (i := 191) rfl (by decide) (v138_eq V)
theorem v143_eq : after ops V (Proc.devRef .tc main_v143) = (FwdRefHost.v31 (F := F)) :=
  ordered.unary_eq V (i := 192) rfl (by decide) (v142_eq V)
include hmain_arg1 in
theorem v144_eq : after ops V (Proc.devRef .tc main_v144) = (FwdRefHost.v32 k) :=
  ordered.binary_eq V (i := 193) rfl (by decide) (by decide) (v140_eq V hmain_arg1) (v143_eq V)
theorem v145_eq : after ops V (Proc.devRef .tc main_v145) = (FwdRefHost.v33 (F := F)) :=
  ordered.unary_eq V (i := 194) rfl (by decide) (v139_eq V)
theorem v146_eq : after ops V (Proc.devRef .tc main_v146) = (FwdRefHost.v34 (F := F)) :=
  ordered.unary_eq V (i := 195) rfl (by decide) (v145_eq V)
include hmain_arg1 in
theorem v147_eq : after ops V (Proc.devRef .tc main_v147) = (FwdRefHost.v35 k) :=
  ordered.binary_eq V (i := 196) rfl (by decide) (by decide) (v141_eq V hmain_arg1) (v146_eq V)
include hmain_arg1 in
theorem v148_eq : after ops V (Proc.devRef .tc main_v148) = (FwdRefHost.v36 k) :=
  ordered.binary_eq V (i := 197) rfl (by decide) (by decide) (v144_eq V hmain_arg1) (v147_eq V hmain_arg1)
theorem v149_eq : after ops V (Proc.devRef .tc main_v149) = (FwdRefHost.v33 (F := F)) :=
  ordered.unary_eq V (i := 198) rfl (by decide) (v139_eq V)
theorem v150_eq : after ops V (Proc.devRef .tc main_v150) = (FwdRefHost.v34 (F := F)) :=
  ordered.unary_eq V (i := 199) rfl (by decide) (v149_eq V)
include hmain_arg1 in
theorem v151_eq : after ops V (Proc.devRef .tc main_v151) = (FwdRefHost.v39 k) :=
  ordered.binary_eq V (i := 200) rfl (by decide) (by decide) (v140_eq V hmain_arg1) (v150_eq V)
theorem v152_eq : after ops V (Proc.devRef .tc main_v152) = (FwdRefHost.v30 (F := F)) :=
  ordered.unary_eq V (i := 201) rfl (by decide) (v138_eq V)
theorem v153_eq : after ops V (Proc.devRef .tc main_v153) = (FwdRefHost.v31 (F := F)) :=
  ordered.unary_eq V (i := 202) rfl (by decide) (v152_eq V)
include hmain_arg1 in
theorem v154_eq : after ops V (Proc.devRef .tc main_v154) = (FwdRefHost.v42 k) :=
  ordered.binary_eq V (i := 203) rfl (by decide) (by decide) (v141_eq V hmain_arg1) (v153_eq V)
include hmain_arg1 in
theorem v155_eq : after ops V (Proc.devRef .tc main_v155) = (FwdRefHost.v43 k) :=
  ordered.binary_eq V (i := 204) rfl (by decide) (by decide) (v151_eq V hmain_arg1) (v154_eq V hmain_arg1)
include hmain_arg1 in
theorem v156_eq : after ops V (Proc.devRef .tc main_v156) = (FwdRefHost.v44 k) :=
  ordered.binary_eq V (i := 205) rfl (by decide) (by decide) (v148_eq V hmain_arg1) (v155_eq V hmain_arg1)
include hmain_arg0 in
theorem v157_eq : after ops V (Proc.devRef .tc main_v157) = (FwdRefHost.v77 q) :=
  ordered.reshape_eq V (i := 206) rfl (by decide) (v126_eq V hmain_arg0)
include hmain_arg1 in
theorem v158_eq : after ops V (Proc.devRef .tc main_v158) = (FwdRefHost.v78 k) :=
  ordered.reshape_eq V (i := 207) rfl (by decide) (v156_eq V hmain_arg1)
include hmain_arg2 in
theorem v159_eq : after ops V (Proc.devRef .tc main_v159) = (FwdRefHost.v79 v) :=
  ordered.reshape_eq V (i := 208) rfl (by decide) (v91_eq V hmain_arg2)
include hmain_arg0 in
theorem v184_eq : after ops V (Proc.devRef .tc main_v184) = (v184 q) :=
  ordered.reshape_eq V (i := 237) rfl (by decide) (v157_eq V hmain_arg0)
include hmain_arg0 in
theorem v185_eq : after ops V (Proc.devRef .tc main_v185) = (v185 q) :=
  ordered.unary_eq V (i := 238) rfl (by decide) (v184_eq V hmain_arg0)
include hmain_arg0 in
theorem v186_eq : after ops V (Proc.devRef .tc main_v186) = (v186 q) :=
  ordered.reshape_eq V (i := 239) rfl (by decide) (v185_eq V hmain_arg0)
include hmain_arg1 in
theorem v187_eq : after ops V (Proc.devRef .tc main_v187) = (v187 k) :=
  ordered.reshape_eq V (i := 240) rfl (by decide) (v158_eq V hmain_arg1)
include hmain_arg1 in
theorem v188_eq : after ops V (Proc.devRef .tc main_v188) = (v188 k) :=
  ordered.unary_eq V (i := 241) rfl (by decide) (v187_eq V hmain_arg1)
include hmain_arg1 in
theorem v189_eq : after ops V (Proc.devRef .tc main_v189) = (v189 k) :=
  ordered.reshape_eq V (i := 242) rfl (by decide) (v188_eq V hmain_arg1)
include hmain_arg2 in
theorem v190_eq : after ops V (Proc.devRef .tc main_v190) = (v190 v) :=
  ordered.reshape_eq V (i := 243) rfl (by decide) (v159_eq V hmain_arg2)
include hmain_arg2 in
theorem v191_eq : after ops V (Proc.devRef .tc main_v191) = (v191 v) :=
  ordered.unary_eq V (i := 244) rfl (by decide) (v190_eq V hmain_arg2)
include hmain_arg2 in
theorem v192_eq : after ops V (Proc.devRef .tc main_v192) = (v192 v) :=
  ordered.reshape_eq V (i := 245) rfl (by decide) (v191_eq V hmain_arg2)
include hmain_arg0 hmain_arg1 hmain_arg2 in
theorem v193_eq : after ops V (Proc.devRef .tc main_v193) = (v193 q k v) :=
  ordered.nary_eq V (i := 246) rfl (by decide) (fun i => match i with | 0 => (v186 q) | 1 => (v189 k) | 2 => (v192 v))
    (fun i => match i with | 0 => (v186_eq V hmain_arg0) | 1 => (v189_eq V hmain_arg1) | 2 => (v192_eq V hmain_arg2))
include hmain_arg0 hmain_arg1 hmain_arg2 in
theorem v194_eq : after ops V (Proc.devRef .tc main_v194) = (v194 q k v) :=
  ordered.unary_eq V (i := 247) rfl (by decide) (v193_eq V hmain_arg0 hmain_arg1 hmain_arg2)

end Pre

end Cert.FwdHost

end
-- ==== Proof.FwdRefLoop.lean ====
/- The forward reference's loop: the states it stacks. -/
module

public import proofs.«01_k».proof.Proof.Gen.FwdRefIdeal.Run
public import proofs.«01_k».proof.Proof.Scan

@[expose] public section

set_option maxRecDepth 8000

noncomputable section

namespace Cert.FwdRefLoop

open Cert.FwdRefIdeal Cert.FwdRefIdeal.Gen Cert.FwdRefIdeal.Value
open Idealize.ShloMosaic hiding ix0 ix1 ix2 ix3 ix4 ix5
open Idealize.ShloMosaic.TcCoe Idealize.ShloMosaic.StableHlo Idealize.ShloMosaic.ValueIdx

/-! ## The scan over the chunks -/

section
variable (W : Dev nD → Valuation τ sig (Elt Ideal)) (c : Dev nD)

/-- The contents before trip `k`. -/
abbrev at_ (k : ℕ) : Valuation τ sig (Elt Ideal) := atTrip condOps bodyI W k c

theorem at_succ (k : ℕ) : at_ W c (k + 1) = afterL bodyI (after condOps (at_ W c k)) := rfl

/-- A buffer no trip writes keeps its contents. -/
theorem keep (r : Ref sig .tc) (hc : r ∉ condOps_W) (h0 : r ∉ while0Ops0_W) (h1 : r ∉ while0Ops0_1_W) (h2 : r ∉ while0Ops0_2_W) (h3 : r ∉ while0Ops0_3_W) :
    ∀ k, at_ W c k (Proc.devRef .tc r) = W c (Proc.devRef .tc r)
  | 0 => rfl
  | k + 1 => by
    rw [at_succ]
    simp only [afterL_cons, afterL_nil]
    rw [after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0,
      after_of_writes_sub condOps _ condOps_writes hc, keep r hc h0 h1 h2 h3 k]

theorem cond_keep (X : Valuation τ sig (Elt Ideal)) (i : Fin 5) :
    after condOps X (Proc.devRef .tc (![main_v134_0, main_v134_1, main_v134_2, main_v134_3, main_v134_4] i)) = X (Proc.devRef .tc (![main_v134_0, main_v134_1, main_v134_2, main_v134_3, main_v134_4] i)) := by
  fin_cases i <;> exact after_of_writes_sub condOps _ condOps_writes (by decide +kernel)

theorem slots : ∀ k, at_ W c k (Proc.devRef .tc main_v134_0) = W c (Proc.devRef .tc main_v134_0)
  | 0 => rfl
  | k + 1 => by rw [at_succ, trip_main_v134_0]; exact (cond_keep _ 0).trans (slots k)

theorem factor : ∀ k, at_ W c k (Proc.devRef .tc main_v134_1) = W c (Proc.devRef .tc main_v134_1)
  | 0 => rfl
  | k + 1 => by rw [at_succ, trip_main_v134_1]; exact (cond_keep _ 1).trans (factor k)

/-- The counter before trip `k`. -/
theorem counter (h0 : W c (Proc.devRef .tc main_v134_2) = fun _ => (0#32 : BitVec 32)) : ∀ k, at_ W c k (Proc.devRef .tc main_v134_2) = fun _ => Scf.iv 0#32 1#32 k
  | 0 => by rw [Scf.iv_zero]; exact h0
  | k + 1 => by
    rw [at_succ, trip_main_v134_2, show after condOps (at_ W c k) (Proc.devRef .tc main_v134_2) = _ from (cond_keep _ 2).trans (counter h0 k), Scf.iv_succ]
    rfl

/-- The order the chunks are taken in. -/
def order (k : ℕ) : Fin 33 := ⟨k % 33, Nat.mod_lt _ (by norm_num)⟩

theorem order_inj : ∀ j k : ℕ, j < 33 → k < 33 → order j = order k → j = k := by
  intro j k hj hk e
  have e' := congrArg Fin.val e
  simp only [order] at e'
  omega

/-- The slot a trip reads and writes. -/
def start (V : Valuation τ sig (Elt Ideal)) : Fin 5 → Int := fun k =>
  (((![V (Proc.devRef .tc main_v134_2), constantI S_ 32 0#32, constantI S_ 32 0#32, constantI S_ 32 0#32, constantI S_ 32 0#32] : Fin 5 → (⟨S_, .i32⟩ : BufTy).Contents (Elt Ideal))) k (Shape.Idx.first h_S_)).toInt

theorem start_zero (V : Valuation τ sig (Elt Ideal)) (a : Fin 5) (ha : a ≠ 0) : start V a = 0 := by
  fin_cases a
  · exact absurd rfl ha
  all_goals rfl

theorem start_at (h0 : W c (Proc.devRef .tc main_v134_2) = fun _ => (0#32 : BitVec 32)) (k : ℕ) (hk : k < 33) :
    start (after condOps (at_ W c k)) 0 = ((order k).val : Int) := by
  have hc : after condOps (at_ W c k) (Proc.devRef .tc main_v134_2) = fun _ => Scf.iv 0#32 1#32 k := (cond_keep _ 2).trans (counter W c h0 k)
  simp only [start, hc]
  exact (Scan.word_up k hk).trans (by simp only [order]; omega)

/-- What the stack holds after the loop. -/
theorem stack (h0 : W c (Proc.devRef .tc main_v134_2) = fun _ => (0#32 : BitVec 32)) (hz : ∀ h a b, (W c (Proc.devRef .tc main_v134_3) : Vec Ideal Scan.Carried .f32) (ix4 0 h a b) = (0 : EReal))
    (k : ℕ) (hk : k < 33) (h : Fin 4) (a b : Fin 128) :
    (after condOps (at_ W c 33) (Proc.devRef .tc main_v134_4) : Vec Ideal Scan.Stack .f32) (ix5 (order k) 0 h a b)
      = Scan.carried (W c (Proc.devRef .tc main_v134_1)) (W c (Proc.devRef .tc main_v134_0)) order h a b k := by
  rw [show after condOps (at_ W c 33) (Proc.devRef .tc main_v134_4) = _ from cond_keep _ 4]
  refine Scan.stacked (S := fun k => at_ W c k (Proc.devRef .tc main_v134_3)) (K := fun k => at_ W c k (Proc.devRef .tc main_v134_4)) order_inj hz ?_ ?_ k hk h a b
  · intro k hk h a b
    show at_ W c (k + 1) (Proc.devRef .tc main_v134_3) _ = _
    rw [at_succ, trip_main_v134_3, show after condOps (at_ W c k) (Proc.devRef .tc main_v134_0) = _ from (cond_keep _ 0).trans (slots W c k),
      show after condOps (at_ W c k) (Proc.devRef .tc main_v134_1) = _ from (cond_keep _ 1).trans (factor W c k),
      show after condOps (at_ W c k) (Proc.devRef .tc main_v134_3) = _ from cond_keep _ 3]
    have hn := Scan.next_at (at_ W c k (Proc.devRef .tc main_v134_3)) (W c (Proc.devRef .tc main_v134_1)) (W c (Proc.devRef .tc main_v134_0)) (start (after condOps (at_ W c k)))
      bcast_S1x4x1x1_S1x4x128x128_0_1_2_3 sliceFits_S33x1x4x128x128_S1x1x4x128x128 shapeCasts_S1x1x4x128x128_S1x4x128x128
      (order k) (start_at W c h0 k hk) (start_zero _) h a b
    exact congrArg₂ (fun s t : EReal => s + t) hn.1 hn.2
  · intro k hk n h a b
    show at_ W c (k + 1) (Proc.devRef .tc main_v134_4) _ = _
    rw [at_succ, trip_main_v134_4, show after condOps (at_ W c k) (Proc.devRef .tc main_v134_3) = _ from cond_keep _ 3,
      show after condOps (at_ W c k) (Proc.devRef .tc main_v134_4) = _ from cond_keep _ 4]
    exact Scan.write_at (at_ W c k (Proc.devRef .tc main_v134_4)) (at_ W c k (Proc.devRef .tc main_v134_3)) (start (after condOps (at_ W c k)))
      bcast_S1x4x128x128_S1x1x4x128x128_1_2_3_4 updateFits_S33x1x4x128x128_S1x1x4x128x128
      (order k) (start_at W c h0 k hk) (start_zero _) n h a b

end

end Cert.FwdRefLoop

end
-- ==== Proof.Dots.lean ====
/- The products of the retention's two programs read at an index: each is a sum over the one contracted axis of 128. -/
module

public import Idealize.ShloMosaic.Lib.ValueIdx
public import Idealize.ShloMosaic.Lib.Pointwise.Contract
public import Idealize.ShloMosaic.PureOps.Ideal.Laws

@[expose] public section

noncomputable section

namespace Cert.Dots

open Idealize.ShloMosaic hiding ix0 ix1 ix2 ix3 ix4 ix5
open Idealize.ShloMosaic.ValueIdx
open scoped BigOperators

/-- A tile: one chunk of one head. -/
abbrev T : Shape := ⟨2, ![128, 128]⟩
/-- All chunks of all heads, heads outermost … -/
abbrev H : Shape := ⟨5, ![1, 4, 33, 128, 128]⟩
/-- … and chunks outermost. -/
abbrev N : Shape := ⟨5, ![33, 1, 4, 128, 128]⟩

variable {sl sr so : Shape} {φ₁ φ₂ : FTy}

/-- A product over a zero accumulator, the factors' indices named. -/
theorem matmul_at (d : DotDims sl sr so) {a : Fin sl.rank} (hc : d.lhsContracting = [a]) (hK : sl.size a = 128)
    (x : FVec Ideal sl φ₁) (y : FVec Ideal sr φ₂) (j : so.Idx) (L : Fin 128 → sl.Idx) (R : Fin 128 → sr.Idx)
    (hL : ∀ k, d.lhsIdx j (d.contrIdx₁ hc hK k) = L k) (hR : ∀ k, d.rhsIdx j (d.contrIdx₁ hc hK k) = R k) :
    matmul d none x y (constant so .f32 0x00000000#32) j = ∑ k : Fin 128, (x (L k) : EReal) * y (R k) := by
  refine (Ideal.matmul_constant_zero_apply d none x y j).trans ((d.sum_contr₁ hc hK _).trans (Finset.sum_congr rfl fun k _ => ?_))
  rw [hL, hR]

/-- A host product, the factors' indices named. -/
theorem host_at (d : DotDims sl sr so) {a : Fin sl.rank} (hc : d.lhsContracting = [a]) (hK : sl.size a = 128)
    (x : FVec Ideal sl φ₁) (y : FVec Ideal sr φ₂) (j : so.Idx) (L : Fin 128 → sl.Idx) (R : Fin 128 → sr.Idx)
    (hL : ∀ k, d.lhsIdx j (d.contrIdx₁ hc hK k) = L k) (hR : ∀ k, d.rhsIdx j (d.contrIdx₁ hc hK k) = R k) :
    Host.dotGeneral d none x y j = ∑ k : Fin 128, (x (L k) : EReal) * y (R k) := by
  refine (Ideal.dotGeneral_apply d none .single x y j).trans ((d.sum_contr₁ hc hK _).trans (Finset.sum_congr rfl fun k _ => ?_))
  rw [hL, hR]

/-- Rows against rows. -/
theorem nt (wf : DotDims.WF T T T [1] [1] [0] [0] [] []) (x : FVec Ideal T φ₁) (y : FVec Ideal T φ₂)
    (a b : Fin 128) :
    matmul (⟨[1], [1], [0], [0], [], [], wf⟩ : DotDims T T T) none x y (constant T .f32 0x00000000#32) (ix2 a b)
      = ∑ k : Fin 128, (x (ix2 a k) : EReal) * y (ix2 b k) :=
  matmul_at _ (a := 1) rfl rfl x y _ (fun k => ix2 a k) (fun k => ix2 b k)
    (fun k => by funext i; fin_cases i <;> rfl) (fun k => by funext i; fin_cases i <;> rfl)

/-- Rows against columns. -/
theorem nn (wf : DotDims.WF T T T [1] [0] [0] [1] [] []) (x : FVec Ideal T φ₁) (y : FVec Ideal T φ₂)
    (a b : Fin 128) :
    matmul (⟨[1], [0], [0], [1], [], [], wf⟩ : DotDims T T T) none x y (constant T .f32 0x00000000#32) (ix2 a b)
      = ∑ k : Fin 128, (x (ix2 a k) : EReal) * y (ix2 k b) :=
  matmul_at _ (a := 1) rfl rfl x y _ (fun k => ix2 a k) (fun k => ix2 k b)
    (fun k => by funext i; fin_cases i <;> rfl) (fun k => by funext i; fin_cases i <;> rfl)

/-- Columns against columns. -/
theorem tn (wf : DotDims.WF T T T [0] [0] [1] [1] [] []) (x : FVec Ideal T φ₁) (y : FVec Ideal T φ₂)
    (a b : Fin 128) :
    matmul (⟨[0], [0], [1], [1], [], [], wf⟩ : DotDims T T T) none x y (constant T .f32 0x00000000#32) (ix2 a b)
      = ∑ k : Fin 128, (x (ix2 k a) : EReal) * y (ix2 k b) :=
  matmul_at _ (a := 0) rfl rfl x y _ (fun k => ix2 k a) (fun k => ix2 k b)
    (fun k => by funext i; fin_cases i <;> rfl) (fun k => by funext i; fin_cases i <;> rfl)

/-- Columns against columns. -/
theorem hh_tn (wf : DotDims.WF H H H [3] [3] [4] [4] [0, 1, 2] [0, 1, 2]) (x : FVec Ideal H φ₁) (y : FVec Ideal H φ₂)
    (h : Fin 4) (n : Fin 33) (a b : Fin 128) :
    Host.dotGeneral (⟨[3], [3], [4], [4], [0, 1, 2], [0, 1, 2], wf⟩ : DotDims H H H) none x y (ix5 0 h n a b)
      = ∑ k : Fin 128, (x (ix5 0 h n k a) : EReal) * y (ix5 0 h n k b) :=
  host_at _ (a := 3) rfl rfl x y _ (fun k => ix5 0 h n k a) (fun k => ix5 0 h n k b)
    (fun k => by funext i; fin_cases i <;> rfl) (fun k => by funext i; fin_cases i <;> rfl)

/-- Rows against columns. -/
theorem hh_nn (wf : DotDims.WF H H H [4] [3] [3] [4] [0, 1, 2] [0, 1, 2]) (x : FVec Ideal H φ₁) (y : FVec Ideal H φ₂)
    (h : Fin 4) (n : Fin 33) (a b : Fin 128) :
    Host.dotGeneral (⟨[4], [3], [3], [4], [0, 1, 2], [0, 1, 2], wf⟩ : DotDims H H H) none x y (ix5 0 h n a b)
      = ∑ k : Fin 128, (x (ix5 0 h n a k) : EReal) * y (ix5 0 h n k b) :=
  host_at _ (a := 4) rfl rfl x y _ (fun k => ix5 0 h n a k) (fun k => ix5 0 h n k b)
    (fun k => by funext i; fin_cases i <;> rfl) (fun k => by funext i; fin_cases i <;> rfl)

/-- Rows against rows. -/
theorem hh_nt (wf : DotDims.WF H H H [4] [4] [3] [3] [0, 1, 2] [0, 1, 2]) (x : FVec Ideal H φ₁) (y : FVec Ideal H φ₂)
    (h : Fin 4) (n : Fin 33) (a b : Fin 128) :
    Host.dotGeneral (⟨[4], [4], [3], [3], [0, 1, 2], [0, 1, 2], wf⟩ : DotDims H H H) none x y (ix5 0 h n a b)
      = ∑ k : Fin 128, (x (ix5 0 h n a k) : EReal) * y (ix5 0 h n b k) :=
  host_at _ (a := 4) rfl rfl x y _ (fun k => ix5 0 h n a k) (fun k => ix5 0 h n b k)
    (fun k => by funext i; fin_cases i <;> rfl) (fun k => by funext i; fin_cases i <;> rfl)

/-- Columns against columns, chunks outermost in the result. -/
theorem hhn_tn (wf : DotDims.WF H H N [3] [3] [4] [4] [2, 0, 1] [2, 0, 1]) (x : FVec Ideal H φ₁) (y : FVec Ideal H φ₂)
    (h : Fin 4) (n : Fin 33) (a b : Fin 128) :
    Host.dotGeneral (⟨[3], [3], [4], [4], [2, 0, 1], [2, 0, 1], wf⟩ : DotDims H H N) none x y (ix5 n 0 h a b)
      = ∑ k : Fin 128, (x (ix5 0 h n k a) : EReal) * y (ix5 0 h n k b) :=
  host_at _ (a := 3) rfl rfl x y _ (fun k => ix5 0 h n k a) (fun k => ix5 0 h n k b)
    (fun k => by funext i; fin_cases i <;> rfl) (fun k => by funext i; fin_cases i <;> rfl)

/-- Rows against columns of a stack. -/
theorem hn_nn (wf : DotDims.WF H N H [4] [3] [3] [4] [0, 1, 2] [1, 2, 0]) (x : FVec Ideal H φ₁) (y : FVec Ideal N φ₂)
    (h : Fin 4) (n : Fin 33) (a b : Fin 128) :
    Host.dotGeneral (⟨[4], [3], [3], [4], [0, 1, 2], [1, 2, 0], wf⟩ : DotDims H N H) none x y (ix5 0 h n a b)
      = ∑ k : Fin 128, (x (ix5 0 h n a k) : EReal) * y (ix5 n 0 h k b) :=
  host_at _ (a := 4) rfl rfl x y _ (fun k => ix5 0 h n a k) (fun k => ix5 n 0 h k b)
    (fun k => by funext i; fin_cases i <;> rfl) (fun k => by funext i; fin_cases i <;> rfl)

/-- Rows against rows of a stack. -/
theorem hn_nt (wf : DotDims.WF H N H [4] [4] [3] [3] [0, 1, 2] [1, 2, 0]) (x : FVec Ideal H φ₁) (y : FVec Ideal N φ₂)
    (h : Fin 4) (n : Fin 33) (a b : Fin 128) :
    Host.dotGeneral (⟨[4], [4], [3], [3], [0, 1, 2], [1, 2, 0], wf⟩ : DotDims H N H) none x y (ix5 0 h n a b)
      = ∑ k : Fin 128, (x (ix5 0 h n a k) : EReal) * y (ix5 n 0 h b k) :=
  host_at _ (a := 4) rfl rfl x y _ (fun k => ix5 0 h n a k) (fun k => ix5 n 0 h b k)
    (fun k => by funext i; fin_cases i <;> rfl) (fun k => by funext i; fin_cases i <;> rfl)

/-- Columns of a stack against rows. -/
theorem nh_tt (wf : DotDims.WF N H N [3] [4] [4] [3] [0, 1, 2] [2, 0, 1]) (x : FVec Ideal N φ₁) (y : FVec Ideal H φ₂)
    (h : Fin 4) (n : Fin 33) (a b : Fin 128) :
    Host.dotGeneral (⟨[3], [4], [4], [3], [0, 1, 2], [2, 0, 1], wf⟩ : DotDims N H N) none x y (ix5 n 0 h a b)
      = ∑ k : Fin 128, (x (ix5 n 0 h k a) : EReal) * y (ix5 0 h n b k) :=
  host_at _ (a := 3) rfl rfl x y _ (fun k => ix5 n 0 h k a) (fun k => ix5 0 h n b k)
    (fun k => by funext i; fin_cases i <;> rfl) (fun k => by funext i; fin_cases i <;> rfl)

/-- Rows of a stack against rows. -/
theorem nh_nt (wf : DotDims.WF N H N [4] [4] [3] [3] [0, 1, 2] [2, 0, 1]) (x : FVec Ideal N φ₁) (y : FVec Ideal H φ₂)
    (h : Fin 4) (n : Fin 33) (a b : Fin 128) :
    Host.dotGeneral (⟨[4], [4], [3], [3], [0, 1, 2], [2, 0, 1], wf⟩ : DotDims N H N) none x y (ix5 n 0 h a b)
      = ∑ k : Fin 128, (x (ix5 n 0 h a k) : EReal) * y (ix5 0 h n b k) :=
  host_at _ (a := 4) rfl rfl x y _ (fun k => ix5 n 0 h a k) (fun k => ix5 0 h n b k)
    (fun k => by funext i; fin_cases i <;> rfl) (fun k => by funext i; fin_cases i <;> rfl)

end Cert.Dots

end
-- ==== Proof.FwdEq.lean ====
/- The forward retention's equation over the reals: a chunk and head of the kernel's result is the reference's, and the
   states saved before each chunk are the reference's scan. Both programs prepare the same queries, keys, values and decays;
   the kernel's tiles are the reference's chunks read through the projected array's layout. -/
module

public import proofs.«01_k».proof.Proof.FwdArray
public import proofs.«01_k».proof.Proof.FwdHost
public import proofs.«01_k».proof.Proof.FwdRefLoop
public import proofs.«01_k».proof.Proof.Dots

@[expose] public section

set_option maxRecDepth 16384

noncomputable section

namespace Cert.FwdEq

open Idealize.ShloMosaic hiding ix0 ix1 ix2 ix3 ix4 ix5 eq_ix1 eq_ix2 eq_ix3 eq_ix4 eq_ix5
open Idealize.ShloMosaic.TcCoe Idealize.ShloMosaic.ValueIdx
open Cert.FwdIdeal Cert.FwdIdeal.Gen Cert.FwdBlock
open scoped BigOperators

abbrev Arg : Type := (⟨S1x4112x512, .f32⟩ : BufTy).Contents (Elt Ideal)

variable (q k v : Arg)

/-! ## The layout of the projected array and of the tables -/

/-- Chunks and heads laid out as rows and columns. -/
theorem columns_apply {α : Type} (t : S1x4x33x128x128.Idx → α) (r : Fin 4224) (e : Fin 512)
    (n : Fin 33) (h : Fin 4) (a b : Fin 128) (hr : r.val = 128 * n.val + a.val) (he : e.val = 128 * h.val + b.val) :
    shapeCast S4224x512 (transpose S4224x4x128 [1, 0, 2] (shapeCast S4x4224x128 t shapeCasts_S1x4x33x128x128_S4x4224x128)
      transposes_S4x4224x128_S4224x4x128_1_0_2) shapeCasts_S4224x4x128_S4224x512 (ix2 r e) = t (ix5 0 h n a b) := by
  rw [shapeCast_apply _ _ (ix2 r e) (ix3 r h b) (by
    rw [Shape.rowMajor_val_two, Shape.rowMajor_val_three]
    show (r.val * 4 + h.val) * 128 + b.val = r.val * 512 + e.val
    omega)]
  rw [transpose_apply _ _ _ (ix3 r h b) (ix3 h r b) (fun i => by fin_cases i <;> rfl)]
  exact shapeCast_apply _ _ (ix3 h r b) (ix5 0 h n a b) (by
    rw [Shape.rowMajor_val_three, Shape.rowMajor_val_five]
    show ((((0 * 4 + h.val) * 33 + n.val) * 128 + a.val) * 128 + b.val) = (h.val * 4224 + r.val) * 128 + b.val
    omega)

/-- The parts of the projected array: queries, keys, values. -/
def part (w : Fin 3) : S1x4x33x128x128.Idx → EReal :=
  match w with
  | 0 => FwdRefHost.v77 q
  | 1 => FwdRefHost.v78 k
  | 2 => FwdRefHost.v79 v

theorem zTile_apply (w : Fin 3) (n : Fin 33) (h : Fin 4) (a b : Fin 128) :
    zTile (FwdHost.v194 q k v) w.val n.val h.val (ix2 a b) = part q k v w (ix5 0 h n a b) := by
  have ha := a.isLt; have hb := b.isLt; have hn := n.isLt; have hh := h.isLt; have hw := w.isLt
  have hc : 128 * h.val + b.val < 512 := by omega
  have hr : 128 * n.val + a.val < 4224 := by omega
  show FwdHost.v193 q k v _ = _
  rw [show (ix2 (⟨(128 * n.val + ((ix2 a b : S128x128.Idx) 0).val) % 4224, Nat.mod_lt _ (by omega)⟩ : Fin 4224)
      (⟨(512 * w.val + 128 * h.val + ((ix2 a b : S128x128.Idx) 1).val) % 1536, Nat.mod_lt _ (by omega)⟩ : Fin 1536) : S4224x1536.Idx)
      = ix2 ⟨128 * n.val + a.val, hr⟩ ⟨512 * w.val + (128 * h.val + b.val), by omega⟩ from
    congrArg₂ ix2 (Fin.ext (Nat.mod_eq_of_lt hr)) (Fin.ext (by
      show (512 * w.val + 128 * h.val + b.val) % 1536 = 512 * w.val + (128 * h.val + b.val)
      omega))]
  unfold FwdHost.v193
  fin_cases w
  · refine (concatenate_apply_piece (t := S4224x1536) (s₁ := S4224x512) 1 [⟨S4224x512, FwdHost.v186 q⟩, ⟨S4224x512, FwdHost.v189 k⟩, ⟨S4224x512, FwdHost.v192 v⟩] _ _ 0 (by simp) (FwdHost.v186 q) rfl rfl 0 rfl (ix2 ⟨128 * n.val + a.val, hr⟩ ⟨128 * h.val + b.val, hc⟩)
      (fun i hi => ?_) ?_).trans (columns_apply (FwdRefHost.v77 q) _ _ n h a b rfl rfl)
    · fin_cases i <;> first | rfl | exact absurd rfl hi
    · show 0 + (128 * h.val + b.val) = 512 * 0 + (128 * h.val + b.val); omega
  · refine (concatenate_apply_piece (t := S4224x1536) (s₁ := S4224x512) 1 [⟨S4224x512, FwdHost.v186 q⟩, ⟨S4224x512, FwdHost.v189 k⟩, ⟨S4224x512, FwdHost.v192 v⟩] _ _ 1 (by simp) (FwdHost.v189 k) rfl rfl 512 rfl (ix2 ⟨128 * n.val + a.val, hr⟩ ⟨128 * h.val + b.val, hc⟩)
      (fun i hi => ?_) ?_).trans (columns_apply (FwdRefHost.v78 k) _ _ n h a b rfl rfl)
    · fin_cases i <;> first | rfl | exact absurd rfl hi
    · show 512 + (128 * h.val + b.val) = 512 * 1 + (128 * h.val + b.val); omega
  · refine (concatenate_apply_piece (t := S4224x1536) (s₁ := S4224x512) 1 [⟨S4224x512, FwdHost.v186 q⟩, ⟨S4224x512, FwdHost.v189 k⟩, ⟨S4224x512, FwdHost.v192 v⟩] _ _ 2 (by simp) (FwdHost.v192 v) rfl rfl 1024 rfl (ix2 ⟨128 * n.val + a.val, hr⟩ ⟨128 * h.val + b.val, hc⟩)
      (fun i hi => ?_) ?_).trans (columns_apply (FwdRefHost.v79 v) _ _ n h a b rfl rfl)
    · fin_cases i <;> first | rfl | exact absurd rfl hi
    · show 1024 + (128 * h.val + b.val) = 512 * 2 + (128 * h.val + b.val); omega

theorem mask_apply (h : Fin 4) (a b : Fin 128) : dTile (FwdHost.v79 (F := Ideal)) h 0 (ix2 a b) = FwdRefHost.v118 (F := Ideal) (ix3 h a b) := by
  show FwdHost.v79 (F := Ideal) (ix4 h 0 a b) = _
  unfold FwdHost.v79
  refine (concatenate_apply_piece (t := S4x4x128x128) (s₁ := S4x1x128x128) 1
      [⟨S4x1x128x128, FwdHost.v75 (F := Ideal)⟩, ⟨S4x1x128x128, FwdHost.v76⟩, ⟨S4x1x128x128, FwdHost.v77⟩, ⟨S4x1x128x128, FwdHost.v78⟩] _ _ 0 (by simp) FwdHost.v75 rfl rfl 0 rfl (ix4 h 0 a b)
    (fun i hi => by fin_cases i <;> first | rfl | exact absurd rfl hi) rfl).trans ?_
  unfold FwdHost.v75
  exact broadcastInDim_apply _ _ _ _ _ (fun i => by fin_cases i <;> rfl)

theorem kdec_apply (h : Fin 4) (a b : Fin 128) : dTile (FwdHost.v79 (F := Ideal)) h 1 (ix2 a b) = FwdRefHost.v95 (F := Ideal) (ix2 h a) := by
  show FwdHost.v79 (F := Ideal) (ix4 h 1 a b) = _
  unfold FwdHost.v79
  refine (concatenate_apply_piece (t := S4x4x128x128) (s₁ := S4x1x128x128) 1
      [⟨S4x1x128x128, FwdHost.v75 (F := Ideal)⟩, ⟨S4x1x128x128, FwdHost.v76⟩, ⟨S4x1x128x128, FwdHost.v77⟩, ⟨S4x1x128x128, FwdHost.v78⟩] _ _ 1 (by simp) FwdHost.v76 rfl rfl 1 rfl (ix4 h 0 a b)
    (fun i hi => by fin_cases i <;> first | rfl | exact absurd rfl hi) rfl).trans ?_
  unfold FwdHost.v76 FwdHost.v70 FwdHost.v69
  rw [broadcastInDim_apply _ _ _ (ix4 h 0 a b) (ix3 h a b) (fun i => by fin_cases i <;> rfl),
    broadcastInDim_apply _ _ _ (ix3 h a b) (ix3 h a 0) (fun i => by fin_cases i <;> rfl),
    broadcastInDim_apply _ _ _ (ix3 h a 0) (ix2 h a) (fun i => by fin_cases i <;> rfl)]

theorem qdec_apply (h : Fin 4) (a b : Fin 128) : dTile (FwdHost.v79 (F := Ideal)) h 2 (ix2 a b) = FwdRefHost.v126 (F := Ideal) (ix2 h a) := by
  show FwdHost.v79 (F := Ideal) (ix4 h 2 a b) = _
  unfold FwdHost.v79
  refine (concatenate_apply_piece (t := S4x4x128x128) (s₁ := S4x1x128x128) 1
      [⟨S4x1x128x128, FwdHost.v75 (F := Ideal)⟩, ⟨S4x1x128x128, FwdHost.v76⟩, ⟨S4x1x128x128, FwdHost.v77⟩, ⟨S4x1x128x128, FwdHost.v78⟩] _ _ 2 (by simp) FwdHost.v77 rfl rfl 2 rfl (ix4 h 0 a b)
    (fun i hi => by fin_cases i <;> first | rfl | exact absurd rfl hi) rfl).trans ?_
  unfold FwdHost.v77 FwdHost.v72 FwdHost.v71
  rw [broadcastInDim_apply _ _ _ (ix4 h 0 a b) (ix3 h a b) (fun i => by fin_cases i <;> rfl),
    broadcastInDim_apply _ _ _ (ix3 h a b) (ix3 h a 0) (fun i => by fin_cases i <;> rfl),
    broadcastInDim_apply _ _ _ (ix3 h a 0) (ix2 h a) (fun i => by fin_cases i <;> rfl)]

theorem cdec_apply (h : Fin 4) (a b : Fin 128) : dTile (FwdHost.v79 (F := Ideal)) h 3 (ix2 a b) = FwdRefHost.v98 (F := Ideal) (ix1 h) := by
  show FwdHost.v79 (F := Ideal) (ix4 h 3 a b) = _
  unfold FwdHost.v79
  refine (concatenate_apply_piece (t := S4x4x128x128) (s₁ := S4x1x128x128) 1
      [⟨S4x1x128x128, FwdHost.v75 (F := Ideal)⟩, ⟨S4x1x128x128, FwdHost.v76⟩, ⟨S4x1x128x128, FwdHost.v77⟩, ⟨S4x1x128x128, FwdHost.v78⟩] _ _ 3 (by simp) FwdHost.v78 rfl rfl 3 rfl (ix4 h 0 a b)
    (fun i hi => by fin_cases i <;> first | rfl | exact absurd rfl hi) rfl).trans ?_
  unfold FwdHost.v78 FwdHost.v74 FwdHost.v73
  rw [broadcastInDim_apply _ _ _ (ix4 h 0 a b) (ix3 h a b) (fun i => by fin_cases i <;> rfl),
    broadcastInDim_apply _ _ _ (ix3 h a b) (ix3 h 0 0) (fun i => by fin_cases i <;> rfl),
    broadcastInDim_apply _ _ _ (ix3 h 0 0) (ix1 h) (fun i => by fin_cases i <;> rfl)]

/-! ## The reference's pieces at an index -/

theorem summary_apply (n : Fin 33) (h : Fin 4) (a b : Fin 128) : FwdRefHost.v102 k v (ix5 n 0 h a b)
    = ∑ c : Fin 128, (FwdRefHost.v78 k (ix5 0 h n c a) * FwdRefHost.v95 (F := Ideal) (ix2 h c) : EReal) * FwdRefHost.v79 v (ix5 0 h n c b) := by
  refine (Dots.hhn_tn _ (FwdRefHost.v101 k) (FwdRefHost.v79 v) h n a b).trans (Finset.sum_congr rfl fun c _ => ?_)
  refine congrArg (fun t : EReal => FwdRefHost.v78 k (ix5 0 h n c a) * t * _) ?_
  unfold FwdRefHost.v100 FwdRefHost.v99
  rw [broadcastInDim_apply _ _ _ (ix5 0 h n c a) (ix5 0 h 0 c 0) (fun i => by fin_cases i <;> rfl),
    broadcastInDim_apply _ _ _ (ix5 0 h 0 c 0) (ix2 h c) (fun i => by fin_cases i <;> rfl)]

theorem factor_apply (h : Fin 4) : FwdRefHost.v103 (F := Ideal) (ix4 0 h 0 0) = FwdRefHost.v98 (F := Ideal) (ix1 h) := by
  unfold FwdRefHost.v103
  exact broadcastInDim_apply _ _ _ _ _ (fun i => by fin_cases i <;> rfl)

/-! ## The states -/

theorem state_eq (h : Fin 4) (a b : Fin 128) : ∀ n ≤ 33, state (FwdHost.v194 q k v) FwdHost.v79 h n (ix2 a b)
    = Scan.carried FwdRefHost.v103 (FwdRefHost.v102 k v) FwdRefLoop.order h a b n
  | 0, _ => Ideal.ofBits_zero_f32
  | n + 1, hn => by
    have ho : FwdRefLoop.order n = (⟨n, by omega⟩ : Fin 33) := Fin.ext (Nat.mod_eq_of_lt (by omega))
    show stepTile _ _ _ _ _ (ix2 a b) = _ * _ + _
    rw [ho, factor_apply, summary_apply, ← state_eq h a b n (by omega)]
    refine congrArg₂ (fun s t : EReal => s + t) (congrArg (fun t : EReal => _ * t) (cdec_apply h a b)) ?_
    refine (Dots.tn (φ₁ := .bf16) (φ₂ := .bf16) _ _ _ a b).trans (Finset.sum_congr rfl fun c _ => ?_)
    refine congrArg₂ (fun s t : EReal => s * t) (congrArg₂ (fun s t : EReal => s * t) ?_ (kdec_apply h c a)) ?_
    · exact zTile_apply q k v 1 ⟨n, by omega⟩ h c a
    · exact zTile_apply q k v 2 ⟨n, by omega⟩ h c b

/-- What the reference's stack of states has to be for the results to agree. -/
def IsStates (u : Vec Ideal Scan.Stack .f32) : Prop :=
  ∀ (n : Fin 33) (h : Fin 4) (a b : Fin 128), u (ix5 n 0 h a b) = Scan.carried FwdRefHost.v103 (FwdRefHost.v102 k v) FwdRefLoop.order h a b n.val

variable {u : Vec Ideal Scan.Stack .f32}

theorem states_at (hu : IsStates k v u) (h : Fin 4) (n : Fin 33) (a b : Fin 128) :
    state (FwdHost.v194 q k v) FwdHost.v79 h n.val (ix2 a b) = FwdRefHost.v146 u (ix4 h n a b) := by
  have hn := n.isLt
  show _ = FwdRefHost.v145 u (ix4 h n a b)
  rw [state_eq q k v h a b n.val (by omega)]
  unfold FwdRefHost.v145 FwdRefHost.v144
  rw [transpose_apply _ _ _ (ix4 h n a b) (ix4 n h a b) (fun b => by fin_cases b <;> rfl),
    shapeCast_apply _ _ (ix4 n h a b) (ix5 n 0 h a b) (by
      rw [Shape.rowMajor_val_four, Shape.rowMajor_val_five]
      show ((((n.val * 1 + 0) * 4 + h.val) * 128 + a.val) * 128 + b.val) = ((n.val * 4 + h.val) * 128 + a.val) * 128 + b.val
      omega)]
  exact (hu n h a b).symm

/-- The saved states. -/
theorem states_eq (hu : IsStates k v u) (i : S4x33x128x128.Idx) :
    truncf .bf16 (state (FwdHost.v194 q k v) FwdHost.v79 (i 0) (i 1).val) bitsLt_bf16_f32 (ix2 (i 2) (i 3)) = FwdRefHost.v146 u i :=
  (states_at q k v hu (i 0) (i 1) (i 2) (i 3)).trans (congrArg _ (eq_ix4 i).symm)

/-- A chunk and head of the retention. -/
theorem chunk_eq (hu : IsStates k v u) (n : Fin 33) (h : Fin 4) (a b : Fin 128) :
    chunkOut (FwdHost.v194 q k v) FwdHost.v79 n.val h (ix2 a b) = FwdRefHost.v139 q k v u (ix5 0 h n a b) := by
  unfold chunkOut outTile FwdRefHost.v139
  refine congrArg₂ (fun s t : EReal => s + t) ?_ ?_
  · refine (Dots.nn (φ₁ := .bf16) (φ₂ := .bf16) _ _ _ a b).trans ((Finset.sum_congr rfl fun c _ => ?_).trans (Dots.hh_nn _ (FwdRefHost.v130 q k) (FwdRefHost.v79 v) h n a b).symm)
    refine congrArg₂ (fun s t : EReal => s * t) (congrArg₂ (fun s t : EReal => s * t) ?_ ?_) (zTile_apply q k v 2 n h c b)
    · refine (Dots.nt (φ₁ := .bf16) (φ₂ := .bf16) _ _ _ a c).trans ((Finset.sum_congr rfl fun d _ => ?_).trans (Dots.hh_nt _ (FwdRefHost.v77 q) (FwdRefHost.v78 k) h n a c).symm)
      exact congrArg₂ (fun s t : EReal => s * t) (zTile_apply q k v 0 n h a d) (zTile_apply q k v 1 n h c d)
    · refine (mask_apply h a c).trans ?_
      unfold FwdRefHost.v129 FwdRefHost.v128
      rw [broadcastInDim_apply _ _ _ (ix5 0 h n a c) (ix5 0 h 0 a c) (fun i => by fin_cases i <;> rfl),
        broadcastInDim_apply _ _ _ (ix5 0 h 0 a c) (ix3 h a c) (fun i => by fin_cases i <;> rfl)]
  · refine (Dots.nn (φ₁ := .bf16) (φ₂ := .bf16) _ _ _ a b).trans ((Finset.sum_congr rfl fun c _ => ?_).trans (Dots.hn_nn _ (FwdRefHost.v137 q) u h n a b).symm)
    refine congrArg₂ (fun s t : EReal => s * t) (congrArg₂ (fun s t : EReal => s * t) (zTile_apply q k v 0 n h a c) ?_) ?_
    · refine (qdec_apply h a c).trans ?_
      unfold FwdRefHost.v136 FwdRefHost.v135
      rw [broadcastInDim_apply _ _ _ (ix5 0 h n a c) (ix5 0 h 0 a 0) (fun i => by fin_cases i <;> rfl),
        broadcastInDim_apply _ _ _ (ix5 0 h 0 a 0) (ix2 h a) (fun i => by fin_cases i <;> rfl)]
    · exact (state_eq q k v h c b n.val (by omega)).trans (hu n h c b).symm

theorem out_at (r : Fin 4224) (e : Fin 512) (n : Fin 33) (h : Fin 4) (a b : Fin 128) (hr : r.val = 128 * n.val + a.val) (he : e.val = 128 * h.val + b.val) :
    FwdRefHost.v142 q k v u (ix2 r e) = FwdRefHost.v139 q k v u (ix5 0 h n a b) := by
  unfold FwdRefHost.v142 FwdRefHost.v141 FwdRefHost.v140
  rw [shapeCast_apply _ _ (ix2 r e) (ix4 0 r h b) (by
      rw [Shape.rowMajor_val_two, Shape.rowMajor_val_four]
      show (((0 * 4224 + r.val) * 4 + h.val) * 128 + b.val) = r.val * 512 + e.val
      omega),
    transpose_apply _ _ _ (ix4 0 r h b) (ix4 0 h r b) (fun b => by fin_cases b <;> rfl)]
  exact shapeCast_apply _ _ _ (ix5 0 h n a b) (by
    rw [Shape.rowMajor_val_four, Shape.rowMajor_val_five]
    show ((((0 * 4 + h.val) * 33 + n.val) * 128 + a.val) * 128 + b.val) = ((0 * 4 + h.val) * 4224 + r.val) * 128 + b.val
    omega)

/-- The retention. -/
theorem out_eq (hu : IsStates k v u) (i : S4224x512.Idx) :
    chunkOut (FwdHost.v194 q k v) FwdHost.v79 ((i 0).val / 128) ⟨(i 1).val / 128, by have : (i 1).val < 512 := (i 1).isLt; omega⟩
      (ix2 ⟨(i 0).val % 128, Nat.mod_lt _ (by omega)⟩ ⟨(i 1).val % 128, Nat.mod_lt _ (by omega)⟩) = FwdRefHost.v143 q k v u i := by
  have h0 : (i 0).val < 4224 := (i 0).isLt
  have h1 : (i 1).val < 512 := (i 1).isLt
  refine (chunk_eq q k v hu ⟨(i 0).val / 128, by omega⟩ ⟨(i 1).val / 128, by omega⟩ ⟨(i 0).val % 128, by omega⟩ ⟨(i 1).val % 128, by omega⟩).trans ?_
  refine (out_at q k v (i 0) (i 1) _ _ _ _ ?_ ?_).symm.trans (congrArg (FwdRefHost.v142 q k v u) (eq_ix2 i).symm)
  · show (i 0).val = 128 * ((i 0).val / 128) + (i 0).val % 128; omega
  · show (i 1).val = 128 * ((i 1).val / 128) + (i 1).val % 128; omega

end Cert.FwdEq

end
-- ==== Proof.FwdClaim.lean ====
/- The forward retention's claims: the reference's run ends with its arguments kept and its results the values of its lines
   and its scan, and the kernel's run ends with the same results. -/
module

public import proofs.«01_k».proof.Defs
public import proofs.«01_k».proof.Proof.FwdEq
public import proofs.«01_k».proof.Proof.Gen.FwdRefIdeal.Run
public import Idealize.ShloMosaic.Lib.Quiescent

@[expose] public section

set_option maxRecDepth 8000

noncomputable section

namespace Cert.FwdClaim

open Idealize.ShloMosaic Idealize.ShloMosaic.TcCoe Idealize.ShloMosaic.StableHlo Idealize.SL.Sem
open Cert.FwdRefIdeal Cert.FwdRefIdeal.Gen Cert.FwdRefIdeal.Value

section
variable (m : (ℓ : Loc nD τ sig) → Buf (Elt Ideal) ℓ) (ρ : Dev nD → PrngReg) (c : Dev nD)

/-- The contents before the loop, after it, and at the end. -/
abbrev before : Valuation τ sig (Elt Ideal) := entryContents preI m c
abbrev behind : Valuation τ sig (Elt Ideal) := after condOps (atTrip condOps bodyI (entryContents preI m) 33 c)
abbrev final : Valuation τ sig (Elt Ideal) := finalContents condOps preI bodyI postI 33 m c

theorem before_eq : before m c = after FwdRefHost.Pre.ops (launchContents m c) := afterL_eq_after_flatten preI _
theorem final_eq : final m c = after FwdRefHost.Post.ops (behind m c) := afterL_eq_after_flatten postI _

/-- A buffer that the loop does not write. -/
theorem behind_keep (r : Ref sig .tc) (hc : r ∉ condOps_W) (h0 : r ∉ while0Ops0_W) (h1 : r ∉ while0Ops0_1_W) (h2 : r ∉ while0Ops0_2_W)
    (h3 : r ∉ while0Ops0_3_W) : behind m c (Proc.devRef .tc r) = before m c (Proc.devRef .tc r) :=
  (after_of_writes_sub condOps _ condOps_writes hc).trans (FwdRefLoop.keep (entryContents preI m) c r hc h0 h1 h2 h3 33)

theorem arg0_kept : final m c (Proc.devRef .tc main_arg0) = m ((c.tc : Thread nD τ).loc main_arg0) := by
  rw [final_eq, FwdRefHost.Post.ordered.kept _ (by decide), behind_keep m c _ (by decide) (by decide) (by decide) (by decide) (by decide), before_eq,
    FwdRefHost.Pre.ordered.kept _ (by decide)]
theorem arg1_kept : final m c (Proc.devRef .tc main_arg1) = m ((c.tc : Thread nD τ).loc main_arg1) := by
  rw [final_eq, FwdRefHost.Post.ordered.kept _ (by decide), behind_keep m c _ (by decide) (by decide) (by decide) (by decide) (by decide), before_eq,
    FwdRefHost.Pre.ordered.kept _ (by decide)]
theorem arg2_kept : final m c (Proc.devRef .tc main_arg2) = m ((c.tc : Thread nD τ).loc main_arg2) := by
  rw [final_eq, FwdRefHost.Post.ordered.kept _ (by decide), behind_keep m c _ (by decide) (by decide) (by decide) (by decide) (by decide), before_eq,
    FwdRefHost.Pre.ordered.kept _ (by decide)]

/-- The arguments. -/
abbrev q : FwdEq.Arg := m ((c.tc : Thread nD τ).loc main_arg0)
abbrev k : FwdEq.Arg := m ((c.tc : Thread nD τ).loc main_arg1)
abbrev v : FwdEq.Arg := m ((c.tc : Thread nD τ).loc main_arg2)
/-- The stack of states the loop leaves. -/
abbrev u : Vec Ideal Scan.Stack .f32 := behind m c (Proc.devRef .tc main_v134_4)

theorem loop_slots : before m c (Proc.devRef .tc main_v134_0) = FwdRefHost.v102 (k m c) (v m c) := by
  rw [before_eq]; exact FwdRefHost.Pre.v134_0_eq _ rfl rfl
theorem loop_factor : before m c (Proc.devRef .tc main_v134_1) = FwdRefHost.v103 (F := Ideal) := by
  rw [before_eq]; exact FwdRefHost.Pre.v134_1_eq _
theorem loop_zero : before m c (Proc.devRef .tc main_v134_3) = FwdRefHost.v132 (F := Ideal) := by
  rw [before_eq]; exact FwdRefHost.Pre.v134_3_eq _

theorem isStates : FwdEq.IsStates (k m c) (v m c) (u m c) := by
  intro n h a b
  have e := FwdRefLoop.stack (entryContents preI m) c (ctr_entry m c) (fun h a b => by
    rw [show entryContents preI m c (Proc.devRef .tc main_v134_3) = _ from loop_zero m c]
    exact Ideal.ofBits_zero_f32) n.val n.isLt h a b
  rw [show FwdRefLoop.order n.val = n from Fin.ext (Nat.mod_eq_of_lt n.isLt),
    show entryContents preI m c (Proc.devRef .tc main_v134_1) = _ from loop_factor m c,
    show entryContents preI m c (Proc.devRef .tc main_v134_0) = _ from loop_slots m c] at e
  exact e

theorem chunks_kept : behind m c (Proc.devRef .tc main_v77) = FwdRefHost.v77 (q m c) := by
  rw [behind_keep m c _ (by decide) (by decide) (by decide) (by decide) (by decide), before_eq]
  exact FwdRefHost.Pre.v77_eq _ rfl
theorem decay_kept : behind m c (Proc.devRef .tc main_v126) = FwdRefHost.v126 (F := Ideal) := by
  rw [behind_keep m c _ (by decide) (by decide) (by decide) (by decide) (by decide), before_eq]
  exact FwdRefHost.Pre.v126_eq _
theorem inner_kept : behind m c (Proc.devRef .tc main_v131) = FwdRefHost.v131 (q m c) (k m c) (v m c) := by
  rw [behind_keep m c _ (by decide) (by decide) (by decide) (by decide) (by decide), before_eq]
  exact FwdRefHost.Pre.v131_eq _ rfl rfl rfl

theorem out_final : final m c (Proc.devRef .tc main_v143) = FwdRefHost.v143 (q m c) (k m c) (v m c) (u m c) := by
  rw [final_eq]
  exact FwdRefHost.Post.v143_eq _ (chunks_kept m c) (decay_kept m c) (inner_kept m c) rfl
theorem states_final : final m c (Proc.devRef .tc main_v146) = FwdRefHost.v146 (u m c) := by
  rw [final_eq]
  exact FwdRefHost.Post.v146_eq _ rfl

/-- The reference's run. -/
theorem run : θ_run (defs (F := Ideal)) (onTc (τ := τ) (main (F := Ideal))) ⟨m, fun _ => 0, ρ⟩ (fun r => ∀ c : Dev nD,
      r.2.mem ((c.tc : Thread nD τ).loc main_v143) = FwdRefHost.v143 (q m c) (k m c) (v m c) (u m c)
      ∧ r.2.mem ((c.tc : Thread nD τ).loc main_v146) = FwdRefHost.v146 (u m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c main_v143 rfl).trans (out_final m c), (h c main_v146 rfl).trans (states_final m c), (h c main_arg0 rfl).trans (arg0_kept m c),
      (h c main_arg1 rfl).trans (arg1_kept m c), (h c main_arg2 rfl).trans (arg2_kept m c)⟩) (run_fold m ρ)

end

instance : Cert.FwdIdeal.Facts := Cert.FwdIdeal.Gen.facts
instance : Cert.FwdRefIdeal.Facts := Cert.FwdRefIdeal.Gen.facts

theorem quiescent : Cert.quiescent_FwdRefIdeal := fun m g _ =>
  (θ_run defs _ _).mono (fun r h => ⟨fun c => (h c).2.2, sem_eq_zero_of_no_sems (by decide) r.2⟩) (run m g)

theorem algebraic : Cert.algebraic_FwdIdeal_FwdRefIdeal := by
  intro m g m' g' _ hargs
  refine ⟨fun c => Cert.FwdIdeal.Value.G4 m c, fun c => Cert.FwdIdeal.Value.G5 m c, Cert.FwdIdeal.Value.run m g, ?_⟩
  refine (θ_run defs _ _).mono (fun r h c => ?_) (run m' g')
  obtain ⟨h0, h1, h2⟩ := hargs c
  have hz : FwdBlock.zOf m c = FwdHost.v194 (q m' c) (k m' c) (v m' c) := FwdHost.Pre.v194_eq _ h0.symm h1.symm h2.symm
  have hd : FwdBlock.dOf m c = FwdHost.v79 (F := Ideal) := FwdHost.Pre.v79_eq _
  refine ⟨(h c).1.trans (funext fun i => ?_), (h c).2.1.trans (funext fun i => ?_), (h c).2.2⟩
  · show _ = Cert.FwdIdeal.Value.G4 m c i
    rw [FwdBlock.G4_apply m c i, hz, hd]
    exact (FwdEq.out_eq _ _ _ (isStates m' c) i).symm
  · show _ = Cert.FwdIdeal.Value.G5 m c i
    rw [FwdBlock.G5_apply m c i, hz, hd]
    exact (FwdEq.states_eq _ _ _ (isStates m' c) i).symm

end Cert.FwdClaim

end
-- ==== Proof.KernelHost.lean ====
/- The values the gradient call is launched over, one definition per operation of its host code (an operation another program has too is that one's), and what the line leaves in the buffers. -/
module

public import proofs.«01_k».proof.Proof.Gen.KernelIdeal.Launch
public import proofs.«01_k».proof.Proof.FwdHost
public import proofs.«01_k».proof.Proof.RefHost

@[expose] public section

set_option maxRecDepth 16384

noncomputable section

namespace Cert.KernelHost

open Cert.KernelIdeal Cert.KernelIdeal.Gen
open Idealize.ShloMosaic Idealize.ShloMosaic.TcCoe Idealize.ShloMosaic.StableHlo
open Cert.Lines

variable {F : FTy → Type} [FloatOps F]

/-! ## The values -/

def v0 : (⟨S128, .i32⟩ : BufTy).Contents (Elt F) :=
  iotaInDim S128 32 0
def c : (⟨S_, .i32⟩ : BufTy).Contents (Elt F) :=
  constantI S_ 32 64#32
def call0_c : (⟨S_, .i32⟩ : BufTy).Contents (Elt F) :=
  constantI S_ 32 0#32
def call0_v1 : (⟨S_, .i1⟩ : BufTy).Contents (Elt F) :=
  cmpi .eq (c (F := F)) (call0_c (F := F))
def call0_c_0 : (⟨S_, .i32⟩ : BufTy).Contents (Elt F) :=
  constantI S_ 32 1#32
def call0_v2 : (⟨S_, .i32⟩ : BufTy).Contents (Elt F) :=
  select (call0_v1 (F := F)) (call0_c_0 (F := F)) (c (F := F))
def call0_v3 : (⟨S128, .i32⟩ : BufTy).Contents (Elt F) :=
  broadcastInDim S128 ![] bcast_S_S128 (call0_v2 (F := F))
def call0_v4 : (⟨S128, .i32⟩ : BufTy).Contents (Elt F) :=
  Host.remsi (v0 (F := F)) (call0_v3 (F := F))
def call0_v5 : (⟨S128, .i32⟩ : BufTy).Contents (Elt F) :=
  broadcastInDim S128 ![] bcast_S_S128 (call0_c (F := F))
def call0_v6 : (⟨S128, .i1⟩ : BufTy).Contents (Elt F) :=
  (cmpi .ne) (call0_v4 (F := F)) (call0_v5 (F := F))
def call0_v8 : (⟨S128, .i1⟩ : BufTy).Contents (Elt F) :=
  (cmpi .slt) (call0_v4 (F := F)) (call0_v5 (F := F))
def call0_v9 : (⟨S_, .i1⟩ : BufTy).Contents (Elt F) :=
  (cmpi .slt) (call0_v2 (F := F)) (call0_c (F := F))
def call0_v10 : (⟨S128, .i1⟩ : BufTy).Contents (Elt F) :=
  broadcastInDim S128 ![] bcast_S_S128 (call0_v9 (F := F))
def call0_v11 : (⟨S128, .i1⟩ : BufTy).Contents (Elt F) :=
  (cmpi .ne) (call0_v8 (F := F)) (call0_v10 (F := F))
def call0_v12 : (⟨S128, .i1⟩ : BufTy).Contents (Elt F) :=
  andi (call0_v11 (F := F)) (call0_v6 (F := F))
def call0_v14 : (⟨S128, .i32⟩ : BufTy).Contents (Elt F) :=
  addi (call0_v4 (F := F)) (call0_v3 (F := F))
def v1 : (⟨S128, .i32⟩ : BufTy).Contents (Elt F) :=
  select (call0_v12 (F := F)) (call0_v14 (F := F)) (call0_v4 (F := F))
def v2 : (⟨S128, .f32⟩ : BufTy).Contents (Elt F) :=
  (sitofp .f32) (v1 (F := F))
def v3 : (⟨S128, .f32⟩ : BufTy).Contents (Elt F) :=
  Host.negf (v2 (F := F))
def v4 : (⟨S128, .f32⟩ : BufTy).Contents (Elt F) :=
  broadcastInDim S128 ![] bcast_S_S128 (FwdRefHost.cst_3 (F := F))
def v5 : (⟨S128, .f32⟩ : BufTy).Contents (Elt F) :=
  Host.divf (v3 (F := F)) (v4 (F := F))
def v6 : (⟨S128, .f32⟩ : BufTy).Contents (Elt F) :=
  broadcastInDim S128 ![] bcast_S_S128 (FwdRefHost.cst_4 (F := F))
def v7 : (⟨S128, .f32⟩ : BufTy).Contents (Elt F) :=
  Host.powf (v6 (F := F)) (v5 (F := F))
def v11 : (⟨S4224, .f32⟩ : BufTy).Contents (Elt F) :=
  broadcastInDim S4224 ![] bcast_S_S4224 (FwdRefHost.cst (F := F))
def v12 : (⟨S4224, .f32⟩ : BufTy).Contents (Elt F) :=
  addf (FwdRefHost.v14 (F := F)) (v11 (F := F))
def v13 : (⟨S4224x1, .f32⟩ : BufTy).Contents (Elt F) :=
  broadcastInDim S4224x1 ![0] bcast_S4224_S4224x1_0 (v12 (F := F))
def v14 : (⟨S1x128, .f32⟩ : BufTy).Contents (Elt F) :=
  broadcastInDim S1x128 ![1] bcast_S128_S1x128_1 (v7 (F := F))
def v15 : (⟨S4224x128, .f32⟩ : BufTy).Contents (Elt F) :=
  broadcastInDim S4224x128 ![0, 1] bcast_S4224x1_S4224x128_0_1 (v13 (F := F))
def v16 : (⟨S4224x128, .f32⟩ : BufTy).Contents (Elt F) :=
  broadcastInDim S4224x128 ![0, 1] bcast_S1x128_S4224x128_0_1 (v14 (F := F))
def v17 : (⟨S4224x128, .f32⟩ : BufTy).Contents (Elt F) :=
  mulf (v15 (F := F)) (v16 (F := F))
def v18 : (⟨S4224x128, .f32⟩ : BufTy).Contents (Elt F) :=
  Host.cos (v17 (F := F))
def v19 : (⟨S1x128, .i32⟩ : BufTy).Contents (Elt F) :=
  broadcastInDim S1x128 ![1] bcast_S128_S1x128_1 (v0 (F := F))
def v20 : (⟨S1x128, .i32⟩ : BufTy).Contents (Elt F) :=
  broadcastInDim S1x128 ![] bcast_S_S1x128 (c (F := F))
def v21 : (⟨S1x128, .i1⟩ : BufTy).Contents (Elt F) :=
  (cmpi .slt) (v19 (F := F)) (v20 (F := F))
def cst_4 : (⟨S_, .f32⟩ : BufTy).Contents (Elt F) :=
  constant S_ .f32 0xBF800000#32
def call1_v0 : (⟨S1x128, .f32⟩ : BufTy).Contents (Elt F) :=
  broadcastInDim S1x128 ![] bcast_S_S1x128 (cst_4 (F := F))
def call1_v1 : (⟨S1x128, .f32⟩ : BufTy).Contents (Elt F) :=
  broadcastInDim S1x128 ![] bcast_S_S1x128 (FwdRefHost.cst_14 (F := F))
def v22 : (⟨S1x128, .f32⟩ : BufTy).Contents (Elt F) :=
  select (v21 (F := F)) (call1_v0 (F := F)) (call1_v1 (F := F))
def v23 : (⟨S4224x128, .f32⟩ : BufTy).Contents (Elt F) :=
  Host.sin (v17 (F := F))
def v25 : (⟨S4224x128, .f32⟩ : BufTy).Contents (Elt F) :=
  broadcastInDim S4224x128 ![0, 1] bcast_S1x128_S4224x128_0_1 (v22 (F := F))
def v26 : (⟨S4224x128, .f32⟩ : BufTy).Contents (Elt F) :=
  mulf (v25 (F := F)) (v23 (F := F))
def v184 : (⟨S1x1x4x1x1, .f32⟩ : BufTy).Contents (Elt F) :=
  broadcastInDim S1x1x4x1x1 ![1, 2, 3, 4] bcast_S1x4x1x1_S1x1x4x1x1_1_2_3_4 (FwdRefHost.v103 (F := F))
def v185 : (⟨S1x1x4x128x128, .f32⟩ : BufTy).Contents (Elt F) :=
  broadcastInDim S1x1x4x128x128 ![0, 1, 2, 3, 4] bcast_S1x1x4x1x1_S1x1x4x128x128_0_1_2_3_4 (v184 (F := F))
def v186 : (⟨S1x1x4x128x128, .f32⟩ : BufTy).Contents (Elt F) :=
  broadcastInDim S1x1x4x128x128 ![] bcast_S_S1x1x4x128x128 (FwdRefHost.cst (F := F))
def v187 : (⟨S1x1x4x128x128, .f32⟩ : BufTy).Contents (Elt F) :=
  mulf (v186 (F := F)) (v185 (F := F))
def v188 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![0, 0, 0, 0, 0] (FwdRefHost.v102 x y) slices_S33x1x4x128x128_S1x1x4x128x128_0_0_0_0_0
def v189 (x : (⟨S1x4112x512, .f32⟩ : BufTy).Contents (Elt F)) (y : (⟨S1x4112x512, .f32⟩ : BufTy).Contents (Elt F)) : (⟨S1x1x4x128x128, .f32⟩ : BufTy).Contents (Elt F) :=
  addf (v187 (F := F)) (v188 x y)
def v190 (x : (⟨S1x4112x512, .f32⟩ : BufTy).Contents (Elt F)) (y : (⟨S1x4112x512, .f32⟩ : BufTy).Contents (Elt F)) : (⟨S1x1x4x128x128, .f32⟩ : BufTy).Contents (Elt F) :=
  mulf (v189 x y) (v185 (F := F))
def v191 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![1, 0, 0, 0, 0] (FwdRefHost.v102 x y) slices_S33x1x4x128x128_S1x1x4x128x128_1_0_0_0_0
def v192 (x : (⟨S1x4112x512, .f32⟩ : BufTy).Contents (Elt F)) (y : (⟨S1x4112x512, .f32⟩ : BufTy).Contents (Elt F)) : (⟨S1x1x4x128x128, .f32⟩ : BufTy).Contents (Elt F) :=
  addf (v190 x y) (v191 x y)
def v193 (x : (⟨S1x4112x512, .f32⟩ : BufTy).Contents (Elt F)) (y : (⟨S1x4112x512, .f32⟩ : BufTy).Contents (Elt F)) : (⟨S1x1x4x128x128, .f32⟩ : BufTy).Contents (Elt F) :=
  mulf (v192 x y) (v185 (F := F))
def v194 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![2, 0, 0, 0, 0] (FwdRefHost.v102 x y) slices_S33x1x4x128x128_S1x1x4x128x128_2_0_0_0_0
def v195 (x : (⟨S1x4112x512, .f32⟩ : BufTy).Contents (Elt F)) (y : (⟨S1x4112x512, .f32⟩ : BufTy).Contents (Elt F)) : (⟨S1x1x4x128x128, .f32⟩ : BufTy).Contents (Elt F) :=
  addf (v193 x y) (v194 x y)
def v196 (x : (⟨S1x4112x512, .f32⟩ : BufTy).Contents (Elt F)) (y : (⟨S1x4112x512, .f32⟩ : BufTy).Contents (Elt F)) : (⟨S1x1x4x128x128, .f32⟩ : BufTy).Contents (Elt F) :=
  mulf (v195 x y) (v185 (F := F))
def v197 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![3, 0, 0, 0, 0] (FwdRefHost.v102 x y) slices_S33x1x4x128x128_S1x1x4x128x128_3_0_0_0_0
def v198 (x : (⟨S1x4112x512, .f32⟩ : BufTy).Contents (Elt F)) (y : (⟨S1x4112x512, .f32⟩ : BufTy).Contents (Elt F)) : (⟨S1x1x4x128x128, .f32⟩ : BufTy).Contents (Elt F) :=
  addf (v196 x y) (v197 x y)
def v199 (x : (⟨S1x4112x512, .f32⟩ : BufTy).Contents (Elt F)) (y : (⟨S1x4112x512, .f32⟩ : BufTy).Contents (Elt F)) : (⟨S1x1x4x128x128, .f32⟩ : BufTy).Contents (Elt F) :=
  mulf (v198 x y) (v185 (F := F))
def v200 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![4, 0, 0, 0, 0] (FwdRefHost.v102 x y) slices_S33x1x4x128x128_S1x1x4x128x128_4_0_0_0_0
def v201 (x : (⟨S1x4112x512, .f32⟩ : BufTy).Contents (Elt F)) (y : (⟨S1x4112x512, .f32⟩ : BufTy).Contents (Elt F)) : (⟨S1x1x4x128x128, .f32⟩ : BufTy).Contents (Elt F) :=
  addf (v199 x y) (v200 x y)
def v202 (x : (⟨S1x4112x512, .f32⟩ : BufTy).Contents (Elt F)) (y : (⟨S1x4112x512, .f32⟩ : BufTy).Contents (Elt F)) : (⟨S1x1x4x128x128, .f32⟩ : BufTy).Contents (Elt F) :=
  mulf (v201 x y) (v185 (F := F))
def v203 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![5, 0, 0, 0, 0] (FwdRefHost.v102 x y) slices_S33x1x4x128x128_S1x1x4x128x128_5_0_0_0_0
def v204 (x : (⟨S1x4112x512, .f32⟩ : BufTy).Contents (Elt F)) (y : (⟨S1x4112x512, .f32⟩ : BufTy).Contents (Elt F)) : (⟨S1x1x4x128x128, .f32⟩ : BufTy).Contents (Elt F) :=
  addf (v202 x y) (v203 x y)
def v205 (x : (⟨S1x4112x512, .f32⟩ : BufTy).Contents (Elt F)) (y : (⟨S1x4112x512, .f32⟩ : BufTy).Contents (Elt F)) : (⟨S1x1x4x128x128, .f32⟩ : BufTy).Contents (Elt F) :=
  mulf (v204 x y) (v185 (F := F))
def v206 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![6, 0, 0, 0, 0] (FwdRefHost.v102 x y) slices_S33x1x4x128x128_S1x1x4x128x128_6_0_0_0_0
def v207 (x : (⟨S1x4112x512, .f32⟩ : BufTy).Contents (Elt F)) (y : (⟨S1x4112x512, .f32⟩ : BufTy).Contents (Elt F)) : (⟨S1x1x4x128x128, .f32⟩ : BufTy).Contents (Elt F) :=
  addf (v205 x y) (v206 x y)
def v208 (x : (⟨S1x4112x512, .f32⟩ : BufTy).Contents (Elt F)) (y : (⟨S1x4112x512, .f32⟩ : BufTy).Contents (Elt F)) : (⟨S1x1x4x128x128, .f32⟩ : BufTy).Contents (Elt F) :=
  mulf (v207 x y) (v185 (F := F))
def v209 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![7, 0, 0, 0, 0] (FwdRefHost.v102 x y) slices_S33x1x4x128x128_S1x1x4x128x128_7_0_0_0_0
def v210 (x : (⟨S1x4112x512, .f32⟩ : BufTy).Contents (Elt F)) (y : (⟨S1x4112x512, .f32⟩ : BufTy).Contents (Elt F)) : (⟨S1x1x4x128x128, .f32⟩ : BufTy).Contents (Elt F) :=
  addf (v208 x y) (v209 x y)
def v211 (x : (⟨S1x4112x512, .f32⟩ : BufTy).Contents (Elt F)) (y : (⟨S1x4112x512, .f32⟩ : BufTy).Contents (Elt F)) : (⟨S1x1x4x128x128, .f32⟩ : BufTy).Contents (Elt F) :=
  mulf (v210 x y) (v185 (F := F))
def v212 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![8, 0, 0, 0, 0] (FwdRefHost.v102 x y) slices_S33x1x4x128x128_S1x1x4x128x128_8_0_0_0_0
def v213 (x : (⟨S1x4112x512, .f32⟩ : BufTy).Contents (Elt F)) (y : (⟨S1x4112x512, .f32⟩ : BufTy).Contents (Elt F)) : (⟨S1x1x4x128x128, .f32⟩ : BufTy).Contents (Elt F) :=
  addf (v211 x y) (v212 x y)
def v214 (x : (⟨S1x4112x512, .f32⟩ : BufTy).Contents (Elt F)) (y : (⟨S1x4112x512, .f32⟩ : BufTy).Contents (Elt F)) : (⟨S1x1x4x128x128, .f32⟩ : BufTy).Contents (Elt F) :=
  mulf (v213 x y) (v185 (F := F))
def v215 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![9, 0, 0, 0, 0] (FwdRefHost.v102 x y) slices_S33x1x4x128x128_S1x1x4x128x128_9_0_0_0_0
def v216 (x : (⟨S1x4112x512, .f32⟩ : BufTy).Contents (Elt F)) (y : (⟨S1x4112x512, .f32⟩ : BufTy).Contents (Elt F)) : (⟨S1x1x4x128x128, .f32⟩ : BufTy).Contents (Elt F) :=
  addf (v214 x y) (v215 x y)
def v217 (x : (⟨S1x4112x512, .f32⟩ : BufTy).Contents (Elt F)) (y : (⟨S1x4112x512, .f32⟩ : BufTy).Contents (Elt F)) : (⟨S1x1x4x128x128, .f32⟩ : BufTy).Contents (Elt F) :=
  mulf (v216 x y) (v185 (F := F))
def v218 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![10, 0, 0, 0, 0] (FwdRefHost.v102 x y) slices_S33x1x4x128x128_S1x1x4x128x128_10_0_0_0_0
def v219 (x : (⟨S1x4112x512, .f32⟩ : BufTy).Contents (Elt F)) (y : (⟨S1x4112x512, .f32⟩ : BufTy).Contents (Elt F)) : (⟨S1x1x4x128x128, .f32⟩ : BufTy).Contents (Elt F) :=
  addf (v217 x y) (v218 x y)
def v220 (x : (⟨S1x4112x512, .f32⟩ : BufTy).Contents (Elt F)) (y : (⟨S1x4112x512, .f32⟩ : BufTy).Contents (Elt F)) : (⟨S1x1x4x128x128, .f32⟩ : BufTy).Contents (Elt F) :=
  mulf (v219 x y) (v185 (F := F))
def v221 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![11, 0, 0, 0, 0] (FwdRefHost.v102 x y) slices_S33x1x4x128x128_S1x1x4x128x128_11_0_0_0_0
def v222 (x : (⟨S1x4112x512, .f32⟩ : BufTy).Contents (Elt F)) (y : (⟨S1x4112x512, .f32⟩ : BufTy).Contents (Elt F)) : (⟨S1x1x4x128x128, .f32⟩ : BufTy).Contents (Elt F) :=
  addf (v220 x y) (v221 x y)
def v223 (x : (⟨S1x4112x512, .f32⟩ : BufTy).Contents (Elt F)) (y : (⟨S1x4112x512, .f32⟩ : BufTy).Contents (Elt F)) : (⟨S1x1x4x128x128, .f32⟩ : BufTy).Contents (Elt F) :=
  mulf (v222 x y) (v185 (F := F))
def v224 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![12, 0, 0, 0, 0] (FwdRefHost.v102 x y) slices_S33x1x4x128x128_S1x1x4x128x128_12_0_0_0_0
def v225 (x : (⟨S1x4112x512, .f32⟩ : BufTy).Contents (Elt F)) (y : (⟨S1x4112x512, .f32⟩ : BufTy).Contents (Elt F)) : (⟨S1x1x4x128x128, .f32⟩ : BufTy).Contents (Elt F) :=
  addf (v223 x y) (v224 x y)
def v226 (x : (⟨S1x4112x512, .f32⟩ : BufTy).Contents (Elt F)) (y : (⟨S1x4112x512, .f32⟩ : BufTy).Contents (Elt F)) : (⟨S1x1x4x128x128, .f32⟩ : BufTy).Contents (Elt F) :=
  mulf (v225 x y) (v185 (F := F))
def v227 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![13, 0, 0, 0, 0] (FwdRefHost.v102 x y) slices_S33x1x4x128x128_S1x1x4x128x128_13_0_0_0_0
def v228 (x : (⟨S1x4112x512, .f32⟩ : BufTy).Contents (Elt F)) (y : (⟨S1x4112x512, .f32⟩ : BufTy).Contents (Elt F)) : (⟨S1x1x4x128x128, .f32⟩ : BufTy).Contents (Elt F) :=
  addf (v226 x y) (v227 x y)
def v229 (x : (⟨S1x4112x512, .f32⟩ : BufTy).Contents (Elt F)) (y : (⟨S1x4112x512, .f32⟩ : BufTy).Contents (Elt F)) : (⟨S1x1x4x128x128, .f32⟩ : BufTy).Contents (Elt F) :=
  mulf (v228 x y) (v185 (F := F))
def v230 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![14, 0, 0, 0, 0] (FwdRefHost.v102 x y) slices_S33x1x4x128x128_S1x1x4x128x128_14_0_0_0_0
def v231 (x : (⟨S1x4112x512, .f32⟩ : BufTy).Contents (Elt F)) (y : (⟨S1x4112x512, .f32⟩ : BufTy).Contents (Elt F)) : (⟨S1x1x4x128x128, .f32⟩ : BufTy).Contents (Elt F) :=
  addf (v229 x y) (v230 x y)
def v232 (x : (⟨S1x4112x512, .f32⟩ : BufTy).Contents (Elt F)) (y : (⟨S1x4112x512, .f32⟩ : BufTy).Contents (Elt F)) : (⟨S1x1x4x128x128, .f32⟩ : BufTy).Contents (Elt F) :=
  mulf (v231 x y) (v185 (F := F))
def v233 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![15, 0, 0, 0, 0] (FwdRefHost.v102 x y) slices_S33x1x4x128x128_S1x1x4x128x128_15_0_0_0_0
def v234 (x : (⟨S1x4112x512, .f32⟩ : BufTy).Contents (Elt F)) (y : (⟨S1x4112x512, .f32⟩ : BufTy).Contents (Elt F)) : (⟨S1x1x4x128x128, .f32⟩ : BufTy).Contents (Elt F) :=
  addf (v232 x y) (v233 x y)
def v235 (x : (⟨S1x4112x512, .f32⟩ : BufTy).Contents (Elt F)) (y : (⟨S1x4112x512, .f32⟩ : BufTy).Contents (Elt F)) : (⟨S1x1x4x128x128, .f32⟩ : BufTy).Contents (Elt F) :=
  mulf (v234 x y) (v185 (F := F))
def v236 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![16, 0, 0, 0, 0] (FwdRefHost.v102 x y) slices_S33x1x4x128x128_S1x1x4x128x128_16_0_0_0_0
def v237 (x : (⟨S1x4112x512, .f32⟩ : BufTy).Contents (Elt F)) (y : (⟨S1x4112x512, .f32⟩ : BufTy).Contents (Elt F)) : (⟨S1x1x4x128x128, .f32⟩ : BufTy).Contents (Elt F) :=
  addf (v235 x y) (v236 x y)
def v238 (x : (⟨S1x4112x512, .f32⟩ : BufTy).Contents (Elt F)) (y : (⟨S1x4112x512, .f32⟩ : BufTy).Contents (Elt F)) : (⟨S1x1x4x128x128, .f32⟩ : BufTy).Contents (Elt F) :=
  mulf (v237 x y) (v185 (F := F))
def v239 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![17, 0, 0, 0, 0] (FwdRefHost.v102 x y) slices_S33x1x4x128x128_S1x1x4x128x128_17_0_0_0_0
def v240 (x : (⟨S1x4112x512, .f32⟩ : BufTy).Contents (Elt F)) (y : (⟨S1x4112x512, .f32⟩ : BufTy).Contents (Elt F)) : (⟨S1x1x4x128x128, .f32⟩ : BufTy).Contents (Elt F) :=
  addf (v238 x y) (v239 x y)
def v241 (x : (⟨S1x4112x512, .f32⟩ : BufTy).Contents (Elt F)) (y : (⟨S1x4112x512, .f32⟩ : BufTy).Contents (Elt F)) : (⟨S1x1x4x128x128, .f32⟩ : BufTy).Contents (Elt F) :=
  mulf (v240 x y) (v185 (F := F))
def v242 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![18, 0, 0, 0, 0] (FwdRefHost.v102 x y) slices_S33x1x4x128x128_S1x1x4x128x128_18_0_0_0_0
def v243 (x : (⟨S1x4112x512, .f32⟩ : BufTy).Contents (Elt F)) (y : (⟨S1x4112x512, .f32⟩ : BufTy).Contents (Elt F)) : (⟨S1x1x4x128x128, .f32⟩ : BufTy).Contents (Elt F) :=
  addf (v241 x y) (v242 x y)
def v244 (x : (⟨S1x4112x512, .f32⟩ : BufTy).Contents (Elt F)) (y : (⟨S1x4112x512, .f32⟩ : BufTy).Contents (Elt F)) : (⟨S1x1x4x128x128, .f32⟩ : BufTy).Contents (Elt F) :=
  mulf (v243 x y) (v185 (F := F))
def v245 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![19, 0, 0, 0, 0] (FwdRefHost.v102 x y) slices_S33x1x4x128x128_S1x1x4x128x128_19_0_0_0_0
def v246 (x : (⟨S1x4112x512, .f32⟩ : BufTy).Contents (Elt F)) (y : (⟨S1x4112x512, .f32⟩ : BufTy).Contents (Elt F)) : (⟨S1x1x4x128x128, .f32⟩ : BufTy).Contents (Elt F) :=
  addf (v244 x y) (v245 x y)
def v247 (x : (⟨S1x4112x512, .f32⟩ : BufTy).Contents (Elt F)) (y : (⟨S1x4112x512, .f32⟩ : BufTy).Contents (Elt F)) : (⟨S1x1x4x128x128, .f32⟩ : BufTy).Contents (Elt F) :=
  mulf (v246 x y) (v185 (F := F))
def v248 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![20, 0, 0, 0, 0] (FwdRefHost.v102 x y) slices_S33x1x4x128x128_S1x1x4x128x128_20_0_0_0_0
def v249 (x : (⟨S1x4112x512, .f32⟩ : BufTy).Contents (Elt F)) (y : (⟨S1x4112x512, .f32⟩ : BufTy).Contents (Elt F)) : (⟨S1x1x4x128x128, .f32⟩ : BufTy).Contents (Elt F) :=
  addf (v247 x y) (v248 x y)
def v250 (x : (⟨S1x4112x512, .f32⟩ : BufTy).Contents (Elt F)) (y : (⟨S1x4112x512, .f32⟩ : BufTy).Contents (Elt F)) : (⟨S1x1x4x128x128, .f32⟩ : BufTy).Contents (Elt F) :=
  mulf (v249 x y) (v185 (F := F))
def v251 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![21, 0, 0, 0, 0] (FwdRefHost.v102 x y) slices_S33x1x4x128x128_S1x1x4x128x128_21_0_0_0_0
def v252 (x : (⟨S1x4112x512, .f32⟩ : BufTy).Contents (Elt F)) (y : (⟨S1x4112x512, .f32⟩ : BufTy).Contents (Elt F)) : (⟨S1x1x4x128x128, .f32⟩ : BufTy).Contents (Elt F) :=
  addf (v250 x y) (v251 x y)
def v253 (x : (⟨S1x4112x512, .f32⟩ : BufTy).Contents (Elt F)) (y : (⟨S1x4112x512, .f32⟩ : BufTy).Contents (Elt F)) : (⟨S1x1x4x128x128, .f32⟩ : BufTy).Contents (Elt F) :=
  mulf (v252 x y) (v185 (F := F))
def v254 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![22, 0, 0, 0, 0] (FwdRefHost.v102 x y) slices_S33x1x4x128x128_S1x1x4x128x128_22_0_0_0_0
def v255 (x : (⟨S1x4112x512, .f32⟩ : BufTy).Contents (Elt F)) (y : (⟨S1x4112x512, .f32⟩ : BufTy).Contents (Elt F)) : (⟨S1x1x4x128x128, .f32⟩ : BufTy).Contents (Elt F) :=
  addf (v253 x y) (v254 x y)
def v256 (x : (⟨S1x4112x512, .f32⟩ : BufTy).Contents (Elt F)) (y : (⟨S1x4112x512, .f32⟩ : BufTy).Contents (Elt F)) : (⟨S1x1x4x128x128, .f32⟩ : BufTy).Contents (Elt F) :=
  mulf (v255 x y) (v185 (F := F))
def v257 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![23, 0, 0, 0, 0] (FwdRefHost.v102 x y) slices_S33x1x4x128x128_S1x1x4x128x128_23_0_0_0_0
def v258 (x : (⟨S1x4112x512, .f32⟩ : BufTy).Contents (Elt F)) (y : (⟨S1x4112x512, .f32⟩ : BufTy).Contents (Elt F)) : (⟨S1x1x4x128x128, .f32⟩ : BufTy).Contents (Elt F) :=
  addf (v256 x y) (v257 x y)
def v259 (x : (⟨S1x4112x512, .f32⟩ : BufTy).Contents (Elt F)) (y : (⟨S1x4112x512, .f32⟩ : BufTy).Contents (Elt F)) : (⟨S1x1x4x128x128, .f32⟩ : BufTy).Contents (Elt F) :=
  mulf (v258 x y) (v185 (F := F))
def v260 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![24, 0, 0, 0, 0] (FwdRefHost.v102 x y) slices_S33x1x4x128x128_S1x1x4x128x128_24_0_0_0_0
def v261 (x : (⟨S1x4112x512, .f32⟩ : BufTy).Contents (Elt F)) (y : (⟨S1x4112x512, .f32⟩ : BufTy).Contents (Elt F)) : (⟨S1x1x4x128x128, .f32⟩ : BufTy).Contents (Elt F) :=
  addf (v259 x y) (v260 x y)
def v262 (x : (⟨S1x4112x512, .f32⟩ : BufTy).Contents (Elt F)) (y : (⟨S1x4112x512, .f32⟩ : BufTy).Contents (Elt F)) : (⟨S1x1x4x128x128, .f32⟩ : BufTy).Contents (Elt F) :=
  mulf (v261 x y) (v185 (F := F))
def v263 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![25, 0, 0, 0, 0] (FwdRefHost.v102 x y) slices_S33x1x4x128x128_S1x1x4x128x128_25_0_0_0_0
def v264 (x : (⟨S1x4112x512, .f32⟩ : BufTy).Contents (Elt F)) (y : (⟨S1x4112x512, .f32⟩ : BufTy).Contents (Elt F)) : (⟨S1x1x4x128x128, .f32⟩ : BufTy).Contents (Elt F) :=
  addf (v262 x y) (v263 x y)
def v265 (x : (⟨S1x4112x512, .f32⟩ : BufTy).Contents (Elt F)) (y : (⟨S1x4112x512, .f32⟩ : BufTy).Contents (Elt F)) : (⟨S1x1x4x128x128, .f32⟩ : BufTy).Contents (Elt F) :=
  mulf (v264 x y) (v185 (F := F))
def v266 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![26, 0, 0, 0, 0] (FwdRefHost.v102 x y) slices_S33x1x4x128x128_S1x1x4x128x128_26_0_0_0_0
def v267 (x : (⟨S1x4112x512, .f32⟩ : BufTy).Contents (Elt F)) (y : (⟨S1x4112x512, .f32⟩ : BufTy).Contents (Elt F)) : (⟨S1x1x4x128x128, .f32⟩ : BufTy).Contents (Elt F) :=
  addf (v265 x y) (v266 x y)
def v268 (x : (⟨S1x4112x512, .f32⟩ : BufTy).Contents (Elt F)) (y : (⟨S1x4112x512, .f32⟩ : BufTy).Contents (Elt F)) : (⟨S1x1x4x128x128, .f32⟩ : BufTy).Contents (Elt F) :=
  mulf (v267 x y) (v185 (F := F))
def v269 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![27, 0, 0, 0, 0] (FwdRefHost.v102 x y) slices_S33x1x4x128x128_S1x1x4x128x128_27_0_0_0_0
def v270 (x : (⟨S1x4112x512, .f32⟩ : BufTy).Contents (Elt F)) (y : (⟨S1x4112x512, .f32⟩ : BufTy).Contents (Elt F)) : (⟨S1x1x4x128x128, .f32⟩ : BufTy).Contents (Elt F) :=
  addf (v268 x y) (v269 x y)
def v271 (x : (⟨S1x4112x512, .f32⟩ : BufTy).Contents (Elt F)) (y : (⟨S1x4112x512, .f32⟩ : BufTy).Contents (Elt F)) : (⟨S1x1x4x128x128, .f32⟩ : BufTy).Contents (Elt F) :=
  mulf (v270 x y) (v185 (F := F))
def v272 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![28, 0, 0, 0, 0] (FwdRefHost.v102 x y) slices_S33x1x4x128x128_S1x1x4x128x128_28_0_0_0_0
def v273 (x : (⟨S1x4112x512, .f32⟩ : BufTy).Contents (Elt F)) (y : (⟨S1x4112x512, .f32⟩ : BufTy).Contents (Elt F)) : (⟨S1x1x4x128x128, .f32⟩ : BufTy).Contents (Elt F) :=
  addf (v271 x y) (v272 x y)
def v274 (x : (⟨S1x4112x512, .f32⟩ : BufTy).Contents (Elt F)) (y : (⟨S1x4112x512, .f32⟩ : BufTy).Contents (Elt F)) : (⟨S1x1x4x128x128, .f32⟩ : BufTy).Contents (Elt F) :=
  mulf (v273 x y) (v185 (F := F))
def v275 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![29, 0, 0, 0, 0] (FwdRefHost.v102 x y) slices_S33x1x4x128x128_S1x1x4x128x128_29_0_0_0_0
def v276 (x : (⟨S1x4112x512, .f32⟩ : BufTy).Contents (Elt F)) (y : (⟨S1x4112x512, .f32⟩ : BufTy).Contents (Elt F)) : (⟨S1x1x4x128x128, .f32⟩ : BufTy).Contents (Elt F) :=
  addf (v274 x y) (v275 x y)
def v277 (x : (⟨S1x4112x512, .f32⟩ : BufTy).Contents (Elt F)) (y : (⟨S1x4112x512, .f32⟩ : BufTy).Contents (Elt F)) : (⟨S1x1x4x128x128, .f32⟩ : BufTy).Contents (Elt F) :=
  mulf (v276 x y) (v185 (F := F))
def v278 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![30, 0, 0, 0, 0] (FwdRefHost.v102 x y) slices_S33x1x4x128x128_S1x1x4x128x128_30_0_0_0_0
def v279 (x : (⟨S1x4112x512, .f32⟩ : BufTy).Contents (Elt F)) (y : (⟨S1x4112x512, .f32⟩ : BufTy).Contents (Elt F)) : (⟨S1x1x4x128x128, .f32⟩ : BufTy).Contents (Elt F) :=
  addf (v277 x y) (v278 x y)
def v280 (x : (⟨S1x4112x512, .f32⟩ : BufTy).Contents (Elt F)) (y : (⟨S1x4112x512, .f32⟩ : BufTy).Contents (Elt F)) : (⟨S1x1x4x128x128, .f32⟩ : BufTy).Contents (Elt F) :=
  mulf (v279 x y) (v185 (F := F))
def v281 (x : (⟨S1x4112x512, .f32⟩ : BufTy).Contents (Elt F)) (y : (⟨S1x4112x512, .f32⟩ : BufTy).Contents (Elt F)) : (⟨S1x1x4x128x128, .f32⟩ : BufTy).Contents (Elt F) :=
  extractStridedSlice S1x1x4x128x128 ![31, 0, 0, 0, 0] (FwdRefHost.v102 x y) slices_S33x1x4x128x128_S1x1x4x128x128_31_0_0_0_0
def v282 (x : (⟨S1x4112x512, .f32⟩ : BufTy).Contents (Elt F)) (y : (⟨S1x4112x512, .f32⟩ : BufTy).Contents (Elt F)) : (⟨S1x1x4x128x128, .f32⟩ : BufTy).Contents (Elt F) :=
  addf (v280 x y) (v281 x y)
def v283 (x : (⟨S1x4112x512, .f32⟩ : BufTy).Contents (Elt F)) (y : (⟨S1x4112x512, .f32⟩ : BufTy).Contents (Elt F)) : (⟨S11x1x4x128x128, .f32⟩ : BufTy).Contents (Elt F) :=
  concatenate S11x1x4x128x128 0 [⟨S1x1x4x128x128, (v186 (F := F))⟩, ⟨S1x1x4x128x128, (v189 x y)⟩, ⟨S1x1x4x128x128, (v192 x y)⟩, ⟨S1x1x4x128x128, (v195 x y)⟩, ⟨S1x1x4x128x128, (v198 x y)⟩, ⟨S1x1x4x128x128, (v201 x y)⟩, ⟨S1x1x4x128x128, (v204 x y)⟩, ⟨S1x1x4x128x128, (v207 x y)⟩, ⟨S1x1x4x128x128, (v210 x y)⟩, ⟨S1x1x4x128x128, (v213 x y)⟩, ⟨S1x1x4x128x128, (v216 x y)⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S11x1x4x128x128_d0
def v284 (x : (⟨S1x4112x512, .f32⟩ : BufTy).Contents (Elt F)) (y : (⟨S1x4112x512, .f32⟩ : BufTy).Contents (Elt F)) : (⟨S11x1x4x128x128, .f32⟩ : BufTy).Contents (Elt F) :=
  concatenate S11x1x4x128x128 0 [⟨S1x1x4x128x128, (v219 x y)⟩, ⟨S1x1x4x128x128, (v222 x y)⟩, ⟨S1x1x4x128x128, (v225 x y)⟩, ⟨S1x1x4x128x128, (v228 x y)⟩, ⟨S1x1x4x128x128, (v231 x y)⟩, ⟨S1x1x4x128x128, (v234 x y)⟩, ⟨S1x1x4x128x128, (v237 x y)⟩, ⟨S1x1x4x128x128, (v240 x y)⟩, ⟨S1x1x4x128x128, (v243 x y)⟩, ⟨S1x1x4x128x128, (v246 x y)⟩, ⟨S1x1x4x128x128, (v249 x y)⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S11x1x4x128x128_d0
def v285 (x : (⟨S1x4112x512, .f32⟩ : BufTy).Contents (Elt F)) (y : (⟨S1x4112x512, .f32⟩ : BufTy).Contents (Elt F)) : (⟨S11x1x4x128x128, .f32⟩ : BufTy).Contents (Elt F) :=
  concatenate S11x1x4x128x128 0 [⟨S1x1x4x128x128, (v252 x y)⟩, ⟨S1x1x4x128x128, (v255 x y)⟩, ⟨S1x1x4x128x128, (v258 x y)⟩, ⟨S1x1x4x128x128, (v261 x y)⟩, ⟨S1x1x4x128x128, (v264 x y)⟩, ⟨S1x1x4x128x128, (v267 x y)⟩, ⟨S1x1x4x128x128, (v270 x y)⟩, ⟨S1x1x4x128x128, (v273 x y)⟩, ⟨S1x1x4x128x128, (v276 x y)⟩, ⟨S1x1x4x128x128, (v279 x y)⟩, ⟨S1x1x4x128x128, (v282 x y)⟩] concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S11x1x4x128x128_d0
def v286 (x : (⟨S1x4112x512, .f32⟩ : BufTy).Contents (Elt F)) (y : (⟨S1x4112x512, .f32⟩ : BufTy).Contents (Elt F)) : (⟨S33x1x4x128x128, .f32⟩ : BufTy).Contents (Elt F) :=
  concatenate S33x1x4x128x128 0 [⟨S11x1x4x128x128, (v283 x y)⟩, ⟨S11x1x4x128x128, (v284 x y)⟩, ⟨S11x1x4x128x128, (v285 x y)⟩] concatenates_S11x1x4x128x128_S11x1x4x128x128_S11x1x4x128x128_S33x1x4x128x128_d0
def v287 (x : (⟨S1x4112x512, .f32⟩ : BufTy).Contents (Elt F)) (y : (⟨S1x4112x512, .f32⟩ : BufTy).Contents (Elt F)) : (⟨S33x4x128x128, .f32⟩ : BufTy).Contents (Elt F) :=
  shapeCast S33x4x128x128 (v286 x y) shapeCasts_S33x1x4x128x128_S33x4x128x128
def v288 (x : (⟨S1x4112x512, .f32⟩ : BufTy).Contents (Elt F)) (y : (⟨S1x4112x512, .f32⟩ : BufTy).Contents (Elt F)) : (⟨S4x33x128x128, .f32⟩ : BufTy).Contents (Elt F) :=
  transpose S4x33x128x128 [1, 0, 2, 3] (v287 x y) transposes_S33x4x128x128_S4x33x128x128_1_0_2_3
def v289 (x : (⟨S1x4112x512, .f32⟩ : BufTy).Contents (Elt F)) (y : (⟨S1x4112x512, .f32⟩ : BufTy).Contents (Elt F)) : (⟨S4x33x128x128, .bf16⟩ : BufTy).Contents (Elt F) :=
  truncf .bf16 (v288 x y) bitsLt_bf16_f32
def v291 (x : (⟨S1x4112x512, .f32⟩ : BufTy).Contents (Elt F)) : (⟨S4112x512, .f32⟩ : BufTy).Contents (Elt F) :=
  shapeCast S4112x512 x shapeCasts_S1x4112x512_S4112x512
def v292 (x : (⟨S1x4112x512, .f32⟩ : BufTy).Contents (Elt F)) : (⟨S4224x512, .f32⟩ : BufTy).Contents (Elt F) :=
  concatenate S4224x512 0 [⟨S112x512, (RefHost.v225 (F := F))⟩, ⟨S4112x512, (v291 x)⟩] concatenates_S112x512_S4112x512_S4224x512_d0
def v293 (x : (⟨S1x4112x512, .f32⟩ : BufTy).Contents (Elt F)) : (⟨S4224x512, .bf16⟩ : BufTy).Contents (Elt F) :=
  truncf .bf16 (v292 x) bitsLt_bf16_f32

/-! ## What the lines leave -/

namespace Pre

/-- The operations before the kernel. -/
abbrev ops : List (HloOp τ sig (Elt F)) := [hostOps0, hostOps0_1, hostOps0_2, hostOps0_3, hostOps0_4, hostOps0_5, hostOps0_6].flatten

/-- The operations before the kernel write these buffers in order. -/
theorem ordered : Lines.Ordered (τ := τ) (sig := sig) (ops (F := F))
    [main_v0, main_c, main_call0_v0, main_call0_c, main_call0_v1, main_call0_c_0, main_call0_v2, main_call0_v3, main_call0_v4, main_call0_c_1,
    main_call0_v5, main_call0_v6, main_call0_c_2, main_call0_v7, main_call0_v8, main_call0_c_3, main_call0_v9, main_call0_v10, main_call0_v11,
    main_call0_v12, main_call0_v13, main_call0_v14, main_v1, main_v2, main_v3, main_cst, main_v4, main_v5, main_cst_0, main_v6, main_v7, main_v8,
    main_cst_1, main_v9, main_v10, main_cst_2, main_v11, main_v12, main_v13, main_v14, main_v15, main_v16, main_v17, main_v18, main_v19, main_c_3,
    main_v20, main_v21, main_cst_4, main_cst_5, main_call1_v0, main_call1_v1, main_v22, main_v23, main_v24, main_v25, main_v26, main_v27, main_cst_6,
    main_v28, main_v29, main_cst_7, main_v30, main_v31, main_v32, main_v33, main_v34, main_v35, main_v36, main_v37, main_v38, main_v39, main_v40,
    main_cst_8, main_v41, main_v42, main_v43, main_v44, main_v45, main_v46, main_v47, main_v48, main_cst_9, main_call2_v0, main_call2_v1, main_call2_v2,
    main_v49, main_cst_10, main_v50, main_v51, main_v52, main_v53, main_v54, main_v55, main_v56, main_v57, main_cst_11, main_v58, main_v59, main_v60,
    main_v61, main_v62, main_v63, main_v64, main_v65, main_cst_12, main_v66, main_v67, main_v68, main_v69, main_v70, main_v71, main_v72, main_v73,
    main_v74, main_v75, main_v76, main_v77, main_v78, main_v79, main_v80, main_v81, main_cst_13, main_v82, main_v83, main_v84, main_v85, main_cst_14,
    main_v86, main_v87, main_v88, main_v89, main_cst_15, main_v90, main_v91, main_v92, main_cst_16, main_v93, main_v94, main_v95, main_v96, main_cst_17,
    main_v97, main_v98, main_cst_18, main_v99, main_v100, main_v101, main_v102, main_v103, main_v104, main_v105, main_v106, main_v107, main_v108,
    main_v109, main_v110, main_v111, main_v112, main_v113, main_v114, main_v115, main_v116, main_v117, main_v118, main_v119, main_v120, main_v121,
    main_v122, main_v123, main_v124, main_cst_19, main_v125, main_v126, main_v127, main_v128, main_cst_20, main_v129, main_v130, main_cst_21, main_v131,
    main_v132, main_v133, main_v134, main_v135, main_v136, main_v137, main_v138, main_v139, main_v140, main_v141, main_v142, main_v143, main_v144,
    main_v145, main_v146, main_v147, main_v148, main_v149, main_v150, main_v151, main_v152, main_v153, main_v154, main_v155, main_v156, main_v157,
    main_v158, main_v159, main_v160, main_cst_22, main_v161, main_v162, main_cst_23, main_v163, main_v164, main_v165, main_v166, main_v167, main_cst_24,
    main_v168, main_v169, main_v170, main_v171, main_v172, main_v173, main_v174, main_v175, main_cst_25, main_v176, main_v177, main_v178, main_v179,
    main_v180, main_v181, main_v182, main_v183, main_v184, main_v185, main_cst_26, main_v186, main_v187, main_v188, main_v189, main_v190, main_v191,
    main_v192, main_v193, main_v194, main_v195, main_v196, main_v197, main_v198, main_v199, main_v200, main_v201, main_v202, main_v203, main_v204,
    main_v205, main_v206, main_v207, main_v208, main_v209, main_v210, main_v211, main_v212, main_v213, main_v214, main_v215, main_v216, main_v217,
    main_v218, main_v219, main_v220, main_v221, main_v222, main_v223, main_v224, main_v225, main_v226, main_v227, main_v228, main_v229, main_v230,
    main_v231, main_v232, main_v233, main_v234, main_v235, main_v236, main_v237, main_v238, main_v239, main_v240, main_v241, main_v242, main_v243,
    main_v244, main_v245, main_v246, main_v247, main_v248, main_v249, main_v250, main_v251, main_v252, main_v253, main_v254, main_v255, main_v256,
    main_v257, main_v258, main_v259, main_v260, main_v261, main_v262, main_v263, main_v264, main_v265, main_v266, main_v267, main_v268, main_v269,
    main_v270, main_v271, main_v272, main_v273, main_v274, main_v275, main_v276, main_v277, main_v278, main_v279, main_v280, main_v281, main_v282,
    main_v283, main_v284, main_v285, main_v286, main_v287, main_v288, main_v289, main_cst_27, main_v290, main_v291, main_v292, main_v293, main_v294,
    main_v295, main_v296, main_v297, main_v298, main_v299, main_v300, main_v301, main_v302, main_v303, main_v304] :=
  ⟨rfl, Lines.pairwise_of_chain (by decide)⟩

variable (V : Valuation τ sig (Elt F))
variable {q : (⟨S1x4112x512, .f32⟩ : BufTy).Contents (Elt F)} {k : (⟨S1x4112x512, .f32⟩ : BufTy).Contents (Elt F)} {v : (⟨S1x4112x512, .f32⟩ : BufTy).Contents (Elt F)} {ct : (⟨S1x4112x512, .f32⟩ : BufTy).Contents (Elt F)}
variable
  (hmain_arg0 : V (Proc.devRef .tc main_arg0) = q)
  (hmain_arg1 : V (Proc.devRef .tc main_arg1) = k)
  (hmain_arg2 : V (Proc.devRef .tc main_arg2) = v)
  (hmain_arg3 : V (Proc.devRef .tc main_arg3) = ct)

include hmain_arg0 in
theorem arg0_eq : after ops V (Proc.devRef .tc main_arg0) = q :=
  (ordered.kept V (by decide)).trans hmain_arg0
include hmain_arg1 in
theorem arg1_eq : after ops V (Proc.devRef .tc main_arg1) = k :=
  (ordered.kept V (by decide)).trans hmain_arg1
include hmain_arg2 in
theorem arg2_eq : after ops V (Proc.devRef .tc main_arg2) = v :=
  (ordered.kept V (by decide)).trans hmain_arg2
include hmain_arg3 in
theorem arg3_eq : after ops V (Proc.devRef .tc main_arg3) = ct :=
  (ordered.kept V (by decide)).trans hmain_arg3
theorem v0_eq : after ops V (Proc.devRef .tc main_v0) = (v0 (F := F)) :=
  ordered.nullary V (i := 0) rfl
theorem c_eq : after ops V (Proc.devRef .tc main_c) = (c (F := F)) :=
  ordered.nullary V (i := 1) rfl
theorem call0_v0_eq : after ops V (Proc.devRef .tc main_call0_v0) = (c (F := F)) :=
  ordered.unary_eq V (i := 2) rfl (by decide) (c_eq V)
theorem call0_c_eq : after ops V (Proc.devRef .tc main_call0_c) = (call0_c (F := F)) :=
  ordered.nullary V (i := 3) rfl
theorem call0_v1_eq : after ops V (Proc.devRef .tc main_call0_v1) = (call0_v1 (F := F)) :=
  ordered.binary_eq V (i := 4) rfl (by decide) (by decide) (call0_v0_eq V) (call0_c_eq V)
theorem call0_c_0_eq : after ops V (Proc.devRef .tc main_call0_c_0) = (call0_c_0 (F := F)) :=
  ordered.nullary V (i := 5) rfl
theorem call0_v2_eq : after ops V (Proc.devRef .tc main_call0_v2) = (call0_v2 (F := F)) :=
  ordered.ternary_eq V (i := 6) rfl (by decide) (by decide) (by decide) (call0_v1_eq V) (call0_c_0_eq V) (call0_v0_eq V)
theorem call0_v3_eq : after ops V (Proc.devRef .tc main_call0_v3) = (call0_v3 (F := F)) :=
  ordered.unary_eq V (i := 7) rfl (by decide) (call0_v2_eq V)
theorem call0_v4_eq : after ops V (Proc.devRef .tc main_call0_v4) = (call0_v4 (F := F)) :=
  ordered.binary_eq V (i := 8) rfl (by decide) (by decide) (v0_eq V) (call0_v3_eq V)
theorem call0_c_1_eq : after ops V (Proc.devRef .tc main_call0_c_1) = (call0_c (F := F)) :=
  ordered.nullary V (i := 9) rfl
theorem call0_v5_eq : after ops V (Proc.devRef .tc main_call0_v5) = (call0_v5 (F := F)) :=
  ordered.unary_eq V (i := 10) rfl (by decide) (call0_c_1_eq V)
theorem call0_v6_eq : after ops V (Proc.devRef .tc main_call0_v6) = (call0_v6 (F := F)) :=
  ordered.binary_eq V (i := 11) rfl (by decide) (by decide) (call0_v4_eq V) (call0_v5_eq V)
theorem call0_c_2_eq : after ops V (Proc.devRef .tc main_call0_c_2) = (call0_c (F := F)) :=
  ordered.nullary V (i := 12) rfl
theorem call0_v7_eq : after ops V (Proc.devRef .tc main_call0_v7) = (call0_v5 (F := F)) :=
  ordered.unary_eq V (i := 13) rfl (by decide) (call0_c_2_eq V)
theorem call0_v8_eq : after ops V (Proc.devRef .tc main_call0_v8) = (call0_v8 (F := F)) :=
  ordered.binary_eq V (i := 14) rfl (by decide) (by decide) (call0_v4_eq V) (call0_v7_eq V)
theorem call0_c_3_eq : after ops V (Proc.devRef .tc main_call0_c_3) = (call0_c (F := F)) :=
  ordered.nullary V (i := 15) rfl
theorem call0_v9_eq : after ops V (Proc.devRef .tc main_call0_v9) = (call0_v9 (F := F)) :=
  ordered.binary_eq V (i := 16) rfl (by decide) (by decide) (call0_v2_eq V) (call0_c_3_eq V)
theorem call0_v10_eq : after ops V (Proc.devRef .tc main_call0_v10) = (call0_v10 (F := F)) :=
  ordered.unary_eq V (i := 17) rfl (by decide) (call0_v9_eq V)
theorem call0_v11_eq : after ops V (Proc.devRef .tc main_call0_v11) = (call0_v11 (F := F)) :=
  ordered.binary_eq V (i := 18) rfl (by decide) (by decide) (call0_v8_eq V) (call0_v10_eq V)
theorem call0_v12_eq : after ops V (Proc.devRef .tc main_call0_v12) = (call0_v12 (F := F)) :=
  ordered.binary_eq V (i := 19) rfl (by decide) (by decide) (call0_v11_eq V) (call0_v6_eq V)
theorem call0_v13_eq : after ops V (Proc.devRef .tc main_call0_v13) = (call0_v3 (F := F)) :=
  ordered.unary_eq V (i := 20) rfl (by decide) (call0_v2_eq V)
theorem call0_v14_eq : after ops V (Proc.devRef .tc main_call0_v14) = (call0_v14 (F := F)) :=
  ordered.binary_eq V (i := 21) rfl (by decide) (by decide) (call0_v4_eq V) (call0_v13_eq V)
theorem v1_eq : after ops V (Proc.devRef .tc main_v1) = (v1 (F := F)) :=
  ordered.ternary_eq V (i := 22) rfl (by decide) (by decide) (by decide) (call0_v12_eq V) (call0_v14_eq V) (call0_v4_eq V)
theorem v2_eq : after ops V (Proc.devRef .tc main_v2) = (v2 (F := F)) :=
  ordered.unary_eq V (i := 23) rfl (by decide) (v1_eq V)
theorem v3_eq : after ops V (Proc.devRef .tc main_v3) = (v3 (F := F)) :=
  ordered.unary_eq V (i := 24) rfl (by decide) (v2_eq V)
theorem cst_eq : after ops V (Proc.devRef .tc main_cst) = (FwdRefHost.cst_3 (F := F)) :=
  ordered.nullary V (i := 25) rfl
theorem v4_eq : after ops V (Proc.devRef .tc main_v4) = (v4 (F := F)) :=
  ordered.unary_eq V (i := 26) rfl (by decide) (cst_eq V)
theorem v5_eq : after ops V (Proc.devRef .tc main_v5) = (v5 (F := F)) :=
  ordered.binary_eq V (i := 27) rfl (by decide) (by decide) (v3_eq V) (v4_eq V)
theorem cst_0_eq : after ops V (Proc.devRef .tc main_cst_0) = (FwdRefHost.cst_4 (F := F)) :=
  ordered.nullary V (i := 28) rfl
theorem v6_eq : after ops V (Proc.devRef .tc main_v6) = (v6 (F := F)) :=
  ordered.unary_eq V (i := 29) rfl (by decide) (cst_0_eq V)
theorem v7_eq : after ops V (Proc.devRef .tc main_v7) = (v7 (F := F)) :=
  ordered.binary_eq V (i := 30) rfl (by decide) (by decide) (v6_eq V) (v5_eq V)
theorem v8_eq : after ops V (Proc.devRef .tc main_v8) = (FwdRefHost.v12 (F := F)) :=
  ordered.nullary V (i := 31) rfl
theorem cst_1_eq : after ops V (Proc.devRef .tc main_cst_1) = (FwdRefHost.cst_2 (F := F)) :=
  ordered.nullary V (i := 32) rfl
theorem v9_eq : after ops V (Proc.devRef .tc main_v9) = (FwdRefHost.v13 (F := F)) :=
  ordered.unary_eq V (i := 33) rfl (by decide) (cst_1_eq V)
theorem v10_eq : after ops V (Proc.devRef .tc main_v10) = (FwdRefHost.v14 (F := F)) :=
  ordered.binary_eq V (i := 34) rfl (by decide) (by decide) (v8_eq V) (v9_eq V)
theorem cst_2_eq : after ops V (Proc.devRef .tc main_cst_2) = (FwdRefHost.cst (F := F)) :=
  ordered.nullary V (i := 35) rfl
theorem v11_eq : after ops V (Proc.devRef .tc main_v11) = (v11 (F := F)) :=
  ordered.unary_eq V (i := 36) rfl (by decide) (cst_2_eq V)
theorem v12_eq : after ops V (Proc.devRef .tc main_v12) = (v12 (F := F)) :=
  ordered.binary_eq V (i := 37) rfl (by decide) (by decide) (v10_eq V) (v11_eq V)
theorem v13_eq : after ops V (Proc.devRef .tc main_v13) = (v13 (F := F)) :=
  ordered.unary_eq V (i := 38) rfl (by decide) (v12_eq V)
theorem v14_eq : after ops V (Proc.devRef .tc main_v14) = (v14 (F := F)) :=
  ordered.unary_eq V (i := 39) rfl (by decide) (v7_eq V)
theorem v15_eq : after ops V (Proc.devRef .tc main_v15) = (v15 (F := F)) :=
  ordered.unary_eq V (i := 40) rfl (by decide) (v13_eq V)
theorem v16_eq : after ops V (Proc.devRef .tc main_v16) = (v16 (F := F)) :=
  ordered.unary_eq V (i := 41) rfl (by decide) (v14_eq V)
theorem v17_eq : after ops V (Proc.devRef .tc main_v17) = (v17 (F := F)) :=
  ordered.binary_eq V (i := 42) rfl (by decide) (by decide) (v15_eq V) (v16_eq V)
theorem v18_eq : after ops V (Proc.devRef .tc main_v18) = (v18 (F := F)) :=
  ordered.unary_eq V (i := 43) rfl (by decide) (v17_eq V)
theorem v19_eq : after ops V (Proc.devRef .tc main_v19) = (v19 (F := F)) :=
  ordered.unary_eq V (i := 44) rfl (by decide) (v0_eq V)
theorem c_3_eq : after ops V (Proc.devRef .tc main_c_3) = (c (F := F)) :=
  ordered.nullary V (i := 45) rfl
theorem v20_eq : after ops V (Proc.devRef .tc main_v20) = (v20 (F := F)) :=
  ordered.unary_eq V (i := 46) rfl (by decide) (c_3_eq V)
theorem v21_eq : after ops V (Proc.devRef .tc main_v21) = (v21 (F := F)) :=
  ordered.binary_eq V (i := 47) rfl (by decide) (by decide) (v19_eq V) (v20_eq V)
theorem cst_4_eq : after ops V (Proc.devRef .tc main_cst_4) = (cst_4 (F := F)) :=
  ordered.nullary V (i := 48) rfl
theorem cst_5_eq : after ops V (Proc.devRef .tc main_cst_5) = (FwdRefHost.cst_14 (F := F)) :=
  ordered.nullary V (i := 49) rfl
theorem call1_v0_eq : after ops V (Proc.devRef .tc main_call1_v0) = (call1_v0 (F := F)) :=
  ordered.unary_eq V (i := 50) rfl (by decide) (cst_4_eq V)
theorem call1_v1_eq : after ops V (Proc.devRef .tc main_call1_v1) = (call1_v1 (F := F)) :=
  ordered.unary_eq V (i := 51) rfl (by decide) (cst_5_eq V)
theorem v22_eq : after ops V (Proc.devRef .tc main_v22) = (v22 (F := F)) :=
  ordered.ternary_eq V (i := 52) rfl (by decide) (by decide) (by decide) (v21_eq V) (call1_v0_eq V) (call1_v1_eq V)
theorem v23_eq : after ops V (Proc.devRef .tc main_v23) = (v23 (F := F)) :=
  ordered.unary_eq V (i := 53) rfl (by decide) (v17_eq V)
theorem v24_eq : after ops V (Proc.devRef .tc main_v24) = (v22 (F := F)) :=
  ordered.unary_eq V (i := 54) rfl (by decide) (v22_eq V)
theorem v25_eq : after ops V (Proc.devRef .tc main_v25) = (v25 (F := F)) :=
  ordered.unary_eq V (i := 55) rfl (by decide) (v24_eq V)
theorem v26_eq : after ops V (Proc.devRef .tc main_v26) = (v26 (F := F)) :=
  ordered.binary_eq V (i := 56) rfl (by decide) (by decide) (v25_eq V) (v23_eq V)
theorem v27_eq : after ops V (Proc.devRef .tc main_v27) = (FwdRefHost.v80 (F := F)) :=
  ordered.nullary V (i := 57) rfl
theorem cst_6_eq : after ops V (Proc.devRef .tc main_cst_6) = (FwdRefHost.cst_8 (F := F)) :=
  ordered.nullary V (i := 58) rfl
theorem v28_eq : after ops V (Proc.devRef .tc main_v28) = (FwdRefHost.v81 (F := F)) :=
  ordered.unary_eq V (i := 59) rfl (by decide) (cst_6_eq V)
theorem v29_eq : after ops V (Proc.devRef .tc main_v29) = (FwdRefHost.v82 (F := F)) :=
  ordered.binary_eq V (i := 60) rfl (by decide) (by decide) (v28_eq V) (v27_eq V)
theorem cst_7_eq : after ops V (Proc.devRef .tc main_cst_7) = (FwdRefHost.cst_9 (F := F)) :=
  ordered.nullary V (i := 61) rfl
theorem v30_eq : after ops V (Proc.devRef .tc main_v30) = (FwdRefHost.v83 (F := F)) :=
  ordered.unary_eq V (i := 62) rfl (by decide) (cst_7_eq V)
theorem v31_eq : after ops V (Proc.devRef .tc main_v31) = (FwdRefHost.v84 (F := F)) :=
  ordered.binary_eq V (i := 63) rfl (by decide) (by decide) (v30_eq V) (v29_eq V)
theorem v32_eq : after ops V (Proc.devRef .tc main_v32) = (FwdRefHost.v85 (F := F)) :=
  ordered.unary_eq V (i := 64) rfl (by decide) (v31_eq V)
theorem v33_eq : after ops V (Proc.devRef .tc main_v33) = (FwdRefHost.v86 (F := F)) :=
  ordered.unary_eq V (i := 65) rfl (by decide) (v32_eq V)
theorem v34_eq : after ops V (Proc.devRef .tc main_v34) = (FwdRefHost.v87 (F := F)) :=
  ordered.nullary V (i := 66) rfl
theorem v35_eq : after ops V (Proc.devRef .tc main_v35) = (FwdRefHost.v104 (F := F)) :=
  ordered.unary_eq V (i := 67) rfl (by decide) (v34_eq V)
theorem v36_eq : after ops V (Proc.devRef .tc main_v36) = (FwdRefHost.v105 (F := F)) :=
  ordered.unary_eq V (i := 68) rfl (by decide) (v34_eq V)
theorem v37_eq : after ops V (Proc.devRef .tc main_v37) = (FwdRefHost.v106 (F := F)) :=
  ordered.unary_eq V (i := 69) rfl (by decide) (v35_eq V)
theorem v38_eq : after ops V (Proc.devRef .tc main_v38) = (FwdRefHost.v107 (F := F)) :=
  ordered.unary_eq V (i := 70) rfl (by decide) (v36_eq V)
theorem v39_eq : after ops V (Proc.devRef .tc main_v39) = (FwdRefHost.v108 (F := F)) :=
  ordered.binary_eq V (i := 71) rfl (by decide) (by decide) (v37_eq V) (v38_eq V)
theorem v40_eq : after ops V (Proc.devRef .tc main_v40) = (FwdRefHost.v109 (F := F)) :=
  ordered.unary_eq V (i := 72) rfl (by decide) (v39_eq V)
theorem cst_8_eq : after ops V (Proc.devRef .tc main_cst_8) = (FwdRefHost.cst (F := F)) :=
  ordered.nullary V (i := 73) rfl
theorem v41_eq : after ops V (Proc.devRef .tc main_v41) = (FwdRefHost.v110 (F := F)) :=
  ordered.unary_eq V (i := 74) rfl (by decide) (cst_8_eq V)
theorem v42_eq : after ops V (Proc.devRef .tc main_v42) = (FwdRefHost.v111 (F := F)) :=
  ordered.binary_eq V (i := 75) rfl (by decide) (by decide) (v40_eq V) (v41_eq V)
theorem v43_eq : after ops V (Proc.devRef .tc main_v43) = (FwdRefHost.v109 (F := F)) :=
  ordered.unary_eq V (i := 76) rfl (by decide) (v39_eq V)
theorem v44_eq : after ops V (Proc.devRef .tc main_v44) = (FwdRefHost.v113 (F := F)) :=
  ordered.unary_eq V (i := 77) rfl (by decide) (v33_eq V)
theorem v45_eq : after ops V (Proc.devRef .tc main_v45) = (FwdRefHost.v114 (F := F)) :=
  ordered.unary_eq V (i := 78) rfl (by decide) (v43_eq V)
theorem v46_eq : after ops V (Proc.devRef .tc main_v46) = (FwdRefHost.v115 (F := F)) :=
  ordered.unary_eq V (i := 79) rfl (by decide) (v44_eq V)
theorem v47_eq : after ops V (Proc.devRef .tc main_v47) = (FwdRefHost.v116 (F := F)) :=
  ordered.binary_eq V (i := 80) rfl (by decide) (by decide) (v45_eq V) (v46_eq V)
theorem v48_eq : after ops V (Proc.devRef .tc main_v48) = (FwdRefHost.v117 (F := F)) :=
  ordered.unary_eq V (i := 81) rfl (by decide) (v47_eq V)
theorem cst_9_eq : after ops V (Proc.devRef .tc main_cst_9) = (FwdRefHost.cst (F := F)) :=
  ordered.nullary V (i := 82) rfl
theorem call2_v0_eq : after ops V (Proc.devRef .tc main_call2_v0) = (FwdRefHost.cst (F := F)) :=
  ordered.unary_eq V (i := 83) rfl (by decide) (cst_9_eq V)
theorem call2_v1_eq : after ops V (Proc.devRef .tc main_call2_v1) = (FwdRefHost.call0_v1 (F := F)) :=
  ordered.unary_eq V (i := 84) rfl (by decide) (v42_eq V)
theorem call2_v2_eq : after ops V (Proc.devRef .tc main_call2_v2) = (FwdRefHost.call0_v2 (F := F)) :=
  ordered.unary_eq V (i := 85) rfl (by decide) (call2_v0_eq V)
theorem v49_eq : after ops V (Proc.devRef .tc main_v49) = (FwdRefHost.v118 (F := F)) :=
  ordered.ternary_eq V (i := 86) rfl (by decide) (by decide) (by decide) (call2_v1_eq V) (v48_eq V) (call2_v2_eq V)
theorem cst_10_eq : after ops V (Proc.devRef .tc main_cst_10) = (FwdRefHost.cst_10 (F := F)) :=
  ordered.nullary V (i := 87) rfl
theorem v50_eq : after ops V (Proc.devRef .tc main_v50) = (FwdRefHost.v88 (F := F)) :=
  ordered.unary_eq V (i := 88) rfl (by decide) (cst_10_eq V)
theorem v51_eq : after ops V (Proc.devRef .tc main_v51) = (FwdRefHost.v89 (F := F)) :=
  ordered.binary_eq V (i := 89) rfl (by decide) (by decide) (v50_eq V) (v34_eq V)
theorem v52_eq : after ops V (Proc.devRef .tc main_v52) = (FwdRefHost.v90 (F := F)) :=
  ordered.unary_eq V (i := 90) rfl (by decide) (v51_eq V)
theorem v53_eq : after ops V (Proc.devRef .tc main_v53) = (FwdRefHost.v91 (F := F)) :=
  ordered.unary_eq V (i := 91) rfl (by decide) (v33_eq V)
theorem v54_eq : after ops V (Proc.devRef .tc main_v54) = (FwdRefHost.v92 (F := F)) :=
  ordered.unary_eq V (i := 92) rfl (by decide) (v52_eq V)
theorem v55_eq : after ops V (Proc.devRef .tc main_v55) = (FwdRefHost.v93 (F := F)) :=
  ordered.unary_eq V (i := 93) rfl (by decide) (v53_eq V)
theorem v56_eq : after ops V (Proc.devRef .tc main_v56) = (FwdRefHost.v94 (F := F)) :=
  ordered.binary_eq V (i := 94) rfl (by decide) (by decide) (v54_eq V) (v55_eq V)
theorem v57_eq : after ops V (Proc.devRef .tc main_v57) = (FwdRefHost.v95 (F := F)) :=
  ordered.unary_eq V (i := 95) rfl (by decide) (v56_eq V)
theorem cst_11_eq : after ops V (Proc.devRef .tc main_cst_11) = (FwdRefHost.cst_14 (F := F)) :=
  ordered.nullary V (i := 96) rfl
theorem v58_eq : after ops V (Proc.devRef .tc main_v58) = (FwdRefHost.v119 (F := F)) :=
  ordered.unary_eq V (i := 97) rfl (by decide) (cst_11_eq V)
theorem v59_eq : after ops V (Proc.devRef .tc main_v59) = (FwdRefHost.v120 (F := F)) :=
  ordered.binary_eq V (i := 98) rfl (by decide) (by decide) (v34_eq V) (v58_eq V)
theorem v60_eq : after ops V (Proc.devRef .tc main_v60) = (FwdRefHost.v121 (F := F)) :=
  ordered.unary_eq V (i := 99) rfl (by decide) (v59_eq V)
theorem v61_eq : after ops V (Proc.devRef .tc main_v61) = (FwdRefHost.v91 (F := F)) :=
  ordered.unary_eq V (i := 100) rfl (by decide) (v33_eq V)
theorem v62_eq : after ops V (Proc.devRef .tc main_v62) = (FwdRefHost.v123 (F := F)) :=
  ordered.unary_eq V (i := 101) rfl (by decide) (v60_eq V)
theorem v63_eq : after ops V (Proc.devRef .tc main_v63) = (FwdRefHost.v93 (F := F)) :=
  ordered.unary_eq V (i := 102) rfl (by decide) (v61_eq V)
theorem v64_eq : after ops V (Proc.devRef .tc main_v64) = (FwdRefHost.v125 (F := F)) :=
  ordered.binary_eq V (i := 103) rfl (by decide) (by decide) (v62_eq V) (v63_eq V)
theorem v65_eq : after ops V (Proc.devRef .tc main_v65) = (FwdRefHost.v126 (F := F)) :=
  ordered.unary_eq V (i := 104) rfl (by decide) (v64_eq V)
theorem cst_12_eq : after ops V (Proc.devRef .tc main_cst_12) = (FwdRefHost.cst_11 (F := F)) :=
  ordered.nullary V (i := 105) rfl
theorem v66_eq : after ops V (Proc.devRef .tc main_v66) = (FwdRefHost.v96 (F := F)) :=
  ordered.unary_eq V (i := 106) rfl (by decide) (cst_12_eq V)
theorem v67_eq : after ops V (Proc.devRef .tc main_v67) = (FwdRefHost.v97 (F := F)) :=
  ordered.binary_eq V (i := 107) rfl (by decide) (by decide) (v66_eq V) (v33_eq V)
theorem v68_eq : after ops V (Proc.devRef .tc main_v68) = (FwdRefHost.v98 (F := F)) :=
  ordered.unary_eq V (i := 108) rfl (by decide) (v67_eq V)
theorem v69_eq : after ops V (Proc.devRef .tc main_v69) = (FwdHost.v69 (F := F)) :=
  ordered.unary_eq V (i := 109) rfl (by decide) (v57_eq V)
theorem v70_eq : after ops V (Proc.devRef .tc main_v70) = (FwdHost.v70 (F := F)) :=
  ordered.unary_eq V (i := 110) rfl (by decide) (v69_eq V)
theorem v71_eq : after ops V (Proc.devRef .tc main_v71) = (FwdHost.v71 (F := F)) :=
  ordered.unary_eq V (i := 111) rfl (by decide) (v65_eq V)
theorem v72_eq : after ops V (Proc.devRef .tc main_v72) = (FwdHost.v72 (F := F)) :=
  ordered.unary_eq V (i := 112) rfl (by decide) (v71_eq V)
theorem v73_eq : after ops V (Proc.devRef .tc main_v73) = (FwdHost.v73 (F := F)) :=
  ordered.unary_eq V (i := 113) rfl (by decide) (v68_eq V)
theorem v74_eq : after ops V (Proc.devRef .tc main_v74) = (FwdHost.v74 (F := F)) :=
  ordered.unary_eq V (i := 114) rfl (by decide) (v73_eq V)
theorem v75_eq : after ops V (Proc.devRef .tc main_v75) = (FwdHost.v75 (F := F)) :=
  ordered.unary_eq V (i := 115) rfl (by decide) (v49_eq V)
theorem v76_eq : after ops V (Proc.devRef .tc main_v76) = (FwdHost.v76 (F := F)) :=
  ordered.unary_eq V (i := 116) rfl (by decide) (v70_eq V)
theorem v77_eq : after ops V (Proc.devRef .tc main_v77) = (FwdHost.v77 (F := F)) :=
  ordered.unary_eq V (i := 117) rfl (by decide) (v72_eq V)
theorem v78_eq : after ops V (Proc.devRef .tc main_v78) = (FwdHost.v78 (F := F)) :=
  ordered.unary_eq V (i := 118) rfl (by decide) (v74_eq V)
theorem v79_eq : after ops V (Proc.devRef .tc main_v79) = (FwdHost.v79 (F := F)) :=
  ordered.nary_eq V (i := 119) rfl (by decide) (fun i => match i with | 0 => (FwdHost.v75 (F := F)) | 1 => (FwdHost.v76 (F := F)) | 2 => (FwdHost.v77 (F := F)) | 3 => (FwdHost.v78 (F := F)))
    (fun i => match i with | 0 => (v75_eq V) | 1 => (v76_eq V) | 2 => (v77_eq V) | 3 => (v78_eq V))
include hmain_arg0 in
theorem v80_eq : after ops V (Proc.devRef .tc main_v80) = (FwdRefHost.v0 q) :=
  ordered.reshape_eq V (i := 120) rfl (by decide) (arg0_eq V hmain_arg0)
include hmain_arg0 in
theorem v81_eq : after ops V (Proc.devRef .tc main_v81) = (FwdRefHost.v1 q) :=
  ordered.unary_eq V (i := 121) rfl (by decide) (v80_eq V hmain_arg0)
theorem cst_13_eq : after ops V (Proc.devRef .tc main_cst_13) = (FwdRefHost.cst (F := F)) :=
  ordered.nullary V (i := 122) rfl
theorem v82_eq : after ops V (Proc.devRef .tc main_v82) = (FwdRefHost.v2 (F := F)) :=
  ordered.unary_eq V (i := 123) rfl (by decide) (cst_13_eq V)
include hmain_arg0 in
theorem v83_eq : after ops V (Proc.devRef .tc main_v83) = (FwdRefHost.v3 q) :=
  ordered.binary_eq V (i := 124) rfl (by decide) (by decide) (v82_eq V) (v81_eq V hmain_arg0)
include hmain_arg1 in
theorem v84_eq : after ops V (Proc.devRef .tc main_v84) = (FwdRefHost.v0 k) :=
  ordered.reshape_eq V (i := 125) rfl (by decide) (arg1_eq V hmain_arg1)
include hmain_arg1 in
theorem v85_eq : after ops V (Proc.devRef .tc main_v85) = (FwdRefHost.v1 k) :=
  ordered.unary_eq V (i := 126) rfl (by decide) (v84_eq V hmain_arg1)
theorem cst_14_eq : after ops V (Proc.devRef .tc main_cst_14) = (FwdRefHost.cst (F := F)) :=
  ordered.nullary V (i := 127) rfl
theorem v86_eq : after ops V (Proc.devRef .tc main_v86) = (FwdRefHost.v2 (F := F)) :=
  ordered.unary_eq V (i := 128) rfl (by decide) (cst_14_eq V)
include hmain_arg1 in
theorem v87_eq : after ops V (Proc.devRef .tc main_v87) = (FwdRefHost.v3 k) :=
  ordered.binary_eq V (i := 129) rfl (by decide) (by decide) (v86_eq V) (v85_eq V hmain_arg1)
include hmain_arg2 in
theorem v88_eq : after ops V (Proc.devRef .tc main_v88) = (FwdRefHost.v0 v) :=
  ordered.reshape_eq V (i := 130) rfl (by decide) (arg2_eq V hmain_arg2)
include hmain_arg2 in
theorem v89_eq : after ops V (Proc.devRef .tc main_v89) = (FwdRefHost.v1 v) :=
  ordered.unary_eq V (i := 131) rfl (by decide) (v88_eq V hmain_arg2)
theorem cst_15_eq : after ops V (Proc.devRef .tc main_cst_15) = (FwdRefHost.cst (F := F)) :=
  ordered.nullary V (i := 132) rfl
theorem v90_eq : after ops V (Proc.devRef .tc main_v90) = (FwdRefHost.v2 (F := F)) :=
  ordered.unary_eq V (i := 133) rfl (by decide) (cst_15_eq V)
include hmain_arg2 in
theorem v91_eq : after ops V (Proc.devRef .tc main_v91) = (FwdRefHost.v3 v) :=
  ordered.binary_eq V (i := 134) rfl (by decide) (by decide) (v90_eq V) (v89_eq V hmain_arg2)
theorem v92_eq : after ops V (Proc.devRef .tc main_v92) = (FwdRefHost.v12 (F := F)) :=
  ordered.nullary V (i := 135) rfl
theorem cst_16_eq : after ops V (Proc.devRef .tc main_cst_16) = (FwdRefHost.cst_2 (F := F)) :=
  ordered.nullary V (i := 136) rfl
theorem v93_eq : after ops V (Proc.devRef .tc main_v93) = (FwdRefHost.v13 (F := F)) :=
  ordered.unary_eq V (i := 137) rfl (by decide) (cst_16_eq V)
theorem v94_eq : after ops V (Proc.devRef .tc main_v94) = (FwdRefHost.v14 (F := F)) :=
  ordered.binary_eq V (i := 138) rfl (by decide) (by decide) (v92_eq V) (v93_eq V)
theorem v95_eq : after ops V (Proc.devRef .tc main_v95) = (FwdRefHost.v15 (F := F)) :=
  ordered.nullary V (i := 139) rfl
theorem v96_eq : after ops V (Proc.devRef .tc main_v96) = (FwdRefHost.v16 (F := F)) :=
  ordered.unary_eq V (i := 140) rfl (by decide) (v95_eq V)
theorem cst_17_eq : after ops V (Proc.devRef .tc main_cst_17) = (FwdRefHost.cst_3 (F := F)) :=
  ordered.nullary V (i := 141) rfl
theorem v97_eq : after ops V (Proc.devRef .tc main_v97) = (FwdRefHost.v17 (F := F)) :=
  ordered.unary_eq V (i := 142) rfl (by decide) (cst_17_eq V)
theorem v98_eq : after ops V (Proc.devRef .tc main_v98) = (FwdRefHost.v18 (F := F)) :=
  ordered.binary_eq V (i := 143) rfl (by decide) (by decide) (v96_eq V) (v97_eq V)
theorem cst_18_eq : after ops V (Proc.devRef .tc main_cst_18) = (FwdRefHost.cst_4 (F := F)) :=
  ordered.nullary V (i := 144) rfl
theorem v99_eq : after ops V (Proc.devRef .tc main_v99) = (FwdRefHost.v19 (F := F)) :=
  ordered.unary_eq V (i := 145) rfl (by decide) (cst_18_eq V)
theorem v100_eq : after ops V (Proc.devRef .tc main_v100) = (FwdRefHost.v20 (F := F)) :=
  ordered.binary_eq V (i := 146) rfl (by decide) (by decide) (v99_eq V) (v98_eq V)
theorem v101_eq : after ops V (Proc.devRef .tc main_v101) = (FwdRefHost.v21 (F := F)) :=
  ordered.unary_eq V (i := 147) rfl (by decide) (v94_eq V)
theorem v102_eq : after ops V (Proc.devRef .tc main_v102) = (FwdRefHost.v22 (F := F)) :=
  ordered.unary_eq V (i := 148) rfl (by decide) (v100_eq V)
theorem v103_eq : after ops V (Proc.devRef .tc main_v103) = (FwdRefHost.v23 (F := F)) :=
  ordered.unary_eq V (i := 149) rfl (by decide) (v101_eq V)
theorem v104_eq : after ops V (Proc.devRef .tc main_v104) = (FwdRefHost.v24 (F := F)) :=
  ordered.unary_eq V (i := 150) rfl (by decide) (v102_eq V)
theorem v105_eq : after ops V (Proc.devRef .tc main_v105) = (FwdRefHost.v25 (F := F)) :=
  ordered.binary_eq V (i := 151) rfl (by decide) (by decide) (v103_eq V) (v104_eq V)
theorem v106_eq : after ops V (Proc.devRef .tc main_v106) = (FwdRefHost.v26 (F := F)) :=
  ordered.unary_eq V (i := 152) rfl (by decide) (v105_eq V)
theorem v107_eq : after ops V (Proc.devRef .tc main_v107) = (FwdRefHost.v27 (F := F)) :=
  ordered.unary_eq V (i := 153) rfl (by decide) (v105_eq V)
include hmain_arg0 in
theorem v108_eq : after ops V (Proc.devRef .tc main_v108) = (FwdRefHost.v28 q) :=
  ordered.unary_eq V (i := 154) rfl (by decide) (v83_eq V hmain_arg0)
include hmain_arg0 in
theorem v109_eq : after ops V (Proc.devRef .tc main_v109) = (FwdRefHost.v29 q) :=
  ordered.unary_eq V (i := 155) rfl (by decide) (v83_eq V hmain_arg0)
theorem v110_eq : after ops V (Proc.devRef .tc main_v110) = (FwdRefHost.v30 (F := F)) :=
  ordered.unary_eq V (i := 156) rfl (by decide) (v106_eq V)
theorem v111_eq : after ops V (Proc.devRef .tc main_v111) = (FwdRefHost.v31 (F := F)) :=
  ordered.unary_eq V (i := 157) rfl (by decide) (v110_eq V)
include hmain_arg0 in
theorem v112_eq : after ops V (Proc.devRef .tc main_v112) = (FwdRefHost.v32 q) :=
  ordered.binary_eq V (i := 158) rfl (by decide) (by decide) (v108_eq V hmain_arg0) (v111_eq V)
theorem v113_eq : after ops V (Proc.devRef .tc main_v113) = (FwdRefHost.v33 (F := F)) :=
  ordered.unary_eq V (i := 159) rfl (by decide) (v107_eq V)
theorem v114_eq : after ops V (Proc.devRef .tc main_v114) = (FwdRefHost.v34 (F := F)) :=
  ordered.unary_eq V (i := 160) rfl (by decide) (v113_eq V)
include hmain_arg0 in
theorem v115_eq : after ops V (Proc.devRef .tc main_v115) = (FwdRefHost.v35 q) :=
  ordered.binary_eq V (i := 161) rfl (by decide) (by decide) (v109_eq V hmain_arg0) (v114_eq V)
include hmain_arg0 in
theorem v116_eq : after ops V (Proc.devRef .tc main_v116) = (FwdRefHost.v36 q) :=
  ordered.binary_eq V (i := 162) rfl (by decide) (by decide) (v112_eq V hmain_arg0) (v115_eq V hmain_arg0)
theorem v117_eq : after ops V (Proc.devRef .tc main_v117) = (FwdRefHost.v33 (F := F)) :=
  ordered.unary_eq V (i := 163) rfl (by decide) (v107_eq V)
theorem v118_eq : after ops V (Proc.devRef .tc main_v118) = (FwdRefHost.v34 (F := F)) :=
  ordered.unary_eq V (i := 164) rfl (by decide) (v117_eq V)
include hmain_arg0 in
theorem v119_eq : after ops V (Proc.devRef .tc main_v119) = (FwdRefHost.v39 q) :=
  ordered.binary_eq V (i := 165) rfl (by decide) (by decide) (v108_eq V hmain_arg0) (v118_eq V)
theorem v120_eq : after ops V (Proc.devRef .tc main_v120) = (FwdRefHost.v30 (F := F)) :=
  ordered.unary_eq V (i := 166) rfl (by decide) (v106_eq V)
theorem v121_eq : after ops V (Proc.devRef .tc main_v121) = (FwdRefHost.v31 (F := F)) :=
  ordered.unary_eq V (i := 167) rfl (by decide) (v120_eq V)
include hmain_arg0 in
theorem v122_eq : after ops V (Proc.devRef .tc main_v122) = (FwdRefHost.v42 q) :=
  ordered.binary_eq V (i := 168) rfl (by decide) (by decide) (v109_eq V hmain_arg0) (v121_eq V)
include hmain_arg0 in
theorem v123_eq : after ops V (Proc.devRef .tc main_v123) = (FwdRefHost.v43 q) :=
  ordered.binary_eq V (i := 169) rfl (by decide) (by decide) (v119_eq V hmain_arg0) (v122_eq V hmain_arg0)
include hmain_arg0 in
theorem v124_eq : after ops V (Proc.devRef .tc main_v124) = (FwdRefHost.v44 q) :=
  ordered.binary_eq V (i := 170) rfl (by decide) (by decide) (v116_eq V hmain_arg0) (v123_eq V hmain_arg0)
theorem cst_19_eq : after ops V (Proc.devRef .tc main_cst_19) = (FwdRefHost.cst_5 (F := F)) :=
  ordered.nullary V (i := 171) rfl
theorem v125_eq : after ops V (Proc.devRef .tc main_v125) = (FwdRefHost.v45 (F := F)) :=
  ordered.unary_eq V (i := 172) rfl (by decide) (cst_19_eq V)
include hmain_arg0 in
theorem v126_eq : after ops V (Proc.devRef .tc main_v126) = (FwdRefHost.v46 q) :=
  ordered.binary_eq V (i := 173) rfl (by decide) (by decide) (v124_eq V hmain_arg0) (v125_eq V)
theorem v127_eq : after ops V (Proc.devRef .tc main_v127) = (FwdRefHost.v15 (F := F)) :=
  ordered.nullary V (i := 174) rfl
theorem v128_eq : after ops V (Proc.devRef .tc main_v128) = (FwdRefHost.v16 (F := F)) :=
  ordered.unary_eq V (i := 175) rfl (by decide) (v127_eq V)
theorem cst_20_eq : after ops V (Proc.devRef .tc main_cst_20) = (FwdRefHost.cst_3 (F := F)) :=
  ordered.nullary V (i := 176) rfl
theorem v129_eq : after ops V (Proc.devRef .tc main_v129) = (FwdRefHost.v17 (F := F)) :=
  ordered.unary_eq V (i := 177) rfl (by decide) (cst_20_eq V)
theorem v130_eq : after ops V (Proc.devRef .tc main_v130) = (FwdRefHost.v18 (F := F)) :=
  ordered.binary_eq V (i := 178) rfl (by decide) (by decide) (v128_eq V) (v129_eq V)
theorem cst_21_eq : after ops V (Proc.devRef .tc main_cst_21) = (FwdRefHost.cst_4 (F := F)) :=
  ordered.nullary V (i := 179) rfl
theorem v131_eq : after ops V (Proc.devRef .tc main_v131) = (FwdRefHost.v19 (F := F)) :=
  ordered.unary_eq V (i := 180) rfl (by decide) (cst_21_eq V)
theorem v132_eq : after ops V (Proc.devRef .tc main_v132) = (FwdRefHost.v20 (F := F)) :=
  ordered.binary_eq V (i := 181) rfl (by decide) (by decide) (v131_eq V) (v130_eq V)
theorem v133_eq : after ops V (Proc.devRef .tc main_v133) = (FwdRefHost.v21 (F := F)) :=
  ordered.unary_eq V (i := 182) rfl (by decide) (v94_eq V)
theorem v134_eq : after ops V (Proc.devRef .tc main_v134) = (FwdRefHost.v22 (F := F)) :=
  ordered.unary_eq V (i := 183) rfl (by decide) (v132_eq V)
theorem v135_eq : after ops V (Proc.devRef .tc main_v135) = (FwdRefHost.v23 (F := F)) :=
  ordered.unary_eq V (i := 184) rfl (by decide) (v133_eq V)
theorem v136_eq : after ops V (Proc.devRef .tc main_v136) = (FwdRefHost.v24 (F := F)) :=
  ordered.unary_eq V (i := 185) rfl (by decide) (v134_eq V)
theorem v137_eq : after ops V (Proc.devRef .tc main_v137) = (FwdRefHost.v25 (F := F)) :=
  ordered.binary_eq V (i := 186) rfl (by decide) (by decide) (v135_eq V) (v136_eq V)
theorem v138_eq : after ops V (Proc.devRef .tc main_v138) = (FwdRefHost.v26 (F := F)) :=
  ordered.unary_eq V (i := 187) rfl (by decide) (v137_eq V)
theorem v139_eq : after ops V (Proc.devRef .tc main_v139) = (FwdRefHost.v27 (F := F)) :=
  ordered.unary_eq V (i := 188) rfl (by decide) (v137_eq V)
include hmain_arg1 in
theorem v140_eq : after ops V (Proc.devRef .tc main_v140) = (FwdRefHost.v28 k) :=
  ordered.unary_eq V (i := 189) rfl (by decide) (v87_eq V hmain_arg1)
include hmain_arg1 in
theorem v141_eq : after ops V (Proc.devRef .tc main_v141) = (FwdRefHost.v29 k) :=
  ordered.unary_eq V (i := 190) rfl (by decide) (v87_eq V hmain_arg1)
theorem v142_eq : after ops V (Proc.devRef .tc main_v142) = (FwdRefHost.v30 (F := F)) :=
  ordered.unary_eq V (i := 191) rfl (by decide) (v138_eq V)
theorem v143_eq : after ops V (Proc.devRef .tc main_v143) = (FwdRefHost.v31 (F := F)) :=
  ordered.unary_eq V (i := 192) rfl (by decide) (v142_eq V)
include hmain_arg1 in
theorem v144_eq : after ops V (Proc.devRef .tc main_v144) = (FwdRefHost.v32 k) :=
  ordered.binary_eq V (i := 193) rfl (by decide) (by decide) (v140_eq V hmain_arg1) (v143_eq V)
theorem v145_eq : after ops V (Proc.devRef .tc main_v145) = (FwdRefHost.v33 (F := F)) :=
  ordered.unary_eq V (i := 194) rfl (by decide) (v139_eq V)
theorem v146_eq : after ops V (Proc.devRef .tc main_v146) = (FwdRefHost.v34 (F := F)) :=
  ordered.unary_eq V (i := 195) rfl (by decide) (v145_eq V)
include hmain_arg1 in
theorem v147_eq : after ops V (Proc.devRef .tc main_v147) = (FwdRefHost.v35 k) :=
  ordered.binary_eq V (i := 196) rfl (by decide) (by decide) (v141_eq V hmain_arg1) (v146_eq V)
include hmain_arg1 in
theorem v148_eq : after ops V (Proc.devRef .tc main_v148) = (FwdRefHost.v36 k) :=
  ordered.binary_eq V (i := 197) rfl (by decide) (by decide) (v144_eq V hmain_arg1) (v147_eq V hmain_arg1)
theorem v149_eq : after ops V (Proc.devRef .tc main_v149) = (FwdRefHost.v33 (F := F)) :=
  ordered.unary_eq V (i := 198) rfl (by decide) (v139_eq V)
theorem v150_eq : after ops V (Proc.devRef .tc main_v150) = (FwdRefHost.v34 (F := F)) :=
  ordered.unary_eq V (i := 199) rfl (by decide) (v149_eq V)
include hmain_arg1 in
theorem v151_eq : after ops V (Proc.devRef .tc main_v151) = (FwdRefHost.v39 k) :=
  ordered.binary_eq V (i := 200) rfl (by decide) (by decide) (v140_eq V hmain_arg1) (v150_eq V)
theorem v152_eq : after ops V (Proc.devRef .tc main_v152) = (FwdRefHost.v30 (F := F)) :=
  ordered.unary_eq V (i := 201) rfl (by decide) (v138_eq V)
theorem v153_eq : after ops V (Proc.devRef .tc main_v153) = (FwdRefHost.v31 (F := F)) :=
  ordered.unary_eq V (i := 202) rfl (by decide) (v152_eq V)
include hmain_arg1 in
theorem v154_eq : after ops V (Proc.devRef .tc main_v154) = (FwdRefHost.v42 k) :=
  ordered.binary_eq V (i := 203) rfl (by decide) (by decide) (v141_eq V hmain_arg1) (v153_eq V)
include hmain_arg1 in
theorem v155_eq : after ops V (Proc.devRef .tc main_v155) = (FwdRefHost.v43 k) :=
  ordered.binary_eq V (i := 204) rfl (by decide) (by decide) (v151_eq V hmain_arg1) (v154_eq V hmain_arg1)
include hmain_arg1 in
theorem v156_eq : after ops V (Proc.devRef .tc main_v156) = (FwdRefHost.v44 k) :=
  ordered.binary_eq V (i := 205) rfl (by decide) (by decide) (v148_eq V hmain_arg1) (v155_eq V hmain_arg1)
include hmain_arg0 in
theorem v157_eq : after ops V (Proc.devRef .tc main_v157) = (FwdRefHost.v77 q) :=
  ordered.reshape_eq V (i := 206) rfl (by decide) (v126_eq V hmain_arg0)
include hmain_arg1 in
theorem v158_eq : after ops V (Proc.devRef .tc main_v158) = (FwdRefHost.v78 k) :=
  ordered.reshape_eq V (i := 207) rfl (by decide) (v156_eq V hmain_arg1)
include hmain_arg2 in
theorem v159_eq : after ops V (Proc.devRef .tc main_v159) = (FwdRefHost.v79 v) :=
  ordered.reshape_eq V (i := 208) rfl (by decide) (v91_eq V hmain_arg2)
theorem v160_eq : after ops V (Proc.devRef .tc main_v160) = (FwdRefHost.v80 (F := F)) :=
  ordered.nullary V (i := 209) rfl
theorem cst_22_eq : after ops V (Proc.devRef .tc main_cst_22) = (FwdRefHost.cst_8 (F := F)) :=
  ordered.nullary V (i := 210) rfl
theorem v161_eq : after ops V (Proc.devRef .tc main_v161) = (FwdRefHost.v81 (F := F)) :=
  ordered.unary_eq V (i := 211) rfl (by decide) (cst_22_eq V)
theorem v162_eq : after ops V (Proc.devRef .tc main_v162) = (FwdRefHost.v82 (F := F)) :=
  ordered.binary_eq V (i := 212) rfl (by decide) (by decide) (v161_eq V) (v160_eq V)
theorem cst_23_eq : after ops V (Proc.devRef .tc main_cst_23) = (FwdRefHost.cst_9 (F := F)) :=
  ordered.nullary V (i := 213) rfl
theorem v163_eq : after ops V (Proc.devRef .tc main_v163) = (FwdRefHost.v83 (F := F)) :=
  ordered.unary_eq V (i := 214) rfl (by decide) (cst_23_eq V)
theorem v164_eq : after ops V (Proc.devRef .tc main_v164) = (FwdRefHost.v84 (F := F)) :=
  ordered.binary_eq V (i := 215) rfl (by decide) (by decide) (v163_eq V) (v162_eq V)
theorem v165_eq : after ops V (Proc.devRef .tc main_v165) = (FwdRefHost.v85 (F := F)) :=
  ordered.unary_eq V (i := 216) rfl (by decide) (v164_eq V)
theorem v166_eq : after ops V (Proc.devRef .tc main_v166) = (FwdRefHost.v86 (F := F)) :=
  ordered.unary_eq V (i := 217) rfl (by decide) (v165_eq V)
theorem v167_eq : after ops V (Proc.devRef .tc main_v167) = (FwdRefHost.v87 (F := F)) :=
  ordered.nullary V (i := 218) rfl
theorem cst_24_eq : after ops V (Proc.devRef .tc main_cst_24) = (FwdRefHost.cst_10 (F := F)) :=
  ordered.nullary V (i := 219) rfl
theorem v168_eq : after ops V (Proc.devRef .tc main_v168) = (FwdRefHost.v88 (F := F)) :=
  ordered.unary_eq V (i := 220) rfl (by decide) (cst_24_eq V)
theorem v169_eq : after ops V (Proc.devRef .tc main_v169) = (FwdRefHost.v89 (F := F)) :=
  ordered.binary_eq V (i := 221) rfl (by decide) (by decide) (v168_eq V) (v167_eq V)
theorem v170_eq : after ops V (Proc.devRef .tc main_v170) = (FwdRefHost.v90 (F := F)) :=
  ordered.unary_eq V (i := 222) rfl (by decide) (v169_eq V)
theorem v171_eq : after ops V (Proc.devRef .tc main_v171) = (FwdRefHost.v91 (F := F)) :=
  ordered.unary_eq V (i := 223) rfl (by decide) (v166_eq V)
theorem v172_eq : after ops V (Proc.devRef .tc main_v172) = (FwdRefHost.v92 (F := F)) :=
  ordered.unary_eq V (i := 224) rfl (by decide) (v170_eq V)
theorem v173_eq : after ops V (Proc.devRef .tc main_v173) = (FwdRefHost.v93 (F := F)) :=
  ordered.unary_eq V (i := 225) rfl (by decide) (v171_eq V)
theorem v174_eq : after ops V (Proc.devRef .tc main_v174) = (FwdRefHost.v94 (F := F)) :=
  ordered.binary_eq V (i := 226) rfl (by decide) (by decide) (v172_eq V) (v173_eq V)
theorem v175_eq : after ops V (Proc.devRef .tc main_v175) = (FwdRefHost.v95 (F := F)) :=
  ordered.unary_eq V (i := 227) rfl (by decide) (v174_eq V)
theorem cst_25_eq : after ops V (Proc.devRef .tc main_cst_25) = (FwdRefHost.cst_11 (F := F)) :=
  ordered.nullary V (i := 228) rfl
theorem v176_eq : after ops V (Proc.devRef .tc main_v176) = (FwdRefHost.v96 (F := F)) :=
  ordered.unary_eq V (i := 229) rfl (by decide) (cst_25_eq V)
theorem v177_eq : after ops V (Proc.devRef .tc main_v177) = (FwdRefHost.v97 (F := F)) :=
  ordered.binary_eq V (i := 230) rfl (by decide) (by decide) (v176_eq V) (v166_eq V)
theorem v178_eq : after ops V (Proc.devRef .tc main_v178) = (FwdRefHost.v98 (F := F)) :=
  ordered.unary_eq V (i := 231) rfl (by decide) (v177_eq V)
theorem v179_eq : after ops V (Proc.devRef .tc main_v179) = (FwdRefHost.v99 (F := F)) :=
  ordered.unary_eq V (i := 232) rfl (by decide) (v175_eq V)
theorem v180_eq : after ops V (Proc.devRef .tc main_v180) = (FwdRefHost.v100 (F := F)) :=
  ordered.unary_eq V (i := 233) rfl (by decide) (v179_eq V)
include hmain_arg1 in
theorem v181_eq : after ops V (Proc.devRef .tc main_v181) = (FwdRefHost.v101 k) :=
  ordered.binary_eq V (i := 234) rfl (by decide) (by decide) (v158_eq V hmain_arg1) (v180_eq V)
include hmain_arg1 hmain_arg2 in
theorem v182_eq : after ops V (Proc.devRef .tc main_v182) = (FwdRefHost.v102 k v) :=
  ordered.binary_eq V (i := 235) rfl (by decide) (by decide) (v181_eq V hmain_arg1) (v159_eq V hmain_arg2)
theorem v183_eq : after ops V (Proc.devRef .tc main_v183) = (FwdRefHost.v103 (F := F)) :=
  ordered.unary_eq V (i := 236) rfl (by decide) (v178_eq V)
theorem v184_eq : after ops V (Proc.devRef .tc main_v184) = (v184 (F := F)) :=
  ordered.unary_eq V (i := 237) rfl (by decide) (v183_eq V)
theorem v185_eq : after ops V (Proc.devRef .tc main_v185) = (v185 (F := F)) :=
  ordered.unary_eq V (i := 238) rfl (by decide) (v184_eq V)
theorem cst_26_eq : after ops V (Proc.devRef .tc main_cst_26) = (FwdRefHost.cst (F := F)) :=
  ordered.nullary V (i := 239) rfl
theorem v186_eq : after ops V (Proc.devRef .tc main_v186) = (v186 (F := F)) :=
  ordered.unary_eq V (i := 240) rfl (by decide) (cst_26_eq V)
theorem v187_eq : after ops V (Proc.devRef .tc main_v187) = (v187 (F := F)) :=
  ordered.binary_eq V (i := 241) rfl (by decide) (by decide) (v186_eq V) (v185_eq V)
include hmain_arg1 hmain_arg2 in
theorem v188_eq : after ops V (Proc.devRef .tc main_v188) = (v188 k v) :=
  ordered.unary_eq V (i := 242) rfl (by decide) (v182_eq V hmain_arg1 hmain_arg2)
include hmain_arg1 hmain_arg2 in
theorem v189_eq : after ops V (Proc.devRef .tc main_v189) = (v189 k v) :=
  ordered.binary_eq V (i := 243) rfl (by decide) (by decide) (v187_eq V) (v188_eq V hmain_arg1 hmain_arg2)
include hmain_arg1 hmain_arg2 in
theorem v190_eq : after ops V (Proc.devRef .tc main_v190) = (v190 k v) :=
  ordered.binary_eq V (i := 244) rfl (by decide) (by decide) (v189_eq V hmain_arg1 hmain_arg2) (v185_eq V)
include hmain_arg1 hmain_arg2 in
theorem v191_eq : after ops V (Proc.devRef .tc main_v191) = (v191 k v) :=
  ordered.unary_eq V (i := 245) rfl (by decide) (v182_eq V hmain_arg1 hmain_arg2)
include hmain_arg1 hmain_arg2 in
theorem v192_eq : after ops V (Proc.devRef .tc main_v192) = (v192 k v) :=
  ordered.binary_eq V (i := 246) rfl (by decide) (by decide) (v190_eq V hmain_arg1 hmain_arg2) (v191_eq V hmain_arg1 hmain_arg2)
include hmain_arg1 hmain_arg2 in
theorem v193_eq : after ops V (Proc.devRef .tc main_v193) = (v193 k v) :=
  ordered.binary_eq V (i := 247) rfl (by decide) (by decide) (v192_eq V hmain_arg1 hmain_arg2) (v185_eq V)
include hmain_arg1 hmain_arg2 in
theorem v194_eq : after ops V (Proc.devRef .tc main_v194) = (v194 k v) :=
  ordered.unary_eq V (i := 248) rfl (by decide) (v182_eq V hmain_arg1 hmain_arg2)
include hmain_arg1 hmain_arg2 in
theorem v195_eq : after ops V (Proc.devRef .tc main_v195) = (v195 k v) :=
  ordered.binary_eq V (i := 249) rfl (by decide) (by decide) (v193_eq V hmain_arg1 hmain_arg2) (v194_eq V hmain_arg1 hmain_arg2)
include hmain_arg1 hmain_arg2 in
theorem v196_eq : after ops V (Proc.devRef .tc main_v196) = (v196 k v) :=
  ordered.binary_eq V (i := 250) rfl (by decide) (by decide) (v195_eq V hmain_arg1 hmain_arg2) (v185_eq V)
include hmain_arg1 hmain_arg2 in
theorem v197_eq : after ops V (Proc.devRef .tc main_v197) = (v197 k v) :=
  ordered.unary_eq V (i := 251) rfl (by decide) (v182_eq V hmain_arg1 hmain_arg2)
include hmain_arg1 hmain_arg2 in
theorem v198_eq : after ops V (Proc.devRef .tc main_v198) = (v198 k v) :=
  ordered.binary_eq V (i := 252) rfl (by decide) (by decide) (v196_eq V hmain_arg1 hmain_arg2) (v197_eq V hmain_arg1 hmain_arg2)
include hmain_arg1 hmain_arg2 in
theorem v199_eq : after ops V (Proc.devRef .tc main_v199) = (v199 k v) :=
  ordered.binary_eq V (i := 253) rfl (by decide) (by decide) (v198_eq V hmain_arg1 hmain_arg2) (v185_eq V)
include hmain_arg1 hmain_arg2 in
theorem v200_eq : after ops V (Proc.devRef .tc main_v200) = (v200 k v) :=
  ordered.unary_eq V (i := 254) rfl (by decide) (v182_eq V hmain_arg1 hmain_arg2)
include hmain_arg1 hmain_arg2 in
theorem v201_eq : after ops V (Proc.devRef .tc main_v201) = (v201 k v) :=
  ordered.binary_eq V (i := 255) rfl (by decide) (by decide) (v199_eq V hmain_arg1 hmain_arg2) (v200_eq V hmain_arg1 hmain_arg2)
include hmain_arg1 hmain_arg2 in
theorem v202_eq : after ops V (Proc.devRef .tc main_v202) = (v202 k v) :=
  ordered.binary_eq V (i := 256) rfl (by decide) (by decide) (v201_eq V hmain_arg1 hmain_arg2) (v185_eq V)
include hmain_arg1 hmain_arg2 in
theorem v203_eq : after ops V (Proc.devRef .tc main_v203) = (v203 k v) :=
  ordered.unary_eq V (i := 257) rfl (by decide) (v182_eq V hmain_arg1 hmain_arg2)
include hmain_arg1 hmain_arg2 in
theorem v204_eq : after ops V (Proc.devRef .tc main_v204) = (v204 k v) :=
  ordered.binary_eq V (i := 258) rfl (by decide) (by decide) (v202_eq V hmain_arg1 hmain_arg2) (v203_eq V hmain_arg1 hmain_arg2)
include hmain_arg1 hmain_arg2 in
theorem v205_eq : after ops V (Proc.devRef .tc main_v205) = (v205 k v) :=
  ordered.binary_eq V (i := 259) rfl (by decide) (by decide) (v204_eq V hmain_arg1 hmain_arg2) (v185_eq V)
include hmain_arg1 hmain_arg2 in
theorem v206_eq : after ops V (Proc.devRef .tc main_v206) = (v206 k v) :=
  ordered.unary_eq V (i := 260) rfl (by decide) (v182_eq V hmain_arg1 hmain_arg2)
include hmain_arg1 hmain_arg2 in
theorem v207_eq : after ops V (Proc.devRef .tc main_v207) = (v207 k v) :=
  ordered.binary_eq V (i := 261) rfl (by decide) (by decide) (v205_eq V hmain_arg1 hmain_arg2) (v206_eq V hmain_arg1 hmain_arg2)
include hmain_arg1 hmain_arg2 in
theorem v208_eq : after ops V (Proc.devRef .tc main_v208) = (v208 k v) :=
  ordered.binary_eq V (i := 262) rfl (by decide) (by decide) (v207_eq V hmain_arg1 hmain_arg2) (v185_eq V)
include hmain_arg1 hmain_arg2 in
theorem v209_eq : after ops V (Proc.devRef .tc main_v209) = (v209 k v) :=
  ordered.unary_eq V (i := 263) rfl (by decide) (v182_eq V hmain_arg1 hmain_arg2)
include hmain_arg1 hmain_arg2 in
theorem v210_eq : after ops V (Proc.devRef .tc main_v210) = (v210 k v) :=
  ordered.binary_eq V (i := 264) rfl (by decide) (by decide) (v208_eq V hmain_arg1 hmain_arg2) (v209_eq V hmain_arg1 hmain_arg2)
include hmain_arg1 hmain_arg2 in
theorem v211_eq : after ops V (Proc.devRef .tc main_v211) = (v211 k v) :=
  ordered.binary_eq V (i := 265) rfl (by decide) (by decide) (v210_eq V hmain_arg1 hmain_arg2) (v185_eq V)
include hmain_arg1 hmain_arg2 in
theorem v212_eq : after ops V (Proc.devRef .tc main_v212) = (v212 k v) :=
  ordered.unary_eq V (i := 266) rfl (by decide) (v182_eq V hmain_arg1 hmain_arg2)
include hmain_arg1 hmain_arg2 in
theorem v213_eq : after ops V (Proc.devRef .tc main_v213) = (v213 k v) :=
  ordered.binary_eq V (i := 267) rfl (by decide) (by decide) (v211_eq V hmain_arg1 hmain_arg2) (v212_eq V hmain_arg1 hmain_arg2)
include hmain_arg1 hmain_arg2 in
theorem v214_eq : after ops V (Proc.devRef .tc main_v214) = (v214 k v) :=
  ordered.binary_eq V (i := 268) rfl (by decide) (by decide) (v213_eq V hmain_arg1 hmain_arg2) (v185_eq V)
include hmain_arg1 hmain_arg2 in
theorem v215_eq : after ops V (Proc.devRef .tc main_v215) = (v215 k v) :=
  ordered.unary_eq V (i := 269) rfl (by decide) (v182_eq V hmain_arg1 hmain_arg2)
include hmain_arg1 hmain_arg2 in
theorem v216_eq : after ops V (Proc.devRef .tc main_v216) = (v216 k v) :=
  ordered.binary_eq V (i := 270) rfl (by decide) (by decide) (v214_eq V hmain_arg1 hmain_arg2) (v215_eq V hmain_arg1 hmain_arg2)
include hmain_arg1 hmain_arg2 in
theorem v217_eq : after ops V (Proc.devRef .tc main_v217) = (v217 k v) :=
  ordered.binary_eq V (i := 271) rfl (by decide) (by decide) (v216_eq V hmain_arg1 hmain_arg2) (v185_eq V)
include hmain_arg1 hmain_arg2 in
theorem v218_eq : after ops V (Proc.devRef .tc main_v218) = (v218 k v) :=
  ordered.unary_eq V (i := 272) rfl (by decide) (v182_eq V hmain_arg1 hmain_arg2)
include hmain_arg1 hmain_arg2 in
theorem v219_eq : after ops V (Proc.devRef .tc main_v219) = (v219 k v) :=
  ordered.binary_eq V (i := 273) rfl (by decide) (by decide) (v217_eq V hmain_arg1 hmain_arg2) (v218_eq V hmain_arg1 hmain_arg2)
include hmain_arg1 hmain_arg2 in
theorem v220_eq : after ops V (Proc.devRef .tc main_v220) = (v220 k v) :=
  ordered.binary_eq V (i := 274) rfl (by decide) (by decide) (v219_eq V hmain_arg1 hmain_arg2) (v185_eq V)
include hmain_arg1 hmain_arg2 in
theorem v221_eq : after ops V (Proc.devRef .tc main_v221) = (v221 k v) :=
  ordered.unary_eq V (i := 275) rfl (by decide) (v182_eq V hmain_arg1 hmain_arg2)
include hmain_arg1 hmain_arg2 in
theorem v222_eq : after ops V (Proc.devRef .tc main_v222) = (v222 k v) :=
  ordered.binary_eq V (i := 276) rfl (by decide) (by decide) (v220_eq V hmain_arg1 hmain_arg2) (v221_eq V hmain_arg1 hmain_arg2)
include hmain_arg1 hmain_arg2 in
theorem v223_eq : after ops V (Proc.devRef .tc main_v223) = (v223 k v) :=
  ordered.binary_eq V (i := 277) rfl (by decide) (by decide) (v222_eq V hmain_arg1 hmain_arg2) (v185_eq V)
include hmain_arg1 hmain_arg2 in
theorem v224_eq : after ops V (Proc.devRef .tc main_v224) = (v224 k v) :=
  ordered.unary_eq V (i := 278) rfl (by decide) (v182_eq V hmain_arg1 hmain_arg2)
include hmain_arg1 hmain_arg2 in
theorem v225_eq : after ops V (Proc.devRef .tc main_v225) = (v225 k v) :=
  ordered.binary_eq V (i := 279) rfl (by decide) (by decide) (v223_eq V hmain_arg1 hmain_arg2) (v224_eq V hmain_arg1 hmain_arg2)
include hmain_arg1 hmain_arg2 in
theorem v226_eq : after ops V (Proc.devRef .tc main_v226) = (v226 k v) :=
  ordered.binary_eq V (i := 280) rfl (by decide) (by decide) (v225_eq V hmain_arg1 hmain_arg2) (v185_eq V)
include hmain_arg1 hmain_arg2 in
theorem v227_eq : after ops V (Proc.devRef .tc main_v227) = (v227 k v) :=
  ordered.unary_eq V (i := 281) rfl (by decide) (v182_eq V hmain_arg1 hmain_arg2)
include hmain_arg1 hmain_arg2 in
theorem v228_eq : after ops V (Proc.devRef .tc main_v228) = (v228 k v) :=
  ordered.binary_eq V (i := 282) rfl (by decide) (by decide) (v226_eq V hmain_arg1 hmain_arg2) (v227_eq V hmain_arg1 hmain_arg2)
include hmain_arg1 hmain_arg2 in
theorem v229_eq : after ops V (Proc.devRef .tc main_v229) = (v229 k v) :=
  ordered.binary_eq V (i := 283) rfl (by decide) (by decide) (v228_eq V hmain_arg1 hmain_arg2) (v185_eq V)
include hmain_arg1 hmain_arg2 in
theorem v230_eq : after ops V (Proc.devRef .tc main_v230) = (v230 k v) :=
  ordered.unary_eq V (i := 284) rfl (by decide) (v182_eq V hmain_arg1 hmain_arg2)
include hmain_arg1 hmain_arg2 in
theorem v231_eq : after ops V (Proc.devRef .tc main_v231) = (v231 k v) :=
  ordered.binary_eq V (i := 285) rfl (by decide) (by decide) (v229_eq V hmain_arg1 hmain_arg2) (v230_eq V hmain_arg1 hmain_arg2)
include hmain_arg1 hmain_arg2 in
theorem v232_eq : after ops V (Proc.devRef .tc main_v232) = (v232 k v) :=
  ordered.binary_eq V (i := 286) rfl (by decide) (by decide) (v231_eq V hmain_arg1 hmain_arg2) (v185_eq V)
include hmain_arg1 hmain_arg2 in
theorem v233_eq : after ops V (Proc.devRef .tc main_v233) = (v233 k v) :=
  ordered.unary_eq V (i := 287) rfl (by decide) (v182_eq V hmain_arg1 hmain_arg2)
include hmain_arg1 hmain_arg2 in
theorem v234_eq : after ops V (Proc.devRef .tc main_v234) = (v234 k v) :=
  ordered.binary_eq V (i := 288) rfl (by decide) (by decide) (v232_eq V hmain_arg1 hmain_arg2) (v233_eq V hmain_arg1 hmain_arg2)
include hmain_arg1 hmain_arg2 in
theorem v235_eq : after ops V (Proc.devRef .tc main_v235) = (v235 k v) :=
  ordered.binary_eq V (i := 289) rfl (by decide) (by decide) (v234_eq V hmain_arg1 hmain_arg2) (v185_eq V)
include hmain_arg1 hmain_arg2 in
theorem v236_eq : after ops V (Proc.devRef .tc main_v236) = (v236 k v) :=
  ordered.unary_eq V (i := 290) rfl (by decide) (v182_eq V hmain_arg1 hmain_arg2)
include hmain_arg1 hmain_arg2 in
theorem v237_eq : after ops V (Proc.devRef .tc main_v237) = (v237 k v) :=
  ordered.binary_eq V (i := 291) rfl (by decide) (by decide) (v235_eq V hmain_arg1 hmain_arg2) (v236_eq V hmain_arg1 hmain_arg2)
include hmain_arg1 hmain_arg2 in
theorem v238_eq : after ops V (Proc.devRef .tc main_v238) = (v238 k v) :=
  ordered.binary_eq V (i := 292) rfl (by decide) (by decide) (v237_eq V hmain_arg1 hmain_arg2) (v185_eq V)
include hmain_arg1 hmain_arg2 in
theorem v239_eq : after ops V (Proc.devRef .tc main_v239) = (v239 k v) :=
  ordered.unary_eq V (i := 293) rfl (by decide) (v182_eq V hmain_arg1 hmain_arg2)
include hmain_arg1 hmain_arg2 in
theorem v240_eq : after ops V (Proc.devRef .tc main_v240) = (v240 k v) :=
  ordered.binary_eq V (i := 294) rfl (by decide) (by decide) (v238_eq V hmain_arg1 hmain_arg2) (v239_eq V hmain_arg1 hmain_arg2)
include hmain_arg1 hmain_arg2 in
theorem v241_eq : after ops V (Proc.devRef .tc main_v241) = (v241 k v) :=
  ordered.binary_eq V (i := 295) rfl (by decide) (by decide) (v240_eq V hmain_arg1 hmain_arg2) (v185_eq V)
include hmain_arg1 hmain_arg2 in
theorem v242_eq : after ops V (Proc.devRef .tc main_v242) = (v242 k v) :=
  ordered.unary_eq V (i := 296) rfl (by decide) (v182_eq V hmain_arg1 hmain_arg2)
include hmain_arg1 hmain_arg2 in
theorem v243_eq : after ops V (Proc.devRef .tc main_v243) = (v243 k v) :=
  ordered.binary_eq V (i := 297) rfl (by decide) (by decide) (v241_eq V hmain_arg1 hmain_arg2) (v242_eq V hmain_arg1 hmain_arg2)
include hmain_arg1 hmain_arg2 in
theorem v244_eq : after ops V (Proc.devRef .tc main_v244) = (v244 k v) :=
  ordered.binary_eq V (i := 298) rfl (by decide) (by decide) (v243_eq V hmain_arg1 hmain_arg2) (v185_eq V)
include hmain_arg1 hmain_arg2 in
theorem v245_eq : after ops V (Proc.devRef .tc main_v245) = (v245 k v) :=
  ordered.unary_eq V (i := 299) rfl (by decide) (v182_eq V hmain_arg1 hmain_arg2)
include hmain_arg1 hmain_arg2 in
theorem v246_eq : after ops V (Proc.devRef .tc main_v246) = (v246 k v) :=
  ordered.binary_eq V (i := 300) rfl (by decide) (by decide) (v244_eq V hmain_arg1 hmain_arg2) (v245_eq V hmain_arg1 hmain_arg2)
include hmain_arg1 hmain_arg2 in
theorem v247_eq : after ops V (Proc.devRef .tc main_v247) = (v247 k v) :=
  ordered.binary_eq V (i := 301) rfl (by decide) (by decide) (v246_eq V hmain_arg1 hmain_arg2) (v185_eq V)
include hmain_arg1 hmain_arg2 in
theorem v248_eq : after ops V (Proc.devRef .tc main_v248) = (v248 k v) :=
  ordered.unary_eq V (i := 302) rfl (by decide) (v182_eq V hmain_arg1 hmain_arg2)
include hmain_arg1 hmain_arg2 in
theorem v249_eq : after ops V (Proc.devRef .tc main_v249) = (v249 k v) :=
  ordered.binary_eq V (i := 303) rfl (by decide) (by decide) (v247_eq V hmain_arg1 hmain_arg2) (v248_eq V hmain_arg1 hmain_arg2)
include hmain_arg1 hmain_arg2 in
theorem v250_eq : after ops V (Proc.devRef .tc main_v250) = (v250 k v) :=
  ordered.binary_eq V (i := 304) rfl (by decide) (by decide) (v249_eq V hmain_arg1 hmain_arg2) (v185_eq V)
include hmain_arg1 hmain_arg2 in
theorem v251_eq : after ops V (Proc.devRef .tc main_v251) = (v251 k v) :=
  ordered.unary_eq V (i := 305) rfl (by decide) (v182_eq V hmain_arg1 hmain_arg2)
include hmain_arg1 hmain_arg2 in
theorem v252_eq : after ops V (Proc.devRef .tc main_v252) = (v252 k v) :=
  ordered.binary_eq V (i := 306) rfl (by decide) (by decide) (v250_eq V hmain_arg1 hmain_arg2) (v251_eq V hmain_arg1 hmain_arg2)
include hmain_arg1 hmain_arg2 in
theorem v253_eq : after ops V (Proc.devRef .tc main_v253) = (v253 k v) :=
  ordered.binary_eq V (i := 307) rfl (by decide) (by decide) (v252_eq V hmain_arg1 hmain_arg2) (v185_eq V)
include hmain_arg1 hmain_arg2 in
theorem v254_eq : after ops V (Proc.devRef .tc main_v254) = (v254 k v) :=
  ordered.unary_eq V (i := 308) rfl (by decide) (v182_eq V hmain_arg1 hmain_arg2)
include hmain_arg1 hmain_arg2 in
theorem v255_eq : after ops V (Proc.devRef .tc main_v255) = (v255 k v) :=
  ordered.binary_eq V (i := 309) rfl (by decide) (by decide) (v253_eq V hmain_arg1 hmain_arg2) (v254_eq V hmain_arg1 hmain_arg2)
include hmain_arg1 hmain_arg2 in
theorem v256_eq : after ops V (Proc.devRef .tc main_v256) = (v256 k v) :=
  ordered.binary_eq V (i := 310) rfl (by decide) (by decide) (v255_eq V hmain_arg1 hmain_arg2) (v185_eq V)
include hmain_arg1 hmain_arg2 in
theorem v257_eq : after ops V (Proc.devRef .tc main_v257) = (v257 k v) :=
  ordered.unary_eq V (i := 311) rfl (by decide) (v182_eq V hmain_arg1 hmain_arg2)
include hmain_arg1 hmain_arg2 in
theorem v258_eq : after ops V (Proc.devRef .tc main_v258) = (v258 k v) :=
  ordered.binary_eq V (i := 312) rfl (by decide) (by decide) (v256_eq V hmain_arg1 hmain_arg2) (v257_eq V hmain_arg1 hmain_arg2)
include hmain_arg1 hmain_arg2 in
theorem v259_eq : after ops V (Proc.devRef .tc main_v259) = (v259 k v) :=
  ordered.binary_eq V (i := 313) rfl (by decide) (by decide) (v258_eq V hmain_arg1 hmain_arg2) (v185_eq V)
include hmain_arg1 hmain_arg2 in
theorem v260_eq : after ops V (Proc.devRef .tc main_v260) = (v260 k v) :=
  ordered.unary_eq V (i := 314) rfl (by decide) (v182_eq V hmain_arg1 hmain_arg2)
include hmain_arg1 hmain_arg2 in
theorem v261_eq : after ops V (Proc.devRef .tc main_v261) = (v261 k v) :=
  ordered.binary_eq V (i := 315) rfl (by decide) (by decide) (v259_eq V hmain_arg1 hmain_arg2) (v260_eq V hmain_arg1 hmain_arg2)
include hmain_arg1 hmain_arg2 in
theorem v262_eq : after ops V (Proc.devRef .tc main_v262) = (v262 k v) :=
  ordered.binary_eq V (i := 316) rfl (by decide) (by decide) (v261_eq V hmain_arg1 hmain_arg2) (v185_eq V)
include hmain_arg1 hmain_arg2 in
theorem v263_eq : after ops V (Proc.devRef .tc main_v263) = (v263 k v) :=
  ordered.unary_eq V (i := 317) rfl (by decide) (v182_eq V hmain_arg1 hmain_arg2)
include hmain_arg1 hmain_arg2 in
theorem v264_eq : after ops V (Proc.devRef .tc main_v264) = (v264 k v) :=
  ordered.binary_eq V (i := 318) rfl (by decide) (by decide) (v262_eq V hmain_arg1 hmain_arg2) (v263_eq V hmain_arg1 hmain_arg2)
include hmain_arg1 hmain_arg2 in
theorem v265_eq : after ops V (Proc.devRef .tc main_v265) = (v265 k v) :=
  ordered.binary_eq V (i := 319) rfl (by decide) (by decide) (v264_eq V hmain_arg1 hmain_arg2) (v185_eq V)
include hmain_arg1 hmain_arg2 in
theorem v266_eq : after ops V (Proc.devRef .tc main_v266) = (v266 k v) :=
  ordered.unary_eq V (i := 320) rfl (by decide) (v182_eq V hmain_arg1 hmain_arg2)
include hmain_arg1 hmain_arg2 in
theorem v267_eq : after ops V (Proc.devRef .tc main_v267) = (v267 k v) :=
  ordered.binary_eq V (i := 321) rfl (by decide) (by decide) (v265_eq V hmain_arg1 hmain_arg2) (v266_eq V hmain_arg1 hmain_arg2)
include hmain_arg1 hmain_arg2 in
theorem v268_eq : after ops V (Proc.devRef .tc main_v268) = (v268 k v) :=
  ordered.binary_eq V (i := 322) rfl (by decide) (by decide) (v267_eq V hmain_arg1 hmain_arg2) (v185_eq V)
include hmain_arg1 hmain_arg2 in
theorem v269_eq : after ops V (Proc.devRef .tc main_v269) = (v269 k v) :=
  ordered.unary_eq V (i := 323) rfl (by decide) (v182_eq V hmain_arg1 hmain_arg2)
include hmain_arg1 hmain_arg2 in
theorem v270_eq : after ops V (Proc.devRef .tc main_v270) = (v270 k v) :=
  ordered.binary_eq V (i := 324) rfl (by decide) (by decide) (v268_eq V hmain_arg1 hmain_arg2) (v269_eq V hmain_arg1 hmain_arg2)
include hmain_arg1 hmain_arg2 in
theorem v271_eq : after ops V (Proc.devRef .tc main_v271) = (v271 k v) :=
  ordered.binary_eq V (i := 325) rfl (by decide) (by decide) (v270_eq V hmain_arg1 hmain_arg2) (v185_eq V)
include hmain_arg1 hmain_arg2 in
theorem v272_eq : after ops V (Proc.devRef .tc main_v272) = (v272 k v) :=
  ordered.unary_eq V (i := 326) rfl (by decide) (v182_eq V hmain_arg1 hmain_arg2)
include hmain_arg1 hmain_arg2 in
theorem v273_eq : after ops V (Proc.devRef .tc main_v273) = (v273 k v) :=
  ordered.binary_eq V (i := 327) rfl (by decide) (by decide) (v271_eq V hmain_arg1 hmain_arg2) (v272_eq V hmain_arg1 hmain_arg2)
include hmain_arg1 hmain_arg2 in
theorem v274_eq : after ops V (Proc.devRef .tc main_v274) = (v274 k v) :=
  ordered.binary_eq V (i := 328) rfl (by decide) (by decide) (v273_eq V hmain_arg1 hmain_arg2) (v185_eq V)
include hmain_arg1 hmain_arg2 in
theorem v275_eq : after ops V (Proc.devRef .tc main_v275) = (v275 k v) :=
  ordered.unary_eq V (i := 329) rfl (by decide) (v182_eq V hmain_arg1 hmain_arg2)
include hmain_arg1 hmain_arg2 in
theorem v276_eq : after ops V (Proc.devRef .tc main_v276) = (v276 k v) :=
  ordered.binary_eq V (i := 330) rfl (by decide) (by decide) (v274_eq V hmain_arg1 hmain_arg2) (v275_eq V hmain_arg1 hmain_arg2)
include hmain_arg1 hmain_arg2 in
theorem v277_eq : after ops V (Proc.devRef .tc main_v277) = (v277 k v) :=
  ordered.binary_eq V (i := 331) rfl (by decide) (by decide) (v276_eq V hmain_arg1 hmain_arg2) (v185_eq V)
include hmain_arg1 hmain_arg2 in
theorem v278_eq : after ops V (Proc.devRef .tc main_v278) = (v278 k v) :=
  ordered.unary_eq V (i := 332) rfl (by decide) (v182_eq V hmain_arg1 hmain_arg2)
include hmain_arg1 hmain_arg2 in
theorem v279_eq : after ops V (Proc.devRef .tc main_v279) = (v279 k v) :=
  ordered.binary_eq V (i := 333) rfl (by decide) (by decide) (v277_eq V hmain_arg1 hmain_arg2) (v278_eq V hmain_arg1 hmain_arg2)
include hmain_arg1 hmain_arg2 in
theorem v280_eq : after ops V (Proc.devRef .tc main_v280) = (v280 k v) :=
  ordered.binary_eq V (i := 334) rfl (by decide) (by decide) (v279_eq V hmain_arg1 hmain_arg2) (v185_eq V)
include hmain_arg1 hmain_arg2 in
theorem v281_eq : after ops V (Proc.devRef .tc main_v281) = (v281 k v) :=
  ordered.unary_eq V (i := 335) rfl (by decide) (v182_eq V hmain_arg1 hmain_arg2)
include hmain_arg1 hmain_arg2 in
theorem v282_eq : after ops V (Proc.devRef .tc main_v282) = (v282 k v) :=
  ordered.binary_eq V (i := 336) rfl (by decide) (by decide) (v280_eq V hmain_arg1 hmain_arg2) (v281_eq V hmain_arg1 hmain_arg2)
include hmain_arg1 hmain_arg2 in
theorem v283_eq : after ops V (Proc.devRef .tc main_v283) = (v283 k v) :=
  ordered.nary_eq V (i := 337) rfl (by decide) (fun i => match i with | 0 => (v186 (F := F)) | 1 => (v189 k v) | 2 => (v192 k v) | 3 => (v195 k v) | 4 => (v198 k v) | 5 => (v201 k v) | 6 => (v204 k v) | 7 => (v207 k v) | 8 => (v210 k v) | 9 => (v213 k v) | 10 => (v216 k v))
    (fun i => match i with | 0 => (v186_eq V) | 1 => (v189_eq V hmain_arg1 hmain_arg2) | 2 => (v192_eq V hmain_arg1 hmain_arg2) | 3 => (v195_eq V hmain_arg1 hmain_arg2) | 4 => (v198_eq V hmain_arg1 hmain_arg2) | 5 => (v201_eq V hmain_arg1 hmain_arg2) | 6 => (v204_eq V hmain_arg1 hmain_arg2) | 7 => (v207_eq V hmain_arg1 hmain_arg2) | 8 => (v210_eq V hmain_arg1 hmain_arg2) | 9 => (v213_eq V hmain_arg1 hmain_arg2) | 10 => (v216_eq V hmain_arg1 hmain_arg2))
include hmain_arg1 hmain_arg2 in
theorem v284_eq : after ops V (Proc.devRef .tc main_v284) = (v284 k v) :=
  ordered.nary_eq V (i := 338) rfl (by decide) (fun i => match i with | 0 => (v219 k v) | 1 => (v222 k v) | 2 => (v225 k v) | 3 => (v228 k v) | 4 => (v231 k v) | 5 => (v234 k v) | 6 => (v237 k v) | 7 => (v240 k v) | 8 => (v243 k v) | 9 => (v246 k v) | 10 => (v249 k v))
    (fun i => match i with | 0 => (v219_eq V hmain_arg1 hmain_arg2) | 1 => (v222_eq V hmain_arg1 hmain_arg2) | 2 => (v225_eq V hmain_arg1 hmain_arg2) | 3 => (v228_eq V hmain_arg1 hmain_arg2) | 4 => (v231_eq V hmain_arg1 hmain_arg2) | 5 => (v234_eq V hmain_arg1 hmain_arg2) | 6 => (v237_eq V hmain_arg1 hmain_arg2) | 7 => (v240_eq V hmain_arg1 hmain_arg2) | 8 => (v243_eq V hmain_arg1 hmain_arg2) | 9 => (v246_eq V hmain_arg1 hmain_arg2) | 10 => (v249_eq V hmain_arg1 hmain_arg2))
include hmain_arg1 hmain_arg2 in
theorem v285_eq : after ops V (Proc.devRef .tc main_v285) = (v285 k v) :=
  ordered.nary_eq V (i := 339) rfl (by decide) (fun i => match i with | 0 => (v252 k v) | 1 => (v255 k v) | 2 => (v258 k v) | 3 => (v261 k v) | 4 => (v264 k v) | 5 => (v267 k v) | 6 => (v270 k v) | 7 => (v273 k v) | 8 => (v276 k v) | 9 => (v279 k v) | 10 => (v282 k v))
    (fun i => match i with | 0 => (v252_eq V hmain_arg1 hmain_arg2) | 1 => (v255_eq V hmain_arg1 hmain_arg2) | 2 => (v258_eq V hmain_arg1 hmain_arg2) | 3 => (v261_eq V hmain_arg1 hmain_arg2) | 4 => (v264_eq V hmain_arg1 hmain_arg2) | 5 => (v267_eq V hmain_arg1 hmain_arg2) | 6 => (v270_eq V hmain_arg1 hmain_arg2) | 7 => (v273_eq V hmain_arg1 hmain_arg2) | 8 => (v276_eq V hmain_arg1 hmain_arg2) | 9 => (v279_eq V hmain_arg1 hmain_arg2) | 10 => (v282_eq V hmain_arg1 hmain_arg2))
include hmain_arg1 hmain_arg2 in
theorem v286_eq : after ops V (Proc.devRef .tc main_v286) = (v286 k v) :=
  ordered.nary_eq V (i := 340) rfl (by decide) (fun i => match i with | 0 => (v283 k v) | 1 => (v284 k v) | 2 => (v285 k v))
    (fun i => match i with | 0 => (v283_eq V hmain_arg1 hmain_arg2) | 1 => (v284_eq V hmain_arg1 hmain_arg2) | 2 => (v285_eq V hmain_arg1 hmain_arg2))
include hmain_arg1 hmain_arg2 in
theorem v287_eq : after ops V (Proc.devRef .tc main_v287) = (v287 k v) :=
  ordered.reshape_eq V (i := 341) rfl (by decide) (v286_eq V hmain_arg1 hmain_arg2)
include hmain_arg1 hmain_arg2 in
theorem v288_eq : after ops V (Proc.devRef .tc main_v288) = (v288 k v) :=
  ordered.unary_eq V (i := 342) rfl (by decide) (v287_eq V hmain_arg1 hmain_arg2)
include hmain_arg1 hmain_arg2 in
theorem v289_eq : after ops V (Proc.devRef .tc main_v289) = (v289 k v) :=
  ordered.unary_eq V (i := 343) rfl (by decide) (v288_eq V hmain_arg1 hmain_arg2)
theorem cst_27_eq : after ops V (Proc.devRef .tc main_cst_27) = (FwdRefHost.cst (F := F)) :=
  ordered.nullary V (i := 344) rfl
theorem v290_eq : after ops V (Proc.devRef .tc main_v290) = (RefHost.v225 (F := F)) :=
  ordered.unary_eq V (i := 345) rfl (by decide) (cst_27_eq V)
include hmain_arg3 in
theorem v291_eq : after ops V (Proc.devRef .tc main_v291) = (v291 ct) :=
  ordered.reshape_eq V (i := 346) rfl (by decide) (arg3_eq V hmain_arg3)
include hmain_arg3 in
theorem v292_eq : after ops V (Proc.devRef .tc main_v292) = (v292 ct) :=
  ordered.binary_eq V (i := 347) rfl (by decide) (by decide) (v290_eq V) (v291_eq V hmain_arg3)
include hmain_arg3 in
theorem v293_eq : after ops V (Proc.devRef .tc main_v293) = (v293 ct) :=
  ordered.unary_eq V (i := 348) rfl (by decide) (v292_eq V hmain_arg3)
include hmain_arg0 in
theorem v294_eq : after ops V (Proc.devRef .tc main_v294) = (FwdHost.v184 q) :=
  ordered.reshape_eq V (i := 349) rfl (by decide) (v157_eq V hmain_arg0)
include hmain_arg0 in
theorem v295_eq : after ops V (Proc.devRef .tc main_v295) = (FwdHost.v185 q) :=
  ordered.unary_eq V (i := 350) rfl (by decide) (v294_eq V hmain_arg0)
include hmain_arg0 in
theorem v296_eq : after ops V (Proc.devRef .tc main_v296) = (FwdHost.v186 q) :=
  ordered.reshape_eq V (i := 351) rfl (by decide) (v295_eq V hmain_arg0)
include hmain_arg1 in
theorem v297_eq : after ops V (Proc.devRef .tc main_v297) = (FwdHost.v187 k) :=
  ordered.reshape_eq V (i := 352) rfl (by decide) (v158_eq V hmain_arg1)
include hmain_arg1 in
theorem v298_eq : after ops V (Proc.devRef .tc main_v298) = (FwdHost.v188 k) :=
  ordered.unary_eq V (i := 353) rfl (by decide) (v297_eq V hmain_arg1)
include hmain_arg1 in
theorem v299_eq : after ops V (Proc.devRef .tc main_v299) = (FwdHost.v189 k) :=
  ordered.reshape_eq V (i := 354) rfl (by decide) (v298_eq V hmain_arg1)
include hmain_arg2 in
theorem v300_eq : after ops V (Proc.devRef .tc main_v300) = (FwdHost.v190 v) :=
  ordered.reshape_eq V (i := 355) rfl (by decide) (v159_eq V hmain_arg2)
include hmain_arg2 in
theorem v301_eq : after ops V (Proc.devRef .tc main_v301) = (FwdHost.v191 v) :=
  ordered.unary_eq V (i := 356) rfl (by decide) (v300_eq V hmain_arg2)
include hmain_arg2 in
theorem v302_eq : after ops V (Proc.devRef .tc main_v302) = (FwdHost.v192 v) :=
  ordered.reshape_eq V (i := 357) rfl (by decide) (v301_eq V hmain_arg2)
include hmain_arg0 hmain_arg1 hmain_arg2 in
theorem v303_eq : after ops V (Proc.devRef .tc main_v303) = (FwdHost.v193 q k v) :=
  ordered.nary_eq V (i := 358) rfl (by decide) (fun i => match i with | 0 => (FwdHost.v186 q) | 1 => (FwdHost.v189 k) | 2 => (FwdHost.v192 v))
    (fun i => match i with | 0 => (v296_eq V hmain_arg0) | 1 => (v299_eq V hmain_arg1) | 2 => (v302_eq V hmain_arg2))
include hmain_arg0 hmain_arg1 hmain_arg2 in
theorem v304_eq : after ops V (Proc.devRef .tc main_v304) = (FwdHost.v194 q k v) :=
  ordered.unary_eq V (i := 359) rfl (by decide) (v303_eq V hmain_arg0 hmain_arg1 hmain_arg2)

end Pre

end Cert.KernelHost

end
-- ==== Proof.BwdTiles.lean ====
/- The tiles of ONE POINT of the retention gradient's grid. A point takes three chunks of 128 positions, the last first;
   per chunk and head it works on 128x128 tiles: the three gradients (`dqTile`, `dkTile`, `dvTile`) and the next state
   gradient (`gradStep`). The blocks that the point leaves are the tiles side by side, over the state gradient that it
   starts from: the zero fill at the first point, what the point before left otherwise. -/
module

public import proofs.«01_k».proof.Proof.Gen.KernelIdeal.Frame
public import Idealize.ShloMosaic.Lib.ValueIdx
public import Idealize.ShloMosaic.Lib.Pipeline.Value

@[expose] public section

set_option maxRecDepth 16384

noncomputable section

namespace Cert.BwdBlock

open Idealize.ShloMosaic Idealize.ShloMosaic.TcCoe Idealize.ShloMosaic.Tactic Idealize.ShloMosaic.ValueIdx
open Cert.KernelIdeal Cert.KernelIdeal.Gen

variable {F : FTy → Type} [FloatOps F]

/-! ## The tiles -/

/-- A 16-bit tile times a table, rounded. -/
def decayed (x : Vec F S128x128 .bf16) (d : Vec F S128x128 .f32) : Vec F S128x128 .bf16 := truncf .bf16 (mulf (extf .f32 x bitsLt_bf16_f32) d) bitsLt_bf16_f32

/-- The masked products of the rows of two tiles: the scores, or their gradient. -/
def masked (x y : Vec F S128x128 .bf16) (mask : Vec F S128x128 .f32) : Vec F S128x128 .bf16 := truncf .bf16 (mulf (matmul dot_S128x128_S128x128_S128x128_1_1_0_0_n_n none x y (constant S128x128 .f32 0x00000000#32)) mask) bitsLt_bf16_f32

/-- The gradient of the values before masking. -/
def dvRaw (q k dO : Vec F S128x128 .bf16) (mask kdec : Vec F S128x128 .f32) (g : Vec F S128x128 .f32) : Vec F S128x128 .f32 :=
  addf (matmul dot_S128x128_S128x128_S128x128_0_0_1_1_n_n none (masked q k mask) dO (constant S128x128 .f32 0x00000000#32)) (matmul dot_S128x128_S128x128_S128x128_1_0_0_1_n_n none (decayed k kdec) (truncf .bf16 g bitsLt_bf16_f32) (constant S128x128 .f32 0x00000000#32))

/-- The gradient of the turned queries. -/
def dqRaw (k v dO st : Vec F S128x128 .bf16) (mask qdec : Vec F S128x128 .f32) : Vec F S128x128 .f32 :=
  addf (matmul dot_S128x128_S128x128_S128x128_1_0_0_1_n_n none (masked dO v mask) k (constant S128x128 .f32 0x00000000#32)) (mulf (matmul dot_S128x128_S128x128_S128x128_1_1_0_0_n_n none dO st (constant S128x128 .f32 0x00000000#32)) qdec)

/-- The gradient of the turned keys. -/
def dkRaw (q v dO : Vec F S128x128 .bf16) (mask kdec : Vec F S128x128 .f32) (g : Vec F S128x128 .f32) : Vec F S128x128 .f32 :=
  addf (matmul dot_S128x128_S128x128_S128x128_0_0_1_1_n_n none (masked dO v mask) q (constant S128x128 .f32 0x00000000#32)) (mulf (matmul dot_S128x128_S128x128_S128x128_1_1_0_0_n_n none v (truncf .bf16 g bitsLt_bf16_f32) (constant S128x128 .f32 0x00000000#32)) kdec)

/-- The state gradient one chunk earlier. -/
def gradStep (q dO : Vec F S128x128 .bf16) (qdec cdec : Vec F S128x128 .f32) (g : Vec F S128x128 .f32) : Vec F S128x128 .f32 :=
  addf (mulf g cdec) (matmul dot_S128x128_S128x128_S128x128_0_0_1_1_n_n none (decayed q qdec) dO (constant S128x128 .f32 0x00000000#32))

/-- Turning back: the transposed rotation. -/
def unturn (x cos sin : Vec F S128x128 .f32) : Vec F S128x128 .f32 :=
  subf (mulf x cos) (mulf (dynamicRotate 1 64#32 none x rotates_S128x128_d1) sin)

/-- Which rows of a chunk that begins at row `r` are kept. -/
def keepRows (r : BitVec 32) : IVec S128x128 1 :=
  cmpi .sge (addi (iota .tc S128x128 32 [0] iota_S128x128_d0_w32) (broadcast S128x128 r)) (broadcast S128x128 112#32)

/-- The kept rows of a tile, rounded. -/
def kept (r : BitVec 32) (x : Vec F S128x128 .f32) : Vec F S128x128 .bf16 :=
  truncf .bf16 (select (keepRows r) x (broadcast S128x128 (Scalar.ofBits .f32 0x00000000#32))) bitsLt_bf16_f32

/-- The scaled gradient of the turned queries. -/
def scaled (x : Vec F S128x128 .f32) : Vec F S128x128 .f32 := mulf x (broadcast S128x128 (Scalar.ofBits .f32 0x3DB504F3#32))

/-- The blocks that a point reads. -/
structure Reads (F : FTy → Type) [FloatOps F] where
  q : Vec F S384x512 .bf16
  k : Vec F S384x512 .bf16
  v : Vec F S384x512 .bf16
  cos : Vec F S384x128 .f32
  sin : Vec F S384x128 .f32
  dec : Vec F S4x4x128x128 .f32
  st : Vec F S4x3x128x128 .bf16
  dO : Vec F S384x512 .bf16

/-- Rows `128 j …` and columns `128 h …` of a block of three chunks and four heads. -/
def tile (x : Vec F S384x512 .bf16) (j h : ℕ) (hj : ∀ a, ![128 * j, 128 * h] a + S128x128.size a ≤ S384x512.size a) : Vec F S128x128 .bf16 :=
  shapeCast S128x128 (View.ld x (Rect.unit ![128 * j, 128 * h] S128x128.size hj)) shapeCasts_S128x128_S128x128

/-- Rows `128 j …` of a block of an angle table. -/
def rowTile (x : Vec F S384x128 .f32) (j : ℕ) (hj : ∀ a, ![128 * j, 0] a + S128x128.size a ≤ S384x128.size a) : Vec F S128x128 .f32 :=
  shapeCast S128x128 (View.ld x (Rect.unit ![128 * j, 0] S128x128.size hj)) shapeCasts_S128x128_S128x128

/-- Table `i` of head `h` of the decay tables. -/
def decTile (x : Vec F S4x4x128x128 .f32) (h i : ℕ) (hi : ∀ a, ![h, i, 0, 0] a + S1x1x128x128.size a ≤ S4x4x128x128.size a) : Vec F S128x128 .f32 :=
  shapeCast S128x128 (View.ld x (Rect.unit ![h, i, 0, 0] S1x1x128x128.size hi)) shapeCasts_S1x1x128x128_S128x128

/-- The saved state of head `h` and chunk `j`. -/
def stTile (x : Vec F S4x3x128x128 .bf16) (h j : ℕ) (hi : ∀ a, ![h, j, 0, 0] a + S1x1x128x128.size a ≤ S4x3x128x128.size a) : Vec F S128x128 .bf16 :=
  shapeCast S128x128 (View.ld x (Rect.unit ![h, j, 0, 0] S1x1x128x128.size hi)) shapeCasts_S1x1x128x128_S128x128

/-- The state gradient of head `h`. -/
def headTile (x : Vec F S4x128x128 .f32) (h : ℕ) (hh : ∀ a, ![h, 0, 0] a + S1x128x128.size a ≤ S4x128x128.size a) : Vec F S128x128 .f32 :=
  shapeCast S128x128 (View.ld x (Rect.unit ![h, 0, 0] S1x128x128.size hh)) shapeCasts_S1x128x128_S128x128

theorem tile_ok {j h : ℕ} (hj : j < 3) (hh : h < 4) : ∀ a, ![128 * j, 128 * h] a + S128x128.size a ≤ S384x512.size a := by
  intro a; fin_cases a
  · show 128 * j + 128 ≤ 384; omega
  · show 128 * h + 128 ≤ 512; omega
theorem row_ok {j : ℕ} (hj : j < 3) : ∀ a, ![128 * j, 0] a + S128x128.size a ≤ S384x128.size a := by
  intro a; fin_cases a
  · show 128 * j + 128 ≤ 384; omega
  · show 0 + 128 ≤ 128; omega
theorem dec_ok {h i : ℕ} (hh : h < 4) (hi : i < 4) : ∀ a, ![h, i, 0, 0] a + S1x1x128x128.size a ≤ S4x4x128x128.size a := by
  intro a; fin_cases a
  · show h + 1 ≤ 4; omega
  · show i + 1 ≤ 4; omega
  · show 0 + 128 ≤ 128; omega
  · show 0 + 128 ≤ 128; omega
theorem st_ok {h j : ℕ} (hh : h < 4) (hj : j < 3) : ∀ a, ![h, j, 0, 0] a + S1x1x128x128.size a ≤ S4x3x128x128.size a := by
  intro a; fin_cases a
  · show h + 1 ≤ 4; omega
  · show j + 1 ≤ 3; omega
  · show 0 + 128 ≤ 128; omega
  · show 0 + 128 ≤ 128; omega
theorem head_ok {h : ℕ} (hh : h < 4) : ∀ a, ![h, 0, 0] a + S1x128x128.size a ≤ S4x128x128.size a := by
  intro a; fin_cases a
  · show h + 1 ≤ 4; omega
  · show 0 + 128 ≤ 128; omega
  · show 0 + 128 ≤ 128; omega

/-- The state gradient of head `h` after `p` of the point's chunks (the last first), over the gradients `s0`. -/
def gradOf (X : Reads F) (s0 : Vec F S4x128x128 .f32) (h : ℕ) (hh : h < 4) : (p : ℕ) → p ≤ 3 → Vec F S128x128 .f32
  | 0, _ => headTile s0 h (head_ok hh)
  | p + 1, hp => gradStep (tile X.q (2 - p) h (tile_ok (by omega) hh)) (tile X.dO (2 - p) h (tile_ok (by omega) hh)) (decTile X.dec h 2 (dec_ok hh (by omega)))
      (decTile X.dec h 3 (dec_ok hh (by omega))) (gradOf X s0 h hh p (by omega))

/-- The row that chunk `j` of point `i` begins at, as the kernel computes it. -/
def firstRow (i : grid0.Coords) (j : ℕ) : BitVec 32 :=
  Scalar.addi (Scalar.muli (Scalar.subi 10#32 (BitVec.ofNat 32 (i 0).val)) 384#32) (BitVec.ofNat 32 (128 * j))

/-- The gradient of the queries of chunk `j` and head `h`. -/
def dqOf (i : grid0.Coords) (X : Reads F) (j h : ℕ) (hj : j < 3) (hh : h < 4) : Vec F S128x128 .bf16 :=
  kept (firstRow i j) (unturn (scaled (dqRaw (tile X.k j h (tile_ok hj hh)) (tile X.v j h (tile_ok hj hh)) (tile X.dO j h (tile_ok hj hh)) (stTile X.st h j (st_ok hh hj))
    (decTile X.dec h 0 (dec_ok hh (by omega))) (decTile X.dec h 2 (dec_ok hh (by omega))))) (rowTile X.cos j (row_ok hj)) (rowTile X.sin j (row_ok hj)))

/-- The gradient of the keys of chunk `j` and head `h`. -/
def dkOf (i : grid0.Coords) (X : Reads F) (s0 : Vec F S4x128x128 .f32) (j h : ℕ) (hj : j < 3) (hh : h < 4) : Vec F S128x128 .bf16 :=
  kept (firstRow i j) (unturn (dkRaw (tile X.q j h (tile_ok hj hh)) (tile X.v j h (tile_ok hj hh)) (tile X.dO j h (tile_ok hj hh))
    (decTile X.dec h 0 (dec_ok hh (by omega))) (decTile X.dec h 1 (dec_ok hh (by omega))) (gradOf X s0 h hh (2 - j) (by omega))) (rowTile X.cos j (row_ok hj)) (rowTile X.sin j (row_ok hj)))

/-- The gradient of the values of chunk `j` and head `h`. -/
def dvOf (i : grid0.Coords) (X : Reads F) (s0 : Vec F S4x128x128 .f32) (j h : ℕ) (hj : j < 3) (hh : h < 4) : Vec F S128x128 .bf16 :=
  kept (firstRow i j) (dvRaw (tile X.q j h (tile_ok hj hh)) (tile X.k j h (tile_ok hj hh)) (tile X.dO j h (tile_ok hj hh))
    (decTile X.dec h 0 (dec_ok hh (by omega))) (decTile X.dec h 1 (dec_ok hh (by omega))) (gradOf X s0 h hh (2 - j) (by omega)))

/-- A block whose tiles are given. -/
def blockOf (f : (j h : ℕ) → j < 3 → h < 4 → Vec F S128x128 .bf16) : Vec F S384x512 .bf16 :=
  fun y => f ((y 0).val / 128) ((y 1).val / 128)
    (by have : (y 0).val < 384 := (y 0).isLt; omega) (by have : (y 1).val < 512 := (y 1).isLt; omega)
    (ix2 ⟨(y 0).val % 128, Nat.mod_lt _ (by omega)⟩ ⟨(y 1).val % 128, Nat.mod_lt _ (by omega)⟩)

/-- The state gradients that the point leaves. -/
def nextBlock (X : Reads F) (s0 : Vec F S4x128x128 .f32) : Vec F S4x128x128 .f32 :=
  fun y => gradOf X s0 (y 0).val (y 0).isLt 3 (Nat.le_refl 3) (ix2 (y 1) (y 2))

/-! ## The pieces that a point stores -/

/-- The twelve stores into a block, the last first. -/
def blockPieces (f : (j h : ℕ) → j < 3 → h < 4 → Vec F S128x128 .bf16) : List (View.Piece (Elt F) S384x512 .bf16) :=
  [⟨Rect.unit ![0, 384] S128x128.size inb_S384x512_S128x128_0_384, f 0 3 (by omega) (by omega)⟩,
   ⟨Rect.unit ![0, 256] S128x128.size inb_S384x512_S128x128_0_256, f 0 2 (by omega) (by omega)⟩,
   ⟨Rect.unit ![0, 128] S128x128.size inb_S384x512_S128x128_0_128, f 0 1 (by omega) (by omega)⟩,
   ⟨Rect.unit ![0, 0] S128x128.size inb_S384x512_S128x128_0_0, f 0 0 (by omega) (by omega)⟩,
   ⟨Rect.unit ![128, 384] S128x128.size inb_S384x512_S128x128_128_384, f 1 3 (by omega) (by omega)⟩,
   ⟨Rect.unit ![128, 256] S128x128.size inb_S384x512_S128x128_128_256, f 1 2 (by omega) (by omega)⟩,
   ⟨Rect.unit ![128, 128] S128x128.size inb_S384x512_S128x128_128_128, f 1 1 (by omega) (by omega)⟩,
   ⟨Rect.unit ![128, 0] S128x128.size inb_S384x512_S128x128_128_0, f 1 0 (by omega) (by omega)⟩,
   ⟨Rect.unit ![256, 384] S128x128.size inb_S384x512_S128x128_256_384, f 2 3 (by omega) (by omega)⟩,
   ⟨Rect.unit ![256, 256] S128x128.size inb_S384x512_S128x128_256_256, f 2 2 (by omega) (by omega)⟩,
   ⟨Rect.unit ![256, 128] S128x128.size inb_S384x512_S128x128_256_128, f 2 1 (by omega) (by omega)⟩,
   ⟨Rect.unit ![256, 0] S128x128.size inb_S384x512_S128x128_256_0, f 2 0 (by omega) (by omega)⟩]

/-- The four stores of the state gradients, the last first. -/
def nextPieces (X : Reads F) (s0 : Vec F S4x128x128 .f32) : List (View.Piece (Elt F) S4x128x128 .f32) :=
  [⟨Rect.unit ![3, 0, 0] S1x128x128.size inb_S4x128x128_S1x128x128_3_0_0, shapeCast S1x128x128 (gradOf X s0 3 (by omega) 3 (by omega)) shapeCasts_S128x128_S1x128x128⟩,
   ⟨Rect.unit ![2, 0, 0] S1x128x128.size inb_S4x128x128_S1x128x128_2_0_0, shapeCast S1x128x128 (gradOf X s0 2 (by omega) 3 (by omega)) shapeCasts_S128x128_S1x128x128⟩,
   ⟨Rect.unit ![1, 0, 0] S1x128x128.size inb_S4x128x128_S1x128x128_1_0_0, shapeCast S1x128x128 (gradOf X s0 1 (by omega) 3 (by omega)) shapeCasts_S128x128_S1x128x128⟩,
   ⟨Rect.unit ![0, 0, 0] S1x128x128.size inb_S4x128x128_S1x128x128_0_0_0, shapeCast S1x128x128 (gradOf X s0 0 (by omega) 3 (by omega)) shapeCasts_S128x128_S1x128x128⟩]

/-- A load from a scratch that one zero fill has covered reads the fill. -/
theorem scratch_zero (v : View sig .tc .vmem S4x128x128 .f32) (r : Rect S4x128x128) :
    v.readCov [(⟨Rect.unit ![0, 0, 0] ![4, 128, 128] inb_S4x128x128_S4x128x128_0_0_0, k0_pay1⟩ : View.Piece (Elt F) S4x128x128 .f32)] r.toLoadRect
      = View.ld k0_pay1 r := by
  rw [View.readCov_eq_canon', View.canon_unit_zero (S := S4x128x128) (off := ![0, 0, 0]) (by funext a; fin_cases a <;> rfl)]

end Cert.BwdBlock

end
-- ==== Proof.BwdBlocks.lean ====
/- The blocks that one point of the retention gradient's grid leaves, as functions of an index: the stores' tiles side by
   side. -/
module

public import proofs.«01_k».proof.Proof.BwdTiles

@[expose] public section

set_option maxRecDepth 16384

noncomputable section

namespace Cert.BwdBlock

open Idealize.ShloMosaic Idealize.ShloMosaic.TcCoe Idealize.ShloMosaic.ValueIdx
open Cert.KernelIdeal Cert.KernelIdeal.Gen

variable {F : FTy → Type} [FloatOps F]

/-- What pieces behind covering ones hold does not matter. -/
theorem canon_append {S : Shape} {e : EltTy} (L L' : List (View.Piece (Elt F) S e)) {y : S.Idx} (h : ∃ p ∈ L, y ∈ p.1.set) :
    View.canon (L ++ L') y = View.canon L y := by
  induction L with
  | nil => obtain ⟨p, hp, _⟩ := h; cases hp
  | cons p L ih =>
    by_cases hm : y ∈ p.1.set
    · obtain ⟨x, rfl⟩ := p.1.exists_idx_of_mem hm
      obtain ⟨r, w⟩ := p
      exact (View.canon_cons_emb r w _ x).trans (View.canon_cons_emb r w _ x).symm
    · rw [List.cons_append, View.canon_cons_of_not_mem _ _ hm, View.canon_cons_of_not_mem _ _ hm]
      refine ih ?_
      obtain ⟨q, hq, hy⟩ := h
      rcases List.mem_cons.mp hq with rfl | hq'
      · exact absurd hy hm
      · exact ⟨q, hq', hy⟩

/-- A block's index lies in a tile's rectangle when its coordinates do. -/
theorem mem_tile {y : S384x512.Idx} (j h : ℕ) (ej : (y 0).val / 128 = j) (eh : (y 1).val / 128 = h)
    (hb : ∀ a, ![128 * j, 128 * h] a + S128x128.size a ≤ S384x512.size a) : y ∈ (Rect.unit (s := S384x512) ![128 * j, 128 * h] S128x128.size hb).set := by
  refine Rect.mem_set_unit.mpr fun a => ?_
  match a with
  | ⟨0, _⟩ => exact ⟨by show 128 * j ≤ (y 0).val; omega, by show (y 0).val < 128 * j + 128; omega⟩
  | ⟨1, _⟩ => exact ⟨by show 128 * h ≤ (y 1).val; omega, by show (y 1).val < 128 * h + 128; omega⟩

theorem mem_next {y : S4x128x128.Idx} (h : ℕ) (eh : (y 0).val = h)
    (hb : ∀ a, ![h, 0, 0] a + S1x128x128.size a ≤ S4x128x128.size a) : y ∈ (Rect.unit (s := S4x128x128) ![h, 0, 0] S1x128x128.size hb).set := by
  refine Rect.mem_set_unit.mpr fun a => ?_
  match a with
  | ⟨0, _⟩ => exact ⟨by show h ≤ (y 0).val; omega, by show (y 0).val < h + 1; omega⟩
  | ⟨1, _⟩ => exact ⟨by show 0 ≤ (y 1).val; omega, by show (y 1).val < 0 + 128; have : (y 1).val < 128 := (y 1).isLt; omega⟩
  | ⟨2, _⟩ => exact ⟨by show 0 ≤ (y 2).val; omega, by show (y 2).val < 0 + 128; have : (y 2).val < 128 := (y 2).isLt; omega⟩

section
variable (f : (j h : ℕ) → j < 3 → h < 4 → Vec F S128x128 .bf16) (X : Reads F) (s0 : Vec F S4x128x128 .f32)

theorem f_congr {j h j' h' : ℕ} (ej : j = j') (eh : h = h') (hj : j < 3) (hh : h < 4) (hj' : j' < 3) (hh' : h' < 4) :
    f j h hj hh = f j' h' hj' hh' := by subst ej eh; rfl

theorem gradOf_congr {p h p' h' : ℕ} (ep : p = p') (eh : h = h') (hp : p ≤ 3) (hh : h < 4) (hp' : p' ≤ 3) (hh' : h' < 4) :
    gradOf X s0 h hh p hp = gradOf X s0 h' hh' p' hp' := by subst ep eh; rfl

/-- The store of chunk `j` and head `h` is that tile of the block. -/
theorem block_piece (j h : ℕ) (hj : j < 3) (hh : h < 4) (hb : ∀ a, ![128 * j, 128 * h] a + S128x128.size a ≤ S384x512.size a) (x : S128x128.Idx) :
    f j h hj hh x = blockOf f ((Rect.unit (s := S384x512) ![128 * j, 128 * h] S128x128.size hb).emb x) := by
  have h0 : (x 0).val < 128 := (x 0).isLt
  have h1 : (x 1).val < 128 := (x 1).isLt
  have e0 : (((Rect.unit (s := S384x512) ![128 * j, 128 * h] S128x128.size hb).emb x) 0).val = 128 * j + (x 0).val := by show 128 * j + 1 * (x 0).val = _; omega
  have e1 : (((Rect.unit (s := S384x512) ![128 * j, 128 * h] S128x128.size hb).emb x) 1).val = 128 * h + (x 1).val := by show 128 * h + 1 * (x 1).val = _; omega
  unfold blockOf
  rw [f_congr f (j := _ / 128) (h := _ / 128) (j' := j) (h' := h) (by rw [e0]; omega) (by rw [e1]; omega) _ _ hj hh]
  congr 1
  refine (eq_ix2 x).trans (congrArg₂ ix2 (Fin.ext ?_) (Fin.ext ?_))
  · show (x 0).val = _ % 128; rw [e0]; omega
  · show (x 1).val = _ % 128; rw [e1]; omega

theorem next_piece (h : ℕ) (hh : h < 4) (hb : ∀ a, ![h, 0, 0] a + S1x128x128.size a ≤ S4x128x128.size a) (x : S1x128x128.Idx) :
    shapeCast S1x128x128 (gradOf X s0 h hh 3 (Nat.le_refl 3)) shapeCasts_S128x128_S1x128x128 x
      = nextBlock X s0 ((Rect.unit (s := S4x128x128) ![h, 0, 0] S1x128x128.size hb).emb x) := by
  have h0 : (x 0).val < 1 := (x 0).isLt
  have e0 : (((Rect.unit (s := S4x128x128) ![h, 0, 0] S1x128x128.size hb).emb x) 0).val = h + (x 0).val := by show h + 1 * (x 0).val = _; omega
  have e1 : (((Rect.unit (s := S4x128x128) ![h, 0, 0] S1x128x128.size hb).emb x) 1).val = 0 + (x 1).val := by show 0 + 1 * (x 1).val = _; omega
  have e2 : (((Rect.unit (s := S4x128x128) ![h, 0, 0] S1x128x128.size hb).emb x) 2).val = 0 + (x 2).val := by show 0 + 1 * (x 2).val = _; omega
  refine (shapeCast_apply _ _ x (ix2 (x 1) (x 2)) (by
    rw [Shape.rowMajor_val_two, Shape.rowMajor_val_three]
    show (x 1).val * 128 + (x 2).val = ((x 0).val * 128 + (x 1).val) * 128 + (x 2).val
    omega)).trans ?_
  unfold nextBlock
  refine Eq.trans ?_ (congrArg (fun T : Vec F S128x128 .f32 => T (ix2 _ _))
    (gradOf_congr X s0 (p := 3) (h := h) rfl (by rw [e0]; omega) (Nat.le_refl 3) hh _ _))
  exact congrArg (gradOf X s0 h hh 3 (Nat.le_refl 3))
    (congrArg₂ ix2 (Fin.ext (by rw [e1]; omega)) (Fin.ext (by rw [e2]; omega)))

/-- A block is its twelve stores. -/
theorem canon_block : View.canon (blockPieces f) = blockOf f := by
  funext y
  refine View.canon_apply_of_pieces (blockOf f) _ ?_ y ?_
  · simp only [blockPieces, List.forall_mem_cons]
    exact ⟨fun x => block_piece f 0 3 (by omega) (by omega) (tile_ok (by omega) (by omega)) x,
      fun x => block_piece f 0 2 (by omega) (by omega) (tile_ok (by omega) (by omega)) x,
      fun x => block_piece f 0 1 (by omega) (by omega) (tile_ok (by omega) (by omega)) x,
      fun x => block_piece f 0 0 (by omega) (by omega) (tile_ok (by omega) (by omega)) x,
      fun x => block_piece f 1 3 (by omega) (by omega) (tile_ok (by omega) (by omega)) x,
      fun x => block_piece f 1 2 (by omega) (by omega) (tile_ok (by omega) (by omega)) x,
      fun x => block_piece f 1 1 (by omega) (by omega) (tile_ok (by omega) (by omega)) x,
      fun x => block_piece f 1 0 (by omega) (by omega) (tile_ok (by omega) (by omega)) x,
      fun x => block_piece f 2 3 (by omega) (by omega) (tile_ok (by omega) (by omega)) x,
      fun x => block_piece f 2 2 (by omega) (by omega) (tile_ok (by omega) (by omega)) x,
      fun x => block_piece f 2 1 (by omega) (by omega) (tile_ok (by omega) (by omega)) x,
      fun x => block_piece f 2 0 (by omega) (by omega) (tile_ok (by omega) (by omega)) x, fun _ h => absurd h (List.not_mem_nil)⟩
  · have h0 : (y 0).val < 384 := (y 0).isLt
    have h1 : (y 1).val < 512 := (y 1).isLt
    have key : ∀ j < 3, ∀ h < 4, (y 0).val / 128 = j → (y 1).val / 128 = h → ∃ p ∈ blockPieces f, y ∈ p.1.set := by
      intro j hj h hh ej eh
      interval_cases j <;> interval_cases h
      · exact ⟨_, List.mem_of_getElem? (i := 3) rfl, mem_tile 0 0 ej eh (tile_ok (by omega) (by omega))⟩
      · exact ⟨_, List.mem_of_getElem? (i := 2) rfl, mem_tile 0 1 ej eh (tile_ok (by omega) (by omega))⟩
      · exact ⟨_, List.mem_of_getElem? (i := 1) rfl, mem_tile 0 2 ej eh (tile_ok (by omega) (by omega))⟩
      · exact ⟨_, List.mem_of_getElem? (i := 0) rfl, mem_tile 0 3 ej eh (tile_ok (by omega) (by omega))⟩
      · exact ⟨_, List.mem_of_getElem? (i := 7) rfl, mem_tile 1 0 ej eh (tile_ok (by omega) (by omega))⟩
      · exact ⟨_, List.mem_of_getElem? (i := 6) rfl, mem_tile 1 1 ej eh (tile_ok (by omega) (by omega))⟩
      · exact ⟨_, List.mem_of_getElem? (i := 5) rfl, mem_tile 1 2 ej eh (tile_ok (by omega) (by omega))⟩
      · exact ⟨_, List.mem_of_getElem? (i := 4) rfl, mem_tile 1 3 ej eh (tile_ok (by omega) (by omega))⟩
      · exact ⟨_, List.mem_of_getElem? (i := 11) rfl, mem_tile 2 0 ej eh (tile_ok (by omega) (by omega))⟩
      · exact ⟨_, List.mem_of_getElem? (i := 10) rfl, mem_tile 2 1 ej eh (tile_ok (by omega) (by omega))⟩
      · exact ⟨_, List.mem_of_getElem? (i := 9) rfl, mem_tile 2 2 ej eh (tile_ok (by omega) (by omega))⟩
      · exact ⟨_, List.mem_of_getElem? (i := 8) rfl, mem_tile 2 3 ej eh (tile_ok (by omega) (by omega))⟩
    exact key _ (by omega) _ (by omega) rfl rfl

/-- The state gradients are the point's last four stores, whatever was stored before. -/
theorem canon_next (L : List (View.Piece (Elt F) S4x128x128 .f32)) : View.canon (nextPieces X s0 ++ L) = nextBlock X s0 := by
  funext y
  have h0 : (y 0).val < 4 := (y 0).isLt
  have h1 : (y 1).val < 128 := (y 1).isLt
  have h2 : (y 2).val < 128 := (y 2).isLt
  have cov : ∃ p ∈ nextPieces X s0, y ∈ p.1.set := by
    have key : ∀ h < 4, (y 0).val = h → ∃ p ∈ nextPieces X s0, y ∈ p.1.set := by
      intro h hh eh
      interval_cases h
      · exact ⟨_, List.mem_of_getElem? (i := 3) rfl, mem_next 0 eh inb_S4x128x128_S1x128x128_0_0_0⟩
      · exact ⟨_, List.mem_of_getElem? (i := 2) rfl, mem_next 1 eh inb_S4x128x128_S1x128x128_1_0_0⟩
      · exact ⟨_, List.mem_of_getElem? (i := 1) rfl, mem_next 2 eh inb_S4x128x128_S1x128x128_2_0_0⟩
      · exact ⟨_, List.mem_of_getElem? (i := 0) rfl, mem_next 3 eh inb_S4x128x128_S1x128x128_3_0_0⟩
    exact key _ h0 rfl
  rw [canon_append _ L cov]
  refine View.canon_apply_of_pieces (nextBlock X s0) _ ?_ y cov
  simp only [nextPieces, List.forall_mem_cons]
  exact ⟨fun x => next_piece X s0 3 (by omega) _ x, fun x => next_piece X s0 2 (by omega) _ x, fun x => next_piece X s0 1 (by omega) _ x, fun x => next_piece X s0 0 (by omega) _ x, fun _ h => absurd h (List.not_mem_nil)⟩

end

end Cert.BwdBlock

end
-- ==== Proof.BwdBlockA1.lean ====
/- What the first point of the retention gradient stores: the gradients of the queries and keys. -/
module

public import proofs.«01_k».proof.Proof.BwdTiles
public import Idealize.ShloMosaic.Lib.ValueIdx
public import Idealize.ShloMosaic.Lib.Pipeline.Value

@[expose] public section

set_option maxRecDepth 16384

noncomputable section

namespace Cert.BwdBlock

open Idealize.ShloMosaic Idealize.ShloMosaic.TcCoe Idealize.ShloMosaic.Tactic Idealize.ShloMosaic.ValueIdx
open Cert.KernelIdeal Cert.KernelIdeal.Gen

variable {F : FTy → Type} [FloatOps F]

set_option maxHeartbeats 4000000 in
theorem out_A_8 (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x128 .f32) (harg4 : arg4.IsWhole) (arg5 : Memref sig .tc .vmem S384x128 .f32) (harg5 : arg5.IsWhole) (arg6 : Memref sig .tc .vmem S4x4x128x128 .f32) (harg6 : arg6.IsWhole) (arg7 : Memref sig .tc .vmem S4x3x128x128 .bf16) (harg7 : arg7.IsWhole) (arg8 : Memref sig .tc .vmem S384x512 .bf16) (harg8 : arg8.IsWhole) (arg9 : Memref sig .tc .vmem S384x512 .bf16) (harg9 : arg9.IsWhole) (arg10 : Memref sig .tc .vmem S384x512 .bf16) (harg10 : arg10.IsWhole) (arg11 : Memref sig .tc .vmem S384x512 .bf16) (harg11 : arg11.IsWhole) (arg12 : Memref sig .tc .vmem S4x128x128 .f32) (harg12 : arg12.IsWhole) (hc0 : cond0_0 i)
    (x0 : Vec F S384x512 .bf16) (x1 : Vec F S384x512 .bf16) (x2 : Vec F S384x512 .bf16) (x3 : Vec F S384x128 .f32) (x4 : Vec F S384x128 .f32) (x5 : Vec F S4x4x128x128 .f32) (x6 : Vec F S4x3x128x128 .bf16) (x7 : Vec F S384x512 .bf16) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = View.canon (blockPieces (dqOf i ⟨x0, x1, x2, x3, x4, x5, x6, x7⟩)) := by
  unfold out0_A_8
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread]
  rfl

set_option maxHeartbeats 4000000 in
theorem out_A_9 (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x128 .f32) (harg4 : arg4.IsWhole) (arg5 : Memref sig .tc .vmem S384x128 .f32) (harg5 : arg5.IsWhole) (arg6 : Memref sig .tc .vmem S4x4x128x128 .f32) (harg6 : arg6.IsWhole) (arg7 : Memref sig .tc .vmem S4x3x128x128 .bf16) (harg7 : arg7.IsWhole) (arg8 : Memref sig .tc .vmem S384x512 .bf16) (harg8 : arg8.IsWhole) (arg9 : Memref sig .tc .vmem S384x512 .bf16) (harg9 : arg9.IsWhole) (arg10 : Memref sig .tc .vmem S384x512 .bf16) (harg10 : arg10.IsWhole) (arg11 : Memref sig .tc .vmem S384x512 .bf16) (harg11 : arg11.IsWhole) (arg12 : Memref sig .tc .vmem S4x128x128 .f32) (harg12 : arg12.IsWhole) (hc0 : cond0_0 i)
    (x0 : Vec F S384x512 .bf16) (x1 : Vec F S384x512 .bf16) (x2 : Vec F S384x512 .bf16) (x3 : Vec F S384x128 .f32) (x4 : Vec F S384x128 .f32) (x5 : Vec F S4x4x128x128 .f32) (x6 : Vec F S4x3x128x128 .bf16) (x7 : Vec F S384x512 .bf16) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = View.canon (blockPieces (dkOf i ⟨x0, x1, x2, x3, x4, x5, x6, x7⟩ k0_pay1)) := by
  unfold out0_A_9
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [scratch_zero]
  rfl

end Cert.BwdBlock

end
-- ==== Proof.BwdBlockA2.lean ====
/- What the first point of the retention gradient stores: the gradients of the values and the state gradients. -/
module

public import proofs.«01_k».proof.Proof.BwdTiles
public import Idealize.ShloMosaic.Lib.ValueIdx
public import Idealize.ShloMosaic.Lib.Pipeline.Value

@[expose] public section

set_option maxRecDepth 16384

noncomputable section

namespace Cert.BwdBlock

open Idealize.ShloMosaic Idealize.ShloMosaic.TcCoe Idealize.ShloMosaic.Tactic Idealize.ShloMosaic.ValueIdx
open Cert.KernelIdeal Cert.KernelIdeal.Gen

variable {F : FTy → Type} [FloatOps F]

set_option maxHeartbeats 4000000 in
theorem out_A_10 (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x128 .f32) (harg4 : arg4.IsWhole) (arg5 : Memref sig .tc .vmem S384x128 .f32) (harg5 : arg5.IsWhole) (arg6 : Memref sig .tc .vmem S4x4x128x128 .f32) (harg6 : arg6.IsWhole) (arg7 : Memref sig .tc .vmem S4x3x128x128 .bf16) (harg7 : arg7.IsWhole) (arg8 : Memref sig .tc .vmem S384x512 .bf16) (harg8 : arg8.IsWhole) (arg9 : Memref sig .tc .vmem S384x512 .bf16) (harg9 : arg9.IsWhole) (arg10 : Memref sig .tc .vmem S384x512 .bf16) (harg10 : arg10.IsWhole) (arg11 : Memref sig .tc .vmem S384x512 .bf16) (harg11 : arg11.IsWhole) (arg12 : Memref sig .tc .vmem S4x128x128 .f32) (harg12 : arg12.IsWhole) (hc0 : cond0_0 i)
    (x0 : Vec F S384x512 .bf16) (x1 : Vec F S384x512 .bf16) (x2 : Vec F S384x512 .bf16) (x3 : Vec F S384x128 .f32) (x4 : Vec F S384x128 .f32) (x5 : Vec F S4x4x128x128 .f32) (x6 : Vec F S4x3x128x128 .bf16) (x7 : Vec F S384x512 .bf16) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = View.canon (blockPieces (dvOf i ⟨x0, x1, x2, x3, x4, x5, x6, x7⟩ k0_pay1)) := by
  unfold out0_A_10
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [scratch_zero]
  rfl

set_option maxHeartbeats 4000000 in
theorem sout_A (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x128 .f32) (harg4 : arg4.IsWhole) (arg5 : Memref sig .tc .vmem S384x128 .f32) (harg5 : arg5.IsWhole) (arg6 : Memref sig .tc .vmem S4x4x128x128 .f32) (harg6 : arg6.IsWhole) (arg7 : Memref sig .tc .vmem S4x3x128x128 .bf16) (harg7 : arg7.IsWhole) (arg8 : Memref sig .tc .vmem S384x512 .bf16) (harg8 : arg8.IsWhole) (arg9 : Memref sig .tc .vmem S384x512 .bf16) (harg9 : arg9.IsWhole) (arg10 : Memref sig .tc .vmem S384x512 .bf16) (harg10 : arg10.IsWhole) (arg11 : Memref sig .tc .vmem S384x512 .bf16) (harg11 : arg11.IsWhole) (arg12 : Memref sig .tc .vmem S4x128x128 .f32) (harg12 : arg12.IsWhole) (hc0 : cond0_0 i)
    (x0 : Vec F S384x512 .bf16) (x1 : Vec F S384x512 .bf16) (x2 : Vec F S384x512 .bf16) (x3 : Vec F S384x128 .f32) (x4 : Vec F S384x128 .f32) (x5 : Vec F S4x4x128x128 .f32) (x6 : Vec F S4x3x128x128 .bf16) (x7 : Vec F S384x512 .bf16) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = View.canon (nextPieces ⟨x0, x1, x2, x3, x4, x5, x6, x7⟩ k0_pay1 ++ [⟨Rect.unit ![0, 0, 0] S4x128x128.size inb_S4x128x128_S4x128x128_0_0_0, k0_pay1⟩]) := by
  unfold sout0_A_0
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [scratch_zero]
  rfl

end Cert.BwdBlock

end
-- ==== Proof.BwdBlockB1.lean ====
/- What a later point of the retention gradient stores: the gradients of the queries and keys. -/
module

public import proofs.«01_k».proof.Proof.BwdTiles
public import Idealize.ShloMosaic.Lib.ValueIdx
public import Idealize.ShloMosaic.Lib.Pipeline.Value

@[expose] public section

set_option maxRecDepth 16384

noncomputable section

namespace Cert.BwdBlock

open Idealize.ShloMosaic Idealize.ShloMosaic.TcCoe Idealize.ShloMosaic.Tactic Idealize.ShloMosaic.ValueIdx
open Cert.KernelIdeal Cert.KernelIdeal.Gen

variable {F : FTy → Type} [FloatOps F]

set_option maxHeartbeats 4000000 in
theorem out_B_8 (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x128 .f32) (harg4 : arg4.IsWhole) (arg5 : Memref sig .tc .vmem S384x128 .f32) (harg5 : arg5.IsWhole) (arg6 : Memref sig .tc .vmem S4x4x128x128 .f32) (harg6 : arg6.IsWhole) (arg7 : Memref sig .tc .vmem S4x3x128x128 .bf16) (harg7 : arg7.IsWhole) (arg8 : Memref sig .tc .vmem S384x512 .bf16) (harg8 : arg8.IsWhole) (arg9 : Memref sig .tc .vmem S384x512 .bf16) (harg9 : arg9.IsWhole) (arg10 : Memref sig .tc .vmem S384x512 .bf16) (harg10 : arg10.IsWhole) (arg11 : Memref sig .tc .vmem S384x512 .bf16) (harg11 : arg11.IsWhole) (arg12 : Memref sig .tc .vmem S4x128x128 .f32) (harg12 : arg12.IsWhole) (hc0 : ¬cond0_0 i)
    (x0 : Vec F S384x512 .bf16) (x1 : Vec F S384x512 .bf16) (x2 : Vec F S384x512 .bf16) (x3 : Vec F S384x128 .f32) (x4 : Vec F S384x128 .f32) (x5 : Vec F S4x4x128x128 .f32) (x6 : Vec F S4x3x128x128 .bf16) (x7 : Vec F S384x512 .bf16) (xs0 : Vec F S4x128x128 .f32) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 = View.canon (blockPieces (dqOf i ⟨x0, x1, x2, x3, x4, x5, x6, x7⟩)) := by
  unfold out0_B_8
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg12.read_unread]
  rfl

set_option maxHeartbeats 4000000 in
theorem out_B_9 (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x128 .f32) (harg4 : arg4.IsWhole) (arg5 : Memref sig .tc .vmem S384x128 .f32) (harg5 : arg5.IsWhole) (arg6 : Memref sig .tc .vmem S4x4x128x128 .f32) (harg6 : arg6.IsWhole) (arg7 : Memref sig .tc .vmem S4x3x128x128 .bf16) (harg7 : arg7.IsWhole) (arg8 : Memref sig .tc .vmem S384x512 .bf16) (harg8 : arg8.IsWhole) (arg9 : Memref sig .tc .vmem S384x512 .bf16) (harg9 : arg9.IsWhole) (arg10 : Memref sig .tc .vmem S384x512 .bf16) (harg10 : arg10.IsWhole) (arg11 : Memref sig .tc .vmem S384x512 .bf16) (harg11 : arg11.IsWhole) (arg12 : Memref sig .tc .vmem S4x128x128 .f32) (harg12 : arg12.IsWhole) (hc0 : ¬cond0_0 i)
    (x0 : Vec F S384x512 .bf16) (x1 : Vec F S384x512 .bf16) (x2 : Vec F S384x512 .bf16) (x3 : Vec F S384x128 .f32) (x4 : Vec F S384x128 .f32) (x5 : Vec F S4x4x128x128 .f32) (x6 : Vec F S4x3x128x128 .bf16) (x7 : Vec F S384x512 .bf16) (xs0 : Vec F S4x128x128 .f32) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 = View.canon (blockPieces (dkOf i ⟨x0, x1, x2, x3, x4, x5, x6, x7⟩ xs0)) := by
  unfold out0_B_9
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg12.read_unread]
  rfl

end Cert.BwdBlock

end
-- ==== Proof.BwdBlockB2.lean ====
/- What a later point of the retention gradient stores: the gradients of the values and the state gradients. -/
module

public import proofs.«01_k».proof.Proof.BwdTiles
public import Idealize.ShloMosaic.Lib.ValueIdx
public import Idealize.ShloMosaic.Lib.Pipeline.Value

@[expose] public section

set_option maxRecDepth 16384

noncomputable section

namespace Cert.BwdBlock

open Idealize.ShloMosaic Idealize.ShloMosaic.TcCoe Idealize.ShloMosaic.Tactic Idealize.ShloMosaic.ValueIdx
open Cert.KernelIdeal Cert.KernelIdeal.Gen

variable {F : FTy → Type} [FloatOps F]

set_option maxHeartbeats 4000000 in
theorem out_B_10 (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x128 .f32) (harg4 : arg4.IsWhole) (arg5 : Memref sig .tc .vmem S384x128 .f32) (harg5 : arg5.IsWhole) (arg6 : Memref sig .tc .vmem S4x4x128x128 .f32) (harg6 : arg6.IsWhole) (arg7 : Memref sig .tc .vmem S4x3x128x128 .bf16) (harg7 : arg7.IsWhole) (arg8 : Memref sig .tc .vmem S384x512 .bf16) (harg8 : arg8.IsWhole) (arg9 : Memref sig .tc .vmem S384x512 .bf16) (harg9 : arg9.IsWhole) (arg10 : Memref sig .tc .vmem S384x512 .bf16) (harg10 : arg10.IsWhole) (arg11 : Memref sig .tc .vmem S384x512 .bf16) (harg11 : arg11.IsWhole) (arg12 : Memref sig .tc .vmem S4x128x128 .f32) (harg12 : arg12.IsWhole) (hc0 : ¬cond0_0 i)
    (x0 : Vec F S384x512 .bf16) (x1 : Vec F S384x512 .bf16) (x2 : Vec F S384x512 .bf16) (x3 : Vec F S384x128 .f32) (x4 : Vec F S384x128 .f32) (x5 : Vec F S4x4x128x128 .f32) (x6 : Vec F S4x3x128x128 .bf16) (x7 : Vec F S384x512 .bf16) (xs0 : Vec F S4x128x128 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 = View.canon (blockPieces (dvOf i ⟨x0, x1, x2, x3, x4, x5, x6, x7⟩ xs0)) := by
  unfold out0_B_10
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg12.read_unread]
  rfl

set_option maxHeartbeats 4000000 in
theorem sout_B (c : Dev nD) (i : grid0.Coords) (arg1 : Memref sig .tc .vmem S384x512 .bf16) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x128 .f32) (harg4 : arg4.IsWhole) (arg5 : Memref sig .tc .vmem S384x128 .f32) (harg5 : arg5.IsWhole) (arg6 : Memref sig .tc .vmem S4x4x128x128 .f32) (harg6 : arg6.IsWhole) (arg7 : Memref sig .tc .vmem S4x3x128x128 .bf16) (harg7 : arg7.IsWhole) (arg8 : Memref sig .tc .vmem S384x512 .bf16) (harg8 : arg8.IsWhole) (arg9 : Memref sig .tc .vmem S384x512 .bf16) (harg9 : arg9.IsWhole) (arg10 : Memref sig .tc .vmem S384x512 .bf16) (harg10 : arg10.IsWhole) (arg11 : Memref sig .tc .vmem S384x512 .bf16) (harg11 : arg11.IsWhole) (arg12 : Memref sig .tc .vmem S4x128x128 .f32) (harg12 : arg12.IsWhole) (hc0 : ¬cond0_0 i)
    (x0 : Vec F S384x512 .bf16) (x1 : Vec F S384x512 .bf16) (x2 : Vec F S384x512 .bf16) (x3 : Vec F S384x128 .f32) (x4 : Vec F S384x128 .f32) (x5 : Vec F S4x4x128x128 .f32) (x6 : Vec F S4x3x128x128 .bf16) (x7 : Vec F S384x512 .bf16) (xs0 : Vec F S4x128x128 .f32) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 = View.canon (nextPieces ⟨x0, x1, x2, x3, x4, x5, x6, x7⟩ xs0) := by
  unfold sout0_B_0
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg12.read_unread]
  rfl

end Cert.BwdBlock

end
-- ==== Proof.BwdArray.lean ====
/- What the retention gradient's call leaves in its three arrays, index by index: chunk `n` and head `h` of each is that
   chunk's gradient over the saved state before it and the state gradient behind it. The state gradient is carried from
   the last chunk to the first, through the grid's eleven points of three chunks each. -/
module

public import proofs.«01_k».proof.Proof.BwdBlocks
public import proofs.«01_k».proof.Proof.BwdBlockA1
public import proofs.«01_k».proof.Proof.BwdBlockA2
public import proofs.«01_k».proof.Proof.BwdBlockB1
public import proofs.«01_k».proof.Proof.BwdBlockB2
public import proofs.«01_k».proof.Proof.FwdArray
public import proofs.«01_k».proof.Proof.Gen.KernelIdeal.Value

@[expose] public section

set_option maxRecDepth 16384

noncomputable section

namespace Cert.BwdBlock

open Idealize.ShloMosaic Idealize.ShloMosaic.TcCoe Idealize.ShloMosaic.ValueIdx
open Cert.KernelIdeal Cert.KernelIdeal.Gen Cert.KernelIdeal.Value
open Cert.FwdBlock (zTile dTile)

variable {F : FTy → Type} [FloatOps F]

/-! ## The recursion over the whole arrays -/

/-- The arrays that the call reads: the projected queries, keys and values, the angle tables, the decay tables, the saved
    states and the gradient of the retention. -/
structure Arrays (F : FTy → Type) [FloatOps F] where
  z : Vec F S4224x1536 .bf16
  cos : Vec F S4224x128 .f32
  sin : Vec F S4224x128 .f32
  dec : Vec F S4x4x128x128 .f32
  st : Vec F S4x33x128x128 .bf16
  dO : Vec F S4224x512 .bf16

/-- Chunk `n` of an angle table. -/
def rTile (x : Vec F S4224x128 .f32) (n : ℕ) : Vec F S128x128 .f32 :=
  fun y => x (ix2 ⟨(128 * n + (y 0).val) % 4224, Nat.mod_lt _ (by omega)⟩ (y 1))

/-- The state of head `h` saved before chunk `n`. -/
def sTile (x : Vec F S4x33x128x128 .bf16) (n : ℕ) (h : Fin 4) : Vec F S128x128 .bf16 :=
  fun y => x (ix4 h ⟨n % 33, Nat.mod_lt _ (by omega)⟩ (y 0) (y 1))

/-- Chunk `n` and head `h` of the gradient of the retention. -/
def oTile (x : Vec F S4224x512 .bf16) (n h : ℕ) : Vec F S128x128 .bf16 :=
  fun y => x (ix2 ⟨(128 * n + (y 0).val) % 4224, Nat.mod_lt _ (by omega)⟩ ⟨(128 * h + (y 1).val) % 512, Nat.mod_lt _ (by omega)⟩)

section
variable (A : Arrays F)

/-- The state gradient of head `h` when the last `p` chunks have been taken. -/
def grad (h : Fin 4) : ℕ → Vec F S128x128 .f32
  | 0 => fun _ => Scalar.ofBits .f32 0x00000000#32
  | p + 1 => gradStep (zTile A.z 0 (32 - p) h.val) (oTile A.dO (32 - p) h.val) (dTile A.dec h 2) (dTile A.dec h 3) (grad h p)

/-- The gradients of chunk `n` and head `h`. -/
def dqAt (n : ℕ) (h : Fin 4) : Vec F S128x128 .bf16 :=
  kept (BitVec.ofNat 32 (128 * n)) (unturn (scaled (dqRaw (zTile A.z 1 n h.val) (zTile A.z 2 n h.val) (oTile A.dO n h.val) (sTile A.st n h)
    (dTile A.dec h 0) (dTile A.dec h 2))) (rTile A.cos n) (rTile A.sin n))
def dkAt (n : ℕ) (h : Fin 4) : Vec F S128x128 .bf16 :=
  kept (BitVec.ofNat 32 (128 * n)) (unturn (dkRaw (zTile A.z 0 n h.val) (zTile A.z 2 n h.val) (oTile A.dO n h.val)
    (dTile A.dec h 0) (dTile A.dec h 1) (grad A h (32 - n))) (rTile A.cos n) (rTile A.sin n))
def dvAt (n : ℕ) (h : Fin 4) : Vec F S128x128 .bf16 :=
  kept (BitVec.ofNat 32 (128 * n)) (dvRaw (zTile A.z 0 n h.val) (zTile A.z 1 n h.val) (oTile A.dO n h.val)
    (dTile A.dec h 0) (dTile A.dec h 1) (grad A h (32 - n)))

end

/-! ## The blocks that a point reads -/

section
variable (m : (ℓ : Loc nD τ sig) → Buf (Elt F) ℓ) (c : Dev nD)

/-- The arrays at the launch. -/
abbrev arrays : Arrays F := ⟨V m c main_v304, V m c main_v18, V m c main_v26, V m c main_v79, V m c main_v289, V m c main_v293⟩

/-- The blocks of a point. -/
abbrev reads (t : Fin cfg0.N) : Reads F := ⟨iblk m c 0 t, iblk m c 1 t, iblk m c 2 t, iblk m c 3 t, iblk m c 4 t, iblk m c 5 t, iblk m c 6 t, iblk m c 7 t⟩

theorem idx_0 : ∀ t : Fin cfg0.N, win0_0.index t = ![10 - t.val, 0] := (by decide +kernel : ∀ t : Fin grid0.N, win0_0.index t = ![10 - t.val, 0])
theorem idx_1 : ∀ t : Fin cfg0.N, win0_1.index t = ![10 - t.val, 1] := (by decide +kernel : ∀ t : Fin grid0.N, win0_1.index t = ![10 - t.val, 1])
theorem idx_2 : ∀ t : Fin cfg0.N, win0_2.index t = ![10 - t.val, 2] := (by decide +kernel : ∀ t : Fin grid0.N, win0_2.index t = ![10 - t.val, 2])
theorem idx_3 : ∀ t : Fin cfg0.N, win0_3.index t = ![10 - t.val, 0] := (by decide +kernel : ∀ t : Fin grid0.N, win0_3.index t = ![10 - t.val, 0])
theorem idx_4 : ∀ t : Fin cfg0.N, win0_4.index t = ![10 - t.val, 0] := (by decide +kernel : ∀ t : Fin grid0.N, win0_4.index t = ![10 - t.val, 0])
theorem idx_5 : ∀ t : Fin cfg0.N, win0_5.index t = ![0, 0, 0, 0] := (by decide +kernel : ∀ t : Fin grid0.N, win0_5.index t = ![0, 0, 0, 0])
theorem idx_6 : ∀ t : Fin cfg0.N, win0_6.index t = ![0, 10 - t.val, 0, 0] := (by decide +kernel : ∀ t : Fin grid0.N, win0_6.index t = ![0, 10 - t.val, 0, 0])
theorem idx_7 : ∀ t : Fin cfg0.N, win0_7.index t = ![10 - t.val, 0] := (by decide +kernel : ∀ t : Fin grid0.N, win0_7.index t = ![10 - t.val, 0])
theorem idx_8 : ∀ t : Fin cfg0.N, win0_8.index t = ![10 - t.val, 0] := (by decide +kernel : ∀ t : Fin grid0.N, win0_8.index t = ![10 - t.val, 0])
theorem idx_9 : ∀ t : Fin cfg0.N, win0_9.index t = ![10 - t.val, 0] := (by decide +kernel : ∀ t : Fin grid0.N, win0_9.index t = ![10 - t.val, 0])
theorem idx_10 : ∀ t : Fin cfg0.N, win0_10.index t = ![10 - t.val, 0] := (by decide +kernel : ∀ t : Fin grid0.N, win0_10.index t = ![10 - t.val, 0])

theorem lt_grid (t : Fin cfg0.N) : t.val < 11 := lt_of_lt_of_eq t.isLt (show cfg0.N = 11 from N_0)

/-- The row that a chunk begins at. -/
theorem first_row : ∀ (t : Fin cfg0.N) (j : Fin 3), firstRow (grid0.coords t) j.val = BitVec.ofNat 32 (128 * (3 * (10 - t.val) + j.val)) :=
  (by decide +kernel : ∀ (t : Fin grid0.N) (j : Fin 3), firstRow (grid0.coords t) j.val = BitVec.ofNat 32 (128 * (3 * (10 - t.val) + j.val)))

/-- A tile of a block of rows `384 t …` and columns `512 w …` is a chunk and head of the projected array. -/
theorem tile_of {x : Vec F S384x512 .bf16} {z : Vec F S4224x1536 .bf16} {t w : ℕ} (ht : t < 11) (hw : w < 3)
    (hx : ∀ y : S384x512.Idx, ∃ k : S4224x1536.Idx, (k 0).val = 384 * t + (y 0).val ∧ (k 1).val = 512 * w + (y 1).val ∧ x y = z k)
    (j h : ℕ) (hj : j < 3) (hh : h < 4) : tile x j h (tile_ok hj hh) = zTile z w (3 * t + j) h := by
  funext y
  have h0 : (y 0).val < 128 := (y 0).isLt
  have h1 : (y 1).val < 128 := (y 1).isLt
  obtain ⟨k, k0, k1, e⟩ := hx ((Rect.unit (s := S384x512) ![128 * j, 128 * h] S128x128.size (tile_ok hj hh)).idx y)
  rw [show (((Rect.unit (s := S384x512) ![128 * j, 128 * h] S128x128.size (tile_ok hj hh)).idx y) 0).val = 128 * j + (y 0).val from by
    show 128 * j + 1 * (y 0).val = _; omega] at k0
  rw [show (((Rect.unit (s := S384x512) ![128 * j, 128 * h] S128x128.size (tile_ok hj hh)).idx y) 1).val = 128 * h + (y 1).val from by
    show 128 * h + 1 * (y 1).val = _; omega] at k1
  refine (congrFun (shapeCast_self (s := S128x128) (View.ld x (Rect.unit ![128 * j, 128 * h] S128x128.size (tile_ok hj hh))) _) y).trans ?_
  refine e.trans (congrArg z ((eq_ix2 k).trans (congrArg₂ ix2 (Fin.ext ?_) (Fin.ext ?_))))
  · show (k 0).val = (128 * (3 * t + j) + (y 0).val) % 4224
    omega
  · show (k 1).val = (512 * w + 128 * h + (y 1).val) % 1536
    omega

/-- … and of an array of one part. -/
theorem one_of {x : Vec F S384x512 .bf16} {z : Vec F S4224x512 .bf16} {t : ℕ} (ht : t < 11)
    (hx : ∀ y : S384x512.Idx, ∃ k : S4224x512.Idx, (k 0).val = 384 * t + (y 0).val ∧ (k 1).val = (y 1).val ∧ x y = z k)
    (j h : ℕ) (hj : j < 3) (hh : h < 4) : tile x j h (tile_ok hj hh) = oTile z (3 * t + j) h := by
  funext y
  have h0 : (y 0).val < 128 := (y 0).isLt
  have h1 : (y 1).val < 128 := (y 1).isLt
  obtain ⟨k, k0, k1, e⟩ := hx ((Rect.unit (s := S384x512) ![128 * j, 128 * h] S128x128.size (tile_ok hj hh)).idx y)
  rw [show (((Rect.unit (s := S384x512) ![128 * j, 128 * h] S128x128.size (tile_ok hj hh)).idx y) 0).val = 128 * j + (y 0).val from by
    show 128 * j + 1 * (y 0).val = _; omega] at k0
  rw [show (((Rect.unit (s := S384x512) ![128 * j, 128 * h] S128x128.size (tile_ok hj hh)).idx y) 1).val = 128 * h + (y 1).val from by
    show 128 * h + 1 * (y 1).val = _; omega] at k1
  refine (congrFun (shapeCast_self (s := S128x128) (View.ld x (Rect.unit ![128 * j, 128 * h] S128x128.size (tile_ok hj hh))) _) y).trans ?_
  refine e.trans (congrArg z ((eq_ix2 k).trans (congrArg₂ ix2 (Fin.ext ?_) (Fin.ext ?_))))
  · show (k 0).val = (128 * (3 * t + j) + (y 0).val) % 4224
    omega
  · show (k 1).val = (128 * h + (y 1).val) % 512
    omega

/-- … and of an angle table. -/
theorem row_of {x : Vec F S384x128 .f32} {z : Vec F S4224x128 .f32} {t : ℕ} (ht : t < 11)
    (hx : ∀ y : S384x128.Idx, ∃ k : S4224x128.Idx, (k 0).val = 384 * t + (y 0).val ∧ (k 1).val = (y 1).val ∧ x y = z k)
    (j : ℕ) (hj : j < 3) : rowTile x j (row_ok hj) = rTile z (3 * t + j) := by
  funext y
  have h0 : (y 0).val < 128 := (y 0).isLt
  have h1 : (y 1).val < 128 := (y 1).isLt
  obtain ⟨k, k0, k1, e⟩ := hx ((Rect.unit (s := S384x128) ![128 * j, 0] S128x128.size (row_ok hj)).idx y)
  rw [show (((Rect.unit (s := S384x128) ![128 * j, 0] S128x128.size (row_ok hj)).idx y) 0).val = 128 * j + (y 0).val from by
    show 128 * j + 1 * (y 0).val = _; omega] at k0
  rw [show (((Rect.unit (s := S384x128) ![128 * j, 0] S128x128.size (row_ok hj)).idx y) 1).val = (y 1).val from by
    show 0 + 1 * (y 1).val = _; omega] at k1
  refine (congrFun (shapeCast_self (s := S128x128) (View.ld x (Rect.unit ![128 * j, 0] S128x128.size (row_ok hj))) _) y).trans ?_
  refine e.trans (congrArg z ((eq_ix2 k).trans (congrArg₂ ix2 (Fin.ext ?_) (Fin.ext ?_))))
  · show (k 0).val = (128 * (3 * t + j) + (y 0).val) % 4224
    omega
  · exact k1

theorem blk_0 (t : Fin cfg0.N) (j h : ℕ) (hj : j < 3) (hh : h < 4) : tile (reads m c t).q j h (tile_ok hj hh) = zTile (arrays m c).z 0 (3 * (10 - t.val) + j) h := by
  refine tile_of (F := F) (z := (arrays m c).z) (t := 10 - t.val) (w := 0) (by omega) (by omega) (fun y => ⟨((cfg0.win 0).blk t).view.emb y, ?_, ?_, rfl⟩) j h hj hh
  · have e : (((cfg0.win 0).blk t).view.emb y 0).val = win0_0.index t (0 : Fin 2) * 384 + 1 * (y 0).val := rfl
    rw [e, idx_0]; show (10 - t.val) * 384 + 1 * (y 0).val = _; omega
  · have e : (((cfg0.win 0).blk t).view.emb y 1).val = win0_0.index t (1 : Fin 2) * 512 + 1 * (y 1).val := rfl
    rw [e, idx_0]; show 0 * 512 + 1 * (y 1).val = _; omega
theorem blk_1 (t : Fin cfg0.N) (j h : ℕ) (hj : j < 3) (hh : h < 4) : tile (reads m c t).k j h (tile_ok hj hh) = zTile (arrays m c).z 1 (3 * (10 - t.val) + j) h := by
  refine tile_of (F := F) (z := (arrays m c).z) (t := 10 - t.val) (w := 1) (by omega) (by omega) (fun y => ⟨((cfg0.win 1).blk t).view.emb y, ?_, ?_, rfl⟩) j h hj hh
  · have e : (((cfg0.win 1).blk t).view.emb y 0).val = win0_1.index t (0 : Fin 2) * 384 + 1 * (y 0).val := rfl
    rw [e, idx_1]; show (10 - t.val) * 384 + 1 * (y 0).val = _; omega
  · have e : (((cfg0.win 1).blk t).view.emb y 1).val = win0_1.index t (1 : Fin 2) * 512 + 1 * (y 1).val := rfl
    rw [e, idx_1]; show 1 * 512 + 1 * (y 1).val = _; omega
theorem blk_2 (t : Fin cfg0.N) (j h : ℕ) (hj : j < 3) (hh : h < 4) : tile (reads m c t).v j h (tile_ok hj hh) = zTile (arrays m c).z 2 (3 * (10 - t.val) + j) h := by
  refine tile_of (F := F) (z := (arrays m c).z) (t := 10 - t.val) (w := 2) (by omega) (by omega) (fun y => ⟨((cfg0.win 2).blk t).view.emb y, ?_, ?_, rfl⟩) j h hj hh
  · have e : (((cfg0.win 2).blk t).view.emb y 0).val = win0_2.index t (0 : Fin 2) * 384 + 1 * (y 0).val := rfl
    rw [e, idx_2]; show (10 - t.val) * 384 + 1 * (y 0).val = _; omega
  · have e : (((cfg0.win 2).blk t).view.emb y 1).val = win0_2.index t (1 : Fin 2) * 512 + 1 * (y 1).val := rfl
    rw [e, idx_2]; show 2 * 512 + 1 * (y 1).val = _; omega
theorem blk_3 (t : Fin cfg0.N) (j : ℕ) (hj : j < 3) : rowTile (reads m c t).cos j (row_ok hj) = rTile (arrays m c).cos (3 * (10 - t.val) + j) := by
  refine row_of (F := F) (z := (arrays m c).cos) (t := 10 - t.val) (by omega) (fun y => ⟨((cfg0.win 3).blk t).view.emb y, ?_, ?_, rfl⟩) j hj
  · have e : (((cfg0.win 3).blk t).view.emb y 0).val = win0_3.index t (0 : Fin 2) * 384 + 1 * (y 0).val := rfl
    rw [e, idx_3]; show (10 - t.val) * 384 + 1 * (y 0).val = _; omega
  · have e : (((cfg0.win 3).blk t).view.emb y 1).val = win0_3.index t (1 : Fin 2) * 128 + 1 * (y 1).val := rfl
    rw [e, idx_3]; show 0 * 128 + 1 * (y 1).val = _; omega
theorem blk_4 (t : Fin cfg0.N) (j : ℕ) (hj : j < 3) : rowTile (reads m c t).sin j (row_ok hj) = rTile (arrays m c).sin (3 * (10 - t.val) + j) := by
  refine row_of (F := F) (z := (arrays m c).sin) (t := 10 - t.val) (by omega) (fun y => ⟨((cfg0.win 4).blk t).view.emb y, ?_, ?_, rfl⟩) j hj
  · have e : (((cfg0.win 4).blk t).view.emb y 0).val = win0_4.index t (0 : Fin 2) * 384 + 1 * (y 0).val := rfl
    rw [e, idx_4]; show (10 - t.val) * 384 + 1 * (y 0).val = _; omega
  · have e : (((cfg0.win 4).blk t).view.emb y 1).val = win0_4.index t (1 : Fin 2) * 128 + 1 * (y 1).val := rfl
    rw [e, idx_4]; show 0 * 128 + 1 * (y 1).val = _; omega
theorem blk_7 (t : Fin cfg0.N) (j h : ℕ) (hj : j < 3) (hh : h < 4) : tile (reads m c t).dO j h (tile_ok hj hh) = oTile (arrays m c).dO (3 * (10 - t.val) + j) h := by
  refine one_of (F := F) (z := (arrays m c).dO) (t := 10 - t.val) (by omega) (fun y => ⟨((cfg0.win 7).blk t).view.emb y, ?_, ?_, rfl⟩) j h hj hh
  · have e : (((cfg0.win 7).blk t).view.emb y 0).val = win0_7.index t (0 : Fin 2) * 384 + 1 * (y 0).val := rfl
    rw [e, idx_7]; show (10 - t.val) * 384 + 1 * (y 0).val = _; omega
  · have e : (((cfg0.win 7).blk t).view.emb y 1).val = win0_7.index t (1 : Fin 2) * 512 + 1 * (y 1).val := rfl
    rw [e, idx_7]; show 0 * 512 + 1 * (y 1).val = _; omega

theorem blk_5 (t : Fin cfg0.N) (h i : Fin 4) : decTile (reads m c t).dec h.val i.val (dec_ok h.isLt i.isLt) = dTile (arrays m c).dec h i := by
  funext y
  unfold decTile
  refine (shapeCast_apply _ _ y (ix4 0 0 (y 0) (y 1)) (by
    rw [Shape.rowMajor_val_two, Shape.rowMajor_val_four]
    show ((0 * 1 + 0) * 128 + (y 0).val) * 128 + (y 1).val = (y 0).val * 128 + (y 1).val
    omega)).trans ?_
  show (arrays m c).dec (((cfg0.win 5).blk t).view.emb ((Rect.unit (s := S4x4x128x128) ![h.val, i.val, 0, 0] S1x1x128x128.size (dec_ok h.isLt i.isLt)).idx (ix4 0 0 (y 0) (y 1)))) = (arrays m c).dec (ix4 h i (y 0) (y 1))
  refine congrArg (arrays m c).dec ?_
  have hi := idx_5 t
  funext a
  apply Fin.ext
  match a with
  | ⟨0, _⟩ => show win0_5.index t (0 : Fin 4) * 4 + 1 * (h.val + 1 * 0) = h.val; rw [hi]; show 0 * 4 + 1 * (h.val + 1 * 0) = h.val; omega
  | ⟨1, _⟩ => show win0_5.index t (1 : Fin 4) * 4 + 1 * (i.val + 1 * 0) = i.val; rw [hi]; show 0 * 4 + 1 * (i.val + 1 * 0) = i.val; omega
  | ⟨2, _⟩ => show win0_5.index t (2 : Fin 4) * 128 + 1 * (0 + 1 * (y 0).val) = (y 0).val; rw [hi]; show 0 * 128 + 1 * (0 + 1 * (y 0).val) = (y 0).val; omega
  | ⟨3, _⟩ => show win0_5.index t (3 : Fin 4) * 128 + 1 * (0 + 1 * (y 1).val) = (y 1).val; rw [hi]; show 0 * 128 + 1 * (0 + 1 * (y 1).val) = (y 1).val; omega

theorem blk_6 (t : Fin cfg0.N) (h : Fin 4) (j : ℕ) (hj : j < 3) : stTile (reads m c t).st h.val j (st_ok h.isLt hj) = sTile (arrays m c).st (3 * (10 - t.val) + j) h := by
  funext y
  unfold stTile
  refine (shapeCast_apply _ _ y (ix4 0 0 (y 0) (y 1)) (by
    rw [Shape.rowMajor_val_two, Shape.rowMajor_val_four]
    show ((0 * 1 + 0) * 128 + (y 0).val) * 128 + (y 1).val = (y 0).val * 128 + (y 1).val
    omega)).trans ?_
  show (arrays m c).st (((cfg0.win 6).blk t).view.emb ((Rect.unit (s := S4x3x128x128) ![h.val, j, 0, 0] S1x1x128x128.size (st_ok h.isLt hj)).idx (ix4 0 0 (y 0) (y 1)))) = (arrays m c).st (ix4 h ⟨(3 * (10 - t.val) + j) % 33, Nat.mod_lt _ (by omega)⟩ (y 0) (y 1))
  refine congrArg (arrays m c).st ?_
  have hi := idx_6 t
  have ht := lt_grid t
  funext a
  apply Fin.ext
  match a with
  | ⟨0, _⟩ => show win0_6.index t (0 : Fin 4) * 4 + 1 * (h.val + 1 * 0) = h.val; rw [hi]; show 0 * 4 + 1 * (h.val + 1 * 0) = h.val; omega
  | ⟨1, _⟩ => show win0_6.index t (1 : Fin 4) * 3 + 1 * (j + 1 * 0) = (3 * (10 - t.val) + j) % 33; rw [hi]; show (10 - t.val) * 3 + 1 * (j + 1 * 0) = _; omega
  | ⟨2, _⟩ => show win0_6.index t (2 : Fin 4) * 128 + 1 * (0 + 1 * (y 0).val) = (y 0).val; rw [hi]; show 0 * 128 + 1 * (0 + 1 * (y 0).val) = (y 0).val; omega
  | ⟨3, _⟩ => show win0_6.index t (3 : Fin 4) * 128 + 1 * (0 + 1 * (y 1).val) = (y 1).val; rw [hi]; show 0 * 128 + 1 * (0 + 1 * (y 1).val) = (y 1).val; omega

/-! ## One point -/

theorem headTile_apply (x : Vec F S4x128x128 .f32) (h : Fin 4) (y : S128x128.Idx) : headTile x h.val (head_ok h.isLt) y = x (ix3 h (y 0) (y 1)) := by
  unfold headTile
  refine (shapeCast_apply _ _ y (ix3 0 (y 0) (y 1)) (by
    rw [Shape.rowMajor_val_two, Shape.rowMajor_val_three]
    show (0 * 128 + (y 0).val) * 128 + (y 1).val = (y 0).val * 128 + (y 1).val
    omega)).trans ?_
  show x _ = x _
  refine congrArg x ?_
  funext a
  apply Fin.ext
  match a with
  | ⟨0, _⟩ => show h.val + 1 * 0 = h.val; omega
  | ⟨1, _⟩ => show 0 + 1 * (y 0).val = (y 0).val; omega
  | ⟨2, _⟩ => show 0 + 1 * (y 1).val = (y 1).val; omega

/-- Over state gradients that are the recursion's before the point, a point's are the recursion's. -/
theorem gradOf_eq (t : Fin cfg0.N) (s0 : Vec F S4x128x128 .f32) (h : Fin 4)
    (hs : ∀ y : S128x128.Idx, s0 (ix3 h (y 0) (y 1)) = grad (arrays m c) h (3 * t.val) y) :
    ∀ (p : ℕ) (hp : p ≤ 3), gradOf (reads m c t) s0 h.val h.isLt p hp = grad (arrays m c) h (3 * t.val + p)
  | 0, _ => funext fun y => (headTile_apply s0 h y).trans (hs y)
  | p + 1, hp => by
    have ht := lt_grid t
    have e : 3 * (10 - t.val) + (2 - p) = 32 - (3 * t.val + p) := by omega
    have e2 := blk_5 m c t h 2
    have e3 := blk_5 m c t h 3
    have e0 := blk_0 m c t (2 - p) h.val (by omega) h.isLt
    have e7 := blk_7 m c t (2 - p) h.val (by omega) h.isLt
    rw [e] at e0 e7
    show gradStep _ _ _ _ _ = gradStep _ _ _ _ _
    rw [gradOf_eq t s0 h hs p (by omega)]
    exact (congrArg₂ (fun A B => gradStep A B _ _ _) e0 e7).trans (congrArg₂ (fun A B => gradStep _ _ A B _) e2 e3)

/-- The state gradients before a point, as the recursion has them. -/
def Before (t : ℕ) (s0 : Vec F S4x128x128 .f32) : Prop :=
  ∀ (h : Fin 4) (y : S128x128.Idx), s0 (ix3 h (y 0) (y 1)) = grad (arrays m c) h (3 * t) y

theorem before_zero : Before m c 0 (k0_pay1 (F := F)) := by
  intro h y
  show k0_pay1 _ = Scalar.ofBits .f32 0x00000000#32
  unfold k0_pay1
  rw [shapeCast_self]
  rfl

theorem next_before (t : Fin cfg0.N) (s0 : Vec F S4x128x128 .f32) (hs : Before m c t.val s0) :
    Before m c (t.val + 1) (nextBlock (reads m c t) s0) := by
  intro h y
  show gradOf _ _ h.val _ 3 _ (ix2 (y 0) (y 1)) = _
  rw [gradOf_eq m c t s0 h (hs h) 3 (Nat.le_refl 3)]
  exact congrArg _ (eq_ix2 y).symm

/-- An index of a block, as a tile's. -/
abbrev inTile (y : S384x512.Idx) : S128x128.Idx := ix2 ⟨(y 0).val % 128, Nat.mod_lt _ (by omega)⟩ ⟨(y 1).val % 128, Nat.mod_lt _ (by omega)⟩
/-- The head of a block's column. -/
abbrev headOf (y : S384x512.Idx) : Fin 4 := ⟨(y 1).val / 128, by have : (y 1).val < 512 := (y 1).isLt; omega⟩

/-- What a point's blocks hold. -/
structure Point (t : Fin cfg0.N) (o : Vec F S384x512 .bf16 × Vec F S384x512 .bf16 × Vec F S384x512 .bf16 × Vec F S4x128x128 .f32) : Prop where
  dq : ∀ y : S384x512.Idx, o.1 y = dqAt (arrays m c) (3 * (10 - t.val) + (y 0).val / 128) (headOf y) (inTile y)
  dk : ∀ y : S384x512.Idx, o.2.1 y = dkAt (arrays m c) (3 * (10 - t.val) + (y 0).val / 128) (headOf y) (inTile y)
  dv : ∀ y : S384x512.Idx, o.2.2.1 y = dvAt (arrays m c) (3 * (10 - t.val) + (y 0).val / 128) (headOf y) (inTile y)
  next : Before m c (t.val + 1) o.2.2.2

theorem dqOf_eq (t : Fin cfg0.N) (j : ℕ) (hj : j < 3) (h : Fin 4) :
    dqOf (grid0.coords t) (reads m c t) j h.val hj h.isLt = dqAt (arrays m c) (3 * (10 - t.val) + j) h := by
  have e := first_row t ⟨j, hj⟩
  have d0 := blk_5 m c t h 0
  have d2 := blk_5 m c t h 2
  unfold dqOf dqAt
  rw [blk_1 m c t j h.val hj h.isLt, blk_2 m c t j h.val hj h.isLt, blk_7 m c t j h.val hj h.isLt, blk_6 m c t h j hj, blk_3 m c t j hj, blk_4 m c t j hj]
  exact (congrArg (fun r => kept r _) e).trans (congrArg₂ (fun A B => kept _ (unturn (scaled (dqRaw _ _ _ _ A B)) _ _)) d0 d2)

theorem dkOf_eq (t : Fin cfg0.N) (s0 : Vec F S4x128x128 .f32) (hs : Before m c t.val s0) (j : ℕ) (hj : j < 3) (h : Fin 4) :
    dkOf (grid0.coords t) (reads m c t) s0 j h.val hj h.isLt = dkAt (arrays m c) (3 * (10 - t.val) + j) h := by
  have ht := lt_grid t
  have e := first_row t ⟨j, hj⟩
  have d0 := blk_5 m c t h 0
  have d1 := blk_5 m c t h 1
  unfold dkOf dkAt
  rw [blk_0 m c t j h.val hj h.isLt, blk_2 m c t j h.val hj h.isLt, blk_7 m c t j h.val hj h.isLt, blk_3 m c t j hj, blk_4 m c t j hj,
    gradOf_eq m c t s0 h (hs h) (2 - j) (by omega), show 3 * t.val + (2 - j) = 32 - (3 * (10 - t.val) + j) from by omega]
  exact (congrArg (fun r => kept r _) e).trans (congrArg₂ (fun A B => kept _ (unturn (dkRaw _ _ _ A B _) _ _)) d0 d1)

theorem dvOf_eq (t : Fin cfg0.N) (s0 : Vec F S4x128x128 .f32) (hs : Before m c t.val s0) (j : ℕ) (hj : j < 3) (h : Fin 4) :
    dvOf (grid0.coords t) (reads m c t) s0 j h.val hj h.isLt = dvAt (arrays m c) (3 * (10 - t.val) + j) h := by
  have ht := lt_grid t
  have e := first_row t ⟨j, hj⟩
  have d0 := blk_5 m c t h 0
  have d1 := blk_5 m c t h 1
  unfold dvOf dvAt
  rw [blk_0 m c t j h.val hj h.isLt, blk_1 m c t j h.val hj h.isLt, blk_7 m c t j h.val hj h.isLt,
    gradOf_eq m c t s0 h (hs h) (2 - j) (by omega), show 3 * t.val + (2 - j) = 32 - (3 * (10 - t.val) + j) from by omega]
  exact (congrArg (fun r => kept r _) e).trans (congrArg₂ (fun A B => kept _ (dvRaw _ _ _ A B _)) d0 d1)

theorem point_of (t : Fin cfg0.N) (s0 : Vec F S4x128x128 .f32) (hs : Before m c t.val s0) :
    Point m c t (blockOf (dqOf (grid0.coords t) (reads m c t)), blockOf (dkOf (grid0.coords t) (reads m c t) s0), blockOf (dvOf (grid0.coords t) (reads m c t) s0),
      nextBlock (reads m c t) s0) where
  dq y := congrFun (dqOf_eq m c t ((y 0).val / 128) (by have : (y 0).val < 384 := (y 0).isLt; omega) (headOf y)) (inTile y)
  dk y := congrFun (dkOf_eq m c t s0 hs ((y 0).val / 128) (by have : (y 0).val < 384 := (y 0).isLt; omega) (headOf y)) (inTile y)
  dv y := congrFun (dvOf_eq m c t s0 hs ((y 0).val / 128) (by have : (y 0).val < 384 := (y 0).isLt; omega) (headOf y)) (inTile y)
  next := next_before m c t s0 hs

/-! ## All points -/

theorem out_point_A (t : Fin cfg0.N) (h0 : t.val % 11 = 0) : outsAt0 m c t.val t.isLt =
    (blockOf (dqOf (grid0.coords t) (reads m c t)), blockOf (dkOf (grid0.coords t) (reads m c t) k0_pay1), blockOf (dvOf (grid0.coords t) (reads m c t) k0_pay1),
      nextBlock (reads m c t) k0_pay1) := by
  rw [outsAt0_A m c t h0]
  rw [out_A_8, out_A_9, out_A_10, sout_A, canon_block, canon_block, canon_block, canon_next]

theorem out_point_B (t : Fin cfg0.N) (h0 : ¬t.val % 11 = 0) (s : Vec F S4x128x128 .f32)
    (hs : (outsAt0 m c (t.val - 1) (Nat.lt_of_le_of_lt (Nat.sub_le _ _) t.isLt)).2.2.2 = s) : outsAt0 m c t.val t.isLt =
    (blockOf (dqOf (grid0.coords t) (reads m c t)), blockOf (dkOf (grid0.coords t) (reads m c t) s), blockOf (dvOf (grid0.coords t) (reads m c t) s),
      nextBlock (reads m c t) s) := by
  subst hs
  rw [outsAt0_B m c t h0]
  have e := canon_next (reads m c t) (outsAt0 m c (t.val - 1) (Nat.lt_of_le_of_lt (Nat.sub_le _ _) t.isLt)).2.2.2 []
  rw [List.append_nil] at e
  rw [out_B_8, out_B_9, out_B_10, sout_B, canon_block, canon_block, canon_block, e]

theorem point : ∀ (n : ℕ) (hn : n < cfg0.N), Point m c ⟨n, hn⟩ (outsAt0 m c n hn)
  | 0, hn => by
    rw [out_point_A m c ⟨0, hn⟩ (Nat.zero_mod _)]
    exact point_of m c ⟨0, hn⟩ _ (before_zero m c)
  | n + 1, hn => by
    have hN : n + 1 < 11 := lt_of_lt_of_eq hn (show cfg0.N = 11 from N_0)
    rw [out_point_B m c ⟨n + 1, hn⟩ (by show ¬(n + 1) % 11 = 0; omega) _ rfl]
    exact point_of m c ⟨n + 1, hn⟩ _ (point n (Nat.lt_of_succ_lt hn)).next

/-! ## The three arrays -/

/-- The point that writes a row, and the row's place in the point's block. -/
def pointOf (i : S4224x512.Idx) : Fin cfg0.N := ⟨10 - (i 0).val / 384, by rw [show cfg0.N = 11 from N_0]; omega⟩
def inBlock (i : S4224x512.Idx) : S384x512.Idx := ix2 ⟨(i 0).val % 384, Nat.mod_lt _ (by omega)⟩ (i 1)

/-- A chunk's tile function read at an index of the block of a point is that read at the index of the array. -/
theorem place {X : ℕ → Fin 4 → Vec F S128x128 .bf16} (i : S4224x512.Idx) :
    X (3 * (10 - (pointOf i).val) + (inBlock i 0).val / 128) (headOf (inBlock i)) (inTile (inBlock i))
      = X ((i 0).val / 128) ⟨(i 1).val / 128, by have : (i 1).val < 512 := (i 1).isLt; omega⟩
          (ix2 ⟨(i 0).val % 128, Nat.mod_lt _ (by omega)⟩ ⟨(i 1).val % 128, Nat.mod_lt _ (by omega)⟩) := by
  have h0 : (i 0).val < 4224 := (i 0).isLt
  have h1 : (i 1).val < 512 := (i 1).isLt
  have key : ∀ (n n' : ℕ) (h h' : Fin 4) (y y' : S128x128.Idx), n = n' → h = h' → y = y' → X n h y = X n' h' y' := by
    rintro n _ h _ y _ rfl rfl rfl; rfl
  refine key _ _ _ _ _ _ ?_ (Fin.ext rfl) (congrArg₂ ix2 (Fin.ext ?_) (Fin.ext rfl))
  · show 3 * (10 - (10 - (i 0).val / 384)) + (i 0).val % 384 / 128 = (i 0).val / 128
    omega
  · show (i 0).val % 384 % 128 = (i 0).val % 128
    omega

theorem flush_8 : ∀ t : Fin cfg0.N, (cfg0.win 8).flush t = true := (by decide +kernel : ∀ t : Fin grid0.N, win0_8.flush t = true)

theorem emb_8 (i : S4224x512.Idx) : ((cfg0.win 8).blk (pointOf i)).view.emb (inBlock i) = i := by
  have h0 : (i 0).val < 4224 := (i 0).isLt
  have hi := idx_8 (pointOf i)
  funext a
  apply Fin.ext
  match a with
  | ⟨0, _⟩ => show win0_8.index (pointOf i) (0 : Fin 2) * 384 + 1 * ((i 0).val % 384) = (i 0).val; rw [hi]; show (10 - (10 - (i 0).val / 384)) * 384 + 1 * ((i 0).val % 384) = _; omega
  | ⟨1, _⟩ => show win0_8.index (pointOf i) (1 : Fin 2) * 512 + 1 * (i 1).val = (i 1).val; rw [hi]; show 0 * 512 + 1 * (i 1).val = _; omega

/-- THE GRADIENT OF THE QUERIES, index by index. -/
theorem dq_apply (i : S4224x512.Idx) : ((dats m 0 c).arrAt 8 cfg0.N : Vec F S4224x512 .bf16) i =
    dqAt (arrays m c) ((i 0).val / 128) ⟨(i 1).val / 128, by have : (i 1).val < 512 := (i 1).isLt; omega⟩
      (ix2 ⟨(i 0).val % 128, Nat.mod_lt _ (by omega)⟩ ⟨(i 1).val % 128, Nat.mod_lt _ (by omega)⟩) := by
  have e := congrFun ((blocks8 m c (pointOf i) (flush_8 _)).trans (flushed8 m c (pointOf i))) (inBlock i)
  have e' : ((dats m 0 c).arrAt 8 cfg0.N : Vec F S4224x512 .bf16) (((cfg0.win 8).blk (pointOf i)).view.emb (inBlock i)) = (outsAt0 m c (pointOf i).val (pointOf i).isLt).1 (inBlock i) := e
  rw [emb_8] at e'
  exact e'.trans (((point m c (pointOf i).val (pointOf i).isLt).dq (inBlock i)).trans (place (X := dqAt (arrays m c)) i))

theorem flush_9 : ∀ t : Fin cfg0.N, (cfg0.win 9).flush t = true := (by decide +kernel : ∀ t : Fin grid0.N, win0_9.flush t = true)

theorem emb_9 (i : S4224x512.Idx) : ((cfg0.win 9).blk (pointOf i)).view.emb (inBlock i) = i := by
  have h0 : (i 0).val < 4224 := (i 0).isLt
  have hi := idx_9 (pointOf i)
  funext a
  apply Fin.ext
  match a with
  | ⟨0, _⟩ => show win0_9.index (pointOf i) (0 : Fin 2) * 384 + 1 * ((i 0).val % 384) = (i 0).val; rw [hi]; show (10 - (10 - (i 0).val / 384)) * 384 + 1 * ((i 0).val % 384) = _; omega
  | ⟨1, _⟩ => show win0_9.index (pointOf i) (1 : Fin 2) * 512 + 1 * (i 1).val = (i 1).val; rw [hi]; show 0 * 512 + 1 * (i 1).val = _; omega

/-- THE GRADIENT OF THE KEYS, index by index. -/
theorem dk_apply (i : S4224x512.Idx) : ((dats m 0 c).arrAt 9 cfg0.N : Vec F S4224x512 .bf16) i =
    dkAt (arrays m c) ((i 0).val / 128) ⟨(i 1).val / 128, by have : (i 1).val < 512 := (i 1).isLt; omega⟩
      (ix2 ⟨(i 0).val % 128, Nat.mod_lt _ (by omega)⟩ ⟨(i 1).val % 128, Nat.mod_lt _ (by omega)⟩) := by
  have e := congrFun ((blocks9 m c (pointOf i) (flush_9 _)).trans (flushed9 m c (pointOf i))) (inBlock i)
  have e' : ((dats m 0 c).arrAt 9 cfg0.N : Vec F S4224x512 .bf16) (((cfg0.win 9).blk (pointOf i)).view.emb (inBlock i)) = (outsAt0 m c (pointOf i).val (pointOf i).isLt).2.1 (inBlock i) := e
  rw [emb_9] at e'
  exact e'.trans (((point m c (pointOf i).val (pointOf i).isLt).dk (inBlock i)).trans (place (X := dkAt (arrays m c)) i))

theorem flush_10 : ∀ t : Fin cfg0.N, (cfg0.win 10).flush t = true := (by decide +kernel : ∀ t : Fin grid0.N, win0_10.flush t = true)

theorem emb_10 (i : S4224x512.Idx) : ((cfg0.win 10).blk (pointOf i)).view.emb (inBlock i) = i := by
  have h0 : (i 0).val < 4224 := (i 0).isLt
  have hi := idx_10 (pointOf i)
  funext a
  apply Fin.ext
  match a with
  | ⟨0, _⟩ => show win0_10.index (pointOf i) (0 : Fin 2) * 384 + 1 * ((i 0).val % 384) = (i 0).val; rw [hi]; show (10 - (10 - (i 0).val / 384)) * 384 + 1 * ((i 0).val % 384) = _; omega
  | ⟨1, _⟩ => show win0_10.index (pointOf i) (1 : Fin 2) * 512 + 1 * (i 1).val = (i 1).val; rw [hi]; show 0 * 512 + 1 * (i 1).val = _; omega

/-- THE GRADIENT OF THE VALUES, index by index. -/
theorem dv_apply (i : S4224x512.Idx) : ((dats m 0 c).arrAt 10 cfg0.N : Vec F S4224x512 .bf16) i =
    dvAt (arrays m c) ((i 0).val / 128) ⟨(i 1).val / 128, by have : (i 1).val < 512 := (i 1).isLt; omega⟩
      (ix2 ⟨(i 0).val % 128, Nat.mod_lt _ (by omega)⟩ ⟨(i 1).val % 128, Nat.mod_lt _ (by omega)⟩) := by
  have e := congrFun ((blocks10 m c (pointOf i) (flush_10 _)).trans (flushed10 m c (pointOf i))) (inBlock i)
  have e' : ((dats m 0 c).arrAt 10 cfg0.N : Vec F S4224x512 .bf16) (((cfg0.win 10).blk (pointOf i)).view.emb (inBlock i)) = (outsAt0 m c (pointOf i).val (pointOf i).isLt).2.2.1 (inBlock i) := e
  rw [emb_10] at e'
  exact e'.trans (((point m c (pointOf i).val (pointOf i).isLt).dv (inBlock i)).trans (place (X := dvAt (arrays m c)) i))

end

end Cert.BwdBlock

end
-- ==== Proof.BwdTables.lean ====
/- The angle tables that the gradient's call reads, and the gradient of the retention laid out for it: over the reals the
   tables are the reference's cosines and sines, once for each half of a head, the sines of the first half negated. -/
module

public import proofs.«01_k».proof.Proof.KernelHost
public import proofs.«01_k».proof.Proof.BwdArray
public import Idealize.ShloMosaic.Lib.KernelVsHost
public import proofs.«01_k».proof.Proof.RefHost
public import proofs.«01_k».proof.Proof.Dots
public import Idealize.ShloMosaic.Lib.IdealHost
public import Idealize.ShloMosaic.PureOps.Ideal.Laws

@[expose] public section

set_option maxRecDepth 16384

noncomputable section

namespace Cert.BwdEq

open Idealize.ShloMosaic hiding ix0 ix1 ix2 ix3 ix4 ix5 eq_ix1 eq_ix2 eq_ix3 eq_ix4 eq_ix5
open Idealize.ShloMosaic.TcCoe Idealize.ShloMosaic.ValueIdx
open Cert.KernelIdeal Cert.KernelIdeal.Gen Cert.BwdBlock

abbrev Arg : Type := (⟨S1x4112x512, .f32⟩ : BufTy).Contents (Elt Ideal)

/-- Minus one. -/
theorem neg_one_f32 : Ideal.ofBits .f32 0xBF800000#32 = (-1 : EReal) := by
  simp [Ideal.ofBits, Ideal.ieee, -EReal.coe_mul]; norm_num [Int.cast_negSucc]

/-! ## The tables -/

/-- A lane's number in its half. -/
theorem lane_word : ∀ l : Fin 128, (KernelHost.v1 (F := Ideal) : IVec S128 32) (ix1 l) = BitVec.ofNat 32 (l.val % 64) := by
  decide +kernel

/-- The sign of a lane. -/
theorem sign_word : ∀ l : Fin 128, (KernelHost.v21 (F := Ideal) : IVec S1x128 1) (ix2 0 l) = if l.val < 64 then 1#1 else 0#1 := by
  decide +kernel

theorem angle_apply (r : Fin 4224) (l : Fin 128) (l' : Fin 64) (hl : l.val % 64 = l'.val) :
    KernelHost.v17 (F := Ideal) (ix2 r l) = FwdRefHost.v25 (F := Ideal) (ix2 r l') := by
  unfold KernelHost.v17 FwdRefHost.v25
  refine congrArg₂ (fun s t : EReal => s * t) ?_ ?_
  · unfold KernelHost.v15 KernelHost.v13 FwdRefHost.v23 FwdRefHost.v21
    rw [broadcastInDim_apply _ _ _ (ix2 r l) (ix2 r 0) (fun i => by fin_cases i <;> rfl),
      broadcastInDim_apply _ _ _ (ix2 r 0) (ix1 r) (fun i => by fin_cases i; rfl),
      broadcastInDim_apply _ _ _ (ix2 r l') (ix2 r 0) (fun i => by fin_cases i <;> rfl),
      broadcastInDim_apply _ _ _ (ix2 r 0) (ix1 r) (fun i => by fin_cases i; rfl)]
    show FwdRefHost.v14 (F := Ideal) (ix1 r) + Ideal.ofBits .f32 0x00000000#32 = _
    rw [Ideal.ofBits_zero_f32, add_zero]
  · unfold KernelHost.v16 KernelHost.v14 FwdRefHost.v24 FwdRefHost.v22
    rw [broadcastInDim_apply _ _ _ (ix2 r l) (ix2 0 l) (fun i => by fin_cases i <;> rfl),
      broadcastInDim_apply _ _ _ (ix2 0 l) (ix1 l) (fun i => by fin_cases i; rfl),
      broadcastInDim_apply _ _ _ (ix2 r l') (ix2 0 l') (fun i => by fin_cases i <;> rfl),
      broadcastInDim_apply _ _ _ (ix2 0 l') (ix1 l') (fun i => by fin_cases i; rfl)]
    have e : KernelHost.v2 (F := Ideal) (ix1 l) = FwdRefHost.v15 (F := Ideal) (ix1 l') := by
      show FloatOps.sitofp (F := Ideal) .f32 ((KernelHost.v1 (F := Ideal) : IVec S128 32) (ix1 l)) = FloatOps.sitofp (F := Ideal) .f32 (BitVec.ofNat 32 l'.val)
      rw [lane_word l, hl]
    have e5 : KernelHost.v5 (F := Ideal) (ix1 l) = FwdRefHost.v18 (F := Ideal) (ix1 l') :=
      congrArg (fun t => Host.divf (F := Ideal) (φ := .f32) (s := S_) (Host.negf (F := Ideal) (φ := .f32) (s := S_) (fun _ => t)) (constant S_ .f32 0x42800000#32) ix0) e
    exact congrArg (fun t => Host.powf (F := Ideal) (φ := .f32) (s := S_) (constant S_ .f32 0x461C4000#32) (fun _ => t) ix0) e5

theorem cos_apply (r : Fin 4224) (l : Fin 128) (l' : Fin 64) (hl : l.val % 64 = l'.val) :
    KernelHost.v18 (F := Ideal) (ix2 r l) = FwdRefHost.v26 (F := Ideal) (ix2 r l') :=
  congrArg (fun t => Host.cos (F := Ideal) (φ := .f32) (s := S_) (fun _ => t) ix0) (angle_apply r l l' hl)

theorem sin_apply (r : Fin 4224) (l : Fin 128) (l' : Fin 64) (hl : l.val % 64 = l'.val) :
    KernelHost.v23 (F := Ideal) (ix2 r l) = FwdRefHost.v27 (F := Ideal) (ix2 r l') :=
  congrArg (fun t => Host.sin (F := Ideal) (φ := .f32) (s := S_) (fun _ => t) ix0) (angle_apply r l l' hl)

theorem sign_apply (r : Fin 4224) (l : Fin 128) : KernelHost.v25 (F := Ideal) (ix2 r l) = if l.val < 64 then (-1 : EReal) else 1 := by
  unfold KernelHost.v25
  rw [broadcastInDim_apply _ _ _ (ix2 r l) (ix2 0 l) (fun i => by fin_cases i <;> rfl)]
  show (if (KernelHost.v21 (F := Ideal) : IVec S1x128 1) (ix2 0 l) = 1#1 then Ideal.ofBits .f32 0xBF800000#32 else Ideal.ofBits .f32 0x3F800000#32) = _
  rw [sign_word l]
  by_cases h : l.val < 64
  · rw [if_pos h, if_pos h, if_pos rfl]; exact neg_one_f32
  · rw [if_neg h, if_neg h, if_neg (by decide)]; exact Ideal.ofBits_one_f32

/-- The sines of the first half are negated … -/
theorem sin_low (r : Fin 4224) (l : Fin 128) (l' : Fin 64) (hl : l.val = l'.val) :
    KernelHost.v26 (F := Ideal) (ix2 r l) = (-1 : EReal) * FwdRefHost.v27 (F := Ideal) (ix2 r l') := by
  have h' := l'.isLt
  refine congrArg₂ (fun s t : EReal => s * t) ((sign_apply r l).trans (if_pos (by omega))) (sin_apply r l l' (by omega))

/-- … and those of the second half are not. -/
theorem sin_high (r : Fin 4224) (l : Fin 128) (l' : Fin 64) (hl : l.val = 64 + l'.val) :
    KernelHost.v26 (F := Ideal) (ix2 r l) = (1 : EReal) * FwdRefHost.v27 (F := Ideal) (ix2 r l') := by
  have h' := l'.isLt
  refine congrArg₂ (fun s t : EReal => s * t) ((sign_apply r l).trans (if_neg (by omega))) (sin_apply r l l' (by omega))

theorem cos_tile (n : Fin 33) (a l : Fin 128) : rTile (KernelHost.v18 (F := Ideal)) n.val (ix2 a l)
    = KernelHost.v18 (F := Ideal) (ix2 ⟨128 * n.val + a.val, by omega⟩ l) :=
  congrArg (fun r : Fin 4224 => KernelHost.v18 (F := Ideal) (ix2 r l)) (Fin.ext (by
    have := a.isLt; have := n.isLt
    show (128 * n.val + a.val) % 4224 = 128 * n.val + a.val; omega))
theorem sin_tile (n : Fin 33) (a l : Fin 128) : rTile (KernelHost.v26 (F := Ideal)) n.val (ix2 a l)
    = KernelHost.v26 (F := Ideal) (ix2 ⟨128 * n.val + a.val, by omega⟩ l) :=
  congrArg (fun r : Fin 4224 => KernelHost.v26 (F := Ideal) (ix2 r l)) (Fin.ext (by
    have := a.isLt; have := n.isLt
    show (128 * n.val + a.val) % 4224 = 128 * n.val + a.val; omega))

/-! ## The gradient of the retention -/

/-- Chunks of 128 rows. -/
theorem chunk_apply {α : Type} (x : S1x4x4224x128.Idx → α) (hs : S1x4x4224x128.ShapeCasts S1x4x33x128x128) (h : Fin 4) (n : Fin 33) (a b : Fin 128)
    (r : Fin 4224) (hr : r.val = 128 * n.val + a.val) : shapeCast S1x4x33x128x128 x hs (ix5 0 h n a b) = x (ix4 0 h r b) :=
  shapeCast_apply _ _ (ix5 0 h n a b) (ix4 0 h r b) (by
    rw [Shape.rowMajor_val_four, Shape.rowMajor_val_five]
    show ((0 * 4 + h.val) * 4224 + r.val) * 128 + b.val = ((((0 * 4 + h.val) * 33 + n.val) * 128 + a.val) * 128 + b.val)
    omega)

theorem rows_of (ct : Arg) (h : Fin 4) (n : Fin 33) (a b : Fin 128) (r : Fin 4224) (e : Fin 512) (hr : r.val = 128 * n.val + a.val) (he : e.val = 128 * h.val + b.val) :
    KernelHost.v292 ct (ix2 r e) = RefHost.v151 ct (ix5 0 h n a b) := by
  unfold RefHost.v151
  rw [chunk_apply (RefHost.v150 ct) _ h n a b r hr]
  unfold KernelHost.v292 RefHost.v150
  by_cases hp : r.val < 112
  · refine (concatenate_apply_piece (t := S4224x512) (s₁ := S112x512) 0 [⟨S112x512, RefHost.v225 (F := Ideal)⟩, ⟨S4112x512, KernelHost.v291 ct⟩] _ _ 0 (by simp) (RefHost.v225 (F := Ideal)) rfl rfl 0 rfl (ix2 ⟨r.val, hp⟩ e)
      (fun i hi => by fin_cases i <;> first | rfl | exact absurd rfl hi) (Nat.zero_add _)).trans ?_
    refine Eq.trans ?_ (pad_apply_of_not_inside _ _ _ (FwdRefHost.v1 ct) (FwdRefHost.cst (F := Ideal)) _ _ (ix4 0 h r b) 2 (fun hh => ?_)).symm
    · rfl
    · have : 112 ≤ r.val := hh.1
      omega
  · have h4 := r.isLt
    refine (concatenate_apply_piece (t := S4224x512) (s₁ := S4112x512) 0 [⟨S112x512, RefHost.v225 (F := Ideal)⟩, ⟨S4112x512, KernelHost.v291 ct⟩] _ _ 1 (by simp) (KernelHost.v291 ct) rfl rfl 112 rfl (ix2 ⟨r.val - 112, by omega⟩ e)
      (fun i hi => by fin_cases i <;> first | rfl | exact absurd rfl hi) (by show 112 + (r.val - 112) = r.val; omega)).trans ?_
    refine Eq.trans ?_ (pad_apply_of_inside _ _ _ (FwdRefHost.v1 ct) (FwdRefHost.cst (F := Ideal)) _ _ (ix4 0 h r b) (ix4 0 h ⟨r.val - 112, by omega⟩ b) (fun i => ?_)).symm
    · unfold KernelHost.v291 FwdRefHost.v1 FwdRefHost.v0
      rw [transpose_apply _ _ _ (ix4 0 h ⟨r.val - 112, by omega⟩ b) (ix4 0 ⟨r.val - 112, by omega⟩ h b) (fun b => by fin_cases b <;> rfl),
        shapeCast_apply _ _ (ix2 ⟨r.val - 112, by omega⟩ e) (ix3 0 ⟨r.val - 112, by omega⟩ e) (by
          rw [Shape.rowMajor_val_two, Shape.rowMajor_val_three]
          show (0 * 4112 + (r.val - 112)) * 512 + e.val = (r.val - 112) * 512 + e.val
          omega),
        shapeCast_apply _ _ (ix4 0 ⟨r.val - 112, by omega⟩ h b) (ix3 0 ⟨r.val - 112, by omega⟩ e) (by
          rw [Shape.rowMajor_val_four, Shape.rowMajor_val_three]
          show (0 * 4112 + (r.val - 112)) * 512 + e.val = ((0 * 4112 + (r.val - 112)) * 4 + h.val) * 128 + b.val
          omega)]
    · fin_cases i
      · rfl
      · show h.val = 0 + h.val * (0 + 1); omega
      · show r.val = 112 + (r.val - 112) * (0 + 1); omega
      · show b.val = 0 + b.val * (0 + 1); omega

theorem dO_apply (ct : Arg) (n : Fin 33) (h : Fin 4) (a b : Fin 128) :
    oTile (KernelHost.v293 ct) n.val h.val (ix2 a b) = RefHost.v151 ct (ix5 0 h n a b) := by
  have ha := a.isLt; have hb := b.isLt; have hn := n.isLt; have hh := h.isLt
  exact rows_of ct h n a b _ _ (Nat.mod_eq_of_lt (by show 128 * n.val + a.val < 4224; omega)) (Nat.mod_eq_of_lt (by show 128 * h.val + b.val < 512; omega))

end Cert.BwdEq

end
-- ==== Proof.BwdStates.lean ====
/- The states that the gradient's call reads, as the scan over the chunks: each is the state before it, decayed, plus its
   chunk's own sum. -/
module

public import proofs.«01_k».proof.Proof.KernelHost
public import proofs.«01_k».proof.Proof.RefLoop0
public import Idealize.ShloMosaic.PureOps.Ideal.Laws

@[expose] public section

set_option maxRecDepth 16384

noncomputable section

namespace Cert.BwdStates

open Idealize.ShloMosaic hiding ix0 ix1 ix2 ix3 ix4 ix5 eq_ix1 eq_ix2 eq_ix3 eq_ix4 eq_ix5
open Idealize.ShloMosaic.TcCoe Idealize.ShloMosaic.ValueIdx
open Cert.KernelIdeal Cert.KernelIdeal.Gen

abbrev Arg : Type := (⟨S1x4112x512, .f32⟩ : BufTy).Contents (Elt Ideal)

variable (k v : Arg) (h : Fin 4) (a b : Fin 128)

/-- The state before chunk `n`. -/
abbrev carried (n : ℕ) : EReal := Scan.carried (FwdRefHost.v103 (F := Ideal)) (FwdRefHost.v102 k v) RefLoop0.order h a b n

theorem factor_apply : KernelHost.v185 (F := Ideal) (ix5 0 0 h a b) = FwdRefHost.v103 (F := Ideal) (ix4 0 h 0 0) := by
  unfold KernelHost.v185 KernelHost.v184
  rw [broadcastInDim_apply _ _ _ (ix5 0 0 h a b) (ix5 0 0 h 0 0) (fun i => by fin_cases i <;> rfl),
    broadcastInDim_apply _ _ _ (ix5 0 0 h 0 0) (ix4 0 h 0 0) (fun i => by fin_cases i <;> rfl)]

/-- One step, over the state before it. -/
theorem step (n : ℕ) (hn : n < 33) {X : Vec Ideal S1x1x4x128x128 .f32} (hX : X (ix5 0 0 h a b) = carried k v h a b n)
    {Y : Vec Ideal S1x1x4x128x128 .f32} (hs : Scan.Stack.Slices ![n, 0, 0, 0, 0] S1x1x4x128x128)
    (hY : Y = extractStridedSlice S1x1x4x128x128 ![n, 0, 0, 0, 0] (FwdRefHost.v102 k v) hs) :
    addf (F := Ideal) (φ := .f32) (mulf (F := Ideal) (φ := .f32) X (KernelHost.v185 (F := Ideal))) Y (ix5 0 0 h a b) = carried k v h a b (n + 1) := by
  subst hY
  show _ = _ * _ + _
  refine congrArg₂ (fun s t : EReal => s + t) (congrArg₂ (fun s t : EReal => s * t) hX (factor_apply h a b)) ?_
  refine extractStridedSlice_apply _ _ _ (ix5 0 0 h a b) (ix5 (RefLoop0.order n) 0 h a b) (fun i => ?_)
  fin_cases i
  · show n % 33 = n + 0; omega
  · rfl
  · show h.val = 0 + h.val; omega
  · show a.val = 0 + a.val; omega
  · show b.val = 0 + b.val; omega

theorem state_0 : KernelHost.v186 (F := Ideal) (ix5 0 0 h a b) = carried k v h a b 0 := Ideal.ofBits_zero_f32

theorem state_1 : KernelHost.v189 k v (ix5 0 0 h a b) = carried k v h a b 1 :=
  step k v h a b 0 (by omega) (state_0 k v h a b) slices_S33x1x4x128x128_S1x1x4x128x128_0_0_0_0_0 rfl
theorem state_2 : KernelHost.v192 k v (ix5 0 0 h a b) = carried k v h a b 2 :=
  step k v h a b 1 (by omega) (state_1 k v h a b) slices_S33x1x4x128x128_S1x1x4x128x128_1_0_0_0_0 rfl
theorem state_3 : KernelHost.v195 k v (ix5 0 0 h a b) = carried k v h a b 3 :=
  step k v h a b 2 (by omega) (state_2 k v h a b) slices_S33x1x4x128x128_S1x1x4x128x128_2_0_0_0_0 rfl
theorem state_4 : KernelHost.v198 k v (ix5 0 0 h a b) = carried k v h a b 4 :=
  step k v h a b 3 (by omega) (state_3 k v h a b) slices_S33x1x4x128x128_S1x1x4x128x128_3_0_0_0_0 rfl
theorem state_5 : KernelHost.v201 k v (ix5 0 0 h a b) = carried k v h a b 5 :=
  step k v h a b 4 (by omega) (state_4 k v h a b) slices_S33x1x4x128x128_S1x1x4x128x128_4_0_0_0_0 rfl
theorem state_6 : KernelHost.v204 k v (ix5 0 0 h a b) = carried k v h a b 6 :=
  step k v h a b 5 (by omega) (state_5 k v h a b) slices_S33x1x4x128x128_S1x1x4x128x128_5_0_0_0_0 rfl
theorem state_7 : KernelHost.v207 k v (ix5 0 0 h a b) = carried k v h a b 7 :=
  step k v h a b 6 (by omega) (state_6 k v h a b) slices_S33x1x4x128x128_S1x1x4x128x128_6_0_0_0_0 rfl
theorem state_8 : KernelHost.v210 k v (ix5 0 0 h a b) = carried k v h a b 8 :=
  step k v h a b 7 (by omega) (state_7 k v h a b) slices_S33x1x4x128x128_S1x1x4x128x128_7_0_0_0_0 rfl
theorem state_9 : KernelHost.v213 k v (ix5 0 0 h a b) = carried k v h a b 9 :=
  step k v h a b 8 (by omega) (state_8 k v h a b) slices_S33x1x4x128x128_S1x1x4x128x128_8_0_0_0_0 rfl
theorem state_10 : KernelHost.v216 k v (ix5 0 0 h a b) = carried k v h a b 10 :=
  step k v h a b 9 (by omega) (state_9 k v h a b) slices_S33x1x4x128x128_S1x1x4x128x128_9_0_0_0_0 rfl
theorem state_11 : KernelHost.v219 k v (ix5 0 0 h a b) = carried k v h a b 11 :=
  step k v h a b 10 (by omega) (state_10 k v h a b) slices_S33x1x4x128x128_S1x1x4x128x128_10_0_0_0_0 rfl
theorem state_12 : KernelHost.v222 k v (ix5 0 0 h a b) = carried k v h a b 12 :=
  step k v h a b 11 (by omega) (state_11 k v h a b) slices_S33x1x4x128x128_S1x1x4x128x128_11_0_0_0_0 rfl
theorem state_13 : KernelHost.v225 k v (ix5 0 0 h a b) = carried k v h a b 13 :=
  step k v h a b 12 (by omega) (state_12 k v h a b) slices_S33x1x4x128x128_S1x1x4x128x128_12_0_0_0_0 rfl
theorem state_14 : KernelHost.v228 k v (ix5 0 0 h a b) = carried k v h a b 14 :=
  step k v h a b 13 (by omega) (state_13 k v h a b) slices_S33x1x4x128x128_S1x1x4x128x128_13_0_0_0_0 rfl
theorem state_15 : KernelHost.v231 k v (ix5 0 0 h a b) = carried k v h a b 15 :=
  step k v h a b 14 (by omega) (state_14 k v h a b) slices_S33x1x4x128x128_S1x1x4x128x128_14_0_0_0_0 rfl
theorem state_16 : KernelHost.v234 k v (ix5 0 0 h a b) = carried k v h a b 16 :=
  step k v h a b 15 (by omega) (state_15 k v h a b) slices_S33x1x4x128x128_S1x1x4x128x128_15_0_0_0_0 rfl
theorem state_17 : KernelHost.v237 k v (ix5 0 0 h a b) = carried k v h a b 17 :=
  step k v h a b 16 (by omega) (state_16 k v h a b) slices_S33x1x4x128x128_S1x1x4x128x128_16_0_0_0_0 rfl
theorem state_18 : KernelHost.v240 k v (ix5 0 0 h a b) = carried k v h a b 18 :=
  step k v h a b 17 (by omega) (state_17 k v h a b) slices_S33x1x4x128x128_S1x1x4x128x128_17_0_0_0_0 rfl
theorem state_19 : KernelHost.v243 k v (ix5 0 0 h a b) = carried k v h a b 19 :=
  step k v h a b 18 (by omega) (state_18 k v h a b) slices_S33x1x4x128x128_S1x1x4x128x128_18_0_0_0_0 rfl
theorem state_20 : KernelHost.v246 k v (ix5 0 0 h a b) = carried k v h a b 20 :=
  step k v h a b 19 (by omega) (state_19 k v h a b) slices_S33x1x4x128x128_S1x1x4x128x128_19_0_0_0_0 rfl
theorem state_21 : KernelHost.v249 k v (ix5 0 0 h a b) = carried k v h a b 21 :=
  step k v h a b 20 (by omega) (state_20 k v h a b) slices_S33x1x4x128x128_S1x1x4x128x128_20_0_0_0_0 rfl
theorem state_22 : KernelHost.v252 k v (ix5 0 0 h a b) = carried k v h a b 22 :=
  step k v h a b 21 (by omega) (state_21 k v h a b) slices_S33x1x4x128x128_S1x1x4x128x128_21_0_0_0_0 rfl
theorem state_23 : KernelHost.v255 k v (ix5 0 0 h a b) = carried k v h a b 23 :=
  step k v h a b 22 (by omega) (state_22 k v h a b) slices_S33x1x4x128x128_S1x1x4x128x128_22_0_0_0_0 rfl
theorem state_24 : KernelHost.v258 k v (ix5 0 0 h a b) = carried k v h a b 24 :=
  step k v h a b 23 (by omega) (state_23 k v h a b) slices_S33x1x4x128x128_S1x1x4x128x128_23_0_0_0_0 rfl
theorem state_25 : KernelHost.v261 k v (ix5 0 0 h a b) = carried k v h a b 25 :=
  step k v h a b 24 (by omega) (state_24 k v h a b) slices_S33x1x4x128x128_S1x1x4x128x128_24_0_0_0_0 rfl
theorem state_26 : KernelHost.v264 k v (ix5 0 0 h a b) = carried k v h a b 26 :=
  step k v h a b 25 (by omega) (state_25 k v h a b) slices_S33x1x4x128x128_S1x1x4x128x128_25_0_0_0_0 rfl
theorem state_27 : KernelHost.v267 k v (ix5 0 0 h a b) = carried k v h a b 27 :=
  step k v h a b 26 (by omega) (state_26 k v h a b) slices_S33x1x4x128x128_S1x1x4x128x128_26_0_0_0_0 rfl
theorem state_28 : KernelHost.v270 k v (ix5 0 0 h a b) = carried k v h a b 28 :=
  step k v h a b 27 (by omega) (state_27 k v h a b) slices_S33x1x4x128x128_S1x1x4x128x128_27_0_0_0_0 rfl
theorem state_29 : KernelHost.v273 k v (ix5 0 0 h a b) = carried k v h a b 29 :=
  step k v h a b 28 (by omega) (state_28 k v h a b) slices_S33x1x4x128x128_S1x1x4x128x128_28_0_0_0_0 rfl
theorem state_30 : KernelHost.v276 k v (ix5 0 0 h a b) = carried k v h a b 30 :=
  step k v h a b 29 (by omega) (state_29 k v h a b) slices_S33x1x4x128x128_S1x1x4x128x128_29_0_0_0_0 rfl
theorem state_31 : KernelHost.v279 k v (ix5 0 0 h a b) = carried k v h a b 31 :=
  step k v h a b 30 (by omega) (state_30 k v h a b) slices_S33x1x4x128x128_S1x1x4x128x128_30_0_0_0_0 rfl
theorem state_32 : KernelHost.v282 k v (ix5 0 0 h a b) = carried k v h a b 32 :=
  step k v h a b 31 (by omega) (state_31 k v h a b) slices_S33x1x4x128x128_S1x1x4x128x128_31_0_0_0_0 rfl

theorem group_0 (r : Fin 11) : KernelHost.v283 k v (ix5 r 0 h a b) = carried k v h a b (0 + r.val) := by
  unfold KernelHost.v283
  fin_cases r
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 0 (by simp) (KernelHost.v186 (F := Ideal)) rfl rfl 0 rfl (ix5 0 0 h a b)
      (fun i hi => by fin_cases i <;> first | rfl | exact absurd rfl hi) rfl).trans (state_0 k v h a b)
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 1 (by simp) (KernelHost.v189 k v) rfl rfl 1 rfl (ix5 0 0 h a b)
      (fun i hi => by fin_cases i <;> first | rfl | exact absurd rfl hi) rfl).trans (state_1 k v h a b)
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 2 (by simp) (KernelHost.v192 k v) rfl rfl 2 rfl (ix5 0 0 h a b)
      (fun i hi => by fin_cases i <;> first | rfl | exact absurd rfl hi) rfl).trans (state_2 k v h a b)
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 3 (by simp) (KernelHost.v195 k v) rfl rfl 3 rfl (ix5 0 0 h a b)
      (fun i hi => by fin_cases i <;> first | rfl | exact absurd rfl hi) rfl).trans (state_3 k v h a b)
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 4 (by simp) (KernelHost.v198 k v) rfl rfl 4 rfl (ix5 0 0 h a b)
      (fun i hi => by fin_cases i <;> first | rfl | exact absurd rfl hi) rfl).trans (state_4 k v h a b)
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 5 (by simp) (KernelHost.v201 k v) rfl rfl 5 rfl (ix5 0 0 h a b)
      (fun i hi => by fin_cases i <;> first | rfl | exact absurd rfl hi) rfl).trans (state_5 k v h a b)
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 6 (by simp) (KernelHost.v204 k v) rfl rfl 6 rfl (ix5 0 0 h a b)
      (fun i hi => by fin_cases i <;> first | rfl | exact absurd rfl hi) rfl).trans (state_6 k v h a b)
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 7 (by simp) (KernelHost.v207 k v) rfl rfl 7 rfl (ix5 0 0 h a b)
      (fun i hi => by fin_cases i <;> first | rfl | exact absurd rfl hi) rfl).trans (state_7 k v h a b)
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 8 (by simp) (KernelHost.v210 k v) rfl rfl 8 rfl (ix5 0 0 h a b)
      (fun i hi => by fin_cases i <;> first | rfl | exact absurd rfl hi) rfl).trans (state_8 k v h a b)
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 9 (by simp) (KernelHost.v213 k v) rfl rfl 9 rfl (ix5 0 0 h a b)
      (fun i hi => by fin_cases i <;> first | rfl | exact absurd rfl hi) rfl).trans (state_9 k v h a b)
  · exact (concatenate_apply_piece (t := S11x1x4x128x128) (s₁ := S1x1x4x128x128) 0 [⟨S1x1x4x128x128, KernelHost.v186 (F := Ideal)⟩, ⟨S1x1x4x128x128, KernelHost.v189 k v⟩, ⟨S1x1x4x128x128, KernelHost.v192 k v⟩, ⟨S1x1x4x128x128, KernelHost.v195 k v⟩, ⟨S1x1x4x128x128, KernelHost.v198 k v⟩, ⟨S1x1x4x128x128, KernelHost.v201 k v⟩, ⟨S1x1x4x128x128, KernelHost.v204 k v⟩, ⟨S1x1x4x128x128, KernelHost.v207 k v⟩, ⟨S1x1x4x128x128, KernelHost.v210 k v⟩, ⟨S1x1x4x128x128, KernelHost.v213 k v⟩, ⟨S1x1x4x128x128, KernelHost.v216 k v⟩] _ _ 10 (by simp) (KernelHost.v216 k v) rfl rfl 10 rfl (ix5 0 0 h a b)
      (fun i hi => by fin_cases i <;> first | rfl | exact absurd rfl hi) rfl).trans (state_10 k v h a b)

theorem group_1 (r : Fin 11) : KernelHost.v284 k v (ix5 r 0 h a b) = carried k v h a b (11 + r.val) := by
  unfold KernelHost.v284
  fin_cases r
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 0 (by simp) (KernelHost.v219 k v) rfl rfl 0 rfl (ix5 0 0 h a b)
      (fun i hi => by fin_cases i <;> first | rfl | exact absurd rfl hi) rfl).trans (state_11 k v h a b)
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 1 (by simp) (KernelHost.v222 k v) rfl rfl 1 rfl (ix5 0 0 h a b)
      (fun i hi => by fin_cases i <;> first | rfl | exact absurd rfl hi) rfl).trans (state_12 k v h a b)
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 2 (by simp) (KernelHost.v225 k v) rfl rfl 2 rfl (ix5 0 0 h a b)
      (fun i hi => by fin_cases i <;> first | rfl | exact absurd rfl hi) rfl).trans (state_13 k v h a b)
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 3 (by simp) (KernelHost.v228 k v) rfl rfl 3 rfl (ix5 0 0 h a b)
      (fun i hi => by fin_cases i <;> first | rfl | exact absurd rfl hi) rfl).trans (state_14 k v h a b)
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 4 (by simp) (KernelHost.v231 k v) rfl rfl 4 rfl (ix5 0 0 h a b)
      (fun i hi => by fin_cases i <;> first | rfl | exact absurd rfl hi) rfl).trans (state_15 k v h a b)
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 5 (by simp) (KernelHost.v234 k v) rfl rfl 5 rfl (ix5 0 0 h a b)
      (fun i hi => by fin_cases i <;> first | rfl | exact absurd rfl hi) rfl).trans (state_16 k v h a b)
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 6 (by simp) (KernelHost.v237 k v) rfl rfl 6 rfl (ix5 0 0 h a b)
      (fun i hi => by fin_cases i <;> first | rfl | exact absurd rfl hi) rfl).trans (state_17 k v h a b)
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 7 (by simp) (KernelHost.v240 k v) rfl rfl 7 rfl (ix5 0 0 h a b)
      (fun i hi => by fin_cases i <;> first | rfl | exact absurd rfl hi) rfl).trans (state_18 k v h a b)
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 8 (by simp) (KernelHost.v243 k v) rfl rfl 8 rfl (ix5 0 0 h a b)
      (fun i hi => by fin_cases i <;> first | rfl | exact absurd rfl hi) rfl).trans (state_19 k v h a b)
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 9 (by simp) (KernelHost.v246 k v) rfl rfl 9 rfl (ix5 0 0 h a b)
      (fun i hi => by fin_cases i <;> first | rfl | exact absurd rfl hi) rfl).trans (state_20 k v h a b)
  · exact (concatenate_apply_piece (t := S11x1x4x128x128) (s₁ := S1x1x4x128x128) 0 [⟨S1x1x4x128x128, KernelHost.v219 k v⟩, ⟨S1x1x4x128x128, KernelHost.v222 k v⟩, ⟨S1x1x4x128x128, KernelHost.v225 k v⟩, ⟨S1x1x4x128x128, KernelHost.v228 k v⟩, ⟨S1x1x4x128x128, KernelHost.v231 k v⟩, ⟨S1x1x4x128x128, KernelHost.v234 k v⟩, ⟨S1x1x4x128x128, KernelHost.v237 k v⟩, ⟨S1x1x4x128x128, KernelHost.v240 k v⟩, ⟨S1x1x4x128x128, KernelHost.v243 k v⟩, ⟨S1x1x4x128x128, KernelHost.v246 k v⟩, ⟨S1x1x4x128x128, KernelHost.v249 k v⟩] _ _ 10 (by simp) (KernelHost.v249 k v) rfl rfl 10 rfl (ix5 0 0 h a b)
      (fun i hi => by fin_cases i <;> first | rfl | exact absurd rfl hi) rfl).trans (state_21 k v h a b)

theorem group_2 (r : Fin 11) : KernelHost.v285 k v (ix5 r 0 h a b) = carried k v h a b (22 + r.val) := by
  unfold KernelHost.v285
  fin_cases r
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 0 (by simp) (KernelHost.v252 k v) rfl rfl 0 rfl (ix5 0 0 h a b)
      (fun i hi => by fin_cases i <;> first | rfl | exact absurd rfl hi) rfl).trans (state_22 k v h a b)
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 1 (by simp) (KernelHost.v255 k v) rfl rfl 1 rfl (ix5 0 0 h a b)
      (fun i hi => by fin_cases i <;> first | rfl | exact absurd rfl hi) rfl).trans (state_23 k v h a b)
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 2 (by simp) (KernelHost.v258 k v) rfl rfl 2 rfl (ix5 0 0 h a b)
      (fun i hi => by fin_cases i <;> first | rfl | exact absurd rfl hi) rfl).trans (state_24 k v h a b)
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 3 (by simp) (KernelHost.v261 k v) rfl rfl 3 rfl (ix5 0 0 h a b)
      (fun i hi => by fin_cases i <;> first | rfl | exact absurd rfl hi) rfl).trans (state_25 k v h a b)
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 4 (by simp) (KernelHost.v264 k v) rfl rfl 4 rfl (ix5 0 0 h a b)
      (fun i hi => by fin_cases i <;> first | rfl | exact absurd rfl hi) rfl).trans (state_26 k v h a b)
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 5 (by simp) (KernelHost.v267 k v) rfl rfl 5 rfl (ix5 0 0 h a b)
      (fun i hi => by fin_cases i <;> first | rfl | exact absurd rfl hi) rfl).trans (state_27 k v h a b)
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 6 (by simp) (KernelHost.v270 k v) rfl rfl 6 rfl (ix5 0 0 h a b)
      (fun i hi => by fin_cases i <;> first | rfl | exact absurd rfl hi) rfl).trans (state_28 k v h a b)
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 7 (by simp) (KernelHost.v273 k v) rfl rfl 7 rfl (ix5 0 0 h a b)
      (fun i hi => by fin_cases i <;> first | rfl | exact absurd rfl hi) rfl).trans (state_29 k v h a b)
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 8 (by simp) (KernelHost.v276 k v) rfl rfl 8 rfl (ix5 0 0 h a b)
      (fun i hi => by fin_cases i <;> first | rfl | exact absurd rfl hi) rfl).trans (state_30 k v h a b)
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 9 (by simp) (KernelHost.v279 k v) rfl rfl 9 rfl (ix5 0 0 h a b)
      (fun i hi => by fin_cases i <;> first | rfl | exact absurd rfl hi) rfl).trans (state_31 k v h a b)
  · exact (concatenate_apply_piece (t := S11x1x4x128x128) (s₁ := S1x1x4x128x128) 0 [⟨S1x1x4x128x128, KernelHost.v252 k v⟩, ⟨S1x1x4x128x128, KernelHost.v255 k v⟩, ⟨S1x1x4x128x128, KernelHost.v258 k v⟩, ⟨S1x1x4x128x128, KernelHost.v261 k v⟩, ⟨S1x1x4x128x128, KernelHost.v264 k v⟩, ⟨S1x1x4x128x128, KernelHost.v267 k v⟩, ⟨S1x1x4x128x128, KernelHost.v270 k v⟩, ⟨S1x1x4x128x128, KernelHost.v273 k v⟩, ⟨S1x1x4x128x128, KernelHost.v276 k v⟩, ⟨S1x1x4x128x128, KernelHost.v279 k v⟩, ⟨S1x1x4x128x128, KernelHost.v282 k v⟩] _ _ 10 (by simp) (KernelHost.v282 k v) rfl rfl 10 rfl (ix5 0 0 h a b)
      (fun i hi => by fin_cases i <;> first | rfl | exact absurd rfl hi) rfl).trans (state_32 k v h a b)

/-- The stack of states. -/
theorem stack_apply (n : Fin 33) : KernelHost.v286 k v (ix5 n 0 h a b) = carried k v h a b n.val := by
  have hn := n.isLt
  unfold KernelHost.v286
  by_cases h0 : n.val < 11
  · exact (concatenate_apply_piece (t := S33x1x4x128x128) (s₁ := S11x1x4x128x128) 0 [⟨S11x1x4x128x128, KernelHost.v283 k v⟩, ⟨S11x1x4x128x128, KernelHost.v284 k v⟩, ⟨S11x1x4x128x128, KernelHost.v285 k v⟩] _ _ 0 (by simp) (KernelHost.v283 k v) rfl rfl 0 rfl (ix5 ⟨n.val - 0, by omega⟩ 0 h a b)
      (fun i hi => by fin_cases i <;> first | rfl | exact absurd rfl hi) (by show 0 + (n.val - 0) = n.val; omega)).trans ((group_0 k v h a b ⟨n.val - 0, by omega⟩).trans (congrArg (carried k v h a b) (by show 0 + (n.val - 0) = n.val; omega)))
  · by_cases h1 : n.val < 22
    · exact (concatenate_apply_piece (t := S33x1x4x128x128) (s₁ := S11x1x4x128x128) 0 [⟨S11x1x4x128x128, KernelHost.v283 k v⟩, ⟨S11x1x4x128x128, KernelHost.v284 k v⟩, ⟨S11x1x4x128x128, KernelHost.v285 k v⟩] _ _ 1 (by simp) (KernelHost.v284 k v) rfl rfl 11 rfl (ix5 ⟨n.val - 11, by omega⟩ 0 h a b)
      (fun i hi => by fin_cases i <;> first | rfl | exact absurd rfl hi) (by show 11 + (n.val - 11) = n.val; omega)).trans ((group_1 k v h a b ⟨n.val - 11, by omega⟩).trans (congrArg (carried k v h a b) (by show 11 + (n.val - 11) = n.val; omega)))
    · exact (concatenate_apply_piece (t := S33x1x4x128x128) (s₁ := S11x1x4x128x128) 0 [⟨S11x1x4x128x128, KernelHost.v283 k v⟩, ⟨S11x1x4x128x128, KernelHost.v284 k v⟩, ⟨S11x1x4x128x128, KernelHost.v285 k v⟩] _ _ 2 (by simp) (KernelHost.v285 k v) rfl rfl 22 rfl (ix5 ⟨n.val - 22, by omega⟩ 0 h a b)
      (fun i hi => by fin_cases i <;> first | rfl | exact absurd rfl hi) (by show 22 + (n.val - 22) = n.val; omega)).trans ((group_2 k v h a b ⟨n.val - 22, by omega⟩).trans (congrArg (carried k v h a b) (by show 22 + (n.val - 22) = n.val; omega)))

/-- THE SAVED STATES that the call reads. -/
theorem saved_apply (n : Fin 33) : KernelHost.v289 k v (ix4 h n a b) = carried k v h a b n.val := by
  show KernelHost.v288 k v (ix4 h n a b) = _
  unfold KernelHost.v288 KernelHost.v287
  rw [transpose_apply _ _ _ (ix4 h n a b) (ix4 n h a b) (fun b => by fin_cases b <;> rfl),
    shapeCast_apply _ _ (ix4 n h a b) (ix5 n 0 h a b) (by
      rw [Shape.rowMajor_val_four, Shape.rowMajor_val_five]
      show ((((n.val * 1 + 0) * 4 + h.val) * 128 + a.val) * 128 + b.val) = ((n.val * 4 + h.val) * 128 + a.val) * 128 + b.val
      omega)]
  exact stack_apply k v h a b n

end Cert.BwdStates

end
-- ==== Proof.BwdRaw.lean ====
/- The retention's gradient before the rotation is turned back, chunk by chunk and head by head: over the reals the kernel's
   tiles are the reference's products, and the state gradient that the kernel carries is the reference's second scan. -/
module

public import proofs.«01_k».proof.Proof.BwdTables
public import proofs.«01_k».proof.Proof.BwdStates
public import proofs.«01_k».proof.Proof.FwdEq
public import proofs.«01_k».proof.Proof.RefLoop1

@[expose] public section

set_option maxRecDepth 16384

noncomputable section

namespace Cert.BwdEq

open Idealize.ShloMosaic hiding ix0 ix1 ix2 ix3 ix4 ix5 eq_ix1 eq_ix2 eq_ix3 eq_ix4 eq_ix5
open Idealize.ShloMosaic.TcCoe Idealize.ShloMosaic.ValueIdx
open Cert.KernelIdeal Cert.KernelIdeal.Gen Cert.BwdBlock
open Cert.FwdBlock (zTile dTile)
open scoped BigOperators

/-! ## The kernel's tiles at an index -/

theorem mulf_at {s : Shape} (x y : FVec Ideal s .f32) (i : s.Idx) : mulf x y i = ((x i : EReal) * y i : EReal) := rfl
theorem addf_at {s : Shape} (x y : FVec Ideal s .f32) (i : s.Idx) : addf x y i = ((x i : EReal) + y i : EReal) := rfl

section
variable (x y st : Vec Ideal S128x128 .bf16) (mask dec g cd : Vec Ideal S128x128 .f32) (q' k' v' o : Vec Ideal S128x128 .bf16) (a b : Fin 128)

theorem masked_apply : masked x y mask (ix2 a b) = ((∑ d : Fin 128, (x (ix2 a d) : EReal) * y (ix2 b d)) * mask (ix2 a b) : EReal) :=
  congrArg (fun t : EReal => t * mask (ix2 a b)) (Dots.nt (φ₁ := .bf16) (φ₂ := .bf16) _ x y a b)

theorem gradStep_apply : gradStep q' o dec cd g (ix2 a b)
    = ((g (ix2 a b) : EReal) * cd (ix2 a b) + ∑ c : Fin 128, ((q' (ix2 c a) : EReal) * dec (ix2 c a)) * o (ix2 c b) : EReal) :=
  congrArg (fun t : EReal => (g (ix2 a b) : EReal) * cd (ix2 a b) + t) (Dots.tn (φ₁ := .bf16) (φ₂ := .bf16) _ (decayed q' dec) o a b)

theorem dvRaw_apply : dvRaw q' k' o mask dec g (ix2 a b)
    = ((∑ c : Fin 128, (masked q' k' mask (ix2 c a) : EReal) * o (ix2 c b)) + ∑ c : Fin 128, ((k' (ix2 a c) : EReal) * dec (ix2 a c)) * g (ix2 c b) : EReal) :=
  congrArg₂ (fun s t : EReal => s + t) (Dots.tn (φ₁ := .bf16) (φ₂ := .bf16) _ (masked q' k' mask) o a b)
    (Dots.nn (φ₁ := .bf16) (φ₂ := .bf16) _ (decayed k' dec) (truncf .bf16 g bitsLt_bf16_f32) a b)

theorem dqRaw_apply : dqRaw k' v' o st mask dec (ix2 a b)
    = ((∑ c : Fin 128, (masked o v' mask (ix2 a c) : EReal) * k' (ix2 c b)) + (∑ c : Fin 128, (o (ix2 a c) : EReal) * st (ix2 b c)) * dec (ix2 a b) : EReal) :=
  congrArg₂ (fun s t : EReal => s + t * dec (ix2 a b)) (Dots.nn (φ₁ := .bf16) (φ₂ := .bf16) _ (masked o v' mask) k' a b)
    (Dots.nt (φ₁ := .bf16) (φ₂ := .bf16) _ o st a b)

theorem dkRaw_apply : dkRaw q' v' o mask dec g (ix2 a b)
    = ((∑ c : Fin 128, (masked o v' mask (ix2 c a) : EReal) * q' (ix2 c b)) + (∑ c : Fin 128, (v' (ix2 a c) : EReal) * g (ix2 b c)) * dec (ix2 a b) : EReal) :=
  congrArg₂ (fun s t : EReal => s + t * dec (ix2 a b)) (Dots.tn (φ₁ := .bf16) (φ₂ := .bf16) _ (masked o v' mask) q' a b)
    (Dots.nt (φ₁ := .bf16) (φ₂ := .bf16) _ v' (truncf .bf16 g bitsLt_bf16_f32) a b)

end

variable (q k v ct : Arg)

/-! ## The reference's products at an index -/

section
variable (sp gp : Vec Ideal Scan.Stack .f32) (h : Fin 4) (n : Fin 33) (a b : Fin 128)

theorem v130_apply : FwdRefHost.v130 q k (ix5 0 h n a b)
    = ((∑ d : Fin 128, (FwdRefHost.v77 q (ix5 0 h n a d) : EReal) * FwdRefHost.v78 k (ix5 0 h n b d)) * FwdRefHost.v129 (F := Ideal) (ix5 0 h n a b) : EReal) :=
  (mulf_at (FwdRefHost.v127 q k) (FwdRefHost.v129 (F := Ideal)) _).trans <| congrArg (fun t : EReal => t * FwdRefHost.v129 (F := Ideal) (ix5 0 h n a b)) (Dots.hh_nt _ (FwdRefHost.v77 q) (FwdRefHost.v78 k) h n a b)

theorem v164_apply : RefHost.v164 ct v (ix5 0 h n a b)
    = ((∑ d : Fin 128, (RefHost.v151 ct (ix5 0 h n a d) : EReal) * FwdRefHost.v79 v (ix5 0 h n b d)) * FwdRefHost.v129 (F := Ideal) (ix5 0 h n a b) : EReal) :=
  (mulf_at (RefHost.v162 ct v) (FwdRefHost.v129 (F := Ideal)) _).trans <| congrArg (fun t : EReal => t * FwdRefHost.v129 (F := Ideal) (ix5 0 h n a b)) (Dots.hh_nt _ (RefHost.v151 ct) (FwdRefHost.v79 v) h n a b)

theorem v161_apply : RefHost.v161 ct q k (ix5 0 h n a b)
    = (∑ c : Fin 128, (RefHost.v151 ct (ix5 0 h n c b) : EReal) * FwdRefHost.v130 q k (ix5 0 h n c a) : EReal) :=
  (transpose_apply _ (RefHost.v160 ct q k) _ (ix5 0 h n a b) (ix5 0 h n b a) (fun b => by fin_cases b <;> rfl)).trans
    (Dots.hh_tn _ (RefHost.v151 ct) (FwdRefHost.v130 q k) h n b a)

theorem v169_apply : RefHost.v169 gp k (ix5 0 h n a b)
    = (∑ c : Fin 128, (gp (ix5 n 0 h c b) : EReal) * (FwdRefHost.v78 k (ix5 0 h n a c) * FwdRefHost.v100 (F := Ideal) (ix5 0 h n a c)) : EReal) :=
  (transpose_apply _ (RefHost.v168 gp k) _ (ix5 0 h n a b) (ix5 n 0 h b a) (fun b => by fin_cases b <;> rfl)).trans
    ((Dots.nh_tt _ gp (FwdRefHost.v101 k) h n b a).trans (Finset.sum_congr rfl fun c _ =>
      congrArg (fun t : EReal => gp (ix5 n 0 h c b) * t) (mulf_at (FwdRefHost.v78 k) (FwdRefHost.v100 (F := Ideal)) _)))

theorem v170_apply : RefHost.v170 ct q k gp (ix5 0 h n a b) = (RefHost.v161 ct q k (ix5 0 h n a b) + RefHost.v169 gp k (ix5 0 h n a b) : EReal) :=
  addf_at (RefHost.v161 ct q k) (RefHost.v169 gp k) _

theorem v167_apply : RefHost.v167 ct sp v k (ix5 0 h n a b)
    = ((∑ c : Fin 128, (RefHost.v151 ct (ix5 0 h n a c) : EReal) * sp (ix5 n 0 h b c)) * FwdRefHost.v136 (F := Ideal) (ix5 0 h n a b)
      + ∑ c : Fin 128, (RefHost.v164 ct v (ix5 0 h n a c) : EReal) * FwdRefHost.v78 k (ix5 0 h n c b) : EReal) :=
  (addf_at (RefHost.v156 ct sp) (RefHost.v166 ct v k) _).trans <| (congrArg (fun s : EReal => s + RefHost.v166 ct v k (ix5 0 h n a b)) (mulf_at (RefHost.v154 ct sp) (FwdRefHost.v136 (F := Ideal)) _)).trans <|
  congrArg₂ (fun s t : EReal => s * FwdRefHost.v136 (F := Ideal) (ix5 0 h n a b) + t) (Dots.hn_nt _ (RefHost.v151 ct) sp h n a b)
    (Dots.hh_nn _ (RefHost.v164 ct v) (FwdRefHost.v78 k) h n a b)

theorem v172_apply : RefHost.v172 gp v (ix5 0 h n a b) = (∑ c : Fin 128, (gp (ix5 n 0 h b c) : EReal) * FwdRefHost.v79 v (ix5 0 h n a c) : EReal) :=
  (transpose_apply _ (RefHost.v171 gp v) _ (ix5 0 h n a b) (ix5 n 0 h b a) (fun b => by fin_cases b <;> rfl)).trans
    (Dots.nh_nt _ gp (FwdRefHost.v79 v) h n b a)

theorem v175_apply : RefHost.v175 ct v q gp (ix5 0 h n a b)
    = ((∑ c : Fin 128, (RefHost.v164 ct v (ix5 0 h n c a) : EReal) * FwdRefHost.v77 q (ix5 0 h n c b))
      + (∑ c : Fin 128, (gp (ix5 n 0 h b c) : EReal) * FwdRefHost.v79 v (ix5 0 h n a c)) * FwdRefHost.v100 (F := Ideal) (ix5 0 h n a b) : EReal) :=
  (addf_at (RefHost.v165 ct v q) (RefHost.v174 gp v) _).trans <| (congrArg (fun t : EReal => RefHost.v165 ct v q (ix5 0 h n a b) + t) (mulf_at (RefHost.v172 gp v) (FwdRefHost.v100 (F := Ideal)) _)).trans <|
  congrArg₂ (fun s t : EReal => s + t * FwdRefHost.v100 (F := Ideal) (ix5 0 h n a b)) (Dots.hh_tn _ (RefHost.v164 ct v) (FwdRefHost.v77 q) h n a b)
    (v172_apply v gp h n a b)

end

/-- The arrays that the call is launched over. -/
abbrev arrs : Arrays Ideal := ⟨FwdHost.v194 q k v, KernelHost.v18 (F := Ideal), KernelHost.v26 (F := Ideal), FwdHost.v79 (F := Ideal), KernelHost.v289 k v, KernelHost.v293 ct⟩

/-! ## The decays at an index -/

theorem mask_at (h : Fin 4) (n : Fin 33) (a b : Fin 128) : FwdRefHost.v129 (F := Ideal) (ix5 0 h n a b) = FwdRefHost.v118 (F := Ideal) (ix3 h a b) := by
  unfold FwdRefHost.v129 FwdRefHost.v128
  rw [broadcastInDim_apply _ _ _ (ix5 0 h n a b) (ix5 0 h 0 a b) (fun i => by fin_cases i <;> rfl),
    broadcastInDim_apply _ _ _ (ix5 0 h 0 a b) (ix3 h a b) (fun i => by fin_cases i <;> rfl)]

theorem qdec_at (h : Fin 4) (n : Fin 33) (a b : Fin 128) : FwdRefHost.v136 (F := Ideal) (ix5 0 h n a b) = FwdRefHost.v126 (F := Ideal) (ix2 h a) := by
  unfold FwdRefHost.v136 FwdRefHost.v135
  rw [broadcastInDim_apply _ _ _ (ix5 0 h n a b) (ix5 0 h 0 a 0) (fun i => by fin_cases i <;> rfl),
    broadcastInDim_apply _ _ _ (ix5 0 h 0 a 0) (ix2 h a) (fun i => by fin_cases i <;> rfl)]

theorem kdec_at (h : Fin 4) (n : Fin 33) (a b : Fin 128) : FwdRefHost.v100 (F := Ideal) (ix5 0 h n a b) = FwdRefHost.v95 (F := Ideal) (ix2 h a) := by
  unfold FwdRefHost.v100 FwdRefHost.v99
  rw [broadcastInDim_apply _ _ _ (ix5 0 h n a b) (ix5 0 h 0 a 0) (fun i => by fin_cases i <;> rfl),
    broadcastInDim_apply _ _ _ (ix5 0 h 0 a 0) (ix2 h a) (fun i => by fin_cases i <;> rfl)]

/-! ## The tiles that a chunk reads -/

section
variable (n : Fin 33) (h : Fin 4) (a b : Fin 128)

theorem q_tile : zTile (FwdHost.v194 q k v) 0 n.val h.val (ix2 a b) = FwdRefHost.v77 q (ix5 0 h n a b) := FwdEq.zTile_apply q k v 0 n h a b
theorem k_tile : zTile (FwdHost.v194 q k v) 1 n.val h.val (ix2 a b) = FwdRefHost.v78 k (ix5 0 h n a b) := FwdEq.zTile_apply q k v 1 n h a b
theorem v_tile : zTile (FwdHost.v194 q k v) 2 n.val h.val (ix2 a b) = FwdRefHost.v79 v (ix5 0 h n a b) := FwdEq.zTile_apply q k v 2 n h a b

theorem st_tile : sTile (KernelHost.v289 k v) n.val h (ix2 a b)
    = Scan.carried (FwdRefHost.v103 (F := Ideal)) (FwdRefHost.v102 k v) RefLoop0.order h a b n.val := by
  refine Eq.trans ?_ (BwdStates.saved_apply k v h a b n)
  exact congrArg (fun n' : Fin 33 => KernelHost.v289 k v (ix4 h n' a b)) (Fin.ext (Nat.mod_eq_of_lt n.isLt))

/-- The masked scores. -/
theorem scores : masked (F := Ideal) (zTile (FwdHost.v194 q k v) 0 n.val h.val) (zTile (FwdHost.v194 q k v) 1 n.val h.val) (dTile (FwdHost.v79 (F := Ideal)) h 0) (ix2 a b)
    = FwdRefHost.v130 q k (ix5 0 h n a b) := by
  rw [masked_apply, v130_apply, FwdEq.mask_apply, mask_at]
  refine congrArg (fun t : EReal => t * _) (Finset.sum_congr rfl fun d _ => ?_)
  rw [q_tile, k_tile]

/-- The masked gradient of the scores. -/
theorem score_grads : masked (F := Ideal) (oTile (KernelHost.v293 ct) n.val h.val) (zTile (FwdHost.v194 q k v) 2 n.val h.val) (dTile (FwdHost.v79 (F := Ideal)) h 0) (ix2 a b)
    = RefHost.v164 ct v (ix5 0 h n a b) := by
  rw [masked_apply, v164_apply, FwdEq.mask_apply, mask_at]
  refine congrArg (fun t : EReal => t * _) (Finset.sum_congr rfl fun d _ => ?_)
  rw [dO_apply, v_tile]

/-! ## The state gradient -/

/-- A chunk's share of the state gradient. -/
theorem share_apply : RefHost.v153 ct q (ix5 n 0 h a b)
    = ∑ c : Fin 128, (FwdRefHost.v77 q (ix5 0 h n c a) * FwdRefHost.v126 (F := Ideal) (ix2 h c) : EReal) * RefHost.v151 ct (ix5 0 h n c b) := by
  unfold RefHost.v153
  rw [transpose_apply _ _ _ (ix5 n 0 h a b) (ix5 0 h n b a) (fun b => by fin_cases b <;> rfl)]
  refine (Dots.hh_tn _ (RefHost.v151 ct) (FwdRefHost.v137 q) h n b a).trans (Finset.sum_congr rfl fun c _ => ?_)
  refine (mul_comm (_ : EReal) _).trans (congrArg (fun t : EReal => t * _) ?_)
  exact (mulf_at (FwdRefHost.v77 q) (FwdRefHost.v136 (F := Ideal)) _).trans (congrArg (fun t : EReal => FwdRefHost.v77 q (ix5 0 h n c a) * t) (qdec_at h n c a))

end

theorem grad_eq (h : Fin 4) (a b : Fin 128) : ∀ p ≤ 33, grad (arrs q k v ct) h p (ix2 a b)
    = Scan.carried (FwdRefHost.v103 (F := Ideal)) (RefHost.v153 ct q) RefLoop1.order h a b p
  | 0, _ => Ideal.ofBits_zero_f32
  | p + 1, hp => by
    show gradStep (zTile (FwdHost.v194 q k v) 0 (RefLoop1.order p).val h.val) (oTile (KernelHost.v293 ct) (RefLoop1.order p).val h.val)
      (dTile (FwdHost.v79 (F := Ideal)) h 2) (dTile (FwdHost.v79 (F := Ideal)) h 3) (grad (arrs q k v ct) h p) (ix2 a b) = (_ * _ + _ : EReal)
    rw [gradStep_apply, FwdEq.factor_apply, share_apply, grad_eq h a b p (by omega), FwdEq.cdec_apply]
    refine congrArg (fun t : EReal => _ + t) (Finset.sum_congr rfl fun c _ => ?_)
    rw [q_tile, FwdEq.qdec_apply, dO_apply]

/-! ## The gradients -/

/-- What the reference's two stacks have to be: the states before each chunk, and the state gradients behind it. -/
def IsStates (u : Vec Ideal Scan.Stack .f32) : Prop :=
  ∀ (n : Fin 33) (h : Fin 4) (a b : Fin 128), u (ix5 n 0 h a b) = Scan.carried (FwdRefHost.v103 (F := Ideal)) (FwdRefHost.v102 k v) RefLoop0.order h a b n.val
def IsGrads (u : Vec Ideal Scan.Stack .f32) : Prop :=
  ∀ (n : Fin 33) (h : Fin 4) (a b : Fin 128), u (ix5 n 0 h a b) = Scan.carried (FwdRefHost.v103 (F := Ideal)) (RefHost.v153 ct q) RefLoop1.order h a b (32 - n.val)

variable {sp gp : Vec Ideal Scan.Stack .f32} (n : Fin 33) (h : Fin 4) (a b : Fin 128)

theorem grad_tile (hg : IsGrads q ct gp) : grad (arrs q k v ct) h (32 - n.val) (ix2 a b) = gp (ix5 n 0 h a b) :=
  (grad_eq q k v ct h a b (32 - n.val) (by omega)).trans (hg n h a b).symm

/-- The values' gradient. -/
theorem dv_raw (hg : IsGrads q ct gp) : dvRaw (F := Ideal) (zTile (FwdHost.v194 q k v) 0 n.val h.val) (zTile (FwdHost.v194 q k v) 1 n.val h.val)
      (oTile (KernelHost.v293 ct) n.val h.val) (dTile (FwdHost.v79 (F := Ideal)) h 0) (dTile (FwdHost.v79 (F := Ideal)) h 1) (grad (arrs q k v ct) h (32 - n.val)) (ix2 a b)
    = RefHost.v170 ct q k gp (ix5 0 h n a b) := by
  rw [dvRaw_apply, v170_apply, v161_apply, v169_apply]
  refine congrArg₂ (fun s t : EReal => s + t) (Finset.sum_congr rfl fun c _ => ?_) (Finset.sum_congr rfl fun c _ => ?_)
  · rw [scores, dO_apply]; exact mul_comm (_ : EReal) _
  · rw [k_tile, FwdEq.kdec_apply, kdec_at, grad_tile q k v ct n h c b hg]; exact mul_comm (_ : EReal) _

/-- The turned queries' gradient. -/
theorem dq_raw (hs : IsStates k v sp) : dqRaw (F := Ideal) (zTile (FwdHost.v194 q k v) 1 n.val h.val) (zTile (FwdHost.v194 q k v) 2 n.val h.val)
      (oTile (KernelHost.v293 ct) n.val h.val) (sTile (KernelHost.v289 k v) n.val h) (dTile (FwdHost.v79 (F := Ideal)) h 0) (dTile (FwdHost.v79 (F := Ideal)) h 2) (ix2 a b)
    = RefHost.v167 ct sp v k (ix5 0 h n a b) := by
  rw [dqRaw_apply, v167_apply, FwdEq.qdec_apply, qdec_at]
  refine Eq.trans ?_ (add_comm (_ : EReal) _)
  refine congrArg₂ (fun s t : EReal => s + t * _) (Finset.sum_congr rfl fun c _ => ?_) (Finset.sum_congr rfl fun c _ => ?_)
  · rw [score_grads, k_tile]
  · rw [dO_apply, st_tile, hs n h b c]

/-- The turned keys' gradient. -/
theorem dk_raw (hg : IsGrads q ct gp) : dkRaw (F := Ideal) (zTile (FwdHost.v194 q k v) 0 n.val h.val) (zTile (FwdHost.v194 q k v) 2 n.val h.val)
      (oTile (KernelHost.v293 ct) n.val h.val) (dTile (FwdHost.v79 (F := Ideal)) h 0) (dTile (FwdHost.v79 (F := Ideal)) h 1) (grad (arrs q k v ct) h (32 - n.val)) (ix2 a b)
    = RefHost.v175 ct v q gp (ix5 0 h n a b) := by
  rw [dkRaw_apply, v175_apply, FwdEq.kdec_apply, kdec_at]
  refine congrArg₂ (fun s t : EReal => s + t * _) (Finset.sum_congr rfl fun c _ => ?_) (Finset.sum_congr rfl fun c _ => ?_)
  · rw [score_grads, q_tile]
  · rw [v_tile, grad_tile q k v ct n h b c hg]; exact mul_comm (_ : EReal) _

end Cert.BwdEq

end
-- ==== Proof.BwdTurn.lean ====
/- Turning the rotation back, keeping the sequence's own rows and laying heads out as columns: the kernel does all three tile
   by tile, the reference over whole arrays. -/
module

public import proofs.«01_k».proof.Proof.BwdTables

@[expose] public section

set_option maxRecDepth 16384

noncomputable section

namespace Cert.BwdEq

open Idealize.ShloMosaic hiding ix0 ix1 ix2 ix3 ix4 ix5 eq_ix1 eq_ix2 eq_ix3 eq_ix4 eq_ix5
open Idealize.ShloMosaic.TcCoe Idealize.ShloMosaic.ValueIdx
open Cert.KernelIdeal Cert.KernelIdeal.Gen Cert.BwdBlock

/-! ## The kept rows -/

theorem keep_word : ∀ (n : Fin 33) (a : Fin 128), IntOp.cmpi .sge (IntOp.addi (BitVec.ofNat 32 a.val) (BitVec.ofNat 32 (128 * n.val))) 112#32
    = if 112 ≤ 128 * n.val + a.val then 1#1 else 0#1 := by decide +kernel

theorem kept_apply (n : Fin 33) (x : Vec Ideal S128x128 .f32) (a b : Fin 128) :
    kept (BitVec.ofNat 32 (128 * n.val)) x (ix2 a b) = if 112 ≤ 128 * n.val + a.val then (x (ix2 a b) : EReal) else 0 := by
  have e : keepRows (BitVec.ofNat 32 (128 * n.val)) (ix2 a b) = if 112 ≤ 128 * n.val + a.val then 1#1 else 0#1 := by
    show IntOp.cmpi .sge (IntOp.addi (BitVec.ofNat 32 (0 * 128 + a.val)) (BitVec.ofNat 32 (128 * n.val))) 112#32 = _
    rw [Nat.zero_mul, Nat.zero_add]
    exact keep_word n a
  show (if keepRows (BitVec.ofNat 32 (128 * n.val)) (ix2 a b) = 1#1 then x (ix2 a b) else Ideal.ofBits .f32 0x00000000#32) = _
  rw [e]
  by_cases hp : 112 ≤ 128 * n.val + a.val
  · rw [if_pos hp, if_pos hp, if_pos rfl]
  · rw [if_neg hp, if_neg hp, if_neg (by decide)]; exact Ideal.ofBits_zero_f32

/-- The reference's way to the same rows: the first 112 cut off and heads side by side … -/
def cut (w : Vec Ideal Cert.ReferenceIdeal.S1x4x4224x128 .f32) : Vec Ideal Cert.ReferenceIdeal.S4112x512 .f32 :=
  shapeCast Cert.ReferenceIdeal.S4112x512 (shapeCast Cert.ReferenceIdeal.S1x4112x512 (transpose Cert.ReferenceIdeal.S1x4112x4x128 [0, 2, 1, 3]
    (extractStridedSlice Cert.ReferenceIdeal.S1x4x4112x128 ![0, 0, 112, 0] w Cert.ReferenceIdeal.Gen.slices_S1x4x4224x128_S1x4x4112x128_0_0_112_0)
    Cert.ReferenceIdeal.Gen.transposes_S1x4x4112x128_S1x4112x4x128_0_2_1_3) Cert.ReferenceIdeal.Gen.shapeCasts_S1x4112x4x128_S1x4112x512) Cert.ReferenceIdeal.Gen.shapeCasts_S1x4112x512_S4112x512

/-- … and zeros in place of the first 112. -/
def rows (w : Vec Ideal Cert.ReferenceIdeal.S1x4x4224x128 .f32) : Vec Ideal Cert.ReferenceIdeal.S4224x512 .bf16 :=
  truncf (F := Ideal) .bf16 (concatenate Cert.ReferenceIdeal.S4224x512 0 [⟨Cert.ReferenceIdeal.S112x512, (RefHost.v225 (F := Ideal))⟩, ⟨Cert.ReferenceIdeal.S4112x512, cut w⟩]
    Cert.ReferenceIdeal.Gen.concatenates_S112x512_S4112x512_S4224x512_d0) Cert.ReferenceIdeal.Gen.bitsLt_bf16_f32

theorem rows_apply (w : Vec Ideal Cert.ReferenceIdeal.S1x4x4224x128 .f32) (r : Fin 4224) (e : Fin 512) (h : Fin 4) (b : Fin 128) (he : e.val = 128 * h.val + b.val) :
    rows w (ix2 r e) = if 112 ≤ r.val then (w (ix4 0 h r b) : EReal) else 0 := by
  unfold rows
  by_cases hp : r.val < 112
  · rw [if_neg (by omega)]
    refine (concatenate_apply_piece (t := S4224x512) (s₁ := S112x512) 0 [⟨S112x512, RefHost.v225 (F := Ideal)⟩, ⟨S4112x512, cut w⟩] Cert.ReferenceIdeal.Gen.concatenates_S112x512_S4112x512_S4224x512_d0 _ 0 (by simp) (RefHost.v225 (F := Ideal)) rfl rfl 0 rfl (ix2 ⟨r.val, hp⟩ e)
      (fun i hi => by fin_cases i <;> first | rfl | exact absurd rfl hi) (Nat.zero_add _)).trans ?_
    exact Ideal.ofBits_zero_f32
  · have h4 := r.isLt
    rw [if_pos (by omega)]
    refine (concatenate_apply_piece (t := S4224x512) (s₁ := S4112x512) 0 [⟨S112x512, RefHost.v225 (F := Ideal)⟩, ⟨S4112x512, cut w⟩] Cert.ReferenceIdeal.Gen.concatenates_S112x512_S4112x512_S4224x512_d0 _ 1 (by simp) (cut w) rfl rfl 112 rfl (ix2 ⟨r.val - 112, by omega⟩ e)
      (fun i hi => by fin_cases i <;> first | rfl | exact absurd rfl hi) (by show 112 + (r.val - 112) = r.val; omega)).trans ?_
    unfold cut
    refine (shapeCast_apply _ _ (ix2 ⟨r.val - 112, by omega⟩ e) (ix3 0 ⟨r.val - 112, by omega⟩ e) (by
      rw [Shape.rowMajor_val_two, Shape.rowMajor_val_three]
      show (0 * 4112 + (r.val - 112)) * 512 + e.val = (r.val - 112) * 512 + e.val
      omega)).trans ?_
    refine (shapeCast_apply _ _ (ix3 0 ⟨r.val - 112, by omega⟩ e) (ix4 0 ⟨r.val - 112, by omega⟩ h b) (by
      rw [Shape.rowMajor_val_four, Shape.rowMajor_val_three]
      show ((0 * 4112 + (r.val - 112)) * 4 + h.val) * 128 + b.val = (0 * 4112 + (r.val - 112)) * 512 + e.val
      omega)).trans ?_
    rw [transpose_apply _ _ _ (ix4 0 ⟨r.val - 112, by omega⟩ h b) (ix4 0 h ⟨r.val - 112, by omega⟩ b) (fun b => by fin_cases b <;> rfl)]
    refine extractStridedSlice_apply _ w _ _ (ix4 0 h r b) (fun i => ?_)
    fin_cases i
    · rfl
    · show h.val = 0 + h.val; omega
    · show r.val = 112 + (r.val - 112); omega
    · show b.val = 0 + b.val; omega

/-! ## The rotation turned back -/

/-- The reference's transposed rotation: each half of a head's lanes from the two halves, padded and added. -/
def turnedBack (x : Vec Ideal Cert.ReferenceIdeal.S1x4x4224x128 .f32) : Vec Ideal Cert.ReferenceIdeal.S1x4x4224x128 .f32 :=
  addf (F := Ideal) (φ := .f32)
    (pad Cert.ReferenceIdeal.S1x4x4224x128 ![0, 0, 0, 64] ![0, 0, 0, 0] ![0, 0, 0, 0]
      (addf (F := Ideal) (φ := .f32) (mulf (F := Ideal) (φ := .f32) (extractStridedSlice Cert.ReferenceIdeal.S1x4x4224x64 ![0, 0, 0, 64] x Cert.ReferenceIdeal.Gen.slices_S1x4x4224x128_S1x4x4224x64_0_0_0_64) (FwdRefHost.v31 (F := Ideal)))
        (mulf (F := Ideal) (φ := .f32) (Host.negf (F := Ideal) (φ := .f32) (extractStridedSlice Cert.ReferenceIdeal.S1x4x4224x64 ![0, 0, 0, 0] x Cert.ReferenceIdeal.Gen.slices_S1x4x4224x128_S1x4x4224x64_0_0_0_0)) (FwdRefHost.v34 (F := Ideal))))
      (FwdRefHost.cst (F := Ideal)) Cert.ReferenceIdeal.Gen.pads_S1x4x4224x64_S1x4x4224x128_000_000_000_6400 Cert.ReferenceIdeal.Gen.h_S_)
    (pad Cert.ReferenceIdeal.S1x4x4224x128 ![0, 0, 0, 0] ![0, 0, 0, 64] ![0, 0, 0, 0]
      (addf (F := Ideal) (φ := .f32) (mulf (F := Ideal) (φ := .f32) (extractStridedSlice Cert.ReferenceIdeal.S1x4x4224x64 ![0, 0, 0, 64] x Cert.ReferenceIdeal.Gen.slices_S1x4x4224x128_S1x4x4224x64_0_0_0_64) (FwdRefHost.v34 (F := Ideal)))
        (mulf (F := Ideal) (φ := .f32) (extractStridedSlice Cert.ReferenceIdeal.S1x4x4224x64 ![0, 0, 0, 0] x Cert.ReferenceIdeal.Gen.slices_S1x4x4224x128_S1x4x4224x64_0_0_0_0) (FwdRefHost.v31 (F := Ideal))))
      (FwdRefHost.cst (F := Ideal)) Cert.ReferenceIdeal.Gen.pads_S1x4x4224x64_S1x4x4224x128_000_000_000_0640 Cert.ReferenceIdeal.Gen.h_S_)

theorem cos_at (h : Fin 4) (r : Fin 4224) (l : Fin 64) : FwdRefHost.v31 (F := Ideal) (ix4 0 h r l) = FwdRefHost.v26 (F := Ideal) (ix2 r l) := by
  unfold FwdRefHost.v31 FwdRefHost.v30
  rw [broadcastInDim_apply _ _ _ (ix4 0 h r l) (ix4 0 0 r l) (fun i => by fin_cases i <;> rfl),
    broadcastInDim_apply _ _ _ (ix4 0 0 r l) (ix2 r l) (fun i => by fin_cases i <;> rfl)]
theorem sin_at (h : Fin 4) (r : Fin 4224) (l : Fin 64) : FwdRefHost.v34 (F := Ideal) (ix4 0 h r l) = FwdRefHost.v27 (F := Ideal) (ix2 r l) := by
  unfold FwdRefHost.v34 FwdRefHost.v33
  rw [broadcastInDim_apply _ _ _ (ix4 0 h r l) (ix4 0 0 r l) (fun i => by fin_cases i <;> rfl),
    broadcastInDim_apply _ _ _ (ix4 0 0 r l) (ix2 r l) (fun i => by fin_cases i <;> rfl)]

section
variable (x : Vec Ideal Cert.ReferenceIdeal.S1x4x4224x128 .f32) (h : Fin 4) (r : Fin 4224) (l' : Fin 64)

theorem half_low : extractStridedSlice Cert.ReferenceIdeal.S1x4x4224x64 ![0, 0, 0, 0] x Cert.ReferenceIdeal.Gen.slices_S1x4x4224x128_S1x4x4224x64_0_0_0_0 (ix4 0 h r l')
    = x (ix4 0 h r ⟨l'.val, by omega⟩) :=
  extractStridedSlice_apply _ x _ _ _ (fun i => by
    fin_cases i
    · rfl
    · show h.val = 0 + h.val; omega
    · show r.val = 0 + r.val; omega
    · show l'.val = 0 + l'.val; omega)
theorem half_high : extractStridedSlice Cert.ReferenceIdeal.S1x4x4224x64 ![0, 0, 0, 64] x Cert.ReferenceIdeal.Gen.slices_S1x4x4224x128_S1x4x4224x64_0_0_0_64 (ix4 0 h r l')
    = x (ix4 0 h r ⟨64 + l'.val, by omega⟩) :=
  extractStridedSlice_apply _ x _ _ _ (fun i => by
    fin_cases i
    · rfl
    · show h.val = 0 + h.val; omega
    · show r.val = 0 + r.val; omega
    · rfl)

variable (y : Vec Ideal Cert.ReferenceIdeal.S1x4x4224x64 .f32)

theorem front_low (l : Fin 128) (hl : l.val = l'.val) : pad Cert.ReferenceIdeal.S1x4x4224x128 ![0, 0, 0, 64] ![0, 0, 0, 0] ![0, 0, 0, 0] y
      (FwdRefHost.cst (F := Ideal)) Cert.ReferenceIdeal.Gen.pads_S1x4x4224x64_S1x4x4224x128_000_000_000_6400 Cert.ReferenceIdeal.Gen.h_S_ (ix4 0 h r l) = (0 : EReal) := by
  refine (pad_apply_of_not_inside _ _ _ y (FwdRefHost.cst (F := Ideal)) _ _ (ix4 0 h r l) 3 (fun hh => ?_)).trans Ideal.ofBits_zero_f32
  have h1 : 64 ≤ l.val := hh.1
  omega
theorem front_high (l : Fin 128) (hl : l.val = 64 + l'.val) : pad Cert.ReferenceIdeal.S1x4x4224x128 ![0, 0, 0, 64] ![0, 0, 0, 0] ![0, 0, 0, 0] y
      (FwdRefHost.cst (F := Ideal)) Cert.ReferenceIdeal.Gen.pads_S1x4x4224x64_S1x4x4224x128_000_000_000_6400 Cert.ReferenceIdeal.Gen.h_S_ (ix4 0 h r l) = y (ix4 0 h r l') := by
  refine pad_apply_of_inside _ _ _ y (FwdRefHost.cst (F := Ideal)) _ _ (ix4 0 h r l) (ix4 0 h r l') (fun i => ?_)
  fin_cases i
  · rfl
  · show h.val = 0 + h.val * (0 + 1); omega
  · show r.val = 0 + r.val * (0 + 1); omega
  · show l.val = 64 + l'.val * (0 + 1); omega
theorem back_low (l : Fin 128) (hl : l.val = l'.val) : pad Cert.ReferenceIdeal.S1x4x4224x128 ![0, 0, 0, 0] ![0, 0, 0, 64] ![0, 0, 0, 0] y
      (FwdRefHost.cst (F := Ideal)) Cert.ReferenceIdeal.Gen.pads_S1x4x4224x64_S1x4x4224x128_000_000_000_0640 Cert.ReferenceIdeal.Gen.h_S_ (ix4 0 h r l) = y (ix4 0 h r l') := by
  refine pad_apply_of_inside _ _ _ y (FwdRefHost.cst (F := Ideal)) _ _ (ix4 0 h r l) (ix4 0 h r l') (fun i => ?_)
  fin_cases i
  · rfl
  · show h.val = 0 + h.val * (0 + 1); omega
  · show r.val = 0 + r.val * (0 + 1); omega
  · show l.val = 0 + l'.val * (0 + 1); omega
theorem back_high (l : Fin 128) (hl : l.val = 64 + l'.val) : pad Cert.ReferenceIdeal.S1x4x4224x128 ![0, 0, 0, 0] ![0, 0, 0, 64] ![0, 0, 0, 0] y
      (FwdRefHost.cst (F := Ideal)) Cert.ReferenceIdeal.Gen.pads_S1x4x4224x64_S1x4x4224x128_000_000_000_0640 Cert.ReferenceIdeal.Gen.h_S_ (ix4 0 h r l) = (0 : EReal) := by
  refine (pad_apply_of_not_inside _ _ _ y (FwdRefHost.cst (F := Ideal)) _ _ (ix4 0 h r l) 3 (fun hh => ?_)).trans Ideal.ofBits_zero_f32
  have h1 : (l.val - 0) / (0 + 1) < 64 := hh.2.2
  omega

/-- The first half of the lanes. -/
theorem turned_low (l : Fin 128) (hl : l.val = l'.val) : turnedBack x (ix4 0 h r l)
    = (x (ix4 0 h r ⟨64 + l'.val, by omega⟩) * FwdRefHost.v27 (F := Ideal) (ix2 r l') + x (ix4 0 h r l) * FwdRefHost.v26 (F := Ideal) (ix2 r l') : EReal) := by
  have el : (⟨l'.val, by omega⟩ : Fin 128) = l := Fin.ext hl.symm
  unfold turnedBack
  refine (congrArg₂ (fun s t : EReal => s + t) (front_low h r l' _ l hl) (back_low h r l' _ l hl)).trans ((zero_add (_ : EReal)).trans ?_)
  refine congrArg₂ (fun s t : EReal => s + t) (congrArg₂ (fun s t : EReal => s * t) (half_high x h r l') (sin_at h r l')) ?_
  exact congrArg₂ (fun s t : EReal => s * t) ((half_low x h r l').trans (congrArg (fun l => x (ix4 0 h r l)) el)) (cos_at h r l')

/-- The second half. -/
theorem turned_high (l : Fin 128) (hl : l.val = 64 + l'.val) : turnedBack x (ix4 0 h r l)
    = (x (ix4 0 h r l) * FwdRefHost.v26 (F := Ideal) (ix2 r l') + -(x (ix4 0 h r ⟨l'.val, by omega⟩) : EReal) * FwdRefHost.v27 (F := Ideal) (ix2 r l') : EReal) := by
  have el : (⟨64 + l'.val, by omega⟩ : Fin 128) = l := Fin.ext hl.symm
  unfold turnedBack
  refine (congrArg₂ (fun s t : EReal => s + t) (front_high h r l' _ l hl) (back_high h r l' _ l hl)).trans ((add_zero (_ : EReal)).trans ?_)
  refine congrArg₂ (fun s t : EReal => s + t) (congrArg₂ (fun s t : EReal => s * t) ((half_high x h r l').trans (congrArg (fun l => x (ix4 0 h r l)) el)) (cos_at h r l')) ?_
  exact congrArg₂ (fun s t : EReal => s * t) (congrArg (fun t : EReal => -t) (half_low x h r l')) (sin_at h r l')

end

/-- A tile's rotation by half a head. -/
theorem rotated (X : Vec Ideal S128x128 .f32) (a l k : Fin 128) (hk : k.val = (l.val + 64) % 128) :
    dynamicRotate 1 64#32 none X rotates_S128x128_d1 (ix2 a l) = X (ix2 a k) :=
  dynamicRotate_apply 1 64#32 X _ (ix2 a l) (ix2 a k) (fun b => by
    fin_cases b
    · rfl
    · show k.val = (l.val + 128 - 64 % 128) % 128; omega)

/-- A tile turned back is a chunk of the array turned back. -/
theorem unturn_apply (X : Vec Ideal S128x128 .f32) (x : Vec Ideal Cert.ReferenceIdeal.S1x4x4224x128 .f32) (n : Fin 33) (h : Fin 4) (a l : Fin 128) (r : Fin 4224)
    (hr : r.val = 128 * n.val + a.val) (hx : ∀ l : Fin 128, X (ix2 a l) = x (ix4 0 h r l)) :
    unturn X (rTile KernelHost.v18 n.val) (rTile KernelHost.v26 n.val) (ix2 a l) = turnedBack x (ix4 0 h r l) := by
  have er : (⟨128 * n.val + a.val, by omega⟩ : Fin 4224) = r := Fin.ext hr.symm
  have hl := l.isLt
  show (X (ix2 a l) * rTile (KernelHost.v18 (F := Ideal)) n.val (ix2 a l) : EReal)
    - dynamicRotate 1 64#32 none X rotates_S128x128_d1 (ix2 a l) * rTile (KernelHost.v26 (F := Ideal)) n.val (ix2 a l) = _
  rw [cos_tile, sin_tile, er]
  by_cases hp : l.val < 64
  · rw [turned_low x h r ⟨l.val, hp⟩ l rfl, rotated X a l ⟨64 + l.val, by omega⟩ (by show 64 + l.val = _; omega), hx, hx,
      cos_apply r l ⟨l.val, hp⟩ (by show l.val % 64 = l.val; omega), sin_low r l ⟨l.val, hp⟩ rfl, neg_mul, one_mul, mul_neg, sub_eq_add_neg, neg_neg]
    exact add_comm (_ : EReal) _
  · rw [turned_high x h r ⟨l.val - 64, by omega⟩ l (by show l.val = 64 + (l.val - 64); omega), rotated X a l ⟨l.val - 64, by omega⟩ (by show l.val - 64 = _; omega), hx, hx,
      cos_apply r l ⟨l.val - 64, by omega⟩ (by show l.val % 64 = l.val - 64; omega), sin_high r l ⟨l.val - 64, by omega⟩ (by show l.val = 64 + (l.val - 64); omega), one_mul, neg_mul]
    exact sub_eq_add_neg (_ : EReal) _

end Cert.BwdEq

end
-- ==== Proof.BwdEq.lean ====
/- The retention gradient's equation over the reals: each of the kernel's three results is the reference's. -/
module

public import proofs.«01_k».proof.Proof.BwdRaw
public import proofs.«01_k».proof.Proof.BwdTurn

@[expose] public section

set_option maxRecDepth 16384

noncomputable section

namespace Cert.BwdEq

open Idealize.ShloMosaic hiding ix0 ix1 ix2 ix3 ix4 ix5 eq_ix1 eq_ix2 eq_ix3 eq_ix4 eq_ix5
open Idealize.ShloMosaic.TcCoe Idealize.ShloMosaic.ValueIdx
open Cert.KernelIdeal Cert.KernelIdeal.Gen Cert.BwdBlock

variable (q k v ct : Arg) {sp gp : Vec Ideal Scan.Stack .f32}

/-- Chunks laid out as rows. -/
theorem row_apply {α : Type} (x : S1x4x33x128x128.Idx → α) (hs : S1x4x33x128x128.ShapeCasts S1x4x4224x128) (h : Fin 4) (n : Fin 33) (a b : Fin 128)
    (r : Fin 4224) (hr : r.val = 128 * n.val + a.val) : shapeCast S1x4x4224x128 x hs (ix4 0 h r b) = x (ix5 0 h n a b) :=
  shapeCast_apply _ _ (ix4 0 h r b) (ix5 0 h n a b) (by
    rw [Shape.rowMajor_val_four, Shape.rowMajor_val_five]
    show ((((0 * 4 + h.val) * 33 + n.val) * 128 + a.val) * 128 + b.val) = ((0 * 4 + h.val) * 4224 + r.val) * 128 + b.val
    omega)

/-! ## The reference's results as rows of arrays turned back -/

theorem dq_rows : RefHost.v228 ct sp v k = rows (RefHost.v212 ct sp v k) := rfl
theorem dk_rows : RefHost.v232 ct v q gp = rows (RefHost.v194 ct v q gp) := rfl
theorem dv_rows : RefHost.v236 ct q k gp = rows (RefHost.v176 ct q k gp) := rfl
theorem dq_turned : RefHost.v212 ct sp v k = turnedBack (RefHost.v196 ct sp v k) := rfl
theorem dk_turned : RefHost.v194 ct v q gp = turnedBack (RefHost.v177 ct v q gp) := rfl

theorem scaled_apply (x : Vec Ideal S128x128 .f32) (a b : Fin 128) : scaled x (ix2 a b) = (x (ix2 a b) * Ideal.ofBits .f32 0x3DB504F3#32 : EReal) := rfl

theorem v196_apply (n : Fin 33) (h : Fin 4) (a b : Fin 128) (r : Fin 4224) (hr : r.val = 128 * n.val + a.val) :
    RefHost.v196 ct sp v k (ix4 0 h r b) = (RefHost.v167 ct sp v k (ix5 0 h n a b) * Ideal.ofBits .f32 0x3DB504F3#32 : EReal) :=
  (mulf_at (RefHost.v178 ct sp v k) (FwdRefHost.v45 (F := Ideal)) _).trans
    (congrArg (fun t : EReal => t * Ideal.ofBits .f32 0x3DB504F3#32) (row_apply (RefHost.v167 ct sp v k) _ h n a b r hr))

section
variable (n : Fin 33) (h : Fin 4) (a b : Fin 128) (r : Fin 4224) (e : Fin 512) (hr : r.val = 128 * n.val + a.val) (he : e.val = 128 * h.val + b.val)
include hr he

/-- The queries' gradient: scaled, turned back, the sequence's rows. -/
theorem dq_at (hs : IsStates k v sp) : dqAt (arrs q k v ct) n.val h (ix2 a b) = RefHost.v228 ct sp v k (ix2 r e) := by
  unfold dqAt
  rw [kept_apply, dq_rows, rows_apply _ r e h b he, hr]
  refine if_congr Iff.rfl ?_ rfl
  rw [dq_turned]
  refine unturn_apply _ (RefHost.v196 ct sp v k) n h a b r hr (fun l => ?_)
  rw [v196_apply k v ct n h a l r hr, scaled_apply, dq_raw q k v ct n h a l hs]

/-- The keys' gradient: turned back, the sequence's rows. -/
theorem dk_at (hg : IsGrads q ct gp) : dkAt (arrs q k v ct) n.val h (ix2 a b) = RefHost.v232 ct v q gp (ix2 r e) := by
  unfold dkAt
  rw [kept_apply, dk_rows, rows_apply _ r e h b he, hr]
  refine if_congr Iff.rfl ?_ rfl
  rw [dk_turned]
  refine unturn_apply _ (RefHost.v177 ct v q gp) n h a b r hr (fun l => ?_)
  exact (dk_raw q k v ct n h a l hg).trans (row_apply (RefHost.v175 ct v q gp) _ h n a l r hr).symm

/-- The values' gradient: the sequence's rows. -/
theorem dv_at (hg : IsGrads q ct gp) : dvAt (arrs q k v ct) n.val h (ix2 a b) = RefHost.v236 ct q k gp (ix2 r e) := by
  unfold dvAt
  rw [kept_apply, dv_rows, rows_apply _ r e h b he, hr]
  refine if_congr Iff.rfl ?_ rfl
  exact (dv_raw q k v ct n h a b hg).trans (row_apply (RefHost.v170 ct q k gp) _ h n a b r hr).symm

end

/-! ## At an index of the results -/

section
variable (i : S4224x512.Idx)

theorem chunk_lt : (i 0).val / 128 < 33 := by have : (i 0).val < 4224 := (i 0).isLt; omega
theorem head_lt : (i 1).val / 128 < 4 := by have : (i 1).val < 512 := (i 1).isLt; omega
theorem row_split : (i 0).val = 128 * ((i 0).val / 128) + (i 0).val % 128 := by omega
theorem col_split : (i 1).val = 128 * ((i 1).val / 128) + (i 1).val % 128 := by omega

theorem dq_eq (hs : IsStates k v sp) : dqAt (arrs q k v ct) ((i 0).val / 128) ⟨(i 1).val / 128, head_lt i⟩
    (ix2 ⟨(i 0).val % 128, Nat.mod_lt _ (by omega)⟩ ⟨(i 1).val % 128, Nat.mod_lt _ (by omega)⟩) = RefHost.v228 ct sp v k i :=
  (dq_at q k v ct ⟨(i 0).val / 128, chunk_lt i⟩ ⟨(i 1).val / 128, head_lt i⟩ ⟨(i 0).val % 128, Nat.mod_lt _ (by omega)⟩ ⟨(i 1).val % 128, Nat.mod_lt _ (by omega)⟩
    (i 0) (i 1) (row_split i) (col_split i) hs).trans (congrArg (RefHost.v228 ct sp v k) (eq_ix2 i).symm)
theorem dk_eq (hg : IsGrads q ct gp) : dkAt (arrs q k v ct) ((i 0).val / 128) ⟨(i 1).val / 128, head_lt i⟩
    (ix2 ⟨(i 0).val % 128, Nat.mod_lt _ (by omega)⟩ ⟨(i 1).val % 128, Nat.mod_lt _ (by omega)⟩) = RefHost.v232 ct v q gp i :=
  (dk_at q k v ct ⟨(i 0).val / 128, chunk_lt i⟩ ⟨(i 1).val / 128, head_lt i⟩ ⟨(i 0).val % 128, Nat.mod_lt _ (by omega)⟩ ⟨(i 1).val % 128, Nat.mod_lt _ (by omega)⟩
    (i 0) (i 1) (row_split i) (col_split i) hg).trans (congrArg (RefHost.v232 ct v q gp) (eq_ix2 i).symm)
theorem dv_eq (hg : IsGrads q ct gp) : dvAt (arrs q k v ct) ((i 0).val / 128) ⟨(i 1).val / 128, head_lt i⟩
    (ix2 ⟨(i 0).val % 128, Nat.mod_lt _ (by omega)⟩ ⟨(i 1).val % 128, Nat.mod_lt _ (by omega)⟩) = RefHost.v236 ct q k gp i :=
  (dv_at q k v ct ⟨(i 0).val / 128, chunk_lt i⟩ ⟨(i 1).val / 128, head_lt i⟩ ⟨(i 0).val % 128, Nat.mod_lt _ (by omega)⟩ ⟨(i 1).val % 128, Nat.mod_lt _ (by omega)⟩
    (i 0) (i 1) (row_split i) (col_split i) hg).trans (congrArg (RefHost.v236 ct q k gp) (eq_ix2 i).symm)

end

end Cert.BwdEq

end
-- ==== Proof.BwdClaim.lean ====
/- The retention gradient's claim: the two programs' runs end with the same three gradients. -/
module

public import proofs.«01_k».proof.Defs
public import proofs.«01_k».proof.Proof.BwdEq
public import proofs.«01_k».proof.Proof.RefClaim

@[expose] public section

set_option maxRecDepth 8000

noncomputable section

namespace Cert.BwdClaim

open Idealize.ShloMosaic Idealize.ShloMosaic.TcCoe Idealize.ShloMosaic.StableHlo Idealize.SL.Sem
open Cert.RefClaim

instance : Cert.KernelIdeal.Facts := Cert.KernelIdeal.Gen.facts
instance : Cert.ReferenceIdeal.Facts := Cert.ReferenceIdeal.Gen.facts

/-- The arrays at the launch are the values of the host's lines. -/
theorem arrays_eq {m : (ℓ : Loc Cert.KernelIdeal.nD Cert.KernelIdeal.τ Cert.KernelIdeal.sig) → Buf (Elt Ideal) ℓ} {c : Dev Cert.KernelIdeal.nD}
    {q k v ct : BwdEq.Arg}
    (h0 : m ((c.tc : Thread Cert.KernelIdeal.nD Cert.KernelIdeal.τ).loc Cert.KernelIdeal.main_arg0) = q) (h1 : m ((c.tc : Thread Cert.KernelIdeal.nD Cert.KernelIdeal.τ).loc Cert.KernelIdeal.main_arg1) = k)
    (h2 : m ((c.tc : Thread Cert.KernelIdeal.nD Cert.KernelIdeal.τ).loc Cert.KernelIdeal.main_arg2) = v) (h3 : m ((c.tc : Thread Cert.KernelIdeal.nD Cert.KernelIdeal.τ).loc Cert.KernelIdeal.main_arg3) = ct) :
    BwdBlock.arrays m c = BwdEq.arrs q k v ct := by
  have e0 : Cert.KernelIdeal.Gen.V m c Cert.KernelIdeal.main_v304 = FwdHost.v194 q k v := KernelHost.Pre.v304_eq _ h0 h1 h2
  have e1 : Cert.KernelIdeal.Gen.V m c Cert.KernelIdeal.main_v18 = KernelHost.v18 (F := Ideal) := KernelHost.Pre.v18_eq _
  have e2 : Cert.KernelIdeal.Gen.V m c Cert.KernelIdeal.main_v26 = KernelHost.v26 (F := Ideal) := KernelHost.Pre.v26_eq _
  have e3 : Cert.KernelIdeal.Gen.V m c Cert.KernelIdeal.main_v79 = FwdHost.v79 (F := Ideal) := KernelHost.Pre.v79_eq _
  have e4 : Cert.KernelIdeal.Gen.V m c Cert.KernelIdeal.main_v289 = KernelHost.v289 k v := KernelHost.Pre.v289_eq _ h1 h2
  have e5 : Cert.KernelIdeal.Gen.V m c Cert.KernelIdeal.main_v293 = KernelHost.v293 ct := KernelHost.Pre.v293_eq _ h3
  show BwdBlock.Arrays.mk _ _ _ _ _ _ = _
  rw [e0, e1, e2, e3, e4, e5]

section
variable (m : (ℓ : Loc Cert.KernelIdeal.nD Cert.KernelIdeal.τ Cert.KernelIdeal.sig) → Buf (Elt Ideal) ℓ) (c : Dev Cert.KernelIdeal.nD)
  {q k v ct : BwdEq.Arg} (ha : BwdBlock.arrays m c = BwdEq.arrs q k v ct) {sp gp : Vec Ideal Scan.Stack .f32}
include ha

/-- The call's three arrays at the end. -/
theorem dq_final (hs : BwdEq.IsStates k v sp) : (Cert.KernelIdeal.Gen.dats m 0 c).arrAt 8 Cert.KernelIdeal.cfg0.N = RefHost.v228 ct sp v k := by
  funext i
  refine (BwdBlock.dq_apply m c i).trans ?_
  rw [ha]
  exact BwdEq.dq_eq q k v ct i hs
theorem dk_final (hg : BwdEq.IsGrads q ct gp) : (Cert.KernelIdeal.Gen.dats m 0 c).arrAt 9 Cert.KernelIdeal.cfg0.N = RefHost.v232 ct v q gp := by
  funext i
  refine (BwdBlock.dk_apply m c i).trans ?_
  rw [ha]
  exact BwdEq.dk_eq q k v ct i hg
theorem dv_final (hg : BwdEq.IsGrads q ct gp) : (Cert.KernelIdeal.Gen.dats m 0 c).arrAt 10 Cert.KernelIdeal.cfg0.N = RefHost.v236 ct q k gp := by
  funext i
  refine (BwdBlock.dv_apply m c i).trans ?_
  rw [ha]
  exact BwdEq.dv_eq q k v ct i hg

end

section
variable (m' : (ℓ : Loc Cert.ReferenceIdeal.nD Cert.ReferenceIdeal.τ Cert.ReferenceIdeal.sig) → Buf (Elt Ideal) ℓ) (c : Dev Cert.ReferenceIdeal.nD)

/-- The three gradients. -/
def dqOf : Vec Ideal Cert.ReferenceIdeal.S4224x512 .bf16 := RefHost.v228 (F := Ideal) (ct m' c) (sp m' c) (v m' c) (k m' c)
def dkOf : Vec Ideal Cert.ReferenceIdeal.S4224x512 .bf16 := RefHost.v232 (F := Ideal) (ct m' c) (v m' c) (q m' c) (gp m' c)
def dvOf : Vec Ideal Cert.ReferenceIdeal.S4224x512 .bf16 := RefHost.v236 (F := Ideal) (ct m' c) (q m' c) (k m' c) (gp m' c)

end

set_option maxHeartbeats 0 in
/-- The two programs end with the same three gradients. -/
theorem algebraic : Cert.algebraic_KernelIdeal_ReferenceIdeal := by
  intro m g m' g' _ hargs
  refine ⟨dqOf m', dkOf m', dvOf m', ?_, ?_⟩
  · refine (θ_run Cert.KernelIdeal.defs _ _).mono (fun r h c => ?_) (Cert.KernelIdeal.Value.run_blocks m g)
    obtain ⟨h0, h1, h2, h3⟩ := hargs c
    have ha : BwdBlock.arrays m c = BwdEq.arrs (q m' c) (k m' c) (v m' c) (ct m' c) := arrays_eq h0.symm h1.symm h2.symm h3.symm
    exact ⟨(h c).1.trans (dq_final m c ha (states m' c)), (h c).2.1.trans (dk_final m c ha (grads m' c)), (h c).2.2.1.trans (dv_final m c ha (grads m' c)), (h c).2.2.2⟩
  · refine (θ_run Cert.ReferenceIdeal.defs _ _).mono (fun r h c => ?_) (run m' g')
    exact ⟨(h c).1, (h c).2.1, (h c).2.2.1, (h c).2.2.2⟩

end Cert.BwdClaim

end
-- ==== Proof.Tn.lean ====
/- A product of two matrices over their rows, read at an index: the sum over the rows. -/
module

public import Idealize.ShloMosaic.Lib.ValueIdx
public import Idealize.ShloMosaic.Lib.Pointwise.Contract
public import Idealize.ShloMosaic.PureOps.Ideal.Laws

@[expose] public section

noncomputable section

namespace Cert.Tn

open Idealize.ShloMosaic hiding ix0 ix1 ix2 ix3 ix4 ix5
open Idealize.ShloMosaic.ValueIdx
open scoped BigOperators

variable {K M N : ℕ} {φ₁ φ₂ : FTy}

/-- Over a zero accumulator. -/
theorem matmul_apply (wf : DotDims.WF ⟨2, ![K, M]⟩ ⟨2, ![K, N]⟩ ⟨2, ![M, N]⟩ [0] [0] [1] [1] [] [])
    (x : FVec Ideal ⟨2, ![K, M]⟩ φ₁) (y : FVec Ideal ⟨2, ![K, N]⟩ φ₂) (a : Fin M) (b : Fin N) :
    matmul (⟨[0], [0], [1], [1], [], [], wf⟩ : DotDims ⟨2, ![K, M]⟩ ⟨2, ![K, N]⟩ ⟨2, ![M, N]⟩) none x y (constant ⟨2, ![M, N]⟩ .f32 0x00000000#32) (ix2 a b)
      = ∑ k : Fin K, (x (ix2 k a) : EReal) * y (ix2 k b) := by
  refine (Ideal.matmul_constant_zero_apply _ none x y _).trans ((DotDims.sum_contr₁ _ (a := 0) rfl rfl _).trans (Finset.sum_congr rfl fun k _ => ?_))
  exact congrArg₂ (fun u v => (x u : EReal) * y v) (by funext i; fin_cases i <;> rfl) (by funext i; fin_cases i <;> rfl)

/-- On the host. -/
theorem host_apply (wf : DotDims.WF ⟨2, ![K, M]⟩ ⟨2, ![K, N]⟩ ⟨2, ![M, N]⟩ [0] [0] [1] [1] [] [])
    (x : FVec Ideal ⟨2, ![K, M]⟩ φ₁) (y : FVec Ideal ⟨2, ![K, N]⟩ φ₂) (a : Fin M) (b : Fin N) :
    Host.dotGeneral (⟨[0], [0], [1], [1], [], [], wf⟩ : DotDims ⟨2, ![K, M]⟩ ⟨2, ![K, N]⟩ ⟨2, ![M, N]⟩) none x y (ix2 a b)
      = ∑ k : Fin K, (x (ix2 k a) : EReal) * y (ix2 k b) := by
  refine (Ideal.dotGeneral_apply _ none .single x y _).trans ((DotDims.sum_contr₁ _ (a := 0) rfl rfl _).trans (Finset.sum_congr rfl fun k _ => ?_))
  exact congrArg₂ (fun u v => (x u : EReal) * y v) (by funext i; fin_cases i <;> rfl) (by funext i; fin_cases i <;> rfl)

end Cert.Tn

end
-- ==== Proof.WgradBlock.lean ====
/- What the call of the FFN's weight gradients leaves in its array, index by index: for each of the three weights, the product of
   its two matrices over their rows. -/
module

public import proofs.«01_k».proof.Proof.Tn
public import proofs.«01_k».proof.Proof.Gen.WgradIdeal.Value

@[expose] public section

set_option maxRecDepth 16384

noncomputable section

namespace Cert.WgradBlock

open Idealize.ShloMosaic hiding ix0 ix1 ix2 ix3 ix4 ix5 eq_ix1 eq_ix2 eq_ix3 eq_ix4 eq_ix5
open Idealize.ShloMosaic.TcCoe Idealize.ShloMosaic.ValueIdx
open Cert.WgradIdeal Cert.WgradIdeal.Gen Cert.WgradIdeal.Value
open scoped BigOperators

section
variable {F : FTy → Type} [FloatOps F]

theorem zeros : (![0, 0, 0] : Fin 3 → ℕ) = fun _ => 0 := by funext a; fin_cases a <;> rfl

/-- The body's one store is of the whole block. -/
theorem out_A (c : Dev nD) (i : grid0.Coords) (arg3 : Memref sig .tc .vmem S1x4224x1408 .bf16) (harg3 : arg3.IsWhole) (arg4 : Memref sig .tc .vmem S1x4224x1024 .bf16) (harg4 : arg4.IsWhole) (arg5 : Memref sig .tc .vmem S1x1408x1024 .bf16) (harg5 : arg5.IsWhole) (arg6 : Memref sig .tc .vmem S8x128 .f32) (harg6 : arg6.IsWhole)
    (x0 : Vec F S1x4224x1408 .bf16) (x1 : Vec F S1x4224x1024 .bf16) :
    out0_A_2 c i arg3 harg3 arg4 harg4 arg5 harg5 arg6 harg6 x0 x1 = k0_pay1 x0 x1 := by
  unfold out0_A_2
  rw [View.read_writes_junk_eq_canon]
  unfold kernelRun0_A
  simp only [View.readAt_eq_ld, harg3.read_unread, harg4.read_unread]
  rw [View.canon_unit_zero (S := S1x1408x1024) (off := ![0, 0, 0]) zeros, View.ld_unit_zero (S := S1x4224x1408) (off := ![0, 0, 0]) zeros,
    View.ld_unit_zero (S := S1x4224x1024) (off := ![0, 0, 0]) zeros]

end

/-- The block: a product over the rows. -/
theorem pay_apply (x0 : Vec Ideal S1x4224x1408 .bf16) (x1 : Vec Ideal S1x4224x1024 .bf16) (a : Fin 1408) (b : Fin 1024) :
    k0_pay1 x0 x1 (ix3 0 a b) = ∑ k : Fin 4224, (x0 (ix3 0 k a) : EReal) * x1 (ix3 0 k b) := by
  unfold k0_pay1
  rw [shapeCast_apply _ _ (ix3 0 a b) (ix2 a b) (by
    rw [Shape.rowMajor_val_two, Shape.rowMajor_val_three]
    show a.val * 1024 + b.val = (0 * 1408 + a.val) * 1024 + b.val
    omega)]
  refine (Tn.matmul_apply _ _ _ a b).trans (Finset.sum_congr rfl fun k _ => ?_)
  rw [shapeCast_apply _ _ (ix2 k a) (ix3 0 k a) (by
      rw [Shape.rowMajor_val_two, Shape.rowMajor_val_three]
      show (0 * 4224 + k.val) * 1408 + a.val = k.val * 1408 + a.val
      omega),
    shapeCast_apply _ _ (ix2 k b) (ix3 0 k b) (by
      rw [Shape.rowMajor_val_two, Shape.rowMajor_val_three]
      show (0 * 4224 + k.val) * 1024 + b.val = k.val * 1024 + b.val
      omega)]

section
variable (m : (ℓ : Loc nD τ sig) → Buf (Elt Ideal) ℓ) (c : Dev nD)

/-- The two stacks of matrices at the launch. -/
abbrev lhs : Vec Ideal S3x4224x2816 .bf16 := V m c main_v32
abbrev rhs : Vec Ideal S2x4224x1024 .bf16 := V m c main_v38

theorem idx_0 : ∀ t : Fin cfg0.N, win0_0.index t = ![t.val / 2, 0, t.val % 2] := (by decide +kernel : ∀ t : Fin grid0.N, win0_0.index t = ![t.val / 2, 0, t.val % 2])
theorem idx_1 : ∀ t : Fin cfg0.N, win0_1.index t = ![t.val / 2 / 2, 0, 0] := (by decide +kernel : ∀ t : Fin grid0.N, win0_1.index t = ![t.val / 2 / 2, 0, 0])
theorem idx_2 : ∀ t : Fin cfg0.N, win0_2.index t = ![t.val / 2, t.val % 2, 0] := (by decide +kernel : ∀ t : Fin grid0.N, win0_2.index t = ![t.val / 2, t.val % 2, 0])

theorem lt_grid (t : Fin cfg0.N) : t.val < 6 := lt_of_lt_of_eq t.isLt (show cfg0.N = 6 from N_0)

theorem lhs_blk (t : Fin cfg0.N) (k : Fin 4224) (a : Fin 1408) : (iblk m c 0 t : Vec Ideal S1x4224x1408 .bf16) (ix3 0 k a) =
    lhs m c (ix3 ⟨t.val / 2, by have := lt_grid t; omega⟩ k ⟨1408 * (t.val % 2) + a.val, by omega⟩) := by
  have e : (iblk m c 0 t : Vec Ideal S1x4224x1408 .bf16) (ix3 0 k a) = lhs m c (((cfg0.win 0).blk t).view.emb (ix3 0 k a)) := rfl
  refine e.trans (congrArg (lhs m c) ?_)
  have hi := idx_0 t
  funext d
  apply Fin.ext
  match d with
  | ⟨0, _⟩ => show win0_0.index t (0 : Fin 3) * 1 + 1 * 0 = t.val / 2; rw [hi]; show t.val / 2 * 1 + 1 * 0 = _; omega
  | ⟨1, _⟩ => show win0_0.index t (1 : Fin 3) * 4224 + 1 * k.val = k.val; rw [hi]; show 0 * 4224 + 1 * k.val = _; omega
  | ⟨2, _⟩ => show win0_0.index t (2 : Fin 3) * 1408 + 1 * a.val = 1408 * (t.val % 2) + a.val; rw [hi]; show t.val % 2 * 1408 + 1 * a.val = _; omega

theorem rhs_blk (t : Fin cfg0.N) (k : Fin 4224) (b : Fin 1024) : (iblk m c 1 t : Vec Ideal S1x4224x1024 .bf16) (ix3 0 k b) =
    rhs m c (ix3 ⟨t.val / 2 / 2, by have := lt_grid t; omega⟩ k b) := by
  have e : (iblk m c 1 t : Vec Ideal S1x4224x1024 .bf16) (ix3 0 k b) = rhs m c (((cfg0.win 1).blk t).view.emb (ix3 0 k b)) := rfl
  refine e.trans (congrArg (rhs m c) ?_)
  have hi := idx_1 t
  funext d
  apply Fin.ext
  match d with
  | ⟨0, _⟩ => show win0_1.index t (0 : Fin 3) * 1 + 1 * 0 = t.val / 2 / 2; rw [hi]; show t.val / 2 / 2 * 1 + 1 * 0 = _; omega
  | ⟨1, _⟩ => show win0_1.index t (1 : Fin 3) * 4224 + 1 * k.val = k.val; rw [hi]; show 0 * 4224 + 1 * k.val = _; omega
  | ⟨2, _⟩ => show win0_1.index t (2 : Fin 3) * 1024 + 1 * b.val = b.val; rw [hi]; show 0 * 1024 + 1 * b.val = _; omega

/-- The point that writes a row, and the row's place in its block. -/
def pointOf (w : Fin 3) (r : Fin 2816) : Fin cfg0.N := ⟨2 * w.val + r.val / 1408, by
  show _ < cfg0.N
  rw [show cfg0.N = 6 from N_0]
  omega⟩

theorem emb_2 (w : Fin 3) (r : Fin 2816) (b : Fin 1024) :
    ((cfg0.win 2).blk (pointOf w r)).view.emb (ix3 0 (⟨r.val % 1408, Nat.mod_lt _ (by omega)⟩ : Fin 1408) b : S1x1408x1024.Idx) = (ix3 w r b : S3x2816x1024.Idx) := by
  have hi := idx_2 (pointOf w r)
  have hr := r.isLt
  funext d
  apply Fin.ext
  match d with
  | ⟨0, _⟩ => show win0_2.index (pointOf w r) (0 : Fin 3) * 1 + 1 * 0 = w.val; rw [hi]; show (2 * w.val + r.val / 1408) / 2 * 1 + 1 * 0 = _; omega
  | ⟨1, _⟩ => show win0_2.index (pointOf w r) (1 : Fin 3) * 1408 + 1 * (r.val % 1408) = r.val; rw [hi]; show (2 * w.val + r.val / 1408) % 2 * 1408 + 1 * (r.val % 1408) = _; omega
  | ⟨2, _⟩ => show win0_2.index (pointOf w r) (2 : Fin 3) * 1024 + 1 * b.val = b.val; rw [hi]; show 0 * 1024 + 1 * b.val = _; omega

/-- THE THREE WEIGHTS' GRADIENTS, index by index. -/
theorem out_apply (w : Fin 3) (r : Fin 2816) (b : Fin 1024) :
    ((dats m 0 c).arrAt 2 cfg0.N : Vec Ideal S3x2816x1024 .bf16) (ix3 w r b) =
      ∑ k : Fin 4224, (lhs m c (ix3 w k r) : EReal) * rhs m c (ix3 ⟨w.val / 2, by omega⟩ k b) := by
  have e := congrFun ((blocks2 m c (pointOf w r) (flush0_2 _)).trans (flushed2_A m c (pointOf w r))) (ix3 0 (⟨r.val % 1408, Nat.mod_lt _ (by omega)⟩ : Fin 1408) b : S1x1408x1024.Idx)
  rw [out_A] at e
  have e' : ((dats m 0 c).arrAt 2 cfg0.N : Vec Ideal S3x2816x1024 .bf16) (((cfg0.win 2).blk (pointOf w r)).view.emb (ix3 0 (⟨r.val % 1408, Nat.mod_lt _ (by omega)⟩ : Fin 1408) b : S1x1408x1024.Idx))
      = k0_pay1 (iblk m c 0 (pointOf w r)) (iblk m c 1 (pointOf w r)) (ix3 0 (⟨r.val % 1408, Nat.mod_lt _ (by omega)⟩ : Fin 1408) b : S1x1408x1024.Idx) := e
  rw [emb_2] at e'
  refine e'.trans ((pay_apply _ _ _ _).trans (Finset.sum_congr rfl fun k _ => ?_))
  have hr := r.isLt
  have hw : (pointOf w r).val / 2 = w.val := by show (2 * w.val + r.val / 1408) / 2 = _; omega
  have hj : (pointOf w r).val % 2 = r.val / 1408 := by show (2 * w.val + r.val / 1408) % 2 = _; omega
  rw [lhs_blk, rhs_blk]
  refine congrArg₂ (fun u v => (lhs m c u : EReal) * rhs m c v) (congrArg₂ (fun u v => ix3 u k v) (Fin.ext hw) (Fin.ext ?_)) (congrArg (fun u => ix3 u k b) (Fin.ext ?_))
  · show 1408 * ((pointOf w r).val % 2) + r.val % 1408 = r.val
    omega
  · show (pointOf w r).val / 2 / 2 = w.val / 2
    omega

end

end Cert.WgradBlock

end
-- ==== Proof.WgradHost.lean ====
/- The values of the FFN's weight gradients, one definition per step of the host code that the two programs share, and what the
   kernel's host code hands to its call. -/
module

public import proofs.«01_k».proof.Proof.Gen.WgradIdeal.Value
public import proofs.«01_k».proof.Proof.Gen.WgradRefIdeal.Run

@[expose] public section

set_option maxRecDepth 16384

noncomputable section

namespace Cert.WgradHost

open Cert.WgradRefIdeal Cert.WgradRefIdeal.Gen
open Idealize.ShloMosaic Idealize.ShloMosaic.TcCoe Idealize.ShloMosaic.StableHlo

variable {F : FTy → Type} [FloatOps F]

abbrev Rows (F : FTy → Type) [FloatOps F] : Type := (⟨S4224x1024, .f32⟩ : BufTy).Contents (Elt F)
abbrev Inner (F : FTy → Type) [FloatOps F] : Type := (⟨S4224x2816, .f32⟩ : BufTy).Contents (Elt F)
abbrev Gain (F : FTy → Type) [FloatOps F] : Type := (⟨S1024, .f32⟩ : BufTy).Contents (Elt F)
abbrev Into (F : FTy → Type) [FloatOps F] : Type := (⟨S1024x2816, .f32⟩ : BufTy).Contents (Elt F)
abbrev OutOf (F : FTy → Type) [FloatOps F] : Type := (⟨S2816x1024, .f32⟩ : BufTy).Contents (Elt F)

/-- The number 1 at every place. -/
def one : Inner F := broadcastInDim S4224x2816 ![] bcast_S_S4224x2816 (constant S_ .f32 0x3F800000#32)
/-- The normalised rows. -/
def normed (h : Rows F) (g : Gain F) : Rows F :=
  mulf (mulf h (broadcastInDim S4224x1024 ![0, 1] bcast_S4224x1_S4224x1024_0_1 (Host.rsqrt (addf (Host.divf
    (broadcastInDim S4224x1 ![0] bcast_S4224_S4224x1_0 (Host.reduceAdd (mulf h h) (constant S_ .f32 0x00000000#32) reducesTo_S4224x1024_S4224_d1 h_S_) : (⟨S4224x1, .f32⟩ : BufTy).Contents (Elt F))
    (broadcastInDim S4224x1 ![] bcast_S_S4224x1 (constant S_ .f32 0x44800000#32)))
    (broadcastInDim S4224x1 ![] bcast_S_S4224x1 (constant S_ .f32 0x358637BD#32))))))
    (broadcastInDim S4224x1024 ![0, 1] bcast_S1x1024_S4224x1024_0_1 (broadcastInDim S1x1024 ![1] bcast_S1024_S1x1024_1 g))
/-- The rows' products with a weight. -/
def proj (n : Rows F) (w : Into F) : Inner F := Host.dotGeneral dot_S4224x1024_S1024x2816_S4224x2816_1_0_0_1_n_n none n w
/-- The logistic function. -/
def sigm (a : Inner F) : Inner F := Host.divf one (addf one (Host.exp (Host.negf a)))
/-- Half of the rows' gradient, and its products with the third weight. -/
def half (ct : Rows F) : Rows F := mulf (broadcastInDim S4224x1024 ![] bcast_S_S4224x1024 (constant S_ .f32 0x3F000000#32)) ct
def back (ct : Rows F) (wd : OutOf F) : Inner F := Host.dotGeneral dot_S4224x1024_S2816x1024_S4224x2816_1_1_0_0_n_n none (half ct) wd
/-- The gradient of the gates' input. -/
def gradGate (a b ds : Inner F) : Inner F := addf (mulf (mulf ds b) (sigm a)) (mulf (mulf a (mulf ds b)) (mulf (sigm a) (subf one (sigm a))))
/-- The gradient of the gated values. -/
def gradUp (a ds : Inner F) : Inner F := mulf (mulf a (sigm a)) ds
/-- The gated values. -/
def gated (a b : Inner F) : Inner F := mulf (mulf a (sigm a)) b

section
variable (h : Rows F) (g : Gain F) (wg wu : Into F) (wd : OutOf F) (ct : Rows F)

def da : Inner F := gradGate (proj (normed h g) wg) (proj (normed h g) wu) (back ct wd)
def db : Inner F := gradUp (proj (normed h g) wg) (back ct wd)
def s : Inner F := gated (proj (normed h g) wg) (proj (normed h g) wu)

/-- The products of the reference. -/
def dot₁ (x : Inner F) (y : Rows F) : OutOf F := Host.dotGeneral dot_S4224x2816_S4224x1024_S2816x1024_0_0_1_1_n_n none x y
def dot₂ (x : Rows F) (y : Inner F) : Into F := Host.dotGeneral dot_S4224x1024_S4224x2816_S1024x2816_0_0_1_1_n_n none x y
def flip₁ (x : OutOf F) : Into F := transpose S1024x2816 [1, 0] x transposes_S2816x1024_S1024x2816_1_0
def flip₂ (x : Into F) : OutOf F := transpose S2816x1024 [1, 0] x transposes_S1024x2816_S2816x1024_1_0
def layer (x : OutOf F) : (⟨S1x2816x1024, .f32⟩ : BufTy).Contents (Elt F) := broadcastInDim S1x2816x1024 ![1, 2] bcast_S2816x1024_S1x2816x1024_1_2 x

/-- A stack of three. -/
def stackO (x y z : OutOf F) : (⟨S3x2816x1024, .bf16⟩ : BufTy).Contents (Elt F) :=
  truncf .bf16 (concatenate S3x2816x1024 0 [⟨S1x2816x1024, layer x⟩, ⟨S1x2816x1024, layer y⟩, ⟨S1x2816x1024, layer z⟩]
    concatenates_S1x2816x1024_S1x2816x1024_S1x2816x1024_S3x2816x1024_d0 : (⟨S3x2816x1024, .f32⟩ : BufTy).Contents (Elt F)) bitsLt_bf16_f32

/-- The reference's result. -/
def out : (⟨S3x2816x1024, .bf16⟩ : BufTy).Contents (Elt F) :=
  stackO (flip₂ (flip₁ (dot₁ (da h g wg wu wd ct) (normed h g)))) (flip₂ (flip₁ (dot₁ (db h g wg wd ct) (normed h g)))) (flip₂ (dot₂ (half ct) (s h g wg wu)))

end

/-- The result of the reference's run. -/
theorem res_eq (m : (ℓ : Loc nD τ sig) → Buf (Elt F) ℓ) (c : Dev nD) : Cert.WgradRefIdeal.Value.res_main_v39 m c =
    out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Cert.WgradRefIdeal.Value.res_main_v39
  rfl

end Cert.WgradHost

namespace Cert.WgradHost

open Cert.WgradIdeal Cert.WgradIdeal.Gen
open Idealize.ShloMosaic Idealize.ShloMosaic.TcCoe Idealize.ShloMosaic.StableHlo

variable {F : FTy → Type} [FloatOps F]

def layerI (x : Inner F) : (⟨S1x4224x2816, .f32⟩ : BufTy).Contents (Elt F) := broadcastInDim S1x4224x2816 ![1, 2] bcast_S4224x2816_S1x4224x2816_1_2 x
def layerR (x : Rows F) : (⟨S1x4224x1024, .f32⟩ : BufTy).Contents (Elt F) := broadcastInDim S1x4224x1024 ![1, 2] bcast_S4224x1024_S1x4224x1024_1_2 x
/-- The two stacks. -/
def stackI (x y z : Inner F) : (⟨S3x4224x2816, .bf16⟩ : BufTy).Contents (Elt F) :=
  truncf .bf16 (concatenate S3x4224x2816 0 [⟨S1x4224x2816, layerI x⟩, ⟨S1x4224x2816, layerI y⟩, ⟨S1x4224x2816, layerI z⟩]
    concatenates_S1x4224x2816_S1x4224x2816_S1x4224x2816_S3x4224x2816_d0 : (⟨S3x4224x2816, .f32⟩ : BufTy).Contents (Elt F)) bitsLt_bf16_f32
def stackR (x y : Rows F) : (⟨S2x4224x1024, .bf16⟩ : BufTy).Contents (Elt F) :=
  truncf .bf16 (concatenate S2x4224x1024 0 [⟨S1x4224x1024, layerR x⟩, ⟨S1x4224x1024, layerR y⟩]
    concatenates_S1x4224x1024_S1x4224x1024_S2x4224x1024_d0 : (⟨S2x4224x1024, .f32⟩ : BufTy).Contents (Elt F)) bitsLt_bf16_f32

section
variable (m : (ℓ : Loc nD τ sig) → Buf (Elt F) ℓ) (c : Dev nD)

abbrev a0 : Rows F := m ((c.tc : Thread nD τ).loc main_arg0)
abbrev a1 : Gain F := m ((c.tc : Thread nD τ).loc main_arg1)
abbrev a2 : Into F := m ((c.tc : Thread nD τ).loc main_arg2)
abbrev a3 : Into F := m ((c.tc : Thread nD τ).loc main_arg3)
abbrev a4 : OutOf F := m ((c.tc : Thread nD τ).loc main_arg4)
abbrev a5 : Rows F := m ((c.tc : Thread nD τ).loc main_arg5)

set_option maxHeartbeats 2000000 in
theorem rhs_eq : (V m c main_v38 : (⟨S2x4224x1024, .bf16⟩ : BufTy).Contents (Elt F)) = stackR (normed (a0 m c) (a1 m c)) (half (a5 m c)) := by
  unfold V
  simp only [hostOps0, hostOps0_1, hostOps0_2, hostOps0_3, hostOps0_4, hostOps0_5, List.flatten_cons, List.flatten_nil, List.cons_append, List.nil_append, List.append_nil,
    TRef.binary, TRef.nullary, TRef.unary, TRef.toBuf, TRef.ofBuf, cast_eq]
  after_results_simp
  all_goals first | rfl | skip

set_option maxHeartbeats 2000000 in
theorem lhs_eq : (V m c main_v32 : (⟨S3x4224x2816, .bf16⟩ : BufTy).Contents (Elt F)) =
    stackI (da (a0 m c) (a1 m c) (a2 m c) (a3 m c) (a4 m c) (a5 m c)) (db (a0 m c) (a1 m c) (a2 m c) (a4 m c) (a5 m c)) (s (a0 m c) (a1 m c) (a2 m c) (a3 m c)) := by
  unfold V
  simp only [hostOps0, hostOps0_1, hostOps0_2, hostOps0_3, hostOps0_4, hostOps0_5, List.flatten_cons, List.flatten_nil, List.cons_append, List.nil_append, List.append_nil,
    TRef.binary, TRef.nullary, TRef.unary, TRef.toBuf, TRef.ofBuf, cast_eq]
  after_results_simp
  all_goals first | rfl | skip

end

end Cert.WgradHost

end
-- ==== Proof.WgradEq.lean ====
/- The equation of the FFN's weight gradients over the reals: each of the kernel's three products over the rows is the
   reference's, the third with its factors the other way round. -/
module

public import proofs.«01_k».proof.Proof.Tn
public import proofs.«01_k».proof.Proof.WgradHost

@[expose] public section

set_option maxRecDepth 16384

noncomputable section

namespace Cert.WgradEq

open Idealize.ShloMosaic hiding ix0 ix1 ix2 ix3 ix4 ix5 eq_ix1 eq_ix2 eq_ix3 eq_ix4 eq_ix5
open Idealize.ShloMosaic.TcCoe Idealize.ShloMosaic.ValueIdx
open Cert.WgradRefIdeal Cert.WgradRefIdeal.Gen Cert.WgradHost
open scoped BigOperators

/-! ## Layers of a stack -/

section
variable {A B : ℕ} {α : Type} (x y z : (⟨3, ![1, A, B]⟩ : Shape).Idx → α)

theorem layer0 (hc) (a : Fin A) (b : Fin B) : concatenate (⟨3, ![3, A, B]⟩ : Shape) 0 [⟨⟨3, ![1, A, B]⟩, x⟩, ⟨⟨3, ![1, A, B]⟩, y⟩, ⟨⟨3, ![1, A, B]⟩, z⟩] hc (ix3 0 a b) = x (ix3 0 a b) :=
  concatenate_apply_piece (t := ⟨3, ![3, A, B]⟩) (s₁ := ⟨3, ![1, A, B]⟩) 0 [⟨⟨3, ![1, A, B]⟩, x⟩, ⟨⟨3, ![1, A, B]⟩, y⟩, ⟨⟨3, ![1, A, B]⟩, z⟩] _ _ 0 (by simp) x rfl rfl 0 rfl (ix3 0 a b)
    (fun i hi => by fin_cases i <;> first | rfl | exact absurd rfl hi) rfl
theorem layer1 (hc) (a : Fin A) (b : Fin B) : concatenate (⟨3, ![3, A, B]⟩ : Shape) 0 [⟨⟨3, ![1, A, B]⟩, x⟩, ⟨⟨3, ![1, A, B]⟩, y⟩, ⟨⟨3, ![1, A, B]⟩, z⟩] hc (ix3 1 a b) = y (ix3 0 a b) :=
  concatenate_apply_piece (t := ⟨3, ![3, A, B]⟩) (s₁ := ⟨3, ![1, A, B]⟩) 0 [⟨⟨3, ![1, A, B]⟩, x⟩, ⟨⟨3, ![1, A, B]⟩, y⟩, ⟨⟨3, ![1, A, B]⟩, z⟩] _ _ 1 (by simp) y rfl rfl 1 rfl (ix3 0 a b)
    (fun i hi => by fin_cases i <;> first | rfl | exact absurd rfl hi) rfl
theorem layer2 (hc) (a : Fin A) (b : Fin B) : concatenate (⟨3, ![3, A, B]⟩ : Shape) 0 [⟨⟨3, ![1, A, B]⟩, x⟩, ⟨⟨3, ![1, A, B]⟩, y⟩, ⟨⟨3, ![1, A, B]⟩, z⟩] hc (ix3 2 a b) = z (ix3 0 a b) :=
  concatenate_apply_piece (t := ⟨3, ![3, A, B]⟩) (s₁ := ⟨3, ![1, A, B]⟩) 0 [⟨⟨3, ![1, A, B]⟩, x⟩, ⟨⟨3, ![1, A, B]⟩, y⟩, ⟨⟨3, ![1, A, B]⟩, z⟩] _ _ 2 (by simp) z rfl rfl 2 rfl (ix3 0 a b)
    (fun i hi => by fin_cases i <;> first | rfl | exact absurd rfl hi) rfl
theorem two0 (hc) (a : Fin A) (b : Fin B) : concatenate (⟨3, ![2, A, B]⟩ : Shape) 0 [⟨⟨3, ![1, A, B]⟩, x⟩, ⟨⟨3, ![1, A, B]⟩, y⟩] hc (ix3 0 a b) = x (ix3 0 a b) :=
  concatenate_apply_piece (t := ⟨3, ![2, A, B]⟩) (s₁ := ⟨3, ![1, A, B]⟩) 0 [⟨⟨3, ![1, A, B]⟩, x⟩, ⟨⟨3, ![1, A, B]⟩, y⟩] _ _ 0 (by simp) x rfl rfl 0 rfl (ix3 0 a b)
    (fun i hi => by fin_cases i <;> first | rfl | exact absurd rfl hi) rfl
theorem two1 (hc) (a : Fin A) (b : Fin B) : concatenate (⟨3, ![2, A, B]⟩ : Shape) 0 [⟨⟨3, ![1, A, B]⟩, x⟩, ⟨⟨3, ![1, A, B]⟩, y⟩] hc (ix3 1 a b) = y (ix3 0 a b) :=
  concatenate_apply_piece (t := ⟨3, ![2, A, B]⟩) (s₁ := ⟨3, ![1, A, B]⟩) 0 [⟨⟨3, ![1, A, B]⟩, x⟩, ⟨⟨3, ![1, A, B]⟩, y⟩] _ _ 1 (by simp) y rfl rfl 1 rfl (ix3 0 a b)
    (fun i hi => by fin_cases i <;> first | rfl | exact absurd rfl hi) rfl

end

/-! ## The kernel's stacks -/

theorem layerI_apply (x : Inner Ideal) (k : Fin 4224) (r : Fin 2816) : layerI x (ix3 0 k r) = x (ix2 k r) :=
  broadcastInDim_apply _ _ _ _ _ (fun i => by fin_cases i <;> rfl)
theorem layerR_apply (x : Rows Ideal) (k : Fin 4224) (b : Fin 1024) : layerR x (ix3 0 k b) = x (ix2 k b) :=
  broadcastInDim_apply _ _ _ _ _ (fun i => by fin_cases i <;> rfl)
theorem layer_apply (x : OutOf Ideal) (r : Fin 2816) (b : Fin 1024) : layer x (ix3 0 r b) = x (ix2 r b) :=
  broadcastInDim_apply _ _ _ _ _ (fun i => by fin_cases i <;> rfl)
theorem flip₁_apply (x : OutOf Ideal) (r : Fin 2816) (b : Fin 1024) : flip₁ x (ix2 b r) = x (ix2 r b) :=
  transpose_apply _ _ _ (ix2 b r) (ix2 r b) (fun i => by fin_cases i <;> rfl)
theorem flip₂_apply (x : Into Ideal) (r : Fin 2816) (b : Fin 1024) : flip₂ x (ix2 r b) = x (ix2 b r) :=
  transpose_apply _ _ _ (ix2 r b) (ix2 b r) (fun i => by fin_cases i <;> rfl)
theorem dot₁_apply (x : Inner Ideal) (y : Rows Ideal) (r : Fin 2816) (b : Fin 1024) :
    dot₁ x y (ix2 r b) = ∑ k : Fin 4224, (x (ix2 k r) : EReal) * y (ix2 k b) := Tn.host_apply _ _ _ _ _
theorem dot₂_apply (x : Rows Ideal) (y : Inner Ideal) (r : Fin 2816) (b : Fin 1024) :
    dot₂ x y (ix2 b r) = ∑ k : Fin 4224, (x (ix2 k b) : EReal) * y (ix2 k r) := Tn.host_apply _ _ _ _ _

theorem stackI_0 (x y z : Inner Ideal) (k : Fin 4224) (r : Fin 2816) : stackI x y z (ix3 0 k r) = x (ix2 k r) :=
  (layer0 (layerI x) (layerI y) (layerI z) Cert.WgradIdeal.Facts₀.concatenates_S1x4224x2816_S1x4224x2816_S1x4224x2816_S3x4224x2816_d0 k r).trans (layerI_apply x k r)
theorem stackI_1 (x y z : Inner Ideal) (k : Fin 4224) (r : Fin 2816) : stackI x y z (ix3 1 k r) = y (ix2 k r) :=
  (layer1 (layerI x) (layerI y) (layerI z) Cert.WgradIdeal.Facts₀.concatenates_S1x4224x2816_S1x4224x2816_S1x4224x2816_S3x4224x2816_d0 k r).trans (layerI_apply y k r)
theorem stackI_2 (x y z : Inner Ideal) (k : Fin 4224) (r : Fin 2816) : stackI x y z (ix3 2 k r) = z (ix2 k r) :=
  (layer2 (layerI x) (layerI y) (layerI z) Cert.WgradIdeal.Facts₀.concatenates_S1x4224x2816_S1x4224x2816_S1x4224x2816_S3x4224x2816_d0 k r).trans (layerI_apply z k r)
theorem stackR_0 (x y : Rows Ideal) (k : Fin 4224) (b : Fin 1024) : stackR x y (ix3 0 k b) = x (ix2 k b) :=
  (two0 (layerR x) (layerR y) Cert.WgradIdeal.Facts₀.concatenates_S1x4224x1024_S1x4224x1024_S2x4224x1024_d0 k b).trans (layerR_apply x k b)
theorem stackR_1 (x y : Rows Ideal) (k : Fin 4224) (b : Fin 1024) : stackR x y (ix3 1 k b) = y (ix2 k b) :=
  (two1 (layerR x) (layerR y) Cert.WgradIdeal.Facts₀.concatenates_S1x4224x1024_S1x4224x1024_S2x4224x1024_d0 k b).trans (layerR_apply y k b)

theorem stackO_0 (x y z : OutOf Ideal) (r : Fin 2816) (b : Fin 1024) : stackO x y z (ix3 0 r b) = x (ix2 r b) :=
  (layer0 (layer x) (layer y) (layer z) concatenates_S1x2816x1024_S1x2816x1024_S1x2816x1024_S3x2816x1024_d0 r b).trans (layer_apply x r b)
theorem stackO_1 (x y z : OutOf Ideal) (r : Fin 2816) (b : Fin 1024) : stackO x y z (ix3 1 r b) = y (ix2 r b) :=
  (layer1 (layer x) (layer y) (layer z) concatenates_S1x2816x1024_S1x2816x1024_S1x2816x1024_S3x2816x1024_d0 r b).trans (layer_apply y r b)
theorem stackO_2 (x y z : OutOf Ideal) (r : Fin 2816) (b : Fin 1024) : stackO x y z (ix3 2 r b) = z (ix2 r b) :=
  (layer2 (layer x) (layer y) (layer z) concatenates_S1x2816x1024_S1x2816x1024_S1x2816x1024_S3x2816x1024_d0 r b).trans (layer_apply z r b)

section
variable (h : Rows Ideal) (g : Gain Ideal) (wg wu : Into Ideal) (wd : OutOf Ideal) (ct : Rows Ideal)

theorem out_stack : out h g wg wu wd ct = stackO (flip₂ (flip₁ (dot₁ (da h g wg wu wd ct) (normed h g)))) (flip₂ (flip₁ (dot₁ (db h g wg wd ct) (normed h g))))
    (flip₂ (dot₂ (half ct) (s h g wg wu))) := rfl

/-- The three products. -/
theorem out_eq (w : Fin 3) (r : Fin 2816) (b : Fin 1024) : out h g wg wu wd ct (ix3 w r b) =
    ∑ k : Fin 4224, (stackI (da h g wg wu wd ct) (db h g wg wd ct) (s h g wg wu) (ix3 w k r) : EReal)
      * stackR (normed h g) (half ct) (ix3 ⟨w.val / 2, by omega⟩ k b) := by
  rw [out_stack]
  match w with
  | 0 =>
    rw [stackO_0, flip₂_apply, flip₁_apply, dot₁_apply]
    exact Finset.sum_congr rfl fun k _ => congrArg₂ (fun u v : EReal => u * v) (stackI_0 _ _ _ k r).symm (stackR_0 _ _ k b).symm
  | 1 =>
    rw [stackO_1, flip₂_apply, flip₁_apply, dot₁_apply]
    exact Finset.sum_congr rfl fun k _ => congrArg₂ (fun u v : EReal => u * v) (stackI_1 _ _ _ k r).symm (stackR_0 _ _ k b).symm
  | 2 =>
    rw [stackO_2, flip₂_apply, dot₂_apply]
    exact Finset.sum_congr rfl fun k _ => (mul_comm _ _).trans (congrArg₂ (fun u v : EReal => u * v) (stackI_2 _ _ _ k r).symm (stackR_1 _ _ k b).symm)

end

end Cert.WgradEq

end
-- ==== Proof.WgradClaim.lean ====
/- The claims of the FFN's weight gradients. -/
module

public import proofs.«01_k».proof.Defs
public import proofs.«01_k».proof.Proof.WgradBlock
public import proofs.«01_k».proof.Proof.WgradEq
public import Idealize.ShloMosaic.Lib.Quiescent

@[expose] public section

set_option maxRecDepth 8000

noncomputable section

namespace Cert.WgradClaim

open Idealize.ShloMosaic hiding ix0 ix1 ix2 ix3 ix4 ix5 eq_ix1 eq_ix2 eq_ix3 eq_ix4 eq_ix5
open Idealize.ShloMosaic.TcCoe Idealize.ShloMosaic.StableHlo Idealize.SL.Sem Idealize.ShloMosaic.ValueIdx

instance : Cert.WgradIdeal.Facts := Cert.WgradIdeal.Gen.facts
instance : Cert.WgradRefIdeal.Facts := Cert.WgradRefIdeal.Gen.facts

theorem quiescent : Cert.quiescent_WgradRefIdeal := fun m g _ =>
  (θ_run Cert.WgradRefIdeal.defs _ _).mono (fun r h => ⟨fun c => (h c).2, sem_eq_zero_of_no_sems (by decide) r.2⟩) (Cert.WgradRefIdeal.Value.run m g)

/-- What the kernel's call leaves is the reference's value. -/
theorem final (m : (ℓ : Loc Cert.WgradIdeal.nD Cert.WgradIdeal.τ Cert.WgradIdeal.sig) → Buf (Elt Ideal) ℓ) (c : Dev Cert.WgradIdeal.nD) :
    (Cert.WgradIdeal.Gen.dats m 0 c).arrAt 2 Cert.WgradIdeal.cfg0.N =
      WgradHost.out (WgradHost.a0 m c) (WgradHost.a1 m c) (WgradHost.a2 m c) (WgradHost.a3 m c) (WgradHost.a4 m c) (WgradHost.a5 m c) := by
  funext (i : Cert.WgradIdeal.S3x2816x1024.Idx)
  rw [eq_ix3 i]
  refine (WgradBlock.out_apply m c (i 0) (i 1) (i 2)).trans (Eq.trans ?_ (WgradEq.out_eq _ _ _ _ _ _ (i 0) (i 1) (i 2)).symm)
  rw [show WgradBlock.lhs m c = _ from WgradHost.lhs_eq m c, show WgradBlock.rhs m c = _ from WgradHost.rhs_eq m c]

/-- The two programs end with the same three gradients. -/
theorem algebraic : Cert.algebraic_WgradIdeal_WgradRefIdeal := by
  intro m g m' g' _ hargs
  refine ⟨fun c => (Cert.WgradIdeal.Gen.dats m 0 c).arrAt 2 Cert.WgradIdeal.cfg0.N, Cert.WgradIdeal.Value.run_blocks m g, ?_⟩
  refine (θ_run Cert.WgradRefIdeal.defs _ _).mono (fun r h c => ⟨(h c).1.trans ?_, (h c).2⟩) (Cert.WgradRefIdeal.Value.run m' g')
  obtain ⟨h0, h1, h2, h3, h4, h5⟩ := hargs c
  rw [WgradHost.res_eq, h0, h1, h2, h3, h4, h5]
  exact (final m c).symm

end Cert.WgradClaim

end
-- ==== Proof.WinBlock.lean ====
/- What the call of the mixing's weight gradient leaves in its array, index by index: the product of its two
   matrices over their rows. -/
module

public import proofs.«01_k».proof.Proof.Tn
public import proofs.«01_k».proof.Proof.Gen.WinIdeal.Value

@[expose] public section

set_option maxRecDepth 16384

noncomputable section

namespace Cert.WinBlock

open Idealize.ShloMosaic hiding ix0 ix1 ix2 ix3 ix4 ix5 eq_ix1 eq_ix2 eq_ix3 eq_ix4 eq_ix5
open Idealize.ShloMosaic.TcCoe Idealize.ShloMosaic.ValueIdx
open Cert.WinIdeal Cert.WinIdeal.Gen Cert.WinIdeal.Value
open scoped BigOperators

section
variable {F : FTy → Type} [FloatOps F]

theorem zeros : (![0, 0, 0] : Fin 3 → ℕ) = fun _ => 0 := by funext a; fin_cases a <;> rfl

/-- The body's one store is of the whole block. -/
theorem out_A (c : Dev nD) (i : grid0.Coords) (arg3 : Memref sig .tc .vmem S1x4224x1152 .bf16) (harg3 : arg3.IsWhole) (arg4 : Memref sig .tc .vmem S1x4224x1024 .bf16) (harg4 : arg4.IsWhole) (arg5 : Memref sig .tc .vmem S1x1152x1024 .bf16) (harg5 : arg5.IsWhole) (arg6 : Memref sig .tc .vmem S8x128 .f32) (harg6 : arg6.IsWhole)
    (x0 : Vec F S1x4224x1152 .bf16) (x1 : Vec F S1x4224x1024 .bf16) :
    out0_A_2 c i arg3 harg3 arg4 harg4 arg5 harg5 arg6 harg6 x0 x1 = k0_pay1 x0 x1 := by
  unfold out0_A_2
  rw [View.read_writes_junk_eq_canon]
  unfold kernelRun0_A
  simp only [View.readAt_eq_ld, harg3.read_unread, harg4.read_unread]
  rw [View.canon_unit_zero (S := S1x1152x1024) (off := ![0, 0, 0]) zeros, View.ld_unit_zero (S := S1x4224x1152) (off := ![0, 0, 0]) zeros,
    View.ld_unit_zero (S := S1x4224x1024) (off := ![0, 0, 0]) zeros]

end

/-- The block: a product over the rows. -/
theorem pay_apply (x0 : Vec Ideal S1x4224x1152 .bf16) (x1 : Vec Ideal S1x4224x1024 .bf16) (a : Fin 1152) (b : Fin 1024) :
    k0_pay1 x0 x1 (ix3 0 a b) = ∑ k : Fin 4224, (x0 (ix3 0 k a) : EReal) * x1 (ix3 0 k b) := by
  unfold k0_pay1
  rw [shapeCast_apply _ _ (ix3 0 a b) (ix2 a b) (by
    rw [Shape.rowMajor_val_two, Shape.rowMajor_val_three]
    show a.val * 1024 + b.val = (0 * 1152 + a.val) * 1024 + b.val
    omega)]
  refine (Tn.matmul_apply _ _ _ a b).trans (Finset.sum_congr rfl fun k _ => ?_)
  rw [shapeCast_apply _ _ (ix2 k a) (ix3 0 k a) (by
      rw [Shape.rowMajor_val_two, Shape.rowMajor_val_three]
      show (0 * 4224 + k.val) * 1152 + a.val = k.val * 1152 + a.val
      omega),
    shapeCast_apply _ _ (ix2 k b) (ix3 0 k b) (by
      rw [Shape.rowMajor_val_two, Shape.rowMajor_val_three]
      show (0 * 4224 + k.val) * 1024 + b.val = k.val * 1024 + b.val
      omega)]

section
variable (m : (ℓ : Loc nD τ sig) → Buf (Elt Ideal) ℓ) (c : Dev nD)

/-- The two matrices at the launch. -/
abbrev lhs : Vec Ideal S1x4224x4608 .bf16 := V m c main_v1
abbrev rhs : Vec Ideal S1x4224x1024 .bf16 := V m c main_v16

theorem idx_0 : ∀ t : Fin cfg0.N, win0_0.index t = ![0, 0, t.val] := (by decide +kernel : ∀ t : Fin grid0.N, win0_0.index t = ![0, 0, t.val])
theorem idx_1 : ∀ t : Fin cfg0.N, win0_1.index t = ![0, 0, 0] := (by decide +kernel : ∀ t : Fin grid0.N, win0_1.index t = ![0, 0, 0])
theorem idx_2 : ∀ t : Fin cfg0.N, win0_2.index t = ![0, t.val, 0] := (by decide +kernel : ∀ t : Fin grid0.N, win0_2.index t = ![0, t.val, 0])

theorem lt_grid (t : Fin cfg0.N) : t.val < 4 := lt_of_lt_of_eq t.isLt (show cfg0.N = 4 from N_0)

theorem lhs_blk (t : Fin cfg0.N) (k : Fin 4224) (a : Fin 1152) : (iblk m c 0 t : Vec Ideal S1x4224x1152 .bf16) (ix3 0 k a) =
    lhs m c (ix3 0 k ⟨1152 * t.val + a.val, by have := lt_grid t; omega⟩) := by
  have e : (iblk m c 0 t : Vec Ideal S1x4224x1152 .bf16) (ix3 0 k a) = lhs m c (((cfg0.win 0).blk t).view.emb (ix3 0 k a)) := rfl
  refine e.trans (congrArg (lhs m c) ?_)
  have hi := idx_0 t
  funext d
  apply Fin.ext
  match d with
  | ⟨0, _⟩ => show win0_0.index t (0 : Fin 3) * 1 + 1 * 0 = 0; rw [hi]; show 0 * 1 + 1 * 0 = _; omega
  | ⟨1, _⟩ => show win0_0.index t (1 : Fin 3) * 4224 + 1 * k.val = k.val; rw [hi]; show 0 * 4224 + 1 * k.val = _; omega
  | ⟨2, _⟩ => show win0_0.index t (2 : Fin 3) * 1152 + 1 * a.val = 1152 * t.val + a.val; rw [hi]; show t.val * 1152 + 1 * a.val = _; omega

theorem rhs_blk (t : Fin cfg0.N) (k : Fin 4224) (b : Fin 1024) : (iblk m c 1 t : Vec Ideal S1x4224x1024 .bf16) (ix3 0 k b) =
    rhs m c (ix3 0 k b) := by
  have e : (iblk m c 1 t : Vec Ideal S1x4224x1024 .bf16) (ix3 0 k b) = rhs m c (((cfg0.win 1).blk t).view.emb (ix3 0 k b)) := rfl
  refine e.trans (congrArg (rhs m c) ?_)
  have hi := idx_1 t
  funext d
  apply Fin.ext
  match d with
  | ⟨0, _⟩ => show win0_1.index t (0 : Fin 3) * 1 + 1 * 0 = 0; rw [hi]; show 0 * 1 + 1 * 0 = _; omega
  | ⟨1, _⟩ => show win0_1.index t (1 : Fin 3) * 4224 + 1 * k.val = k.val; rw [hi]; show 0 * 4224 + 1 * k.val = _; omega
  | ⟨2, _⟩ => show win0_1.index t (2 : Fin 3) * 1024 + 1 * b.val = b.val; rw [hi]; show 0 * 1024 + 1 * b.val = _; omega

/-- The point that writes a row, and the row's place in its block. -/
def pointOf (r : Fin 4608) : Fin cfg0.N := ⟨r.val / 1152, by
  show _ < cfg0.N
  rw [show cfg0.N = 4 from N_0]
  omega⟩

theorem emb_2 (r : Fin 4608) (b : Fin 1024) :
    ((cfg0.win 2).blk (pointOf r)).view.emb (ix3 0 (⟨r.val % 1152, Nat.mod_lt _ (by omega)⟩ : Fin 1152) b : S1x1152x1024.Idx) = (ix3 0 r b : S1x4608x1024.Idx) := by
  have hi := idx_2 (pointOf r)
  have hr := r.isLt
  funext d
  apply Fin.ext
  match d with
  | ⟨0, _⟩ => show win0_2.index (pointOf r) (0 : Fin 3) * 1 + 1 * 0 = 0; rw [hi]; show 0 * 1 + 1 * 0 = _; omega
  | ⟨1, _⟩ => show win0_2.index (pointOf r) (1 : Fin 3) * 1152 + 1 * (r.val % 1152) = r.val; rw [hi]; show r.val / 1152 * 1152 + 1 * (r.val % 1152) = _; omega
  | ⟨2, _⟩ => show win0_2.index (pointOf r) (2 : Fin 3) * 1024 + 1 * b.val = b.val; rw [hi]; show 0 * 1024 + 1 * b.val = _; omega

/-- THE WEIGHT'S GRADIENT, index by index. -/
theorem out_apply (r : Fin 4608) (b : Fin 1024) :
    ((dats m 0 c).arrAt 2 cfg0.N : Vec Ideal S1x4608x1024 .bf16) (ix3 0 r b) =
      ∑ k : Fin 4224, (lhs m c (ix3 0 k r) : EReal) * rhs m c (ix3 0 k b) := by
  have e := congrFun ((blocks2 m c (pointOf r) (flush0_2 _)).trans (flushed2_A m c (pointOf r))) (ix3 0 (⟨r.val % 1152, Nat.mod_lt _ (by omega)⟩ : Fin 1152) b : S1x1152x1024.Idx)
  rw [out_A] at e
  have e' : ((dats m 0 c).arrAt 2 cfg0.N : Vec Ideal S1x4608x1024 .bf16) (((cfg0.win 2).blk (pointOf r)).view.emb (ix3 0 (⟨r.val % 1152, Nat.mod_lt _ (by omega)⟩ : Fin 1152) b : S1x1152x1024.Idx))
      = k0_pay1 (iblk m c 0 (pointOf r)) (iblk m c 1 (pointOf r)) (ix3 0 (⟨r.val % 1152, Nat.mod_lt _ (by omega)⟩ : Fin 1152) b : S1x1152x1024.Idx) := e
  rw [emb_2] at e'
  refine e'.trans ((pay_apply _ _ _ _).trans (Finset.sum_congr rfl fun k _ => ?_))
  have hr := r.isLt
  rw [lhs_blk, rhs_blk]
  refine congrArg (fun u => (lhs m c u : EReal) * rhs m c (ix3 0 k b)) (congrArg (fun u => ix3 0 k u) (Fin.ext ?_))
  show 1152 * (r.val / 1152) + r.val % 1152 = r.val
  omega

end

end Cert.WinBlock

end
-- ==== Proof.WinHost.lean ====
/- The values of the mixing's weight gradient, what the kernel's host code hands to its call, and the equation over the reals: the
   kernel's product over the rows is the reference's. -/
module

public import proofs.«01_k».proof.Proof.Tn
public import proofs.«01_k».proof.Proof.Gen.WinIdeal.Value
public import proofs.«01_k».proof.Proof.Gen.WinRefIdeal.Run

@[expose] public section

set_option maxRecDepth 16384

noncomputable section

namespace Cert.WinHost

open Idealize.ShloMosaic hiding ix0 ix1 ix2 ix3 ix4 ix5 eq_ix1 eq_ix2 eq_ix3 eq_ix4 eq_ix5
open Idealize.ShloMosaic.TcCoe Idealize.ShloMosaic.StableHlo Idealize.ShloMosaic.ValueIdx
open scoped BigOperators

section
open Cert.WinRefIdeal Cert.WinRefIdeal.Gen

variable {F : FTy → Type} [FloatOps F]

abbrev Rows (F : FTy → Type) [FloatOps F] : Type := (⟨S4224x1024, .f32⟩ : BufTy).Contents (Elt F)
abbrev Gain (F : FTy → Type) [FloatOps F] : Type := (⟨S1024, .f32⟩ : BufTy).Contents (Elt F)
abbrev Inner (F : FTy → Type) [FloatOps F] : Type := (⟨S4224x4608, .f32⟩ : BufTy).Contents (Elt F)
abbrev OutOf (F : FTy → Type) [FloatOps F] : Type := (⟨S4608x1024, .f32⟩ : BufTy).Contents (Elt F)
abbrev Into (F : FTy → Type) [FloatOps F] : Type := (⟨S1024x4608, .f32⟩ : BufTy).Contents (Elt F)

/-- The normalised rows. -/
def normed (h : Rows F) (g : Gain F) : Rows F :=
  mulf (mulf h (broadcastInDim S4224x1024 ![0, 1] bcast_S4224x1_S4224x1024_0_1 (Host.rsqrt (addf (Host.divf
    (broadcastInDim S4224x1 ![0] bcast_S4224_S4224x1_0 (Host.reduceAdd (mulf h h) (constant S_ .f32 0x00000000#32) reducesTo_S4224x1024_S4224_d1 h_S_) : (⟨S4224x1, .f32⟩ : BufTy).Contents (Elt F))
    (broadcastInDim S4224x1 ![] bcast_S_S4224x1 (constant S_ .f32 0x44800000#32)))
    (broadcastInDim S4224x1 ![] bcast_S_S4224x1 (constant S_ .f32 0x358637BD#32))))))
    (broadcastInDim S4224x1024 ![0, 1] bcast_S1x1024_S4224x1024_0_1 (broadcastInDim S1x1024 ![1] bcast_S1024_S1x1024_1 g))
/-- The product of the reference, its two transposes, and its result. -/
def dot (x : Inner F) (y : Rows F) : OutOf F := Host.dotGeneral dot_S4224x4608_S4224x1024_S4608x1024_0_0_1_1_n_n none x y
def flip₁ (x : OutOf F) : Into F := transpose S1024x4608 [1, 0] x transposes_S4608x1024_S1024x4608_1_0
def flip₂ (x : Into F) : OutOf F := transpose S4608x1024 [1, 0] x transposes_S1024x4608_S4608x1024_1_0
def layer (x : OutOf F) : (⟨S1x4608x1024, .bf16⟩ : BufTy).Contents (Elt F) :=
  truncf .bf16 (broadcastInDim S1x4608x1024 ![1, 2] bcast_S4608x1024_S1x4608x1024_1_2 x : (⟨S1x4608x1024, .f32⟩ : BufTy).Contents (Elt F)) bitsLt_bf16_f32
def out (h : Rows F) (g : Gain F) (dz : Inner F) : (⟨S1x4608x1024, .bf16⟩ : BufTy).Contents (Elt F) := layer (flip₂ (flip₁ (dot dz (normed h g))))

/-- The reference's run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = out (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.WinRefIdeal.Value.run m ρ

end

section
open Cert.WinIdeal Cert.WinIdeal.Gen

variable {F : FTy → Type} [FloatOps F]

/-- The two matrices of the kernel's call. -/
def layerI (x : Inner F) : (⟨S1x4224x4608, .bf16⟩ : BufTy).Contents (Elt F) :=
  truncf .bf16 (broadcastInDim S1x4224x4608 ![1, 2] bcast_S4224x4608_S1x4224x4608_1_2 x : (⟨S1x4224x4608, .f32⟩ : BufTy).Contents (Elt F)) bitsLt_bf16_f32
def layerR (x : Rows F) : (⟨S1x4224x1024, .bf16⟩ : BufTy).Contents (Elt F) :=
  truncf .bf16 (broadcastInDim S1x4224x1024 ![1, 2] bcast_S4224x1024_S1x4224x1024_1_2 x : (⟨S1x4224x1024, .f32⟩ : BufTy).Contents (Elt F)) bitsLt_bf16_f32

variable (m : (ℓ : Loc nD τ sig) → Buf (Elt F) ℓ) (c : Dev nD)

abbrev a0 : Rows F := m ((c.tc : Thread nD τ).loc main_arg0)
abbrev a1 : Gain F := m ((c.tc : Thread nD τ).loc main_arg1)
abbrev a3 : Inner F := m ((c.tc : Thread nD τ).loc main_arg3)

theorem rhs_eq : (V m c main_v16 : (⟨S1x4224x1024, .bf16⟩ : BufTy).Contents (Elt F)) = layerR (normed (a0 m c) (a1 m c)) := by
  unfold V
  simp only [hostOps0]
  after_results_simp
  rfl

theorem lhs_eq : (V m c main_v1 : (⟨S1x4224x4608, .bf16⟩ : BufTy).Contents (Elt F)) = layerI (a3 m c) := by
  unfold V
  simp only [hostOps0]
  after_results_simp
  rfl

end

theorem layerI_apply (x : Inner Ideal) (k : Fin 4224) (r : Fin 4608) : layerI x (ix3 0 k r) = x (ix2 k r) :=
  broadcastInDim_apply _ Cert.WinIdeal.Facts₀.bcast_S4224x4608_S1x4224x4608_1_2 x (ix3 0 k r) (ix2 k r) (fun i => by fin_cases i <;> rfl)
theorem layerR_apply (x : Rows Ideal) (k : Fin 4224) (b : Fin 1024) : layerR x (ix3 0 k b) = x (ix2 k b) :=
  broadcastInDim_apply _ Cert.WinIdeal.Facts₀.bcast_S4224x1024_S1x4224x1024_1_2 x (ix3 0 k b) (ix2 k b) (fun i => by fin_cases i <;> rfl)
theorem layer_apply (x : OutOf Ideal) (r : Fin 4608) (b : Fin 1024) : layer x (ix3 0 r b) = x (ix2 r b) :=
  broadcastInDim_apply _ Cert.WinRefIdeal.Facts₀.bcast_S4608x1024_S1x4608x1024_1_2 x (ix3 0 r b) (ix2 r b) (fun i => by fin_cases i <;> rfl)
theorem flip₁_apply (x : OutOf Ideal) (r : Fin 4608) (b : Fin 1024) : flip₁ x (ix2 b r) = x (ix2 r b) :=
  transpose_apply _ _ _ (ix2 b r) (ix2 r b) (fun i => by fin_cases i <;> rfl)
theorem flip₂_apply (x : Into Ideal) (r : Fin 4608) (b : Fin 1024) : flip₂ x (ix2 r b) = x (ix2 b r) :=
  transpose_apply _ _ _ (ix2 r b) (ix2 b r) (fun i => by fin_cases i <;> rfl)
theorem dot_apply (x : Inner Ideal) (y : Rows Ideal) (r : Fin 4608) (b : Fin 1024) :
    dot x y (ix2 r b) = ∑ k : Fin 4224, (x (ix2 k r) : EReal) * y (ix2 k b) := Tn.host_apply _ _ _ _ _

/-- The product. -/
theorem out_eq (h : Rows Ideal) (g : Gain Ideal) (dz : Inner Ideal) (r : Fin 4608) (b : Fin 1024) : out h g dz (ix3 0 r b) =
    ∑ k : Fin 4224, (layerI dz (ix3 0 k r) : EReal) * layerR (normed h g) (ix3 0 k b) := by
  unfold out
  rw [layer_apply, flip₂_apply, flip₁_apply, dot_apply]
  exact Finset.sum_congr rfl fun k _ => congrArg₂ (fun u v : EReal => u * v) (layerI_apply _ k r).symm (layerR_apply _ k b).symm

end Cert.WinHost

end
-- ==== Proof.WinClaim.lean ====
/- The claims of the mixing's weight gradient. -/
module

public import proofs.«01_k».proof.Defs
public import proofs.«01_k».proof.Proof.WinBlock
public import proofs.«01_k».proof.Proof.WinHost
public import Idealize.ShloMosaic.Lib.Quiescent

@[expose] public section

set_option maxRecDepth 8000

noncomputable section

namespace Cert.WinClaim

open Idealize.ShloMosaic hiding ix0 ix1 ix2 ix3 ix4 ix5 eq_ix1 eq_ix2 eq_ix3 eq_ix4 eq_ix5
open Idealize.ShloMosaic.TcCoe Idealize.ShloMosaic.StableHlo Idealize.SL.Sem Idealize.ShloMosaic.ValueIdx

instance : Cert.WinIdeal.Facts := Cert.WinIdeal.Gen.facts
instance : Cert.WinRefIdeal.Facts := Cert.WinRefIdeal.Gen.facts

theorem quiescent : Cert.quiescent_WinRefIdeal := fun m g _ =>
  (θ_run Cert.WinRefIdeal.defs _ _).mono (fun r h => ⟨fun c => (h c).2, sem_eq_zero_of_no_sems (by decide) r.2⟩) (WinHost.run m g)

/-- What the kernel's call leaves is the reference's value. -/
theorem final (m : (ℓ : Loc Cert.WinIdeal.nD Cert.WinIdeal.τ Cert.WinIdeal.sig) → Buf (Elt Ideal) ℓ) (c : Dev Cert.WinIdeal.nD) :
    (Cert.WinIdeal.Gen.dats m 0 c).arrAt 2 Cert.WinIdeal.cfg0.N = WinHost.out (WinHost.a0 m c) (WinHost.a1 m c) (WinHost.a3 m c) := by
  funext (i : Cert.WinIdeal.S1x4608x1024.Idx)
  rw [eq_ix3 i, show i 0 = (0 : Fin 1) from Subsingleton.elim (α := Fin 1) _ _]
  refine (WinBlock.out_apply m c (i 1) (i 2)).trans (Eq.trans ?_ (WinHost.out_eq _ _ _ (i 1) (i 2)).symm)
  rw [show WinBlock.lhs m c = _ from WinHost.lhs_eq m c, show WinBlock.rhs m c = _ from WinHost.rhs_eq m c]

/-- The two programs end with the same gradient. -/
theorem algebraic : Cert.algebraic_WinIdeal_WinRefIdeal := by
  intro m g m' g' _ hargs
  refine ⟨fun c => (Cert.WinIdeal.Gen.dats m 0 c).arrAt 2 Cert.WinIdeal.cfg0.N, Cert.WinIdeal.Value.run_blocks m g, ?_⟩
  refine (θ_run Cert.WinRefIdeal.defs _ _).mono (fun r h c => ⟨(h c).1.trans ?_, (h c).2⟩) (WinHost.run m' g')
  obtain ⟨h0, h1, h2, h3⟩ := hargs c
  rw [h0, h1, h3]
  exact (final m c).symm

end Cert.WinClaim

end
-- ==== Proof.Nn.lean ====
/- Products of two matrices over the columns of the first, read at an index, in a kernel and on the host; and the functions of a
   row that the feed-forward block is made of. -/
module

public import Idealize.ShloMosaic.Lib.ValueIdx
public import Idealize.ShloMosaic.Lib.Pointwise.Contract
public import Idealize.ShloMosaic.PureOps.Ideal.Laws

@[expose] public section

noncomputable section

namespace Cert.Nn

open Idealize.ShloMosaic hiding ix0 ix1 ix2 ix3 ix4 ix5
open Idealize.ShloMosaic.ValueIdx
open scoped BigOperators

variable {K M N : ℕ} {φ₁ φ₂ : FTy}

/-- Over a zero accumulator, the second factor's rows. -/
theorem nt_apply (wf : DotDims.WF ⟨2, ![M, K]⟩ ⟨2, ![N, K]⟩ ⟨2, ![M, N]⟩ [1] [1] [0] [0] [] [])
    (x : FVec Ideal ⟨2, ![M, K]⟩ φ₁) (y : FVec Ideal ⟨2, ![N, K]⟩ φ₂) (a : Fin M) (b : Fin N) :
    matmul (⟨[1], [1], [0], [0], [], [], wf⟩ : DotDims ⟨2, ![M, K]⟩ ⟨2, ![N, K]⟩ ⟨2, ![M, N]⟩) none x y (constant ⟨2, ![M, N]⟩ .f32 0x00000000#32) (ix2 a b)
      = ∑ k : Fin K, (x (ix2 a k) : EReal) * y (ix2 b k) := by
  refine (Ideal.matmul_constant_zero_apply _ none x y _).trans ((DotDims.sum_contr₁ _ (a := 1) rfl rfl _).trans (Finset.sum_congr rfl fun k _ => ?_))
  exact congrArg₂ (fun u v => (x u : EReal) * y v) (by funext i; fin_cases i <;> rfl) (by funext i; fin_cases i <;> rfl)

/-- Over a zero accumulator, the second factor's columns. -/
theorem nn_apply (wf : DotDims.WF ⟨2, ![M, K]⟩ ⟨2, ![K, N]⟩ ⟨2, ![M, N]⟩ [1] [0] [0] [1] [] [])
    (x : FVec Ideal ⟨2, ![M, K]⟩ φ₁) (y : FVec Ideal ⟨2, ![K, N]⟩ φ₂) (a : Fin M) (b : Fin N) :
    matmul (⟨[1], [0], [0], [1], [], [], wf⟩ : DotDims ⟨2, ![M, K]⟩ ⟨2, ![K, N]⟩ ⟨2, ![M, N]⟩) none x y (constant ⟨2, ![M, N]⟩ .f32 0x00000000#32) (ix2 a b)
      = ∑ k : Fin K, (x (ix2 a k) : EReal) * y (ix2 k b) := by
  refine (Ideal.matmul_constant_zero_apply _ none x y _).trans ((DotDims.sum_contr₁ _ (a := 1) rfl rfl _).trans (Finset.sum_congr rfl fun k _ => ?_))
  exact congrArg₂ (fun u v => (x u : EReal) * y v) (by funext i; fin_cases i <;> rfl) (by funext i; fin_cases i <;> rfl)

/-- On the host. -/
theorem host_apply (wf : DotDims.WF ⟨2, ![M, K]⟩ ⟨2, ![K, N]⟩ ⟨2, ![M, N]⟩ [1] [0] [0] [1] [] [])
    (x : FVec Ideal ⟨2, ![M, K]⟩ φ₁) (y : FVec Ideal ⟨2, ![K, N]⟩ φ₂) (a : Fin M) (b : Fin N) :
    Host.dotGeneral (⟨[1], [0], [0], [1], [], [], wf⟩ : DotDims ⟨2, ![M, K]⟩ ⟨2, ![K, N]⟩ ⟨2, ![M, N]⟩) none x y (ix2 a b)
      = ∑ k : Fin K, (x (ix2 a k) : EReal) * y (ix2 k b) := by
  refine (Ideal.dotGeneral_apply _ none .single x y _).trans ((DotDims.sum_contr₁ _ (a := 1) rfl rfl _).trans (Finset.sum_congr rfl fun k _ => ?_))
  exact congrArg₂ (fun u v => (x u : EReal) * y v) (by funext i; fin_cases i <;> rfl) (by funext i; fin_cases i <;> rfl)

/-- The root-mean-square norm of a row, with its gain. -/
def nrm (h g : Fin 1024 → EReal) (d : Fin 1024) : EReal :=
  h d * Ideal.rsqrt (Ideal.div (∑ k, h k * h k) (Ideal.ofBits .f32 0x44800000#32) + Ideal.ofBits .f32 0x358637BD#32) * g d
/-- A row's product with a weight's row. -/
def pr (n w : Fin 1024 → EReal) : EReal := ∑ d, n d * w d
/-- The gated value. -/
def gate (a b : EReal) : EReal := a * Ideal.logistic a * b

/-- A sum over the 2816 inner columns is taken in four strips. -/
theorem strips (f : Fin 2816 → EReal) : ∑ j, f j =
    ((∑ j : Fin 768, f ⟨0 + j.val, by omega⟩ + ∑ j : Fin 768, f ⟨768 + j.val, by omega⟩) + ∑ j : Fin 768, f ⟨1536 + j.val, by omega⟩)
      + ∑ j : Fin 512, f ⟨2304 + j.val, by omega⟩ := by
  refine (Fin.sum_univ_add (a := 2304) (b := 512) f).trans (congrArg₂ (fun u v : EReal => u + v) ?_ (Finset.sum_congr rfl fun j _ => rfl))
  refine (Fin.sum_univ_add (a := 1536) (b := 768) _).trans (congrArg₂ (fun u v : EReal => u + v) ?_ (Finset.sum_congr rfl fun j _ => rfl))
  refine (Fin.sum_univ_add (a := 768) (b := 768) _).trans (congrArg₂ (fun u v : EReal => u + v) (Finset.sum_congr rfl fun j _ => congrArg f (Fin.ext ?_)) (Finset.sum_congr rfl fun j _ => rfl))
  exact (Nat.zero_add _).symm

end Cert.Nn

end
-- ==== Proof.FfnBlock.lean ====
/- What the call of the feed-forward half-step leaves in its three arrays, index by index. A point of its grid takes 704 rows, and the
   2816 inner columns in four strips. -/
module

public import proofs.«01_k».proof.Proof.Nn
public import proofs.«01_k».proof.Proof.Gen.FfnIdeal.Value

@[expose] public section

set_option maxRecDepth 16384

noncomputable section

namespace Cert.FfnBlock

open Idealize.ShloMosaic hiding ix0 ix1 ix2 ix3 ix4 ix5 eq_ix1 eq_ix2 eq_ix3 eq_ix4 eq_ix5
open Idealize.ShloMosaic.TcCoe Idealize.ShloMosaic.ValueIdx
open Cert.FfnIdeal Cert.FfnIdeal.Gen Cert.FfnIdeal.Value
open Cert.Nn
open scoped BigOperators

section
variable {F : FTy → Type} [FloatOps F]

theorem zeros : (![0, 0] : Fin 2 → ℕ) = fun _ => 0 := by funext a; fin_cases a <;> rfl

/-- A strip of a weight's rows. -/
abbrev wide (w : Vec F S2816x1024 .bf16) (o : ℕ) (h : ∀ a, ![o, 0] a + S768x1024.size a ≤ S2816x1024.size a) : Vec F S768x1024 .bf16 := View.ld w (Rect.unit (s := S2816x1024) ![o, 0] S768x1024.size h)
abbrev last (w : Vec F S2816x1024 .bf16) : Vec F S512x1024 .bf16 := View.ld w (Rect.unit (s := S2816x1024) ![2304, 0] S512x1024.size inb_S2816x1024_S512x1024_2304_0)

/-- The four stores of the first product, of the second, and the one of the result. -/
def aPieces (x0 : Vec F S704x1024 .f32) (x1 : Vec F S1x1024 .f32) (x2 : Vec F S2816x1024 .bf16) : List (View.Piece (Elt F) S704x2816 .bf16) :=
  [⟨Rect.unit ![0, 2304] S704x512.size inb_S704x2816_S704x512_0_2304, k0_pay3 (k0_pay6 x0 x1) (last x2)⟩,
   ⟨Rect.unit ![0, 1536] S704x768.size inb_S704x2816_S704x768_0_1536, k0_pay20 (k0_pay6 x0 x1) (wide x2 1536 inb_S2816x1024_S768x1024_1536_0)⟩,
   ⟨Rect.unit ![0, 768] S704x768.size inb_S704x2816_S704x768_0_768, k0_pay15 (k0_pay6 x0 x1) (k0_pay12 (wide x2 768 inb_S2816x1024_S768x1024_768_0))⟩,
   ⟨Rect.unit ![0, 0] S704x768.size inb_S704x2816_S704x768_0_0, k0_pay10 x0 x1 (wide x2 0 inb_S2816x1024_S768x1024_0_0)⟩]
def bPieces (x0 : Vec F S704x1024 .f32) (x1 : Vec F S1x1024 .f32) (x3 : Vec F S2816x1024 .bf16) : List (View.Piece (Elt F) S704x2816 .bf16) :=
  [⟨Rect.unit ![0, 2304] S704x512.size inb_S704x2816_S704x512_0_2304, k0_pay4 (k0_pay6 x0 x1) (last x3)⟩,
   ⟨Rect.unit ![0, 1536] S704x768.size inb_S704x2816_S704x768_0_1536, k0_pay21 (k0_pay6 x0 x1) (wide x3 1536 inb_S2816x1024_S768x1024_1536_0)⟩,
   ⟨Rect.unit ![0, 768] S704x768.size inb_S704x2816_S704x768_0_768, k0_pay16 (k0_pay6 x0 x1) (wide x3 768 inb_S2816x1024_S768x1024_768_0)⟩,
   ⟨Rect.unit ![0, 0] S704x768.size inb_S704x2816_S704x768_0_0, k0_pay11 x0 x1 (wide x3 0 inb_S2816x1024_S768x1024_0_0)⟩]
def hOut (x0 : Vec F S704x1024 .f32) (x1 : Vec F S1x1024 .f32) (x2 x3 x4 : Vec F S2816x1024 .bf16) : Vec F S704x1024 .f32 :=
  k0_pay5 x0 (k0_pay6 x0 x1)
    (k0_pay19 (k0_pay6 x0 x1) (k0_pay9 x0 x1 (wide x2 0 inb_S2816x1024_S768x1024_0_0) (wide x3 0 inb_S2816x1024_S768x1024_0_0) (wide x4 0 inb_S2816x1024_S768x1024_0_0))
      (k0_pay12 (wide x2 768 inb_S2816x1024_S768x1024_768_0)) (wide x3 768 inb_S2816x1024_S768x1024_768_0) (wide x4 768 inb_S2816x1024_S768x1024_768_0)
      (wide x2 1536 inb_S2816x1024_S768x1024_1536_0) (wide x3 1536 inb_S2816x1024_S768x1024_1536_0) (wide x4 1536 inb_S2816x1024_S768x1024_1536_0))
    (last x2) (last x3) (last x4)

section
variable (c : Dev nD) (i : grid0.Coords) (arg1 : Memref sig .tc .vmem S704x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S704x1024 .f32) (harg6 : arg6.IsWhole) (arg7 : Memref sig .tc .vmem S704x2816 .bf16) (harg7 : arg7.IsWhole) (arg8 : Memref sig .tc .vmem S704x2816 .bf16) (harg8 : arg8.IsWhole)
  (x0 : Vec F S704x1024 .f32) (x1 : Vec F S1x1024 .f32) (x2 : Vec F S2816x1024 .bf16) (x3 : Vec F S2816x1024 .bf16) (x4 : Vec F S2816x1024 .bf16)

set_option maxHeartbeats 2000000 in
theorem out_h : out0_A_5 c i arg1 harg1 arg2 harg2 arg3 harg3 arg4 harg4 arg5 harg5 arg6 harg6 arg7 harg7 arg8 harg8 x0 x1 x2 x3 x4 = hOut x0 x1 x2 x3 x4 := by
  unfold out0_A_5
  rw [View.read_writes_junk_eq_canon]
  unfold kernelRun0_A
  dsimp only
  sl_unfold_words
  simp only [View.readAt_eq_ld, harg1.read_unread, harg2.read_unread, harg3.read_unread, harg4.read_unread, harg5.read_unread]
  rw [View.canon_unit_zero (S := S704x1024) (off := ![0, 0]) zeros]
  simp only [View.ld_unit_zero (S := S704x1024) (off := ![0, 0]) zeros, View.ld_unit_zero (S := S1x1024) (off := ![0, 0]) zeros]
  rfl

set_option maxHeartbeats 2000000 in
theorem out_a : out0_A_6 c i arg1 harg1 arg2 harg2 arg3 harg3 arg4 harg4 arg5 harg5 arg6 harg6 arg7 harg7 arg8 harg8 x0 x1 x2 x3 x4 = View.canon (aPieces x0 x1 x2) := by
  unfold out0_A_6
  rw [View.read_writes_junk_eq_canon]
  unfold kernelRun0_A
  dsimp only
  sl_unfold_words
  simp only [View.readAt_eq_ld, harg1.read_unread, harg2.read_unread, harg3.read_unread, harg4.read_unread, harg5.read_unread]
  simp only [View.ld_unit_zero (S := S704x1024) (off := ![0, 0]) zeros, View.ld_unit_zero (S := S1x1024) (off := ![0, 0]) zeros]
  rfl

set_option maxHeartbeats 2000000 in
theorem out_b : out0_A_7 c i arg1 harg1 arg2 harg2 arg3 harg3 arg4 harg4 arg5 harg5 arg6 harg6 arg7 harg7 arg8 harg8 x0 x1 x2 x3 x4 = View.canon (bPieces x0 x1 x3) := by
  unfold out0_A_7
  rw [View.read_writes_junk_eq_canon]
  unfold kernelRun0_A
  dsimp only
  sl_unfold_words
  simp only [View.readAt_eq_ld, harg1.read_unread, harg2.read_unread, harg3.read_unread, harg4.read_unread, harg5.read_unread]
  simp only [View.ld_unit_zero (S := S704x1024) (off := ![0, 0]) zeros, View.ld_unit_zero (S := S1x1024) (off := ![0, 0]) zeros]
  rfl

end

end

end Cert.FfnBlock

end
-- ==== Proof.FfnTile.lean ====
/- A point's three blocks of the feed-forward half-step, index by index: the two inner products, and the result. -/
module

public import proofs.«01_k».proof.Proof.FfnBlock
public import Idealize.ShloMosaic.Lib.Pipeline.ValueKit.Tiles

@[expose] public section

set_option maxRecDepth 16384

noncomputable section

namespace Cert.FfnBlock

open Idealize.ShloMosaic hiding ix0 ix1 ix2 ix3 ix4 ix5 eq_ix1 eq_ix2 eq_ix3 eq_ix4 eq_ix5
open Idealize.ShloMosaic.TcCoe Idealize.ShloMosaic.ValueIdx
open Cert.FfnIdeal Cert.FfnIdeal.Gen Cert.FfnIdeal.Value
open Cert.Nn
open scoped BigOperators

/-- The normalised rows. -/
theorem norm_apply (x0 : Vec Ideal S704x1024 .f32) (x1 : Vec Ideal S1x1024 .f32) (r : Fin 704) (d : Fin 1024) :
    k0_pay6 x0 x1 (ix2 r d) = nrm (fun k => x0 (ix2 r k)) (fun k => x1 (ix2 0 k)) d := by
  have hs : ∀ h, (shapeCast S704x1 (multiReduction .add [1] S704 (mulf x0 x0 : FVec Ideal S704x1024 .f32) 0x00000000#32 reduces_S704x1024_S704 (.inl rfl) rfl) h : FVec Ideal S704x1 .f32) (ix2 r 0)
      = ∑ k : Fin 1024, (x0 (ix2 r k) : EReal) * x0 (ix2 r k) := by
    intro h
    rw [shapeCast_apply _ _ (ix2 r 0) (ix1 r) (by
      rw [Shape.rowMajor_val_one, Shape.rowMajor_val_two]
      show r.val = r.val * 1 + 0
      omega)]
    refine (Ideal.multiReduction_add_single _ _ _ _ _ _).trans (Finset.sum_congr rfl fun k _ => ?_)
    exact congrArg (fun u => (x0 u : EReal) * x0 u) (by funext i; fin_cases i <;> rfl)
  unfold k0_pay6
  show (x0 (ix2 r d) : EReal) * broadcastTo S704x1024 _ _ (ix2 r d) * broadcastTo S704x1024 _ _ (ix2 r d) = _
  rw [broadcastTo_apply _ _ (ix2 r d) (ix2 r 0 : S704x1.Idx) (fun i => by fin_cases i <;> rfl),
    broadcastTo_apply _ _ (ix2 r d) (ix2 0 d : S1x1024.Idx) (fun i => by fin_cases i <;> rfl),
    shapeCast_apply _ _ (ix2 0 d) (ix2 0 d) rfl]
  show (x0 (ix2 r d) : EReal) * Ideal.rsqrt (Ideal.div _ (Ideal.ofBits .f32 0x44800000#32) + Ideal.ofBits .f32 0x358637BD#32) * x1 (ix2 0 d) = _
  rw [hs]
  rfl

section
variable (n : FVec Ideal S704x1024 .bf16) (w : Vec Ideal S2816x1024 .bf16)

/-- A block's inner product. -/
def inner (r : Fin 704) (j : Fin 2816) : EReal := pr (fun d => n (ix2 r d)) (fun d => w (ix2 j d))

theorem strip_apply {o C : ℕ} (h : ∀ a, ![o, 0] a + (⟨2, ![C, 1024]⟩ : Shape).size a ≤ S2816x1024.size a) (hC : o + C ≤ 2816) (hs) (j : Fin C) (d : Fin 1024) :
    (shapeCast ⟨2, ![C, 1024]⟩ (View.ld w (Rect.unit (s := S2816x1024) ![o, 0] (⟨2, ![C, 1024]⟩ : Shape).size h) : Vec Ideal ⟨2, ![C, 1024]⟩ .bf16) hs : FVec Ideal ⟨2, ![C, 1024]⟩ .bf16) (ix2 j d)
      = w (ix2 ⟨o + j.val, by omega⟩ d) :=
  (shapeCast_apply _ _ (ix2 j d) (ix2 j d) rfl).trans (View.ld_unit_apply_of _ _ _ _ _ _ (fun a => by
    match a with
    | ⟨0, _⟩ => rfl
    | ⟨1, _⟩ => exact (Nat.zero_add _).symm))

/-- A strip of the inner product. -/
theorem inner_strip {o C : ℕ} (h : ∀ a, ![o, 0] a + (⟨2, ![C, 1024]⟩ : Shape).size a ≤ S2816x1024.size a) (hC : o + C ≤ 2816) (hs)
    (wf : DotDims.WF ⟨2, ![704, 1024]⟩ ⟨2, ![C, 1024]⟩ ⟨2, ![704, C]⟩ [1] [1] [0] [0] [] []) (r : Fin 704) (j : Fin C) :
    matmul (⟨[1], [1], [0], [0], [], [], wf⟩ : DotDims ⟨2, ![704, 1024]⟩ ⟨2, ![C, 1024]⟩ ⟨2, ![704, C]⟩) none n
      (shapeCast ⟨2, ![C, 1024]⟩ (View.ld w (Rect.unit (s := S2816x1024) ![o, 0] (⟨2, ![C, 1024]⟩ : Shape).size h) : Vec Ideal ⟨2, ![C, 1024]⟩ .bf16) hs : FVec Ideal ⟨2, ![C, 1024]⟩ .bf16)
      (constant ⟨2, ![704, C]⟩ .f32 0x00000000#32) (ix2 r j) = inner n w r ⟨o + j.val, by omega⟩ :=
  (Nn.nt_apply wf _ _ r j).trans (Finset.sum_congr rfl fun d _ => congrArg (fun u : EReal => (n (ix2 r d) : EReal) * u) (strip_apply w h hC hs j d))

/-- The same at the place of a store. -/
theorem inner_piece {o C : ℕ} (h : ∀ a, ![o, 0] a + (⟨2, ![C, 1024]⟩ : Shape).size a ≤ S2816x1024.size a) (hC : o + C ≤ 2816) (hs)
    (wf : DotDims.WF ⟨2, ![704, 1024]⟩ ⟨2, ![C, 1024]⟩ ⟨2, ![704, C]⟩ [1] [1] [0] [0] [] []) (ho : ∀ a, ![0, o] a + (⟨2, ![704, C]⟩ : Shape).size a ≤ S704x2816.size a) (x : (⟨2, ![704, C]⟩ : Shape).Idx) :
    matmul (⟨[1], [1], [0], [0], [], [], wf⟩ : DotDims ⟨2, ![704, 1024]⟩ ⟨2, ![C, 1024]⟩ ⟨2, ![704, C]⟩) none n
      (shapeCast ⟨2, ![C, 1024]⟩ (View.ld w (Rect.unit (s := S2816x1024) ![o, 0] (⟨2, ![C, 1024]⟩ : Shape).size h) : Vec Ideal ⟨2, ![C, 1024]⟩ .bf16) hs : FVec Ideal ⟨2, ![C, 1024]⟩ .bf16)
      (constant ⟨2, ![704, C]⟩ .f32 0x00000000#32) x
      = (fun y : S704x2816.Idx => inner n w (y 0) (y 1)) ((Rect.unit (s := S704x2816) ![0, o] (⟨2, ![704, C]⟩ : Shape).size ho).emb x) := by
  obtain ⟨r, j, rfl⟩ : ∃ (r : Fin 704) (j : Fin C), x = ix2 r j := ⟨x 0, x 1, eq_ix2 x⟩
  refine (inner_strip n w h hC hs wf r j).trans (congrArg₂ (inner n w) (Fin.ext ?_) (Fin.ext ?_))
  · show r.val = 0 + 1 * r.val
    omega
  · show o + j.val = o + 1 * j.val
    omega

variable (wg wu wd : Vec Ideal S2816x1024 .bf16)

/-- A strip of the product that comes down again. -/
theorem down_strip {o C : ℕ} (h : ∀ a, ![o, 0] a + (⟨2, ![C, 1024]⟩ : Shape).size a ≤ S2816x1024.size a) (hC : o + C ≤ 2816) (h3) (hb : FTy.bits .bf16 < FTy.bits .f32)
    (wf' : DotDims.WF ⟨2, ![704, C]⟩ ⟨2, ![C, 1024]⟩ ⟨2, ![704, 1024]⟩ [1] [0] [0] [1] [] []) (r : Fin 704) (b : Fin 1024) (A B : FVec Ideal ⟨2, ![704, C]⟩ .f32)
    (hA : ∀ j : Fin C, A (ix2 r j) = inner n wg r ⟨o + j.val, by omega⟩) (hB : ∀ j : Fin C, B (ix2 r j) = inner n wu r ⟨o + j.val, by omega⟩) :
    matmul (⟨[1], [0], [0], [1], [], [], wf'⟩ : DotDims ⟨2, ![704, C]⟩ ⟨2, ![C, 1024]⟩ ⟨2, ![704, 1024]⟩) none
      (truncf .bf16 (mulf (mulf A (logistic A)) B) hb : FVec Ideal ⟨2, ![704, C]⟩ .bf16)
      (shapeCast ⟨2, ![C, 1024]⟩ (View.ld wd (Rect.unit (s := S2816x1024) ![o, 0] (⟨2, ![C, 1024]⟩ : Shape).size h) : Vec Ideal ⟨2, ![C, 1024]⟩ .bf16) h3 : FVec Ideal ⟨2, ![C, 1024]⟩ .bf16)
      (constant ⟨2, ![704, 1024]⟩ .f32 0x00000000#32) (ix2 r b)
      = ∑ j : Fin C, (fun J : Fin 2816 => gate (inner n wg r J) (inner n wu r J) * (wd (ix2 J b) : EReal)) ⟨o + j.val, by omega⟩ := by
  refine (Nn.nn_apply wf' _ _ r b).trans (Finset.sum_congr rfl fun j _ => congrArg₂ (fun u v : EReal => u * v) ?_ (strip_apply wd h hC h3 j b))
  show gate (A (ix2 r j)) (B (ix2 r j)) = _
  rw [hA, hB]

end

section
/-- The block of an inner product. -/
def innerBlk (n : FVec Ideal S704x1024 .bf16) (w : Vec Ideal S2816x1024 .bf16) : Vec Ideal S704x2816 .bf16 := fun y => inner n w (y 0) (y 1)

variable (x0 : Vec Ideal S704x1024 .f32) (x1 : Vec Ideal S1x1024 .f32) (w x2 x3 x4 : Vec Ideal S2816x1024 .bf16)

theorem mem_piece {o C : ℕ} {y : S704x2816.Idx} (h1 : o ≤ (y 1).val) (h2 : (y 1).val < o + C) (hi) :
    y ∈ (Rect.unit (s := S704x2816) ![0, o] (⟨2, ![704, C]⟩ : Shape).size hi).set := by
  rw [Rect.mem_set_unit]
  intro a
  have h0 : (y 0).val < 704 := (y 0).isLt
  match a with
  | ⟨0, _⟩ => exact ⟨Nat.zero_le _, by show (y 0).val < 0 + 704; omega⟩
  | ⟨1, _⟩ => exact ⟨h1, h2⟩

theorem canon_a : View.canon (aPieces x0 x1 w) = innerBlk (k0_pay6 x0 x1) w := by
  funext y
  refine View.canon_apply_of_pieces (innerBlk (k0_pay6 x0 x1) w) _ ?_ y ?_
  · simp only [aPieces, List.forall_mem_cons]
    exact ⟨fun x => inner_piece _ w _ (by omega) _ _ _ x, fun x => inner_piece _ w _ (by omega) _ _ _ x, fun x => inner_piece _ w _ (by omega) _ _ _ x,
      fun x => inner_piece _ w _ (by omega) _ _ _ x, fun _ h => absurd h (List.not_mem_nil)⟩
  · have h1 : (y 1).val < 2816 := (y 1).isLt
    rcases (by omega : (2304 ≤ (y 1).val ∧ (y 1).val < 2304 + 512) ∨ (1536 ≤ (y 1).val ∧ (y 1).val < 1536 + 768) ∨ (768 ≤ (y 1).val ∧ (y 1).val < 768 + 768) ∨ (0 ≤ (y 1).val ∧ (y 1).val < 0 + 768)) with h | h | h | h
    · exact ⟨_, List.mem_of_getElem? (i := 0) rfl, mem_piece h.1 h.2 inb_S704x2816_S704x512_0_2304⟩
    · exact ⟨_, List.mem_of_getElem? (i := 1) rfl, mem_piece h.1 h.2 inb_S704x2816_S704x768_0_1536⟩
    · exact ⟨_, List.mem_of_getElem? (i := 2) rfl, mem_piece h.1 h.2 inb_S704x2816_S704x768_0_768⟩
    · exact ⟨_, List.mem_of_getElem? (i := 3) rfl, mem_piece h.1 h.2 inb_S704x2816_S704x768_0_0⟩

theorem canon_b : View.canon (bPieces x0 x1 w) = innerBlk (k0_pay6 x0 x1) w := by
  funext y
  refine View.canon_apply_of_pieces (innerBlk (k0_pay6 x0 x1) w) _ ?_ y ?_
  · simp only [bPieces, List.forall_mem_cons]
    exact ⟨fun x => inner_piece _ w _ (by omega) _ _ _ x, fun x => inner_piece _ w _ (by omega) _ _ _ x, fun x => inner_piece _ w _ (by omega) _ _ _ x,
      fun x => inner_piece _ w _ (by omega) _ _ _ x, fun _ h => absurd h (List.not_mem_nil)⟩
  · have h1 : (y 1).val < 2816 := (y 1).isLt
    rcases (by omega : (2304 ≤ (y 1).val ∧ (y 1).val < 2304 + 512) ∨ (1536 ≤ (y 1).val ∧ (y 1).val < 1536 + 768) ∨ (768 ≤ (y 1).val ∧ (y 1).val < 768 + 768) ∨ (0 ≤ (y 1).val ∧ (y 1).val < 0 + 768)) with h | h | h | h
    · exact ⟨_, List.mem_of_getElem? (i := 0) rfl, mem_piece h.1 h.2 inb_S704x2816_S704x512_0_2304⟩
    · exact ⟨_, List.mem_of_getElem? (i := 1) rfl, mem_piece h.1 h.2 inb_S704x2816_S704x768_0_1536⟩
    · exact ⟨_, List.mem_of_getElem? (i := 2) rfl, mem_piece h.1 h.2 inb_S704x2816_S704x768_0_768⟩
    · exact ⟨_, List.mem_of_getElem? (i := 3) rfl, mem_piece h.1 h.2 inb_S704x2816_S704x768_0_0⟩

/-- The block of the result. -/
theorem h_apply (r : Fin 704) (b : Fin 1024) : hOut x0 x1 x2 x3 x4 (ix2 r b) =
    x0 (ix2 r b) + Ideal.ofBits .f32 0x3F000000#32 * ∑ J : Fin 2816, gate (inner (k0_pay6 x0 x1) x2 r J) (inner (k0_pay6 x0 x1) x3 r J) * (x4 (ix2 J b) : EReal) := by
  rw [Nn.strips]
  unfold hOut
  exact congrArg (fun u : EReal => x0 (ix2 r b) + Ideal.ofBits .f32 0x3F000000#32 * u) (congrArg₂ (fun u v : EReal => u + v) (congrArg₂ (fun u v : EReal => u + v) (congrArg₂ (fun u v : EReal => u + v)
    (down_strip _ x2 x3 x4 _ (by omega) _ _ _ r b _ _ (inner_strip _ x2 _ (by omega) _ _ r) (inner_strip _ x3 _ (by omega) _ _ r)) (down_strip _ x2 x3 x4 _ (by omega) _ _ _ r b _ _ (inner_strip _ x2 _ (by omega) _ _ r) (inner_strip _ x3 _ (by omega) _ _ r)))
    (down_strip _ x2 x3 x4 _ (by omega) _ _ _ r b _ _ (inner_strip _ x2 _ (by omega) _ _ r) (inner_strip _ x3 _ (by omega) _ _ r))) (down_strip _ x2 x3 x4 _ (by omega) _ _ _ r b _ _ (inner_strip _ x2 _ (by omega) _ _ r) (inner_strip _ x3 _ (by omega) _ _ r)))

end

end Cert.FfnBlock

end
-- ==== Proof.FfnArr.lean ====
/- What the call of the feed-forward half-step leaves in its three arrays, index by index. -/
module

public import proofs.«01_k».proof.Proof.FfnTile

@[expose] public section

set_option maxRecDepth 16384

noncomputable section

namespace Cert.FfnBlock

open Idealize.ShloMosaic hiding ix0 ix1 ix2 ix3 ix4 ix5 eq_ix1 eq_ix2 eq_ix3 eq_ix4 eq_ix5
open Idealize.ShloMosaic.TcCoe Idealize.ShloMosaic.ValueIdx
open Cert.FfnIdeal Cert.FfnIdeal.Gen Cert.FfnIdeal.Value
open Cert.Nn
open scoped BigOperators

variable (m : (ℓ : Loc nD τ sig) → Buf (Elt Ideal) ℓ) (c : Dev nD)

/-- What the call reads: the rows, the gain and the three weights. -/
abbrev rows : Vec Ideal S4224x1024 .f32 := V m c main_arg0
abbrev gain : Vec Ideal S1x1024 .f32 := V m c main_v0
abbrev wg : Vec Ideal S2816x1024 .bf16 := V m c main_v2
abbrev wu : Vec Ideal S2816x1024 .bf16 := V m c main_v4
abbrev wd : Vec Ideal S2816x1024 .bf16 := V m c main_v5

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0] := (by decide +kernel : ∀ t : Fin grid0.N, win0_2.index t = ![0, 0])
theorem idx_3 : ∀ t : Fin cfg0.N, win0_3.index t = ![0, 0] := (by decide +kernel : ∀ t : Fin grid0.N, win0_3.index t = ![0, 0])
theorem idx_4 : ∀ t : Fin cfg0.N, win0_4.index t = ![0, 0] := (by decide +kernel : ∀ t : Fin grid0.N, win0_4.index t = ![0, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![t.val, 0] := (by decide +kernel : ∀ t : Fin grid0.N, win0_7.index t = ![t.val, 0])

theorem lt_grid (t : Fin cfg0.N) : t.val < 6 := lt_of_lt_of_eq t.isLt (show cfg0.N = 6 from N_0)

theorem rows_blk (t : Fin cfg0.N) (r : Fin 704) (d : Fin 1024) : (iblk m c 0 t : Vec Ideal S704x1024 .f32) (ix2 r d) =
    rows m c (ix2 ⟨704 * t.val + r.val, by have := lt_grid t; omega⟩ d) := by
  have e : (iblk m c 0 t : Vec Ideal S704x1024 .f32) (ix2 r d) = rows m c (((cfg0.win 0).blk t).view.emb (ix2 r d)) := rfl
  refine e.trans (congrArg (rows m c) ?_)
  have hi := idx_0 t
  funext a
  apply Fin.ext
  match a with
  | ⟨0, _⟩ => show win0_0.index t (0 : Fin 2) * 704 + 1 * r.val = 704 * t.val + r.val; rw [hi]; show t.val * 704 + 1 * r.val = _; omega
  | ⟨1, _⟩ => show win0_0.index t (1 : Fin 2) * 1024 + 1 * d.val = d.val; rw [hi]; show 0 * 1024 + 1 * d.val = _; omega

theorem gain_blk (t : Fin cfg0.N) (d : Fin 1024) : (iblk m c 1 t : Vec Ideal S1x1024 .f32) (ix2 0 d) = gain m c (ix2 0 d) := by
  have e : (iblk m c 1 t : Vec Ideal S1x1024 .f32) (ix2 0 d) = gain m c (((cfg0.win 1).blk t).view.emb (ix2 0 d)) := rfl
  refine e.trans (congrArg (gain m c) ?_)
  have hi := idx_1 t
  funext a
  apply Fin.ext
  match a with
  | ⟨0, _⟩ => show win0_1.index t (0 : Fin 2) * 1 + 1 * 0 = 0; rw [hi]; rfl
  | ⟨1, _⟩ => show win0_1.index t (1 : Fin 2) * 1024 + 1 * d.val = d.val; rw [hi]; show 0 * 1024 + 1 * d.val = _; omega

theorem wg_blk (t : Fin cfg0.N) (j : Fin 2816) (d : Fin 1024) : (iblk m c 2 t : Vec Ideal S2816x1024 .bf16) (ix2 j d) = wg m c (ix2 j d) := by
  have e : (iblk m c 2 t : Vec Ideal S2816x1024 .bf16) (ix2 j d) = wg m c (((cfg0.win 2).blk t).view.emb (ix2 j d)) := rfl
  refine e.trans (congrArg (wg m c) ?_)
  have hi := idx_2 t
  funext a
  apply Fin.ext
  match a with
  | ⟨0, _⟩ => show win0_2.index t (0 : Fin 2) * 2816 + 1 * j.val = j.val; rw [hi]; show 0 * 2816 + 1 * j.val = _; omega
  | ⟨1, _⟩ => show win0_2.index t (1 : Fin 2) * 1024 + 1 * d.val = d.val; rw [hi]; show 0 * 1024 + 1 * d.val = _; omega

theorem wu_blk (t : Fin cfg0.N) (j : Fin 2816) (d : Fin 1024) : (iblk m c 3 t : Vec Ideal S2816x1024 .bf16) (ix2 j d) = wu m c (ix2 j d) := by
  have e : (iblk m c 3 t : Vec Ideal S2816x1024 .bf16) (ix2 j d) = wu m c (((cfg0.win 3).blk t).view.emb (ix2 j d)) := rfl
  refine e.trans (congrArg (wu m c) ?_)
  have hi := idx_3 t
  funext a
  apply Fin.ext
  match a with
  | ⟨0, _⟩ => show win0_3.index t (0 : Fin 2) * 2816 + 1 * j.val = j.val; rw [hi]; show 0 * 2816 + 1 * j.val = _; omega
  | ⟨1, _⟩ => show win0_3.index t (1 : Fin 2) * 1024 + 1 * d.val = d.val; rw [hi]; show 0 * 1024 + 1 * d.val = _; omega

theorem wd_blk (t : Fin cfg0.N) (j : Fin 2816) (d : Fin 1024) : (iblk m c 4 t : Vec Ideal S2816x1024 .bf16) (ix2 j d) = wd m c (ix2 j d) := by
  have e : (iblk m c 4 t : Vec Ideal S2816x1024 .bf16) (ix2 j d) = wd m c (((cfg0.win 4).blk t).view.emb (ix2 j d)) := rfl
  refine e.trans (congrArg (wd m c) ?_)
  have hi := idx_4 t
  funext a
  apply Fin.ext
  match a with
  | ⟨0, _⟩ => show win0_4.index t (0 : Fin 2) * 2816 + 1 * j.val = j.val; rw [hi]; show 0 * 2816 + 1 * j.val = _; omega
  | ⟨1, _⟩ => show win0_4.index t (1 : Fin 2) * 1024 + 1 * d.val = d.val; rw [hi]; show 0 * 1024 + 1 * d.val = _; omega

/-- The point that takes a row, and the row's place in its block. -/
def pointOf (R : Fin 4224) : Fin cfg0.N := ⟨R.val / 704, by
  show _ < cfg0.N
  rw [show cfg0.N = 6 from N_0]
  omega⟩
def place (R : Fin 4224) : Fin 704 := ⟨R.val % 704, Nat.mod_lt _ (by omega)⟩

theorem row_eq (R : Fin 4224) : 704 * (pointOf R).val + (place R).val = R.val := by
  show 704 * (R.val / 704) + R.val % 704 = R.val
  omega

/-- An inner product at a row of the array. -/
def innerAt (w : Vec Ideal S2816x1024 .bf16) (R : Fin 4224) (j : Fin 2816) : EReal :=
  pr (nrm (fun k => rows m c (ix2 R k)) (fun k => gain m c (ix2 0 k))) (fun d => w (ix2 j d))

theorem norm_blk (R : Fin 4224) (d : Fin 1024) : k0_pay6 (iblk m c 0 (pointOf R) : Vec Ideal S704x1024 .f32) (iblk m c 1 (pointOf R) : Vec Ideal S1x1024 .f32) (ix2 (place R) d) =
    nrm (fun k => rows m c (ix2 R k)) (fun k => gain m c (ix2 0 k)) d := by
  refine (norm_apply _ _ _ _).trans ?_
  have h0 : (fun k : Fin 1024 => (iblk m c 0 (pointOf R) : Vec Ideal S704x1024 .f32) (ix2 (place R) k)) = fun k => rows m c (ix2 R k) :=
    funext fun k => (rows_blk m c _ _ k).trans (congrArg (fun u => rows m c (ix2 u k)) (Fin.ext (row_eq R)))
  have h1 : (fun k : Fin 1024 => (iblk m c 1 (pointOf R) : Vec Ideal S1x1024 .f32) (ix2 0 k)) = fun k => gain m c (ix2 0 k) := funext fun k => gain_blk m c _ k
  exact congrArg₂ (fun u v => nrm u v d) h0 h1

theorem inner_wg (R : Fin 4224) (j : Fin 2816) : inner (k0_pay6 (iblk m c 0 (pointOf R) : Vec Ideal S704x1024 .f32) (iblk m c 1 (pointOf R) : Vec Ideal S1x1024 .f32)) (iblk m c 2 (pointOf R) : Vec Ideal S2816x1024 .bf16) (place R) j = innerAt m c (wg m c) R j :=
  congrArg₂ pr (funext fun d => norm_blk m c R d) (funext fun d => wg_blk m c _ j d)
theorem inner_wu (R : Fin 4224) (j : Fin 2816) : inner (k0_pay6 (iblk m c 0 (pointOf R) : Vec Ideal S704x1024 .f32) (iblk m c 1 (pointOf R) : Vec Ideal S1x1024 .f32)) (iblk m c 3 (pointOf R) : Vec Ideal S2816x1024 .bf16) (place R) j = innerAt m c (wu m c) R j :=
  congrArg₂ pr (funext fun d => norm_blk m c R d) (funext fun d => wu_blk m c _ j d)

theorem emb_5 (R : Fin 4224) (b : Fin 1024) : ((cfg0.win 5).blk (pointOf R)).view.emb (ix2 (place R) b : S704x1024.Idx) = (ix2 R b : S4224x1024.Idx) := by
  have hi := idx_5 (pointOf R)
  have hr := row_eq R
  funext d
  apply Fin.ext
  match d with
  | ⟨0, _⟩ => show win0_5.index (pointOf R) (0 : Fin 2) * 704 + 1 * (place R).val = R.val; rw [hi]; show (pointOf R).val * 704 + 1 * (place R).val = _; omega
  | ⟨1, _⟩ => show win0_5.index (pointOf R) (1 : Fin 2) * 1024 + 1 * b.val = b.val; rw [hi]; show 0 * 1024 + 1 * b.val = _; omega

theorem emb_6 (R : Fin 4224) (b : Fin 2816) : ((cfg0.win 6).blk (pointOf R)).view.emb (ix2 (place R) b : S704x2816.Idx) = (ix2 R b : S4224x2816.Idx) := by
  have hi := idx_6 (pointOf R)
  have hr := row_eq R
  funext d
  apply Fin.ext
  match d with
  | ⟨0, _⟩ => show win0_6.index (pointOf R) (0 : Fin 2) * 704 + 1 * (place R).val = R.val; rw [hi]; show (pointOf R).val * 704 + 1 * (place R).val = _; omega
  | ⟨1, _⟩ => show win0_6.index (pointOf R) (1 : Fin 2) * 2816 + 1 * b.val = b.val; rw [hi]; show 0 * 2816 + 1 * b.val = _; omega

theorem emb_7 (R : Fin 4224) (b : Fin 2816) : ((cfg0.win 7).blk (pointOf R)).view.emb (ix2 (place R) b : S704x2816.Idx) = (ix2 R b : S4224x2816.Idx) := by
  have hi := idx_7 (pointOf R)
  have hr := row_eq R
  funext d
  apply Fin.ext
  match d with
  | ⟨0, _⟩ => show win0_7.index (pointOf R) (0 : Fin 2) * 704 + 1 * (place R).val = R.val; rw [hi]; show (pointOf R).val * 704 + 1 * (place R).val = _; omega
  | ⟨1, _⟩ => show win0_7.index (pointOf R) (1 : Fin 2) * 2816 + 1 * b.val = b.val; rw [hi]; show 0 * 2816 + 1 * b.val = _; omega

/-- THE ROWS AFTER THE HALF-STEP, index by index. -/
theorem arr_h (R : Fin 4224) (b : Fin 1024) : ((dats m 0 c).arrAt 5 cfg0.N : Vec Ideal S4224x1024 .f32) (ix2 R b) =
    rows m c (ix2 R b) + Ideal.ofBits .f32 0x3F000000#32 * ∑ J : Fin 2816, gate (innerAt m c (wg m c) R J) (innerAt m c (wu m c) R J) * (wd m c (ix2 J b) : EReal) := by
  have e := congrFun ((blocks5 m c (pointOf R) (flush0_5 _)).trans (flushed5_A m c (pointOf R))) (ix2 (place R) b : S704x1024.Idx)
  rw [out_h] at e
  have e' : ((dats m 0 c).arrAt 5 cfg0.N : Vec Ideal S4224x1024 .f32) (((cfg0.win 5).blk (pointOf R)).view.emb (ix2 (place R) b : S704x1024.Idx))
      = hOut (iblk m c 0 (pointOf R)) (iblk m c 1 (pointOf R)) (iblk m c 2 (pointOf R)) (iblk m c 3 (pointOf R)) (iblk m c 4 (pointOf R)) (ix2 (place R) b : S704x1024.Idx) := e
  rw [emb_5] at e'
  refine e'.trans ((h_apply _ _ _ _ _ _ _).trans (congrArg₂ (fun u v : EReal => u + Ideal.ofBits .f32 0x3F000000#32 * v) ?_ (Finset.sum_congr rfl fun J _ => congrArg₂ (fun u v : EReal => u * v) (congrArg₂ gate ?_ ?_) ?_)))
  · exact (rows_blk m c _ _ b).trans (congrArg (fun u => rows m c (ix2 u b)) (Fin.ext (row_eq R)))
  · exact inner_wg m c R J
  · exact inner_wu m c R J
  · exact wd_blk m c _ J b

/-- THE TWO INNER PRODUCTS, index by index. -/
theorem arr_a (R : Fin 4224) (j : Fin 2816) : ((dats m 0 c).arrAt 6 cfg0.N : Vec Ideal S4224x2816 .bf16) (ix2 R j) = innerAt m c (wg m c) R j := by
  have e := congrFun ((blocks6 m c (pointOf R) (flush0_6 _)).trans (flushed6_A m c (pointOf R))) (ix2 (place R) j : S704x2816.Idx)
  rw [out_a, canon_a] at e
  have e' : ((dats m 0 c).arrAt 6 cfg0.N : Vec Ideal S4224x2816 .bf16) (((cfg0.win 6).blk (pointOf R)).view.emb (ix2 (place R) j : S704x2816.Idx))
      = innerBlk (k0_pay6 (iblk m c 0 (pointOf R)) (iblk m c 1 (pointOf R))) (iblk m c 2 (pointOf R)) (ix2 (place R) j : S704x2816.Idx) := e
  rw [emb_6] at e'
  exact e'.trans (inner_wg m c R j)

theorem arr_b (R : Fin 4224) (j : Fin 2816) : ((dats m 0 c).arrAt 7 cfg0.N : Vec Ideal S4224x2816 .bf16) (ix2 R j) = innerAt m c (wu m c) R j := by
  have e := congrFun ((blocks7 m c (pointOf R) (flush0_7 _)).trans (flushed7_A m c (pointOf R))) (ix2 (place R) j : S704x2816.Idx)
  rw [out_b, canon_b] at e
  have e' : ((dats m 0 c).arrAt 7 cfg0.N : Vec Ideal S4224x2816 .bf16) (((cfg0.win 7).blk (pointOf R)).view.emb (ix2 (place R) j : S704x2816.Idx))
      = innerBlk (k0_pay6 (iblk m c 0 (pointOf R)) (iblk m c 1 (pointOf R))) (iblk m c 3 (pointOf R)) (ix2 (place R) j : S704x2816.Idx) := e
  rw [emb_7] at e'
  exact e'.trans (inner_wu m c R j)

end Cert.FfnBlock

end
-- ==== Proof.FfnHost.lean ====
/- The values of the feed-forward half-step, what the kernel's host code hands to its call, and the equations over the reals. -/
module

public import proofs.«01_k».proof.Proof.FfnArr
public import proofs.«01_k».proof.Proof.Gen.FfnRefIdeal.Run
public import Idealize.ShloMosaic.Lib.IdealHost
public import Idealize.ShloMosaic.Lib.Pointwise.ElementwiseCore

@[expose] public section

set_option maxRecDepth 16384

noncomputable section

namespace Cert.FfnHost

open Idealize.ShloMosaic hiding ix0 ix1 ix2 ix3 ix4 ix5 eq_ix1 eq_ix2 eq_ix3 eq_ix4 eq_ix5
open Idealize.ShloMosaic.TcCoe Idealize.ShloMosaic.StableHlo Idealize.ShloMosaic.ValueIdx
open Cert.Nn
open scoped BigOperators

section
open Cert.FfnRefIdeal Cert.FfnRefIdeal.Gen

variable {F : FTy → Type} [FloatOps F]

abbrev Rows (F : FTy → Type) [FloatOps F] : Type := (⟨S4224x1024, .f32⟩ : BufTy).Contents (Elt F)
abbrev Gain (F : FTy → Type) [FloatOps F] : Type := (⟨S1024, .f32⟩ : BufTy).Contents (Elt F)
abbrev Inner (F : FTy → Type) [FloatOps F] : Type := (⟨S4224x2816, .f32⟩ : BufTy).Contents (Elt F)
abbrev Up (F : FTy → Type) [FloatOps F] : Type := (⟨S1024x2816, .f32⟩ : BufTy).Contents (Elt F)
abbrev Down (F : FTy → Type) [FloatOps F] : Type := (⟨S2816x1024, .f32⟩ : BufTy).Contents (Elt F)

/-- The sums of the rows' squares. -/
def squares (h : Rows F) : (⟨S4224, .f32⟩ : BufTy).Contents (Elt F) := Host.reduceAdd (mulf h h) (constant S_ .f32 0x00000000#32) reducesTo_S4224x1024_S4224_d1 h_S_
/-- The normalised rows. -/
def normed (h : Rows F) (g : Gain F) : Rows F :=
  mulf (mulf h (broadcastInDim S4224x1024 ![0, 1] bcast_S4224x1_S4224x1024_0_1 (Host.rsqrt (addf (Host.divf
    (broadcastInDim S4224x1 ![0] bcast_S4224_S4224x1_0 (squares h) : (⟨S4224x1, .f32⟩ : BufTy).Contents (Elt F))
    (broadcastInDim S4224x1 ![] bcast_S_S4224x1 (constant S_ .f32 0x44800000#32)))
    (broadcastInDim S4224x1 ![] bcast_S_S4224x1 (constant S_ .f32 0x358637BD#32))))))
    (broadcastInDim S4224x1024 ![0, 1] bcast_S1x1024_S4224x1024_0_1 (broadcastInDim S1x1024 ![1] bcast_S1024_S1x1024_1 g))
/-- The product into the inner columns, the gated values, and the product that comes down again. -/
def into (x : Rows F) (w : Up F) : Inner F := Host.dotGeneral dot_S4224x1024_S1024x2816_S4224x2816_1_0_0_1_n_n none x w
def one : Inner F := broadcastInDim S4224x2816 ![] bcast_S_S4224x2816 (constant S_ .f32 0x3F800000#32)
def gated (a b : Inner F) : Inner F := mulf (mulf a (Host.divf one (addf one (Host.exp (Host.negf a))))) b
def down (x : Inner F) (w : Down F) : Rows F := Host.dotGeneral dot_S4224x2816_S2816x1024_S4224x1024_1_0_0_1_n_n none x w
def step (h y : Rows F) : Rows F := addf h (mulf (broadcastInDim S4224x1024 ![] bcast_S_S4224x1024 (constant S_ .f32 0x3F000000#32)) y)
def short (x : Inner F) : (⟨S4224x2816, .bf16⟩ : BufTy).Contents (Elt F) := truncf .bf16 x bitsLt_bf16_f32
/-- The three results. -/
def outH (h : Rows F) (g : Gain F) (wg wu : Up F) (wd : Down F) : Rows F := step h (down (gated (into (normed h g) wg) (into (normed h g) wu)) wd)
def outI (h : Rows F) (g : Gain F) (w : Up F) : (⟨S4224x2816, .bf16⟩ : BufTy).Contents (Elt F) := short (into (normed h g) w)

/-- The reference's run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v22) = outI (m ((c.tc : Thread nD τ).loc main_arg0)) (m ((c.tc : Thread nD τ).loc main_arg1)) (m ((c.tc : Thread nD τ).loc main_arg2))
      ∧ r.2.mem ((c.tc : Thread nD τ).loc main_v24) = outI (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.FfnRefIdeal.Value.run m ρ

end

section
open Cert.FfnRefIdeal Cert.FfnRefIdeal.Gen

theorem reduces : S4224x1024.Reduces [1] S4224 := by decide

theorem normed_apply (h : Rows Ideal) (g : Gain Ideal) (R : Fin 4224) (d : Fin 1024) : normed h g (ix2 R d) = nrm (fun k => h (ix2 R k)) (fun k => g (ix1 k)) d := by
  have hs : squares h (ix1 R) = ∑ k : Fin 1024, (h (ix2 R k) : EReal) * h (ix2 R k) := by
    refine (Ideal.hostReduceAdd_single reducesTo_S4224x1024_S4224_d1 reduces _ _ _).trans ?_
    show Ideal.ofBits .f32 0x00000000#32 + _ = _
    rw [Ideal.ofBits_zero_f32]
    refine (zero_add _).trans (Finset.sum_congr rfl fun k _ => ?_)
    exact congrArg (fun u => (h u : EReal) * h u) (by funext i; fin_cases i <;> rfl)
  unfold normed
  show (h (ix2 R d) : EReal) * broadcastInDim S4224x1024 _ _ _ (ix2 R d) * broadcastInDim S4224x1024 _ _ _ (ix2 R d) = _
  rw [broadcastInDim_apply _ bcast_S4224x1_S4224x1024_0_1 _ (ix2 R d) (ix2 R 0 : S4224x1.Idx) (fun i => by fin_cases i <;> rfl),
    broadcastInDim_apply _ bcast_S1x1024_S4224x1024_0_1 _ (ix2 R d) (ix2 0 d : S1x1024.Idx) (fun i => by fin_cases i <;> rfl),
    broadcastInDim_apply _ bcast_S1024_S1x1024_1 _ (ix2 0 d) (ix1 d : S1024.Idx) (fun i => by fin_cases i; rfl)]
  show (h (ix2 R d) : EReal) * Ideal.rsqrt (Ideal.div (broadcastInDim S4224x1 _ _ _ (ix2 R 0)) (broadcastInDim S4224x1 _ _ _ (ix2 R 0)) + broadcastInDim S4224x1 _ _ _ (ix2 R 0)) * g (ix1 d) = _
  rw [broadcastInDim_apply _ bcast_S4224_S4224x1_0 _ (ix2 R 0) (ix1 R : S4224.Idx) (fun i => by fin_cases i; rfl), hs]
  rfl

theorem into_apply (x : Rows Ideal) (w : Up Ideal) (R : Fin 4224) (j : Fin 2816) : into x w (ix2 R j) = pr (fun d => x (ix2 R d)) (fun d => w (ix2 d j)) :=
  Nn.host_apply _ _ _ _ _

theorem gated_apply (a b : Inner Ideal) (i : S4224x2816.Idx) : gated a b i = gate (a i) (b i) := by
  show (a i : EReal) * Ideal.div (Ideal.ofBits .f32 0x3F800000#32) (Ideal.ofBits .f32 0x3F800000#32 + Ideal.exp (-a i)) * b i = _
  rw [Ideal.ofBits_one_f32]
  rfl

theorem outI_eq (h : Rows Ideal) (g : Gain Ideal) (w : Up Ideal) (R : Fin 4224) (j : Fin 2816) : outI h g w (ix2 R j) =
    pr (nrm (fun k => h (ix2 R k)) (fun k => g (ix1 k))) (fun d => w (ix2 d j)) :=
  (into_apply _ _ R j).trans (congrArg (fun u => pr u _) (funext fun d => normed_apply h g R d))

theorem outH_eq (h : Rows Ideal) (g : Gain Ideal) (wg wu : Up Ideal) (wd : Down Ideal) (R : Fin 4224) (b : Fin 1024) : outH h g wg wu wd (ix2 R b) =
    h (ix2 R b) + Ideal.ofBits .f32 0x3F000000#32 * ∑ J : Fin 2816, gate (outI h g wg (ix2 R J)) (outI h g wu (ix2 R J)) * (wd (ix2 J b) : EReal) := by
  refine congrArg (fun u : EReal => h (ix2 R b) + Ideal.ofBits .f32 0x3F000000#32 * u) ((Nn.host_apply _ _ _ R b).trans (Finset.sum_congr rfl fun J _ => ?_))
  exact congrArg (fun u : EReal => u * (wd (ix2 J b) : EReal)) (gated_apply _ _ _)

end

section
open Cert.FfnIdeal Cert.FfnIdeal.Gen

/-- A weight as the call takes it. -/
def turned {F : FTy → Type} [FloatOps F] (w : Up F) : (⟨S2816x1024, .bf16⟩ : BufTy).Contents (Elt F) :=
  truncf .bf16 (transpose S2816x1024 [1, 0] w transposes_S1024x2816_S2816x1024_1_0 : (⟨S2816x1024, .f32⟩ : BufTy).Contents (Elt F)) bitsLt_bf16_f32
def kept {F : FTy → Type} [FloatOps F] (w : Down F) : (⟨S2816x1024, .bf16⟩ : BufTy).Contents (Elt F) := truncf .bf16 w bitsLt_bf16_f32

variable (m : (ℓ : Loc nD τ sig) → Buf (Elt Ideal) ℓ) (c : Dev nD)

abbrev a0 : Rows Ideal := m ((c.tc : Thread nD τ).loc main_arg0)
abbrev a1 : Gain Ideal := m ((c.tc : Thread nD τ).loc main_arg1)
abbrev a2 : Up Ideal := m ((c.tc : Thread nD τ).loc main_arg2)
abbrev a3 : Up Ideal := m ((c.tc : Thread nD τ).loc main_arg3)
abbrev a4 : Down Ideal := m ((c.tc : Thread nD τ).loc main_arg4)

theorem rows_eq : FfnBlock.rows m c = a0 m c := by
  unfold FfnBlock.rows V
  simp only [hostOps0]
  after_results_simp

theorem gain_eq : FfnBlock.gain m c = broadcastInDim S1x1024 ![1] bcast_S1024_S1x1024_1 (a1 m c) := by
  unfold FfnBlock.gain V
  simp only [hostOps0]
  after_results_simp

theorem wg_eq : FfnBlock.wg m c = turned (a2 m c) := by
  unfold FfnBlock.wg V
  simp only [hostOps0]
  after_results_simp
  rfl

theorem wu_eq : FfnBlock.wu m c = turned (a3 m c) := by
  unfold FfnBlock.wu V
  simp only [hostOps0]
  after_results_simp
  rfl

theorem wd_eq : FfnBlock.wd m c = kept (a4 m c) := by
  unfold FfnBlock.wd V
  simp only [hostOps0]
  after_results_simp
  rfl

theorem gain_apply (d : Fin 1024) : FfnBlock.gain m c (ix2 0 d) = a1 m c (ix1 d) := by
  rw [gain_eq]
  exact broadcastInDim_apply _ bcast_S1024_S1x1024_1 _ (ix2 0 d) (ix1 d : S1024.Idx) (fun i => by fin_cases i; rfl)

theorem wg_apply (j : Fin 2816) (d : Fin 1024) : FfnBlock.wg m c (ix2 j d) = a2 m c (ix2 d j) := by
  rw [wg_eq]
  exact transpose_apply _ _ _ (ix2 j d) (ix2 d j) (fun i => by fin_cases i <;> rfl)

theorem wu_apply (j : Fin 2816) (d : Fin 1024) : FfnBlock.wu m c (ix2 j d) = a3 m c (ix2 d j) := by
  rw [wu_eq]
  exact transpose_apply _ _ _ (ix2 j d) (ix2 d j) (fun i => by fin_cases i <;> rfl)

theorem wd_apply (j : Fin 2816) (b : Fin 1024) : FfnBlock.wd m c (ix2 j b) = a4 m c (ix2 j b) := by
  rw [wd_eq]
  rfl

theorem inner_g (R : Fin 4224) (j : Fin 2816) : FfnBlock.innerAt m c (FfnBlock.wg m c) R j = outI (a0 m c) (a1 m c) (a2 m c) (ix2 R j) := by
  rw [outI_eq]
  unfold FfnBlock.innerAt
  rw [rows_eq]
  exact congrArg₂ (fun u v => pr (nrm _ u) v) (funext fun d => gain_apply m c d) (funext fun d => wg_apply m c j d)

theorem inner_u (R : Fin 4224) (j : Fin 2816) : FfnBlock.innerAt m c (FfnBlock.wu m c) R j = outI (a0 m c) (a1 m c) (a3 m c) (ix2 R j) := by
  rw [outI_eq]
  unfold FfnBlock.innerAt
  rw [rows_eq]
  exact congrArg₂ (fun u v => pr (nrm _ u) v) (funext fun d => gain_apply m c d) (funext fun d => wu_apply m c j d)

/-- What the call leaves is the reference's three values. -/
theorem final_h : ((dats m 0 c).arrAt 5 cfg0.N : Vec Ideal S4224x1024 .f32) = outH (a0 m c) (a1 m c) (a2 m c) (a3 m c) (a4 m c) := by
  funext (i : S4224x1024.Idx)
  rw [eq_ix2 i]
  refine (FfnBlock.arr_h m c (i 0) (i 1)).trans (Eq.trans ?_ (outH_eq _ _ _ _ _ (i 0) (i 1)).symm)
  refine congrArg₂ (fun u v : EReal => u + Ideal.ofBits .f32 0x3F000000#32 * v) (congrFun (rows_eq m c) _) (Finset.sum_congr rfl fun J _ => congrArg₂ (fun u v : EReal => u * v) (congrArg₂ gate ?_ ?_) ?_)
  · exact inner_g m c (i 0) J
  · exact inner_u m c (i 0) J
  · exact wd_apply m c J (i 1)

theorem final_a : ((dats m 0 c).arrAt 6 cfg0.N : Vec Ideal S4224x2816 .bf16) = outI (a0 m c) (a1 m c) (a2 m c) := by
  funext (i : S4224x2816.Idx)
  rw [eq_ix2 i]
  exact (FfnBlock.arr_a m c (i 0) (i 1)).trans (inner_g m c (i 0) (i 1))

theorem final_b : ((dats m 0 c).arrAt 7 cfg0.N : Vec Ideal S4224x2816 .bf16) = outI (a0 m c) (a1 m c) (a3 m c) := by
  funext (i : S4224x2816.Idx)
  rw [eq_ix2 i]
  exact (FfnBlock.arr_b m c (i 0) (i 1)).trans (inner_u m c (i 0) (i 1))

end

end Cert.FfnHost

end
-- ==== Proof.FfnClaim.lean ====
/- The claims of the feed-forward half-step. -/
module

public import proofs.«01_k».proof.Defs
public import proofs.«01_k».proof.Proof.FfnHost
public import Idealize.ShloMosaic.Lib.Quiescent

@[expose] public section

set_option maxRecDepth 8000

noncomputable section

namespace Cert.FfnClaim

open Idealize.ShloMosaic hiding ix0 ix1 ix2 ix3 ix4 ix5 eq_ix1 eq_ix2 eq_ix3 eq_ix4 eq_ix5
open Idealize.ShloMosaic.TcCoe Idealize.ShloMosaic.StableHlo Idealize.SL.Sem Idealize.ShloMosaic.ValueIdx

instance : Cert.FfnIdeal.Facts := Cert.FfnIdeal.Gen.facts
instance : Cert.FfnRefIdeal.Facts := Cert.FfnRefIdeal.Gen.facts

theorem quiescent : Cert.quiescent_FfnRefIdeal := fun m g _ =>
  (θ_run Cert.FfnRefIdeal.defs _ _).mono (fun r h => ⟨fun c => (h c).2.2.2, sem_eq_zero_of_no_sems (by decide) r.2⟩) (FfnHost.run m g)

/-- The two programs end with the same rows and the same inner products. -/
theorem algebraic : Cert.algebraic_FfnIdeal_FfnRefIdeal := by
  intro m g m' g' _ hargs
  refine ⟨fun c => (Cert.FfnIdeal.Gen.dats m 0 c).arrAt 5 Cert.FfnIdeal.cfg0.N, fun c => (Cert.FfnIdeal.Gen.dats m 0 c).arrAt 6 Cert.FfnIdeal.cfg0.N,
    fun c => (Cert.FfnIdeal.Gen.dats m 0 c).arrAt 7 Cert.FfnIdeal.cfg0.N, Cert.FfnIdeal.Value.run_blocks m g, ?_⟩
  refine (θ_run Cert.FfnRefIdeal.defs _ _).mono (fun r h c => ⟨(h c).1.trans ?_, (h c).2.1.trans ?_, (h c).2.2.1.trans ?_, (h c).2.2.2⟩) (FfnHost.run m' g')
  · obtain ⟨h0, h1, h2, h3, h4⟩ := hargs c
    rw [h0, h1, h2, h3, h4]
    exact (FfnHost.final_h m c).symm
  · obtain ⟨h0, h1, h2, h3, h4⟩ := hargs c
    rw [h0, h1, h2]
    exact (FfnHost.final_a m c).symm
  · obtain ⟨h0, h1, h2, h3, h4⟩ := hargs c
    rw [h0, h1, h3]
    exact (FfnHost.final_b m c).symm

end Cert.FfnClaim

end
-- ==== Proof.lean ====
module

public import proofs.«01_k».proof.Proof.Gen.KernelIdeal.Value
public import proofs.«01_k».proof.Proof.Gen.FwdIdeal.Value
public import proofs.«01_k».proof.Proof.Gen.FwdRefIdeal.Run
public import proofs.«01_k».proof.Proof.Gen.WgradIdeal.Value
public import proofs.«01_k».proof.Proof.Gen.WgradRefIdeal.Run
public import proofs.«01_k».proof.Proof.Gen.WinIdeal.Value
public import proofs.«01_k».proof.Proof.Gen.WinRefIdeal.Run
public import proofs.«01_k».proof.Proof.Gen.FfnIdeal.Value
public import proofs.«01_k».proof.Proof.Gen.FfnRefIdeal.Run
public import proofs.«01_k».proof.Proof.RefClaim
public import proofs.«01_k».proof.Proof.FwdClaim
public import proofs.«01_k».proof.Proof.BwdClaim
public import proofs.«01_k».proof.Proof.WgradClaim
public import proofs.«01_k».proof.Proof.WinClaim
public import proofs.«01_k».proof.Proof.FfnClaim
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradRefIdeal
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Fwd.Gen.facts, Cert.FwdIdeal.Gen.facts, Cert.FwdRefIdeal.Gen.facts,
    Cert.Wgrad.Gen.facts, Cert.WgradIdeal.Gen.facts, Cert.WgradRefIdeal.Gen.facts, Cert.Win.Gen.facts, Cert.WinIdeal.Gen.facts, Cert.WinRefIdeal.Gen.facts,
    Cert.Ffn.Gen.facts, Cert.FfnIdeal.Gen.facts, Cert.FfnRefIdeal.Gen.facts,
    fun m ρ _ => Cert.Kernel.Gen.frame m ρ, fun m ρ _ => Cert.KernelIdeal.Gen.frame m ρ, Cert.RefClaim.quiescent,
    fun m ρ _ => Cert.Fwd.Gen.frame m ρ, fun m ρ _ => Cert.FwdIdeal.Gen.frame m ρ, Cert.FwdClaim.quiescent,
    fun m ρ _ => Cert.Wgrad.Gen.frame m ρ, fun m ρ _ => Cert.WgradIdeal.Gen.frame m ρ, Cert.WgradClaim.quiescent,
    fun m ρ _ => Cert.Win.Gen.frame m ρ, fun m ρ _ => Cert.WinIdeal.Gen.frame m ρ, Cert.WinClaim.quiescent,
    fun m ρ _ => Cert.Ffn.Gen.frame m ρ, fun m ρ _ => Cert.FfnIdeal.Gen.frame m ρ, Cert.FfnClaim.quiescent,
    trivial, Cert.BwdClaim.algebraic, trivial, Cert.FwdClaim.algebraic, trivial, Cert.WgradClaim.algebraic, trivial, Cert.WinClaim.algebraic,
    trivial, Cert.FfnClaim.algebraic⟩

end Cert.Proof

end
